-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_memory_finite [hPre_memory_finite : Cert.Pre_memory_finite.Facts] (m : (ℓ : Loc Cert.KernelIdeal.nD Cert.KernelIdeal.τ Cert.KernelIdeal.sig) → Buf (Elt Ideal) ℓ) : Prop :=
  ∀ c : Dev Cert.KernelIdeal.nD,
    (Cert.Pre_memory_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_memory_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_memory_finite [hPre_memory_finite : Cert.Pre_memory_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_memory_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_memory_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_gated_cotangent_finite [hPre_gated_cotangent_finite : Cert.Pre_gated_cotangent_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_gated_cotangent_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_gated_cotangent_finite [hPre_gated_cotangent_finite : Cert.Pre_gated_cotangent_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_gated_cotangent_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Kernel18Ideal_swa_finite [hPre_swa_finite : Cert.Pre_swa_finite.Facts] (m : (ℓ : Loc Cert.Kernel18Ideal.nD Cert.Kernel18Ideal.τ Cert.Kernel18Ideal.sig) → Buf (Elt Ideal) ℓ) : Prop :=
  ∀ c : Dev Cert.Kernel18Ideal.nD,
    (Cert.Pre_swa_finite.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2))).1 = (fun _ => 1#1)
    ∧ (Cert.Pre_swa_finite.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2))).2.1 = (fun _ => 1#1)
    ∧ (Cert.Pre_swa_finite.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2))).2.2.1 = (fun _ => 1#1)
    ∧ (Cert.Pre_swa_finite.fn (F := Ideal) (m ((c.tc : Thread Cert.Kernel18Ideal.nD Cert.Kernel18Ideal.τ).loc Cert.Kernel18Ideal.main_arg0)) (m ((c.tc : Thread Cert.Kernel18Ideal.nD Cert.Kernel18Ideal.τ).loc Cert.Kernel18Ideal.main_arg1)) (m ((c.tc : Thread Cert.Kernel18Ideal.nD Cert.Kernel18Ideal.τ).loc Cert.Kernel18Ideal.main_arg2))).2.2.2 = (fun _ => 1#1)

def Pre_Reference18Ideal (m : (ℓ : Loc Cert.Reference18Ideal.nD Cert.Reference18Ideal.τ Cert.Reference18Ideal.sig) → Buf (Elt Ideal) ℓ) : Prop :=
  True

def Pre_Reference18Ideal_swa_finite [hPre_swa_finite : Cert.Pre_swa_finite.Facts] (m : (ℓ : Loc Cert.Reference18Ideal.nD Cert.Reference18Ideal.τ Cert.Reference18Ideal.sig) → Buf (Elt Ideal) ℓ) : Prop :=
  ∀ c : Dev Cert.Reference18Ideal.nD,
    (Cert.Pre_swa_finite.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2))).1 = (fun _ => 1#1)
    ∧ (Cert.Pre_swa_finite.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2))).2.1 = (fun _ => 1#1)
    ∧ (Cert.Pre_swa_finite.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2))).2.2.1 = (fun _ => 1#1)
    ∧ (Cert.Pre_swa_finite.fn (F := Ideal) (m ((c.tc : Thread Cert.Reference18Ideal.nD Cert.Reference18Ideal.τ).loc Cert.Reference18Ideal.main_arg0)) (m ((c.tc : Thread Cert.Reference18Ideal.nD Cert.Reference18Ideal.τ).loc Cert.Reference18Ideal.main_arg1)) (m ((c.tc : Thread Cert.Reference18Ideal.nD Cert.Reference18Ideal.τ).loc Cert.Reference18Ideal.main_arg2))).2.2.2 = (fun _ => 1#1)

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Kernel17Ideal_attended_finite [hPre_attended_finite : Cert.Pre_attended_finite.Facts] (m : (ℓ : Loc Cert.Kernel17Ideal.nD Cert.Kernel17Ideal.τ Cert.Kernel17Ideal.sig) → Buf (Elt Ideal) ℓ) : Prop :=
  ∀ c : Dev Cert.Kernel17Ideal.nD,
    (Cert.Pre_attended_finite.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5))).1 = (fun _ => 1#1)
    ∧ (Cert.Pre_attended_finite.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5))).2 = (fun _ => 1#1)

def Pre_Reference17Ideal (m : (ℓ : Loc Cert.Reference17Ideal.nD Cert.Reference17Ideal.τ Cert.Reference17Ideal.sig) → Buf (Elt Ideal) ℓ) : Prop :=
  True

def Pre_Reference17Ideal_attended_finite [hPre_attended_finite : Cert.Pre_attended_finite.Facts] (m : (ℓ : Loc Cert.Reference17Ideal.nD Cert.Reference17Ideal.τ Cert.Reference17Ideal.sig) → Buf (Elt Ideal) ℓ) : Prop :=
  ∀ c : Dev Cert.Reference17Ideal.nD,
    (Cert.Pre_attended_finite.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4)) (m ((c.tc : Thread Cert.Reference17Ideal.nD Cert.Reference17Ideal.τ).loc Cert.Reference17Ideal.main_arg5))).1 = (fun _ => 1#1)
    ∧ (Cert.Pre_attended_finite.fn (F := Ideal) (m ((c.tc : Thread Cert.Reference17Ideal.nD Cert.Reference17Ideal.τ).loc Cert.Reference17Ideal.main_arg0)) (m ((c.tc : Thread Cert.Reference17Ideal.nD Cert.Reference17Ideal.τ).loc Cert.Reference17Ideal.main_arg1)) (m ((c.tc : Thread Cert.Reference17Ideal.nD Cert.Reference17Ideal.τ).loc Cert.Reference17Ideal.main_arg2)) (m ((c.tc : Thread Cert.Reference17Ideal.nD Cert.Reference17Ideal.τ).loc Cert.Reference17Ideal.main_arg3)) (m ((c.tc : Thread Cert.Reference17Ideal.nD Cert.Reference17Ideal.τ).loc Cert.Reference17Ideal.main_arg4)) (m ((c.tc : Thread Cert.Reference17Ideal.nD Cert.Reference17Ideal.τ).loc Cert.Reference17Ideal.main_arg5))).2 = (fun _ => 1#1)

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 (m : (ℓ : Loc Cert.Kernel27.nD Cert.Kernel27.τ Cert.Kernel27.sig) → Buf (Elt Bits) ℓ) : Prop :=
  True

def Pre_Kernel27Ideal (m : (ℓ : Loc Cert.Kernel27Ideal.nD Cert.Kernel27Ideal.τ Cert.Kernel27Ideal.sig) → Buf (Elt Ideal) ℓ) : Prop :=
  True

def Pre_Reference27Ideal (m : (ℓ : Loc Cert.Reference27Ideal.nD Cert.Reference27Ideal.τ Cert.Reference27Ideal.sig) → Buf (Elt Ideal) ℓ) : Prop :=
  True

def Pre_Kernel28 [hPre_core_is_zero_or_one : Cert.Pre_core_is_zero_or_one.Facts] (m : (ℓ : Loc Cert.Kernel28.nD Cert.Kernel28.τ Cert.Kernel28.sig) → Buf (Elt Bits) ℓ) : Prop :=
  ∀ c : Dev Cert.Kernel28.nD,
    (Cert.Pre_core_is_zero_or_one.fn (F := Bits) (m ((c.tc : Thread Cert.Kernel28.nD Cert.Kernel28.τ).loc Cert.Kernel28.main_arg0)) (m ((c.tc : Thread Cert.Kernel28.nD Cert.Kernel28.τ).loc Cert.Kernel28.main_arg1)) (m ((c.tc : Thread Cert.Kernel28.nD Cert.Kernel28.τ).loc Cert.Kernel28.main_arg2))) = (fun _ => 1#1)

def Pre_Kernel28Ideal [hPre_core_is_zero_or_one : Cert.Pre_core_is_zero_or_one.Facts] (m : (ℓ : Loc Cert.Kernel28Ideal.nD Cert.Kernel28Ideal.τ Cert.Kernel28Ideal.sig) → Buf (Elt Ideal) ℓ) : Prop :=
  ∀ c : Dev Cert.Kernel28Ideal.nD,
    (Cert.Pre_core_is_zero_or_one.fn (F := Ideal) (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2))) = (fun _ => 1#1)

def Pre_Reference28Ideal (m : (ℓ : Loc Cert.Reference28Ideal.nD Cert.Reference28Ideal.τ Cert.Reference28Ideal.sig) → Buf (Elt Ideal) ℓ) : Prop :=
  True

def Pre_Reference28Ideal_core_is_zero_or_one [hPre_core_is_zero_or_one : Cert.Pre_core_is_zero_or_one.Facts] (m : (ℓ : Loc Cert.Reference28Ideal.nD Cert.Reference28Ideal.τ Cert.Reference28Ideal.sig) → Buf (Elt Ideal) ℓ) : Prop :=
  ∀ c : Dev Cert.Reference28Ideal.nD,
    (Cert.Pre_core_is_zero_or_one.fn (F := Ideal) (m ((c.tc : Thread Cert.Reference28Ideal.nD Cert.Reference28Ideal.τ).loc Cert.Reference28Ideal.main_arg0)) (m ((c.tc : Thread Cert.Reference28Ideal.nD Cert.Reference28Ideal.τ).loc Cert.Reference28Ideal.main_arg1)) (m ((c.tc : Thread Cert.Reference28Ideal.nD Cert.Reference28Ideal.τ).loc Cert.Reference28Ideal.main_arg2))) = (fun _ => 1#1)

def Pre_Kernel29 [hPre_core_and_shard_in_range : Cert.Pre_core_and_shard_in_range.Facts] (m : (ℓ : Loc Cert.Kernel29.nD Cert.Kernel29.τ Cert.Kernel29.sig) → Buf (Elt Bits) ℓ) : Prop :=
  ∀ c : Dev Cert.Kernel29.nD,
    (Cert.Pre_core_and_shard_in_range.fn (F := Bits) (m ((c.tc : Thread Cert.Kernel29.nD Cert.Kernel29.τ).loc Cert.Kernel29.main_arg0)) (m ((c.tc : Thread Cert.Kernel29.nD Cert.Kernel29.τ).loc Cert.Kernel29.main_arg1)) (m ((c.tc : Thread Cert.Kernel29.nD Cert.Kernel29.τ).loc Cert.Kernel29.main_arg2)) (m ((c.tc : Thread Cert.Kernel29.nD Cert.Kernel29.τ).loc Cert.Kernel29.main_arg3))) = (fun _ => 1#1)

def Pre_Kernel29Ideal [hPre_core_and_shard_in_range : Cert.Pre_core_and_shard_in_range.Facts] (m : (ℓ : Loc Cert.Kernel29Ideal.nD Cert.Kernel29Ideal.τ Cert.Kernel29Ideal.sig) → Buf (Elt Ideal) ℓ) : Prop :=
  ∀ c : Dev Cert.Kernel29Ideal.nD,
    (Cert.Pre_core_and_shard_in_range.fn (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2)) (m ((c.tc : Thread Cert.Kernel29Ideal.nD Cert.Kernel29Ideal.τ).loc Cert.Kernel29Ideal.main_arg3))) = (fun _ => 1#1)

def Pre_Reference29Ideal (m : (ℓ : Loc Cert.Reference29Ideal.nD Cert.Reference29Ideal.τ Cert.Reference29Ideal.sig) → Buf (Elt Ideal) ℓ) : Prop :=
  True

def Pre_Reference29Ideal_core_and_shard_in_range [hPre_core_and_shard_in_range : Cert.Pre_core_and_shard_in_range.Facts] (m : (ℓ : Loc Cert.Reference29Ideal.nD Cert.Reference29Ideal.τ Cert.Reference29Ideal.sig) → Buf (Elt Ideal) ℓ) : Prop :=
  ∀ c : Dev Cert.Reference29Ideal.nD,
    (Cert.Pre_core_and_shard_in_range.fn (F := Ideal) (m ((c.tc : Thread Cert.Reference29Ideal.nD Cert.Reference29Ideal.τ).loc Cert.Reference29Ideal.main_arg0)) (m ((c.tc : Thread Cert.Reference29Ideal.nD Cert.Reference29Ideal.τ).loc Cert.Reference29Ideal.main_arg1)) (m ((c.tc : Thread Cert.Reference29Ideal.nD Cert.Reference29Ideal.τ).loc Cert.Reference29Ideal.main_arg2)) (m ((c.tc : Thread Cert.Reference29Ideal.nD Cert.Reference29Ideal.τ).loc Cert.Reference29Ideal.main_arg3))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_memory_finite [hKernelIdeal : Cert.KernelIdeal.Facts] [hPre_memory_finite : Cert.Pre_memory_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_memory_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_memory_finite [hReferenceIdeal : Cert.ReferenceIdeal.Facts] [hPre_memory_finite : Cert.Pre_memory_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_memory_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_gated_cotangent_finite [hKernel5Ideal : Cert.Kernel5Ideal.Facts] [hPre_gated_cotangent_finite : Cert.Pre_gated_cotangent_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_gated_cotangent_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_gated_cotangent_finite [hReference5Ideal : Cert.Reference5Ideal.Facts] [hPre_gated_cotangent_finite : Cert.Pre_gated_cotangent_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_gated_cotangent_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Kernel18Ideal_pre_swa_finite [hKernel18Ideal : Cert.Kernel18Ideal.Facts] [hPre_swa_finite : Cert.Pre_swa_finite.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal_swa_finite m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Reference18Ideal_pre_swa_finite [hReference18Ideal : Cert.Reference18Ideal.Facts] [hPre_swa_finite : Cert.Pre_swa_finite.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal_swa_finite m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1)
      ∧ r.2.mem ((c.tc : Thread Cert.Kernel17.nD Cert.Kernel17.τ).loc Cert.Kernel17.main_arg2) = m ((c.tc : Thread Cert.Kernel17.nD Cert.Kernel17.τ).loc Cert.Kernel17.main_arg2)
      ∧ r.2.mem ((c.tc : Thread Cert.Kernel17.nD Cert.Kernel17.τ).loc Cert.Kernel17.main_arg3) = m ((c.tc : Thread Cert.Kernel17.nD Cert.Kernel17.τ).loc Cert.Kernel17.main_arg3)
      ∧ r.2.mem ((c.tc : Thread Cert.Kernel17.nD Cert.Kernel17.τ).loc Cert.Kernel17.main_arg4) = m ((c.tc : Thread Cert.Kernel17.nD Cert.Kernel17.τ).loc Cert.Kernel17.main_arg4)
      ∧ r.2.mem ((c.tc : Thread Cert.Kernel17.nD Cert.Kernel17.τ).loc Cert.Kernel17.main_arg5) = m ((c.tc : Thread Cert.Kernel17.nD Cert.Kernel17.τ).loc Cert.Kernel17.main_arg5))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ r.2.sem = fun _ => 0)

def quiescent_Kernel17Ideal_pre_attended_finite [hKernel17Ideal : Cert.Kernel17Ideal.Facts] [hPre_attended_finite : Cert.Pre_attended_finite.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal_attended_finite m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
      ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
      ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
      ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
      ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5))
      ∧ r.2.sem = fun _ => 0)

def quiescent_Reference17Ideal_pre_attended_finite [hReference17Ideal : Cert.Reference17Ideal.Facts] [hPre_attended_finite : Cert.Pre_attended_finite.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal_attended_finite m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1)
      ∧ r.2.mem ((c.tc : Thread Cert.Reference17Ideal.nD Cert.Reference17Ideal.τ).loc Cert.Reference17Ideal.main_arg2) = m ((c.tc : Thread Cert.Reference17Ideal.nD Cert.Reference17Ideal.τ).loc Cert.Reference17Ideal.main_arg2)
      ∧ r.2.mem ((c.tc : Thread Cert.Reference17Ideal.nD Cert.Reference17Ideal.τ).loc Cert.Reference17Ideal.main_arg3) = m ((c.tc : Thread Cert.Reference17Ideal.nD Cert.Reference17Ideal.τ).loc Cert.Reference17Ideal.main_arg3)
      ∧ r.2.mem ((c.tc : Thread Cert.Reference17Ideal.nD Cert.Reference17Ideal.τ).loc Cert.Reference17Ideal.main_arg4) = m ((c.tc : Thread Cert.Reference17Ideal.nD Cert.Reference17Ideal.τ).loc Cert.Reference17Ideal.main_arg4)
      ∧ r.2.mem ((c.tc : Thread Cert.Reference17Ideal.nD Cert.Reference17Ideal.τ).loc Cert.Reference17Ideal.main_arg5) = m ((c.tc : Thread Cert.Reference17Ideal.nD Cert.Reference17Ideal.τ).loc Cert.Reference17Ideal.main_arg5))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1)
      ∧ r.2.mem ((c.tc : Thread Cert.Kernel23.nD Cert.Kernel23.τ).loc Cert.Kernel23.main_arg2) = m ((c.tc : Thread Cert.Kernel23.nD Cert.Kernel23.τ).loc Cert.Kernel23.main_arg2))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
      ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1)
      ∧ r.2.mem ((c.tc : Thread Cert.Reference23Ideal.nD Cert.Reference23Ideal.τ).loc Cert.Reference23Ideal.main_arg2) = m ((c.tc : Thread Cert.Reference23Ideal.nD Cert.Reference23Ideal.τ).loc Cert.Reference23Ideal.main_arg2))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3))
      ∧ r.2.sem = fun _ => 0)

def quiescent_Kernel27 [hKernel27 : Cert.Kernel27.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4)
      ∧ r.2.mem ((c.tc : Thread Cert.Kernel27.nD Cert.Kernel27.τ).loc Cert.Kernel27.main_arg5) = m ((c.tc : Thread Cert.Kernel27.nD Cert.Kernel27.τ).loc Cert.Kernel27.main_arg5))
      ∧ r.2.sem = fun _ => 0)

def quiescent_Kernel27Ideal [hKernel27Ideal : Cert.Kernel27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
      ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4)
      ∧ r.2.mem ((c.tc : Thread Cert.Reference27Ideal.nD Cert.Reference27Ideal.τ).loc Cert.Reference27Ideal.main_arg5) = m ((c.tc : Thread Cert.Reference27Ideal.nD Cert.Reference27Ideal.τ).loc Cert.Reference27Ideal.main_arg5))
      ∧ r.2.sem = fun _ => 0)

def quiescent_Kernel28 [hKernel28 : Cert.Kernel28.Facts] [hPre_core_is_zero_or_one : Cert.Pre_core_is_zero_or_one.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2))
      ∧ r.2.sem = fun _ => 0)

def quiescent_Kernel28Ideal [hKernel28Ideal : Cert.Kernel28Ideal.Facts] [hPre_core_is_zero_or_one : Cert.Pre_core_is_zero_or_one.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def quiescent_Reference28Ideal_pre_core_is_zero_or_one [hReference28Ideal : Cert.Reference28Ideal.Facts] [hPre_core_is_zero_or_one : Cert.Pre_core_is_zero_or_one.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal_core_is_zero_or_one m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2))
      ∧ r.2.sem = fun _ => 0)

def quiescent_Kernel29 [hKernel29 : Cert.Kernel29.Facts] [hPre_core_and_shard_in_range : Cert.Pre_core_and_shard_in_range.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3))
      ∧ r.2.sem = fun _ => 0)

def quiescent_Kernel29Ideal [hKernel29Ideal : Cert.Kernel29Ideal.Facts] [hPre_core_and_shard_in_range : Cert.Pre_core_and_shard_in_range.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def quiescent_Reference29Ideal_pre_core_and_shard_in_range [hReference29Ideal : Cert.Reference29Ideal.Facts] [hPre_core_and_shard_in_range : Cert.Pre_core_and_shard_in_range.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal_core_and_shard_in_range m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3))
      ∧ r.2.sem = fun _ => 0)

def preserves_Kernel_KernelIdeal : Prop :=
  True

def algebraic_KernelIdeal_ReferenceIdeal_on_gating_part [hKernelIdeal : Cert.KernelIdeal.Facts] [hReferenceIdeal : Cert.ReferenceIdeal.Facts] [hOn_gating_part : Cert.On_gating_part.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)) (v5 : (c : Dev Cert.KernelIdeal.nD) → Buf (Elt Ideal) ((c.tc : Thread Cert.KernelIdeal.nD Cert.KernelIdeal.τ).loc Cert.KernelIdeal.main_v4_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![8192, 1792]⟩ : Shape).Idx, (Cert.On_gating_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.KernelIdeal.nD Cert.KernelIdeal.τ).loc Cert.KernelIdeal.main_v4_0) i = v0 c i)
          ∧ (∀ i : (⟨3, ![6, 128, 128]⟩ : Shape).Idx, (Cert.On_gating_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.KernelIdeal.nD Cert.KernelIdeal.τ).loc Cert.KernelIdeal.main_v4_1) i = v1 c i)
          ∧ (∀ i : (⟨2, ![128, 128]⟩ : Shape).Idx, (Cert.On_gating_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 i = 1#1 → r.2.mem ((c.tc : Thread Cert.KernelIdeal.nD Cert.KernelIdeal.τ).loc Cert.KernelIdeal.main_v4_2) i = v2 c i)
          ∧ (∀ i : (⟨2, ![8, 128]⟩ : Shape).Idx, (Cert.On_gating_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 i = 1#1 → r.2.mem ((c.tc : Thread Cert.KernelIdeal.nD Cert.KernelIdeal.τ).loc Cert.KernelIdeal.main_v4_3) i = v3 c i)
          ∧ (∀ i : (⟨2, ![8, 128]⟩ : Shape).Idx, (Cert.On_gating_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 i = 1#1 → r.2.mem ((c.tc : Thread Cert.KernelIdeal.nD Cert.KernelIdeal.τ).loc Cert.KernelIdeal.main_v4_4) i = v4 c i)
          ∧ (∀ i : (⟨2, ![256, 512]⟩ : Shape).Idx, (Cert.On_gating_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 i = 1#1 → r.2.mem ((c.tc : Thread Cert.KernelIdeal.nD Cert.KernelIdeal.τ).loc Cert.KernelIdeal.main_v4_5) i = v5 c i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          (∀ i : (⟨2, ![8192, 1792]⟩ : Shape).Idx, (Cert.On_gating_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 i = 1#1 → r.2.mem ((c.tc : Thread Cert.ReferenceIdeal.nD Cert.ReferenceIdeal.τ).loc Cert.ReferenceIdeal.main_v199) i = v0 c i)
          ∧ (∀ i : (⟨3, ![6, 128, 128]⟩ : Shape).Idx, (Cert.On_gating_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 i = 1#1 → r.2.mem ((c.tc : Thread Cert.ReferenceIdeal.nD Cert.ReferenceIdeal.τ).loc Cert.ReferenceIdeal.main_v150) i = v1 c i)
          ∧ (∀ i : (⟨2, ![128, 128]⟩ : Shape).Idx, (Cert.On_gating_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 i = 1#1 → r.2.mem ((c.tc : Thread Cert.ReferenceIdeal.nD Cert.ReferenceIdeal.τ).loc Cert.ReferenceIdeal.main_v201) i = v2 c i)
          ∧ (∀ i : (⟨2, ![8, 128]⟩ : Shape).Idx, (Cert.On_gating_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.1 i = 1#1 → r.2.mem ((c.tc : Thread Cert.ReferenceIdeal.nD Cert.ReferenceIdeal.τ).loc Cert.ReferenceIdeal.main_v202) i = v3 c i)
          ∧ (∀ i : (⟨2, ![8, 128]⟩ : Shape).Idx, (Cert.On_gating_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.1 i = 1#1 → r.2.mem ((c.tc : Thread Cert.ReferenceIdeal.nD Cert.ReferenceIdeal.τ).loc Cert.ReferenceIdeal.main_v203) i = v4 c i)
          ∧ (∀ i : (⟨2, ![256, 512]⟩ : Shape).Idx, (Cert.On_gating_part.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2.2.2 i = 1#1 → r.2.mem ((c.tc : Thread Cert.ReferenceIdeal.nD Cert.ReferenceIdeal.τ).loc Cert.ReferenceIdeal.main_v137) i = v5 c i)
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def algebraic_KernelIdeal_ReferenceIdeal_pre_memory_finite [hKernelIdeal : Cert.KernelIdeal.Facts] [hReferenceIdeal : Cert.ReferenceIdeal.Facts] [hPre_memory_finite : Cert.Pre_memory_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_memory_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v4_1)) (v2 : (c : Dev Cert.KernelIdeal.nD) → Buf (Elt Ideal) ((c.tc : Thread Cert.KernelIdeal.nD Cert.KernelIdeal.τ).loc Cert.KernelIdeal.main_v4_2)) (v3 : (c : Dev Cert.KernelIdeal.nD) → Buf (Elt Ideal) ((c.tc : Thread Cert.KernelIdeal.nD Cert.KernelIdeal.τ).loc Cert.KernelIdeal.main_v4_3)) (v4 : (c : Dev Cert.KernelIdeal.nD) → Buf (Elt Ideal) ((c.tc : Thread Cert.KernelIdeal.nD Cert.KernelIdeal.τ).loc Cert.KernelIdeal.main_v4_4)) (v5 : (c : Dev Cert.KernelIdeal.nD) → Buf (Elt Ideal) ((c.tc : Thread Cert.KernelIdeal.nD Cert.KernelIdeal.τ).loc Cert.KernelIdeal.main_v4_5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v4_1) = v1 c
          ∧ r.2.mem ((c.tc : Thread Cert.KernelIdeal.nD Cert.KernelIdeal.τ).loc Cert.KernelIdeal.main_v4_2) = v2 c
          ∧ r.2.mem ((c.tc : Thread Cert.KernelIdeal.nD Cert.KernelIdeal.τ).loc Cert.KernelIdeal.main_v4_3) = v3 c
          ∧ r.2.mem ((c.tc : Thread Cert.KernelIdeal.nD Cert.KernelIdeal.τ).loc Cert.KernelIdeal.main_v4_4) = v4 c
          ∧ r.2.mem ((c.tc : Thread Cert.KernelIdeal.nD Cert.KernelIdeal.τ).loc Cert.KernelIdeal.main_v4_5) = v5 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v199) = v0 c
          ∧ r.2.mem ((c.tc : Thread Cert.ReferenceIdeal.nD Cert.ReferenceIdeal.τ).loc Cert.ReferenceIdeal.main_v150) = v1 c
          ∧ r.2.mem ((c.tc : Thread Cert.ReferenceIdeal.nD Cert.ReferenceIdeal.τ).loc Cert.ReferenceIdeal.main_v201) = v2 c
          ∧ r.2.mem ((c.tc : Thread Cert.ReferenceIdeal.nD Cert.ReferenceIdeal.τ).loc Cert.ReferenceIdeal.main_v202) = v3 c
          ∧ r.2.mem ((c.tc : Thread Cert.ReferenceIdeal.nD Cert.ReferenceIdeal.τ).loc Cert.ReferenceIdeal.main_v203) = v4 c
          ∧ r.2.mem ((c.tc : Thread Cert.ReferenceIdeal.nD Cert.ReferenceIdeal.τ).loc Cert.ReferenceIdeal.main_v137) = v5 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v1_0)) (v1 : (c : Dev Cert.Kernel2Ideal.nD) → Buf (Elt Ideal) ((c.tc : Thread Cert.Kernel2Ideal.nD Cert.Kernel2Ideal.τ).loc Cert.Kernel2Ideal.main_v1_1)) (v2 : (c : Dev Cert.Kernel2Ideal.nD) → Buf (Elt Ideal) ((c.tc : Thread Cert.Kernel2Ideal.nD Cert.Kernel2Ideal.τ).loc Cert.Kernel2Ideal.main_v1_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v1_0) = v0 c
          ∧ r.2.mem ((c.tc : Thread Cert.Kernel2Ideal.nD Cert.Kernel2Ideal.τ).loc Cert.Kernel2Ideal.main_v1_1) = v1 c
          ∧ r.2.mem ((c.tc : Thread Cert.Kernel2Ideal.nD Cert.Kernel2Ideal.τ).loc Cert.Kernel2Ideal.main_v1_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v55) = v0 c
          ∧ r.2.mem ((c.tc : Thread Cert.Reference2Ideal.nD Cert.Reference2Ideal.τ).loc Cert.Reference2Ideal.main_v56) = v1 c
          ∧ r.2.mem ((c.tc : Thread Cert.Reference2Ideal.nD Cert.Reference2Ideal.τ).loc Cert.Reference2Ideal.main_v57) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v14) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal_on_finite_or_up [hKernel5Ideal : Cert.Kernel5Ideal.Facts] [hReference5Ideal : Cert.Reference5Ideal.Facts] [hOn_finite_or_up : Cert.On_finite_or_up.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v16)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          (∀ i : (⟨3, ![2, 8192, 2816]⟩ : Shape).Idx, (Cert.On_finite_or_up.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) i = 1#1 → r.2.mem ((c.tc : Thread Cert.Kernel5Ideal.nD Cert.Kernel5Ideal.τ).loc Cert.Kernel5Ideal.main_v16) i = v0 c i)
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          (∀ i : (⟨3, ![2, 8192, 2816]⟩ : Shape).Idx, (Cert.On_finite_or_up.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) i = 1#1 → r.2.mem ((c.tc : Thread Cert.Reference5Ideal.nD Cert.Reference5Ideal.τ).loc Cert.Reference5Ideal.main_v13) i = v0 c i)
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def algebraic_Kernel5Ideal_Reference5Ideal_pre_gated_cotangent_finite [hKernel5Ideal : Cert.Kernel5Ideal.Facts] [hReference5Ideal : Cert.Reference5Ideal.Facts] [hPre_gated_cotangent_finite : Cert.Pre_gated_cotangent_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_gated_cotangent_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v16)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v16) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v13) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v1_0)) (v1 : (c : Dev Cert.Kernel6Ideal.nD) → Buf (Elt Ideal) ((c.tc : Thread Cert.Kernel6Ideal.nD Cert.Kernel6Ideal.τ).loc Cert.Kernel6Ideal.main_v1_1)) (v2 : (c : Dev Cert.Kernel6Ideal.nD) → Buf (Elt Ideal) ((c.tc : Thread Cert.Kernel6Ideal.nD Cert.Kernel6Ideal.τ).loc Cert.Kernel6Ideal.main_v1_2)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v1_0) = v0 c
          ∧ r.2.mem ((c.tc : Thread Cert.Kernel6Ideal.nD Cert.Kernel6Ideal.τ).loc Cert.Kernel6Ideal.main_v1_1) = v1 c
          ∧ r.2.mem ((c.tc : Thread Cert.Kernel6Ideal.nD Cert.Kernel6Ideal.τ).loc Cert.Kernel6Ideal.main_v1_2) = v2 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v37) = v0 c
          ∧ r.2.mem ((c.tc : Thread Cert.Reference6Ideal.nD Cert.Reference6Ideal.τ).loc Cert.Reference6Ideal.main_v38) = v1 c
          ∧ r.2.mem ((c.tc : Thread Cert.Reference6Ideal.nD Cert.Reference6Ideal.τ).loc Cert.Reference6Ideal.main_v41) = v2 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v4) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v5) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v14) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v15) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v15) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)) →
    ∃ (v0 : (c : Dev Cert.Kernel12Ideal.nD) → Buf (Elt Ideal) ((c.tc : Thread Cert.Kernel12Ideal.nD Cert.Kernel12Ideal.τ).loc Cert.Kernel12Ideal.main_v1_0)) (v1 : (c : Dev Cert.Kernel12Ideal.nD) → Buf (Elt Ideal) ((c.tc : Thread Cert.Kernel12Ideal.nD Cert.Kernel12Ideal.τ).loc Cert.Kernel12Ideal.main_v1_1)) (v2 : (c : Dev Cert.Kernel12Ideal.nD) → Buf (Elt Ideal) ((c.tc : Thread Cert.Kernel12Ideal.nD Cert.Kernel12Ideal.τ).loc Cert.Kernel12Ideal.main_v1_2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1_0) = v0 c
          ∧ r.2.mem ((c.tc : Thread Cert.Kernel12Ideal.nD Cert.Kernel12Ideal.τ).loc Cert.Kernel12Ideal.main_v1_1) = v1 c
          ∧ r.2.mem ((c.tc : Thread Cert.Kernel12Ideal.nD Cert.Kernel12Ideal.τ).loc Cert.Kernel12Ideal.main_v1_2) = v2 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v50) = v0 c
          ∧ r.2.mem ((c.tc : Thread Cert.Reference12Ideal.nD Cert.Reference12Ideal.τ).loc Cert.Reference12Ideal.main_v51) = v1 c
          ∧ r.2.mem ((c.tc : Thread Cert.Reference12Ideal.nD Cert.Reference12Ideal.τ).loc Cert.Reference12Ideal.main_v52) = v2 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)) →
    ∃ (v0 : (c : Dev Cert.Kernel13Ideal.nD) → Buf (Elt Ideal) ((c.tc : Thread Cert.Kernel13Ideal.nD Cert.Kernel13Ideal.τ).loc Cert.Kernel13Ideal.main_v1_0)) (v1 : (c : Dev Cert.Kernel13Ideal.nD) → Buf (Elt Ideal) ((c.tc : Thread Cert.Kernel13Ideal.nD Cert.Kernel13Ideal.τ).loc Cert.Kernel13Ideal.main_v1_1)) (v2 : (c : Dev Cert.Kernel13Ideal.nD) → Buf (Elt Ideal) ((c.tc : Thread Cert.Kernel13Ideal.nD Cert.Kernel13Ideal.τ).loc Cert.Kernel13Ideal.main_v1_2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v1_0) = v0 c
          ∧ r.2.mem ((c.tc : Thread Cert.Kernel13Ideal.nD Cert.Kernel13Ideal.τ).loc Cert.Kernel13Ideal.main_v1_1) = v1 c
          ∧ r.2.mem ((c.tc : Thread Cert.Kernel13Ideal.nD Cert.Kernel13Ideal.τ).loc Cert.Kernel13Ideal.main_v1_2) = v2 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v50) = v0 c
          ∧ r.2.mem ((c.tc : Thread Cert.Reference13Ideal.nD Cert.Reference13Ideal.τ).loc Cert.Reference13Ideal.main_v51) = v1 c
          ∧ r.2.mem ((c.tc : Thread Cert.Reference13Ideal.nD Cert.Reference13Ideal.τ).loc Cert.Reference13Ideal.main_v52) = v2 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v4) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)) →
    ∃ (v0 : (c : Dev Cert.Kernel15Ideal.nD) → Buf (Elt Ideal) ((c.tc : Thread Cert.Kernel15Ideal.nD Cert.Kernel15Ideal.τ).loc Cert.Kernel15Ideal.main_v1_0)) (v1 : (c : Dev Cert.Kernel15Ideal.nD) → Buf (Elt Ideal) ((c.tc : Thread Cert.Kernel15Ideal.nD Cert.Kernel15Ideal.τ).loc Cert.Kernel15Ideal.main_v1_1)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v1_0) = v0 c
          ∧ r.2.mem ((c.tc : Thread Cert.Kernel15Ideal.nD Cert.Kernel15Ideal.τ).loc Cert.Kernel15Ideal.main_v1_1) = v1 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v13) = v0 c
          ∧ r.2.mem ((c.tc : Thread Cert.Reference15Ideal.nD Cert.Reference15Ideal.τ).loc Cert.Reference15Ideal.main_v26) = v1 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)) →
    ∃ (v0 : (c : Dev Cert.Kernel16Ideal.nD) → Buf (Elt Ideal) ((c.tc : Thread Cert.Kernel16Ideal.nD Cert.Kernel16Ideal.τ).loc Cert.Kernel16Ideal.main_v1_0)) (v1 : (c : Dev Cert.Kernel16Ideal.nD) → Buf (Elt Ideal) ((c.tc : Thread Cert.Kernel16Ideal.nD Cert.Kernel16Ideal.τ).loc Cert.Kernel16Ideal.main_v1_1)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v1_0) = v0 c
          ∧ r.2.mem ((c.tc : Thread Cert.Kernel16Ideal.nD Cert.Kernel16Ideal.τ).loc Cert.Kernel16Ideal.main_v1_1) = v1 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v13) = v0 c
          ∧ r.2.mem ((c.tc : Thread Cert.Reference16Ideal.nD Cert.Reference16Ideal.τ).loc Cert.Reference16Ideal.main_v26) = v1 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2))

def preserves_Kernel18_Kernel18Ideal : Prop :=
  IdealRules.named_const.Statement Cert.Kernel18Ideal.κ "mask" .f32 0xF149F2CA#32 ⊥

def algebraic_Kernel18Ideal_Reference18Ideal_pre_swa_finite [hKernel18Ideal : Cert.Kernel18Ideal.Facts] [hReference18Ideal : Cert.Reference18Ideal.Facts] [hPre_swa_finite : Cert.Pre_swa_finite.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal_swa_finite m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)) →
    ∃ (v0 : (c : Dev Cert.Kernel18Ideal.nD) → Buf (Elt Ideal) ((c.tc : Thread Cert.Kernel18Ideal.nD Cert.Kernel18Ideal.τ).loc Cert.Kernel18Ideal.main_v3)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v3) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v95) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2))

def preserves_Kernel17_Kernel17Ideal : Prop :=
  True

def algebraic_Kernel17Ideal_Reference17Ideal_on_gated_columns [hKernel17Ideal : Cert.Kernel17Ideal.Facts] [hReference17Ideal : Cert.Reference17Ideal.Facts] [hOn_gated_columns : Cert.On_gated_columns.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)) →
    ∃ (v0 : (c : Dev Cert.Kernel17Ideal.nD) → Buf (Elt Ideal) ((c.tc : Thread Cert.Kernel17Ideal.nD Cert.Kernel17Ideal.τ).loc Cert.Kernel17Ideal.main_v4)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          (∀ i : (⟨2, ![8192, 1024]⟩ : Shape).Idx, (Cert.On_gated_columns.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5))) i = 1#1 → r.2.mem ((c.tc : Thread Cert.Kernel17Ideal.nD Cert.Kernel17Ideal.τ).loc Cert.Kernel17Ideal.main_v4) i = v0 c i)
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          (∀ i : (⟨2, ![8192, 1024]⟩ : Shape).Idx, (Cert.On_gated_columns.fn (F := Ideal) (m ((c.tc : Thread Cert.Kernel17Ideal.nD Cert.Kernel17Ideal.τ).loc Cert.Kernel17Ideal.main_arg0)) (m ((c.tc : Thread Cert.Kernel17Ideal.nD Cert.Kernel17Ideal.τ).loc Cert.Kernel17Ideal.main_arg1)) (m ((c.tc : Thread Cert.Kernel17Ideal.nD Cert.Kernel17Ideal.τ).loc Cert.Kernel17Ideal.main_arg2)) (m ((c.tc : Thread Cert.Kernel17Ideal.nD Cert.Kernel17Ideal.τ).loc Cert.Kernel17Ideal.main_arg3)) (m ((c.tc : Thread Cert.Kernel17Ideal.nD Cert.Kernel17Ideal.τ).loc Cert.Kernel17Ideal.main_arg4)) (m ((c.tc : Thread Cert.Kernel17Ideal.nD Cert.Kernel17Ideal.τ).loc Cert.Kernel17Ideal.main_arg5))) i = 1#1 → r.2.mem ((c.tc : Thread Cert.Reference17Ideal.nD Cert.Reference17Ideal.τ).loc Cert.Reference17Ideal.main_v80) i = v0 c i)
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5))

def algebraic_Kernel17Ideal_Reference17Ideal_pre_attended_finite [hKernel17Ideal : Cert.Kernel17Ideal.Facts] [hReference17Ideal : Cert.Reference17Ideal.Facts] [hPre_attended_finite : Cert.Pre_attended_finite.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal_attended_finite m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)
      ∧ m' ((c.tc : Thread Cert.Reference17Ideal.nD Cert.Reference17Ideal.τ).loc Cert.Reference17Ideal.main_arg2) = m ((c.tc : Thread Cert.Kernel17Ideal.nD Cert.Kernel17Ideal.τ).loc Cert.Kernel17Ideal.main_arg2)
      ∧ m' ((c.tc : Thread Cert.Reference17Ideal.nD Cert.Reference17Ideal.τ).loc Cert.Reference17Ideal.main_arg3) = m ((c.tc : Thread Cert.Kernel17Ideal.nD Cert.Kernel17Ideal.τ).loc Cert.Kernel17Ideal.main_arg3)
      ∧ m' ((c.tc : Thread Cert.Reference17Ideal.nD Cert.Reference17Ideal.τ).loc Cert.Reference17Ideal.main_arg4) = m ((c.tc : Thread Cert.Kernel17Ideal.nD Cert.Kernel17Ideal.τ).loc Cert.Kernel17Ideal.main_arg4)
      ∧ m' ((c.tc : Thread Cert.Reference17Ideal.nD Cert.Reference17Ideal.τ).loc Cert.Reference17Ideal.main_arg5) = m ((c.tc : Thread Cert.Kernel17Ideal.nD Cert.Kernel17Ideal.τ).loc Cert.Kernel17Ideal.main_arg5)) →
    ∃ (v0 : (c : Dev Cert.Kernel17Ideal.nD) → Buf (Elt Ideal) ((c.tc : Thread Cert.Kernel17Ideal.nD Cert.Kernel17Ideal.τ).loc Cert.Kernel17Ideal.main_v4)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v4) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1)
          ∧ r.2.mem ((c.tc : Thread Cert.Kernel17Ideal.nD Cert.Kernel17Ideal.τ).loc Cert.Kernel17Ideal.main_arg2) = m ((c.tc : Thread Cert.Kernel17Ideal.nD Cert.Kernel17Ideal.τ).loc Cert.Kernel17Ideal.main_arg2)
          ∧ r.2.mem ((c.tc : Thread Cert.Kernel17Ideal.nD Cert.Kernel17Ideal.τ).loc Cert.Kernel17Ideal.main_arg3) = m ((c.tc : Thread Cert.Kernel17Ideal.nD Cert.Kernel17Ideal.τ).loc Cert.Kernel17Ideal.main_arg3)
          ∧ r.2.mem ((c.tc : Thread Cert.Kernel17Ideal.nD Cert.Kernel17Ideal.τ).loc Cert.Kernel17Ideal.main_arg4) = m ((c.tc : Thread Cert.Kernel17Ideal.nD Cert.Kernel17Ideal.τ).loc Cert.Kernel17Ideal.main_arg4)
          ∧ r.2.mem ((c.tc : Thread Cert.Kernel17Ideal.nD Cert.Kernel17Ideal.τ).loc Cert.Kernel17Ideal.main_arg5) = m ((c.tc : Thread Cert.Kernel17Ideal.nD Cert.Kernel17Ideal.τ).loc Cert.Kernel17Ideal.main_arg5))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v80) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1)
          ∧ r.2.mem ((c.tc : Thread Cert.Reference17Ideal.nD Cert.Reference17Ideal.τ).loc Cert.Reference17Ideal.main_arg2) = m' ((c.tc : Thread Cert.Reference17Ideal.nD Cert.Reference17Ideal.τ).loc Cert.Reference17Ideal.main_arg2)
          ∧ r.2.mem ((c.tc : Thread Cert.Reference17Ideal.nD Cert.Reference17Ideal.τ).loc Cert.Reference17Ideal.main_arg3) = m' ((c.tc : Thread Cert.Reference17Ideal.nD Cert.Reference17Ideal.τ).loc Cert.Reference17Ideal.main_arg3)
          ∧ r.2.mem ((c.tc : Thread Cert.Reference17Ideal.nD Cert.Reference17Ideal.τ).loc Cert.Reference17Ideal.main_arg4) = m' ((c.tc : Thread Cert.Reference17Ideal.nD Cert.Reference17Ideal.τ).loc Cert.Reference17Ideal.main_arg4)
          ∧ r.2.mem ((c.tc : Thread Cert.Reference17Ideal.nD Cert.Reference17Ideal.τ).loc Cert.Reference17Ideal.main_arg5) = m' ((c.tc : Thread Cert.Reference17Ideal.nD Cert.Reference17Ideal.τ).loc Cert.Reference17Ideal.main_arg5))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v13) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v5) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v4) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v13) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)
      ∧ m' ((c.tc : Thread Cert.Reference23Ideal.nD Cert.Reference23Ideal.τ).loc Cert.Reference23Ideal.main_arg2) = m ((c.tc : Thread Cert.Kernel23Ideal.nD Cert.Kernel23Ideal.τ).loc Cert.Kernel23Ideal.main_arg2)) →
    ∃ (v0 : (c : Dev Cert.Kernel23Ideal.nD) → Buf (Elt Ideal) ((c.tc : Thread Cert.Kernel23Ideal.nD Cert.Kernel23Ideal.τ).loc Cert.Kernel23Ideal.main_v1_0)) (v1 : (c : Dev Cert.Kernel23Ideal.nD) → Buf (Elt Ideal) ((c.tc : Thread Cert.Kernel23Ideal.nD Cert.Kernel23Ideal.τ).loc Cert.Kernel23Ideal.main_v1_1)) (v2 : (c : Dev Cert.Kernel23Ideal.nD) → Buf (Elt Ideal) ((c.tc : Thread Cert.Kernel23Ideal.nD Cert.Kernel23Ideal.τ).loc Cert.Kernel23Ideal.main_v1_2)) (v3 : (c : Dev Cert.Kernel23Ideal.nD) → Buf (Elt Ideal) ((c.tc : Thread Cert.Kernel23Ideal.nD Cert.Kernel23Ideal.τ).loc Cert.Kernel23Ideal.main_v1_3)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v1_0) = v0 c
          ∧ r.2.mem ((c.tc : Thread Cert.Kernel23Ideal.nD Cert.Kernel23Ideal.τ).loc Cert.Kernel23Ideal.main_v1_1) = v1 c
          ∧ r.2.mem ((c.tc : Thread Cert.Kernel23Ideal.nD Cert.Kernel23Ideal.τ).loc Cert.Kernel23Ideal.main_v1_2) = v2 c
          ∧ r.2.mem ((c.tc : Thread Cert.Kernel23Ideal.nD Cert.Kernel23Ideal.τ).loc Cert.Kernel23Ideal.main_v1_3) = v3 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1)
          ∧ r.2.mem ((c.tc : Thread Cert.Kernel23Ideal.nD Cert.Kernel23Ideal.τ).loc Cert.Kernel23Ideal.main_arg2) = m ((c.tc : Thread Cert.Kernel23Ideal.nD Cert.Kernel23Ideal.τ).loc Cert.Kernel23Ideal.main_arg2))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v51) = v0 c
          ∧ r.2.mem ((c.tc : Thread Cert.Reference23Ideal.nD Cert.Reference23Ideal.τ).loc Cert.Reference23Ideal.main_v50) = v1 c
          ∧ r.2.mem ((c.tc : Thread Cert.Reference23Ideal.nD Cert.Reference23Ideal.τ).loc Cert.Reference23Ideal.main_v52) = v2 c
          ∧ r.2.mem ((c.tc : Thread Cert.Reference23Ideal.nD Cert.Reference23Ideal.τ).loc Cert.Reference23Ideal.main_v53) = v3 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1)
          ∧ r.2.mem ((c.tc : Thread Cert.Reference23Ideal.nD Cert.Reference23Ideal.τ).loc Cert.Reference23Ideal.main_arg2) = m' ((c.tc : Thread Cert.Reference23Ideal.nD Cert.Reference23Ideal.τ).loc Cert.Reference23Ideal.main_arg2))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v2_0)) (v1 : (c : Dev Cert.Kernel24Ideal.nD) → Buf (Elt Ideal) ((c.tc : Thread Cert.Kernel24Ideal.nD Cert.Kernel24Ideal.τ).loc Cert.Kernel24Ideal.main_v2_1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v2_0) = v0 c
          ∧ r.2.mem ((c.tc : Thread Cert.Kernel24Ideal.nD Cert.Kernel24Ideal.τ).loc Cert.Kernel24Ideal.main_v2_1) = v1 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v35) = v0 c
          ∧ r.2.mem ((c.tc : Thread Cert.Reference24Ideal.nD Cert.Reference24Ideal.τ).loc Cert.Reference24Ideal.main_v36) = v1 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v0) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v23) = v0 c
          ∧ r.2.mem ((c.tc : Thread Cert.Reference26Ideal.nD Cert.Reference26Ideal.τ).loc Cert.Reference26Ideal.main_v4) = v1 c
          ∧ r.2.mem ((c.tc : Thread Cert.Reference26Ideal.nD Cert.Reference26Ideal.τ).loc Cert.Reference26Ideal.main_v10) = v2 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3))

def preserves_Kernel27_Kernel27Ideal : Prop :=
  True

def algebraic_Kernel27Ideal_Reference27Ideal [hKernel27Ideal : Cert.Kernel27Ideal.Facts] [hReference27Ideal : Cert.Reference27Ideal.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)
      ∧ m' ((c.tc : Thread Cert.Reference27Ideal.nD Cert.Reference27Ideal.τ).loc Cert.Reference27Ideal.main_arg5) = m ((c.tc : Thread Cert.Kernel27Ideal.nD Cert.Kernel27Ideal.τ).loc Cert.Kernel27Ideal.main_arg5)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
          ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v8) = v0 c
          ∧ r.2.mem ((c.tc : Thread Cert.Reference27Ideal.nD Cert.Reference27Ideal.τ).loc Cert.Reference27Ideal.main_v32) = v1 c
          ∧ r.2.mem ((c.tc : Thread Cert.Reference27Ideal.nD Cert.Reference27Ideal.τ).loc Cert.Reference27Ideal.main_v13) = v2 c
          ∧ r.2.mem ((c.tc : Thread Cert.Reference27Ideal.nD Cert.Reference27Ideal.τ).loc Cert.Reference27Ideal.main_v19) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4)
          ∧ r.2.mem ((c.tc : Thread Cert.Reference27Ideal.nD Cert.Reference27Ideal.τ).loc Cert.Reference27Ideal.main_arg5) = m' ((c.tc : Thread Cert.Reference27Ideal.nD Cert.Reference27Ideal.τ).loc Cert.Reference27Ideal.main_arg5))

def preserves_Kernel28_Kernel28Ideal : Prop :=
  True

def algebraic_Kernel28Ideal_Reference28Ideal [hKernel28Ideal : Cert.Kernel28Ideal.Facts] [hReference28Ideal : Cert.Reference28Ideal.Facts] [hPre_core_is_zero_or_one : Cert.Pre_core_is_zero_or_one.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)) →
    ∃ (v0 : (c : Dev Cert.Kernel28Ideal.nD) → Buf (Elt Ideal) ((c.tc : Thread Cert.Kernel28Ideal.nD Cert.Kernel28Ideal.τ).loc Cert.Kernel28Ideal.main_v0)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0) = v0 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v9) = v0 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2))

def preserves_Kernel29_Kernel29Ideal : Prop :=
  True

def algebraic_Kernel29Ideal_Reference29Ideal [hKernel29Ideal : Cert.Kernel29Ideal.Facts] [hReference29Ideal : Cert.Reference29Ideal.Facts] [hPre_core_and_shard_in_range : Cert.Pre_core_and_shard_in_range.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)) →
    ∃ (v0 : (c : Dev Cert.Kernel29Ideal.nD) → Buf (Elt Ideal) ((c.tc : Thread Cert.Kernel29Ideal.nD Cert.Kernel29Ideal.τ).loc Cert.Kernel29Ideal.main_v0)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0) = v0 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v28) = v0 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel18 : Cert.Kernel18.Facts) (hKernel18Ideal : Cert.Kernel18Ideal.Facts) (hReference18Ideal : Cert.Reference18Ideal.Facts) (hKernel17 : Cert.Kernel17.Facts) (hKernel17Ideal : Cert.Kernel17Ideal.Facts) (hReference17Ideal : Cert.Reference17Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hPre_memory_finite : Cert.Pre_memory_finite.Facts) (hPre_gated_cotangent_finite : Cert.Pre_gated_cotangent_finite.Facts) (hPre_swa_finite : Cert.Pre_swa_finite.Facts) (hPre_attended_finite : Cert.Pre_attended_finite.Facts) (hPre_core_is_zero_or_one : Cert.Pre_core_is_zero_or_one.Facts) (hPre_core_and_shard_in_range : Cert.Pre_core_and_shard_in_range.Facts) (hOn_gating_part : Cert.On_gating_part.Facts) (hOn_finite_or_up : Cert.On_finite_or_up.Facts) (hOn_gated_columns : Cert.On_gated_columns.Facts),
    quiescent_Kernel (hKernel := hKernel)
    ∧ quiescent_KernelIdeal (hKernelIdeal := hKernelIdeal)
    ∧ quiescent_KernelIdeal_pre_memory_finite (hKernelIdeal := hKernelIdeal) (hPre_memory_finite := hPre_memory_finite)
    ∧ quiescent_ReferenceIdeal (hReferenceIdeal := hReferenceIdeal)
    ∧ quiescent_ReferenceIdeal_pre_memory_finite (hReferenceIdeal := hReferenceIdeal) (hPre_memory_finite := hPre_memory_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Kernel5Ideal_pre_gated_cotangent_finite (hKernel5Ideal := hKernel5Ideal) (hPre_gated_cotangent_finite := hPre_gated_cotangent_finite)
    ∧ quiescent_Reference5Ideal (hReference5Ideal := hReference5Ideal)
    ∧ quiescent_Reference5Ideal_pre_gated_cotangent_finite (hReference5Ideal := hReference5Ideal) (hPre_gated_cotangent_finite := hPre_gated_cotangent_finite)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel18 (hKernel18 := hKernel18)
    ∧ quiescent_Kernel18Ideal (hKernel18Ideal := hKernel18Ideal)
    ∧ quiescent_Kernel18Ideal_pre_swa_finite (hKernel18Ideal := hKernel18Ideal) (hPre_swa_finite := hPre_swa_finite)
    ∧ quiescent_Reference18Ideal (hReference18Ideal := hReference18Ideal)
    ∧ quiescent_Reference18Ideal_pre_swa_finite (hReference18Ideal := hReference18Ideal) (hPre_swa_finite := hPre_swa_finite)
    ∧ quiescent_Kernel17 (hKernel17 := hKernel17)
    ∧ quiescent_Kernel17Ideal (hKernel17Ideal := hKernel17Ideal)
    ∧ quiescent_Kernel17Ideal_pre_attended_finite (hKernel17Ideal := hKernel17Ideal) (hPre_attended_finite := hPre_attended_finite)
    ∧ quiescent_Reference17Ideal (hReference17Ideal := hReference17Ideal)
    ∧ quiescent_Reference17Ideal_pre_attended_finite (hReference17Ideal := hReference17Ideal) (hPre_attended_finite := hPre_attended_finite)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27)
    ∧ quiescent_Kernel27Ideal (hKernel27Ideal := hKernel27Ideal)
    ∧ quiescent_Reference27Ideal (hReference27Ideal := hReference27Ideal)
    ∧ quiescent_Kernel28 (hKernel28 := hKernel28) (hPre_core_is_zero_or_one := hPre_core_is_zero_or_one)
    ∧ quiescent_Kernel28Ideal (hKernel28Ideal := hKernel28Ideal) (hPre_core_is_zero_or_one := hPre_core_is_zero_or_one)
    ∧ quiescent_Reference28Ideal (hReference28Ideal := hReference28Ideal)
    ∧ quiescent_Reference28Ideal_pre_core_is_zero_or_one (hReference28Ideal := hReference28Ideal) (hPre_core_is_zero_or_one := hPre_core_is_zero_or_one)
    ∧ quiescent_Kernel29 (hKernel29 := hKernel29) (hPre_core_and_shard_in_range := hPre_core_and_shard_in_range)
    ∧ quiescent_Kernel29Ideal (hKernel29Ideal := hKernel29Ideal) (hPre_core_and_shard_in_range := hPre_core_and_shard_in_range)
    ∧ quiescent_Reference29Ideal (hReference29Ideal := hReference29Ideal)
    ∧ quiescent_Reference29Ideal_pre_core_and_shard_in_range (hReference29Ideal := hReference29Ideal) (hPre_core_and_shard_in_range := hPre_core_and_shard_in_range)
    ∧ preserves_Kernel_KernelIdeal
    ∧ algebraic_KernelIdeal_ReferenceIdeal_on_gating_part (hKernelIdeal := hKernelIdeal) (hReferenceIdeal := hReferenceIdeal) (hOn_gating_part := hOn_gating_part)
    ∧ algebraic_KernelIdeal_ReferenceIdeal_pre_memory_finite (hKernelIdeal := hKernelIdeal) (hReferenceIdeal := hReferenceIdeal) (hPre_memory_finite := hPre_memory_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal_on_finite_or_up (hKernel5Ideal := hKernel5Ideal) (hReference5Ideal := hReference5Ideal) (hOn_finite_or_up := hOn_finite_or_up)
    ∧ algebraic_Kernel5Ideal_Reference5Ideal_pre_gated_cotangent_finite (hKernel5Ideal := hKernel5Ideal) (hReference5Ideal := hReference5Ideal) (hPre_gated_cotangent_finite := hPre_gated_cotangent_finite)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel18_Kernel18Ideal
    ∧ algebraic_Kernel18Ideal_Reference18Ideal_pre_swa_finite (hKernel18Ideal := hKernel18Ideal) (hReference18Ideal := hReference18Ideal) (hPre_swa_finite := hPre_swa_finite)
    ∧ preserves_Kernel17_Kernel17Ideal
    ∧ algebraic_Kernel17Ideal_Reference17Ideal_on_gated_columns (hKernel17Ideal := hKernel17Ideal) (hReference17Ideal := hReference17Ideal) (hOn_gated_columns := hOn_gated_columns)
    ∧ algebraic_Kernel17Ideal_Reference17Ideal_pre_attended_finite (hKernel17Ideal := hKernel17Ideal) (hReference17Ideal := hReference17Ideal) (hPre_attended_finite := hPre_attended_finite)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal)
    ∧ preserves_Kernel28_Kernel28Ideal
    ∧ algebraic_Kernel28Ideal_Reference28Ideal (hKernel28Ideal := hKernel28Ideal) (hReference28Ideal := hReference28Ideal) (hPre_core_is_zero_or_one := hPre_core_is_zero_or_one)
    ∧ preserves_Kernel29_Kernel29Ideal
    ∧ algebraic_Kernel29Ideal_Reference29Ideal (hKernel29Ideal := hKernel29Ideal) (hReference29Ideal := hReference29Ideal) (hPre_core_and_shard_in_range := hPre_core_and_shard_in_range)
-- ==== On_finite_or_up.lean ====
abbrev S8192x2816 : Shape := ⟨2, ![8192, 2816]⟩
abbrev S1x2816x1024 : Shape := ⟨3, ![1, 2816, 1024]⟩
abbrev S8192x1024 : Shape := ⟨2, ![8192, 1024]⟩
abbrev S2 : Shape := ⟨1, ![2]⟩
abbrev S2x1x1 : Shape := ⟨3, ![2, 1, 1]⟩
abbrev S_ : Shape := ⟨0, ![]⟩
abbrev S2816x1024 : Shape := ⟨2, ![2816, 1024]⟩
abbrev S1024x2816 : Shape := ⟨2, ![1024, 2816]⟩
abbrev S1x8192x2816 : Shape := ⟨3, ![1, 8192, 2816]⟩
abbrev S2x8192x2816 : Shape := ⟨3, ![2, 8192, 2816]⟩

class Facts : Prop where
  bcast_S2_S2x1x1_0 : S2.BroadcastsInDim S2x1x1 (![0] : Fin 1 → Fin S2x1x1.rank)
  bcast_S_S2x1x1 : S_.BroadcastsInDim S2x1x1 (![] : Fin 0 → Fin S2x1x1.rank)
  bitsLt_bf16_f32 : FTy.bits .bf16 < FTy.bits .f32
  shapeCasts_S1x2816x1024_S2816x1024 : S1x2816x1024.ShapeCasts S2816x1024
  transposes_S2816x1024_S1024x2816_1_0 : S2816x1024.Transposes [1, 0] S1024x2816
  bcast_S_S8192x2816 : S_.BroadcastsInDim S8192x2816 (![] : Fin 0 → Fin S8192x2816.rank)
  bcast_S8192x2816_S1x8192x2816_1_2 : S8192x2816.BroadcastsInDim S1x8192x2816 (![1, 2] : Fin 2 → Fin S1x8192x2816.rank)
  bcast_S2x1x1_S2x8192x2816_0_1_2 : S2x1x1.BroadcastsInDim S2x8192x2816 (![0, 1, 2] : Fin 3 → Fin S2x8192x2816.rank)
  bcast_S1x8192x2816_S2x8192x2816_0_1_2 : S1x8192x2816.BroadcastsInDim S2x8192x2816 (![0, 1, 2] : Fin 3 → Fin S2x8192x2816.rank)
  dot_S8192x1024_S1024x2816_S8192x2816_1_0_0_1_n_n_wf : DotDims.WF S8192x1024 S1024x2816 S8192x2816 [1] [0] [0] [1] [] []

variable [Facts]

def dot_S8192x1024_S1024x2816_S8192x2816_1_0_0_1_n_n : DotDims S8192x1024 S1024x2816 S8192x2816 where
  lhsContracting := [1]
  rhsContracting := [0]
  lhsNonContracting := [0]
  rhsNonContracting := [1]
  lhsBatch := []
  rhsBatch := []
  wf := dot_S8192x1024_S1024x2816_S8192x2816_1_0_0_1_n_n_wf
def fn {F : FTy → Type} [FloatOps F] (main_arg0 : FVec F S8192x2816 .f32) (main_arg1 : FVec F S8192x2816 .f32) (main_arg2 : FVec F S1x2816x1024 .bf16) (main_arg3 : FVec F S8192x1024 .bf16) : IVec S2x8192x2816 1 :=
  let main_v0 : IVec S2 32 := iotaInDim S2 32 0
  let main_v1 : IVec S2x1x1 32 := broadcastInDim S2x1x1 ![0] bcast_S2_S2x1x1_0 main_v0
  let main_c : IVec S_ 32 := constantI S_ 32 1#32
  let main_v2 : IVec S2x1x1 32 := broadcastInDim S2x1x1 ![] bcast_S_S2x1x1 main_c
  let main_v3 : IVec S2x1x1 1 := cmpi .eq main_v1 main_v2
  let main_v4 : FVec F S8192x1024 .f32 := (extf .f32 · bitsLt_bf16_f32) main_arg3
  let main_v5 : FVec F S2816x1024 .bf16 := shapeCast S2816x1024 main_arg2 shapeCasts_S1x2816x1024_S2816x1024
  let main_v6 : FVec F S2816x1024 .f32 := (extf .f32 · bitsLt_bf16_f32) main_v5
  let main_v7 : FVec F S1024x2816 .f32 := (transpose S1024x2816 [1, 0] · transposes_S2816x1024_S1024x2816_1_0) main_v6
  let main_v8 : FVec F S8192x2816 .f32 := (fun l r => Host.dotGeneral dot_S8192x1024_S1024x2816_S8192x2816_1_0_0_1_n_n none l r) main_v4 main_v7
  let main_v9 : FVec F S8192x2816 .f32 := mulf main_v8 main_arg1
  let main_v10 : FVec F S8192x2816 .f32 := Host.absf main_v9
  let main_cst : FVec F S_ .f32 := constant S_ .f32 0x7F800000#32
  let main_v11 : FVec F S8192x2816 .f32 := broadcastInDim S8192x2816 ![] bcast_S_S8192x2816 main_cst
  let main_v12 : IVec S8192x2816 1 := cmpf .olt main_v10 main_v11
  let main_v13 : IVec S1x8192x2816 1 := broadcastInDim S1x8192x2816 ![1, 2] bcast_S8192x2816_S1x8192x2816_1_2 main_v12
  let main_v14 : IVec S2x8192x2816 1 := broadcastInDim S2x8192x2816 ![0, 1, 2] bcast_S2x1x1_S2x8192x2816_0_1_2 main_v3
  let main_v15 : IVec S2x8192x2816 1 := broadcastInDim S2x8192x2816 ![0, 1, 2] bcast_S1x8192x2816_S2x8192x2816_0_1_2 main_v13
  let main_v16 : IVec S2x8192x2816 1 := ori main_v14 main_v15
  main_v16
-- ==== On_gated_columns.lean ====
abbrev S8192x1792 : Shape := ⟨2, ![8192, 1792]⟩
abbrev S6x128x128 : Shape := ⟨3, ![6, 128, 128]⟩
abbrev S6x128 : Shape := ⟨2, ![6, 128]⟩
abbrev S256x512 : Shape := ⟨2, ![256, 512]⟩
abbrev S1024 : Shape := ⟨1, ![1024]⟩
abbrev S_ : Shape := ⟨0, ![]⟩
abbrev S8192x1024 : Shape := ⟨2, ![8192, 1024]⟩

class Facts : Prop where
  bcast_S_S1024 : S_.BroadcastsInDim S1024 (![] : Fin 0 → Fin S1024.rank)
  bcast_S1024_S8192x1024_1 : S1024.BroadcastsInDim S8192x1024 (![1] : Fin 1 → Fin S8192x1024.rank)

variable [Facts]

def fn {F : FTy → Type} [FloatOps F] (main_arg0 : FVec F S8192x1792 .bf16) (main_arg1 : FVec F S6x128x128 .f32) (main_arg2 : FVec F S6x128 .f32) (main_arg3 : FVec F S6x128 .f32) (main_arg4 : FVec F S6x128 .f32) (main_arg5 : FVec F S256x512 .bf16) : IVec S8192x1024 1 :=
  let main_v0 : IVec S1024 32 := iotaInDim S1024 32 0
  let main_c : IVec S_ 32 := constantI S_ 32 768#32
  let main_v1 : IVec S1024 32 := broadcastInDim S1024 ![] bcast_S_S1024 main_c
  let main_v2 : IVec S1024 1 := cmpi .slt main_v0 main_v1
  let main_v3 : IVec S8192x1024 1 := broadcastInDim S8192x1024 ![1] bcast_S1024_S8192x1024_1 main_v2
  main_v3
-- ==== On_gating_part.lean ====
abbrev S8192x1792 : Shape := ⟨2, ![8192, 1792]⟩
abbrev S8192x1024 : Shape := ⟨2, ![8192, 1024]⟩
abbrev S6x128x128 : Shape := ⟨3, ![6, 128, 128]⟩
abbrev S6x128 : Shape := ⟨2, ![6, 128]⟩
abbrev S256x512 : Shape := ⟨2, ![256, 512]⟩
abbrev S1792 : Shape := ⟨1, ![1792]⟩
abbrev S_ : Shape := ⟨0, ![]⟩
abbrev S128x128 : Shape := ⟨2, ![128, 128]⟩
abbrev S8x128 : Shape := ⟨2, ![8, 128]⟩

class Facts : Prop where
  bcast_S_S1792 : S_.BroadcastsInDim S1792 (![] : Fin 0 → Fin S1792.rank)
  bcast_S1792_S8192x1792_1 : S1792.BroadcastsInDim S8192x1792 (![1] : Fin 1 → Fin S8192x1792.rank)
  bcast_S_S6x128x128 : S_.BroadcastsInDim S6x128x128 (![] : Fin 0 → Fin S6x128x128.rank)
  bcast_S_S128x128 : S_.BroadcastsInDim S128x128 (![] : Fin 0 → Fin S128x128.rank)
  bcast_S_S8x128 : S_.BroadcastsInDim S8x128 (![] : Fin 0 → Fin S8x128.rank)
  bcast_S_S256x512 : S_.BroadcastsInDim S256x512 (![] : Fin 0 → Fin S256x512.rank)

variable [Facts]

def fn {F : FTy → Type} [FloatOps F] (main_arg0 : FVec F S8192x1792 .bf16) (main_arg1 : FVec F S8192x1024 .f32) (main_arg2 : FVec F S6x128x128 .f32) (main_arg3 : FVec F S6x128 .f32) (main_arg4 : FVec F S6x128 .f32) (main_arg5 : FVec F S6x128 .f32) (main_arg6 : FVec F S256x512 .bf16) : IVec S8192x1792 1 × IVec S6x128x128 1 × IVec S128x128 1 × IVec S8x128 1 × IVec S8x128 1 × IVec S256x512 1 :=
  let main_v0 : IVec S1792 32 := iotaInDim S1792 32 0
  let main_c : IVec S_ 32 := constantI S_ 32 1536#32
  let main_v1 : IVec S1792 32 := broadcastInDim S1792 ![] bcast_S_S1792 main_c
  let main_v2 : IVec S1792 1 := cmpi .slt main_v0 main_v1
  let main_v3 : IVec S8192x1792 1 := broadcastInDim S8192x1792 ![1] bcast_S1792_S8192x1792_1 main_v2
  let main_c_0 : IVec S_ 1 := constantI S_ 1 1#1
  let main_v4 : IVec S6x128x128 1 := broadcastInDim S6x128x128 ![] bcast_S_S6x128x128 main_c_0
  let main_c_1 : IVec S_ 1 := constantI S_ 1 1#1
  let main_v5 : IVec S128x128 1 := broadcastInDim S128x128 ![] bcast_S_S128x128 main_c_1
  let main_c_2 : IVec S_ 1 := constantI S_ 1 1#1
  let main_v6 : IVec S8x128 1 := broadcastInDim S8x128 ![] bcast_S_S8x128 main_c_2
  let main_c_3 : IVec S_ 1 := constantI S_ 1 1#1
  let main_v7 : IVec S8x128 1 := broadcastInDim S8x128 ![] bcast_S_S8x128 main_c_3
  let main_c_4 : IVec S_ 1 := constantI S_ 1 0#1
  let main_v8 : IVec S256x512 1 := broadcastInDim S256x512 ![] bcast_S_S256x512 main_c_4
  (main_v3, main_v4, main_v5, main_v6, main_v7, main_v8)
-- ==== Pre_attended_finite.lean ====
abbrev S8192x1792 : Shape := ⟨2, ![8192, 1792]⟩
abbrev S6x128x128 : Shape := ⟨3, ![6, 128, 128]⟩
abbrev S6x128 : Shape := ⟨2, ![6, 128]⟩
abbrev S256x512 : Shape := ⟨2, ![256, 512]⟩
abbrev S8192x256 : Shape := ⟨2, ![8192, 256]⟩
abbrev S256x256 : Shape := ⟨2, ![256, 256]⟩
abbrev S_ : Shape := ⟨0, ![]⟩

class Facts : Prop where
  slices_S8192x1792_S8192x256_0_1536 : S8192x1792.Slices ![0, 1536] S8192x256
  bitsLt_bf16_f32 : FTy.bits .bf16 < FTy.bits .f32
  slices_S256x512_S256x256_0_0 : S256x512.Slices ![0, 0] S256x256
  bcast_S_S8192x256 : S_.BroadcastsInDim S8192x256 (![] : Fin 0 → Fin S8192x256.rank)
  bcast_S_S256x256 : S_.BroadcastsInDim S256x256 (![] : Fin 0 → Fin S256x256.rank)

variable [Facts]

def fn {F : FTy → Type} [FloatOps F] (main_arg0 : FVec F S8192x1792 .bf16) (main_arg1 : FVec F S6x128x128 .f32) (main_arg2 : FVec F S6x128 .f32) (main_arg3 : FVec F S6x128 .f32) (main_arg4 : FVec F S6x128 .f32) (main_arg5 : FVec F S256x512 .bf16) : IVec S8192x256 1 × IVec S256x256 1 :=
  let main_v0 : FVec F S8192x256 .bf16 := (extractStridedSlice S8192x256 ![0, 1536] · slices_S8192x1792_S8192x256_0_1536) main_arg0
  let main_v1 : FVec F S8192x256 .f32 := (extf .f32 · bitsLt_bf16_f32) main_v0
  let main_v2 : FVec F S256x256 .bf16 := (extractStridedSlice S256x256 ![0, 0] · slices_S256x512_S256x256_0_0) main_arg5
  let main_v3 : FVec F S256x256 .f32 := (extf .f32 · bitsLt_bf16_f32) main_v2
  let main_v4 : FVec F S8192x256 .f32 := Host.absf main_v1
  let main_cst : FVec F S_ .f32 := constant S_ .f32 0x7F800000#32
  let main_v5 : FVec F S8192x256 .f32 := broadcastInDim S8192x256 ![] bcast_S_S8192x256 main_cst
  let main_v6 : IVec S8192x256 1 := cmpf .olt main_v4 main_v5
  let main_v7 : FVec F S256x256 .f32 := Host.absf main_v3
  let main_cst_0 : FVec F S_ .f32 := constant S_ .f32 0x7F800000#32
  let main_v8 : FVec F S256x256 .f32 := broadcastInDim S256x256 ![] bcast_S_S256x256 main_cst_0
  let main_v9 : IVec S256x256 1 := cmpf .olt main_v7 main_v8
  (main_v6, main_v9)
-- ==== Pre_core_and_shard_in_range.lean ====
abbrev S1x4x1024x1408 : Shape := ⟨4, ![1, 4, 1024, 1408]⟩
abbrev S1x4x512x1408 : Shape := ⟨4, ![1, 4, 512, 1408]⟩
abbrev S3x1x512x1408 : Shape := ⟨4, ![3, 1, 512, 1408]⟩
abbrev S2 : Shape := ⟨1, ![2]⟩
abbrev S_ : Shape := ⟨0, ![]⟩

class Facts : Prop where
  bcast_S_S2 : S_.BroadcastsInDim S2 (![] : Fin 0 → Fin S2.rank)

variable [Facts]

noncomputable abbrev lit0 : Fin 2 → BitVec 32 := fun
  | 0 => 2#32 | 1 => 4#32
  | _ => 0#32

def fn {F : FTy → Type} [FloatOps F] (main_arg0 : FVec F S1x4x1024x1408 .f32) (main_arg1 : FVec F S1x4x512x1408 .f32) (main_arg2 : FVec F S3x1x512x1408 .bf16) (main_arg3 : IVec S2 32) : IVec S2 1 :=
  let main_c : IVec S2 32 := fun i => lit0 (S2.rowMajor i)
  let main_c_0 : IVec S_ 32 := constantI S_ 32 0#32
  let main_v0 : IVec S2 32 := broadcastInDim S2 ![] bcast_S_S2 main_c_0
  let main_v1 : IVec S2 1 := cmpi .sge main_arg3 main_v0
  let main_v2 : IVec S2 1 := cmpi .slt main_arg3 main_c
  let main_v3 : IVec S2 1 := andi main_v1 main_v2
  main_v3
-- ==== Pre_core_is_zero_or_one.lean ====
abbrev S1x4x1024x1408 : Shape := ⟨4, ![1, 4, 1024, 1408]⟩
abbrev S1x4x512x1408 : Shape := ⟨4, ![1, 4, 512, 1408]⟩
abbrev S1 : Shape := ⟨1, ![1]⟩
abbrev S_ : Shape := ⟨0, ![]⟩

class Facts : Prop where
  bcast_S_S1 : S_.BroadcastsInDim S1 (![] : Fin 0 → Fin S1.rank)

variable [Facts]

def fn {F : FTy → Type} [FloatOps F] (main_arg0 : FVec F S1x4x1024x1408 .f32) (main_arg1 : FVec F S1x4x512x1408 .f32) (main_arg2 : IVec S1 32) : IVec S1 1 :=
  let main_c : IVec S_ 32 := constantI S_ 32 0#32
  let main_v0 : IVec S1 32 := broadcastInDim S1 ![] bcast_S_S1 main_c
  let main_v1 : IVec S1 1 := cmpi .eq main_arg2 main_v0
  let main_c_0 : IVec S_ 32 := constantI S_ 32 1#32
  let main_v2 : IVec S1 32 := broadcastInDim S1 ![] bcast_S_S1 main_c_0
  let main_v3 : IVec S1 1 := cmpi .eq main_arg2 main_v2
  let main_v4 : IVec S1 1 := ori main_v1 main_v3
  main_v4
-- ==== Pre_gated_cotangent_finite.lean ====
abbrev S8192x2816 : Shape := ⟨2, ![8192, 2816]⟩
abbrev S1x2816x1024 : Shape := ⟨3, ![1, 2816, 1024]⟩
abbrev S8192x1024 : Shape := ⟨2, ![8192, 1024]⟩
abbrev S2816x1024 : Shape := ⟨2, ![2816, 1024]⟩
abbrev S1024x2816 : Shape := ⟨2, ![1024, 2816]⟩
abbrev S_ : Shape := ⟨0, ![]⟩

class Facts : Prop where
  bitsLt_bf16_f32 : FTy.bits .bf16 < FTy.bits .f32
  shapeCasts_S1x2816x1024_S2816x1024 : S1x2816x1024.ShapeCasts S2816x1024
  transposes_S2816x1024_S1024x2816_1_0 : S2816x1024.Transposes [1, 0] S1024x2816
  bcast_S_S8192x2816 : S_.BroadcastsInDim S8192x2816 (![] : Fin 0 → Fin S8192x2816.rank)
  dot_S8192x1024_S1024x2816_S8192x2816_1_0_0_1_n_n_wf : DotDims.WF S8192x1024 S1024x2816 S8192x2816 [1] [0] [0] [1] [] []

variable [Facts]

def dot_S8192x1024_S1024x2816_S8192x2816_1_0_0_1_n_n : DotDims S8192x1024 S1024x2816 S8192x2816 where
  lhsContracting := [1]
  rhsContracting := [0]
  lhsNonContracting := [0]
  rhsNonContracting := [1]
  lhsBatch := []
  rhsBatch := []
  wf := dot_S8192x1024_S1024x2816_S8192x2816_1_0_0_1_n_n_wf
def fn {F : FTy → Type} [FloatOps F] (main_arg0 : FVec F S8192x2816 .f32) (main_arg1 : FVec F S8192x2816 .f32) (main_arg2 : FVec F S1x2816x1024 .bf16) (main_arg3 : FVec F S8192x1024 .bf16) : IVec S8192x2816 1 :=
  let main_v0 : FVec F S8192x1024 .f32 := (extf .f32 · bitsLt_bf16_f32) main_arg3
  let main_v1 : FVec F S2816x1024 .bf16 := shapeCast S2816x1024 main_arg2 shapeCasts_S1x2816x1024_S2816x1024
  let main_v2 : FVec F S2816x1024 .f32 := (extf .f32 · bitsLt_bf16_f32) main_v1
  let main_v3 : FVec F S1024x2816 .f32 := (transpose S1024x2816 [1, 0] · transposes_S2816x1024_S1024x2816_1_0) main_v2
  let main_v4 : FVec F S8192x2816 .f32 := (fun l r => Host.dotGeneral dot_S8192x1024_S1024x2816_S8192x2816_1_0_0_1_n_n none l r) main_v0 main_v3
  let main_v5 : FVec F S8192x2816 .f32 := mulf main_v4 main_arg1
  let main_v6 : FVec F S8192x2816 .f32 := Host.absf main_v5
  let main_cst : FVec F S_ .f32 := constant S_ .f32 0x7F800000#32
  let main_v7 : FVec F S8192x2816 .f32 := broadcastInDim S8192x2816 ![] bcast_S_S8192x2816 main_cst
  let main_v8 : IVec S8192x2816 1 := cmpf .olt main_v6 main_v7
  main_v8
-- ==== Pre_memory_finite.lean ====
abbrev S8192x1792 : Shape := ⟨2, ![8192, 1792]⟩
abbrev S8192x1024 : Shape := ⟨2, ![8192, 1024]⟩
abbrev S6x128x128 : Shape := ⟨3, ![6, 128, 128]⟩
abbrev S6x128 : Shape := ⟨2, ![6, 128]⟩
abbrev S256x512 : Shape := ⟨2, ![256, 512]⟩
abbrev S8192x256 : Shape := ⟨2, ![8192, 256]⟩
abbrev S256x256 : Shape := ⟨2, ![256, 256]⟩
abbrev S_ : Shape := ⟨0, ![]⟩

class Facts : Prop where
  slices_S8192x1792_S8192x256_0_1536 : S8192x1792.Slices ![0, 1536] S8192x256
  bitsLt_bf16_f32 : FTy.bits .bf16 < FTy.bits .f32
  slices_S256x512_S256x256_0_0 : S256x512.Slices ![0, 0] S256x256
  bcast_S_S8192x256 : S_.BroadcastsInDim S8192x256 (![] : Fin 0 → Fin S8192x256.rank)
  bcast_S_S256x256 : S_.BroadcastsInDim S256x256 (![] : Fin 0 → Fin S256x256.rank)

variable [Facts]

def fn {F : FTy → Type} [FloatOps F] (main_arg0 : FVec F S8192x1792 .bf16) (main_arg1 : FVec F S8192x1024 .f32) (main_arg2 : FVec F S6x128x128 .f32) (main_arg3 : FVec F S6x128 .f32) (main_arg4 : FVec F S6x128 .f32) (main_arg5 : FVec F S6x128 .f32) (main_arg6 : FVec F S256x512 .bf16) : IVec S8192x256 1 × IVec S256x256 1 :=
  let main_v0 : FVec F S8192x256 .bf16 := (extractStridedSlice S8192x256 ![0, 1536] · slices_S8192x1792_S8192x256_0_1536) main_arg0
  let main_v1 : FVec F S8192x256 .f32 := (extf .f32 · bitsLt_bf16_f32) main_v0
  let main_v2 : FVec F S256x256 .bf16 := (extractStridedSlice S256x256 ![0, 0] · slices_S256x512_S256x256_0_0) main_arg6
  let main_v3 : FVec F S256x256 .f32 := (extf .f32 · bitsLt_bf16_f32) main_v2
  let main_v4 : FVec F S8192x256 .f32 := Host.absf main_v1
  let main_cst : FVec F S_ .f32 := constant S_ .f32 0x7F800000#32
  let main_v5 : FVec F S8192x256 .f32 := broadcastInDim S8192x256 ![] bcast_S_S8192x256 main_cst
  let main_v6 : IVec S8192x256 1 := cmpf .olt main_v4 main_v5
  let main_v7 : FVec F S256x256 .f32 := Host.absf main_v3
  let main_cst_0 : FVec F S_ .f32 := constant S_ .f32 0x7F800000#32
  let main_v8 : FVec F S256x256 .f32 := broadcastInDim S256x256 ![] bcast_S_S256x256 main_cst_0
  let main_v9 : IVec S256x256 1 := cmpf .olt main_v7 main_v8
  (main_v6, main_v9)
-- ==== Pre_swa_finite.lean ====
abbrev S8192x1280 : Shape := ⟨2, ![8192, 1280]⟩
abbrev S12 : Shape := ⟨1, ![12]⟩
abbrev S256x512 : Shape := ⟨2, ![256, 512]⟩
abbrev S8192x896 : Shape := ⟨2, ![8192, 896]⟩
abbrev S8192x256 : Shape := ⟨2, ![8192, 256]⟩
abbrev S256x256 : Shape := ⟨2, ![256, 256]⟩
abbrev S_ : Shape := ⟨0, ![]⟩

class Facts : Prop where
  slices_S8192x1280_S8192x896_0_0 : S8192x1280.Slices ![0, 0] S8192x896
  bitsLt_bf16_f32 : FTy.bits .bf16 < FTy.bits .f32
  slices_S8192x1280_S8192x256_0_1024 : S8192x1280.Slices ![0, 1024] S8192x256
  slices_S256x512_S256x256_0_0 : S256x512.Slices ![0, 0] S256x256
  bcast_S_S8192x896 : S_.BroadcastsInDim S8192x896 (![] : Fin 0 → Fin S8192x896.rank)
  bcast_S_S8192x256 : S_.BroadcastsInDim S8192x256 (![] : Fin 0 → Fin S8192x256.rank)
  bcast_S_S256x256 : S_.BroadcastsInDim S256x256 (![] : Fin 0 → Fin S256x256.rank)
  bcast_S_S12 : S_.BroadcastsInDim S12 (![] : Fin 0 → Fin S12.rank)

variable [Facts]

def fn {F : FTy → Type} [FloatOps F] (main_arg0 : FVec F S8192x1280 .bf16) (main_arg1 : FVec F S12 .f32) (main_arg2 : FVec F S256x512 .bf16) : IVec S8192x896 1 × IVec S8192x256 1 × IVec S256x256 1 × IVec S12 1 :=
  let main_v0 : FVec F S8192x896 .bf16 := (extractStridedSlice S8192x896 ![0, 0] · slices_S8192x1280_S8192x896_0_0) main_arg0
  let main_v1 : FVec F S8192x896 .f32 := (extf .f32 · bitsLt_bf16_f32) main_v0
  let main_v2 : FVec F S8192x256 .bf16 := (extractStridedSlice S8192x256 ![0, 1024] · slices_S8192x1280_S8192x256_0_1024) main_arg0
  let main_v3 : FVec F S8192x256 .f32 := (extf .f32 · bitsLt_bf16_f32) main_v2
  let main_v4 : FVec F S256x256 .bf16 := (extractStridedSlice S256x256 ![0, 0] · slices_S256x512_S256x256_0_0) main_arg2
  let main_v5 : FVec F S256x256 .f32 := (extf .f32 · bitsLt_bf16_f32) main_v4
  let main_v6 : FVec F S8192x896 .f32 := Host.absf main_v1
  let main_cst : FVec F S_ .f32 := constant S_ .f32 0x7F800000#32
  let main_v7 : FVec F S8192x896 .f32 := broadcastInDim S8192x896 ![] bcast_S_S8192x896 main_cst
  let main_v8 : IVec S8192x896 1 := cmpf .olt main_v6 main_v7
  let main_v9 : FVec F S8192x256 .f32 := Host.absf main_v3
  let main_cst_0 : FVec F S_ .f32 := constant S_ .f32 0x7F800000#32
  let main_v10 : FVec F S8192x256 .f32 := broadcastInDim S8192x256 ![] bcast_S_S8192x256 main_cst_0
  let main_v11 : IVec S8192x256 1 := cmpf .olt main_v9 main_v10
  let main_v12 : FVec F S256x256 .f32 := Host.absf main_v5
  let main_cst_1 : FVec F S_ .f32 := constant S_ .f32 0x7F800000#32
  let main_v13 : FVec F S256x256 .f32 := broadcastInDim S256x256 ![] bcast_S_S256x256 main_cst_1
  let main_v14 : IVec S256x256 1 := cmpf .olt main_v12 main_v13
  let main_cst_2 : FVec F S_ .f32 := constant S_ .f32 0x7F800000#32
  let main_v15 : FVec F S12 .f32 := broadcastInDim S12 ![] bcast_S_S12 main_cst_2
  let main_v16 : IVec S12 1 := cmpf .olt main_arg1 main_v15
  (main_v8, main_v11, main_v14, main_v16)
-- ==== Kernel.lean ====
abbrev S8192x1792 : Shape := ⟨2, ![8192, 1792]⟩
abbrev S8192x1024 : Shape := ⟨2, ![8192, 1024]⟩
abbrev S6x128x128 : Shape := ⟨3, ![6, 128, 128]⟩
abbrev S6x128 : Shape := ⟨2, ![6, 128]⟩
abbrev S256x512 : Shape := ⟨2, ![256, 512]⟩
abbrev S128x6 : Shape := ⟨2, ![128, 6]⟩
abbrev S_ : Shape := ⟨0, ![]⟩
abbrev S128x128 : Shape := ⟨2, ![128, 128]⟩
abbrev S8x128 : Shape := ⟨2, ![8, 128]⟩
abbrev S128x1536 : Shape := ⟨2, ![128, 1536]⟩
abbrev S128x256 : Shape := ⟨2, ![128, 256]⟩
abbrev S256x256 : Shape := ⟨2, ![256, 256]⟩
abbrev S128x1024 : Shape := ⟨2, ![128, 1024]⟩
abbrev S128x1792 : Shape := ⟨2, ![128, 1792]⟩
abbrev S1x128x128 : Shape := ⟨3, ![1, 128, 128]⟩
abbrev S128x1 : Shape := ⟨2, ![128, 1]⟩
abbrev S1x128 : Shape := ⟨2, ![1, 128]⟩
abbrev S256x128 : Shape := ⟨2, ![256, 128]⟩
abbrev S128 : Shape := ⟨1, ![128]⟩
abbrev S256 : Shape := ⟨1, ![256]⟩
abbrev S1x256 : Shape := ⟨2, ![1, 256]⟩

abbrev nBuf : Space → Nat
  | .hbm => 23
  | .vmem => 19
  | .smem => 0
  | _ => 0

abbrev bufTy : (tb : Table) → Fin (tcTables nBuf tb) → BufTy
  | .hbm, ⟨0, _⟩ => ⟨S8192x1792, .bf16⟩
  | .hbm, ⟨1, _⟩ => ⟨S8192x1024, .f32⟩
  | .hbm, ⟨2, _⟩ => ⟨S6x128x128, .f32⟩
  | .hbm, ⟨3, _⟩ => ⟨S6x128, .f32⟩
  | .hbm, ⟨4, _⟩ => ⟨S6x128, .f32⟩
  | .hbm, ⟨5, _⟩ => ⟨S6x128, .f32⟩
  | .hbm, ⟨6, _⟩ => ⟨S256x512, .bf16⟩
  | .hbm, ⟨7, _⟩ => ⟨S128x6, .f32⟩
  | .hbm, ⟨8, _⟩ => ⟨S_, .i32⟩
  | .hbm, ⟨9, _⟩ => ⟨S_, .f32⟩
  | .hbm, ⟨10, _⟩ => ⟨S128x128, .f32⟩
  | .hbm, ⟨11, _⟩ => ⟨S_, .i32⟩
  | .hbm, ⟨12, _⟩ => ⟨S_, .f32⟩
  | .hbm, ⟨13, _⟩ => ⟨S8x128, .f32⟩
  | .hbm, ⟨14, _⟩ => ⟨S_, .i32⟩
  | .hbm, ⟨15, _⟩ => ⟨S_, .f32⟩
  | .hbm, ⟨16, _⟩ => ⟨S8x128, .f32⟩
  | .hbm, ⟨17, _⟩ => ⟨S8192x1792, .bf16⟩
  | .hbm, ⟨18, _⟩ => ⟨S6x128x128, .f32⟩
  | .hbm, ⟨19, _⟩ => ⟨S128x128, .f32⟩
  | .hbm, ⟨20, _⟩ => ⟨S8x128, .f32⟩
  | .hbm, ⟨21, _⟩ => ⟨S8x128, .f32⟩
  | .hbm, ⟨22, _⟩ => ⟨S256x512, .f32⟩
  | .local _ .vmem, ⟨0, _⟩ => ⟨S128x1536, .bf16⟩
  | .local _ .vmem, ⟨1, _⟩ => ⟨S128x1536, .bf16⟩
  | .local _ .vmem, ⟨2, _⟩ => ⟨S128x256, .bf16⟩
  | .local _ .vmem, ⟨3, _⟩ => ⟨S128x256, .bf16⟩
  | .local _ .vmem, ⟨4, _⟩ => ⟨S6x128x128, .f32⟩
  | .local _ .vmem, ⟨5, _⟩ => ⟨S128x128, .f32⟩
  | .local _ .vmem, ⟨6, _⟩ => ⟨S8x128, .f32⟩
  | .local _ .vmem, ⟨7, _⟩ => ⟨S8x128, .f32⟩
  | .local _ .vmem, ⟨8, _⟩ => ⟨S256x256, .bf16⟩
  | .local _ .vmem, ⟨9, _⟩ => ⟨S256x256, .bf16⟩
  | .local _ .vmem, ⟨10, _⟩ => ⟨S128x1024, .f32⟩
  | .local _ .vmem, ⟨11, _⟩ => ⟨S128x1024, .f32⟩
  | .local _ .vmem, ⟨12, _⟩ => ⟨S128x1792, .bf16⟩
  | .local _ .vmem, ⟨13, _⟩ => ⟨S128x1792, .bf16⟩
  | .local _ .vmem, ⟨14, _⟩ => ⟨S6x128x128, .f32⟩
  | .local _ .vmem, ⟨15, _⟩ => ⟨S128x128, .f32⟩
  | .local _ .vmem, ⟨16, _⟩ => ⟨S8x128, .f32⟩
  | .local _ .vmem, ⟨17, _⟩ => ⟨S8x128, .f32⟩
  | .local _ .vmem, ⟨18, _⟩ => ⟨S256x512, .f32⟩
  | _, _ => ⟨S8192x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_c : Ref sig .tc := ⟨.hbm, 8, rfl⟩
abbrev main_call0_v0 : Ref sig .tc := ⟨.hbm, 9, rfl⟩
abbrev main_v1 : Ref sig .tc := ⟨.hbm, 10, rfl⟩
abbrev main_c_0 : Ref sig .tc := ⟨.hbm, 11, rfl⟩
abbrev main_call1_v0 : Ref sig .tc := ⟨.hbm, 12, rfl⟩
abbrev main_v2 : Ref sig .tc := ⟨.hbm, 13, rfl⟩
abbrev main_c_1 : Ref sig .tc := ⟨.hbm, 14, rfl⟩
abbrev main_call2_v0 : Ref sig .tc := ⟨.hbm, 15, rfl⟩
abbrev main_v3 : Ref sig .tc := ⟨.hbm, 16, rfl⟩
abbrev main_v4_0 : Ref sig .tc := ⟨.hbm, 17, rfl⟩
abbrev main_v4_1 : Ref sig .tc := ⟨.hbm, 18, rfl⟩
abbrev main_v4_2 : Ref sig .tc := ⟨.hbm, 19, rfl⟩
abbrev main_v4_3 : Ref sig .tc := ⟨.hbm, 20, rfl⟩
abbrev main_v4_4 : Ref sig .tc := ⟨.hbm, 21, rfl⟩
abbrev main_v4_5 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc0_stg10_0 : Ref sig .tc := ⟨.vmem, 14, rfl⟩
abbrev cc0_stg11_0 : Ref sig .tc := ⟨.vmem, 15, rfl⟩
abbrev cc0_stg12_0 : Ref sig .tc := ⟨.vmem, 16, rfl⟩
abbrev cc0_stg13_0 : Ref sig .tc := ⟨.vmem, 17, rfl⟩
abbrev cc0_stg14_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem9_1 : DmaSem sig := 13
abbrev cc0_sem10_0 : DmaSem sig := 14
abbrev cc0_sem11_0 : DmaSem sig := 15
abbrev cc0_sem12_0 : DmaSem sig := 16
abbrev cc0_sem13_0 : DmaSem sig := 17
abbrev cc0_sem14_0 : DmaSem sig := 18

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x1792 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S6x128x128 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S128x128 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S8x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S8x128 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S256x512 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]
-- ==== ReferenceIdeal.lean ====
abbrev S8192x1792 : Shape := ⟨2, ![8192, 1792]⟩
abbrev S8192x1024 : Shape := ⟨2, ![8192, 1024]⟩
abbrev S6x128x128 : Shape := ⟨3, ![6, 128, 128]⟩
abbrev S6x128 : Shape := ⟨2, ![6, 128]⟩
abbrev S256x512 : Shape := ⟨2, ![256, 512]⟩
abbrev S8192x1536 : Shape := ⟨2, ![8192, 1536]⟩
abbrev S8192x256 : Shape := ⟨2, ![8192, 256]⟩
abbrev S_ : Shape := ⟨0, ![]⟩
abbrev S8192x768 : Shape := ⟨2, ![8192, 768]⟩
abbrev S64x128x6x128 : Shape := ⟨4, ![64, 128, 6, 128]⟩
abbrev S64x128x6 : Shape := ⟨3, ![64, 128, 6]⟩
abbrev S64x128x6x1 : Shape := ⟨4, ![64, 128, 6, 1]⟩
abbrev S1x1x6x128 : Shape := ⟨4, ![1, 1, 6, 128]⟩
abbrev S128x128 : Shape := ⟨2, ![128, 128]⟩
abbrev S1x128x128 : Shape := ⟨3, ![1, 128, 128]⟩
abbrev S6x64x128x128 : Shape := ⟨4, ![6, 64, 128, 128]⟩
abbrev S128x6 : Shape := ⟨2, ![128, 6]⟩
abbrev S1x128x6x1 : Shape := ⟨4, ![1, 128, 6, 1]⟩
abbrev S8192x4x64 : Shape := ⟨3, ![8192, 4, 64]⟩
abbrev S256x256 : Shape := ⟨2, ![256, 256]⟩
abbrev S256x4x64 : Shape := ⟨3, ![256, 4, 64]⟩
abbrev S4x8192x256 : Shape := ⟨3, ![4, 8192, 256]⟩
abbrev S4x8192 : Shape := ⟨2, ![4, 8192]⟩
abbrev S4x8192x1 : Shape := ⟨3, ![4, 8192, 1]⟩
abbrev S4x64x8192 : Shape := ⟨3, ![4, 64, 8192]⟩
abbrev S4x64x256 : Shape := ⟨3, ![4, 64, 256]⟩
abbrev S4x256x64 : Shape := ⟨3, ![4, 256, 64]⟩
abbrev S4x8192x64 : Shape := ⟨3, ![4, 8192, 64]⟩
abbrev S8x128 : Shape := ⟨2, ![8, 128]⟩

abbrev nBuf : Space → Nat
  | .hbm => 276
  | .vmem => 0
  | .smem => 0
  | _ => 0

abbrev hbmTy0_0 (i : Nat) : BufTy := match i % 128 with
  | 0 => ⟨S8192x1792, .bf16⟩
  | 1 => ⟨S8192x1024, .f32⟩
  | 2 => ⟨S6x128x128, .f32⟩
  | 3 => ⟨S6x128, .f32⟩
  | 4 => ⟨S6x128, .f32⟩
  | 5 => ⟨S6x128, .f32⟩
  | 6 => ⟨S256x512, .bf16⟩
  | 7 => ⟨S8192x1792, .f32⟩
  | 8 => ⟨S256x512, .f32⟩
  | 9 => ⟨S8192x1536, .f32⟩
  | 10 => ⟨S8192x256, .f32⟩
  | 11 => ⟨S8192x1536, .f32⟩
  | 12 => ⟨S8192x1536, .f32⟩
  | 13 => ⟨S8192x1536, .f32⟩
  | 14 => ⟨S_, .f32⟩
  | 15 => ⟨S8192x1536, .f32⟩
  | 16 => ⟨S8192x1536, .f32⟩
  | 17 => ⟨S_, .f32⟩
  | 18 => ⟨S8192x1536, .f32⟩
  | 19 => ⟨S8192x1536, .f32⟩
  | 20 => ⟨S8192x1536, .f32⟩
  | 21 => ⟨S_, .f32⟩
  | 22 => ⟨S8192x1536, .f32⟩
  | 23 => ⟨S8192x1536, .f32⟩
  | 24 => ⟨S8192x1536, .f32⟩
  | 25 => ⟨S_, .f32⟩
  | 26 => ⟨S8192x1536, .f32⟩
  | 27 => ⟨S8192x1536, .f32⟩
  | 28 => ⟨S_, .f32⟩
  | 29 => ⟨S8192x1536, .f32⟩
  | 30 => ⟨S8192x1536, .f32⟩
  | 31 => ⟨S8192x1536, .f32⟩
  | 32 => ⟨S_, .f32⟩
  | 33 => ⟨S8192x1536, .f32⟩
  | 34 => ⟨S8192x1536, .f32⟩
  | 35 => ⟨S_, .f32⟩
  | 36 => ⟨S8192x1536, .f32⟩
  | 37 => ⟨S8192x1536, .f32⟩
  | 38 => ⟨S8192x1536, .f32⟩
  | 39 => ⟨S8192x768, .f32⟩
  | 40 => ⟨S8192x768, .f32⟩
  | 41 => ⟨S64x128x6x128, .f32⟩
  | 42 => ⟨S_, .f32⟩
  | 43 => ⟨S64x128x6, .f32⟩
  | 44 => ⟨S64x128x6x1, .f32⟩
  | 45 => ⟨S_, .f32⟩
  | 46 => ⟨S64x128x6x1, .f32⟩
  | 47 => ⟨S64x128x6x1, .f32⟩
  | 48 => ⟨S64x128x6x128, .f32⟩
  | 49 => ⟨S64x128x6x128, .f32⟩
  | 50 => ⟨S64x128x6x128, .f32⟩
  | 51 => ⟨S_, .f32⟩
  | 52 => ⟨S64x128x6x128, .f32⟩
  | 53 => ⟨S64x128x6x128, .f32⟩
  | 54 => ⟨S_, .f32⟩
  | 55 => ⟨S64x128x6, .f32⟩
  | 56 => ⟨S64x128x6x1, .f32⟩
  | 57 => ⟨S_, .f32⟩
  | 58 => ⟨S64x128x6x1, .f32⟩
  | 59 => ⟨S64x128x6x1, .f32⟩
  | 60 => ⟨S64x128x6x128, .f32⟩
  | 61 => ⟨S64x128x6x128, .f32⟩
  | 62 => ⟨S_, .f32⟩
  | 63 => ⟨S64x128x6x1, .f32⟩
  | 64 => ⟨S64x128x6x1, .f32⟩
  | 65 => ⟨S64x128x6x1, .f32⟩
  | 66 => ⟨S64x128x6x1, .f32⟩
  | 67 => ⟨S_, .f32⟩
  | 68 => ⟨S64x128x6x1, .f32⟩
  | 69 => ⟨S64x128x6x1, .f32⟩
  | 70 => ⟨S64x128x6x128, .f32⟩
  | 71 => ⟨S64x128x6x128, .f32⟩
  | 72 => ⟨S1x1x6x128, .f32⟩
  | 73 => ⟨S64x128x6x128, .f32⟩
  | 74 => ⟨S64x128x6x128, .f32⟩
  | 75 => ⟨S1x1x6x128, .f32⟩
  | 76 => ⟨S64x128x6x128, .f32⟩
  | 77 => ⟨S64x128x6x128, .f32⟩
  | 78 => ⟨S_, .i1⟩
  | 79 => ⟨S128x128, .i1⟩
  | 80 => ⟨S128x128, .i32⟩
  | 81 => ⟨S_, .i32⟩
  | 82 => ⟨S128x128, .i32⟩
  | 83 => ⟨S128x128, .i32⟩
  | 84 => ⟨S128x128, .i32⟩
  | 85 => ⟨S128x128, .i1⟩
  | 86 => ⟨S_, .i1⟩
  | 87 => ⟨S128x128, .i1⟩
  | 88 => ⟨S128x128, .i1⟩
  | 89 => ⟨S1x128x128, .i1⟩
  | 90 => ⟨S_, .f32⟩
  | 91 => ⟨S6x128x128, .f32⟩
  | 92 => ⟨S6x128x128, .i1⟩
  | 93 => ⟨S6x128x128, .f32⟩
  | 94 => ⟨S_, .f32⟩
  | 95 => ⟨S6x128x128, .f32⟩
  | 96 => ⟨S6x64x128x128, .f32⟩
  | 97 => ⟨S64x128x6x128, .f32⟩
  | 98 => ⟨S128x6, .f32⟩
  | 99 => ⟨S1x128x6x1, .f32⟩
  | 100 => ⟨S64x128x6x128, .f32⟩
  | 101 => ⟨S64x128x6x128, .f32⟩
  | 102 => ⟨S8192x768, .f32⟩
  | 103 => ⟨S8192x768, .f32⟩
  | 104 => ⟨S8192x4x64, .f32⟩
  | 105 => ⟨S256x256, .f32⟩
  | 106 => ⟨S256x256, .f32⟩
  | 107 => ⟨S256x4x64, .f32⟩
  | 108 => ⟨S256x4x64, .f32⟩
  | 109 => ⟨S4x8192x256, .f32⟩
  | 110 => ⟨S_, .f32⟩
  | 111 => ⟨S4x8192x256, .f32⟩
  | 112 => ⟨S4x8192x256, .f32⟩
  | 113 => ⟨S_, .f32⟩
  | 114 => ⟨S4x8192, .f32⟩
  | 115 => ⟨S4x8192x1, .f32⟩
  | 116 => ⟨S4x8192x256, .f32⟩
  | 117 => ⟨S4x8192x256, .i1⟩
  | 118 => ⟨S4x8192x256, .f32⟩
  | 119 => ⟨S_, .f32⟩
  | 120 => ⟨S4x8192, .f32⟩
  | 121 => ⟨S_, .f32⟩
  | 122 => ⟨S4x8192, .f32⟩
  | 123 => ⟨S4x8192, .f32⟩
  | 124 => ⟨S_, .f32⟩
  | 125 => ⟨S4x8192, .f32⟩
  | 126 => ⟨S4x8192, .i1⟩
  | 127 => ⟨S_, .f32⟩
  | _ => ⟨S8192x1792, .bf16⟩

abbrev hbmTy0_1 (i : Nat) : BufTy := match i % 128 with
  | 0 => ⟨S4x8192, .f32⟩
  | 1 => ⟨S4x8192, .i1⟩
  | 2 => ⟨S_, .f32⟩
  | 3 => ⟨S4x8192, .f32⟩
  | 4 => ⟨S_, .f32⟩
  | 5 => ⟨S4x8192, .f32⟩
  | 6 => ⟨S_, .f32⟩
  | 7 => ⟨S4x8192, .f32⟩
  | 8 => ⟨S4x8192, .f32⟩
  | 9 => ⟨S4x8192, .f32⟩
  | 10 => ⟨S4x8192x1, .f32⟩
  | 11 => ⟨S4x8192x256, .f32⟩
  | 12 => ⟨S4x8192x256, .f32⟩
  | 13 => ⟨S4x8192x256, .f32⟩
  | 14 => ⟨S_, .f32⟩
  | 15 => ⟨S4x8192, .f32⟩
  | 16 => ⟨S4x8192x1, .f32⟩
  | 17 => ⟨S4x8192x256, .f32⟩
  | 18 => ⟨S4x8192x256, .f32⟩
  | 19 => ⟨S4x8192x1, .f32⟩
  | 20 => ⟨S_, .f32⟩
  | 21 => ⟨S4x8192x1, .f32⟩
  | 22 => ⟨S4x8192x1, .f32⟩
  | 23 => ⟨S4x64x8192, .f32⟩
  | 24 => ⟨S8192x4x64, .f32⟩
  | 25 => ⟨S8192x256, .f32⟩
  | 26 => ⟨S8192x1024, .f32⟩
  | 27 => ⟨S8192x768, .f32⟩
  | 28 => ⟨S8192x256, .f32⟩
  | 29 => ⟨S8192x4x64, .f32⟩
  | 30 => ⟨S4x64x8192, .f32⟩
  | 31 => ⟨S4x8192x256, .f32⟩
  | 32 => ⟨S4x64x256, .f32⟩
  | 33 => ⟨S256x4x64, .f32⟩
  | 34 => ⟨S4x8192x256, .f32⟩
  | 35 => ⟨S4x8192x256, .f32⟩
  | 36 => ⟨S4x8192x256, .f32⟩
  | 37 => ⟨S_, .f32⟩
  | 38 => ⟨S4x8192, .f32⟩
  | 39 => ⟨S4x8192x1, .f32⟩
  | 40 => ⟨S4x8192x1, .f32⟩
  | 41 => ⟨S4x8192x256, .f32⟩
  | 42 => ⟨S4x8192x256, .f32⟩
  | 43 => ⟨S_, .f32⟩
  | 44 => ⟨S4x8192, .f32⟩
  | 45 => ⟨S4x8192x256, .f32⟩
  | 46 => ⟨S4x8192x256, .f32⟩
  | 47 => ⟨S4x8192x256, .f32⟩
  | 48 => ⟨S_, .f32⟩
  | 49 => ⟨S4x8192x256, .f32⟩
  | 50 => ⟨S4x8192x256, .f32⟩
  | 51 => ⟨S4x256x64, .f32⟩
  | 52 => ⟨S256x4x64, .f32⟩
  | 53 => ⟨S4x8192x64, .f32⟩
  | 54 => ⟨S8192x4x64, .f32⟩
  | 55 => ⟨S256x256, .f32⟩
  | 56 => ⟨S256x256, .f32⟩
  | 57 => ⟨S256x512, .f32⟩
  | 58 => ⟨S8192x256, .f32⟩
  | 59 => ⟨S8192x768, .f32⟩
  | 60 => ⟨S8192x768, .f32⟩
  | 61 => ⟨S64x128x6x128, .f32⟩
  | 62 => ⟨S_, .f32⟩
  | 63 => ⟨S128x6, .f32⟩
  | 64 => ⟨S1x128x6x1, .f32⟩
  | 65 => ⟨S_, .f32⟩
  | 66 => ⟨S128x6, .f32⟩
  | 67 => ⟨S6x128, .f32⟩
  | 68 => ⟨S6x64x128x128, .f32⟩
  | 69 => ⟨S6x128x128, .f32⟩
  | 70 => ⟨S6x64x128x128, .f32⟩
  | 71 => ⟨S64x128x6x128, .f32⟩
  | 72 => ⟨S_, .f32⟩
  | 73 => ⟨S6x128x128, .f32⟩
  | 74 => ⟨S6x128x128, .f32⟩
  | 75 => ⟨S_, .f32⟩
  | 76 => ⟨S6x128, .f32⟩
  | 77 => ⟨S1x1x6x128, .f32⟩
  | 78 => ⟨S_, .f32⟩
  | 79 => ⟨S6x128, .f32⟩
  | 80 => ⟨S64x128x6x128, .f32⟩
  | 81 => ⟨S_, .f32⟩
  | 82 => ⟨S6x128, .f32⟩
  | 83 => ⟨S1x1x6x128, .f32⟩
  | 84 => ⟨S64x128x6x128, .f32⟩
  | 85 => ⟨S64x128x6x128, .f32⟩
  | 86 => ⟨S_, .f32⟩
  | 87 => ⟨S6x128, .f32⟩
  | 88 => ⟨S64x128x6x128, .f32⟩
  | 89 => ⟨S_, .f32⟩
  | 90 => ⟨S64x128x6, .f32⟩
  | 91 => ⟨S64x128x6x1, .f32⟩
  | 92 => ⟨S64x128x6x128, .f32⟩
  | 93 => ⟨S64x128x6x128, .f32⟩
  | 94 => ⟨S64x128x6x1, .f32⟩
  | 95 => ⟨S64x128x6x128, .f32⟩
  | 96 => ⟨S_, .f32⟩
  | 97 => ⟨S64x128x6, .f32⟩
  | 98 => ⟨S64x128x6x1, .f32⟩
  | 99 => ⟨S_, .f32⟩
  | 100 => ⟨S64x128x6x1, .f32⟩
  | 101 => ⟨S64x128x6x1, .f32⟩
  | 102 => ⟨S_, .f32⟩
  | 103 => ⟨S64x128x6, .f32⟩
  | 104 => ⟨S64x128x6x128, .f32⟩
  | 105 => ⟨S64x128x6x128, .f32⟩
  | 106 => ⟨S64x128x6x128, .f32⟩
  | 107 => ⟨S_, .f32⟩
  | 108 => ⟨S64x128x6, .f32⟩
  | 109 => ⟨S64x128x6x1, .f32⟩
  | 110 => ⟨S64x128x6x128, .f32⟩
  | 111 => ⟨S64x128x6x1, .f32⟩
  | 112 => ⟨S_, .f32⟩
  | 113 => ⟨S64x128x6x1, .f32⟩
  | 114 => ⟨S64x128x6x1, .f32⟩
  | 115 => ⟨S_, .f32⟩
  | 116 => ⟨S64x128x6, .f32⟩
  | 117 => ⟨S64x128x6x128, .f32⟩
  | 118 => ⟨S64x128x6x128, .f32⟩
  | 119 => ⟨S8192x768, .f32⟩
  | 120 => ⟨S8192x1536, .f32⟩
  | 121 => ⟨S8192x1536, .f32⟩
  | 122 => ⟨S8192x1536, .f32⟩
  | 123 => ⟨S_, .f32⟩
  | 124 => ⟨S8192x1536, .f32⟩
  | 125 => ⟨S8192x1536, .f32⟩
  | 126 => ⟨S8192x1536, .f32⟩
  | 127 => ⟨S_, .f32⟩
  | _ => ⟨S8192x1792, .bf16⟩

abbrev hbmTy0_2 (i : Nat) : BufTy := match i % 128 with
  | 0 => ⟨S8192x1536, .f32⟩
  | 1 => ⟨S8192x1536, .f32⟩
  | 2 => ⟨S8192x1536, .f32⟩
  | 3 => ⟨S_, .f32⟩
  | 4 => ⟨S8192x1536, .f32⟩
  | 5 => ⟨S8192x1536, .f32⟩
  | 6 => ⟨S8192x1536, .f32⟩
  | 7 => ⟨S8192x1536, .f32⟩
  | 8 => ⟨S8192x1792, .f32⟩
  | 9 => ⟨S8192x1792, .bf16⟩
  | 10 => ⟨S128x6, .f32⟩
  | 11 => ⟨S_, .i32⟩
  | 12 => ⟨S_, .f32⟩
  | 13 => ⟨S128x128, .f32⟩
  | 14 => ⟨S_, .i32⟩
  | 15 => ⟨S_, .f32⟩
  | 16 => ⟨S8x128, .f32⟩
  | 17 => ⟨S_, .i32⟩
  | 18 => ⟨S_, .f32⟩
  | 19 => ⟨S8x128, .f32⟩
  | _ => ⟨S8192x1792, .bf16⟩

abbrev hbmTy (i : Nat) : BufTy := match i / 128 with
  | 0 => hbmTy0_0 i
  | 1 => hbmTy0_1 i
  | 2 => hbmTy0_2 i
  | _ => ⟨S8192x1792, .bf16⟩

abbrev bufTy : (tb : Table) → Fin (tcTables nBuf tb) → BufTy
  | .hbm, ⟨i, _⟩ => hbmTy i
  | _, _ => ⟨S8192x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst : Ref sig .tc := ⟨.hbm, 14, rfl⟩
abbrev main_v7 : Ref sig .tc := ⟨.hbm, 15, rfl⟩
abbrev main_v8 : Ref sig .tc := ⟨.hbm, 16, rfl⟩
abbrev main_cst_0 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_1 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_cst_3 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_4 : Ref sig .tc := ⟨.hbm, 32, rfl⟩
abbrev main_v20 : Ref sig .tc := ⟨.hbm, 33, rfl⟩
abbrev main_v21 : Ref sig .tc := ⟨.hbm, 34, rfl⟩
abbrev main_cst_5 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev main_cst_6 : Ref sig .tc := ⟨.hbm, 42, rfl⟩
abbrev main_v28 : Ref sig .tc := ⟨.hbm, 43, rfl⟩
abbrev main_v29 : Ref sig .tc := ⟨.hbm, 44, rfl⟩
abbrev main_cst_7 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_8 : Ref sig .tc := ⟨.hbm, 51, rfl⟩
abbrev main_v35 : Ref sig .tc := ⟨.hbm, 52, rfl⟩
abbrev main_v36 : Ref sig .tc := ⟨.hbm, 53, rfl⟩
abbrev main_cst_9 : Ref sig .tc := ⟨.hbm, 54, rfl⟩
abbrev main_v37 : Ref sig .tc := ⟨.hbm, 55, rfl⟩
abbrev main_v38 : Ref sig .tc := ⟨.hbm, 56, rfl⟩
abbrev main_cst_10 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_11 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_cst_12 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_c : Ref sig .tc := ⟨.hbm, 78, rfl⟩
abbrev main_v57 : Ref sig .tc := ⟨.hbm, 79, rfl⟩
abbrev main_call0_v0 : Ref sig .tc := ⟨.hbm, 80, rfl⟩
abbrev main_call0_c : Ref sig .tc := ⟨.hbm, 81, rfl⟩
abbrev main_call0_v1 : Ref sig .tc := ⟨.hbm, 82, rfl⟩
abbrev main_call0_v2 : Ref sig .tc := ⟨.hbm, 83, rfl⟩
abbrev main_call0_v3 : Ref sig .tc := ⟨.hbm, 84, rfl⟩
abbrev main_call0_v4 : Ref sig .tc := ⟨.hbm, 85, rfl⟩
abbrev main_call0_c_0 : Ref sig .tc := ⟨.hbm, 86, rfl⟩
abbrev main_call0_v5 : Ref sig .tc := ⟨.hbm, 87, rfl⟩
abbrev main_v58 : Ref sig .tc := ⟨.hbm, 88, rfl⟩
abbrev main_v59 : Ref sig .tc := ⟨.hbm, 89, rfl⟩
abbrev main_cst_13 : Ref sig .tc := ⟨.hbm, 90, rfl⟩
abbrev main_v60 : Ref sig .tc := ⟨.hbm, 91, rfl⟩
abbrev main_v61_1 : Ref sig .tc := ⟨.hbm, 92, rfl⟩
abbrev main_v61_0 : Ref sig .tc := ⟨.hbm, 93, rfl⟩
abbrev main_call1_cst : Ref sig .tc := ⟨.hbm, 94, rfl⟩
abbrev main_v61_2 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_cst_14 : Ref sig .tc := ⟨.hbm, 110, rfl⟩
abbrev main_v76 : Ref sig .tc := ⟨.hbm, 111, rfl⟩
abbrev main_v77 : Ref sig .tc := ⟨.hbm, 112, rfl⟩
abbrev main_cst_15 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_16 : Ref sig .tc := ⟨.hbm, 119, rfl⟩
abbrev main_v83 : Ref sig .tc := ⟨.hbm, 120, rfl⟩
abbrev main_cst_17 : Ref sig .tc := ⟨.hbm, 121, rfl⟩
abbrev main_v84 : Ref sig .tc := ⟨.hbm, 122, rfl⟩
abbrev main_v85 : Ref sig .tc := ⟨.hbm, 123, rfl⟩
abbrev main_cst_18 : Ref sig .tc := ⟨.hbm, 124, rfl⟩
abbrev main_v86 : Ref sig .tc := ⟨.hbm, 125, rfl⟩
abbrev main_v87 : Ref sig .tc := ⟨.hbm, 126, rfl⟩
abbrev main_cst_19 : Ref sig .tc := ⟨.hbm, 127, rfl⟩
abbrev main_v88 : Ref sig .tc := ⟨.hbm, 128, rfl⟩
abbrev main_v89 : Ref sig .tc := ⟨.hbm, 129, rfl⟩
abbrev main_cst_20 : Ref sig .tc := ⟨.hbm, 130, rfl⟩
abbrev main_v90 : Ref sig .tc := ⟨.hbm, 131, rfl⟩
abbrev main_cst_21 : Ref sig .tc := ⟨.hbm, 132, rfl⟩
abbrev main_v91 : Ref sig .tc := ⟨.hbm, 133, rfl⟩
abbrev main_cst_22 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_cst_23 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_v102 : Ref sig .tc := ⟨.hbm, 146, rfl⟩
abbrev main_v103 : Ref sig .tc := ⟨.hbm, 147, rfl⟩
abbrev main_cst_24 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_v107 : Ref sig .tc := ⟨.hbm, 152, rfl⟩
abbrev main_v108 : Ref sig .tc := ⟨.hbm, 153, rfl⟩
abbrev main_v109 : Ref sig .tc := ⟨.hbm, 154, rfl⟩
abbrev main_v110 : Ref sig .tc := ⟨.hbm, 155, rfl⟩
abbrev main_v111 : Ref sig .tc := ⟨.hbm, 156, rfl⟩
abbrev main_v112 : Ref sig .tc := ⟨.hbm, 157, rfl⟩
abbrev main_v113 : Ref sig .tc := ⟨.hbm, 158, rfl⟩
abbrev main_v114 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_cst_25 : Ref sig .tc := ⟨.hbm, 165, rfl⟩
abbrev main_v120 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_cst_26 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_cst_27 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_v134 : Ref sig .tc := ⟨.hbm, 182, rfl⟩
abbrev main_v135 : Ref sig .tc := ⟨.hbm, 183, rfl⟩
abbrev main_v136 : Ref sig .tc := ⟨.hbm, 184, rfl⟩
abbrev main_v137 : Ref sig .tc := ⟨.hbm, 185, rfl⟩
abbrev main_v138 : Ref sig .tc := ⟨.hbm, 186, rfl⟩
abbrev main_v139 : Ref sig .tc := ⟨.hbm, 187, rfl⟩
abbrev main_v140 : Ref sig .tc := ⟨.hbm, 188, rfl⟩
abbrev main_v141 : Ref sig .tc := ⟨.hbm, 189, rfl⟩
abbrev main_cst_28 : Ref sig .tc := ⟨.hbm, 190, rfl⟩
abbrev main_v142 : Ref sig .tc := ⟨.hbm, 191, rfl⟩
abbrev main_v143 : Ref sig .tc := ⟨.hbm, 192, rfl⟩
abbrev main_cst_29 : Ref sig .tc := ⟨.hbm, 193, rfl⟩
abbrev main_v144 : Ref sig .tc := ⟨.hbm, 194, rfl⟩
abbrev main_v145 : Ref sig .tc := ⟨.hbm, 195, rfl⟩
abbrev main_v146 : Ref sig .tc := ⟨.hbm, 196, rfl⟩
abbrev main_v147 : Ref sig .tc := ⟨.hbm, 197, rfl⟩
abbrev main_v148 : Ref sig .tc := ⟨.hbm, 198, rfl⟩
abbrev main_v149 : Ref sig .tc := ⟨.hbm, 199, rfl⟩
abbrev main_call2_cst : Ref sig .tc := ⟨.hbm, 200, rfl⟩
abbrev main_call2_v0 : Ref sig .tc := ⟨.hbm, 201, rfl⟩
abbrev main_v150 : Ref sig .tc := ⟨.hbm, 202, rfl⟩
abbrev main_cst_30 : Ref sig .tc := ⟨.hbm, 203, rfl⟩
abbrev main_v151 : Ref sig .tc := ⟨.hbm, 204, rfl⟩
abbrev main_v152 : Ref sig .tc := ⟨.hbm, 205, rfl⟩
abbrev main_cst_31 : Ref sig .tc := ⟨.hbm, 206, rfl⟩
abbrev main_v153 : Ref sig .tc := ⟨.hbm, 207, rfl⟩
abbrev main_v154 : Ref sig .tc := ⟨.hbm, 208, rfl⟩
abbrev main_cst_32 : Ref sig .tc := ⟨.hbm, 209, rfl⟩
abbrev main_v155 : Ref sig .tc := ⟨.hbm, 210, rfl⟩
abbrev main_v156 : Ref sig .tc := ⟨.hbm, 211, rfl⟩
abbrev main_v157 : Ref sig .tc := ⟨.hbm, 212, rfl⟩
abbrev main_v158 : Ref sig .tc := ⟨.hbm, 213, rfl⟩
abbrev main_cst_33 : Ref sig .tc := ⟨.hbm, 214, rfl⟩
abbrev main_v159 : Ref sig .tc := ⟨.hbm, 215, rfl⟩
abbrev main_v160 : Ref sig .tc := ⟨.hbm, 216, rfl⟩
abbrev main_cst_34 : Ref sig .tc := ⟨.hbm, 217, rfl⟩
abbrev main_v161 : Ref sig .tc := ⟨.hbm, 218, rfl⟩
abbrev main_v162 : Ref sig .tc := ⟨.hbm, 219, rfl⟩
abbrev main_v163 : Ref sig .tc := ⟨.hbm, 220, rfl⟩
abbrev main_v164 : Ref sig .tc := ⟨.hbm, 221, rfl⟩
abbrev main_v165 : Ref sig .tc := ⟨.hbm, 222, rfl⟩
abbrev main_v166 : Ref sig .tc := ⟨.hbm, 223, rfl⟩
abbrev main_cst_35 : Ref sig .tc := ⟨.hbm, 224, rfl⟩
abbrev main_v167 : Ref sig .tc := ⟨.hbm, 225, rfl⟩
abbrev main_v168 : Ref sig .tc := ⟨.hbm, 226, rfl⟩
abbrev main_cst_36 : Ref sig .tc := ⟨.hbm, 227, rfl⟩
abbrev main_v169 : Ref sig .tc := ⟨.hbm, 228, rfl⟩
abbrev main_v170 : Ref sig .tc := ⟨.hbm, 229, rfl⟩
abbrev main_cst_37 : Ref sig .tc := ⟨.hbm, 230, rfl⟩
abbrev main_v171 : Ref sig .tc := ⟨.hbm, 231, rfl⟩
abbrev main_v172 : Ref sig .tc := ⟨.hbm, 232, rfl⟩
abbrev main_v173 : Ref sig .tc := ⟨.hbm, 233, rfl⟩
abbrev main_v174 : Ref sig .tc := ⟨.hbm, 234, rfl⟩
abbrev main_cst_38 : Ref sig .tc := ⟨.hbm, 235, rfl⟩
abbrev main_v175 : Ref sig .tc := ⟨.hbm, 236, rfl⟩
abbrev main_v176 : Ref sig .tc := ⟨.hbm, 237, rfl⟩
abbrev main_v177 : Ref sig .tc := ⟨.hbm, 238, rfl⟩
abbrev main_v178 : Ref sig .tc := ⟨.hbm, 239, rfl⟩
abbrev main_cst_39 : Ref sig .tc := ⟨.hbm, 240, rfl⟩
abbrev main_v179 : Ref sig .tc := ⟨.hbm, 241, rfl⟩
abbrev main_v180 : Ref sig .tc := ⟨.hbm, 242, rfl⟩
abbrev main_cst_40 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_v185 : Ref sig .tc := ⟨.hbm, 248, rfl⟩
abbrev main_v186 : Ref sig .tc := ⟨.hbm, 249, rfl⟩
abbrev main_v187 : Ref sig .tc := ⟨.hbm, 250, rfl⟩
abbrev main_cst_41 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_cst_42 : Ref sig .tc := ⟨.hbm, 255, rfl⟩
abbrev main_v191 : Ref sig .tc := ⟨.hbm, 256, rfl⟩
abbrev main_v192 : Ref sig .tc := ⟨.hbm, 257, rfl⟩
abbrev main_v193 : Ref sig .tc := ⟨.hbm, 258, rfl⟩
abbrev main_cst_43 : Ref sig .tc := ⟨.hbm, 259, rfl⟩
abbrev main_v194 : Ref sig .tc := ⟨.hbm, 260, rfl⟩
abbrev main_v195 : Ref sig .tc := ⟨.hbm, 261, rfl⟩
abbrev main_v196 : Ref sig .tc := ⟨.hbm, 262, rfl⟩
abbrev main_v197 : Ref sig .tc := ⟨.hbm, 263, rfl⟩
abbrev main_v198 : Ref sig .tc := ⟨.hbm, 264, rfl⟩
abbrev main_v199 : Ref sig .tc := ⟨.hbm, 265, rfl⟩
abbrev main_v200 : Ref sig .tc := ⟨.hbm, 266, rfl⟩
abbrev main_c_44 : Ref sig .tc := ⟨.hbm, 267, rfl⟩
abbrev main_call3_v0 : Ref sig .tc := ⟨.hbm, 268, rfl⟩
abbrev main_v201 : Ref sig .tc := ⟨.hbm, 269, rfl⟩
abbrev main_c_45 : Ref sig .tc := ⟨.hbm, 270, rfl⟩
abbrev main_call4_v0 : Ref sig .tc := ⟨.hbm, 271, rfl⟩
abbrev main_v202 : Ref sig .tc := ⟨.hbm, 272, rfl⟩
abbrev main_c_46 : Ref sig .tc := ⟨.hbm, 273, rfl⟩
abbrev main_call5_v0 : Ref sig .tc := ⟨.hbm, 274, rfl⟩
abbrev main_v203 : Ref sig .tc := ⟨.hbm, 275, rfl⟩

abbrev nD : Nat := 1
abbrev τ : Topo := Topo.v7x

variable {F : FTy → Type} [FloatOps F]
-- ==== Kernel2.lean ====
abbrev S2x8192x2816 : Shape := ⟨3, ![2, 8192, 2816]⟩
abbrev S1x4x1024x1408 : Shape := ⟨4, ![1, 4, 1024, 1408]⟩
abbrev S8192x1024 : Shape := ⟨2, ![8192, 1024]⟩
abbrev S1024 : Shape := ⟨1, ![1024]⟩
abbrev S1x1024 : Shape := ⟨2, ![1, 1024]⟩
abbrev S2x512x2816 : Shape := ⟨3, ![2, 512, 2816]⟩
abbrev S512x1024 : Shape := ⟨2, ![512, 1024]⟩
abbrev S1x512x1408 : Shape := ⟨3, ![1, 512, 1408]⟩
abbrev S512x1408 : Shape := ⟨2, ![512, 1408]⟩
abbrev S1x1x1024x1408 : Shape := ⟨4, ![1, 1, 1024, 1408]⟩
abbrev S1024x1408 : Shape := ⟨2, ![1024, 1408]⟩
abbrev S512 : Shape := ⟨1, ![512]⟩
abbrev S512x1 : Shape := ⟨2, ![512, 1]⟩

abbrev nBuf : Space → Nat
  | .hbm => 9
  | .vmem => 13
  | .smem => 0
  | _ => 0

abbrev bufTy : (tb : Table) → Fin (tcTables nBuf tb) → BufTy
  | .hbm, ⟨0, _⟩ => ⟨S2x8192x2816, .bf16⟩
  | .hbm, ⟨1, _⟩ => ⟨S1x4x1024x1408, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S1x1024, .f32⟩
  | .hbm, ⟨8, _⟩ => ⟨S8192x1024, .bf16⟩
  | .local _ .vmem, ⟨0, _⟩ => ⟨S2x512x2816, .bf16⟩
  | .local _ .vmem, ⟨1, _⟩ => ⟨S2x512x2816, .bf16⟩
  | .local _ .vmem, ⟨2, _⟩ => ⟨S1x4x1024x1408, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | _, _ => ⟨S2x8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2x512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x1024x1408 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference2Ideal.lean ====
abbrev S2x8192x2816 : Shape := ⟨3, ![2, 8192, 2816]⟩
abbrev S1x4x1024x1408 : Shape := ⟨4, ![1, 4, 1024, 1408]⟩
abbrev S8192x1024 : Shape := ⟨2, ![8192, 1024]⟩
abbrev S1024 : Shape := ⟨1, ![1024]⟩
abbrev S4x1024x1408 : Shape := ⟨3, ![4, 1024, 1408]⟩
abbrev S1x1024x1408 : Shape := ⟨3, ![1, 1024, 1408]⟩
abbrev S1024x1408 : Shape := ⟨2, ![1024, 1408]⟩
abbrev S1024x5632 : Shape := ⟨2, ![1024, 5632]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S8192x5632 : Shape := ⟨2, ![8192, 5632]⟩
abbrev S1x8192x2816 : Shape := ⟨3, ![1, 8192, 2816]⟩
abbrev S8192x2816 : Shape := ⟨2, ![8192, 2816]⟩

abbrev nBuf : Space → Nat
  | .hbm => 72
  | .vmem => 0
  | .smem => 0
  | _ => 0

abbrev bufTy : (tb : Table) → Fin (tcTables nBuf tb) → BufTy
  | .hbm, ⟨0, _⟩ => ⟨S2x8192x2816, .bf16⟩
  | .hbm, ⟨1, _⟩ => ⟨S1x4x1024x1408, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S4x1024x1408, .bf16⟩
  | .hbm, ⟨6, _⟩ => ⟨S4x1024x1408, .f32⟩
  | .hbm, ⟨7, _⟩ => ⟨S1x1024x1408, .f32⟩
  | .hbm, ⟨8, _⟩ => ⟨S1024x1408, .f32⟩
  | .hbm, ⟨9, _⟩ => ⟨S1x1024x1408, .f32⟩
  | .hbm, ⟨10, _⟩ => ⟨S1024x1408, .f32⟩
  | .hbm, ⟨11, _⟩ => ⟨S1x1024x1408, .f32⟩
  | .hbm, ⟨12, _⟩ => ⟨S1024x1408, .f32⟩
  | .hbm, ⟨13, _⟩ => ⟨S1x1024x1408, .f32⟩
  | .hbm, ⟨14, _⟩ => ⟨S1024x1408, .f32⟩
  | .hbm, ⟨15, _⟩ => ⟨S1024x5632, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x5632, .f32⟩
  | .hbm, ⟨37, _⟩ => ⟨S2x8192x2816, .f32⟩
  | .hbm, ⟨38, _⟩ => ⟨S1x8192x2816, .f32⟩
  | .hbm, ⟨39, _⟩ => ⟨S8192x2816, .f32⟩
  | .hbm, ⟨40, _⟩ => ⟨S1x8192x2816, .f32⟩
  | .hbm, ⟨41, _⟩ => ⟨S8192x2816, .f32⟩
  | .hbm, ⟨42, _⟩ => ⟨S8192x5632, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S1x1024, .f32⟩
  | .hbm, ⟨48, _⟩ => ⟨S8192x1024, .f32⟩
  | .hbm, ⟨49, _⟩ => ⟨S8192x1024, .f32⟩
  | .hbm, ⟨50, _⟩ => ⟨S_, .f32⟩
  | .hbm, ⟨51, _⟩ => ⟨S1024, .f32⟩
  | .hbm, ⟨52, _⟩ => ⟨S8192x1024, .f32⟩
  | .hbm, ⟨53, _⟩ => ⟨S_, .f32⟩
  | .hbm, ⟨54, _⟩ => ⟨S8192, .f32⟩
  | .hbm, ⟨55, _⟩ => ⟨S8192x1, .f32⟩
  | .hbm, ⟨56, _⟩ => ⟨S8192x1024, .f32⟩
  | .hbm, ⟨57, _⟩ => ⟨S8192x1024, .f32⟩
  | .hbm, ⟨58, _⟩ => ⟨S8192x1024, .f32⟩
  | .hbm, ⟨59, _⟩ => ⟨S8192x1, .f32⟩
  | .hbm, ⟨60, _⟩ => ⟨S_, .f32⟩
  | .hbm, ⟨61, _⟩ => ⟨S8192x1, .f32⟩
  | .hbm, ⟨62, _⟩ => ⟨S8192x1, .f32⟩
  | .hbm, ⟨63, _⟩ => ⟨S_, .f32⟩
  | .hbm, ⟨64, _⟩ => ⟨S8192, .f32⟩
  | .hbm, ⟨65, _⟩ => ⟨S8192x1024, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S1x1024, .f32⟩
  | .hbm, ⟨71, _⟩ => ⟨S8192x1024, .bf16⟩
  | _, _ => ⟨S2x8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_v33 : Ref sig .tc := ⟨.hbm, 42, rfl⟩
abbrev main_v34 : Ref sig .tc := ⟨.hbm, 43, rfl⟩
abbrev main_v35 : Ref sig .tc := ⟨.hbm, 44, rfl⟩
abbrev main_cst_3 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_4 : Ref sig .tc := ⟨.hbm, 50, rfl⟩
abbrev main_v40 : Ref sig .tc := ⟨.hbm, 51, rfl⟩
abbrev main_v41 : Ref sig .tc := ⟨.hbm, 52, rfl⟩
abbrev main_cst_5 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_cst_6 : Ref sig .tc := ⟨.hbm, 60, rfl⟩
abbrev main_v48 : Ref sig .tc := ⟨.hbm, 61, rfl⟩
abbrev main_v49 : Ref sig .tc := ⟨.hbm, 62, rfl⟩
abbrev main_cst_7 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩
abbrev main_v53 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_v57 : Ref sig .tc := ⟨.hbm, 71, rfl⟩

abbrev nD : Nat := 1
abbrev τ : Topo := Topo.v7x

variable {F : FTy → Type} [FloatOps F]
-- ==== Kernel3.lean ====
abbrev S2x8192x1024 : Shape := ⟨3, ![2, 8192, 1024]⟩
abbrev S2x8192x2816 : Shape := ⟨3, ![2, 8192, 2816]⟩
abbrev S4x1024x1408 : Shape := ⟨3, ![4, 1024, 1408]⟩
abbrev S1x2048x1024 : Shape := ⟨3, ![1, 2048, 1024]⟩
abbrev S1x2048x1408 : Shape := ⟨3, ![1, 2048, 1408]⟩
abbrev S1x1024x1408 : Shape := ⟨3, ![1, 1024, 1408]⟩
abbrev S1024x1408 : Shape := ⟨2, ![1024, 1408]⟩
abbrev S2048x1024 : Shape := ⟨2, ![2048, 1024]⟩
abbrev S2048x1408 : Shape := ⟨2, ![2048, 1408]⟩

abbrev nBuf : Space → Nat
  | .hbm => 3
  | .vmem => 7
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x2816, .bf16⟩
  | .hbm, ⟨2, _⟩ => ⟨S4x1024x1408, .f32⟩
  | .local _ .vmem, ⟨0, _⟩ => ⟨S1x2048x1024, .bf16⟩
  | .local _ .vmem, ⟨1, _⟩ => ⟨S1x2048x1024, .bf16⟩
  | .local _ .vmem, ⟨2, _⟩ => ⟨S1x2048x1408, .bf16⟩
  | .local _ .vmem, ⟨3, _⟩ => ⟨S1x2048x1408, .bf16⟩
  | .local _ .vmem, ⟨4, _⟩ => ⟨S1x1024x1408, .f32⟩
  | .local _ .vmem, ⟨5, _⟩ => ⟨S1x1024x1408, .f32⟩
  | .local _ .vmem, ⟨6, _⟩ => ⟨S1024x1408, .f32⟩
  | _, _ => ⟨S2x8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg2.toNat, v26.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c1_i32 : BitVec 32 := 1#32
  let v0 : BitVec 32 := Scalar.divsi arg1 c1_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c1_i32 c0_i32_1
  let v7 : BitVec 32 := Scalar.extui v6
  let c0_i32_2 : BitVec 32 := 0#32
  let v8 : BitVec 1 := Scalar.cmpi .slt c1_i32 c0_i32_2
  let v9 : BitVec 32 := Scalar.extui v8
  let v10 : BitVec 32 := Scalar.subi v7 v9
  let v11 : BitVec 1 := Scalar.cmpi .ne v5 v10
  let v12 : BitVec 32 := Scalar.remsi arg1 c1_i32
  let c0_i32_3 : BitVec 32 := 0#32
  let v13 : BitVec 1 := Scalar.cmpi .ne v12 c0_i32_3
  let v14 : BitVec 1 := Scalar.andi v11 v13
  let c1_i32_4 : BitVec 32 := 1#32
  let v15 : BitVec 32 := Scalar.subi v0 c1_i32_4
  let v16 : BitVec 32 := Scalar.select v14 v15 v0
  let c1_i32_5 : BitVec 32 := 1#32
  let c0_i32_6 : BitVec 32 := 0#32
  let v17 : BitVec 1 := Scalar.cmpi .eq c1_i32_5 c0_i32_6
  let c1_i32_7 : BitVec 32 := 1#32
  let v18 : BitVec 32 := Scalar.select v17 c1_i32_7 c1_i32_5
  let v19 : BitVec 32 := Scalar.remsi arg1 v18
  let c0_i32_8 : BitVec 32 := 0#32
  let v20 : BitVec 1 := Scalar.cmpi .ne v19 c0_i32_8
  let c0_i32_9 : BitVec 32 := 0#32
  let v21 : BitVec 1 := Scalar.cmpi .slt v19 c0_i32_9
  let c0_i32_10 : BitVec 32 := 0#32
  let v22 : BitVec 1 := Scalar.cmpi .slt v18 c0_i32_10
  let v23 : BitVec 1 := Scalar.xori v21 v22
  let v24 : BitVec 1 := Scalar.andi v23 v20
  let v25 : BitVec 32 := Scalar.addi v19 v18
  let v26 : BitVec 32 := Scalar.select v24 v25 v19
  let c0_i32_11 : BitVec 32 := 0#32
  ![v16.toNat, arg0.toNat, v26.toNat]

abbrev stage0_0 : Fin 2 → Memref sig .tc .vmem S1x2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1x1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S2x8192x1024 : Shape := ⟨3, ![2, 8192, 1024]⟩
abbrev S2x8192x2816 : Shape := ⟨3, ![2, 8192, 2816]⟩
abbrev S_ : Shape := ⟨0, ![]⟩
abbrev S1024x5632 : Shape := ⟨2, ![1024, 5632]⟩
abbrev S1x8192x1024 : Shape := ⟨3, ![1, 8192, 1024]⟩
abbrev S8192x1024 : Shape := ⟨2, ![8192, 1024]⟩
abbrev S8192x5632 : Shape := ⟨2, ![8192, 5632]⟩
abbrev S1x8192x2816 : Shape := ⟨3, ![1, 8192, 2816]⟩
abbrev S8192x2816 : Shape := ⟨2, ![8192, 2816]⟩
abbrev S5632x1024 : Shape := ⟨2, ![5632, 1024]⟩
abbrev S1024x1408 : Shape := ⟨2, ![1024, 1408]⟩
abbrev S1x1024x1408 : Shape := ⟨3, ![1, 1024, 1408]⟩
abbrev S4x1024x1408 : Shape := ⟨3, ![4, 1024, 1408]⟩

abbrev nBuf : Space → Nat
  | .hbm => 25
  | .vmem => 0
  | .smem => 0
  | _ => 0

abbrev bufTy : (tb : Table) → Fin (tcTables nBuf tb) → BufTy
  | .hbm, ⟨0, _⟩ => ⟨S2x8192x1024, .bf16⟩
  | .hbm, ⟨1, _⟩ => ⟨S2x8192x2816, .bf16⟩
  | .hbm, ⟨2, _⟩ => ⟨S_, .f32⟩
  | .hbm, ⟨3, _⟩ => ⟨S1024x5632, .f32⟩
  | .hbm, ⟨4, _⟩ => ⟨S1x8192x1024, .bf16⟩
  | .hbm, ⟨5, _⟩ => ⟨S8192x1024, .bf16⟩
  | .hbm, ⟨6, _⟩ => ⟨S8192x1024, .f32⟩
  | .hbm, ⟨7, _⟩ => ⟨S8192x5632, .f32⟩
  | .hbm, ⟨8, _⟩ => ⟨S2x8192x2816, .f32⟩
  | .hbm, ⟨9, _⟩ => ⟨S1x8192x2816, .f32⟩
  | .hbm, ⟨10, _⟩ => ⟨S8192x2816, .f32⟩
  | .hbm, ⟨11, _⟩ => ⟨S1x8192x2816, .f32⟩
  | .hbm, ⟨12, _⟩ => ⟨S8192x2816, .f32⟩
  | .hbm, ⟨13, _⟩ => ⟨S8192x5632, .f32⟩
  | .hbm, ⟨14, _⟩ => ⟨S5632x1024, .f32⟩
  | .hbm, ⟨15, _⟩ => ⟨S1024x5632, .f32⟩
  | .hbm, ⟨16, _⟩ => ⟨S1024x1408, .f32⟩
  | .hbm, ⟨17, _⟩ => ⟨S1024x1408, .f32⟩
  | .hbm, ⟨18, _⟩ => ⟨S1024x1408, .f32⟩
  | .hbm, ⟨19, _⟩ => ⟨S1024x1408, .f32⟩
  | .hbm, ⟨20, _⟩ => ⟨S1x1024x1408, .f32⟩
  | .hbm, ⟨21, _⟩ => ⟨S1x1024x1408, .f32⟩
  | .hbm, ⟨22, _⟩ => ⟨S1x1024x1408, .f32⟩
  | .hbm, ⟨23, _⟩ => ⟨S1x1024x1408, .f32⟩
  | .hbm, ⟨24, _⟩ => ⟨S4x1024x1408, .f32⟩
  | _, _ => ⟨S2x8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩
abbrev main_v16 : Ref sig .tc := ⟨.hbm, 19, rfl⟩
abbrev main_v17 : Ref sig .tc := ⟨.hbm, 20, rfl⟩
abbrev main_v18 : Ref sig .tc := ⟨.hbm, 21, rfl⟩
abbrev main_v19 : Ref sig .tc := ⟨.hbm, 22, rfl⟩
abbrev main_v20 : Ref sig .tc := ⟨.hbm, 23, rfl⟩
abbrev main_v21 : Ref sig .tc := ⟨.hbm, 24, rfl⟩

abbrev nD : Nat := 1
abbrev τ : Topo := Topo.v7x

variable {F : FTy → Type} [FloatOps F]
-- ==== Kernel4.lean ====
abbrev S8192x2816 : Shape := ⟨2, ![8192, 2816]⟩
abbrev S8192x1024 : Shape := ⟨2, ![8192, 1024]⟩
abbrev S4x704x1024 : Shape := ⟨3, ![4, 704, 1024]⟩
abbrev S2048x1408 : Shape := ⟨2, ![2048, 1408]⟩
abbrev S2048x1024 : Shape := ⟨2, ![2048, 1024]⟩
abbrev S2x704x1024 : Shape := ⟨3, ![2, 704, 1024]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S4x704x1024, .f32⟩
  | .local _ .vmem, ⟨0, _⟩ => ⟨S2048x1408, .bf16⟩
  | .local _ .vmem, ⟨1, _⟩ => ⟨S2048x1408, .bf16⟩
  | .local _ .vmem, ⟨2, _⟩ => ⟨S2048x1024, .bf16⟩
  | .local _ .vmem, ⟨3, _⟩ => ⟨S2048x1024, .bf16⟩
  | .local _ .vmem, ⟨4, _⟩ => ⟨S2x704x1024, .f32⟩
  | .local _ .vmem, ⟨5, _⟩ => ⟨S2x704x1024, .f32⟩
  | .local _ .vmem, ⟨6, _⟩ => ⟨S1408x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S2x704x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩
abbrev S704x1024 : Shape := ⟨2, ![704, 1024]⟩
abbrev S1x704x1024 : Shape := ⟨3, ![1, 704, 1024]⟩
abbrev S4x704x1024 : Shape := ⟨3, ![4, 704, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S8192x1024, .bf16⟩
  | .hbm, ⟨2, _⟩ => ⟨S_, .f32⟩
  | .hbm, ⟨3, _⟩ => ⟨S2816x1024, .f32⟩
  | .hbm, ⟨4, _⟩ => ⟨S8192x2816, .f32⟩
  | .hbm, ⟨5, _⟩ => ⟨S8192x1024, .f32⟩
  | .hbm, ⟨6, _⟩ => ⟨S8192x1024, .f32⟩
  | .hbm, ⟨7, _⟩ => ⟨S1024x2816, .f32⟩
  | .hbm, ⟨8, _⟩ => ⟨S2816x1024, .f32⟩
  | .hbm, ⟨9, _⟩ => ⟨S704x1024, .f32⟩
  | .hbm, ⟨10, _⟩ => ⟨S704x1024, .f32⟩
  | .hbm, ⟨11, _⟩ => ⟨S704x1024, .f32⟩
  | .hbm, ⟨12, _⟩ => ⟨S704x1024, .f32⟩
  | .hbm, ⟨13, _⟩ => ⟨S1x704x1024, .f32⟩
  | .hbm, ⟨14, _⟩ => ⟨S1x704x1024, .f32⟩
  | .hbm, ⟨15, _⟩ => ⟨S1x704x1024, .f32⟩
  | .hbm, ⟨16, _⟩ => ⟨S1x704x1024, .f32⟩
  | .hbm, ⟨17, _⟩ => ⟨S4x704x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Kernel5.lean ====
abbrev S8192x2816 : Shape := ⟨2, ![8192, 2816]⟩
abbrev S1x2816x1024 : Shape := ⟨3, ![1, 2816, 1024]⟩
abbrev S8192x1024 : Shape := ⟨2, ![8192, 1024]⟩
abbrev S_ : Shape := ⟨0, ![]⟩
abbrev S1x8192x2816 : Shape := ⟨3, ![1, 8192, 2816]⟩
abbrev S2x8192x2816 : Shape := ⟨3, ![2, 8192, 2816]⟩
abbrev S512x1024 : Shape := ⟨2, ![512, 1024]⟩
abbrev S2x512x2816 : Shape := ⟨3, ![2, 512, 2816]⟩
abbrev S1x1408x1024 : Shape := ⟨3, ![1, 1408, 1024]⟩
abbrev S1408x1024 : Shape := ⟨2, ![1408, 1024]⟩
abbrev S512x1408 : Shape := ⟨2, ![512, 1408]⟩
abbrev S1x512x1408 : Shape := ⟨3, ![1, 512, 1408]⟩

abbrev nBuf : Space → Nat
  | .hbm => 24
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S1x2816x1024, .bf16⟩
  | .hbm, ⟨3, _⟩ => ⟨S8192x1024, .bf16⟩
  | .hbm, ⟨4, _⟩ => ⟨S8192x2816, .f32⟩
  | .hbm, ⟨5, _⟩ => ⟨S8192x2816, .f32⟩
  | .hbm, ⟨6, _⟩ => ⟨S_, .f32⟩
  | .hbm, ⟨7, _⟩ => ⟨S8192x2816, .f32⟩
  | .hbm, ⟨8, _⟩ => ⟨S8192x2816, .f32⟩
  | .hbm, ⟨9, _⟩ => ⟨S_, .f32⟩
  | .hbm, ⟨10, _⟩ => ⟨S8192x2816, .f32⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S1x8192x2816, .f32⟩
  | .hbm, ⟨20, _⟩ => ⟨S1x8192x2816, .f32⟩
  | .hbm, ⟨21, _⟩ => ⟨S2x8192x2816, .f32⟩
  | .hbm, ⟨22, _⟩ => ⟨S2x8192x2816, .bf16⟩
  | .hbm, ⟨23, _⟩ => ⟨S2x8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1x2816x1024, .bf16⟩
  | .local _ .vmem, ⟨3, _⟩ => ⟨S2x512x2816, .bf16⟩
  | .local _ .vmem, ⟨4, _⟩ => ⟨S2x512x2816, .bf16⟩
  | .local _ .vmem, ⟨5, _⟩ => ⟨S2x512x2816, .bf16⟩
  | .local _ .vmem, ⟨6, _⟩ => ⟨S2x512x2816, .bf16⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2x512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2x512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference5Ideal.lean ====
abbrev S8192x2816 : Shape := ⟨2, ![8192, 2816]⟩
abbrev S1x2816x1024 : Shape := ⟨3, ![1, 2816, 1024]⟩
abbrev S8192x1024 : Shape := ⟨2, ![8192, 1024]⟩
abbrev S2816x1024 : Shape := ⟨2, ![2816, 1024]⟩
abbrev S_ : Shape := ⟨0, ![]⟩
abbrev S1x8192x2816 : Shape := ⟨3, ![1, 8192, 2816]⟩
abbrev S2x8192x2816 : Shape := ⟨3, ![2, 8192, 2816]⟩

abbrev nBuf : Space → Nat
  | .hbm => 33
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x2816, .f32⟩
  | .hbm, ⟨2, _⟩ => ⟨S1x2816x1024, .bf16⟩
  | .hbm, ⟨3, _⟩ => ⟨S8192x1024, .bf16⟩
  | .hbm, ⟨4, _⟩ => ⟨S2816x1024, .bf16⟩
  | .hbm, ⟨5, _⟩ => ⟨S2816x1024, .f32⟩
  | .hbm, ⟨6, _⟩ => ⟨S8192x2816, .f32⟩
  | .hbm, ⟨7, _⟩ => ⟨S8192x2816, .f32⟩
  | .hbm, ⟨8, _⟩ => ⟨S_, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x1024, .f32⟩
  | .hbm, ⟨21, _⟩ => ⟨S8192x1024, .f32⟩
  | .hbm, ⟨22, _⟩ => ⟨S8192x2816, .f32⟩
  | .hbm, ⟨23, _⟩ => ⟨S8192x2816, .f32⟩
  | .hbm, ⟨24, _⟩ => ⟨S8192x2816, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S1x8192x2816, .f32⟩
  | .hbm, ⟨30, _⟩ => ⟨S1x8192x2816, .f32⟩
  | .hbm, ⟨31, _⟩ => ⟨S2x8192x2816, .f32⟩
  | .hbm, ⟨32, _⟩ => ⟨S2x8192x2816, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v2_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v2_1 : Ref sig .tc := ⟨.hbm, 17, rfl⟩
abbrev main_v2_0 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_call1_v0 : Ref sig .tc := ⟨.hbm, 25, rfl⟩
abbrev main_call1_v1 : Ref sig .tc := ⟨.hbm, 26, rfl⟩
abbrev main_call1_v2 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩

abbrev nD : Nat := 1
abbrev τ : Topo := Topo.v7x

variable {F : FTy → Type} [FloatOps F]
-- ==== Kernel6.lean ====
abbrev S8192x1024 : Shape := ⟨2, ![8192, 1024]⟩
abbrev S1024 : Shape := ⟨1, ![1024]⟩
abbrev S1x4x1024x1408 : Shape := ⟨4, ![1, 4, 1024, 1408]⟩
abbrev S1x1024 : Shape := ⟨2, ![1, 1024]⟩
abbrev S2x8192x1024 : Shape := ⟨3, ![2, 8192, 1024]⟩
abbrev S2x8192x2816 : Shape := ⟨3, ![2, 8192, 2816]⟩
abbrev S8192x2816 : Shape := ⟨2, ![8192, 2816]⟩
abbrev S512x1024 : Shape := ⟨2, ![512, 1024]⟩
abbrev S1x1x1024x1408 : Shape := ⟨4, ![1, 1, 1024, 1408]⟩
abbrev S1x512x1024 : Shape := ⟨3, ![1, 512, 1024]⟩
abbrev S2x512x1408 : Shape := ⟨3, ![2, 512, 1408]⟩
abbrev S512x1408 : Shape := ⟨2, ![512, 1408]⟩
abbrev S512 : Shape := ⟨1, ![512]⟩
abbrev S512x1 : Shape := ⟨2, ![512, 1]⟩
abbrev S1024x1408 : Shape := ⟨2, ![1024, 1408]⟩
abbrev S1x512x1408 : Shape := ⟨3, ![1, 512, 1408]⟩

abbrev nBuf : Space → Nat
  | .hbm => 7
  | .vmem => 13
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x4x1024x1408, .bf16⟩
  | .hbm, ⟨3, _⟩ => ⟨S1x1024, .f32⟩
  | .hbm, ⟨4, _⟩ => ⟨S2x8192x1024, .bf16⟩
  | .hbm, ⟨5, _⟩ => ⟨S2x8192x2816, .bf16⟩
  | .hbm, ⟨6, _⟩ => ⟨S8192x2816, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x1x1024x1408, .bf16⟩
  | .local _ .vmem, ⟨4, _⟩ => ⟨S1x1x1024x1408, .bf16⟩
  | .local _ .vmem, ⟨5, _⟩ => ⟨S1x1x1024x1408, .bf16⟩
  | .local _ .vmem, ⟨6, _⟩ => ⟨S1x1x1024x1408, .bf16⟩
  | .local _ .vmem, ⟨7, _⟩ => ⟨S1x512x1024, .bf16⟩
  | .local _ .vmem, ⟨8, _⟩ => ⟨S1x512x1024, .bf16⟩
  | .local _ .vmem, ⟨9, _⟩ => ⟨S2x512x1408, .bf16⟩
  | .local _ .vmem, ⟨10, _⟩ => ⟨S2x512x1408, .bf16⟩
  | .local _ .vmem, ⟨11, _⟩ => ⟨S512x1408, .bf16⟩
  | .local _ .vmem, ⟨12, _⟩ => ⟨S512x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_stg6_0 : Ref sig .tc := ⟨.vmem, 11, rfl⟩
abbrev cc0_stg6_1 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10
abbrev cc0_sem6_0 : DmaSem sig := 11
abbrev cc0_sem6_1 : DmaSem sig := 12

abbrev nD : Nat := 1
abbrev τ : Topo := Topo.v7x

variable {F : FTy → Type} [FloatOps F]

abbrev grid0 : Pipeline.Grid := ⟨2, ![2, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_3 (i : grid0.Coords) : Fin 4 → Nat :=
  let arg0 : BitVec 32 := BitVec.ofNat 32 (i 0).val
  let arg1 : BitVec 32 := BitVec.ofNat 32 (i 1).val
  let c2_i32 : BitVec 32 := 2#32
  let v0 : BitVec 32 := Scalar.addi c2_i32 arg0
  let c0_i32 : BitVec 32 := 0#32
  let c0_i32_0 : BitVec 32 := 0#32
  let c0_i32_1 : BitVec 32 := 0#32
  let c0_i32_2 : BitVec 32 := 0#32
  ![c0_i32.toNat, v0.toNat, c0_i32_0.toNat, c0_i32_1.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x1024x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x1024x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S2x512x1408 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x1408 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S8192x1024 : Shape := ⟨2, ![8192, 1024]⟩
abbrev S1024 : Shape := ⟨1, ![1024]⟩
abbrev S1x4x1024x1408 : Shape := ⟨4, ![1, 4, 1024, 1408]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S4x1024x1408 : Shape := ⟨3, ![4, 1024, 1408]⟩
abbrev S1x1024x1408 : Shape := ⟨3, ![1, 1024, 1408]⟩
abbrev S1024x1408 : Shape := ⟨2, ![1024, 1408]⟩
abbrev S1024x5632 : Shape := ⟨2, ![1024, 5632]⟩
abbrev S8192x5632 : Shape := ⟨2, ![8192, 5632]⟩
abbrev S8192x2816 : Shape := ⟨2, ![8192, 2816]⟩
abbrev S1x8192x2816 : Shape := ⟨3, ![1, 8192, 2816]⟩
abbrev S2x8192x2816 : Shape := ⟨3, ![2, 8192, 2816]⟩
abbrev S1x8192x1024 : Shape := ⟨3, ![1, 8192, 1024]⟩
abbrev S2x8192x1024 : Shape := ⟨3, ![2, 8192, 1024]⟩

abbrev nBuf : Space → Nat
  | .hbm => 72
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x4x1024x1408, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S4x1024x1408, .bf16⟩
  | .hbm, ⟨20, _⟩ => ⟨S4x1024x1408, .f32⟩
  | .hbm, ⟨21, _⟩ => ⟨S1x1024x1408, .f32⟩
  | .hbm, ⟨22, _⟩ => ⟨S1024x1408, .f32⟩
  | .hbm, ⟨23, _⟩ => ⟨S1x1024x1408, .f32⟩
  | .hbm, ⟨24, _⟩ => ⟨S1024x1408, .f32⟩
  | .hbm, ⟨25, _⟩ => ⟨S1x1024x1408, .f32⟩
  | .hbm, ⟨26, _⟩ => ⟨S1024x1408, .f32⟩
  | .hbm, ⟨27, _⟩ => ⟨S1x1024x1408, .f32⟩
  | .hbm, ⟨28, _⟩ => ⟨S1024x1408, .f32⟩
  | .hbm, ⟨29, _⟩ => ⟨S1024x5632, .f32⟩
  | .hbm, ⟨30, _⟩ => ⟨S8192x5632, .f32⟩
  | .hbm, ⟨31, _⟩ => ⟨S8192x2816, .f32⟩
  | .hbm, ⟨32, _⟩ => ⟨S8192x2816, .f32⟩
  | .hbm, ⟨33, _⟩ => ⟨S8192x2816, .f32⟩
  | .hbm, ⟨34, _⟩ => ⟨S8192x2816, .f32⟩
  | .hbm, ⟨35, _⟩ => ⟨S_, .f32⟩
  | .hbm, ⟨36, _⟩ => ⟨S8192x2816, .f32⟩
  | .hbm, ⟨37, _⟩ => ⟨S8192x2816, .f32⟩
  | .hbm, ⟨38, _⟩ => ⟨S_, .f32⟩
  | .hbm, ⟨39, _⟩ => ⟨S8192x2816, .f32⟩
  | .hbm, ⟨40, _⟩ => ⟨S8192x2816, .f32⟩
  | .hbm, ⟨41, _⟩ => ⟨S_, .f32⟩
  | .hbm, ⟨42, _⟩ => ⟨S8192x2816, .f32⟩
  | .hbm, ⟨43, _⟩ => ⟨S8192x2816, .f32⟩
  | .hbm, ⟨44, _⟩ => ⟨S8192x2816, .f32⟩
  | .hbm, ⟨45, _⟩ => ⟨S8192x2816, .f32⟩
  | .hbm, ⟨46, _⟩ => ⟨S_, .f32⟩
  | .hbm, ⟨47, _⟩ => ⟨S8192x2816, .f32⟩
  | .hbm, ⟨48, _⟩ => ⟨S8192x2816, .f32⟩
  | .hbm, ⟨49, _⟩ => ⟨S8192x2816, .f32⟩
  | .hbm, ⟨50, _⟩ => ⟨S8192x2816, .f32⟩
  | .hbm, ⟨51, _⟩ => ⟨S8192x2816, .f32⟩
  | .hbm, ⟨52, _⟩ => ⟨S8192x2816, .f32⟩
  | .hbm, ⟨53, _⟩ => ⟨S1x8192x2816, .f32⟩
  | .hbm, ⟨54, _⟩ => ⟨S1x8192x2816, .f32⟩
  | .hbm, ⟨55, _⟩ => ⟨S2x8192x2816, .f32⟩
  | .hbm, ⟨56, _⟩ => ⟨S1x8192x1024, .f32⟩
  | .hbm, ⟨57, _⟩ => ⟨S1x8192x1024, .f32⟩
  | .hbm, ⟨58, _⟩ => ⟨S2x8192x1024, .f32⟩
  | .hbm, ⟨59, _⟩ => ⟨S2x8192x1024, .bf16⟩
  | .hbm, ⟨60, _⟩ => ⟨S2x8192x2816, .bf16⟩
  | .hbm, ⟨61, _⟩ => ⟨S8192x2816, .f32⟩
  | .hbm, ⟨62, _⟩ => ⟨S8192x2816, .f32⟩
  | .hbm, ⟨63, _⟩ => ⟨S_, .f32⟩
  | .hbm, ⟨64, _⟩ => ⟨S8192x2816, .f32⟩
  | .hbm, ⟨65, _⟩ => ⟨S8192x2816, .f32⟩
  | .hbm, ⟨66, _⟩ => ⟨S_, .f32⟩
  | .hbm, ⟨67, _⟩ => ⟨S8192x2816, .f32⟩
  | .hbm, ⟨68, _⟩ => ⟨S8192x2816, .f32⟩
  | .hbm, ⟨69, _⟩ => ⟨S8192x2816, .f32⟩
  | .hbm, ⟨70, _⟩ => ⟨S8192x2816, .f32⟩
  | .hbm, ⟨71, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_call0_v0 : Ref sig .tc := ⟨.hbm, 33, rfl⟩
abbrev main_call0_v1 : Ref sig .tc := ⟨.hbm, 34, rfl⟩
abbrev main_call0_cst : Ref sig .tc := ⟨.hbm, 35, rfl⟩
abbrev main_call0_v2 : Ref sig .tc := ⟨.hbm, 36, rfl⟩
abbrev main_call0_v3 : Ref sig .tc := ⟨.hbm, 37, rfl⟩
abbrev main_call0_cst_0 : Ref sig .tc := ⟨.hbm, 38, rfl⟩
abbrev main_call0_v4 : Ref sig .tc := ⟨.hbm, 39, rfl⟩
abbrev main_v27_2 : Ref sig .tc := ⟨.hbm, 40, rfl⟩
abbrev main_call0_cst_1 : Ref sig .tc := ⟨.hbm, 41, rfl⟩
abbrev main_call0_v6 : Ref sig .tc := ⟨.hbm, 42, rfl⟩
abbrev main_call0_v7 : Ref sig .tc := ⟨.hbm, 43, rfl⟩
abbrev main_v27_1 : Ref sig .tc := ⟨.hbm, 44, rfl⟩
abbrev main_v27_0 : Ref sig .tc := ⟨.hbm, 45, rfl⟩
abbrev main_cst_2 : Ref sig .tc := ⟨.hbm, 46, rfl⟩
abbrev main_v28 : Ref sig .tc := ⟨.hbm, 47, rfl⟩
abbrev main_call1_v0 : Ref sig .tc := ⟨.hbm, 48, rfl⟩
abbrev main_call1_v1 : Ref sig .tc := ⟨.hbm, 49, rfl⟩
abbrev main_call1_v2 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_v37 : Ref sig .tc := ⟨.hbm, 59, rfl⟩
abbrev main_v38 : Ref sig .tc := ⟨.hbm, 60, rfl⟩
abbrev main_call2_v0 : Ref sig .tc := ⟨.hbm, 61, rfl⟩
abbrev main_call2_v1 : Ref sig .tc := ⟨.hbm, 62, rfl⟩
abbrev main_call2_cst : Ref sig .tc := ⟨.hbm, 63, rfl⟩
abbrev main_call2_v2 : Ref sig .tc := ⟨.hbm, 64, rfl⟩
abbrev main_call2_v3 : Ref sig .tc := ⟨.hbm, 65, rfl⟩
abbrev main_call2_cst_0 : Ref sig .tc := ⟨.hbm, 66, rfl⟩
abbrev main_call2_v4 : Ref sig .tc := ⟨.hbm, 67, rfl⟩
abbrev main_call2_v5 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩

abbrev nD : Nat := 1
abbrev τ : Topo := Topo.v7x

variable {F : FTy → Type} [FloatOps F]
-- ==== Kernel7.lean ====
abbrev S8192x2816 : Shape := ⟨2, ![8192, 2816]⟩
abbrev S1x2816x1024 : Shape := ⟨3, ![1, 2816, 1024]⟩
abbrev S8192x1024 : Shape := ⟨2, ![8192, 1024]⟩
abbrev S512x2816 : Shape := ⟨2, ![512, 2816]⟩
abbrev S512x1024 : Shape := ⟨2, ![512, 1024]⟩
abbrev S2816x1024 : Shape := ⟨2, ![2816, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x2816, .bf16⟩
  | .hbm, ⟨1, _⟩ => ⟨S1x2816x1024, .bf16⟩
  | .hbm, ⟨2, _⟩ => ⟨S8192x1024, .f32⟩
  | .hbm, ⟨3, _⟩ => ⟨S8192x1024, .f32⟩
  | .local _ .vmem, ⟨0, _⟩ => ⟨S512x2816, .bf16⟩
  | .local _ .vmem, ⟨1, _⟩ => ⟨S512x2816, .bf16⟩
  | .local _ .vmem, ⟨2, _⟩ => ⟨S1x2816x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x2816, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x2816x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference7Ideal.lean ====
abbrev S8192x2816 : Shape := ⟨2, ![8192, 2816]⟩
abbrev S1x2816x1024 : Shape := ⟨3, ![1, 2816, 1024]⟩
abbrev S8192x1024 : Shape := ⟨2, ![8192, 1024]⟩
abbrev S2816x1024 : Shape := ⟨2, ![2816, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .bf16⟩
  | .hbm, ⟨1, _⟩ => ⟨S1x2816x1024, .bf16⟩
  | .hbm, ⟨2, _⟩ => ⟨S8192x1024, .f32⟩
  | .hbm, ⟨3, _⟩ => ⟨S8192x2816, .f32⟩
  | .hbm, ⟨4, _⟩ => ⟨S2816x1024, .bf16⟩
  | .hbm, ⟨5, _⟩ => ⟨S2816x1024, .f32⟩
  | .hbm, ⟨6, _⟩ => ⟨S8192x1024, .f32⟩
  | .hbm, ⟨7, _⟩ => ⟨S8192x1024, .f32⟩
  | _, _ => ⟨S8192x2816, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel8.lean ====
abbrev S8192x1024 : Shape := ⟨2, ![8192, 1024]⟩
abbrev S1x1024x1024 : Shape := ⟨3, ![1, 1024, 1024]⟩
abbrev S512x1024 : Shape := ⟨2, ![512, 1024]⟩
abbrev S1024x1024 : Shape := ⟨2, ![1024, 1024]⟩

abbrev nBuf : Space → Nat
  | .hbm => 3
  | .vmem => 5
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S1x1024x1024 : Shape := ⟨3, ![1, 1024, 1024]⟩
abbrev S1024x1024 : Shape := ⟨2, ![1024, 1024]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S1024x1024, .bf16⟩
  | .hbm, ⟨3, _⟩ => ⟨S1024x1024, .f32⟩
  | .hbm, ⟨4, _⟩ => ⟨S_, .f32⟩
  | .hbm, ⟨5, _⟩ => ⟨S8192x1024, .f32⟩
  | .hbm, ⟨6, _⟩ => ⟨S8192x1024, .f32⟩
  | .hbm, ⟨7, _⟩ => ⟨S8192x1024, .f32⟩
  | .hbm, ⟨8, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel9.lean ====
abbrev S8192x1024 : Shape := ⟨2, ![8192, 1024]⟩
abbrev S4x256x1024 : Shape := ⟨3, ![4, 256, 1024]⟩
abbrev S2048x1024 : Shape := ⟨2, ![2048, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S4x256x1024, .f32⟩
  | .local _ .vmem, ⟨0, _⟩ => ⟨S2048x1024, .bf16⟩
  | .local _ .vmem, ⟨1, _⟩ => ⟨S2048x1024, .bf16⟩
  | .local _ .vmem, ⟨2, _⟩ => ⟨S2048x1024, .bf16⟩
  | .local _ .vmem, ⟨3, _⟩ => ⟨S2048x1024, .bf16⟩
  | .local _ .vmem, ⟨4, _⟩ => ⟨S4x256x1024, .f32⟩
  | .local _ .vmem, ⟨5, _⟩ => ⟨S1024x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 4], ![false, false, false]⟩

def k0_cond3 (i : grid0.Coords) : BitVec 1 :=
  let arg2 : BitVec 32 := BitVec.ofNat 32 (i 2).val
  let c3_i32 : BitVec 32 := 3#32
  let v9 : BitVec 1 := Scalar.cmpi .eq arg2 c3_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S4x256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference9Ideal.lean ====
abbrev S8192x1024 : Shape := ⟨2, ![8192, 1024]⟩
abbrev S_ : Shape := ⟨0, ![]⟩
abbrev S1024x1024 : Shape := ⟨2, ![1024, 1024]⟩
abbrev S256x1024 : Shape := ⟨2, ![256, 1024]⟩
abbrev S1x256x1024 : Shape := ⟨3, ![1, 256, 1024]⟩
abbrev S4x256x1024 : Shape := ⟨3, ![4, 256, 1024]⟩

abbrev nBuf : Space → Nat
  | .hbm => 18
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S8192x1024, .f32⟩
  | .hbm, ⟨6, _⟩ => ⟨S8192x1024, .f32⟩
  | .hbm, ⟨7, _⟩ => ⟨S1024x1024, .f32⟩
  | .hbm, ⟨8, _⟩ => ⟨S1024x1024, .f32⟩
  | .hbm, ⟨9, _⟩ => ⟨S256x1024, .f32⟩
  | .hbm, ⟨10, _⟩ => ⟨S256x1024, .f32⟩
  | .hbm, ⟨11, _⟩ => ⟨S256x1024, .f32⟩
  | .hbm, ⟨12, _⟩ => ⟨S256x1024, .f32⟩
  | .hbm, ⟨13, _⟩ => ⟨S1x256x1024, .f32⟩
  | .hbm, ⟨14, _⟩ => ⟨S1x256x1024, .f32⟩
  | .hbm, ⟨15, _⟩ => ⟨S1x256x1024, .f32⟩
  | .hbm, ⟨16, _⟩ => ⟨S1x256x1024, .f32⟩
  | .hbm, ⟨17, _⟩ => ⟨S4x256x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩

abbrev nD : Nat := 1
abbrev τ : Topo := Topo.v7x

variable {F : FTy → Type} [FloatOps F]
-- ==== Kernel10.lean ====
abbrev S8192x1792 : Shape := ⟨2, ![8192, 1792]⟩
abbrev S8192x1024 : Shape := ⟨2, ![8192, 1024]⟩
abbrev S4x448x1024 : Shape := ⟨3, ![4, 448, 1024]⟩
abbrev S1024x1792 : Shape := ⟨2, ![1024, 1792]⟩
abbrev S1024x1024 : Shape := ⟨2, ![1024, 1024]⟩
abbrev S1792x1024 : Shape := ⟨2, ![1792, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1792, .bf16⟩
  | .hbm, ⟨1, _⟩ => ⟨S8192x1024, .bf16⟩
  | .hbm, ⟨2, _⟩ => ⟨S4x448x1024, .f32⟩
  | .local _ .vmem, ⟨0, _⟩ => ⟨S1024x1792, .bf16⟩
  | .local _ .vmem, ⟨1, _⟩ => ⟨S1024x1792, .bf16⟩
  | .local _ .vmem, ⟨2, _⟩ => ⟨S1024x1024, .bf16⟩
  | .local _ .vmem, ⟨3, _⟩ => ⟨S1024x1024, .bf16⟩
  | .local _ .vmem, ⟨4, _⟩ => ⟨S4x448x1024, .f32⟩
  | .local _ .vmem, ⟨5, _⟩ => ⟨S1792x1024, .f32⟩
  | _, _ => ⟨S8192x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1024x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S4x448x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference10Ideal.lean ====
abbrev S8192x1792 : Shape := ⟨2, ![8192, 1792]⟩
abbrev S8192x1024 : Shape := ⟨2, ![8192, 1024]⟩
abbrev S_ : Shape := ⟨0, ![]⟩
abbrev S1024x1792 : Shape := ⟨2, ![1024, 1792]⟩
abbrev S1792x1024 : Shape := ⟨2, ![1792, 1024]⟩
abbrev S448x1024 : Shape := ⟨2, ![448, 1024]⟩
abbrev S1x448x1024 : Shape := ⟨3, ![1, 448, 1024]⟩
abbrev S4x448x1024 : Shape := ⟨3, ![4, 448, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1792, .bf16⟩
  | .hbm, ⟨1, _⟩ => ⟨S8192x1024, .bf16⟩
  | .hbm, ⟨2, _⟩ => ⟨S_, .f32⟩
  | .hbm, ⟨3, _⟩ => ⟨S1024x1792, .f32⟩
  | .hbm, ⟨4, _⟩ => ⟨S8192x1024, .f32⟩
  | .hbm, ⟨5, _⟩ => ⟨S8192x1792, .f32⟩
  | .hbm, ⟨6, _⟩ => ⟨S8192x1792, .f32⟩
  | .hbm, ⟨7, _⟩ => ⟨S1792x1024, .f32⟩
  | .hbm, ⟨8, _⟩ => ⟨S1024x1792, .f32⟩
  | .hbm, ⟨9, _⟩ => ⟨S1792x1024, .f32⟩
  | .hbm, ⟨10, _⟩ => ⟨S448x1024, .f32⟩
  | .hbm, ⟨11, _⟩ => ⟨S448x1024, .f32⟩
  | .hbm, ⟨12, _⟩ => ⟨S448x1024, .f32⟩
  | .hbm, ⟨13, _⟩ => ⟨S448x1024, .f32⟩
  | .hbm, ⟨14, _⟩ => ⟨S1x448x1024, .f32⟩
  | .hbm, ⟨15, _⟩ => ⟨S1x448x1024, .f32⟩
  | .hbm, ⟨16, _⟩ => ⟨S1x448x1024, .f32⟩
  | .hbm, ⟨17, _⟩ => ⟨S1x448x1024, .f32⟩
  | .hbm, ⟨18, _⟩ => ⟨S4x448x1024, .f32⟩
  | _, _ => ⟨S8192x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Kernel11.lean ====
abbrev S8192x1280 : Shape := ⟨2, ![8192, 1280]⟩
abbrev S8192x1024 : Shape := ⟨2, ![8192, 1024]⟩
abbrev S4x320x1024 : Shape := ⟨3, ![4, 320, 1024]⟩
abbrev S1024x1280 : Shape := ⟨2, ![1024, 1280]⟩
abbrev S1024x1024 : Shape := ⟨2, ![1024, 1024]⟩
abbrev S1280x1024 : Shape := ⟨2, ![1280, 1024]⟩

abbrev nBuf : Space → Nat
  | .hbm => 3
  | .vmem => 6
  | .smem => 0
  | _ => 0

abbrev bufTy : (tb : Table) → Fin (tcTables nBuf tb) → BufTy
  | .hbm, ⟨0, _⟩ => ⟨S8192x1280, .bf16⟩
  | .hbm, ⟨1, _⟩ => ⟨S8192x1024, .bf16⟩
  | .hbm, ⟨2, _⟩ => ⟨S4x320x1024, .f32⟩
  | .local _ .vmem, ⟨0, _⟩ => ⟨S1024x1280, .bf16⟩
  | .local _ .vmem, ⟨1, _⟩ => ⟨S1024x1280, .bf16⟩
  | .local _ .vmem, ⟨2, _⟩ => ⟨S1024x1024, .bf16⟩
  | .local _ .vmem, ⟨3, _⟩ => ⟨S1024x1024, .bf16⟩
  | .local _ .vmem, ⟨4, _⟩ => ⟨S4x320x1024, .f32⟩
  | .local _ .vmem, ⟨5, _⟩ => ⟨S1280x1024, .f32⟩
  | _, _ => ⟨S8192x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4

abbrev nD : Nat := 1
abbrev τ : Topo := Topo.v7x

variable {F : FTy → Type} [FloatOps F]

abbrev grid0 : Pipeline.Grid := ⟨3, ![1, 1, 8], ![false, false, false]⟩

def k0_cond3 (i : grid0.Coords) : BitVec 1 :=
  let arg2 : BitVec 32 := BitVec.ofNat 32 (i 2).val
  let c7_i32 : BitVec 32 := 7#32
  let v9 : BitVec 1 := Scalar.cmpi .eq arg2 c7_i32
  let v10 : BitVec 32 := Scalar.extui v9
  let c0_i32_6 : BitVec 32 := 0#32
  let v11 : BitVec 1 := Scalar.cmpi .ne v10 c0_i32_6
  v11

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 2 → Memref sig .tc .vmem S1024x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 1 → Memref sig .tc .vmem S4x320x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference11Ideal.lean ====
abbrev S8192x1280 : Shape := ⟨2, ![8192, 1280]⟩
abbrev S8192x1024 : Shape := ⟨2, ![8192, 1024]⟩
abbrev S_ : Shape := ⟨0, ![]⟩
abbrev S1024x1280 : Shape := ⟨2, ![1024, 1280]⟩
abbrev S1280x1024 : Shape := ⟨2, ![1280, 1024]⟩
abbrev S320x1024 : Shape := ⟨2, ![320, 1024]⟩
abbrev S1x320x1024 : Shape := ⟨3, ![1, 320, 1024]⟩
abbrev S4x320x1024 : Shape := ⟨3, ![4, 320, 1024]⟩

abbrev nBuf : Space → Nat
  | .hbm => 19
  | .vmem => 0
  | .smem => 0
  | _ => 0

abbrev bufTy : (tb : Table) → Fin (tcTables nBuf tb) → BufTy
  | .hbm, ⟨0, _⟩ => ⟨S8192x1280, .bf16⟩
  | .hbm, ⟨1, _⟩ => ⟨S8192x1024, .bf16⟩
  | .hbm, ⟨2, _⟩ => ⟨S_, .f32⟩
  | .hbm, ⟨3, _⟩ => ⟨S1024x1280, .f32⟩
  | .hbm, ⟨4, _⟩ => ⟨S8192x1024, .f32⟩
  | .hbm, ⟨5, _⟩ => ⟨S8192x1280, .f32⟩
  | .hbm, ⟨6, _⟩ => ⟨S8192x1280, .f32⟩
  | .hbm, ⟨7, _⟩ => ⟨S1280x1024, .f32⟩
  | .hbm, ⟨8, _⟩ => ⟨S1024x1280, .f32⟩
  | .hbm, ⟨9, _⟩ => ⟨S1280x1024, .f32⟩
  | .hbm, ⟨10, _⟩ => ⟨S320x1024, .f32⟩
  | .hbm, ⟨11, _⟩ => ⟨S320x1024, .f32⟩
  | .hbm, ⟨12, _⟩ => ⟨S320x1024, .f32⟩
  | .hbm, ⟨13, _⟩ => ⟨S320x1024, .f32⟩
  | .hbm, ⟨14, _⟩ => ⟨S1x320x1024, .f32⟩
  | .hbm, ⟨15, _⟩ => ⟨S1x320x1024, .f32⟩
  | .hbm, ⟨16, _⟩ => ⟨S1x320x1024, .f32⟩
  | .hbm, ⟨17, _⟩ => ⟨S1x320x1024, .f32⟩
  | .hbm, ⟨18, _⟩ => ⟨S4x320x1024, .f32⟩
  | _, _ => ⟨S8192x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_v14 : Ref sig .tc := ⟨.hbm, 17, rfl⟩
abbrev main_v15 : Ref sig .tc := ⟨.hbm, 18, rfl⟩

abbrev nD : Nat := 1
abbrev τ : Topo := Topo.v7x

variable {F : FTy → Type} [FloatOps F]
-- ==== Kernel12.lean ====
abbrev S8192x1792 : Shape := ⟨2, ![8192, 1792]⟩
abbrev S1x4x1024x448 : Shape := ⟨4, ![1, 4, 1024, 448]⟩
abbrev S8192x1024 : Shape := ⟨2, ![8192, 1024]⟩
abbrev S1024 : Shape := ⟨1, ![1024]⟩
abbrev S1x1024 : Shape := ⟨2, ![1, 1024]⟩
abbrev S512x1792 : Shape := ⟨2, ![512, 1792]⟩
abbrev S512x1024 : Shape := ⟨2, ![512, 1024]⟩
abbrev S1024x1792 : Shape := ⟨2, ![1024, 1792]⟩
abbrev S1x1x1024x448 : Shape := ⟨4, ![1, 1, 1024, 448]⟩
abbrev S1024x448 : Shape := ⟨2, ![1024, 448]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S8192x1792, .bf16⟩
  | .hbm, ⟨1, _⟩ => ⟨S1x4x1024x448, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S1x1024, .f32⟩
  | .hbm, ⟨8, _⟩ => ⟨S8192x1024, .bf16⟩
  | .local _ .vmem, ⟨0, _⟩ => ⟨S512x1792, .bf16⟩
  | .local _ .vmem, ⟨1, _⟩ => ⟨S512x1792, .bf16⟩
  | .local _ .vmem, ⟨2, _⟩ => ⟨S1x4x1024x448, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | .local _ .vmem, ⟨13, _⟩ => ⟨S1024x1792, .bf16⟩
  | _, _ => ⟨S8192x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1792 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x1024x448 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference12Ideal.lean ====
abbrev S8192x1792 : Shape := ⟨2, ![8192, 1792]⟩
abbrev S1x4x1024x448 : Shape := ⟨4, ![1, 4, 1024, 448]⟩
abbrev S8192x1024 : Shape := ⟨2, ![8192, 1024]⟩
abbrev S1024 : Shape := ⟨1, ![1024]⟩
abbrev S4x1024x448 : Shape := ⟨3, ![4, 1024, 448]⟩
abbrev S1x1024x448 : Shape := ⟨3, ![1, 1024, 448]⟩
abbrev S1024x448 : Shape := ⟨2, ![1024, 448]⟩
abbrev S1024x1792 : Shape := ⟨2, ![1024, 1792]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 67
  | .vmem => 0
  | .smem => 0
  | _ => 0

abbrev bufTy : (tb : Table) → Fin (tcTables nBuf tb) → BufTy
  | .hbm, ⟨0, _⟩ => ⟨S8192x1792, .bf16⟩
  | .hbm, ⟨1, _⟩ => ⟨S1x4x1024x448, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S4x1024x448, .bf16⟩
  | .hbm, ⟨6, _⟩ => ⟨S4x1024x448, .f32⟩
  | .hbm, ⟨7, _⟩ => ⟨S1x1024x448, .f32⟩
  | .hbm, ⟨8, _⟩ => ⟨S1024x448, .f32⟩
  | .hbm, ⟨9, _⟩ => ⟨S1x1024x448, .f32⟩
  | .hbm, ⟨10, _⟩ => ⟨S1024x448, .f32⟩
  | .hbm, ⟨11, _⟩ => ⟨S1x1024x448, .f32⟩
  | .hbm, ⟨12, _⟩ => ⟨S1024x448, .f32⟩
  | .hbm, ⟨13, _⟩ => ⟨S1x1024x448, .f32⟩
  | .hbm, ⟨14, _⟩ => ⟨S1024x448, .f32⟩
  | .hbm, ⟨15, _⟩ => ⟨S1024x1792, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1792, .f32⟩
  | .hbm, ⟨37, _⟩ => ⟨S8192x1792, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S8192x1024, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S_, .f32⟩
  | .hbm, ⟨59, _⟩ => ⟨S8192, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S1x1024, .f32⟩
  | .hbm, ⟨66, _⟩ => ⟨S8192x1024, .bf16⟩
  | _, _ => ⟨S8192x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩

abbrev nD : Nat := 1
abbrev τ : Topo := Topo.v7x

variable {F : FTy → Type} [FloatOps F]
-- ==== Kernel13.lean ====
abbrev S8192x1280 : Shape := ⟨2, ![8192, 1280]⟩
abbrev S1x4x1024x320 : Shape := ⟨4, ![1, 4, 1024, 320]⟩
abbrev S8192x1024 : Shape := ⟨2, ![8192, 1024]⟩
abbrev S1024 : Shape := ⟨1, ![1024]⟩
abbrev S1x1024 : Shape := ⟨2, ![1, 1024]⟩
abbrev S512x1280 : Shape := ⟨2, ![512, 1280]⟩
abbrev S512x1024 : Shape := ⟨2, ![512, 1024]⟩
abbrev S1024x1280 : Shape := ⟨2, ![1024, 1280]⟩
abbrev S1x1x1024x320 : Shape := ⟨4, ![1, 1, 1024, 320]⟩
abbrev S1024x320 : Shape := ⟨2, ![1024, 320]⟩
abbrev S512 : Shape := ⟨1, ![512]⟩
abbrev S512x1 : Shape := ⟨2, ![512, 1]⟩

abbrev nBuf : Space → Nat
  | .hbm => 9
  | .vmem => 14
  | .smem => 0
  | _ => 0

abbrev bufTy : (tb : Table) → Fin (tcTables nBuf tb) → BufTy
  | .hbm, ⟨0, _⟩ => ⟨S8192x1280, .bf16⟩
  | .hbm, ⟨1, _⟩ => ⟨S1x4x1024x320, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S1x1024, .f32⟩
  | .hbm, ⟨6, _⟩ => ⟨S8192x1024, .f32⟩
  | .hbm, ⟨7, _⟩ => ⟨S1x1024, .f32⟩
  | .hbm, ⟨8, _⟩ => ⟨S8192x1024, .bf16⟩
  | .local _ .vmem, ⟨0, _⟩ => ⟨S512x1280, .bf16⟩
  | .local _ .vmem, ⟨1, _⟩ => ⟨S512x1280, .bf16⟩
  | .local _ .vmem, ⟨2, _⟩ => ⟨S1x4x1024x320, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .f32⟩
  | .local _ .vmem, ⟨9, _⟩ => ⟨S512x1024, .f32⟩
  | .local _ .vmem, ⟨10, _⟩ => ⟨S1x1024, .f32⟩
  | .local _ .vmem, ⟨11, _⟩ => ⟨S512x1024, .bf16⟩
  | .local _ .vmem, ⟨12, _⟩ => ⟨S512x1024, .bf16⟩
  | .local _ .vmem, ⟨13, _⟩ => ⟨S1024x1280, .bf16⟩
  | _, _ => ⟨S8192x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1_0 : Ref sig .tc := ⟨.hbm, 6, rfl⟩
abbrev main_v1_1 : Ref sig .tc := ⟨.hbm, 7, rfl⟩
abbrev main_v1_2 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg7_1 : Ref sig .tc := ⟨.vmem, 12, rfl⟩
abbrev cc0_scratch0 : Ref sig .tc := ⟨.vmem, 13, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1280 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4x1024x320 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference13Ideal.lean ====
abbrev S8192x1280 : Shape := ⟨2, ![8192, 1280]⟩
abbrev S1x4x1024x320 : Shape := ⟨4, ![1, 4, 1024, 320]⟩
abbrev S8192x1024 : Shape := ⟨2, ![8192, 1024]⟩
abbrev S1024 : Shape := ⟨1, ![1024]⟩
abbrev S4x1024x320 : Shape := ⟨3, ![4, 1024, 320]⟩
abbrev S1x1024x320 : Shape := ⟨3, ![1, 1024, 320]⟩
abbrev S1024x320 : Shape := ⟨2, ![1024, 320]⟩
abbrev S1024x1280 : Shape := ⟨2, ![1024, 1280]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 67
  | .vmem => 0
  | .smem => 0
  | _ => 0

abbrev bufTy : (tb : Table) → Fin (tcTables nBuf tb) → BufTy
  | .hbm, ⟨0, _⟩ => ⟨S8192x1280, .bf16⟩
  | .hbm, ⟨1, _⟩ => ⟨S1x4x1024x320, .bf16⟩
  | .hbm, ⟨2, _⟩ => ⟨S8192x1024, .f32⟩
  | .hbm, ⟨3, _⟩ => ⟨S1024, .f32⟩
  | .hbm, ⟨4, _⟩ => ⟨S8192x1024, .f32⟩
  | .hbm, ⟨5, _⟩ => ⟨S4x1024x320, .bf16⟩
  | .hbm, ⟨6, _⟩ => ⟨S4x1024x320, .f32⟩
  | .hbm, ⟨7, _⟩ => ⟨S1x1024x320, .f32⟩
  | .hbm, ⟨8, _⟩ => ⟨S1024x320, .f32⟩
  | .hbm, ⟨9, _⟩ => ⟨S1x1024x320, .f32⟩
  | .hbm, ⟨10, _⟩ => ⟨S1024x320, .f32⟩
  | .hbm, ⟨11, _⟩ => ⟨S1x1024x320, .f32⟩
  | .hbm, ⟨12, _⟩ => ⟨S1024x320, .f32⟩
  | .hbm, ⟨13, _⟩ => ⟨S1x1024x320, .f32⟩
  | .hbm, ⟨14, _⟩ => ⟨S1024x320, .f32⟩
  | .hbm, ⟨15, _⟩ => ⟨S1024x1280, .f32⟩
  | .hbm, ⟨16, _⟩ => ⟨S8192x1024, .f32⟩
  | .hbm, ⟨17, _⟩ => ⟨S_, .f32⟩
  | .hbm, ⟨18, _⟩ => ⟨S8192, .f32⟩
  | .hbm, ⟨19, _⟩ => ⟨S8192x1, .f32⟩
  | .hbm, ⟨20, _⟩ => ⟨S_, .f32⟩
  | .hbm, ⟨21, _⟩ => ⟨S8192x1, .f32⟩
  | .hbm, ⟨22, _⟩ => ⟨S8192x1, .f32⟩
  | .hbm, ⟨23, _⟩ => ⟨S_, .f32⟩
  | .hbm, ⟨24, _⟩ => ⟨S8192x1, .f32⟩
  | .hbm, ⟨25, _⟩ => ⟨S8192x1, .f32⟩
  | .hbm, ⟨26, _⟩ => ⟨S8192x1, .f32⟩
  | .hbm, ⟨27, _⟩ => ⟨S8192x1, .f32⟩
  | .hbm, ⟨28, _⟩ => ⟨S_, .f32⟩
  | .hbm, ⟨29, _⟩ => ⟨S8192x1, .f32⟩
  | .hbm, ⟨30, _⟩ => ⟨S8192x1, .f32⟩
  | .hbm, ⟨31, _⟩ => ⟨S8192x1024, .f32⟩
  | .hbm, ⟨32, _⟩ => ⟨S8192x1024, .f32⟩
  | .hbm, ⟨33, _⟩ => ⟨S1x1024, .f32⟩
  | .hbm, ⟨34, _⟩ => ⟨S8192x1024, .f32⟩
  | .hbm, ⟨35, _⟩ => ⟨S8192x1024, .f32⟩
  | .hbm, ⟨36, _⟩ => ⟨S8192x1280, .f32⟩
  | .hbm, ⟨37, _⟩ => ⟨S8192x1280, .f32⟩
  | .hbm, ⟨38, _⟩ => ⟨S8192x1024, .f32⟩
  | .hbm, ⟨39, _⟩ => ⟨S8192x1024, .f32⟩
  | .hbm, ⟨40, _⟩ => ⟨S_, .f32⟩
  | .hbm, ⟨41, _⟩ => ⟨S1024, .f32⟩
  | .hbm, ⟨42, _⟩ => ⟨S1x1024, .f32⟩
  | .hbm, ⟨43, _⟩ => ⟨S8192x1024, .f32⟩
  | .hbm, ⟨44, _⟩ => ⟨S8192x1024, .f32⟩
  | .hbm, ⟨45, _⟩ => ⟨S_, .f32⟩
  | .hbm, ⟨46, _⟩ => ⟨S1024, .f32⟩
  | .hbm, ⟨47, _⟩ => ⟨S8192x1024, .f32⟩
  | .hbm, ⟨48, _⟩ => ⟨S_, .f32⟩
  | .hbm, ⟨49, _⟩ => ⟨S8192, .f32⟩
  | .hbm, ⟨50, _⟩ => ⟨S8192x1, .f32⟩
  | .hbm, ⟨51, _⟩ => ⟨S8192x1024, .f32⟩
  | .hbm, ⟨52, _⟩ => ⟨S8192x1024, .f32⟩
  | .hbm, ⟨53, _⟩ => ⟨S8192x1024, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S_, .f32⟩
  | .hbm, ⟨59, _⟩ => ⟨S8192, .f32⟩
  | .hbm, ⟨60, _⟩ => ⟨S8192x1024, .f32⟩
  | .hbm, ⟨61, _⟩ => ⟨S8192x1024, .f32⟩
  | .hbm, ⟨62, _⟩ => ⟨S8192x1024, .f32⟩
  | .hbm, ⟨63, _⟩ => ⟨S8192x1024, .f32⟩
  | .hbm, ⟨64, _⟩ => ⟨S8192x1024, .f32⟩
  | .hbm, ⟨65, _⟩ => ⟨S1x1024, .f32⟩
  | .hbm, ⟨66, _⟩ => ⟨S8192x1024, .bf16⟩
  | _, _ => ⟨S8192x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_cst : Ref sig .tc := ⟨.hbm, 17, rfl⟩
abbrev main_v12 : Ref sig .tc := ⟨.hbm, 18, rfl⟩
abbrev main_v13 : Ref sig .tc := ⟨.hbm, 19, rfl⟩
abbrev main_cst_0 : Ref sig .tc := ⟨.hbm, 20, rfl⟩
abbrev main_v14 : Ref sig .tc := ⟨.hbm, 21, rfl⟩
abbrev main_v15 : Ref sig .tc := ⟨.hbm, 22, rfl⟩
abbrev main_cst_1 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_2 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_cst_3 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_cst_5 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_cst_6 : Ref sig .tc := ⟨.hbm, 55, rfl⟩
abbrev main_v43 : Ref sig .tc := ⟨.hbm, 56, rfl⟩
abbrev main_v44 : Ref sig .tc := ⟨.hbm, 57, rfl⟩
abbrev main_cst_7 : Ref sig .tc := ⟨.hbm, 58, rfl⟩
abbrev main_v45 : Ref sig .tc := ⟨.hbm, 59, rfl⟩
abbrev main_v46 : Ref sig .tc := ⟨.hbm, 60, rfl⟩
abbrev main_v47 : Ref sig .tc := ⟨.hbm, 61, rfl⟩
abbrev main_v48 : Ref sig .tc := ⟨.hbm, 62, rfl⟩
abbrev main_v49 : Ref sig .tc := ⟨.hbm, 63, rfl⟩
abbrev main_v50 : Ref sig .tc := ⟨.hbm, 64, rfl⟩
abbrev main_v51 : Ref sig .tc := ⟨.hbm, 65, rfl⟩
abbrev main_v52 : Ref sig .tc := ⟨.hbm, 66, rfl⟩

abbrev nD : Nat := 1
abbrev τ : Topo := Topo.v7x

variable {F : FTy → Type} [FloatOps F]
-- ==== Kernel14.lean ====
abbrev S8192x1024 : Shape := ⟨2, ![8192, 1024]⟩
abbrev S1x1024x1024 : Shape := ⟨3, ![1, 1024, 1024]⟩
abbrev S512x1024 : Shape := ⟨2, ![512, 1024]⟩
abbrev S1024x1024 : Shape := ⟨2, ![1024, 1024]⟩

abbrev nBuf : Space → Nat
  | .hbm => 4
  | .vmem => 7
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S8192x1024, .f32⟩
  | .hbm, ⟨3, _⟩ => ⟨S8192x1024, .f32⟩
  | .local _ .vmem, ⟨0, _⟩ => ⟨S512x1024, .bf16⟩
  | .local _ .vmem, ⟨1, _⟩ => ⟨S512x1024, .bf16⟩
  | .local _ .vmem, ⟨2, _⟩ => ⟨S1x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]
-- ==== Reference14Ideal.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S1x1024x1024, .bf16⟩
  | .hbm, ⟨2, _⟩ => ⟨S8192x1024, .f32⟩
  | .hbm, ⟨3, _⟩ => ⟨S8192x1024, .f32⟩
  | .hbm, ⟨4, _⟩ => ⟨S1024x1024, .bf16⟩
  | .hbm, ⟨5, _⟩ => ⟨S1024x1024, .f32⟩
  | .hbm, ⟨6, _⟩ => ⟨S8192x1024, .f32⟩
  | .hbm, ⟨7, _⟩ => ⟨S8192x1024, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel15.lean ====
abbrev S8192x1024 : Shape := ⟨2, ![8192, 1024]⟩
abbrev S1024 : Shape := ⟨1, ![1024]⟩
abbrev S1x4x1024x448 : Shape := ⟨4, ![1, 4, 1024, 448]⟩
abbrev S1x1024 : Shape := ⟨2, ![1, 1024]⟩
abbrev S8192x1792 : Shape := ⟨2, ![8192, 1792]⟩
abbrev S512x1024 : Shape := ⟨2, ![512, 1024]⟩
abbrev S512x1792 : Shape := ⟨2, ![512, 1792]⟩
abbrev S1024x1792 : Shape := ⟨2, ![1024, 1792]⟩
abbrev S1x1x1024x448 : Shape := ⟨4, ![1, 1, 1024, 448]⟩
abbrev S1024x448 : Shape := ⟨2, ![1024, 448]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x4x1024x448, .bf16⟩
  | .hbm, ⟨3, _⟩ => ⟨S1x1024, .f32⟩
  | .hbm, ⟨4, _⟩ => ⟨S8192x1024, .bf16⟩
  | .hbm, ⟨5, _⟩ => ⟨S8192x1792, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x4x1024x448, .bf16⟩
  | .local _ .vmem, ⟨4, _⟩ => ⟨S512x1024, .bf16⟩
  | .local _ .vmem, ⟨5, _⟩ => ⟨S512x1024, .bf16⟩
  | .local _ .vmem, ⟨6, _⟩ => ⟨S512x1792, .bf16⟩
  | .local _ .vmem, ⟨7, _⟩ => ⟨S512x1792, .bf16⟩
  | .local _ .vmem, ⟨8, _⟩ => ⟨S1024x1792, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4x1024x448 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1792 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference15Ideal.lean ====
abbrev S8192x1024 : Shape := ⟨2, ![8192, 1024]⟩
abbrev S1024 : Shape := ⟨1, ![1024]⟩
abbrev S1x4x1024x448 : Shape := ⟨4, ![1, 4, 1024, 448]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S4x1024x448 : Shape := ⟨3, ![4, 1024, 448]⟩
abbrev S1x1024x448 : Shape := ⟨3, ![1, 1024, 448]⟩
abbrev S1024x448 : Shape := ⟨2, ![1024, 448]⟩
abbrev S1024x1792 : Shape := ⟨2, ![1024, 1792]⟩
abbrev S8192x1792 : Shape := ⟨2, ![8192, 1792]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x4x1024x448, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S4x1024x448, .bf16⟩
  | .hbm, ⟨21, _⟩ => ⟨S4x1024x448, .f32⟩
  | .hbm, ⟨22, _⟩ => ⟨S1x1024x448, .f32⟩
  | .hbm, ⟨23, _⟩ => ⟨S1024x448, .f32⟩
  | .hbm, ⟨24, _⟩ => ⟨S1x1024x448, .f32⟩
  | .hbm, ⟨25, _⟩ => ⟨S1024x448, .f32⟩
  | .hbm, ⟨26, _⟩ => ⟨S1x1024x448, .f32⟩
  | .hbm, ⟨27, _⟩ => ⟨S1024x448, .f32⟩
  | .hbm, ⟨28, _⟩ => ⟨S1x1024x448, .f32⟩
  | .hbm, ⟨29, _⟩ => ⟨S1024x448, .f32⟩
  | .hbm, ⟨30, _⟩ => ⟨S1024x1792, .f32⟩
  | .hbm, ⟨31, _⟩ => ⟨S8192x1792, .f32⟩
  | .hbm, ⟨32, _⟩ => ⟨S8192x1792, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩

abbrev nD : Nat := 1
abbrev τ : Topo := Topo.v7x

variable {F : FTy → Type} [FloatOps F]
-- ==== Kernel16.lean ====
abbrev S8192x1024 : Shape := ⟨2, ![8192, 1024]⟩
abbrev S1024 : Shape := ⟨1, ![1024]⟩
abbrev S1x4x1024x320 : Shape := ⟨4, ![1, 4, 1024, 320]⟩
abbrev S1x1024 : Shape := ⟨2, ![1, 1024]⟩
abbrev S8192x1280 : Shape := ⟨2, ![8192, 1280]⟩
abbrev S512x1024 : Shape := ⟨2, ![512, 1024]⟩
abbrev S512x1280 : Shape := ⟨2, ![512, 1280]⟩
abbrev S1024x1280 : Shape := ⟨2, ![1024, 1280]⟩
abbrev S1x1x1024x320 : Shape := ⟨4, ![1, 1, 1024, 320]⟩
abbrev S1024x320 : Shape := ⟨2, ![1024, 320]⟩
abbrev S512 : Shape := ⟨1, ![512]⟩
abbrev S512x1 : Shape := ⟨2, ![512, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x4x1024x320, .bf16⟩
  | .hbm, ⟨3, _⟩ => ⟨S1x1024, .f32⟩
  | .hbm, ⟨4, _⟩ => ⟨S8192x1024, .bf16⟩
  | .hbm, ⟨5, _⟩ => ⟨S8192x1280, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S1x4x1024x320, .bf16⟩
  | .local _ .vmem, ⟨4, _⟩ => ⟨S512x1024, .bf16⟩
  | .local _ .vmem, ⟨5, _⟩ => ⟨S512x1024, .bf16⟩
  | .local _ .vmem, ⟨6, _⟩ => ⟨S512x1280, .bf16⟩
  | .local _ .vmem, ⟨7, _⟩ => ⟨S512x1280, .bf16⟩
  | .local _ .vmem, ⟨8, _⟩ => ⟨S1024x1280, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  let c0_i32_3 : BitVec 32 := 0#32
  ![c0_i32.toNat, c0_i32_0.toNat, c0_i32_1.toNat, c0_i32_2.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x4x1024x320 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1280 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference16Ideal.lean ====
abbrev S8192x1024 : Shape := ⟨2, ![8192, 1024]⟩
abbrev S1024 : Shape := ⟨1, ![1024]⟩
abbrev S1x4x1024x320 : Shape := ⟨4, ![1, 4, 1024, 320]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S4x1024x320 : Shape := ⟨3, ![4, 1024, 320]⟩
abbrev S1x1024x320 : Shape := ⟨3, ![1, 1024, 320]⟩
abbrev S1024x320 : Shape := ⟨2, ![1024, 320]⟩
abbrev S1024x1280 : Shape := ⟨2, ![1024, 1280]⟩
abbrev S8192x1280 : Shape := ⟨2, ![8192, 1280]⟩

abbrev nBuf : Space → Nat
  | .hbm => 33
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S1x4x1024x320, .bf16⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | .hbm, ⟨20, _⟩ => ⟨S4x1024x320, .bf16⟩
  | .hbm, ⟨21, _⟩ => ⟨S4x1024x320, .f32⟩
  | .hbm, ⟨22, _⟩ => ⟨S1x1024x320, .f32⟩
  | .hbm, ⟨23, _⟩ => ⟨S1024x320, .f32⟩
  | .hbm, ⟨24, _⟩ => ⟨S1x1024x320, .f32⟩
  | .hbm, ⟨25, _⟩ => ⟨S1024x320, .f32⟩
  | .hbm, ⟨26, _⟩ => ⟨S1x1024x320, .f32⟩
  | .hbm, ⟨27, _⟩ => ⟨S1024x320, .f32⟩
  | .hbm, ⟨28, _⟩ => ⟨S1x1024x320, .f32⟩
  | .hbm, ⟨29, _⟩ => ⟨S1024x320, .f32⟩
  | .hbm, ⟨30, _⟩ => ⟨S1024x1280, .f32⟩
  | .hbm, ⟨31, _⟩ => ⟨S8192x1280, .f32⟩
  | .hbm, ⟨32, _⟩ => ⟨S8192x1280, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩

abbrev nD : Nat := 1
abbrev τ : Topo := Topo.v7x

variable {F : FTy → Type} [FloatOps F]
-- ==== Kernel18.lean ====
abbrev S8192x1280 : Shape := ⟨2, ![8192, 1280]⟩
abbrev S12 : Shape := ⟨1, ![12]⟩
abbrev S256x512 : Shape := ⟨2, ![256, 512]⟩
abbrev S12x1 : Shape := ⟨2, ![12, 1]⟩
abbrev S12x128 : Shape := ⟨2, ![12, 128]⟩
abbrev S_ : Shape := ⟨0, ![]⟩
abbrev S16x128 : Shape := ⟨2, ![16, 128]⟩
abbrev S8192x1024 : Shape := ⟨2, ![8192, 1024]⟩
abbrev S128x768 : Shape := ⟨2, ![128, 768]⟩
abbrev S128x128 : Shape := ⟨2, ![128, 128]⟩
abbrev S128x256 : Shape := ⟨2, ![128, 256]⟩
abbrev S256x256 : Shape := ⟨2, ![256, 256]⟩
abbrev S128x1024 : Shape := ⟨2, ![128, 1024]⟩
abbrev S256x128 : Shape := ⟨2, ![256, 128]⟩
abbrev S1x128 : Shape := ⟨2, ![1, 128]⟩
abbrev S1x1 : Shape := ⟨2, ![1, 1]⟩
abbrev S256x768 : Shape := ⟨2, ![256, 768]⟩
abbrev S768x128 : Shape := ⟨2, ![768, 128]⟩
abbrev S1x768 : Shape := ⟨2, ![1, 768]⟩
abbrev S768 : Shape := ⟨1, ![768]⟩
abbrev S256 : Shape := ⟨1, ![256]⟩
abbrev S1x256 : Shape := ⟨2, ![1, 256]⟩

abbrev nBuf : Space → Nat
  | .hbm => 9
  | .vmem => 17
  | .smem => 0
  | _ => 0

abbrev bufTy : (tb : Table) → Fin (tcTables nBuf tb) → BufTy
  | .hbm, ⟨0, _⟩ => ⟨S8192x1280, .bf16⟩
  | .hbm, ⟨1, _⟩ => ⟨S12, .f32⟩
  | .hbm, ⟨2, _⟩ => ⟨S256x512, .bf16⟩
  | .hbm, ⟨3, _⟩ => ⟨S12x1, .f32⟩
  | .hbm, ⟨4, _⟩ => ⟨S12x128, .f32⟩
  | .hbm, ⟨5, _⟩ => ⟨S_, .i32⟩
  | .hbm, ⟨6, _⟩ => ⟨S_, .f32⟩
  | .hbm, ⟨7, _⟩ => ⟨S16x128, .f32⟩
  | .hbm, ⟨8, _⟩ => ⟨S8192x1024, .bf16⟩
  | .local _ .vmem, ⟨0, _⟩ => ⟨S128x768, .bf16⟩
  | .local _ .vmem, ⟨1, _⟩ => ⟨S128x768, .bf16⟩
  | .local _ .vmem, ⟨2, _⟩ => ⟨S128x128, .bf16⟩
  | .local _ .vmem, ⟨3, _⟩ => ⟨S128x128, .bf16⟩
  | .local _ .vmem, ⟨4, _⟩ => ⟨S128x128, .bf16⟩
  | .local _ .vmem, ⟨5, _⟩ => ⟨S128x128, .bf16⟩
  | .local _ .vmem, ⟨6, _⟩ => ⟨S128x128, .bf16⟩
  | .local _ .vmem, ⟨7, _⟩ => ⟨S128x128, .bf16⟩
  | .local _ .vmem, ⟨8, _⟩ => ⟨S128x128, .bf16⟩
  | .local _ .vmem, ⟨9, _⟩ => ⟨S128x128, .bf16⟩
  | .local _ .vmem, ⟨10, _⟩ => ⟨S128x256, .bf16⟩
  | .local _ .vmem, ⟨11, _⟩ => ⟨S128x256, .bf16⟩
  | .local _ .vmem, ⟨12, _⟩ => ⟨S16x128, .f32⟩
  | .local _ .vmem, ⟨13, _⟩ => ⟨S256x256, .bf16⟩
  | .local _ .vmem, ⟨14, _⟩ => ⟨S256x256, .bf16⟩
  | .local _ .vmem, ⟨15, _⟩ => ⟨S128x1024, .bf16⟩
  | .local _ .vmem, ⟨16, _⟩ => ⟨S128x1024, .bf16⟩
  | _, _ => ⟨S8192x1280, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_call0_v0 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg8_0 : Ref sig .tc := ⟨.vmem, 14, rfl⟩
abbrev cc0_stg9_0 : Ref sig .tc := ⟨.vmem, 15, rfl⟩
abbrev cc0_stg9_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem8_0 : DmaSem sig := 14
abbrev cc0_sem9_0 : DmaSem sig := 15
abbrev cc0_sem9_1 : DmaSem sig := 16

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c6_i32 : BitVec 32 := 6#32
  let c0_i32_0 : BitVec 32 := 0#32
  ![v1.toNat, c6_i32.toNat]

def cc0_transform_2 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_3 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c7_i32 : BitVec 32 := 7#32
  let c0_i32_0 : BitVec 32 := 0#32
  ![v1.toNat, c7_i32.toNat]

def cc0_transform_4 (i : grid0.Coords) : Fin 2 → Nat :=
  let arg0 : BitVec 32 := BitVec.ofNat 32 (i 0).val
  let c7_i32 : BitVec 32 := 7#32
  let c0_i32 : BitVec 32 := 0#32
  ![arg0.toNat, c7_i32.toNat]

def cc0_transform_5 (i : grid0.Coords) : Fin 2 → Nat :=
  let arg0 : BitVec 32 := BitVec.ofNat 32 (i 0).val
  let c4_i32 : BitVec 32 := 4#32
  let c0_i32 : BitVec 32 := 0#32
  ![arg0.toNat, c4_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x768 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S16x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x256 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S128x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Kernel18Ideal.lean ====
variable {F : FTy → Type} [FloatOps F] [Named F]
def κ : String → Option EReal := fun
  | "mask" => some ⊥
  | _ => none
-- ==== Reference18Ideal.lean ====
abbrev S8192x1280 : Shape := ⟨2, ![8192, 1280]⟩
abbrev S12 : Shape := ⟨1, ![12]⟩
abbrev S256x512 : Shape := ⟨2, ![256, 512]⟩
abbrev S8192x768 : Shape := ⟨2, ![8192, 768]⟩
abbrev S8192x128 : Shape := ⟨2, ![8192, 128]⟩
abbrev S8192x256 : Shape := ⟨2, ![8192, 256]⟩
abbrev S8192x12x64 : Shape := ⟨3, ![8192, 12, 64]⟩
abbrev S8192x2x64 : Shape := ⟨3, ![8192, 2, 64]⟩
abbrev S64x128x2x6x64 : Shape := ⟨5, ![64, 128, 2, 6, 64]⟩
abbrev S64x128x2x64 : Shape := ⟨4, ![64, 128, 2, 64]⟩
abbrev S63x128x2x64 : Shape := ⟨4, ![63, 128, 2, 64]⟩
abbrev S_ : Shape := ⟨0, ![]⟩
abbrev S64x256x2x64 : Shape := ⟨4, ![64, 256, 2, 64]⟩
abbrev S64x2x256x128x6 : Shape := ⟨5, ![64, 2, 256, 128, 6]⟩
abbrev S64x2x6x128x256 : Shape := ⟨5, ![64, 2, 6, 128, 256]⟩
abbrev S128 : Shape := ⟨1, ![128]⟩
abbrev S128x1 : Shape := ⟨2, ![128, 1]⟩
abbrev S256 : Shape := ⟨1, ![256]⟩
abbrev S1x256 : Shape := ⟨2, ![1, 256]⟩
abbrev S128x256 : Shape := ⟨2, ![128, 256]⟩
abbrev S64 : Shape := ⟨1, ![64]⟩
abbrev S64x1x1 : Shape := ⟨3, ![64, 1, 1]⟩
abbrev S1x1x256 : Shape := ⟨3, ![1, 1, 256]⟩
abbrev S64x1x256 : Shape := ⟨3, ![64, 1, 256]⟩
abbrev S1x128x256 : Shape := ⟨3, ![1, 128, 256]⟩
abbrev S64x128x256 : Shape := ⟨3, ![64, 128, 256]⟩
abbrev S64x1x1x128x256 : Shape := ⟨5, ![64, 1, 1, 128, 256]⟩
abbrev S2x6 : Shape := ⟨2, ![2, 6]⟩
abbrev S1x2x6x1x1 : Shape := ⟨5, ![1, 2, 6, 1, 1]⟩
abbrev S64x2x6x128 : Shape := ⟨4, ![64, 2, 6, 128]⟩
abbrev S64x2x6x128x1 : Shape := ⟨5, ![64, 2, 6, 128, 1]⟩
abbrev S64x2x64x6x128 : Shape := ⟨5, ![64, 2, 64, 6, 128]⟩
abbrev S8192x4x64 : Shape := ⟨3, ![8192, 4, 64]⟩
abbrev S256x256 : Shape := ⟨2, ![256, 256]⟩
abbrev S256x4x64 : Shape := ⟨3, ![256, 4, 64]⟩
abbrev S4x8192x256 : Shape := ⟨3, ![4, 8192, 256]⟩
abbrev S4x8192 : Shape := ⟨2, ![4, 8192]⟩
abbrev S4x8192x1 : Shape := ⟨3, ![4, 8192, 1]⟩
abbrev S4x64x8192 : Shape := ⟨3, ![4, 64, 8192]⟩
abbrev S8192x1024 : Shape := ⟨2, ![8192, 1024]⟩

abbrev nBuf : Space → Nat
  | .hbm => 119
  | .vmem => 0
  | .smem => 0
  | _ => 0

abbrev bufTy : (tb : Table) → Fin (tcTables nBuf tb) → BufTy
  | .hbm, ⟨0, _⟩ => ⟨S8192x1280, .bf16⟩
  | .hbm, ⟨1, _⟩ => ⟨S12, .f32⟩
  | .hbm, ⟨2, _⟩ => ⟨S256x512, .bf16⟩
  | .hbm, ⟨3, _⟩ => ⟨S8192x1280, .f32⟩
  | .hbm, ⟨4, _⟩ => ⟨S256x512, .f32⟩
  | .hbm, ⟨5, _⟩ => ⟨S8192x768, .f32⟩
  | .hbm, ⟨6, _⟩ => ⟨S8192x128, .f32⟩
  | .hbm, ⟨7, _⟩ => ⟨S8192x128, .f32⟩
  | .hbm, ⟨8, _⟩ => ⟨S8192x256, .f32⟩
  | .hbm, ⟨9, _⟩ => ⟨S8192x12x64, .f32⟩
  | .hbm, ⟨10, _⟩ => ⟨S8192x2x64, .f32⟩
  | .hbm, ⟨11, _⟩ => ⟨S8192x2x64, .f32⟩
  | .hbm, ⟨12, _⟩ => ⟨S64x128x2x6x64, .f32⟩
  | .hbm, ⟨13, _⟩ => ⟨S64x128x2x64, .f32⟩
  | .hbm, ⟨14, _⟩ => ⟨S63x128x2x64, .f32⟩
  | .hbm, ⟨15, _⟩ => ⟨S_, .i32⟩
  | .hbm, ⟨16, _⟩ => ⟨S_, .f32⟩
  | .hbm, ⟨17, _⟩ => ⟨S64x128x2x64, .f32⟩
  | .hbm, ⟨18, _⟩ => ⟨S64x256x2x64, .f32⟩
  | .hbm, ⟨19, _⟩ => ⟨S64x128x2x64, .f32⟩
  | .hbm, ⟨20, _⟩ => ⟨S63x128x2x64, .f32⟩
  | .hbm, ⟨21, _⟩ => ⟨S_, .i32⟩
  | .hbm, ⟨22, _⟩ => ⟨S_, .f32⟩
  | .hbm, ⟨23, _⟩ => ⟨S64x128x2x64, .f32⟩
  | .hbm, ⟨24, _⟩ => ⟨S64x256x2x64, .f32⟩
  | .hbm, ⟨25, _⟩ => ⟨S64x2x256x128x6, .f32⟩
  | .hbm, ⟨26, _⟩ => ⟨S64x2x6x128x256, .f32⟩
  | .hbm, ⟨27, _⟩ => ⟨S_, .f32⟩
  | .hbm, ⟨28, _⟩ => ⟨S64x2x6x128x256, .f32⟩
  | .hbm, ⟨29, _⟩ => ⟨S64x2x6x128x256, .f32⟩
  | .hbm, ⟨30, _⟩ => ⟨S128, .i32⟩
  | .hbm, ⟨31, _⟩ => ⟨S128x1, .i32⟩
  | .hbm, ⟨32, _⟩ => ⟨S256, .i32⟩
  | .hbm, ⟨33, _⟩ => ⟨S1x256, .i32⟩
  | .hbm, ⟨34, _⟩ => ⟨S_, .i32⟩
  | .hbm, ⟨35, _⟩ => ⟨S128x1, .i32⟩
  | .hbm, ⟨36, _⟩ => ⟨S128x1, .i32⟩
  | .hbm, ⟨37, _⟩ => ⟨S128x256, .i32⟩
  | .hbm, ⟨38, _⟩ => ⟨S128x256, .i32⟩
  | .hbm, ⟨39, _⟩ => ⟨S128x256, .i32⟩
  | .hbm, ⟨40, _⟩ => ⟨S_, .i32⟩
  | .hbm, ⟨41, _⟩ => ⟨S128x256, .i32⟩
  | .hbm, ⟨42, _⟩ => ⟨S128x256, .i1⟩
  | .hbm, ⟨43, _⟩ => ⟨S_, .i32⟩
  | .hbm, ⟨44, _⟩ => ⟨S128x256, .i32⟩
  | .hbm, ⟨45, _⟩ => ⟨S128x256, .i1⟩
  | .hbm, ⟨46, _⟩ => ⟨S128x256, .i1⟩
  | .hbm, ⟨47, _⟩ => ⟨S64, .i32⟩
  | .hbm, ⟨48, _⟩ => ⟨S64x1x1, .i32⟩
  | .hbm, ⟨49, _⟩ => ⟨S_, .i32⟩
  | .hbm, ⟨50, _⟩ => ⟨S64x1x1, .i32⟩
  | .hbm, ⟨51, _⟩ => ⟨S64x1x1, .i1⟩
  | .hbm, ⟨52, _⟩ => ⟨S1x1x256, .i32⟩
  | .hbm, ⟨53, _⟩ => ⟨S_, .i32⟩
  | .hbm, ⟨54, _⟩ => ⟨S1x1x256, .i32⟩
  | .hbm, ⟨55, _⟩ => ⟨S1x1x256, .i1⟩
  | .hbm, ⟨56, _⟩ => ⟨S64x1x256, .i1⟩
  | .hbm, ⟨57, _⟩ => ⟨S64x1x256, .i1⟩
  | .hbm, ⟨58, _⟩ => ⟨S64x1x256, .i1⟩
  | .hbm, ⟨59, _⟩ => ⟨S1x128x256, .i1⟩
  | .hbm, ⟨60, _⟩ => ⟨S64x128x256, .i1⟩
  | .hbm, ⟨61, _⟩ => ⟨S64x128x256, .i1⟩
  | .hbm, ⟨62, _⟩ => ⟨S64x128x256, .i1⟩
  | .hbm, ⟨63, _⟩ => ⟨S64x1x1x128x256, .i1⟩
  | .hbm, ⟨64, _⟩ => ⟨S_, .f32⟩
  | .hbm, ⟨65, _⟩ => ⟨S_, .f32⟩
  | .hbm, ⟨66, _⟩ => ⟨S64x2x6x128x256, .i1⟩
  | .hbm, ⟨67, _⟩ => ⟨S64x2x6x128x256, .f32⟩
  | .hbm, ⟨68, _⟩ => ⟨S64x2x6x128x256, .f32⟩
  | .hbm, ⟨69, _⟩ => ⟨S2x6, .f32⟩
  | .hbm, ⟨70, _⟩ => ⟨S1x2x6x1x1, .f32⟩
  | .hbm, ⟨71, _⟩ => ⟨S_, .f32⟩
  | .hbm, ⟨72, _⟩ => ⟨S64x2x6x128, .f32⟩
  | .hbm, ⟨73, _⟩ => ⟨S64x2x6x128x1, .f32⟩
  | .hbm, ⟨74, _⟩ => ⟨S64x2x6x128x1, .f32⟩
  | .hbm, ⟨75, _⟩ => ⟨S64x2x6x128x1, .f32⟩
  | .hbm, ⟨76, _⟩ => ⟨S64x2x6x128x256, .f32⟩
  | .hbm, ⟨77, _⟩ => ⟨S64x2x6x128x256, .f32⟩
  | .hbm, ⟨78, _⟩ => ⟨S64x2x6x128x256, .f32⟩
  | .hbm, ⟨79, _⟩ => ⟨S_, .f32⟩
  | .hbm, ⟨80, _⟩ => ⟨S64x2x6x128, .f32⟩
  | .hbm, ⟨81, _⟩ => ⟨S64x2x6x128x1, .f32⟩
  | .hbm, ⟨82, _⟩ => ⟨S64x2x6x128x1, .f32⟩
  | .hbm, ⟨83, _⟩ => ⟨S64x2x6x128x1, .f32⟩
  | .hbm, ⟨84, _⟩ => ⟨S64x2x6x128x1, .f32⟩
  | .hbm, ⟨85, _⟩ => ⟨S64x2x6x128x1, .f32⟩
  | .hbm, ⟨86, _⟩ => ⟨S64x2x6x128x256, .f32⟩
  | .hbm, ⟨87, _⟩ => ⟨S64x2x6x128x256, .f32⟩
  | .hbm, ⟨88, _⟩ => ⟨S64x2x64x6x128, .f32⟩
  | .hbm, ⟨89, _⟩ => ⟨S64x128x2x6x64, .f32⟩
  | .hbm, ⟨90, _⟩ => ⟨S8192x768, .f32⟩
  | .hbm, ⟨91, _⟩ => ⟨S8192x4x64, .f32⟩
  | .hbm, ⟨92, _⟩ => ⟨S256x256, .f32⟩
  | .hbm, ⟨93, _⟩ => ⟨S256x256, .f32⟩
  | .hbm, ⟨94, _⟩ => ⟨S256x4x64, .f32⟩
  | .hbm, ⟨95, _⟩ => ⟨S256x4x64, .f32⟩
  | .hbm, ⟨96, _⟩ => ⟨S4x8192x256, .f32⟩
  | .hbm, ⟨97, _⟩ => ⟨S_, .f32⟩
  | .hbm, ⟨98, _⟩ => ⟨S4x8192x256, .f32⟩
  | .hbm, ⟨99, _⟩ => ⟨S4x8192x256, .f32⟩
  | .hbm, ⟨100, _⟩ => ⟨S_, .f32⟩
  | .hbm, ⟨101, _⟩ => ⟨S4x8192, .f32⟩
  | .hbm, ⟨102, _⟩ => ⟨S_, .f32⟩
  | .hbm, ⟨103, _⟩ => ⟨S4x8192, .f32⟩
  | .hbm, ⟨104, _⟩ => ⟨S4x8192, .f32⟩
  | .hbm, ⟨105, _⟩ => ⟨S4x8192x1, .f32⟩
  | .hbm, ⟨106, _⟩ => ⟨S4x8192x256, .f32⟩
  | .hbm, ⟨107, _⟩ => ⟨S4x8192x256, .f32⟩
  | .hbm, ⟨108, _⟩ => ⟨S4x8192x256, .f32⟩
  | .hbm, ⟨109, _⟩ => ⟨S_, .f32⟩
  | .hbm, ⟨110, _⟩ => ⟨S4x8192, .f32⟩
  | .hbm, ⟨111, _⟩ => ⟨S4x8192x1, .f32⟩
  | .hbm, ⟨112, _⟩ => ⟨S4x8192x256, .f32⟩
  | .hbm, ⟨113, _⟩ => ⟨S4x8192x256, .f32⟩
  | .hbm, ⟨114, _⟩ => ⟨S4x64x8192, .f32⟩
  | .hbm, ⟨115, _⟩ => ⟨S8192x4x64, .f32⟩
  | .hbm, ⟨116, _⟩ => ⟨S8192x256, .f32⟩
  | .hbm, ⟨117, _⟩ => ⟨S8192x1024, .f32⟩
  | .hbm, ⟨118, _⟩ => ⟨S8192x1024, .bf16⟩
  | _, _ => ⟨S8192x1280, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_c : Ref sig .tc := ⟨.hbm, 15, rfl⟩
abbrev main_call0_v0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c_0 : Ref sig .tc := ⟨.hbm, 21, rfl⟩
abbrev main_call1_v0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_cst : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_c_1 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩
abbrev main_v30 : Ref sig .tc := ⟨.hbm, 39, rfl⟩
abbrev main_c_2 : Ref sig .tc := ⟨.hbm, 40, rfl⟩
abbrev main_v31 : Ref sig .tc := ⟨.hbm, 41, rfl⟩
abbrev main_v32 : Ref sig .tc := ⟨.hbm, 42, rfl⟩
abbrev main_c_3 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_c_4 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_c_5 : Ref sig .tc := ⟨.hbm, 53, rfl⟩
abbrev main_v41 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_cst_6 : Ref sig .tc := ⟨.hbm, 64, rfl⟩
abbrev main_call2_v0 : Ref sig .tc := ⟨.hbm, 65, rfl⟩
abbrev main_call2_v1 : Ref sig .tc := ⟨.hbm, 66, rfl⟩
abbrev main_call2_v2 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_cst_7 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_cst_8 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_cst_9 : Ref sig .tc := ⟨.hbm, 97, rfl⟩
abbrev main_v78 : Ref sig .tc := ⟨.hbm, 98, rfl⟩
abbrev main_v79 : Ref sig .tc := ⟨.hbm, 99, rfl⟩
abbrev main_cst_10 : Ref sig .tc := ⟨.hbm, 100, rfl⟩
abbrev main_v80 : Ref sig .tc := ⟨.hbm, 101, rfl⟩
abbrev main_cst_11 : Ref sig .tc := ⟨.hbm, 102, rfl⟩
abbrev main_v81 : Ref sig .tc := ⟨.hbm, 103, rfl⟩
abbrev main_v82 : Ref sig .tc := ⟨.hbm, 104, rfl⟩
abbrev main_v83 : Ref sig .tc := ⟨.hbm, 105, rfl⟩
abbrev main_v84 : Ref sig .tc := ⟨.hbm, 106, rfl⟩
abbrev main_v85 : Ref sig .tc := ⟨.hbm, 107, rfl⟩
abbrev main_v86 : Ref sig .tc := ⟨.hbm, 108, rfl⟩
abbrev main_cst_12 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_v94 : Ref sig .tc := ⟨.hbm, 117, rfl⟩
abbrev main_v95 : Ref sig .tc := ⟨.hbm, 118, rfl⟩

abbrev nD : Nat := 1
abbrev τ : Topo := Topo.v7x

variable {F : FTy → Type} [FloatOps F]
-- ==== Kernel17.lean ====
abbrev S8192x1792 : Shape := ⟨2, ![8192, 1792]⟩
abbrev S6x128x128 : Shape := ⟨3, ![6, 128, 128]⟩
abbrev S6x128 : Shape := ⟨2, ![6, 128]⟩
abbrev S256x512 : Shape := ⟨2, ![256, 512]⟩
abbrev S128x6 : Shape := ⟨2, ![128, 6]⟩
abbrev S_ : Shape := ⟨0, ![]⟩
abbrev S128x128 : Shape := ⟨2, ![128, 128]⟩
abbrev S8x128 : Shape := ⟨2, ![8, 128]⟩
abbrev S8192x1024 : Shape := ⟨2, ![8192, 1024]⟩
abbrev S128x1536 : Shape := ⟨2, ![128, 1536]⟩
abbrev S128x256 : Shape := ⟨2, ![128, 256]⟩
abbrev S256x256 : Shape := ⟨2, ![256, 256]⟩
abbrev S128x1024 : Shape := ⟨2, ![128, 1024]⟩
abbrev S1x128x128 : Shape := ⟨3, ![1, 128, 128]⟩
abbrev S128x1 : Shape := ⟨2, ![128, 1]⟩
abbrev S1x128 : Shape := ⟨2, ![1, 128]⟩
abbrev S256x128 : Shape := ⟨2, ![256, 128]⟩
abbrev S128 : Shape := ⟨1, ![128]⟩
abbrev S256 : Shape := ⟨1, ![256]⟩
abbrev S1x256 : Shape := ⟨2, ![1, 256]⟩

abbrev nBuf : Space → Nat
  | .hbm => 17
  | .vmem => 12
  | .smem => 0
  | _ => 0

abbrev bufTy : (tb : Table) → Fin (tcTables nBuf tb) → BufTy
  | .hbm, ⟨0, _⟩ => ⟨S8192x1792, .bf16⟩
  | .hbm, ⟨1, _⟩ => ⟨S6x128x128, .f32⟩
  | .hbm, ⟨2, _⟩ => ⟨S6x128, .f32⟩
  | .hbm, ⟨3, _⟩ => ⟨S6x128, .f32⟩
  | .hbm, ⟨4, _⟩ => ⟨S6x128, .f32⟩
  | .hbm, ⟨5, _⟩ => ⟨S256x512, .bf16⟩
  | .hbm, ⟨6, _⟩ => ⟨S128x6, .f32⟩
  | .hbm, ⟨7, _⟩ => ⟨S_, .i32⟩
  | .hbm, ⟨8, _⟩ => ⟨S_, .f32⟩
  | .hbm, ⟨9, _⟩ => ⟨S128x128, .f32⟩
  | .hbm, ⟨10, _⟩ => ⟨S_, .i32⟩
  | .hbm, ⟨11, _⟩ => ⟨S_, .f32⟩
  | .hbm, ⟨12, _⟩ => ⟨S8x128, .f32⟩
  | .hbm, ⟨13, _⟩ => ⟨S_, .i32⟩
  | .hbm, ⟨14, _⟩ => ⟨S_, .f32⟩
  | .hbm, ⟨15, _⟩ => ⟨S8x128, .f32⟩
  | .hbm, ⟨16, _⟩ => ⟨S8192x1024, .bf16⟩
  | .local _ .vmem, ⟨0, _⟩ => ⟨S128x1536, .bf16⟩
  | .local _ .vmem, ⟨1, _⟩ => ⟨S128x1536, .bf16⟩
  | .local _ .vmem, ⟨2, _⟩ => ⟨S128x256, .bf16⟩
  | .local _ .vmem, ⟨3, _⟩ => ⟨S128x256, .bf16⟩
  | .local _ .vmem, ⟨4, _⟩ => ⟨S6x128x128, .f32⟩
  | .local _ .vmem, ⟨5, _⟩ => ⟨S128x128, .f32⟩
  | .local _ .vmem, ⟨6, _⟩ => ⟨S8x128, .f32⟩
  | .local _ .vmem, ⟨7, _⟩ => ⟨S8x128, .f32⟩
  | .local _ .vmem, ⟨8, _⟩ => ⟨S256x256, .bf16⟩
  | .local _ .vmem, ⟨9, _⟩ => ⟨S256x256, .bf16⟩
  | .local _ .vmem, ⟨10, _⟩ => ⟨S128x1024, .bf16⟩
  | .local _ .vmem, ⟨11, _⟩ => ⟨S128x1024, .bf16⟩
  | _, _ => ⟨S8192x1792, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_c : Ref sig .tc := ⟨.hbm, 7, rfl⟩
abbrev main_call0_v0 : Ref sig .tc := ⟨.hbm, 8, rfl⟩
abbrev main_v1 : Ref sig .tc := ⟨.hbm, 9, rfl⟩
abbrev main_c_0 : Ref sig .tc := ⟨.hbm, 10, rfl⟩
abbrev main_call1_v0 : Ref sig .tc := ⟨.hbm, 11, rfl⟩
abbrev main_v2 : Ref sig .tc := ⟨.hbm, 12, rfl⟩
abbrev main_c_1 : Ref sig .tc := ⟨.hbm, 13, rfl⟩
abbrev main_call2_v0 : Ref sig .tc := ⟨.hbm, 14, rfl⟩
abbrev main_v3 : Ref sig .tc := ⟨.hbm, 15, rfl⟩
abbrev main_v4 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c1_i32 : BitVec 32 := 1#32
  let c0_i32_0 : BitVec 32 := 0#32
  ![c0_i32.toNat, c1_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x1536 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S128x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference17Ideal.lean ====
abbrev S8192x1792 : Shape := ⟨2, ![8192, 1792]⟩
abbrev S6x128x128 : Shape := ⟨3, ![6, 128, 128]⟩
abbrev S6x128 : Shape := ⟨2, ![6, 128]⟩
abbrev S256x512 : Shape := ⟨2, ![256, 512]⟩
abbrev S8192x1536 : Shape := ⟨2, ![8192, 1536]⟩
abbrev S8192x256 : Shape := ⟨2, ![8192, 256]⟩
abbrev S_ : Shape := ⟨0, ![]⟩
abbrev S8192x768 : Shape := ⟨2, ![8192, 768]⟩
abbrev S64x128x6x128 : Shape := ⟨4, ![64, 128, 6, 128]⟩
abbrev S64x128x6 : Shape := ⟨3, ![64, 128, 6]⟩
abbrev S64x128x6x1 : Shape := ⟨4, ![64, 128, 6, 1]⟩
abbrev S1x1x6x128 : Shape := ⟨4, ![1, 1, 6, 128]⟩
abbrev S128x128 : Shape := ⟨2, ![128, 128]⟩
abbrev S1x128x128 : Shape := ⟨3, ![1, 128, 128]⟩
abbrev S6x64x128x128 : Shape := ⟨4, ![6, 64, 128, 128]⟩
abbrev S128x6 : Shape := ⟨2, ![128, 6]⟩
abbrev S1x128x6x1 : Shape := ⟨4, ![1, 128, 6, 1]⟩
abbrev S8192x4x64 : Shape := ⟨3, ![8192, 4, 64]⟩
abbrev S256x256 : Shape := ⟨2, ![256, 256]⟩
abbrev S256x4x64 : Shape := ⟨3, ![256, 4, 64]⟩
abbrev S4x8192x256 : Shape := ⟨3, ![4, 8192, 256]⟩
abbrev S4x8192 : Shape := ⟨2, ![4, 8192]⟩
abbrev S4x8192x1 : Shape := ⟨3, ![4, 8192, 1]⟩
abbrev S4x64x8192 : Shape := ⟨3, ![4, 64, 8192]⟩
abbrev S8192x1024 : Shape := ⟨2, ![8192, 1024]⟩

abbrev nBuf : Space → Nat
  | .hbm => 111
  | .vmem => 0
  | .smem => 0
  | _ => 0

abbrev bufTy : (tb : Table) → Fin (tcTables nBuf tb) → BufTy
  | .hbm, ⟨0, _⟩ => ⟨S8192x1792, .bf16⟩
  | .hbm, ⟨1, _⟩ => ⟨S6x128x128, .f32⟩
  | .hbm, ⟨2, _⟩ => ⟨S6x128, .f32⟩
  | .hbm, ⟨3, _⟩ => ⟨S6x128, .f32⟩
  | .hbm, ⟨4, _⟩ => ⟨S6x128, .f32⟩
  | .hbm, ⟨5, _⟩ => ⟨S256x512, .bf16⟩
  | .hbm, ⟨6, _⟩ => ⟨S8192x1792, .f32⟩
  | .hbm, ⟨7, _⟩ => ⟨S256x512, .f32⟩
  | .hbm, ⟨8, _⟩ => ⟨S8192x1536, .f32⟩
  | .hbm, ⟨9, _⟩ => ⟨S8192x256, .f32⟩
  | .hbm, ⟨10, _⟩ => ⟨S8192x1536, .f32⟩
  | .hbm, ⟨11, _⟩ => ⟨S8192x1536, .f32⟩
  | .hbm, ⟨12, _⟩ => ⟨S_, .f32⟩
  | .hbm, ⟨13, _⟩ => ⟨S8192x1536, .f32⟩
  | .hbm, ⟨14, _⟩ => ⟨S8192x1536, .f32⟩
  | .hbm, ⟨15, _⟩ => ⟨S8192x1536, .f32⟩
  | .hbm, ⟨16, _⟩ => ⟨S_, .f32⟩
  | .hbm, ⟨17, _⟩ => ⟨S8192x1536, .f32⟩
  | .hbm, ⟨18, _⟩ => ⟨S8192x1536, .f32⟩
  | .hbm, ⟨19, _⟩ => ⟨S8192x1536, .f32⟩
  | .hbm, ⟨20, _⟩ => ⟨S_, .f32⟩
  | .hbm, ⟨21, _⟩ => ⟨S8192x1536, .f32⟩
  | .hbm, ⟨22, _⟩ => ⟨S8192x1536, .f32⟩
  | .hbm, ⟨23, _⟩ => ⟨S_, .f32⟩
  | .hbm, ⟨24, _⟩ => ⟨S8192x1536, .f32⟩
  | .hbm, ⟨25, _⟩ => ⟨S8192x1536, .f32⟩
  | .hbm, ⟨26, _⟩ => ⟨S8192x1536, .f32⟩
  | .hbm, ⟨27, _⟩ => ⟨S8192x768, .f32⟩
  | .hbm, ⟨28, _⟩ => ⟨S8192x768, .f32⟩
  | .hbm, ⟨29, _⟩ => ⟨S64x128x6x128, .f32⟩
  | .hbm, ⟨30, _⟩ => ⟨S_, .f32⟩
  | .hbm, ⟨31, _⟩ => ⟨S64x128x6, .f32⟩
  | .hbm, ⟨32, _⟩ => ⟨S64x128x6x1, .f32⟩
  | .hbm, ⟨33, _⟩ => ⟨S_, .f32⟩
  | .hbm, ⟨34, _⟩ => ⟨S64x128x6x1, .f32⟩
  | .hbm, ⟨35, _⟩ => ⟨S64x128x6x1, .f32⟩
  | .hbm, ⟨36, _⟩ => ⟨S64x128x6x128, .f32⟩
  | .hbm, ⟨37, _⟩ => ⟨S64x128x6x128, .f32⟩
  | .hbm, ⟨38, _⟩ => ⟨S64x128x6x128, .f32⟩
  | .hbm, ⟨39, _⟩ => ⟨S_, .f32⟩
  | .hbm, ⟨40, _⟩ => ⟨S64x128x6, .f32⟩
  | .hbm, ⟨41, _⟩ => ⟨S64x128x6x1, .f32⟩
  | .hbm, ⟨42, _⟩ => ⟨S_, .f32⟩
  | .hbm, ⟨43, _⟩ => ⟨S64x128x6x1, .f32⟩
  | .hbm, ⟨44, _⟩ => ⟨S64x128x6x1, .f32⟩
  | .hbm, ⟨45, _⟩ => ⟨S64x128x6x128, .f32⟩
  | .hbm, ⟨46, _⟩ => ⟨S64x128x6x128, .f32⟩
  | .hbm, ⟨47, _⟩ => ⟨S_, .f32⟩
  | .hbm, ⟨48, _⟩ => ⟨S64x128x6x1, .f32⟩
  | .hbm, ⟨49, _⟩ => ⟨S64x128x6x1, .f32⟩
  | .hbm, ⟨50, _⟩ => ⟨S64x128x6x1, .f32⟩
  | .hbm, ⟨51, _⟩ => ⟨S64x128x6x128, .f32⟩
  | .hbm, ⟨52, _⟩ => ⟨S64x128x6x128, .f32⟩
  | .hbm, ⟨53, _⟩ => ⟨S1x1x6x128, .f32⟩
  | .hbm, ⟨54, _⟩ => ⟨S64x128x6x128, .f32⟩
  | .hbm, ⟨55, _⟩ => ⟨S64x128x6x128, .f32⟩
  | .hbm, ⟨56, _⟩ => ⟨S1x1x6x128, .f32⟩
  | .hbm, ⟨57, _⟩ => ⟨S64x128x6x128, .f32⟩
  | .hbm, ⟨58, _⟩ => ⟨S64x128x6x128, .f32⟩
  | .hbm, ⟨59, _⟩ => ⟨S_, .i1⟩
  | .hbm, ⟨60, _⟩ => ⟨S128x128, .i1⟩
  | .hbm, ⟨61, _⟩ => ⟨S128x128, .i32⟩
  | .hbm, ⟨62, _⟩ => ⟨S_, .i32⟩
  | .hbm, ⟨63, _⟩ => ⟨S128x128, .i32⟩
  | .hbm, ⟨64, _⟩ => ⟨S128x128, .i32⟩
  | .hbm, ⟨65, _⟩ => ⟨S128x128, .i32⟩
  | .hbm, ⟨66, _⟩ => ⟨S128x128, .i1⟩
  | .hbm, ⟨67, _⟩ => ⟨S_, .i1⟩
  | .hbm, ⟨68, _⟩ => ⟨S128x128, .i1⟩
  | .hbm, ⟨69, _⟩ => ⟨S128x128, .i1⟩
  | .hbm, ⟨70, _⟩ => ⟨S1x128x128, .i1⟩
  | .hbm, ⟨71, _⟩ => ⟨S_, .f32⟩
  | .hbm, ⟨72, _⟩ => ⟨S6x128x128, .f32⟩
  | .hbm, ⟨73, _⟩ => ⟨S6x128x128, .i1⟩
  | .hbm, ⟨74, _⟩ => ⟨S6x128x128, .f32⟩
  | .hbm, ⟨75, _⟩ => ⟨S6x64x128x128, .f32⟩
  | .hbm, ⟨76, _⟩ => ⟨S64x128x6x128, .f32⟩
  | .hbm, ⟨77, _⟩ => ⟨S128x6, .f32⟩
  | .hbm, ⟨78, _⟩ => ⟨S1x128x6x1, .f32⟩
  | .hbm, ⟨79, _⟩ => ⟨S64x128x6x128, .f32⟩
  | .hbm, ⟨80, _⟩ => ⟨S64x128x6x128, .f32⟩
  | .hbm, ⟨81, _⟩ => ⟨S8192x768, .f32⟩
  | .hbm, ⟨82, _⟩ => ⟨S8192x768, .f32⟩
  | .hbm, ⟨83, _⟩ => ⟨S8192x4x64, .f32⟩
  | .hbm, ⟨84, _⟩ => ⟨S256x256, .f32⟩
  | .hbm, ⟨85, _⟩ => ⟨S256x256, .f32⟩
  | .hbm, ⟨86, _⟩ => ⟨S256x4x64, .f32⟩
  | .hbm, ⟨87, _⟩ => ⟨S256x4x64, .f32⟩
  | .hbm, ⟨88, _⟩ => ⟨S4x8192x256, .f32⟩
  | .hbm, ⟨89, _⟩ => ⟨S_, .f32⟩
  | .hbm, ⟨90, _⟩ => ⟨S4x8192x256, .f32⟩
  | .hbm, ⟨91, _⟩ => ⟨S4x8192x256, .f32⟩
  | .hbm, ⟨92, _⟩ => ⟨S_, .f32⟩
  | .hbm, ⟨93, _⟩ => ⟨S4x8192, .f32⟩
  | .hbm, ⟨94, _⟩ => ⟨S_, .f32⟩
  | .hbm, ⟨95, _⟩ => ⟨S4x8192, .f32⟩
  | .hbm, ⟨96, _⟩ => ⟨S4x8192, .f32⟩
  | .hbm, ⟨97, _⟩ => ⟨S4x8192x1, .f32⟩
  | .hbm, ⟨98, _⟩ => ⟨S4x8192x256, .f32⟩
  | .hbm, ⟨99, _⟩ => ⟨S4x8192x256, .f32⟩
  | .hbm, ⟨100, _⟩ => ⟨S4x8192x256, .f32⟩
  | .hbm, ⟨101, _⟩ => ⟨S_, .f32⟩
  | .hbm, ⟨102, _⟩ => ⟨S4x8192, .f32⟩
  | .hbm, ⟨103, _⟩ => ⟨S4x8192x1, .f32⟩
  | .hbm, ⟨104, _⟩ => ⟨S4x8192x256, .f32⟩
  | .hbm, ⟨105, _⟩ => ⟨S4x8192x256, .f32⟩
  | .hbm, ⟨106, _⟩ => ⟨S4x64x8192, .f32⟩
  | .hbm, ⟨107, _⟩ => ⟨S8192x4x64, .f32⟩
  | .hbm, ⟨108, _⟩ => ⟨S8192x256, .f32⟩
  | .hbm, ⟨109, _⟩ => ⟨S8192x1024, .f32⟩
  | .hbm, ⟨110, _⟩ => ⟨S8192x1024, .bf16⟩
  | _, _ => ⟨S8192x1792, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_cst_5 : Ref sig .tc := ⟨.hbm, 39, rfl⟩
abbrev main_v27 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_v30 : Ref sig .tc := ⟨.hbm, 44, rfl⟩
abbrev main_v31 : Ref sig .tc := ⟨.hbm, 45, rfl⟩
abbrev main_v32 : Ref sig .tc := ⟨.hbm, 46, rfl⟩
abbrev main_cst_7 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_c : Ref sig .tc := ⟨.hbm, 59, rfl⟩
abbrev main_v44 : Ref sig .tc := ⟨.hbm, 60, rfl⟩
abbrev main_call0_v0 : Ref sig .tc := ⟨.hbm, 61, rfl⟩
abbrev main_call0_c : Ref sig .tc := ⟨.hbm, 62, rfl⟩
abbrev main_call0_v1 : Ref sig .tc := ⟨.hbm, 63, rfl⟩
abbrev main_call0_v2 : Ref sig .tc := ⟨.hbm, 64, rfl⟩
abbrev main_call0_v3 : Ref sig .tc := ⟨.hbm, 65, rfl⟩
abbrev main_call0_v4 : Ref sig .tc := ⟨.hbm, 66, rfl⟩
abbrev main_call0_c_0 : Ref sig .tc := ⟨.hbm, 67, rfl⟩
abbrev main_call0_v5 : Ref sig .tc := ⟨.hbm, 68, rfl⟩
abbrev main_v45 : Ref sig .tc := ⟨.hbm, 69, rfl⟩
abbrev main_v46 : Ref sig .tc := ⟨.hbm, 70, rfl⟩
abbrev main_cst_8 : Ref sig .tc := ⟨.hbm, 71, rfl⟩
abbrev main_v47 : Ref sig .tc := ⟨.hbm, 72, rfl⟩
abbrev main_call1_v0 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩
abbrev main_v61 : Ref sig .tc := ⟨.hbm, 87, rfl⟩
abbrev main_v62 : Ref sig .tc := ⟨.hbm, 88, rfl⟩
abbrev main_cst_9 : Ref sig .tc := ⟨.hbm, 89, rfl⟩
abbrev main_v63 : Ref sig .tc := ⟨.hbm, 90, rfl⟩
abbrev main_v64 : Ref sig .tc := ⟨.hbm, 91, rfl⟩
abbrev main_cst_10 : Ref sig .tc := ⟨.hbm, 92, rfl⟩
abbrev main_v65 : Ref sig .tc := ⟨.hbm, 93, rfl⟩
abbrev main_cst_11 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_12 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_v75 : Ref sig .tc := ⟨.hbm, 105, rfl⟩
abbrev main_v76 : Ref sig .tc := ⟨.hbm, 106, rfl⟩
abbrev main_v77 : Ref sig .tc := ⟨.hbm, 107, rfl⟩
abbrev main_v78 : Ref sig .tc := ⟨.hbm, 108, rfl⟩
abbrev main_v79 : Ref sig .tc := ⟨.hbm, 109, rfl⟩
abbrev main_v80 : Ref sig .tc := ⟨.hbm, 110, rfl⟩

abbrev nD : Nat := 1
abbrev τ : Topo := Topo.v7x

variable {F : FTy → Type} [FloatOps F]
-- ==== Kernel19.lean ====
abbrev S256x1024 : Shape := ⟨2, ![256, 1024]⟩
abbrev S256x512 : Shape := ⟨2, ![256, 512]⟩
abbrev S4x256x512 : Shape := ⟨3, ![4, 256, 512]⟩
abbrev S1024x512 : Shape := ⟨2, ![1024, 512]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S256x512, .f32⟩
  | .hbm, ⟨2, _⟩ => ⟨S4x256x512, .f32⟩
  | .local _ .vmem, ⟨0, _⟩ => ⟨S256x1024, .bf16⟩
  | .local _ .vmem, ⟨1, _⟩ => ⟨S256x512, .f32⟩
  | .local _ .vmem, ⟨2, _⟩ => ⟨S4x256x512, .f32⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S256x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S4x256x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference19Ideal.lean ====
abbrev S256x1024 : Shape := ⟨2, ![256, 1024]⟩
abbrev S256x512 : Shape := ⟨2, ![256, 512]⟩
abbrev S_ : Shape := ⟨0, ![]⟩
abbrev S1024x512 : Shape := ⟨2, ![1024, 512]⟩
abbrev S512x1024 : Shape := ⟨2, ![512, 1024]⟩
abbrev S1x256x512 : Shape := ⟨3, ![1, 256, 512]⟩
abbrev S4x256x512 : Shape := ⟨3, ![4, 256, 512]⟩

abbrev nBuf : Space → Nat
  | .hbm => 17
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S256x512, .f32⟩
  | .hbm, ⟨2, _⟩ => ⟨S_, .f32⟩
  | .hbm, ⟨3, _⟩ => ⟨S1024x512, .f32⟩
  | .hbm, ⟨4, _⟩ => ⟨S256x1024, .f32⟩
  | .hbm, ⟨5, _⟩ => ⟨S256x512, .f32⟩
  | .hbm, ⟨6, _⟩ => ⟨S512x1024, .f32⟩
  | .hbm, ⟨7, _⟩ => ⟨S1024x512, .f32⟩
  | .hbm, ⟨8, _⟩ => ⟨S256x512, .f32⟩
  | .hbm, ⟨9, _⟩ => ⟨S256x512, .f32⟩
  | .hbm, ⟨10, _⟩ => ⟨S256x512, .f32⟩
  | .hbm, ⟨11, _⟩ => ⟨S256x512, .f32⟩
  | .hbm, ⟨12, _⟩ => ⟨S1x256x512, .f32⟩
  | .hbm, ⟨13, _⟩ => ⟨S1x256x512, .f32⟩
  | .hbm, ⟨14, _⟩ => ⟨S1x256x512, .f32⟩
  | .hbm, ⟨15, _⟩ => ⟨S1x256x512, .f32⟩
  | .hbm, ⟨16, _⟩ => ⟨S4x256x512, .f32⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩

abbrev nD : Nat := 1
abbrev τ : Topo := Topo.v7x

variable {F : FTy → Type} [FloatOps F]
-- ==== Kernel20.lean ====
abbrev S256x512 : Shape := ⟨2, ![256, 512]⟩
abbrev S1x1024x512 : Shape := ⟨3, ![1, 1024, 512]⟩
abbrev S256x1024 : Shape := ⟨2, ![256, 1024]⟩
abbrev S1024x512 : Shape := ⟨2, ![1024, 512]⟩

abbrev nBuf : Space → Nat
  | .hbm => 4
  | .vmem => 4
  | .smem => 0
  | _ => 0

abbrev bufTy : (tb : Table) → Fin (tcTables nBuf tb) → BufTy
  | .hbm, ⟨0, _⟩ => ⟨S256x512, .f32⟩
  | .hbm, ⟨1, _⟩ => ⟨S1x1024x512, .bf16⟩
  | .hbm, ⟨2, _⟩ => ⟨S256x1024, .f32⟩
  | .hbm, ⟨3, _⟩ => ⟨S256x1024, .f32⟩
  | .local _ .vmem, ⟨0, _⟩ => ⟨S256x512, .f32⟩
  | .local _ .vmem, ⟨1, _⟩ => ⟨S1x1024x512, .bf16⟩
  | .local _ .vmem, ⟨2, _⟩ => ⟨S256x1024, .f32⟩
  | .local _ .vmem, ⟨3, _⟩ => ⟨S256x1024, .f32⟩
  | _, _ => ⟨S256x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x512 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true, true, false]
-- ==== Reference20Ideal.lean ====
abbrev S256x512 : Shape := ⟨2, ![256, 512]⟩
abbrev S1x1024x512 : Shape := ⟨3, ![1, 1024, 512]⟩
abbrev S256x1024 : Shape := ⟨2, ![256, 1024]⟩
abbrev S1024x512 : Shape := ⟨2, ![1024, 512]⟩
abbrev S_ : Shape := ⟨0, ![]⟩

abbrev nBuf : Space → Nat
  | .hbm => 10
  | .vmem => 0
  | .smem => 0
  | _ => 0

abbrev bufTy : (tb : Table) → Fin (tcTables nBuf tb) → BufTy
  | .hbm, ⟨0, _⟩ => ⟨S256x512, .f32⟩
  | .hbm, ⟨1, _⟩ => ⟨S1x1024x512, .bf16⟩
  | .hbm, ⟨2, _⟩ => ⟨S256x1024, .f32⟩
  | .hbm, ⟨3, _⟩ => ⟨S1024x512, .bf16⟩
  | .hbm, ⟨4, _⟩ => ⟨S1024x512, .f32⟩
  | .hbm, ⟨5, _⟩ => ⟨S_, .f32⟩
  | .hbm, ⟨6, _⟩ => ⟨S256x1024, .f32⟩
  | .hbm, ⟨7, _⟩ => ⟨S256x512, .f32⟩
  | .hbm, ⟨8, _⟩ => ⟨S256x1024, .f32⟩
  | .hbm, ⟨9, _⟩ => ⟨S256x1024, .f32⟩
  | _, _ => ⟨S256x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_cst : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩

abbrev nD : Nat := 1
abbrev τ : Topo := Topo.v7x

variable {F : FTy → Type} [FloatOps F]
-- ==== Kernel21.lean ====
abbrev S256x1024 : Shape := ⟨2, ![256, 1024]⟩
abbrev S1x1024x512 : Shape := ⟨3, ![1, 1024, 512]⟩
abbrev S256x512 : Shape := ⟨2, ![256, 512]⟩
abbrev S1024x512 : Shape := ⟨2, ![1024, 512]⟩

abbrev nBuf : Space → Nat
  | .hbm => 3
  | .vmem => 3
  | .smem => 0
  | _ => 0

abbrev bufTy : (tb : Table) → Fin (tcTables nBuf tb) → BufTy
  | .hbm, ⟨0, _⟩ => ⟨S256x1024, .bf16⟩
  | .hbm, ⟨1, _⟩ => ⟨S1x1024x512, .bf16⟩
  | .hbm, ⟨2, _⟩ => ⟨S256x512, .bf16⟩
  | .local _ .vmem, ⟨0, _⟩ => ⟨S256x1024, .bf16⟩
  | .local _ .vmem, ⟨1, _⟩ => ⟨S1x1024x512, .bf16⟩
  | .local _ .vmem, ⟨2, _⟩ => ⟨S256x512, .bf16⟩
  | _, _ => ⟨S256x1024, .bf16⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨3, ![1, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 1 → Memref sig .tc .vmem S256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false, true]

abbrev stage0_1 : Fin 1 → Memref sig .tc .vmem S1x1024x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 1 → Memref sig .tc .vmem S256x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true, true, false]
-- ==== Reference21Ideal.lean ====
abbrev S256x1024 : Shape := ⟨2, ![256, 1024]⟩
abbrev S1x1024x512 : Shape := ⟨3, ![1, 1024, 512]⟩
abbrev S1024x512 : Shape := ⟨2, ![1024, 512]⟩
abbrev S256x512 : Shape := ⟨2, ![256, 512]⟩

abbrev nBuf : Space → Nat
  | .hbm => 7
  | .vmem => 0
  | .smem => 0
  | _ => 0

abbrev bufTy : (tb : Table) → Fin (tcTables nBuf tb) → BufTy
  | .hbm, ⟨0, _⟩ => ⟨S256x1024, .bf16⟩
  | .hbm, ⟨1, _⟩ => ⟨S1x1024x512, .bf16⟩
  | .hbm, ⟨2, _⟩ => ⟨S256x1024, .f32⟩
  | .hbm, ⟨3, _⟩ => ⟨S1024x512, .bf16⟩
  | .hbm, ⟨4, _⟩ => ⟨S1024x512, .f32⟩
  | .hbm, ⟨5, _⟩ => ⟨S256x512, .f32⟩
  | .hbm, ⟨6, _⟩ => ⟨S256x512, .bf16⟩
  | _, _ => ⟨S256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩

abbrev nD : Nat := 1
abbrev τ : Topo := Topo.v7x

variable {F : FTy → Type} [FloatOps F]
-- ==== Kernel22.lean ====
abbrev S256x1024 : Shape := ⟨2, ![256, 1024]⟩
abbrev S1024 : Shape := ⟨1, ![1024]⟩
abbrev S1x1024 : Shape := ⟨2, ![1, 1024]⟩
abbrev S256 : Shape := ⟨1, ![256]⟩
abbrev S256x1 : Shape := ⟨2, ![256, 1]⟩

abbrev nBuf : Space → Nat
  | .hbm => 4
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S1x1024, .f32⟩
  | .hbm, ⟨3, _⟩ => ⟨S256x1024, .bf16⟩
  | .local _ .vmem, ⟨0, _⟩ => ⟨S256x1024, .f32⟩
  | .local _ .vmem, ⟨1, _⟩ => ⟨S1x1024, .f32⟩
  | .local _ .vmem, ⟨2, _⟩ => ⟨S256x1024, .bf16⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]
-- ==== Reference22Ideal.lean ====
abbrev S256x1024 : Shape := ⟨2, ![256, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 19
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .f32⟩
  | .hbm, ⟨3, _⟩ => ⟨S_, .f32⟩
  | .hbm, ⟨4, _⟩ => ⟨S256, .f32⟩
  | .hbm, ⟨5, _⟩ => ⟨S256x1, .f32⟩
  | .hbm, ⟨6, _⟩ => ⟨S_, .f32⟩
  | .hbm, ⟨7, _⟩ => ⟨S256x1, .f32⟩
  | .hbm, ⟨8, _⟩ => ⟨S256x1, .f32⟩
  | .hbm, ⟨9, _⟩ => ⟨S_, .f32⟩
  | .hbm, ⟨10, _⟩ => ⟨S256x1, .f32⟩
  | .hbm, ⟨11, _⟩ => ⟨S256x1, .f32⟩
  | .hbm, ⟨12, _⟩ => ⟨S256x1, .f32⟩
  | .hbm, ⟨13, _⟩ => ⟨S256x1024, .f32⟩
  | .hbm, ⟨14, _⟩ => ⟨S256x1024, .f32⟩
  | .hbm, ⟨15, _⟩ => ⟨S1x1024, .f32⟩
  | .hbm, ⟨16, _⟩ => ⟨S256x1024, .f32⟩
  | .hbm, ⟨17, _⟩ => ⟨S256x1024, .f32⟩
  | .hbm, ⟨18, _⟩ => ⟨S256x1024, .bf16⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_cst_1 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩

abbrev nD : Nat := 1
abbrev τ : Topo := Topo.v7x

variable {F : FTy → Type} [FloatOps F]
-- ==== Kernel23.lean ====
abbrev S8192x1024 : Shape := ⟨2, ![8192, 1024]⟩
abbrev S1024 : Shape := ⟨1, ![1024]⟩
abbrev S1x1024 : Shape := ⟨2, ![1, 1024]⟩
abbrev S1x1 : Shape := ⟨2, ![1, 1]⟩
abbrev S512x1024 : Shape := ⟨2, ![512, 1024]⟩
abbrev S512 : Shape := ⟨1, ![512]⟩
abbrev S512x1 : Shape := ⟨2, ![512, 1]⟩
abbrev S1 : Shape := ⟨1, ![1]⟩

abbrev nBuf : Space → Nat
  | .hbm => 8
  | .vmem => 11
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S1x1024, .f32⟩
  | .hbm, ⟨4, _⟩ => ⟨S1x1, .f32⟩
  | .hbm, ⟨5, _⟩ => ⟨S8192x1024, .f32⟩
  | .hbm, ⟨6, _⟩ => ⟨S1x1024, .f32⟩
  | .hbm, ⟨7, _⟩ => ⟨S8192x1024, .bf16⟩
  | .local _ .vmem, ⟨0, _⟩ => ⟨S512x1024, .f32⟩
  | .local _ .vmem, ⟨1, _⟩ => ⟨S512x1024, .f32⟩
  | .local _ .vmem, ⟨2, _⟩ => ⟨S1x1024, .f32⟩
  | .local _ .vmem, ⟨3, _⟩ => ⟨S512x1024, .f32⟩
  | .local _ .vmem, ⟨4, _⟩ => ⟨S512x1024, .f32⟩
  | .local _ .vmem, ⟨5, _⟩ => ⟨S1x1, .f32⟩
  | .local _ .vmem, ⟨6, _⟩ => ⟨S512x1024, .f32⟩
  | .local _ .vmem, ⟨7, _⟩ => ⟨S512x1024, .f32⟩
  | .local _ .vmem, ⟨8, _⟩ => ⟨S1x1024, .f32⟩
  | .local _ .vmem, ⟨9, _⟩ => ⟨S512x1024, .bf16⟩
  | .local _ .vmem, ⟨10, _⟩ => ⟨S512x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference23Ideal.lean ====
abbrev S8192x1024 : Shape := ⟨2, ![8192, 1024]⟩
abbrev S1024 : Shape := ⟨1, ![1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩
abbrev S1x1 : Shape := ⟨2, ![1, 1]⟩

abbrev nBuf : Space → Nat
  | .hbm => 74
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1024, .f32⟩
  | .hbm, ⟨19, _⟩ => ⟨S8192x1024, .f32⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S_, .f32⟩
  | .hbm, ⟨26, _⟩ => ⟨S8192x1024, .f32⟩
  | .hbm, ⟨27, _⟩ => ⟨S8192x1024, .f32⟩
  | .hbm, ⟨28, _⟩ => ⟨S_, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S_, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S8192, .f32⟩
  | .hbm, ⟨41, _⟩ => ⟨S_, .f32⟩
  | .hbm, ⟨42, _⟩ => ⟨S8192, .f32⟩
  | .hbm, ⟨43, _⟩ => ⟨S8192, .f32⟩
  | .hbm, ⟨44, _⟩ => ⟨S8192x1024, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S1024, .f32⟩
  | .hbm, ⟨49, _⟩ => ⟨S1x1024, .f32⟩
  | .hbm, ⟨50, _⟩ => ⟨S8192x1024, .f32⟩
  | .hbm, ⟨51, _⟩ => ⟨S8192x1024, .f32⟩
  | .hbm, ⟨52, _⟩ => ⟨S_, .f32⟩
  | .hbm, ⟨53, _⟩ => ⟨S1024, .f32⟩
  | .hbm, ⟨54, _⟩ => ⟨S8192x1024, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S8192x1024, .f32⟩
  | .hbm, ⟨59, _⟩ => ⟨S8192x1024, .f32⟩
  | .hbm, ⟨60, _⟩ => ⟨S8192x1, .f32⟩
  | .hbm, ⟨61, _⟩ => ⟨S_, .f32⟩
  | .hbm, ⟨62, _⟩ => ⟨S8192x1, .f32⟩
  | .hbm, ⟨63, _⟩ => ⟨S8192x1, .f32⟩
  | .hbm, ⟨64, _⟩ => ⟨S_, .f32⟩
  | .hbm, ⟨65, _⟩ => ⟨S8192, .f32⟩
  | .hbm, ⟨66, _⟩ => ⟨S8192x1024, .f32⟩
  | .hbm, ⟨67, _⟩ => ⟨S8192x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S1x1, .f32⟩
  | .hbm, ⟨72, _⟩ => ⟨S1x1024, .f32⟩
  | .hbm, ⟨73, _⟩ => ⟨S8192x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_3 : Ref sig .tc := ⟨.hbm, 25, rfl⟩
abbrev main_v18 : Ref sig .tc := ⟨.hbm, 26, rfl⟩
abbrev main_v19 : Ref sig .tc := ⟨.hbm, 27, rfl⟩
abbrev main_cst_4 : Ref sig .tc := ⟨.hbm, 28, rfl⟩
abbrev main_v20 : Ref sig .tc := ⟨.hbm, 29, rfl⟩
abbrev main_cst_5 : Ref sig .tc := ⟨.hbm, 30, rfl⟩
abbrev main_v21 : Ref sig .tc := ⟨.hbm, 31, rfl⟩
abbrev main_v22 : Ref sig .tc := ⟨.hbm, 32, rfl⟩
abbrev main_cst_6 : Ref sig .tc := ⟨.hbm, 33, rfl⟩
abbrev main_v23 : Ref sig .tc := ⟨.hbm, 34, rfl⟩
abbrev main_cst_7 : Ref sig .tc := ⟨.hbm, 35, rfl⟩
abbrev main_v24 : Ref sig .tc := ⟨.hbm, 36, rfl⟩
abbrev main_cst_8 : Ref sig .tc := ⟨.hbm, 37, rfl⟩
abbrev main_cst_9 : Ref sig .tc := ⟨.hbm, 38, rfl⟩
abbrev main_v25 : Ref sig .tc := ⟨.hbm, 39, rfl⟩
abbrev main_v26 : Ref sig .tc := ⟨.hbm, 40, rfl⟩
abbrev main_cst_10 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_11 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_12 : Ref sig .tc := ⟨.hbm, 52, rfl⟩
abbrev main_v36 : Ref sig .tc := ⟨.hbm, 53, rfl⟩
abbrev main_v37 : Ref sig .tc := ⟨.hbm, 54, rfl⟩
abbrev main_cst_13 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_14 : Ref sig .tc := ⟨.hbm, 61, rfl⟩
abbrev main_v43 : Ref sig .tc := ⟨.hbm, 62, rfl⟩
abbrev main_v44 : Ref sig .tc := ⟨.hbm, 63, rfl⟩
abbrev main_cst_15 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_v50 : Ref sig .tc := ⟨.hbm, 70, rfl⟩
abbrev main_v51 : Ref sig .tc := ⟨.hbm, 71, rfl⟩
abbrev main_v52 : Ref sig .tc := ⟨.hbm, 72, rfl⟩
abbrev main_v53 : Ref sig .tc := ⟨.hbm, 73, rfl⟩

abbrev nD : Nat := 1
abbrev τ : Topo := Topo.v7x

variable {F : FTy → Type} [FloatOps F]
-- ==== Kernel24.lean ====
abbrev S256x1024 : Shape := ⟨2, ![256, 1024]⟩
abbrev S1024 : Shape := ⟨1, ![1024]⟩
abbrev S1x1024 : Shape := ⟨2, ![1, 1024]⟩
abbrev S_ : Shape := ⟨0, ![]⟩
abbrev S256 : Shape := ⟨1, ![256]⟩
abbrev S256x1 : Shape := ⟨2, ![256, 1]⟩

abbrev nBuf : Space → Nat
  | .hbm => 8
  | .vmem => 6
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .f32⟩
  | .hbm, ⟨3, _⟩ => ⟨S1x1024, .f32⟩
  | .hbm, ⟨4, _⟩ => ⟨S_, .f32⟩
  | .hbm, ⟨5, _⟩ => ⟨S256x1024, .f32⟩
  | .hbm, ⟨6, _⟩ => ⟨S256x1024, .f32⟩
  | .hbm, ⟨7, _⟩ => ⟨S1x1024, .f32⟩
  | .local _ .vmem, ⟨0, _⟩ => ⟨S256x1024, .f32⟩
  | .local _ .vmem, ⟨1, _⟩ => ⟨S1x1024, .f32⟩
  | .local _ .vmem, ⟨2, _⟩ => ⟨S256x1024, .f32⟩
  | .local _ .vmem, ⟨3, _⟩ => ⟨S256x1024, .f32⟩
  | .local _ .vmem, ⟨4, _⟩ => ⟨S256x1024, .f32⟩
  | .local _ .vmem, ⟨5, _⟩ => ⟨S1x1024, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S256x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S256x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference24Ideal.lean ====
abbrev S256x1024 : Shape := ⟨2, ![256, 1024]⟩
abbrev S1024 : Shape := ⟨1, ![1024]⟩
abbrev S_ : Shape := ⟨0, ![]⟩
abbrev S256 : Shape := ⟨1, ![256]⟩
abbrev S256x1 : Shape := ⟨2, ![256, 1]⟩
abbrev S1x1024 : Shape := ⟨2, ![1, 1024]⟩

abbrev nBuf : Space → Nat
  | .hbm => 49
  | .vmem => 0
  | .smem => 0
  | _ => 0

abbrev bufTy : (tb : Table) → Fin (tcTables nBuf tb) → BufTy
  | .hbm, ⟨0, _⟩ => ⟨S256x1024, .f32⟩
  | .hbm, ⟨1, _⟩ => ⟨S1024, .f32⟩
  | .hbm, ⟨2, _⟩ => ⟨S256x1024, .f32⟩
  | .hbm, ⟨3, _⟩ => ⟨S256x1024, .f32⟩
  | .hbm, ⟨4, _⟩ => ⟨S_, .f32⟩
  | .hbm, ⟨5, _⟩ => ⟨S256, .f32⟩
  | .hbm, ⟨6, _⟩ => ⟨S256x1, .f32⟩
  | .hbm, ⟨7, _⟩ => ⟨S_, .f32⟩
  | .hbm, ⟨8, _⟩ => ⟨S256x1, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S_, .f32⟩
  | .hbm, ⟨16, _⟩ => ⟨S256x1, .f32⟩
  | .hbm, ⟨17, _⟩ => ⟨S256x1, .f32⟩
  | .hbm, ⟨18, _⟩ => ⟨S256x1024, .f32⟩
  | .hbm, ⟨19, _⟩ => ⟨S256x1024, .f32⟩
  | .hbm, ⟨20, _⟩ => ⟨S1x1024, .f32⟩
  | .hbm, ⟨21, _⟩ => ⟨S256x1024, .f32⟩
  | .hbm, ⟨22, _⟩ => ⟨S256x1024, .f32⟩
  | .hbm, ⟨23, _⟩ => ⟨S256x1024, .f32⟩
  | .hbm, ⟨24, _⟩ => ⟨S_, .f32⟩
  | .hbm, ⟨25, _⟩ => ⟨S1024, .f32⟩
  | .hbm, ⟨26, _⟩ => ⟨S1x1024, .f32⟩
  | .hbm, ⟨27, _⟩ => ⟨S256x1024, .f32⟩
  | .hbm, ⟨28, _⟩ => ⟨S256x1024, .f32⟩
  | .hbm, ⟨29, _⟩ => ⟨S_, .f32⟩
  | .hbm, ⟨30, _⟩ => ⟨S1024, .f32⟩
  | .hbm, ⟨31, _⟩ => ⟨S256x1024, .f32⟩
  | .hbm, ⟨32, _⟩ => ⟨S_, .f32⟩
  | .hbm, ⟨33, _⟩ => ⟨S256, .f32⟩
  | .hbm, ⟨34, _⟩ => ⟨S256x1, .f32⟩
  | .hbm, ⟨35, _⟩ => ⟨S256x1024, .f32⟩
  | .hbm, ⟨36, _⟩ => ⟨S256x1024, .f32⟩
  | .hbm, ⟨37, _⟩ => ⟨S256x1, .f32⟩
  | .hbm, ⟨38, _⟩ => ⟨S_, .f32⟩
  | .hbm, ⟨39, _⟩ => ⟨S256x1, .f32⟩
  | .hbm, ⟨40, _⟩ => ⟨S256x1, .f32⟩
  | .hbm, ⟨41, _⟩ => ⟨S_, .f32⟩
  | .hbm, ⟨42, _⟩ => ⟨S256, .f32⟩
  | .hbm, ⟨43, _⟩ => ⟨S256x1024, .f32⟩
  | .hbm, ⟨44, _⟩ => ⟨S256x1024, .f32⟩
  | .hbm, ⟨45, _⟩ => ⟨S256x1024, .f32⟩
  | .hbm, ⟨46, _⟩ => ⟨S256x1024, .f32⟩
  | .hbm, ⟨47, _⟩ => ⟨S256x1024, .f32⟩
  | .hbm, ⟨48, _⟩ => ⟨S1x1024, .f32⟩
  | _, _ => ⟨S256x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_v2 : Ref sig .tc := ⟨.hbm, 6, rfl⟩
abbrev main_cst_0 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_cst_2 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_3 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_4 : Ref sig .tc := ⟨.hbm, 29, rfl⟩
abbrev main_v21 : Ref sig .tc := ⟨.hbm, 30, rfl⟩
abbrev main_v22 : Ref sig .tc := ⟨.hbm, 31, rfl⟩
abbrev main_cst_5 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_cst_6 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩

abbrev nD : Nat := 1
abbrev τ : Topo := Topo.v7x

variable {F : FTy → Type} [FloatOps F]
-- ==== Kernel25.lean ====
abbrev S8x1672x128 : Shape := ⟨3, ![8, 1672, 128]⟩
abbrev S1672x128 : Shape := ⟨2, ![1672, 128]⟩
abbrev S8x88x128 : Shape := ⟨3, ![8, 88, 128]⟩
abbrev S88x128 : Shape := ⟨2, ![88, 128]⟩
abbrev S1x88x128 : Shape := ⟨3, ![1, 88, 128]⟩

abbrev nBuf : Space → Nat
  | .hbm => 2
  | .vmem => 4
  | .smem => 0
  | _ => 0

abbrev bufTy : (tb : Table) → Fin (tcTables nBuf tb) → BufTy
  | .hbm, ⟨0, _⟩ => ⟨S8x1672x128, .f32⟩
  | .hbm, ⟨1, _⟩ => ⟨S1672x128, .f32⟩
  | .local _ .vmem, ⟨0, _⟩ => ⟨S8x88x128, .f32⟩
  | .local _ .vmem, ⟨1, _⟩ => ⟨S8x88x128, .f32⟩
  | .local _ .vmem, ⟨2, _⟩ => ⟨S88x128, .f32⟩
  | .local _ .vmem, ⟨3, _⟩ => ⟨S88x128, .f32⟩
  | _, _ => ⟨S8x1672x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![19], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x88x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S88x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference25Ideal.lean ====
abbrev S8x1672x128 : Shape := ⟨3, ![8, 1672, 128]⟩
abbrev S_ : Shape := ⟨0, ![]⟩
abbrev S1672x128 : Shape := ⟨2, ![1672, 128]⟩

abbrev nBuf : Space → Nat
  | .hbm => 3
  | .vmem => 0
  | .smem => 0
  | _ => 0

abbrev bufTy : (tb : Table) → Fin (tcTables nBuf tb) → BufTy
  | .hbm, ⟨0, _⟩ => ⟨S8x1672x128, .f32⟩
  | .hbm, ⟨1, _⟩ => ⟨S_, .f32⟩
  | .hbm, ⟨2, _⟩ => ⟨S1672x128, .f32⟩
  | _, _ => ⟨S8x1672x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel26.lean ====
abbrev S1672x128 : Shape := ⟨2, ![1672, 128]⟩
abbrev S8x128 : Shape := ⟨2, ![8, 128]⟩

abbrev nBuf : Space → Nat
  | .hbm => 7
  | .vmem => 14
  | .smem => 0
  | _ => 0

abbrev bufTy : (tb : Table) → Fin (tcTables nBuf tb) → BufTy
  | .hbm, ⟨0, _⟩ => ⟨S1672x128, .f32⟩
  | .hbm, ⟨1, _⟩ => ⟨S1672x128, .f32⟩
  | .hbm, ⟨2, _⟩ => ⟨S1672x128, .f32⟩
  | .hbm, ⟨3, _⟩ => ⟨S1672x128, .f32⟩
  | .hbm, ⟨4, _⟩ => ⟨S1672x128, .f32⟩
  | .hbm, ⟨5, _⟩ => ⟨S1672x128, .f32⟩
  | .hbm, ⟨6, _⟩ => ⟨S1672x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | _, _ => ⟨S1672x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![209], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference26Ideal.lean ====
abbrev S1672x128 : Shape := ⟨2, ![1672, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1672x128, .f32⟩
  | .hbm, ⟨1, _⟩ => ⟨S1672x128, .f32⟩
  | .hbm, ⟨2, _⟩ => ⟨S1672x128, .f32⟩
  | .hbm, ⟨3, _⟩ => ⟨S1672x128, .f32⟩
  | .hbm, ⟨4, _⟩ => ⟨S_, .f32⟩
  | .hbm, ⟨5, _⟩ => ⟨S1672x128, .f32⟩
  | .hbm, ⟨6, _⟩ => ⟨S1672x128, .f32⟩
  | .hbm, ⟨7, _⟩ => ⟨S_, .f32⟩
  | .hbm, ⟨8, _⟩ => ⟨S1672x128, .f32⟩
  | .hbm, ⟨9, _⟩ => ⟨S1672x128, .f32⟩
  | .hbm, ⟨10, _⟩ => ⟨S1672x128, .f32⟩
  | .hbm, ⟨11, _⟩ => ⟨S_, .f32⟩
  | .hbm, ⟨12, _⟩ => ⟨S1672x128, .f32⟩
  | .hbm, ⟨13, _⟩ => ⟨S1672x128, .f32⟩
  | .hbm, ⟨14, _⟩ => ⟨S1672x128, .f32⟩
  | .hbm, ⟨15, _⟩ => ⟨S_, .f32⟩
  | .hbm, ⟨16, _⟩ => ⟨S1672x128, .f32⟩
  | .hbm, ⟨17, _⟩ => ⟨S1672x128, .f32⟩
  | .hbm, ⟨18, _⟩ => ⟨S1672x128, .f32⟩
  | .hbm, ⟨19, _⟩ => ⟨S_, .f32⟩
  | .hbm, ⟨20, _⟩ => ⟨S1672x128, .f32⟩
  | .hbm, ⟨21, _⟩ => ⟨S1672x128, .f32⟩
  | .hbm, ⟨22, _⟩ => ⟨S_, .f32⟩
  | .hbm, ⟨23, _⟩ => ⟨S1672x128, .f32⟩
  | .hbm, ⟨24, _⟩ => ⟨S1672x128, .f32⟩
  | .hbm, ⟨25, _⟩ => ⟨S1672x128, .f32⟩
  | .hbm, ⟨26, _⟩ => ⟨S_, .f32⟩
  | .hbm, ⟨27, _⟩ => ⟨S1672x128, .f32⟩
  | .hbm, ⟨28, _⟩ => ⟨S1672x128, .f32⟩
  | .hbm, ⟨29, _⟩ => ⟨S1672x128, .f32⟩
  | .hbm, ⟨30, _⟩ => ⟨S_, .f32⟩
  | .hbm, ⟨31, _⟩ => ⟨S1672x128, .f32⟩
  | .hbm, ⟨32, _⟩ => ⟨S1672x128, .f32⟩
  | .hbm, ⟨33, _⟩ => ⟨S1672x128, .f32⟩
  | .hbm, ⟨34, _⟩ => ⟨S_, .f32⟩
  | .hbm, ⟨35, _⟩ => ⟨S1672x128, .f32⟩
  | .hbm, ⟨36, _⟩ => ⟨S1672x128, .f32⟩
  | _, _ => ⟨S1672x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== Kernel27.lean ====
abbrev S4096x1408 : Shape := ⟨2, ![4096, 1408]⟩
abbrev S2048x1408 : Shape := ⟨2, ![2048, 1408]⟩
abbrev S1 : Shape := ⟨1, ![1]⟩
abbrev S256x1408 : Shape := ⟨2, ![256, 1408]⟩

abbrev nBuf : Space → Nat
  | .hbm => 9
  | .vmem => 18
  | .smem => 1
  | _ => 0

abbrev bufTy : (tb : Table) → Fin (tcTables nBuf tb) → BufTy
  | .hbm, ⟨0, _⟩ => ⟨S4096x1408, .f32⟩
  | .hbm, ⟨1, _⟩ => ⟨S2048x1408, .f32⟩
  | .hbm, ⟨2, _⟩ => ⟨S2048x1408, .f32⟩
  | .hbm, ⟨3, _⟩ => ⟨S4096x1408, .f32⟩
  | .hbm, ⟨4, _⟩ => ⟨S4096x1408, .f32⟩
  | .hbm, ⟨5, _⟩ => ⟨S4096x1408, .f32⟩
  | .hbm, ⟨6, _⟩ => ⟨S4096x1408, .f32⟩
  | .hbm, ⟨7, _⟩ => ⟨S4096x1408, .f32⟩
  | .hbm, ⟨8, _⟩ => ⟨S4096x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | .local _ .vmem, ⟨14, _⟩ => ⟨S256x1408, .f32⟩
  | .local _ .vmem, ⟨15, _⟩ => ⟨S256x1408, .f32⟩
  | .local _ .vmem, ⟨16, _⟩ => ⟨S256x1408, .f32⟩
  | .local _ .vmem, ⟨17, _⟩ => ⟨S256x1408, .f32⟩
  | .local _ .smem, ⟨0, _⟩ => ⟨S1, .i32⟩
  | _, _ => ⟨S4096x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_arg5 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg5.idx], fun | 0 => main_arg5.names | ⟨_ + 1, h⟩ => absurd h (Nat.not_lt.2 (Nat.le_add_left _ _)), fun | 0 => rfl | ⟨_ + 1, h⟩ => absurd h (Nat.not_lt.2 (Nat.le_add_left _ _))⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.muli v16 c2_i32
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let v28 : BitVec 32 := Scalar.addi v17 v27
  let c0_i32_10 : BitVec 32 := 0#32
  let c0_i32_11 : BitVec 32 := 0#32
  ![v28.toNat, c0_i32_10.toNat]

def cc0_transform_2 (i : grid0.Coords) : Fin 2 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32 : BitVec 32 := 2#32
  let v17 : BitVec 32 := Scalar.muli v16 c2_i32
  let c2_i32_4 : BitVec 32 := 2#32
  let c0_i32_5 : BitVec 32 := 0#32
  let v18 : BitVec 1 := Scalar.cmpi .eq c2_i32_4 c0_i32_5
  let c1_i32_6 : BitVec 32 := 1#32
  let v19 : BitVec 32 := Scalar.select v18 c1_i32_6 c2_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let v28 : BitVec 32 := Scalar.addi v17 v27
  let c0_i32_10 : BitVec 32 := 0#32
  let c0_i32_11 : BitVec 32 := 0#32
  ![v28.toNat, c0_i32_10.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x1408 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S256x1408 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference27Ideal.lean ====
abbrev S4096x1408 : Shape := ⟨2, ![4096, 1408]⟩
abbrev S2048x1408 : Shape := ⟨2, ![2048, 1408]⟩
abbrev S1 : Shape := ⟨1, ![1]⟩
abbrev S2 : Shape := ⟨1, ![2]⟩
abbrev S1x2x1x1 : Shape := ⟨4, ![1, 2, 1, 1]⟩
abbrev S_ : Shape := ⟨0, ![]⟩
abbrev S4x1x512x1408 : Shape := ⟨4, ![4, 1, 512, 1408]⟩
abbrev S4x2x512x1408 : Shape := ⟨4, ![4, 2, 512, 1408]⟩

abbrev nBuf : Space → Nat
  | .hbm => 51
  | .vmem => 0
  | .smem => 0
  | _ => 0

abbrev bufTy : (tb : Table) → Fin (tcTables nBuf tb) → BufTy
  | .hbm, ⟨0, _⟩ => ⟨S4096x1408, .f32⟩
  | .hbm, ⟨1, _⟩ => ⟨S2048x1408, .f32⟩
  | .hbm, ⟨2, _⟩ => ⟨S2048x1408, .f32⟩
  | .hbm, ⟨3, _⟩ => ⟨S4096x1408, .f32⟩
  | .hbm, ⟨4, _⟩ => ⟨S4096x1408, .f32⟩
  | .hbm, ⟨5, _⟩ => ⟨S1, .i32⟩
  | .hbm, ⟨6, _⟩ => ⟨S2, .i32⟩
  | .hbm, ⟨7, _⟩ => ⟨S1x2x1x1, .i32⟩
  | .hbm, ⟨8, _⟩ => ⟨S_, .i32⟩
  | .hbm, ⟨9, _⟩ => ⟨S1x2x1x1, .i32⟩
  | .hbm, ⟨10, _⟩ => ⟨S1x2x1x1, .i1⟩
  | .hbm, ⟨11, _⟩ => ⟨S4x1x512x1408, .f32⟩
  | .hbm, ⟨12, _⟩ => ⟨S4x1x512x1408, .f32⟩
  | .hbm, ⟨13, _⟩ => ⟨S4x2x512x1408, .i1⟩
  | .hbm, ⟨14, _⟩ => ⟨S4x2x512x1408, .f32⟩
  | .hbm, ⟨15, _⟩ => ⟨S4x2x512x1408, .f32⟩
  | .hbm, ⟨16, _⟩ => ⟨S4x2x512x1408, .f32⟩
  | .hbm, ⟨17, _⟩ => ⟨S4096x1408, .f32⟩
  | .hbm, ⟨18, _⟩ => ⟨S_, .f32⟩
  | .hbm, ⟨19, _⟩ => ⟨S4096x1408, .f32⟩
  | .hbm, ⟨20, _⟩ => ⟨S4096x1408, .f32⟩
  | .hbm, ⟨21, _⟩ => ⟨S_, .f32⟩
  | .hbm, ⟨22, _⟩ => ⟨S4096x1408, .f32⟩
  | .hbm, ⟨23, _⟩ => ⟨S4096x1408, .f32⟩
  | .hbm, ⟨24, _⟩ => ⟨S4096x1408, .f32⟩
  | .hbm, ⟨25, _⟩ => ⟨S_, .f32⟩
  | .hbm, ⟨26, _⟩ => ⟨S4096x1408, .f32⟩
  | .hbm, ⟨27, _⟩ => ⟨S4096x1408, .f32⟩
  | .hbm, ⟨28, _⟩ => ⟨S4096x1408, .f32⟩
  | .hbm, ⟨29, _⟩ => ⟨S_, .f32⟩
  | .hbm, ⟨30, _⟩ => ⟨S4096x1408, .f32⟩
  | .hbm, ⟨31, _⟩ => ⟨S4096x1408, .f32⟩
  | .hbm, ⟨32, _⟩ => ⟨S4096x1408, .f32⟩
  | .hbm, ⟨33, _⟩ => ⟨S_, .f32⟩
  | .hbm, ⟨34, _⟩ => ⟨S4096x1408, .f32⟩
  | .hbm, ⟨35, _⟩ => ⟨S4096x1408, .f32⟩
  | .hbm, ⟨36, _⟩ => ⟨S_, .f32⟩
  | .hbm, ⟨37, _⟩ => ⟨S4096x1408, .f32⟩
  | .hbm, ⟨38, _⟩ => ⟨S4096x1408, .f32⟩
  | .hbm, ⟨39, _⟩ => ⟨S4096x1408, .f32⟩
  | .hbm, ⟨40, _⟩ => ⟨S_, .f32⟩
  | .hbm, ⟨41, _⟩ => ⟨S4096x1408, .f32⟩
  | .hbm, ⟨42, _⟩ => ⟨S4096x1408, .f32⟩
  | .hbm, ⟨43, _⟩ => ⟨S4096x1408, .f32⟩
  | .hbm, ⟨44, _⟩ => ⟨S_, .f32⟩
  | .hbm, ⟨45, _⟩ => ⟨S4096x1408, .f32⟩
  | .hbm, ⟨46, _⟩ => ⟨S4096x1408, .f32⟩
  | .hbm, ⟨47, _⟩ => ⟨S4096x1408, .f32⟩
  | .hbm, ⟨48, _⟩ => ⟨S_, .f32⟩
  | .hbm, ⟨49, _⟩ => ⟨S4096x1408, .f32⟩
  | .hbm, ⟨50, _⟩ => ⟨S4096x1408, .f32⟩
  | _, _ => ⟨S4096x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_call0_v0 : Ref sig .tc := ⟨.hbm, 13, rfl⟩
abbrev main_call0_v1 : Ref sig .tc := ⟨.hbm, 14, rfl⟩
abbrev main_call0_v2 : Ref sig .tc := ⟨.hbm, 15, rfl⟩
abbrev main_v7 : Ref sig .tc := ⟨.hbm, 16, rfl⟩
abbrev main_v8 : Ref sig .tc := ⟨.hbm, 17, rfl⟩
abbrev main_cst : Ref sig .tc := ⟨.hbm, 18, rfl⟩
abbrev main_v9 : Ref sig .tc := ⟨.hbm, 19, rfl⟩
abbrev main_v10 : Ref sig .tc := ⟨.hbm, 20, rfl⟩
abbrev main_cst_0 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_2 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_3 : Ref sig .tc := ⟨.hbm, 33, rfl⟩
abbrev main_v20 : Ref sig .tc := ⟨.hbm, 34, rfl⟩
abbrev main_v21 : Ref sig .tc := ⟨.hbm, 35, rfl⟩
abbrev main_cst_4 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_cst_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_6 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_7 : Ref sig .tc := ⟨.hbm, 48, rfl⟩
abbrev main_v31 : Ref sig .tc := ⟨.hbm, 49, rfl⟩
abbrev main_v32 : Ref sig .tc := ⟨.hbm, 50, rfl⟩

abbrev nD : Nat := 1
abbrev τ : Topo := Topo.v7x

variable {F : FTy → Type} [FloatOps F]
-- ==== Kernel28.lean ====
abbrev S1x4x1024x1408 : Shape := ⟨4, ![1, 4, 1024, 1408]⟩
abbrev S1x4x512x1408 : Shape := ⟨4, ![1, 4, 512, 1408]⟩
abbrev S1 : Shape := ⟨1, ![1]⟩
abbrev S1x1x256x1408 : Shape := ⟨4, ![1, 1, 256, 1408]⟩
abbrev S256x1408 : Shape := ⟨2, ![256, 1408]⟩

abbrev nBuf : Space → Nat
  | .hbm => 3
  | .vmem => 6
  | .smem => 1
  | _ => 0

abbrev bufTy : (tb : Table) → Fin (tcTables nBuf tb) → BufTy
  | .hbm, ⟨0, _⟩ => ⟨S1x4x1024x1408, .f32⟩
  | .hbm, ⟨1, _⟩ => ⟨S1x4x512x1408, .f32⟩
  | .hbm, ⟨2, _⟩ => ⟨S1x4x512x1408, .bf16⟩
  | .local _ .vmem, ⟨0, _⟩ => ⟨S1x1x256x1408, .f32⟩
  | .local _ .vmem, ⟨1, _⟩ => ⟨S1x1x256x1408, .f32⟩
  | .local _ .vmem, ⟨2, _⟩ => ⟨S1x1x256x1408, .f32⟩
  | .local _ .vmem, ⟨3, _⟩ => ⟨S1x1x256x1408, .f32⟩
  | .local _ .vmem, ⟨4, _⟩ => ⟨S1x1x256x1408, .bf16⟩
  | .local _ .vmem, ⟨5, _⟩ => ⟨S1x1x256x1408, .bf16⟩
  | .local _ .smem, ⟨0, _⟩ => ⟨S1, .i32⟩
  | _, _ => ⟨S1x4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_arg2 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 2], ![false, false, false]⟩

abbrev pre0 : Pipeline.Prefetch sig := ⟨1, ![main_arg2.idx], fun | 0 => main_arg2.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S1_S1_0 : ∀ a, (![0] : Fin 1 → Nat) a + S1.size a ≤ S1.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0 : Index := 0#32
  let v0 : BitVec 32 := pf.at 0 (Rect.unit (s := S1) ![0] S1.size inb_S1_S1_0) numel1_S1
  let c2_i32 : BitVec 32 := 2#32
  let v1 : BitVec 32 := Scalar.muli v0 c2_i32
  let v2 : BitVec 32 := Scalar.addi v1 arg2
  let c0_i32 : BitVec 32 := 0#32
  let c0_i32_0 : BitVec 32 := 0#32
  ![arg0.toNat, arg1.toNat, v2.toNat, c0_i32.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

def cc0_transform_2 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, arg2.toNat, c0_i32.toNat]

abbrev stage0_0 : Fin 2 → Memref sig .tc .vmem S1x1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S1x1x256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference28Ideal.lean ====
abbrev S1x4x1024x1408 : Shape := ⟨4, ![1, 4, 1024, 1408]⟩
abbrev S1x4x512x1408 : Shape := ⟨4, ![1, 4, 512, 1408]⟩
abbrev S1 : Shape := ⟨1, ![1]⟩
abbrev S1x4x2x512x1408 : Shape := ⟨5, ![1, 4, 2, 512, 1408]⟩
abbrev S_ : Shape := ⟨0, ![]⟩
abbrev S1x4x1x512x1408 : Shape := ⟨5, ![1, 4, 1, 512, 1408]⟩

abbrev nBuf : Space → Nat
  | .hbm => 14
  | .vmem => 0
  | .smem => 0
  | _ => 0

abbrev bufTy : (tb : Table) → Fin (tcTables nBuf tb) → BufTy
  | .hbm, ⟨0, _⟩ => ⟨S1x4x1024x1408, .f32⟩
  | .hbm, ⟨1, _⟩ => ⟨S1x4x512x1408, .f32⟩
  | .hbm, ⟨2, _⟩ => ⟨S1, .i32⟩
  | .hbm, ⟨3, _⟩ => ⟨S1x4x2x512x1408, .f32⟩
  | .hbm, ⟨4, _⟩ => ⟨S_, .i32⟩
  | .hbm, ⟨5, _⟩ => ⟨S_, .i32⟩
  | .hbm, ⟨6, _⟩ => ⟨S_, .i1⟩
  | .hbm, ⟨7, _⟩ => ⟨S1x4x1x512x1408, .f32⟩
  | .hbm, ⟨8, _⟩ => ⟨S1x4x512x1408, .f32⟩
  | .hbm, ⟨9, _⟩ => ⟨S1x4x1x512x1408, .f32⟩
  | .hbm, ⟨10, _⟩ => ⟨S1x4x512x1408, .f32⟩
  | .hbm, ⟨11, _⟩ => ⟨S1x4x512x1408, .f32⟩
  | .hbm, ⟨12, _⟩ => ⟨S1x4x512x1408, .f32⟩
  | .hbm, ⟨13, _⟩ => ⟨S1x4x512x1408, .bf16⟩
  | _, _ => ⟨S1x4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩

abbrev nD : Nat := 1
abbrev τ : Topo := Topo.v7x

variable {F : FTy → Type} [FloatOps F]
-- ==== Kernel29.lean ====
abbrev S1x4x1024x1408 : Shape := ⟨4, ![1, 4, 1024, 1408]⟩
abbrev S1x4x512x1408 : Shape := ⟨4, ![1, 4, 512, 1408]⟩
abbrev S3x1x512x1408 : Shape := ⟨4, ![3, 1, 512, 1408]⟩
abbrev S2 : Shape := ⟨1, ![2]⟩
abbrev S1x512x1408 : Shape := ⟨3, ![1, 512, 1408]⟩
abbrev S1x1x256x1408 : Shape := ⟨4, ![1, 1, 256, 1408]⟩
abbrev S1 : Shape := ⟨1, ![1]⟩
abbrev S1x256x1408 : Shape := ⟨3, ![1, 256, 1408]⟩
abbrev S256x1408 : Shape := ⟨2, ![256, 1408]⟩

abbrev nBuf : Space → Nat
  | .hbm => 4
  | .vmem => 12
  | .smem => 1
  | _ => 0

abbrev bufTy : (tb : Table) → Fin (tcTables nBuf tb) → BufTy
  | .hbm, ⟨0, _⟩ => ⟨S1x4x1024x1408, .f32⟩
  | .hbm, ⟨1, _⟩ => ⟨S1x4x512x1408, .f32⟩
  | .hbm, ⟨2, _⟩ => ⟨S3x1x512x1408, .bf16⟩
  | .hbm, ⟨3, _⟩ => ⟨S1x512x1408, .f32⟩
  | .local _ .vmem, ⟨0, _⟩ => ⟨S1x1x256x1408, .f32⟩
  | .local _ .vmem, ⟨1, _⟩ => ⟨S1x1x256x1408, .f32⟩
  | .local _ .vmem, ⟨2, _⟩ => ⟨S1x1x256x1408, .f32⟩
  | .local _ .vmem, ⟨3, _⟩ => ⟨S1x1x256x1408, .f32⟩
  | .local _ .vmem, ⟨4, _⟩ => ⟨S1x1x256x1408, .bf16⟩
  | .local _ .vmem, ⟨5, _⟩ => ⟨S1x1x256x1408, .bf16⟩
  | .local _ .vmem, ⟨6, _⟩ => ⟨S1x1x256x1408, .bf16⟩
  | .local _ .vmem, ⟨7, _⟩ => ⟨S1x1x256x1408, .bf16⟩
  | .local _ .vmem, ⟨8, _⟩ => ⟨S1x1x256x1408, .bf16⟩
  | .local _ .vmem, ⟨9, _⟩ => ⟨S1x1x256x1408, .bf16⟩
  | .local _ .vmem, ⟨10, _⟩ => ⟨S1x256x1408, .f32⟩
  | .local _ .vmem, ⟨11, _⟩ => ⟨S1x256x1408, .f32⟩
  | .local _ .smem, ⟨0, _⟩ => ⟨S2, .i32⟩
  | _, _ => ⟨S1x4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_arg3 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![1, 2], ![false, false]⟩

abbrev pre0 : Pipeline.Prefetch sig := ⟨1, ![main_arg3.idx], fun | 0 => main_arg3.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S2_S1_1 : ∀ a, (![1] : Fin 1 → Nat) a + S1.size a ≤ S2.size a) (numel1_S1 : S1.numel = 1) (inb_S2_S1_0 : ∀ a, (![0] : Fin 1 → Nat) a + S1.size a ≤ S2.size a) (pf : pre0.Contents (Elt F)) (i : grid0.Coords) : Fin 4 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c0 : Index := 0#32
  let v1 : BitVec 32 := pf.at 0 (Rect.unit (s := S2) ![0] S1.size inb_S2_S1_0) numel1_S1
  let c2_i32 : BitVec 32 := 2#32
  let v2 : BitVec 32 := Scalar.muli v1 c2_i32
  let v3 : BitVec 32 := Scalar.addi v2 arg1
  let c0_i32 : BitVec 32 := 0#32
  let c0_i32_0 : BitVec 32 := 0#32
  ![arg0.toNat, v0.toNat, v3.toNat, c0_i32.toNat]

def cc0_transform_1 (inb_S2_S1_1 : ∀ a, (![1] : Fin 1 → Nat) a + S1.size a ≤ S2.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let c1 : Index := 1#32
  let v0 : BitVec 32 := pf.at 0 (Rect.unit (s := S2) ![1] S1.size inb_S2_S1_1) numel1_S1
  let c0_i32 : BitVec 32 := 0#32
  let c0_i32_0 : BitVec 32 := 0#32
  ![arg0.toNat, v0.toNat, arg1.toNat, c0_i32.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg0.toNat, arg1.toNat, c0_i32_0.toNat]

def cc0_transform_3 (i : grid0.Coords) : Fin 4 → Nat :=
  let arg0 : BitVec 32 := BitVec.ofNat 32 (i 0).val
  let arg1 : BitVec 32 := BitVec.ofNat 32 (i 1).val
  let c1_i32 : BitVec 32 := 1#32
  let c0_i32 : BitVec 32 := 0#32
  let c0_i32_0 : BitVec 32 := 0#32
  ![c1_i32.toNat, arg0.toNat, arg1.toNat, c0_i32.toNat]

def cc0_transform_4 (i : grid0.Coords) : Fin 4 → Nat :=
  let arg0 : BitVec 32 := BitVec.ofNat 32 (i 0).val
  let arg1 : BitVec 32 := BitVec.ofNat 32 (i 1).val
  let c2_i32 : BitVec 32 := 2#32
  let c0_i32 : BitVec 32 := 0#32
  let c0_i32_0 : BitVec 32 := 0#32
  ![c2_i32.toNat, arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x256x1408 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x256x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x256x1408 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference29Ideal.lean ====
abbrev S1x4x1024x1408 : Shape := ⟨4, ![1, 4, 1024, 1408]⟩
abbrev S1x4x512x1408 : Shape := ⟨4, ![1, 4, 512, 1408]⟩
abbrev S3x1x512x1408 : Shape := ⟨4, ![3, 1, 512, 1408]⟩
abbrev S2 : Shape := ⟨1, ![2]⟩
abbrev S1 : Shape := ⟨1, ![1]⟩
abbrev S_ : Shape := ⟨0, ![]⟩
abbrev S1x4x2x512x1408 : Shape := ⟨5, ![1, 4, 2, 512, 1408]⟩
abbrev S1x4x1x512x1408 : Shape := ⟨5, ![1, 4, 1, 512, 1408]⟩
abbrev S1x1x512x1408 : Shape := ⟨4, ![1, 1, 512, 1408]⟩
abbrev S1x512x1408 : Shape := ⟨3, ![1, 512, 1408]⟩

abbrev nBuf : Space → Nat
  | .hbm => 38
  | .vmem => 0
  | .smem => 0
  | _ => 0

abbrev bufTy : (tb : Table) → Fin (tcTables nBuf tb) → BufTy
  | .hbm, ⟨0, _⟩ => ⟨S1x4x1024x1408, .f32⟩
  | .hbm, ⟨1, _⟩ => ⟨S1x4x512x1408, .f32⟩
  | .hbm, ⟨2, _⟩ => ⟨S3x1x512x1408, .bf16⟩
  | .hbm, ⟨3, _⟩ => ⟨S2, .i32⟩
  | .hbm, ⟨4, _⟩ => ⟨S1, .i32⟩
  | .hbm, ⟨5, _⟩ => ⟨S_, .i32⟩
  | .hbm, ⟨6, _⟩ => ⟨S1, .i32⟩
  | .hbm, ⟨7, _⟩ => ⟨S_, .i32⟩
  | .hbm, ⟨8, _⟩ => ⟨S1x4x2x512x1408, .f32⟩
  | .hbm, ⟨9, _⟩ => ⟨S_, .i32⟩
  | .hbm, ⟨10, _⟩ => ⟨S_, .i1⟩
  | .hbm, ⟨11, _⟩ => ⟨S1x4x1x512x1408, .f32⟩
  | .hbm, ⟨12, _⟩ => ⟨S1x4x512x1408, .f32⟩
  | .hbm, ⟨13, _⟩ => ⟨S1x4x1x512x1408, .f32⟩
  | .hbm, ⟨14, _⟩ => ⟨S1x4x512x1408, .f32⟩
  | .hbm, ⟨15, _⟩ => ⟨S1x4x512x1408, .f32⟩
  | .hbm, ⟨16, _⟩ => ⟨S1x4x512x1408, .f32⟩
  | .hbm, ⟨17, _⟩ => ⟨S_, .i32⟩
  | .hbm, ⟨18, _⟩ => ⟨S_, .i1⟩
  | .hbm, ⟨19, _⟩ => ⟨S1x1x512x1408, .f32⟩
  | .hbm, ⟨20, _⟩ => ⟨S1x512x1408, .f32⟩
  | .hbm, ⟨21, _⟩ => ⟨S_, .i32⟩
  | .hbm, ⟨22, _⟩ => ⟨S_, .i1⟩
  | .hbm, ⟨23, _⟩ => ⟨S1x1x512x1408, .f32⟩
  | .hbm, ⟨24, _⟩ => ⟨S1x512x1408, .f32⟩
  | .hbm, ⟨25, _⟩ => ⟨S_, .i32⟩
  | .hbm, ⟨26, _⟩ => ⟨S_, .i1⟩
  | .hbm, ⟨27, _⟩ => ⟨S1x1x512x1408, .f32⟩
  | .hbm, ⟨28, _⟩ => ⟨S1x512x1408, .f32⟩
  | .hbm, ⟨29, _⟩ => ⟨S1x1x512x1408, .f32⟩
  | .hbm, ⟨30, _⟩ => ⟨S1x512x1408, .f32⟩
  | .hbm, ⟨31, _⟩ => ⟨S1x512x1408, .f32⟩
  | .hbm, ⟨32, _⟩ => ⟨S1x512x1408, .f32⟩
  | .hbm, ⟨33, _⟩ => ⟨S1x512x1408, .f32⟩
  | .hbm, ⟨34, _⟩ => ⟨S3x1x512x1408, .f32⟩
  | .hbm, ⟨35, _⟩ => ⟨S_, .f32⟩
  | .hbm, ⟨36, _⟩ => ⟨S1x512x1408, .f32⟩
  | .hbm, ⟨37, _⟩ => ⟨S1x512x1408, .f32⟩
  | _, _ => ⟨S1x4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_c_1 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_c_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_cst : Ref sig .tc := ⟨.hbm, 35, rfl⟩
abbrev main_v27 : Ref sig .tc := ⟨.hbm, 36, rfl⟩
abbrev main_v28 : Ref sig .tc := ⟨.hbm, 37, rfl⟩

abbrev nD : Nat := 1
abbrev τ : Topo := Topo.v7x

variable {F : FTy → Type} [FloatOps F]
-- ==== Proof.Sums.lean ====
/- Sums over a range cut into blocks, and the planes of a stack. -/
module

public import Idealize.ShloMosaic.PureOps.Ideal.Laws
public import Idealize.ShloMosaic.Lib.Pointwise

@[expose] public section

noncomputable section

namespace Cert.Sums

/-- A place in block `j` of `n` blocks of `b`. -/
theorem lt_blocks {n b N : Nat} (h : n * b = N) (j : Fin n) (k : Fin b) : j.val * b + k.val < N := by
  have h2 := Nat.mul_le_mul_right b (Nat.succ_le_of_lt j.isLt)
  have h3 := k.isLt
  rw [Nat.succ_mul] at h2
  omega

/-- A sum over `n · b` places is the sum over the `n` blocks of the sums over the `b` places of each. -/
theorem sum_blocks {n b N : Nat} (h : n * b = N) (f : Fin N → EReal) :
    ∑ i, f i = ∑ j : Fin n, ∑ k : Fin b, f ⟨j.val * b + k.val, lt_blocks h j k⟩ := by
  subst h
  rw [← finProdFinEquiv.sum_comp, Fintype.sum_prod_type]
  refine Finset.sum_congr rfl fun j _ => Finset.sum_congr rfl fun k _ => congrArg f (Fin.ext ?_)
  show k.val + b * j.val = j.val * b + k.val
  rw [Nat.mul_comm, Nat.add_comm]

/-- A sum over two blocks. -/
theorem sum_blocks₂ {b N : Nat} (h : 2 * b = N) (f : Fin N → EReal) :
    ∑ i, f i = ∑ k : Fin b, f ⟨k.val, by omega⟩ + ∑ k : Fin b, f ⟨b + k.val, by omega⟩ := by
  rw [sum_blocks h, Fin.sum_univ_two]
  refine congrArg₂ (· + ·) (Finset.sum_congr rfl fun k _ => congrArg f (Fin.ext ?_)) (Finset.sum_congr rfl fun k _ => congrArg f (Fin.ext ?_))
  · show 0 * b + k.val = k.val
    omega
  · show 1 * b + k.val = b + k.val
    omega

/-- A sum over four blocks, added up one block after another. -/
theorem sum_blocks₄ {b N : Nat} (h : 4 * b = N) (f : Fin N → EReal) :
    ∑ i, f i = ((∑ k : Fin b, f ⟨0 * b + k.val, lt_blocks h 0 k⟩ + ∑ k : Fin b, f ⟨1 * b + k.val, lt_blocks h 1 k⟩)
      + ∑ k : Fin b, f ⟨2 * b + k.val, lt_blocks h 2 k⟩) + ∑ k : Fin b, f ⟨3 * b + k.val, lt_blocks h 3 k⟩ := by
  rw [sum_blocks h, Fin.sum_univ_four]
  rfl

open Idealize.ShloMosaic in
/-- Plane `j` of a stack of planes. -/
theorem stack_apply {n a b : Nat} (xs : List ((s : Shape) × (s.Idx → EReal))) (h : Shape.Concatenates (xs.map (·.1)) ⟨3, ![n, a, b]⟩ 0)
    (k : Nat) (hk : k < xs.length) (x : (⟨3, ![1, a, b]⟩ : Shape).Idx → EReal) (hx : xs[k] = ⟨⟨3, ![1, a, b]⟩, x⟩)
    (hpre : (((xs.take k).map (·.1)).map fun s => if h : s.rank = 3 then s.size ((0 : Fin 3).cast h.symm) else 0).sum = k)
    (j : Fin n) (hj : j.val = k) (d : Fin a) (e : Fin b) :
    concatenate ⟨3, ![n, a, b]⟩ 0 xs h (ix3 j d e) = x (ix3 0 d e) :=
  concatenate_apply_piece 0 xs h (ix3 j d e) k hk ⟨3, ![1, a, b]⟩ x hx rfl k hpre (ix3 0 d e)
    (fun b hb => by
      match b with
      | ⟨0, _⟩ => exact absurd rfl hb
      | ⟨1, _⟩ => rfl
      | ⟨2, _⟩ => rfl) hj.symm

open Idealize.ShloMosaic in
/-- The columns of a piece of a row of matrices. -/
theorem cols_apply {a b N : Nat} (xs : List ((s : Shape) × (s.Idx → EReal))) (h : Shape.Concatenates (xs.map (·.1)) ⟨2, ![a, N]⟩ 1)
    (k : Nat) (hk : k < xs.length) (x : (⟨2, ![a, b]⟩ : Shape).Idx → EReal) (hx : xs[k] = ⟨⟨2, ![a, b]⟩, x⟩) (o : Nat)
    (hpre : (((xs.take k).map (·.1)).map fun s => if h : s.rank = 2 then s.size ((1 : Fin 2).cast h.symm) else 0).sum = o)
    (d : Fin a) (q : Fin b) (j : Fin N) (hj : o + q.val = j.val) :
    concatenate ⟨2, ![a, N]⟩ 1 xs h (ix2 d j) = x (ix2 d q) :=
  concatenate_apply_piece 1 xs h (ix2 d j) k hk ⟨2, ![a, b]⟩ x hx rfl o hpre (ix2 d q)
    (fun b hb => by
      match b with
      | ⟨0, _⟩ => rfl
      | ⟨1, _⟩ => exact absurd rfl hb) hj

end Cert.Sums

end
-- ==== Proof.GateUpDx.lean ====
/- The gradient through the gated layer's norm and first product: what each grid point leaves, and what the kernel's results
   hold at its end. -/
module

public import proofs.«01_k».proof.Proof.Sums
public import Idealize.ShloMosaic.Lib.Pipeline.ReadBack
public import Idealize.ShloMosaic.Lib.Pipeline.ValueKit.Tiles
public import proofs.«01_k».proof.Proof.Gen.Kernel2Ideal.Value
public import proofs.«01_k».proof.Proof.Gen.Reference2Ideal.Read

@[expose] public section

noncomputable section

namespace Cert.Kernel2Ideal.Blocks

open Idealize.ShloMosaic Idealize.ShloMosaic.TcCoe Idealize.SL.Sem Cert.Kernel2Ideal Cert.Kernel2Ideal.Gen
open Cert.Reference2Ideal.Read Cert.Sums

theorem hz : (![0, 0] : Fin 2 → Nat) = fun _ => 0 := funext fun a => by fin_cases a <;> rfl

section Points

variable (c : Dev nD) (i : grid0.Coords)
  (arg1 : Memref sig .tc .vmem S2x512x2816 .bf16) (harg1 : arg1.IsWhole) (arg2 : Memref sig .tc .vmem S1x4x1024x1408 .bf16) (harg2 : arg2.IsWhole)
  (arg3 : Memref sig .tc .vmem S512x1024 .f32) (harg3 : arg3.IsWhole) (arg4 : Memref sig .tc .vmem S1x1024 .f32) (harg4 : arg4.IsWhole)
  (arg5 : Memref sig .tc .vmem S512x1024 .f32) (harg5 : arg5.IsWhole) (arg6 : Memref sig .tc .vmem S512x1024 .f32) (harg6 : arg6.IsWhole)
  (arg7 : Memref sig .tc .vmem S1x1024 .f32) (harg7 : arg7.IsWhole) (arg8 : Memref sig .tc .vmem S512x1024 .bf16) (harg8 : arg8.IsWhole)
  (x0 : Vec Ideal S2x512x2816 .bf16) (x1 : Vec Ideal S1x4x1024x1408 .bf16) (x2 : Vec Ideal S512x1024 .f32) (x3 : Vec Ideal S1x1024 .f32)
  (x4 : Vec Ideal S512x1024 .f32) (xo6 : Vec Ideal S1x1024 .f32)

/-- A point's product of the cotangents with the weights, a quarter of the columns after another. -/
def dxn : FVec Ideal S512x1024 .f32 := fun y =>
  (((∑ q : Fin 1408, (x0 (ix3 0 (y 0) ⟨q.val, by omega⟩) : EReal) * x1 (ix4 0 0 (y 1) q)
      + ∑ q : Fin 1408, (x0 (ix3 0 (y 0) ⟨1408 + q.val, by omega⟩) : EReal) * x1 (ix4 0 1 (y 1) q))
    + ∑ q : Fin 1408, (x0 (ix3 1 (y 0) ⟨q.val, by omega⟩) : EReal) * x1 (ix4 0 2 (y 1) q))
  + ∑ q : Fin 1408, (x0 (ix3 1 (y 0) ⟨1408 + q.val, by omega⟩) : EReal) * x1 (ix4 0 3 (y 1) q))

theorem dxn_eq (v0 v5 v11 v17 : Vec Ideal S1x512x1408 .bf16) (v2 v7 v13 v19 : Vec Ideal S1x1x1024x1408 .bf16)
    (h0 : ∀ r q, (v0 (ix3 0 r q) : EReal) = x0 (ix3 0 r ⟨q.val, by omega⟩)) (h5 : ∀ r q, (v5 (ix3 0 r q) : EReal) = x0 (ix3 0 r ⟨1408 + q.val, by omega⟩))
    (h11 : ∀ r q, (v11 (ix3 0 r q) : EReal) = x0 (ix3 1 r ⟨q.val, by omega⟩)) (h17 : ∀ r q, (v17 (ix3 0 r q) : EReal) = x0 (ix3 1 r ⟨1408 + q.val, by omega⟩))
    (h2 : ∀ r q, (v2 (ix4 0 0 r q) : EReal) = x1 (ix4 0 0 r q)) (h7 : ∀ r q, (v7 (ix4 0 0 r q) : EReal) = x1 (ix4 0 1 r q))
    (h13 : ∀ r q, (v13 (ix4 0 0 r q) : EReal) = x1 (ix4 0 2 r q)) (h19 : ∀ r q, (v19 (ix4 0 0 r q) : EReal) = x1 (ix4 0 3 r q)) :
    k0_pay3 (F := Ideal) v0 v2 v5 v7 v11 v13 v17 v19 = dxn x0 x1 := by
  funext y
  obtain ⟨r, k, hi⟩ : ∃ (r : Fin 512) (k : Fin 1024), y = ix2 r k := ⟨y 0, y 1, eq_ix2 y⟩
  subst hi
  pointwise [k0_pay3, dxn]
  simp only [h0, h5, h11, h17, h2, h7, h13, h19]

/-- At the first point the rows of the input's cotangent. -/
theorem rows_first (hc0 : cond0_0 i) : out0_A_5 c i arg1 harg1 arg2 harg2 arg3 harg3 arg4 harg4 arg5 harg5 arg6 harg6 arg7 harg7 arg8 harg8 hc0 x0 x1 x2 x3 x4 = k0_pay7 (dxn x0 x1) x2 x3 x4 := by
  unfold out0_A_5
  rw [View.read_writes_eq_canon _ _ _ (cover0_A_5 c i arg1 harg1 arg2 harg2 arg3 harg3 arg4 harg4 arg5 harg5 arg6 harg6 arg7 harg7 arg8 harg8 hc0 x0 x1 x2 x3 x4)]
  unfold kernelRun0_A
  dsimp only
  sl_unfold_words
  rw [View.canon_unit_zero hz]
  simp only [View.readAt_eq_ld, View.readCov_unit_zero (S := S1x1024) _ hz, harg1.read_unread, harg2.read_unread, harg3.read_unread, harg4.read_unread, harg5.read_unread, harg6.read_unread, harg7.read_unread, harg8.read_unread, View.ld_unit_zero (S := S512x1024) hz, View.ld_unit_zero (S := S1x1024) hz]
  rw [dxn_eq x0 x1]
  all_goals intro r q; rw [View.ld_apply]; congr 1; funext a; apply Fin.ext; fin_cases a <;> simp [Rect.unit]
/-- At the first point the gains' cotangent, with the point's part. -/
theorem gains_first (hc0 : cond0_0 i) : out0_A_6 c i arg1 harg1 arg2 harg2 arg3 harg3 arg4 harg4 arg5 harg5 arg6 harg6 arg7 harg7 arg8 harg8 hc0 x0 x1 x2 x3 x4 = k0_pay2 (k0_pay6 (dxn x0 x1) x2) (k0_pay1 (F := Ideal)) := by
  unfold out0_A_6
  rw [View.read_writes_eq_canon _ _ _ (cover0_A_6 c i arg1 harg1 arg2 harg2 arg3 harg3 arg4 harg4 arg5 harg5 arg6 harg6 arg7 harg7 arg8 harg8 hc0 x0 x1 x2 x3 x4)]
  unfold kernelRun0_A
  dsimp only
  sl_unfold_words
  rw [View.canon_cons_unit_zero (S := S1x1024) hz]
  simp only [View.readAt_eq_ld, View.readCov_unit_zero (S := S1x1024) _ hz, harg1.read_unread, harg2.read_unread, harg3.read_unread, harg4.read_unread, harg5.read_unread, harg6.read_unread, harg7.read_unread, harg8.read_unread, View.ld_unit_zero (S := S512x1024) hz, View.ld_unit_zero (S := S1x1024) hz]
  rw [dxn_eq x0 x1]
  all_goals intro r q; rw [View.ld_apply]; congr 1; funext a; apply Fin.ext; fin_cases a <;> simp [Rect.unit]
/-- At the first point the rows of the input's cotangent, in the narrow format. -/
theorem narrow_first (hc0 : cond0_0 i) : out0_A_7 c i arg1 harg1 arg2 harg2 arg3 harg3 arg4 harg4 arg5 harg5 arg6 harg6 arg7 harg7 arg8 harg8 hc0 x0 x1 x2 x3 x4 = k0_pay8 (dxn x0 x1) x2 x3 x4 := by
  unfold out0_A_7
  rw [View.read_writes_eq_canon _ _ _ (cover0_A_7 c i arg1 harg1 arg2 harg2 arg3 harg3 arg4 harg4 arg5 harg5 arg6 harg6 arg7 harg7 arg8 harg8 hc0 x0 x1 x2 x3 x4)]
  unfold kernelRun0_A
  dsimp only
  sl_unfold_words
  rw [View.canon_unit_zero hz]
  simp only [View.readAt_eq_ld, View.readCov_unit_zero (S := S1x1024) _ hz, harg1.read_unread, harg2.read_unread, harg3.read_unread, harg4.read_unread, harg5.read_unread, harg6.read_unread, harg7.read_unread, harg8.read_unread, View.ld_unit_zero (S := S512x1024) hz, View.ld_unit_zero (S := S1x1024) hz]
  rw [dxn_eq x0 x1]
  all_goals intro r q; rw [View.ld_apply]; congr 1; funext a; apply Fin.ext; fin_cases a <;> simp [Rect.unit]
/-- At a later point the rows of the input's cotangent. -/
theorem rows_later (hc0 : ¬cond0_0 i) : out0_B_5 c i arg1 harg1 arg2 harg2 arg3 harg3 arg4 harg4 arg5 harg5 arg6 harg6 arg7 harg7 arg8 harg8 hc0 x0 x1 x2 x3 x4 xo6 = k0_pay7 (dxn x0 x1) x2 x3 x4 := by
  unfold out0_B_5
  rw [View.read_writes_eq_canon _ _ _ (cover0_B_5 c i arg1 harg1 arg2 harg2 arg3 harg3 arg4 harg4 arg5 harg5 arg6 harg6 arg7 harg7 arg8 harg8 hc0 x0 x1 x2 x3 x4 xo6)]
  unfold kernelRun0_B
  dsimp only
  sl_unfold_words
  rw [View.canon_unit_zero hz]
  simp only [View.readAt_eq_ld, View.readCov_unit_zero (S := S1x1024) _ hz, harg1.read_unread, harg2.read_unread, harg3.read_unread, harg4.read_unread, harg5.read_unread, harg6.read_unread, harg7.read_unread, harg8.read_unread, View.ld_unit_zero (S := S512x1024) hz, View.ld_unit_zero (S := S1x1024) hz]
  rw [dxn_eq x0 x1]
  all_goals intro r q; rw [View.ld_apply]; congr 1; funext a; apply Fin.ext; fin_cases a <;> simp [Rect.unit]
/-- At a later point the gains' cotangent, with the point's part. -/
theorem gains_later (hc0 : ¬cond0_0 i) : out0_B_6 c i arg1 harg1 arg2 harg2 arg3 harg3 arg4 harg4 arg5 harg5 arg6 harg6 arg7 harg7 arg8 harg8 hc0 x0 x1 x2 x3 x4 xo6 = k0_pay2 (k0_pay6 (dxn x0 x1) x2) xo6 := by
  unfold out0_B_6
  rw [View.read_writes_eq_canon _ _ _ (cover0_B_6 c i arg1 harg1 arg2 harg2 arg3 harg3 arg4 harg4 arg5 harg5 arg6 harg6 arg7 harg7 arg8 harg8 hc0 x0 x1 x2 x3 x4 xo6)]
  unfold kernelRun0_B
  dsimp only
  sl_unfold_words
  rw [View.canon_unit_zero hz]
  simp only [View.readAt_eq_ld, View.readCov_unit_zero (S := S1x1024) _ hz, harg1.read_unread, harg2.read_unread, harg3.read_unread, harg4.read_unread, harg5.read_unread, harg6.read_unread, harg7.read_unread, harg8.read_unread, View.ld_unit_zero (S := S512x1024) hz, View.ld_unit_zero (S := S1x1024) hz]
  rw [dxn_eq x0 x1]
  all_goals intro r q; rw [View.ld_apply]; congr 1; funext a; apply Fin.ext; fin_cases a <;> simp [Rect.unit]
/-- At a later point the rows of the input's cotangent, in the narrow format. -/
theorem narrow_later (hc0 : ¬cond0_0 i) : out0_B_7 c i arg1 harg1 arg2 harg2 arg3 harg3 arg4 harg4 arg5 harg5 arg6 harg6 arg7 harg7 arg8 harg8 hc0 x0 x1 x2 x3 x4 xo6 = k0_pay8 (dxn x0 x1) x2 x3 x4 := by
  unfold out0_B_7
  rw [View.read_writes_eq_canon _ _ _ (cover0_B_7 c i arg1 harg1 arg2 harg2 arg3 harg3 arg4 harg4 arg5 harg5 arg6 harg6 arg7 harg7 arg8 harg8 hc0 x0 x1 x2 x3 x4 xo6)]
  unfold kernelRun0_B
  dsimp only
  sl_unfold_words
  rw [View.canon_unit_zero hz]
  simp only [View.readAt_eq_ld, View.readCov_unit_zero (S := S1x1024) _ hz, harg1.read_unread, harg2.read_unread, harg3.read_unread, harg4.read_unread, harg5.read_unread, harg6.read_unread, harg7.read_unread, harg8.read_unread, View.ld_unit_zero (S := S512x1024) hz, View.ld_unit_zero (S := S1x1024) hz]
  rw [dxn_eq x0 x1]
  all_goals intro r q; rw [View.ld_apply]; congr 1; funext a; apply Fin.ext; fin_cases a <;> simp [Rect.unit]
end Points

variable (m : (ℓ : Loc nD τ sig) → Buf (Elt Ideal) ℓ)

/-- The cotangents of the gate and of the up projection. -/
abbrev a0 (c : Dev nD) : FVec Ideal S2x8192x2816 .bf16 := m ((c : Thread nD τ).loc main_arg0)
/-- The weights, in four planes of columns. -/
abbrev a1 (c : Dev nD) : FVec Ideal S1x4x1024x1408 .bf16 := m ((c : Thread nD τ).loc main_arg1)
/-- The input of the norm. -/
abbrev a2 (c : Dev nD) : FVec Ideal S8192x1024 .f32 := m ((c : Thread nD τ).loc main_arg2)
/-- The norm's gains. -/
abbrev a3 (c : Dev nD) : FVec Ideal S1024 .f32 := m ((c : Thread nD τ).loc main_arg3)
/-- The cotangent that reaches the input past the layer. -/
abbrev a4 (c : Dev nD) : FVec Ideal S8192x1024 .f32 := m ((c : Thread nD τ).loc main_arg4)

theorem N16 : cfg0.N = 16 := by decide +kernel
theorem lt16 (t : Fin cfg0.N) : t.val < 16 := lt_of_lt_of_eq t.isLt N16

theorem index0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)
theorem index1 : ∀ (t : Fin cfg0.N) (a : Fin 4), win0_1.index t a = 0 :=
  (by decide +kernel : ∀ (t : Fin grid0.N) (a : Fin 4), win0_1.index t a = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ (t : Fin cfg0.N) (a : Fin 2), win0_3.index t a = 0 :=
  (by decide +kernel : ∀ (t : Fin grid0.N) (a : Fin 2), win0_3.index t a = 0)
theorem index4 : ∀ t : Fin cfg0.N, win0_4.index t 0 = t.val ∧ win0_4.index t 1 = 0 :=
  (by decide +kernel : ∀ t : Fin grid0.N, win0_4.index t 0 = t.val ∧ win0_4.index t 1 = 0)
theorem index5 : ∀ t : Fin cfg0.N, win0_5.index t 0 = t.val ∧ win0_5.index t 1 = 0 :=
  (by decide +kernel : ∀ t : Fin grid0.N, win0_5.index t 0 = t.val ∧ win0_5.index t 1 = 0)
theorem index6 : ∀ (t : Fin cfg0.N) (a : Fin 2), win0_6.index t a = 0 :=
  (by decide +kernel : ∀ (t : Fin grid0.N) (a : Fin 2), win0_6.index t a = 0)
theorem index7 : ∀ t : Fin cfg0.N, win0_7.index t 0 = t.val ∧ win0_7.index t 1 = 0 :=
  (by decide +kernel : ∀ t : Fin grid0.N, win0_7.index t 0 = t.val ∧ win0_7.index t 1 = 0)

theorem blk0 (c : Dev nD) (t : Fin cfg0.N) (p : Fin 2) (r : Fin 512) (d : Fin 2816) :
    (iblk m c 0 t : FVec Ideal S2x512x2816 .bf16) (ix3 p r d)
      = (a0 m c (ix3 p ⟨t.val * 512 + r.val, by have := lt16 t; omega⟩ d) : EReal) := by
  unfold iblk
  rw [View.read_apply]
  show V m c main_arg0 _ = _
  rw [V_main_arg0]
  congr 1
  funext a
  apply Fin.ext
  match a with
  | ⟨0, _⟩ => show win0_0.index t 0 * 2 + 1 * p.val = p.val; rw [(index0 t).1]; omega
  | ⟨1, _⟩ => show win0_0.index t 1 * 512 + 1 * r.val = t.val * 512 + r.val; rw [(index0 t).2.1]; omega
  | ⟨2, _⟩ => show win0_0.index t 2 * 2816 + 1 * d.val = d.val; rw [(index0 t).2.2]; omega

theorem blk1 (c : Dev nD) (t : Fin cfg0.N) (j : Fin 4) (d : Fin 1024) (q : Fin 1408) :
    (iblk m c 1 t : FVec Ideal S1x4x1024x1408 .bf16) (ix4 0 j d q) = (a1 m c (ix4 0 j d q) : EReal) := by
  unfold iblk
  rw [View.read_apply]
  show V m c main_arg1 _ = _
  rw [V_main_arg1]
  congr 1
  funext a
  apply Fin.ext
  match a with
  | ⟨0, _⟩ => show win0_1.index t 0 * 1 + 1 * 0 = 0; rw [index1 t 0]
  | ⟨1, _⟩ => show win0_1.index t 1 * 4 + 1 * j.val = j.val; rw [index1 t 1]; omega
  | ⟨2, _⟩ => show win0_1.index t 2 * 1024 + 1 * d.val = d.val; rw [index1 t 2]; omega
  | ⟨3, _⟩ => show win0_1.index t 3 * 1408 + 1 * q.val = q.val; rw [index1 t 3]; omega

theorem blk2 (c : Dev nD) (t : Fin cfg0.N) (r : Fin 512) (d : Fin 1024) :
    (iblk m c 2 t : FVec Ideal S512x1024 .f32) (ix2 r d) = (a2 m c (ix2 ⟨t.val * 512 + r.val, by have := lt16 t; omega⟩ d) : EReal) := by
  unfold iblk
  rw [View.read_apply]
  show V m c main_arg2 _ = _
  rw [V_main_arg2]
  congr 1
  funext a
  apply Fin.ext
  match a with
  | ⟨0, _⟩ => show win0_2.index t 0 * 512 + 1 * r.val = t.val * 512 + r.val; rw [(index2 t).1]; omega
  | ⟨1, _⟩ => show win0_2.index t 1 * 1024 + 1 * d.val = d.val; rw [(index2 t).2]; omega

theorem blk4 (c : Dev nD) (t : Fin cfg0.N) (r : Fin 512) (d : Fin 1024) :
    (iblk m c 4 t : FVec Ideal S512x1024 .f32) (ix2 r d) = (a4 m c (ix2 ⟨t.val * 512 + r.val, by have := lt16 t; omega⟩ d) : EReal) := by
  unfold iblk
  rw [View.read_apply]
  show V m c main_arg4 _ = _
  rw [V_main_arg4]
  congr 1
  funext a
  apply Fin.ext
  match a with
  | ⟨0, _⟩ => show win0_4.index t 0 * 512 + 1 * r.val = t.val * 512 + r.val; rw [(index4 t).1]; omega
  | ⟨1, _⟩ => show win0_4.index t 1 * 1024 + 1 * d.val = d.val; rw [(index4 t).2]; omega

theorem V0 (c : Dev nD) : (V m c main_v0 : FVec Ideal S1x1024 .f32) = shapeCast S1x1024 (a3 m c) shapeCasts_S1024_S1x1024 := rfl

theorem blk3 (c : Dev nD) (t : Fin cfg0.N) (d : Fin 1024) :
    (iblk m c 3 t : FVec Ideal S1x1024 .f32) (ix2 0 d) = (a3 m c (ix1 d) : EReal) := by
  have e : (iblk m c 3 t : FVec Ideal S1x1024 .f32) = V m c main_v0 := by
    funext j
    unfold iblk
    rw [View.read_apply]
    show V m c main_v0 _ = _
    congr 1
    funext a
    apply Fin.ext
    match a with
    | ⟨0, _⟩ => show win0_3.index t 0 * 1 + 1 * (j 0).val = (j 0).val; rw [index3 t 0]; omega
    | ⟨1, _⟩ => show win0_3.index t 1 * 1024 + 1 * (j 1).val = (j 1).val; rw [index3 t 1]; omega
  rw [e, V0]
  pointwise []

/-- Plane 0 of the weights among the reference's columns. -/
theorem weights0 (x1 : FVec Ideal S1x4x1024x1408 .bf16) (d : Fin 1024) (q : Fin 1408) (k : Fin 5632) (hk : 0 + q.val = k.val) :
    (val_main_v10 (F := Ideal) x1 (ix2 d k) : EReal) = x1 (ix4 0 0 d q) := by
  unfold val_main_v10
  refine (cols_apply _ _ 0 (by simp) (val_main_v3 (F := Ideal) x1) rfl 0 (by simp) d q k hk).trans ?_
  pointwise [val_main_v3, val_main_v2, val_main_v1, val_main_v0]

/-- Plane 1 of the weights among the reference's columns. -/
theorem weights1 (x1 : FVec Ideal S1x4x1024x1408 .bf16) (d : Fin 1024) (q : Fin 1408) (k : Fin 5632) (hk : 1408 + q.val = k.val) :
    (val_main_v10 (F := Ideal) x1 (ix2 d k) : EReal) = x1 (ix4 0 1 d q) := by
  unfold val_main_v10
  refine (cols_apply _ _ 1 (by simp) (val_main_v5 (F := Ideal) x1) rfl 1408 (by simp) d q k hk).trans ?_
  pointwise [val_main_v5, val_main_v4, val_main_v1, val_main_v0]

/-- Plane 2 of the weights among the reference's columns. -/
theorem weights2 (x1 : FVec Ideal S1x4x1024x1408 .bf16) (d : Fin 1024) (q : Fin 1408) (k : Fin 5632) (hk : 2816 + q.val = k.val) :
    (val_main_v10 (F := Ideal) x1 (ix2 d k) : EReal) = x1 (ix4 0 2 d q) := by
  unfold val_main_v10
  refine (cols_apply _ _ 2 (by simp) (val_main_v7 (F := Ideal) x1) rfl 2816 (by simp) d q k hk).trans ?_
  pointwise [val_main_v7, val_main_v6, val_main_v1, val_main_v0]

/-- Plane 3 of the weights among the reference's columns. -/
theorem weights3 (x1 : FVec Ideal S1x4x1024x1408 .bf16) (d : Fin 1024) (q : Fin 1408) (k : Fin 5632) (hk : 4224 + q.val = k.val) :
    (val_main_v10 (F := Ideal) x1 (ix2 d k) : EReal) = x1 (ix4 0 3 d q) := by
  unfold val_main_v10
  refine (cols_apply _ _ 3 (by simp) (val_main_v9 (F := Ideal) x1) rfl 4224 (by simp) d q k hk).trans ?_
  pointwise [val_main_v9, val_main_v8, val_main_v1, val_main_v0]

/-- A point's product is the rows of the reference's. -/
theorem dxn_ref (c : Dev nD) (t : Fin cfg0.N) (r : Fin 512) (k : Fin 1024) :
    (dxn (iblk m c 0 t) (iblk m c 1 t) (ix2 r k) : EReal)
      = val_main_v34 (F := Ideal) (a0 m c) (a1 m c) (ix2 ⟨t.val * 512 + r.val, by have := lt16 t; omega⟩ k) := by
  pointwise [dxn, val_main_v34, val_main_v33, val_main_v32, val_main_v31, val_main_v30, val_main_v29, val_main_v28]
  simp only [blk0, blk1]
  rw [sum_blocks₂ (b := 1408) (N := 2816) (by rfl) (fun x => (a0 m c (ix3 0 _ x) : EReal) * _),
    sum_blocks₂ (b := 1408) (N := 2816) (by rfl) (fun x => (a0 m c (ix3 1 _ x) : EReal) * _), ← add_assoc]
  refine congrArg₂ (· + ·) (congrArg₂ (· + ·) (congrArg₂ (· + ·) ?_ ?_) ?_) ?_ <;> refine Finset.sum_congr rfl fun q _ => ?_
  · rw [weights0 _ k q _ (by simp)]
  · rw [weights1 _ k q _ (by simp)]
  · rw [weights2 _ k q _ (by simp)]
  · rw [weights3 _ k q _ (by dsimp only; omega)]

theorem pay7_ref (c : Dev nD) (t : Fin cfg0.N) (y : FVec Ideal S512x1024 .f32)
    (hy : ∀ r k, (y (ix2 r k) : EReal) = val_main_v34 (F := Ideal) (a0 m c) (a1 m c) (ix2 ⟨t.val * 512 + r.val, by have := lt16 t; omega⟩ k))
    (r : Fin 512) (k : Fin 1024) :
    (k0_pay7 (F := Ideal) y (iblk m c 2 t) (iblk m c 3 t) (iblk m c 4 t) (ix2 r k) : EReal)
      = val_main_v55 (F := Ideal) (a0 m c) (a1 m c) (a2 m c) (a3 m c) (a4 m c) (ix2 ⟨t.val * 512 + r.val, by have := lt16 t; omega⟩ k) := by
  pointwise [k0_pay7, k0_pay5, k0_pay4, val_main_v55, val_main_v54, val_main_v53, val_main_v52, val_main_v51, val_main_v50, val_main_v49, val_main_v48,
    val_main_v47, val_main_v46, val_main_v45, val_main_v44, val_main_v43, val_main_v42, val_main_v41, val_main_v39, val_main_v38, val_main_v25, val_main_v24,
    val_main_v22, val_main_v21, val_main_v20, val_main_v19, val_main_v18, val_main_v17, val_main_v16, val_main_v15, val_main_v14, val_main_v13, val_main_v12, val_main_v11,
    val_main_cst, val_main_cst_0, val_main_cst_1, val_main_cst_2, val_main_cst_5, val_main_cst_6, val_main_cst_7]
  simp only [hy, blk2, blk3, blk4]
  simp only [add_assoc]

theorem pay6_ref (c : Dev nD) (t : Fin cfg0.N) (y : FVec Ideal S512x1024 .f32)
    (hy : ∀ r k, (y (ix2 r k) : EReal) = val_main_v34 (F := Ideal) (a0 m c) (a1 m c) (ix2 ⟨t.val * 512 + r.val, by have := lt16 t; omega⟩ k))
    (k : Fin 1024) :
    (k0_pay6 (F := Ideal) y (iblk m c 2 t) (ix2 0 k) : EReal)
      = ∑ r : Fin 512, val_main_v35 (F := Ideal) (a0 m c) (a1 m c) (a2 m c) (ix2 ⟨t.val * 512 + r.val, by have := lt16 t; omega⟩ k) := by
  pointwise [k0_pay6, k0_pay5, k0_pay4, val_main_v35, val_main_v23,
    val_main_v22, val_main_v18, val_main_v17, val_main_v16, val_main_v15, val_main_v14, val_main_v13, val_main_v12, val_main_v11,
    val_main_cst, val_main_cst_0, val_main_cst_1]
  simp only [hy, blk2]

theorem ref_gains (x0 : FVec Ideal S2x8192x2816 .bf16) (x1 : FVec Ideal S1x4x1024x1408 .bf16) (x2 : FVec Ideal S8192x1024 .f32) (k : Fin 1024) :
    (val_main_v56 (F := Ideal) x0 x1 x2 (ix2 0 k) : EReal) = ∑ r : Fin 8192, val_main_v35 (F := Ideal) x0 x1 x2 (ix2 r k) := by
  pointwise [val_main_v56, val_main_v40, val_main_v37, val_main_v36, val_main_cst_3, val_main_cst_4]
  exact Fin.sum_univ_one _

/-! ## The arrays at the end -/

/-- What starts at the first point's part and gains each later point's part ends as the sum over the points. -/
theorem sum_points (o : (n : ℕ) → n < cfg0.N → EReal) (f : Fin 16 → EReal) (h0 : ∀ h, o 0 h = f ⟨0, by omega⟩)
    (hs : ∀ n (h : n + 1 < cfg0.N), o (n + 1) h = o n (Nat.lt_of_succ_lt h) + f ⟨n + 1, lt16 ⟨n + 1, h⟩⟩)
    (t : Fin cfg0.N) (ht : t.val % 16 = 15) : o t.val t.isLt = ∑ n, f n := by
  have e : ∀ n (h : n < cfg0.N), o n h = ∑ i ∈ Finset.range (n + 1), (if h : i < 16 then f ⟨i, h⟩ else 0) := by
    intro n
    induction n with
    | zero => intro h; rw [h0]; simp
    | succ n ih =>
      intro h
      rw [hs, ih, Finset.sum_range_succ _ (n + 1), dif_pos (lt16 ⟨n + 1, h⟩)]
  have := lt16 t
  rw [e, show t.val + 1 = 16 by omega, Finset.sum_range]
  exact Finset.sum_congr rfl fun i _ => dif_pos i.isLt

/-- What a point leaves in the rows' block. -/
theorem rows (c : Dev nD) (t : Fin cfg0.N) :
    (outsAt0 m c t.val t.isLt).1 = k0_pay7 (dxn (iblk m c 0 t) (iblk m c 1 t)) (iblk m c 2 t) (iblk m c 3 t) (iblk m c 4 t) := by
  by_cases h : t.val % 16 = 0
  · rw [outsAt0_A m c t h, rows_first]
  · rw [outsAt0_B m c t h, rows_later]

/-- What a point leaves in the narrow rows' block. -/
theorem narrow (c : Dev nD) (t : Fin cfg0.N) :
    (outsAt0 m c t.val t.isLt).2.2 = k0_pay8 (dxn (iblk m c 0 t) (iblk m c 1 t)) (iblk m c 2 t) (iblk m c 3 t) (iblk m c 4 t) := by
  by_cases h : t.val % 16 = 0
  · rw [outsAt0_A m c t h, narrow_first]
  · rw [outsAt0_B m c t h, narrow_later]

/-- The rows of the input's cotangent at the end. -/
theorem arr5 (c : Dev nD) : (dats m 0 c).arrAt 5 cfg0.N = val_main_v55 (F := Ideal) (a0 m c) (a1 m c) (a2 m c) (a3 m c) (a4 m c) := by
  funext i
  obtain ⟨n, r, k, hi⟩ : ∃ (n : Fin 16) (r : Fin 512) (k : Fin 1024), i = ix2 ⟨n.val * 512 + r.val, by omega⟩ k := by
    refine ⟨⟨(i 0).val / 512, by have : (i 0).val < 8192 := (i 0).isLt; omega⟩, ⟨(i 0).val % 512, by omega⟩, i 1, ?_⟩
    refine (eq_ix2 i).trans (congrArg (fun x => ix2 x (i 1)) (Fin.ext ?_))
    show (i 0).val = (i 0).val / 512 * 512 + (i 0).val % 512
    omega
  subst hi
  have h := congrFun (Value.blocks5 m c ⟨n, by rw [N16]; omega⟩ (flush0_5 _)) (ix2 r k)
  rw [View.read_apply, Value.flushed5] at h
  refine Eq.trans ?_ (h.trans ((congrFun (rows m c ⟨n, by rw [N16]; omega⟩) (ix2 r k)).trans (pay7_ref m c ⟨n, by rw [N16]; omega⟩ _ (dxn_ref m c _) r k)))
  show _ = ((dats m 0 c).arrAt 5 cfg0.N : FVec Ideal S8192x1024 .f32) _
  congr 1
  funext a
  apply Fin.ext
  have hi := index5 ⟨n, by rw [N16]; omega⟩
  match a with
  | ⟨0, _⟩ => show n.val * 512 + r.val = win0_5.index _ 0 * 512 + 1 * r.val; rw [hi.1]; dsimp only; omega
  | ⟨1, _⟩ => show k.val = win0_5.index _ 1 * 1024 + 1 * k.val; rw [hi.2]; omega

/-- The narrow rows at the end. -/
theorem arr7 (c : Dev nD) : (dats m 0 c).arrAt 7 cfg0.N = val_main_v57 (F := Ideal) (a0 m c) (a1 m c) (a2 m c) (a3 m c) (a4 m c) := by
  funext i
  obtain ⟨n, r, k, hi⟩ : ∃ (n : Fin 16) (r : Fin 512) (k : Fin 1024), i = ix2 ⟨n.val * 512 + r.val, by omega⟩ k := by
    refine ⟨⟨(i 0).val / 512, by have : (i 0).val < 8192 := (i 0).isLt; omega⟩, ⟨(i 0).val % 512, by omega⟩, i 1, ?_⟩
    refine (eq_ix2 i).trans (congrArg (fun x => ix2 x (i 1)) (Fin.ext ?_))
    show (i 0).val = (i 0).val / 512 * 512 + (i 0).val % 512
    omega
  subst hi
  have h := congrFun (Value.blocks7 m c ⟨n, by rw [N16]; omega⟩ (flush0_7 _)) (ix2 r k)
  rw [View.read_apply, Value.flushed7] at h
  refine Eq.trans ?_ (h.trans ((congrFun (narrow m c ⟨n, by rw [N16]; omega⟩) (ix2 r k)).trans (pay7_ref m c ⟨n, by rw [N16]; omega⟩ _ (dxn_ref m c _) r k)))
  show _ = ((dats m 0 c).arrAt 7 cfg0.N : FVec Ideal S8192x1024 .bf16) _
  congr 1
  funext a
  apply Fin.ext
  have hi := index7 ⟨n, by rw [N16]; omega⟩
  match a with
  | ⟨0, _⟩ => show n.val * 512 + r.val = win0_7.index _ 0 * 512 + 1 * r.val; rw [hi.1]; dsimp only; omega
  | ⟨1, _⟩ => show k.val = win0_7.index _ 1 * 1024 + 1 * k.val; rw [hi.2]; omega

/-- A point's part of the gains' cotangent. -/
abbrev part (c : Dev nD) (k : Fin 1024) (n : Fin 16) : EReal :=
  ∑ r : Fin 512, val_main_v35 (F := Ideal) (a0 m c) (a1 m c) (a2 m c) (ix2 ⟨n.val * 512 + r.val, by omega⟩ k)

/-- The gains' cotangent after the last point: the sum over all rows. -/
theorem gains (c : Dev nD) (t : Fin cfg0.N) (ht : t.val % 16 = 15) :
    ((outsAt0 m c t.val t.isLt).2.1 : FVec Ideal S1x1024 .f32) = val_main_v56 (F := Ideal) (a0 m c) (a1 m c) (a2 m c) := by
  funext i
  obtain ⟨z, k, hi⟩ : ∃ (z : Fin 1) (k : Fin 1024), i = ix2 z k := ⟨i 0, i 1, eq_ix2 i⟩
  subst hi
  obtain rfl : z = 0 := Subsingleton.elim _ _
  rw [ref_gains, sum_blocks (n := 16) (b := 512) (by rfl)]
  refine sum_points (fun n h => ((outsAt0 m c n h).2.1 (ix2 0 k) : EReal)) (part m c k) ?_ ?_ t ht
  · intro h
    rw [outsAt0_A m c ⟨0, h⟩ rfl]
    dsimp only
    rw [gains_first]
    pointwise [k0_pay2, k0_pay1]
    exact pay6_ref m c ⟨0, h⟩ _ (dxn_ref m c _) k
  · intro n h
    rw [outsAt0_B m c ⟨n + 1, h⟩ (by have := lt16 ⟨n + 1, h⟩; dsimp only at this ⊢; omega)]
    dsimp only
    rw [gains_later]
    pointwise [k0_pay2]
    exact congrArg _ (pay6_ref m c ⟨n + 1, h⟩ _ (dxn_ref m c _) k)

theorem eq_last (s t : Fin cfg0.N) (hs : s.val % 16 = 15) (ht : t.val % 16 = 15) : s = t := by
  have := lt16 t
  have := lt16 s
  exact Fin.ext (by omega)

/-- The last grid point. -/
theorem exists_last : ∃ t : Fin cfg0.N, t.val % 16 = 15 := ⟨⟨15, by rw [N16]; omega⟩, rfl⟩

/-- The gains' cotangent at the end. -/
theorem arr6 (c : Dev nD) : (dats m 0 c).arrAt 6 cfg0.N = val_main_v56 (F := Ideal) (a0 m c) (a1 m c) (a2 m c) := by
  have hX : ∀ s : Fin cfg0.N, s.val % 16 = 15 → ((outsAt0 m c s.val s.isLt).2.1 : FVec Ideal S1x1024 .f32) = val_main_v56 (F := Ideal) (a0 m c) (a1 m c) (a2 m c) :=
    fun s hs => gains m c s hs
  generalize val_main_v56 (F := Ideal) (a0 m c) (a1 m c) (a2 m c) = X at hX ⊢
  have hf : ∀ s, (cfg0.win 6).flush s = true →
      (dats m 0 c).flushed 6 s = ((cfg0.win 6).blk s).view.read (Elt Ideal) (X : Buf (Elt Ideal) ((c : Thread nD τ).loc main_v1_1)) := by
    intro s hs
    show (cfg0.win 6).cut (grid0.coords s) ((dats m 0 c).after 6 s) = _
    rw [after0_6, hX s ((flush0_6 s).mp hs)]
    have hz : (fun a => win0_6.index s a * main_v1_1.ty.shape.size a) = fun _ => 0 := funext fun a => by rw [index6 s a, Nat.zero_mul]
    exact (Memref.read_access_unit_zero (Elt Ideal) main_v1_1 hz (fun a => by rw [congrFun hz a]; simp) X).symm
  obtain ⟨t, ht⟩ := exists_last
  refine (dats m 0 c).arrAt_eq_of_cover 6 X hf fun i => ⟨t, (flush0_6 t).mpr ht, ?_⟩
  show i ∈ ((View.whole main_v1_1).slice (win0_6.rect t)).set
  rw [View.set_slice_whole, Rect.mem_set_unit]
  intro a
  have hx : ∀ a : Fin 2, win0_6.xsize (grid0.coords t) a = win0_6.size a := by revert t; decide +kernel
  show win0_6.index t a * win0_6.size a ≤ (i a : Nat) ∧ (i a : Nat) < win0_6.index t a * win0_6.size a + win0_6.xsize (grid0.coords t) a
  rw [index6, hx, Nat.zero_mul, Nat.zero_add]
  exact ⟨Nat.zero_le _, (i a).isLt⟩

end Cert.Kernel2Ideal.Blocks

end
-- ==== Proof.GateUpDw.lean ====
/- The gradient of the gated layer's first weights: what each grid point adds to the carried sum, and what the kernel's
   result holds at its end. -/
module

public import proofs.«01_k».proof.Proof.Sums
public import Idealize.ShloMosaic.Lib.Pipeline.ReadBack
public import proofs.«01_k».proof.Proof.Gen.Kernel3Ideal.Value
public import proofs.«01_k».proof.Proof.Gen.Reference3Ideal.Read

@[expose] public section

noncomputable section

namespace Cert.Kernel3Ideal.Blocks

open Idealize.ShloMosaic Idealize.ShloMosaic.TcCoe Idealize.SL.Sem Cert.Kernel3Ideal Cert.Kernel3Ideal.Gen
open Cert.Reference3Ideal.Read Cert.Sums

theorem hz : (![0, 0] : Fin 2 → Nat) = fun _ => 0 := funext fun a => by fin_cases a <;> rfl
theorem hz3 : (![0, 0, 0] : Fin 3 → Nat) = fun _ => 0 := funext fun a => by fin_cases a <;> rfl

section Points

variable {F : FTy → Type} [FloatOps F] (c : Dev nD) (i : grid0.Coords)
  (arg3 : Memref sig .tc .vmem S1x2048x1024 .bf16) (harg3 : arg3.IsWhole) (arg4 : Memref sig .tc .vmem S1x2048x1408 .bf16) (harg4 : arg4.IsWhole)
  (arg5 : Memref sig .tc .vmem S1x1024x1408 .f32) (harg5 : arg5.IsWhole) (arg6 : Memref sig .tc .vmem S1024x1408 .f32) (harg6 : arg6.IsWhole)
  (x0 : Vec F S1x2048x1024 .bf16) (x1 : Vec F S1x2048x1408 .bf16) (xs0 : Vec F S1024x1408 .f32)

/-- At the first of four points the carried sum starts as the point's product. -/
theorem first (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero hz]
  simp only [View.readAt_eq_ld, harg3.read_unread, harg4.read_unread, View.ld_unit_zero (S := S1x2048x1024) hz3, View.ld_unit_zero (S := S1x2048x1408) hz3]

/-- At a point between the carried sum gains the point's product. -/
theorem between (hc0 : ¬cond0_0 i) (hc1 : cond0_1 i) (hc2 : ¬cond0_2 i) :
    sout0_B_0 c i arg3 harg3 arg4 harg4 arg5 harg5 arg6 harg6 hc0 hc1 hc2 x0 x1 xs0 = k0_pay3 x0 x1 xs0 := by
  unfold sout0_B_0
  rw [View.read_writes_eq_canon _ _ _ (scover0_B_0 c i arg3 harg3 arg4 harg4 arg5 harg5 arg6 harg6 hc0 hc1 hc2 x0 x1 xs0)]
  unfold kernelRun0_B
  dsimp only
  sl_unfold_words
  rw [View.canon_unit_zero hz]
  simp only [View.readAt_eq_ld, harg3.read_unread, harg4.read_unread, harg6.read_unread, View.ld_unit_zero (S := S1x2048x1024) hz3, View.ld_unit_zero (S := S1x2048x1408) hz3,
    View.ld_unit_zero (S := S1024x1408) hz]

/-- At the last of four points the result's block is the carried sum with the point's product. -/
theorem last (hc0 : ¬cond0_0 i) (hc1 : cond0_1 i) (hc2 : cond0_2 i) :
    out0_C_2 c i arg3 harg3 arg4 harg4 arg5 harg5 arg6 harg6 hc0 hc1 hc2 x0 x1 xs0 = k0_pay4 (k0_pay3 x0 x1 xs0) := by
  unfold out0_C_2
  rw [View.read_writes_eq_canon _ _ _ (cover0_C_2 c i arg3 harg3 arg4 harg4 arg5 harg5 arg6 harg6 hc0 hc1 hc2 x0 x1 xs0)]
  unfold kernelRun0_C
  dsimp only
  sl_unfold_words
  rw [View.canon_unit_zero hz3]
  simp only [View.readAt_eq_ld, View.readCov_unit_zero (S := S1024x1408) _ hz, harg3.read_unread, harg4.read_unread, harg6.read_unread, View.ld_unit_zero (S := S1x2048x1024) hz3, View.ld_unit_zero (S := S1x2048x1408) hz3,
    View.ld_unit_zero (S := S1024x1408) hz]

end Points

variable (m : (ℓ : Loc nD τ sig) → Buf (Elt Ideal) ℓ)

/-- The normalised activations, twice over. -/
abbrev a0 (c : Dev nD) : FVec Ideal S2x8192x1024 .bf16 := m ((c : Thread nD τ).loc main_arg0)
/-- The cotangents of the gate and of the up projection. -/
abbrev a1 (c : Dev nD) : FVec Ideal S2x8192x2816 .bf16 := m ((c : Thread nD τ).loc main_arg1)

theorem N16 : cfg0.N = 16 := by decide +kernel
theorem lt16 (t : Fin cfg0.N) : t.val < 16 := lt_of_lt_of_eq t.isLt N16

theorem index0 : ∀ t : Fin cfg0.N, win0_0.index t 0 = 0 ∧ win0_0.index t 1 = t.val % 4 ∧ win0_0.index t 2 = 0 :=
  (by decide +kernel : ∀ t : Fin grid0.N, win0_0.index t 0 = 0 ∧ win0_0.index t 1 = t.val % 4 ∧ win0_0.index t 2 = 0)
theorem index1 : ∀ t : Fin cfg0.N, win0_1.index t 0 = t.val / 4 / 2 ∧ win0_1.index t 1 = t.val % 4 ∧ win0_1.index t 2 = t.val / 4 % 2 :=
  (by decide +kernel : ∀ t : Fin grid0.N, win0_1.index t 0 = t.val / 4 / 2 ∧ win0_1.index t 1 = t.val % 4 ∧ win0_1.index t 2 = t.val / 4 % 2)

/-- The activations' block at a point: a quarter of the rows. -/
theorem blk0 (c : Dev nD) (t : Fin cfg0.N) (r : Fin 2048) (d : Fin 1024) :
    (iblk m c 0 t : FVec Ideal S1x2048x1024 .bf16) (ix3 0 r d)
      = (a0 m c (ix3 0 ⟨t.val % 4 * 2048 + r.val, by omega⟩ d) : EReal) := by
  unfold iblk
  rw [View.read_apply]
  show V m c main_arg0 _ = _
  rw [V_main_arg0]
  congr 1
  funext a
  apply Fin.ext
  match a with
  | ⟨0, _⟩ => show win0_0.index t 0 * 1 + 1 * 0 = 0; rw [(index0 t).1]
  | ⟨1, _⟩ => show win0_0.index t 1 * 2048 + 1 * r.val = t.val % 4 * 2048 + r.val; rw [(index0 t).2.1]; omega
  | ⟨2, _⟩ => show win0_0.index t 2 * 1024 + 1 * d.val = d.val; rw [(index0 t).2.2]; omega

/-- The cotangents' block at a point: a quarter of the rows, and a quarter of the columns of both planes. -/
theorem blk1 (c : Dev nD) (t : Fin cfg0.N) (r : Fin 2048) (k : Fin 1408) :
    (iblk m c 1 t : FVec Ideal S1x2048x1408 .bf16) (ix3 0 r k)
      = (a1 m c (ix3 ⟨t.val / 4 / 2, by have := lt16 t; omega⟩ ⟨t.val % 4 * 2048 + r.val, by omega⟩ ⟨t.val / 4 % 2 * 1408 + k.val, by omega⟩) : EReal) := by
  unfold iblk
  rw [View.read_apply]
  show V m c main_arg1 _ = _
  rw [V_main_arg1]
  congr 1
  funext a
  apply Fin.ext
  match a with
  | ⟨0, _⟩ => show win0_1.index t 0 * 1 + 1 * 0 = t.val / 4 / 2; rw [(index1 t).1]; omega
  | ⟨1, _⟩ => show win0_1.index t 1 * 2048 + 1 * r.val = t.val % 4 * 2048 + r.val; rw [(index1 t).2.1]; omega
  | ⟨2, _⟩ => show win0_1.index t 2 * 1408 + 1 * k.val = t.val / 4 % 2 * 1408 + k.val; rw [(index1 t).2.2]; omega

/-- The product's terms, row by row, for a quarter `j` of the columns. -/
abbrev term (c : Dev nD) (j : Fin 4) (d : Fin 1024) (k : Fin 1408) (r : Fin 8192) : EReal :=
  a0 m c (ix3 0 r d) * a1 m c (ix3 ⟨j.val / 2, by omega⟩ r ⟨j.val % 2 * 1408 + k.val, by omega⟩)

/-- A point's product: a quarter of the rows. -/
theorem prod (c : Dev nD) (t : Fin cfg0.N) (j q : Fin 4) (ht : t.val = 4 * j.val + q.val) (d : Fin 1024) (k : Fin 1408) :
    (k0_pay1 (F := Ideal) (iblk m c 0 t) (iblk m c 1 t) (ix2 d k) : EReal)
      = ∑ r : Fin 2048, term m c j d k ⟨q.val * 2048 + r.val, by omega⟩ := by
  have hj : t.val / 4 = j.val := by omega
  have hq : t.val % 4 = q.val := by omega
  pointwise [k0_pay1]
  refine Finset.sum_congr rfl fun r _ => ?_
  rw [blk0, blk1]
  simp only [hj, hq]

theorem at_eq (c : Dev nD) (n n' : Nat) (h : n < cfg0.N) (h' : n' < cfg0.N) (e : n = n') : outsAt0 m c n h = outsAt0 m c n' h' := by
  subst e
  rfl

/-- Four points' products, added up in the carried sum and left in the result's block. -/
theorem sum_points (c : Dev nD) (j : Fin 4) (d : Fin 1024) (k : Fin 1408) (t0 t1 t2 t3 : Fin cfg0.N)
    (h0 : t0.val = 4 * j.val) (h1 : t1.val = 4 * j.val + 1) (h2 : t2.val = 4 * j.val + 2) (h3 : t3.val = 4 * j.val + 3) :
    ((outsAt0 m c t3.val t3.isLt).1 (ix3 0 d k) : EReal)
      = ((∑ r : Fin 2048, term m c j d k ⟨0 * 2048 + r.val, by omega⟩ + ∑ r : Fin 2048, term m c j d k ⟨1 * 2048 + r.val, by omega⟩)
        + ∑ r : Fin 2048, term m c j d k ⟨2 * 2048 + r.val, by omega⟩) + ∑ r : Fin 2048, term m c j d k ⟨3 * 2048 + r.val, by omega⟩ := by
  rw [outsAt0_C m c t3 (by omega) (by omega) (by omega), last, at_eq m c _ _ _ t2.isLt (by omega : t3.val - 1 = t2.val)]
  pointwise [k0_pay4, k0_pay3]
  rw [outsAt0_B m c t2 (by omega) (by omega) (by omega), between, at_eq m c _ _ _ t1.isLt (by omega : t2.val - 1 = t1.val)]
  pointwise [k0_pay3]
  rw [outsAt0_B m c t1 (by omega) (by omega) (by omega), between, at_eq m c _ _ _ t0.isLt (by omega : t1.val - 1 = t0.val)]
  pointwise [k0_pay3]
  rw [outsAt0_A m c t0 (by omega) (by omega) (by omega), first]
  pointwise [k0_pay2]
  rw [prod m c t0 j 0 h0, prod m c t1 j 1 h1, prod m c t2 j 2 h2, prod m c t3 j 3 h3]
  rfl

/-- The reference's stages at a quarter of the columns: the product's element. -/
theorem ref (x0 : FVec Ideal S2x8192x1024 .bf16) (x1 : FVec Ideal S2x8192x2816 .bf16) (j : Fin 4) (d : Fin 1024) (k : Fin 1408) :
    (val_main_v21 (F := Ideal) x0 x1 (ix3 j d k) : EReal)
      = ∑ r : Fin 8192, x0 (ix3 0 r d) * x1 (ix3 ⟨j.val / 2, by omega⟩ r ⟨j.val % 2 * 1408 + k.val, by omega⟩) := by
  unfold val_main_v21
  match j with
  | 0 =>
    refine (stack_apply _ _ 0 (by simp) (val_main_v17 (F := Ideal) x0 x1) rfl rfl 0 rfl d k).trans ?_
    pointwise [val_main_v17, val_main_v13, val_main_v12, val_main_v11, val_main_v10, val_main_v9, val_main_v8, val_main_v7,
      val_main_v6, val_main_v5, val_main_v3, val_main_v2, val_main_v1]
    exact Finset.sum_congr rfl fun r _ => by rw [dif_pos (by omega)]; exact mul_comm _ _
  | 1 =>
    refine (stack_apply _ _ 1 (by simp) (val_main_v18 (F := Ideal) x0 x1) rfl rfl 1 rfl d k).trans ?_
    pointwise [val_main_v18, val_main_v14, val_main_v12, val_main_v11, val_main_v10, val_main_v9, val_main_v8, val_main_v7,
      val_main_v6, val_main_v5, val_main_v3, val_main_v2, val_main_v1]
    exact Finset.sum_congr rfl fun r _ => by rw [dif_pos (by omega)]; exact mul_comm _ _
  | 2 =>
    refine (stack_apply _ _ 2 (by simp) (val_main_v19 (F := Ideal) x0 x1) rfl rfl 2 rfl d k).trans ?_
    pointwise [val_main_v19, val_main_v15, val_main_v12, val_main_v11, val_main_v10, val_main_v9, val_main_v8, val_main_v7,
      val_main_v6, val_main_v5, val_main_v3, val_main_v2, val_main_v1]
    exact Finset.sum_congr rfl fun r _ => mul_comm _ _
  | 3 =>
    refine (stack_apply _ _ 3 (by simp) (val_main_v20 (F := Ideal) x0 x1) rfl rfl 3 rfl d k).trans ?_
    pointwise [val_main_v20, val_main_v16, val_main_v12, val_main_v11, val_main_v10, val_main_v9, val_main_v8, val_main_v7,
      val_main_v6, val_main_v5, val_main_v3, val_main_v2, val_main_v1]
    have e : (⟨4224 + k.val - 2816, by omega⟩ : Fin 2816) = ⟨1408 + k.val, by omega⟩ := Fin.ext (by dsimp only; omega)
    refine Finset.sum_congr rfl fun r _ => ?_
    rw [dif_neg (by omega), e]
    exact mul_comm _ _

/-- The kernel's result at its end: at each of four planes of columns, the product's element. -/
theorem result (c : Dev nD) (j : Fin 4) (d : Fin 1024) (k : Fin 1408) :
    (Value.G2 m c : FVec Ideal S4x1024x1408 .f32) (ix3 j d k) = ∑ r : Fin 8192, term m c j d k r := by
  have hp : Value.pt2Of (ix3 j d k) = 4 * j.val + 3 := by
    have e0 : ((ix3 j d k : S4x1024x1408.Idx) 0).val = j.val := rfl
    have e1 : ((ix3 j d k : S4x1024x1408.Idx) 1).val = d.val := rfl
    have e2 : ((ix3 j d k : S4x1024x1408.Idx) 2).val = k.val := rfl
    unfold Value.pt2Of Value.run2Of
    rw [e0, e1, e2]
    omega
  have hl : Value.loc2Of (ix3 j d k) = ix3 0 d k := by
    funext a
    apply Fin.ext
    match a with
    | ⟨0, _⟩ => show j.val % 1 = 0; omega
    | ⟨1, _⟩ => show d.val % 1024 = d.val; omega
    | ⟨2, _⟩ => show k.val % 1408 = k.val; omega
  have hN : ∀ q : Fin 4, 4 * j.val + q.val < cfg0.N := fun q => by rw [N16]; omega
  unfold Value.G2
  rw [dif_pos (by rw [hp]; exact hN 3), ← Value.outsAt0_sweep m c _ (by rw [hp]; exact hN 3), hl, at_eq m c _ _ _ (hN 3) hp]
  exact (sum_points m c j d k ⟨_, hN 0⟩ ⟨_, hN 1⟩ ⟨_, hN 2⟩ ⟨_, hN 3⟩ rfl rfl rfl rfl).trans (sum_blocks₄ (by rfl) _).symm

/-- The kernel's result is the reference's. -/
theorem equal (c : Dev nD) : Value.G2 m c = val_main_v21 (F := Ideal) (a0 m c) (a1 m c) := by
  funext i
  obtain ⟨j, d, k, hi⟩ : ∃ (j : Fin 4) (d : Fin 1024) (k : Fin 1408), i = ix3 j d k := ⟨i 0, i 1, i 2, eq_ix3 i⟩
  subst hi
  exact (result m c j d k).trans (ref _ _ j d k).symm

end Cert.Kernel3Ideal.Blocks

end
-- ==== Proof.DownDw.lean ====
/- The gradient of the gated layer's last weights: what each grid point adds to the carried sum, and what the kernel's
   result holds at its end. -/
module

public import proofs.«01_k».proof.Proof.Sums
public import Idealize.ShloMosaic.Lib.Pipeline.ReadBack
public import proofs.«01_k».proof.Proof.Gen.Kernel4Ideal.Value
public import proofs.«01_k».proof.Proof.Gen.Reference4Ideal.Read

@[expose] public section

noncomputable section

namespace Cert.Kernel4Ideal.Blocks

open Idealize.ShloMosaic Idealize.ShloMosaic.TcCoe Idealize.SL.Sem Cert.Kernel4Ideal Cert.Kernel4Ideal.Gen
open Cert.Reference4Ideal.Read Cert.Sums

theorem hz : (![0, 0] : Fin 2 → Nat) = fun _ => 0 := funext fun a => by fin_cases a <;> rfl
theorem hz3 : (![0, 0, 0] : Fin 3 → Nat) = fun _ => 0 := funext fun a => by fin_cases a <;> rfl

section Points

variable {F : FTy → Type} [FloatOps F] (c : Dev nD) (i : grid0.Coords)
  (arg3 : Memref sig .tc .vmem S2048x1408 .bf16) (harg3 : arg3.IsWhole) (arg4 : Memref sig .tc .vmem S2048x1024 .bf16) (harg4 : arg4.IsWhole)
  (arg5 : Memref sig .tc .vmem S2x704x1024 .f32) (harg5 : arg5.IsWhole) (arg6 : Memref sig .tc .vmem S1408x1024 .f32) (harg6 : arg6.IsWhole)
  (x0 : Vec F S2048x1408 .bf16) (x1 : Vec F S2048x1024 .bf16) (xs0 : Vec F S1408x1024 .f32)

/-- At the first of four points the carried sum starts as the point's product. -/
theorem first (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero hz]
  simp only [View.readAt_eq_ld, harg3.read_unread, harg4.read_unread, View.ld_unit_zero (S := S2048x1408) hz, View.ld_unit_zero (S := S2048x1024) hz]

/-- At a point between the carried sum gains the point's product. -/
theorem between (hc0 : ¬cond0_0 i) (hc1 : cond0_1 i) (hc2 : ¬cond0_2 i) :
    sout0_B_0 c i arg3 harg3 arg4 harg4 arg5 harg5 arg6 harg6 hc0 hc1 hc2 x0 x1 xs0 = k0_pay3 x0 x1 xs0 := by
  unfold sout0_B_0
  rw [View.read_writes_eq_canon _ _ _ (scover0_B_0 c i arg3 harg3 arg4 harg4 arg5 harg5 arg6 harg6 hc0 hc1 hc2 x0 x1 xs0)]
  unfold kernelRun0_B
  dsimp only
  sl_unfold_words
  rw [View.canon_unit_zero hz]
  simp only [View.readAt_eq_ld, harg3.read_unread, harg4.read_unread, harg6.read_unread, View.ld_unit_zero (S := S2048x1408) hz, View.ld_unit_zero (S := S2048x1024) hz,
    View.ld_unit_zero (S := S1408x1024) hz]

/-- At the last of four points the result's block is the carried sum with the point's product. -/
theorem last (hc0 : ¬cond0_0 i) (hc1 : cond0_1 i) (hc2 : cond0_2 i) :
    out0_C_2 c i arg3 harg3 arg4 harg4 arg5 harg5 arg6 harg6 hc0 hc1 hc2 x0 x1 xs0 = k0_pay4 (k0_pay3 x0 x1 xs0) := by
  unfold out0_C_2
  rw [View.read_writes_eq_canon _ _ _ (cover0_C_2 c i arg3 harg3 arg4 harg4 arg5 harg5 arg6 harg6 hc0 hc1 hc2 x0 x1 xs0)]
  unfold kernelRun0_C
  dsimp only
  sl_unfold_words
  rw [View.canon_unit_zero hz3]
  simp only [View.readAt_eq_ld, View.readCov_unit_zero (S := S1408x1024) _ hz, harg3.read_unread, harg4.read_unread, harg6.read_unread, View.ld_unit_zero (S := S2048x1408) hz, View.ld_unit_zero (S := S2048x1024) hz,
    View.ld_unit_zero (S := S1408x1024) hz]

end Points

variable (m : (ℓ : Loc nD τ sig) → Buf (Elt Ideal) ℓ)

/-- The activations. -/
abbrev a0 (c : Dev nD) : FVec Ideal S8192x2816 .bf16 := m ((c : Thread nD τ).loc main_arg0)
/-- The cotangent of the layer's output. -/
abbrev a1 (c : Dev nD) : FVec Ideal S8192x1024 .bf16 := m ((c : Thread nD τ).loc main_arg1)

theorem N8 : cfg0.N = 8 := by decide +kernel
theorem lt8 (t : Fin cfg0.N) : t.val < 8 := lt_of_lt_of_eq t.isLt N8

theorem index0 : ∀ t : Fin cfg0.N, win0_0.index t 0 = t.val % 4 ∧ win0_0.index t 1 = t.val / 4 :=
  (by decide +kernel : ∀ t : Fin grid0.N, win0_0.index t 0 = t.val % 4 ∧ win0_0.index t 1 = t.val / 4)
theorem index1 : ∀ t : Fin cfg0.N, win0_1.index t 0 = t.val % 4 ∧ win0_1.index t 1 = 0 :=
  (by decide +kernel : ∀ t : Fin grid0.N, win0_1.index t 0 = t.val % 4 ∧ win0_1.index t 1 = 0)

/-- The activations' block at a point: a quarter of the rows, half of the columns. -/
theorem blk0 (c : Dev nD) (t : Fin cfg0.N) (r : Fin 2048) (d : Fin 1408) :
    (iblk m c 0 t : FVec Ideal S2048x1408 .bf16) (ix2 r d)
      = (a0 m c (ix2 ⟨t.val % 4 * 2048 + r.val, by omega⟩ ⟨t.val / 4 * 1408 + d.val, by have := lt8 t; omega⟩) : EReal) := by
  unfold iblk
  rw [View.read_apply]
  show V m c main_arg0 _ = _
  rw [V_main_arg0]
  congr 1
  funext a
  apply Fin.ext
  match a with
  | ⟨0, _⟩ => show win0_0.index t 0 * 2048 + 1 * r.val = t.val % 4 * 2048 + r.val; rw [(index0 t).1]; omega
  | ⟨1, _⟩ => show win0_0.index t 1 * 1408 + 1 * d.val = t.val / 4 * 1408 + d.val; rw [(index0 t).2]; omega

/-- The cotangent's block at a point: a quarter of the rows. -/
theorem blk1 (c : Dev nD) (t : Fin cfg0.N) (r : Fin 2048) (k : Fin 1024) :
    (iblk m c 1 t : FVec Ideal S2048x1024 .bf16) (ix2 r k)
      = (a1 m c (ix2 ⟨t.val % 4 * 2048 + r.val, by omega⟩ k) : EReal) := by
  unfold iblk
  rw [View.read_apply]
  show V m c main_arg1 _ = _
  rw [V_main_arg1]
  congr 1
  funext a
  apply Fin.ext
  match a with
  | ⟨0, _⟩ => show win0_1.index t 0 * 2048 + 1 * r.val = t.val % 4 * 2048 + r.val; rw [(index1 t).1]; omega
  | ⟨1, _⟩ => show win0_1.index t 1 * 1024 + 1 * k.val = k.val; rw [(index1 t).2]; omega

/-- The product's terms, row by row. -/
abbrev term (c : Dev nD) (d : Fin 2816) (k : Fin 1024) (r : Fin 8192) : EReal :=
  a0 m c (ix2 r d) * a1 m c (ix2 r k)

/-- A point's product: a quarter of the rows, for half of the columns. -/
theorem prod (c : Dev nD) (t : Fin cfg0.N) (j : Fin 2) (q : Fin 4) (ht : t.val = 4 * j.val + q.val) (d : Fin 1408) (k : Fin 1024) :
    (k0_pay1 (F := Ideal) (iblk m c 0 t) (iblk m c 1 t) (ix2 d k) : EReal)
      = ∑ r : Fin 2048, term m c ⟨j.val * 1408 + d.val, by omega⟩ k ⟨q.val * 2048 + r.val, by omega⟩ := by
  have hj : t.val / 4 = j.val := by omega
  have hq : t.val % 4 = q.val := by omega
  pointwise [k0_pay1]
  refine Finset.sum_congr rfl fun r _ => ?_
  rw [blk0, blk1]
  simp only [hj, hq]

theorem at_eq (c : Dev nD) (n n' : Nat) (h : n < cfg0.N) (h' : n' < cfg0.N) (e : n = n') : outsAt0 m c n h = outsAt0 m c n' h' := by
  subst e
  rfl

/-- The block's two planes are its columns, cut in two. -/
theorem planes (x : FVec Ideal S1408x1024 .f32) (p : Fin 2) (d : Fin 704) (k : Fin 1024) :
    (k0_pay4 (F := Ideal) x (ix3 p d k) : EReal) = x (ix2 ⟨p.val * 704 + d.val, by omega⟩ k) := by
  pointwise [k0_pay4]

/-- Four points' products, added up in the carried sum and left in the result's block. -/
theorem sum_points (c : Dev nD) (j p : Fin 2) (d : Fin 704) (k : Fin 1024) (t0 t1 t2 t3 : Fin cfg0.N)
    (h0 : t0.val = 4 * j.val) (h1 : t1.val = 4 * j.val + 1) (h2 : t2.val = 4 * j.val + 2) (h3 : t3.val = 4 * j.val + 3) :
    ((outsAt0 m c t3.val t3.isLt).1 (ix3 p d k) : EReal)
      = ∑ r : Fin 8192, term m c ⟨j.val * 1408 + (p.val * 704 + d.val), by omega⟩ k r := by
  rw [sum_blocks₄ (b := 2048) (by rfl), outsAt0_C m c t3 (by omega) (by omega) (by omega), last, at_eq m c _ _ _ t2.isLt (by omega : t3.val - 1 = t2.val)]
  dsimp only
  rw [planes]
  pointwise [k0_pay3]
  rw [outsAt0_B m c t2 (by omega) (by omega) (by omega), between, at_eq m c _ _ _ t1.isLt (by omega : t2.val - 1 = t1.val)]
  pointwise [k0_pay3]
  rw [outsAt0_B m c t1 (by omega) (by omega) (by omega), between, at_eq m c _ _ _ t0.isLt (by omega : t1.val - 1 = t0.val)]
  pointwise [k0_pay3]
  rw [outsAt0_A m c t0 (by omega) (by omega) (by omega), first]
  pointwise [k0_pay2]
  rw [prod m c t0 j 0 h0, prod m c t1 j 1 h1, prod m c t2 j 2 h2, prod m c t3 j 3 h3]
  rfl

/-- The reference's stages at a quarter of the columns: the product's element. -/
theorem ref (x0 : FVec Ideal S8192x2816 .bf16) (x1 : FVec Ideal S8192x1024 .bf16) (j : Fin 4) (d : Fin 704) (k : Fin 1024) :
    (val_main_v14 (F := Ideal) x0 x1 (ix3 j d k) : EReal)
      = ∑ r : Fin 8192, x0 (ix2 r ⟨j.val * 704 + d.val, by omega⟩) * x1 (ix2 r k) := by
  unfold val_main_v14
  match j with
  | 0 =>
    refine (stack_apply _ _ 0 (by simp) (val_main_v10 (F := Ideal) x0 x1) rfl rfl 0 rfl d k).trans ?_
    pointwise [val_main_v10, val_main_v6, val_main_v5, val_main_v4, val_main_v3, val_main_v1]
    exact Finset.sum_congr rfl fun r _ => mul_comm _ _
  | 1 =>
    refine (stack_apply _ _ 1 (by simp) (val_main_v11 (F := Ideal) x0 x1) rfl rfl 1 rfl d k).trans ?_
    pointwise [val_main_v11, val_main_v7, val_main_v5, val_main_v4, val_main_v3, val_main_v1]
    exact Finset.sum_congr rfl fun r _ => mul_comm _ _
  | 2 =>
    refine (stack_apply _ _ 2 (by simp) (val_main_v12 (F := Ideal) x0 x1) rfl rfl 2 rfl d k).trans ?_
    pointwise [val_main_v12, val_main_v8, val_main_v5, val_main_v4, val_main_v3, val_main_v1]
    exact Finset.sum_congr rfl fun r _ => mul_comm _ _
  | 3 =>
    refine (stack_apply _ _ 3 (by simp) (val_main_v13 (F := Ideal) x0 x1) rfl rfl 3 rfl d k).trans ?_
    pointwise [val_main_v13, val_main_v9, val_main_v5, val_main_v4, val_main_v3, val_main_v1]
    exact Finset.sum_congr rfl fun r _ => mul_comm _ _

/-- The kernel's result at its end: at each of four planes of rows, the product's element. -/
theorem result (c : Dev nD) (j : Fin 4) (d : Fin 704) (k : Fin 1024) :
    (Value.G2 m c : FVec Ideal S4x704x1024 .f32) (ix3 j d k) = ∑ r : Fin 8192, term m c ⟨j.val * 704 + d.val, by omega⟩ k r := by
  have hp : Value.pt2Of (ix3 j d k) = 4 * (j.val / 2) + 3 := by
    have e0 : ((ix3 j d k : S4x704x1024.Idx) 0).val = j.val := rfl
    have e1 : ((ix3 j d k : S4x704x1024.Idx) 1).val = d.val := rfl
    have e2 : ((ix3 j d k : S4x704x1024.Idx) 2).val = k.val := rfl
    unfold Value.pt2Of Value.run2Of
    rw [e0, e1, e2]
    omega
  have hl : Value.loc2Of (ix3 j d k) = ix3 ⟨j.val % 2, by omega⟩ d k := by
    funext a
    apply Fin.ext
    match a with
    | ⟨0, _⟩ => rfl
    | ⟨1, _⟩ => show d.val % 704 = d.val; omega
    | ⟨2, _⟩ => show k.val % 1024 = k.val; omega
  have hN : ∀ q : Fin 4, 4 * (j.val / 2) + q.val < cfg0.N := fun q => by rw [N8]; omega
  have he : (⟨j.val / 2 * 1408 + (j.val % 2 * 704 + d.val), by omega⟩ : Fin 2816) = ⟨j.val * 704 + d.val, by omega⟩ :=
    Fin.ext (by dsimp only; omega)
  unfold Value.G2
  rw [dif_pos (by rw [hp]; exact hN 3), ← Value.outsAt0_sweep m c _ (by rw [hp]; exact hN 3), hl, at_eq m c _ _ _ (hN 3) hp, ← he]
  exact sum_points m c ⟨j.val / 2, by omega⟩ ⟨j.val % 2, by omega⟩ d k ⟨_, hN 0⟩ ⟨_, hN 1⟩ ⟨_, hN 2⟩ ⟨_, hN 3⟩ rfl rfl rfl rfl

/-- The kernel's result is the reference's. -/
theorem equal (c : Dev nD) : Value.G2 m c = val_main_v14 (F := Ideal) (a0 m c) (a1 m c) := by
  funext i
  obtain ⟨j, d, k, hi⟩ : ∃ (j : Fin 4) (d : Fin 704) (k : Fin 1024), i = ix3 j d k := ⟨i 0, i 1, i 2, eq_ix3 i⟩
  subst hi
  exact (result m c j d k).trans (ref _ _ j d k).symm

end Cert.Kernel4Ideal.Blocks

end
-- ==== Proof.Vocab.lean ====
/- What one grid point of the kernel computes, as vector functions: of one group of the gated
   spatial mixing (`Group`), and of one pair of memory heads (`Pair`). The six groups and the two
   pairs of a point are these same functions at six and two places of the point's blocks. -/
module

public import proofs.«01_k».proof.Proof.Gen.KernelIdeal.Frame

@[expose] public section

noncomputable section

namespace Cert.KernelIdeal.Vocab

open Idealize.ShloMosaic Idealize.SL.Sem Cert.KernelIdeal Cert.KernelIdeal.Gen

variable {F : FTy → Type} [FloatOps F]

/-- A [128, 128] tile of f32. -/
abbrev Tile (F : FTy → Type) : Type := FVec F S128x128 .f32
/-- One number per row of a tile. -/
abbrev Col (F : FTy → Type) : Type := FVec F S128x1 .f32
/-- One number per lane of a tile. -/
abbrev Row (F : FTy → Type) : Type := FVec F S1x128 .f32

/-- The tile of one number, given by its bits. -/
def tile (b : BitVec 32) : Tile F := broadcast S128x128 (Scalar.ofBits .f32 b)
/-- The column of one number, given by its bits. -/
def colOf (b : BitVec 32) : Col F := broadcast S128x1 (Scalar.ofBits .f32 b)
/-- A column, over all lanes. -/
def wide (c : Col F) : Tile F := broadcastTo S128x128 c broadcasts_S128x1_S128x128
/-- A row, over all rows. -/
def tall (r : Row F) : Tile F := broadcastTo S128x128 r broadcasts_S1x128_S128x128
/-- The sum of each row of a tile. -/
def rowSum (x : Tile F) : Col F :=
  shapeCast S128x1 (multiReduction .add [1] S128 x 0x00000000#32 reduces_S128x128_S128 (.inl rfl) rfl) shapeCasts_S128_S128x1
/-- The sum of a column over its one lane: the column. -/
def colSame (x : Col F) : Col F :=
  shapeCast S128x1 (multiReduction .add [1] S128 x 0x00000000#32 reduces_S128x1_S128 (.inl rfl) rfl) shapeCasts_S128_S128x1
/-- The sum of each lane of a tile. -/
def laneSum (x : Tile F) : Row F :=
  shapeCast S1x128 (multiReduction .add [0] S128 x 0x00000000#32 reduces_S128x128_S128_2 (.inl rfl) rfl) shapeCasts_S128_S1x128

/-! ## The activation -/

/-- `tanh` of the activation's inner polynomial. -/
def geluT (x : Tile F) : Tile F :=
  tanh (mulf (tile 0x3F4C422A#32) (addf x (mulf (tile 0x3D372713#32) (mulf (mulf x x) x))))
/-- The derivative of that `tanh`, as a product of two factors. -/
def geluD (x : Tile F) : Tile F :=
  mulf (addf (tile 0x3F800000#32) (geluT x)) (subf (tile 0x3F800000#32) (geluT x))
/-- One plus that `tanh`. -/
def geluP (x : Tile F) : Tile F := addf (tile 0x3F800000#32) (geluT x)
/-- Half the argument. -/
def geluH (x : Tile F) : Tile F := mulf (tile 0x3F000000#32) x
/-- The activation. -/
def gelu (x : Tile F) : Tile F := mulf (geluH x) (geluP x)
/-- The cotangent scaled at the `tanh`. -/
def geluW (x ct : Tile F) : Tile F := mulf (tile 0x3F4C422A#32) (mulf (mulf (geluH x) ct) (geluD x))
/-- The cotangent scaled at the cube. -/
def geluZ (x ct : Tile F) : Tile F := mulf (tile 0x3D372713#32) (geluW x ct)
/-- The activation's cotangent. -/
def geluBack (x ct : Tile F) : Tile F :=
  addf
    (addf (addf (addf (geluW x ct) (mulf (mulf x x) (geluZ x ct))) (mulf x (mulf (geluZ x ct) x)))
      (mulf (mulf (geluZ x ct) x) x))
    (mulf (tile 0x3F000000#32) (mulf ct (geluP x)))

/-! ## One group of the gated spatial mixing -/

/-- What a point reads for one group: both halves of the projection, the spatial weight, its bias
    column, the norm's gain and bias rows and the cotangent. -/
structure Group (F : FTy → Type) where
  zu : Tile F
  zv : Tile F
  w : Tile F
  b : Col F
  lg : Row F
  lb : Row F
  ct : Tile F

namespace Group

variable (g : Group F)

def mean : Col F := divf (rowSum (gelu g.zv)) (colOf 0x43000000#32)
def cen : Tile F := subf (gelu g.zv) (wide g.mean)
def var : Col F := addf (divf (rowSum (mulf g.cen g.cen)) (colOf 0x43000000#32)) (colOf 0x358637BD#32)
def rs : Col F := rsqrt g.var
def hc : Col F := mulf (colOf 0xBF000000#32) (divf g.rs g.var)
def xhat : Tile F := mulf g.cen (wide g.rs)
def vn : Tile F := addf (mulf g.xhat (tall g.lg)) (tall g.lb)
/-- The spatial weight below the diagonal, the diagonal included. -/
def wm : FVec F S128x128 .bf16 := truncf .bf16 (select k0_pay6 g.w (tile 0x00000000#32)) bitsLt_bf16_f32
def vnb : FVec F S128x128 .bf16 := truncf .bf16 g.vn bitsLt_bf16_f32
/-- The mixed gate. -/
def sv : Tile F :=
  addf (matmul dot_S128x128_S128x128_S128x128_1_0_0_1_n_n none g.wm g.vnb (constant S128x128 .f32 0x00000000#32)) (wide g.b)
def dsv : Tile F := mulf (gelu g.zu) g.ct
def du : Tile F := mulf g.ct g.sv
/-- The cotangent of the bias column. -/
def db : Col F := rowSum g.dsv
/-- The cotangent of the normed gate. -/
def dvn : Tile F :=
  extf .f32 (truncf .bf16 (transpose S128x128 [1, 0]
    (matmul dot_S128x128_S128x128_S128x128_0_0_1_1_n_n none g.dsv g.wm (constant S128x128 .f32 0x00000000#32))
    transposes_S128x128_p1_0_S128x128) bitsLt_bf16_f32) bitsLt_bf16_f32
/-- The cotangent of the spatial weight. -/
def dw : Tile F :=
  select k0_pay6 (extf .f32 (truncf .bf16
    (matmul dot_S128x128_S128x128_S128x128_1_1_0_0_n_n none g.dsv g.vnb (constant S128x128 .f32 0x00000000#32))
    bitsLt_bf16_f32) bitsLt_bf16_f32) (tile 0x00000000#32)
/-- The cotangent of the norm's bias. -/
def dlb : Row F := laneSum g.dvn
/-- The cotangent of the norm's gain. -/
def dlg : Row F := laneSum (mulf g.xhat g.dvn)
def dx : Tile F := mulf g.dvn (tall g.lg)
def dcenA : Tile F := mulf g.dx (wide g.rs)
def dvar : Col F := divf (mulf (rowSum (mulf g.cen g.dx)) g.hc) (colOf 0x43000000#32)
def dcenB : Tile F := mulf (wide (colSame g.dvar)) (mulf (tile 0x40000000#32) g.cen)
def dmean : Col F :=
  divf (addf (rowSum (subf (tile 0x00000000#32) g.dcenA)) (rowSum (subf (tile 0x00000000#32) g.dcenB))) (colOf 0x43000000#32)
/-- The cotangent of the gate before its norm. -/
def dv : Tile F := addf (addf g.dcenA g.dcenB) (wide (colSame g.dmean))
/-- The cotangents of the projection's two halves. -/
def dzv : Tile F := geluBack g.zv g.dv
def dzu : Tile F := geluBack g.zu g.du

end Group

/-! ## One pair of memory heads -/

/-- A [256, 128] slab, a [256, 256] square, a [1, 256] row of f32. -/
abbrev Slab (F : FTy → Type) : Type := FVec F S256x128 .f32
abbrev Square (F : FTy → Type) : Type := FVec F S256x256 .f32
abbrev Line (F : FTy → Type) : Type := FVec F S1x256 .f32

def squareOf (b : BitVec 32) : Square F := broadcast S256x256 (Scalar.ofBits .f32 b)
def lineOf (b : BitVec 32) : Line F := broadcast S1x256 (Scalar.ofBits .f32 b)
/-- The lanes of a pair's first head. -/
def low : IVec S128x128 1 :=
  broadcastTo S128x128 (shapeCast S1x128 (cmpi .slt (iota .tc S1x128 32 [1] iota_S1x128_d1_w32) (broadcast S1x128 64#32))
    shapeCasts_S1x128_S1x128) broadcasts_S1x128_S128x128
def stack (x y : Tile F) : Slab F :=
  concatenate S256x128 0 [⟨S128x128, x⟩, ⟨S128x128, y⟩] concatenates_S128x128_S128x128_S256x128_d0
def over (r : Line F) : Square F := broadcastTo S256x256 r broadcasts_S1x256_S256x256
def keySum (x : Square F) : Line F :=
  shapeCast S1x256 (multiReduction .add [0] S256 x 0x00000000#32 reduces_S256x256_S256 (.inl rfl) rfl) shapeCasts_S256_S1x256
def keyMax (x : Square F) : Line F :=
  shapeCast S1x256 (multiReduction .maximumf [0] S256 x 0xFF800000#32 reduces_S256x256_S256 (.inl rfl) rfl) shapeCasts_S256_S1x256
def lineSame (x : Line F) : Line F :=
  shapeCast S1x256 (multiReduction .add [0] S256 x 0x00000000#32 reduces_S1x256_S256 (.inl rfl) rfl) shapeCasts_S256_S1x256

/-- What a point reads for a pair of heads: 128 rows of queries and of the cotangent, all keys and
    all values. -/
structure Pair (F : FTy → Type) where
  q : Tile F
  k : Slab F
  v : Slab F
  ct : Tile F

namespace Pair

variable (p : Pair F)

def kb : FVec F S256x128 .bf16 := truncf .bf16 p.k bitsLt_bf16_f32
def vb : FVec F S256x128 .bf16 := truncf .bf16 p.v bitsLt_bf16_f32
/-- The queries of the first head over those of the second, each on its own lanes. -/
def qs : FVec F S256x128 .bf16 :=
  truncf .bf16 (stack (select low p.q (tile 0x00000000#32)) (select low (tile 0x00000000#32) p.q)) bitsLt_bf16_f32
/-- The scores, a key a row and a query a lane. -/
def sc : Square F :=
  mulf (matmul dot_S256x128_S256x128_S256x256_1_1_0_0_n_n none p.kb p.qs (constant S256x256 .f32 0x00000000#32)) (squareOf 0x3E000000#32)
def ex : Square F := exp (subf p.sc (over (keyMax p.sc)))
def den : Line F := keySum p.ex
def rec1 : Line F := divf (lineOf 0x3F800000#32) p.den
def rec2 : Line F := divf (lineOf 0x3F800000#32) (mulf p.den p.den)
def prob : FVec F S256x256 .bf16 := truncf .bf16 (mulf p.ex (over p.rec1)) bitsLt_bf16_f32
/-- The cotangent's rows, stacked as the queries are. -/
def dos : Slab F :=
  addf (stack (tile 0x00000000#32) (select low (tile 0x00000000#32) p.ct)) (stack (select low p.ct (tile 0x00000000#32)) (tile 0x00000000#32))
/-- The cotangent of the values. -/
def dv : Slab F :=
  extf .f32 (truncf .bf16 (transpose S256x128 [1, 0]
    (matmul dot_S256x128_S256x256_S128x256_0_1_1_0_n_n none p.dos p.prob (constant S128x256 .f32 0x00000000#32))
    transposes_S128x256_p1_0_S256x128) bitsLt_bf16_f32) bitsLt_bf16_f32
/-- The cotangent of the probabilities. -/
def dp : Square F :=
  extf .f32 (truncf .bf16 (transpose S256x256 [1, 0]
    (matmul dot_S256x128_S256x128_S256x256_1_1_0_0_n_n none p.dos p.vb (constant S256x256 .f32 0x00000000#32))
    transposes_S256x256_p1_0_S256x256) bitsLt_bf16_f32) bitsLt_bf16_f32
def back : Line F := mulf (mulf (keySum (mulf p.ex p.dp)) p.rec2) (lineOf 0x3F800000#32)
/-- The cotangent of the scores. -/
def ds : Square F :=
  mulf (mulf (addf (mulf p.dp (over p.rec1)) (over (lineSame (subf (lineOf 0x00000000#32) p.back)))) p.ex) (squareOf 0x3E000000#32)
def dqs : Slab F :=
  extf .f32 (truncf .bf16
    (matmul dot_S256x256_S256x128_S256x128_0_0_1_1_n_n none p.ds p.kb (constant S256x128 .f32 0x00000000#32))
    bitsLt_bf16_f32) bitsLt_bf16_f32
/-- The cotangent of the queries. -/
def dq : Tile F :=
  addf (select low (tile 0x00000000#32) (extractStridedSlice S128x128 ![128, 0] p.dqs slices_S256x128_o128_0_S128x128))
    (select low (extractStridedSlice S128x128 ![0, 0] p.dqs slices_S256x128_o0_0_S128x128) (tile 0x00000000#32))
/-- The cotangent of the keys. -/
def dk : Slab F :=
  extf .f32 (truncf .bf16
    (matmul dot_S256x256_S256x128_S256x128_1_0_0_1_n_n none p.ds p.qs (constant S256x128 .f32 0x00000000#32))
    bitsLt_bf16_f32) bitsLt_bf16_f32

end Pair

/-! ## A point -/

section
variable (x0 : Vec F S128x1536 .bf16) (x1 : Vec F S128x256 .bf16) (x2 : Vec F S6x128x128 .f32) (x3 : Vec F S128x128 .f32)
  (x4 x5 : Vec F S8x128 .f32) (x6 x7 : Vec F S256x256 .bf16) (x8 : Vec F S128x1024 .f32)

/-- The group at each of the six places of a point's blocks. -/
def group : Fin 6 → Group F
  | 0 => ⟨k0_pay14 x0, k0_pay20 x0, k0_pay26 x2, k0_pay32 (k0_pay9 x3), k0_pay38 (k0_pay10 x4), k0_pay44 (k0_pay11 x5), k0_pay56 x8⟩
  | 1 => ⟨k0_pay15 x0, k0_pay21 x0, k0_pay27 x2, k0_pay33 (k0_pay9 x3), k0_pay39 (k0_pay10 x4), k0_pay45 (k0_pay11 x5), k0_pay57 x8⟩
  | 2 => ⟨k0_pay16 x0, k0_pay22 x0, k0_pay28 x2, k0_pay34 (k0_pay9 x3), k0_pay40 (k0_pay10 x4), k0_pay46 (k0_pay11 x5), k0_pay58 x8⟩
  | 3 => ⟨k0_pay17 x0, k0_pay23 x0, k0_pay29 x2, k0_pay35 (k0_pay9 x3), k0_pay41 (k0_pay10 x4), k0_pay47 (k0_pay11 x5), k0_pay59 x8⟩
  | 4 => ⟨k0_pay18 x0, k0_pay24 x0, k0_pay30 x2, k0_pay36 (k0_pay9 x3), k0_pay42 (k0_pay10 x4), k0_pay48 (k0_pay11 x5), k0_pay60 x8⟩
  | 5 => ⟨k0_pay19 x0, k0_pay25 x0, k0_pay31 x2, k0_pay37 (k0_pay9 x3), k0_pay43 (k0_pay10 x4), k0_pay49 (k0_pay11 x5), k0_pay61 x8⟩

/-- The pair at each of the two places of a point's blocks. -/
def pair : Fin 2 → Pair F
  | 0 => ⟨k0_pay50 (k0_pay8 x1), k0_pay52 (k0_pay12 x6), k0_pay54 (k0_pay13 x7), k0_pay62 x8⟩
  | 1 => ⟨k0_pay51 (k0_pay8 x1), k0_pay53 (k0_pay12 x6), k0_pay55 (k0_pay13 x7), k0_pay63 x8⟩
end

/-- A point's rows of the projection's cotangent. -/
def dproj (g : Fin 6 → Group F) (p : Fin 2 → Pair F) : FVec F S128x1792 .bf16 :=
  truncf .bf16 (concatenate S128x1792 1
    [⟨S128x128, (g 0).dzu⟩, ⟨S128x128, (g 1).dzu⟩, ⟨S128x128, (g 2).dzu⟩, ⟨S128x128, (g 3).dzu⟩, ⟨S128x128, (g 4).dzu⟩, ⟨S128x128, (g 5).dzu⟩,
     ⟨S128x128, (g 0).dzv⟩, ⟨S128x128, (g 1).dzv⟩, ⟨S128x128, (g 2).dzv⟩, ⟨S128x128, (g 3).dzv⟩, ⟨S128x128, (g 4).dzv⟩, ⟨S128x128, (g 5).dzv⟩,
     ⟨S128x128, (p 0).dq⟩, ⟨S128x128, (p 1).dq⟩]
    concatenates_S128x128_S128x128_S128x128_S128x128_S128x128_S128x128_S128x128_S128x128_S128x128_S128x128_S128x128_S128x128_S128x128_S128x128_S128x1792_d1)
    bitsLt_bf16_f32

/-- One group's part of the spatial weights' cotangent after one more point. -/
def dwStep (old : Vec F S1x128x128 .f32) (d : Tile F) : FVec F S1x128x128 .f32 :=
  shapeCast S1x128x128 (addf (shapeCast S128x128 old shapeCasts_S1x128x128_S128x128) d) shapeCasts_S128x128_S1x128x128

/-- A column put at one lane of a tile of zeros. -/
def atLane (n : BitVec 32) (c : Col F) : Tile F :=
  select (cmpi .eq (iota .tc S128x128 32 [1] iota_S128x128_d1_w32) (broadcast S128x128 n))
    (wide (shapeCast S128x1 c shapeCasts_S128x1_S128x1)) (tile 0x00000000#32)
/-- The bias columns' cotangent after one more point. -/
def dbStep (old : Vec F S128x128 .f32) (g : Fin 6 → Col F) : Tile F :=
  addf (shapeCast S128x128 old shapeCasts_S128x128_S128x128)
    (addf (addf (addf (addf (addf (addf (tile 0x00000000#32) (atLane 0#32 (g 0))) (atLane 1#32 (g 1))) (atLane 2#32 (g 2)))
      (atLane 3#32 (g 3))) (atLane 4#32 (g 4))) (atLane 5#32 (g 5)))

/-- A row put at one row of an [8, 128] block of zeros. -/
def atRow (n : BitVec 32) (r : Row F) : FVec F S8x128 .f32 :=
  select (cmpi .eq (iota .tc S8x128 32 [0] iota_S8x128_d0_w32) (broadcast S8x128 n))
    (broadcastTo S8x128 (shapeCast S1x128 r shapeCasts_S1x128_S1x128) broadcasts_S1x128_S8x128)
    (broadcast S8x128 (Scalar.ofBits .f32 0x00000000#32))
/-- The norm's gain (or bias) rows' cotangent after one more point. -/
def dlStep (old : Vec F S8x128 .f32) (g : Fin 6 → Row F) : FVec F S8x128 .f32 :=
  addf (shapeCast S8x128 old shapeCasts_S8x128_S8x128)
    (addf (addf (addf (addf (addf (addf (broadcast S8x128 (Scalar.ofBits .f32 0x00000000#32)) (atRow 0#32 (g 0))) (atRow 1#32 (g 1)))
      (atRow 2#32 (g 2))) (atRow 3#32 (g 3))) (atRow 4#32 (g 4))) (atRow 5#32 (g 5)))

/-- The keys' and values' cotangent after one more point. -/
def dkvStep (old : Vec F S256x512 .f32) (p : Fin 2 → Pair F) : FVec F S256x512 .f32 :=
  addf (shapeCast S256x512 old shapeCasts_S256x512_S256x512)
    (concatenate S256x512 1 [⟨S256x128, (p 0).dk⟩, ⟨S256x128, (p 1).dk⟩, ⟨S256x128, (p 0).dv⟩, ⟨S256x128, (p 1).dv⟩]
      concatenates_S256x128_S256x128_S256x128_S256x128_S256x512_d1)

end Cert.KernelIdeal.Vocab
-- ==== Proof.Outs.lean ====
/- What a grid point leaves in each of its output blocks, as the functions of a group and of a pair
   (`Vocab`): at the first point, where the accumulators start from zero, and at a later one. -/
module

public import proofs.«01_k».proof.Proof.Vocab
public import Idealize.ShloMosaic.Lib.Pointwise
public import Idealize.ShloMosaic.Lib.Pipeline.ReadBack
public import proofs.«01_k».proof.Proof.Gen.KernelIdeal.Value

@[expose] public section

noncomputable section

namespace Cert.KernelIdeal.Vocab

open Idealize.ShloMosaic Idealize.ShloMosaic.TcCoe Idealize.SL.Sem Cert.KernelIdeal Cert.KernelIdeal.Gen

variable {F : FTy → Type} [FloatOps F]

theorem hz : (![0, 0] : Fin 2 → Nat) = fun _ => 0 := funext fun a => by fin_cases a <;> rfl
theorem hz3 : (![0, 0, 0] : Fin 3 → Nat) = fun _ => 0 := funext fun a => by fin_cases a <;> rfl

/-! ## The spatial weights' window, written a group at a time -/

/-- The spatial weights' cotangent after one more point. -/
def dwAll (old : Vec F S6x128x128 .f32) (d : Fin 6 → Tile F) : Vec F S6x128x128 .f32 := fun y =>
  FloatOps.addf (old y) (d (y 0) (ix2 (y 1) (y 2)))

/-- Adding a group's tile onto its [1, 128, 128] part is `dwAll` at that part. -/
theorem dwStep_apply (old : Vec F S6x128x128 .f32) (d : Fin 6 → Tile F) (n : Fin 6) (t : Tile F) (ht : t = d n)
    (inb : ∀ a, (![n.val, 0, 0] : Fin 3 → Nat) a + (![1, 128, 128] : Fin 3 → Nat) a ≤ S6x128x128.size a)
    (x : (Rect.unit (s := S6x128x128) ![n.val, 0, 0] ![1, 128, 128] inb).shape.Idx) :
    dwStep (View.ld old (Rect.unit (s := S6x128x128) ![n.val, 0, 0] ![1, 128, 128] inb)) t x
      = dwAll old d ((Rect.unit (s := S6x128x128) ![n.val, 0, 0] ![1, 128, 128] inb).emb x) := by
  subst ht
  have e : ∀ x, (Rect.unit (s := S6x128x128) ![n.val, 0, 0] ![1, 128, 128] inb).emb x
      = ix3 (⟨n.val, n.isLt⟩ : Fin 6) (⟨(x 1).val, (x 1).isLt⟩ : Fin 128) (⟨(x 2).val, (x 2).isLt⟩ : Fin 128) := fun x => by
    have h0 : (x 0).val = 0 := Nat.lt_one_iff.mp (x 0).isLt
    funext a
    apply Fin.ext
    fin_cases a <;> simp [Rect.emb, LoadRect.idx, Rect.unit, ix3, h0]
  rw [e]
  revert inb x
  fin_cases n <;> intro inb x _ <;> change Shape.Idx S1x128x128 at x <;> idx_vars x <;> unfold dwStep dwAll <;> pointwise <;> rfl

/-- The six parts fill the window. -/
theorem cover_groups (h5 h4 h3 h2 h1 h0) (w5 w4 w3 w2 w1 w0) (y : S6x128x128.Idx) :
    ∃ p ∈ ([⟨Rect.unit ![5, 0, 0] ![1, 128, 128] h5, w5⟩, ⟨Rect.unit ![4, 0, 0] ![1, 128, 128] h4, w4⟩,
      ⟨Rect.unit ![3, 0, 0] ![1, 128, 128] h3, w3⟩, ⟨Rect.unit ![2, 0, 0] ![1, 128, 128] h2, w2⟩,
      ⟨Rect.unit ![1, 0, 0] ![1, 128, 128] h1, w1⟩, ⟨Rect.unit ![0, 0, 0] ![1, 128, 128] h0, w0⟩] :
      List (View.Piece (Elt F) S6x128x128 .f32)), y ∈ p.1.set := by
  idx_vars y
  have b1 := y1.isLt
  have b2 := y2.isLt
  have b0 := y0.isLt
  have m : ∀ n, y0.val = n → ∀ a, (![n, 0, 0] : Fin 3 → Nat) a ≤ (ix3 y0 y1 y2 : S6x128x128.Idx) a
      ∧ ((ix3 y0 y1 y2 : S6x128x128.Idx) a : Nat) < (![n, 0, 0] : Fin 3 → Nat) a + (![1, 128, 128] : Fin 3 → Nat) a := fun n hn a => by
    subst hn
    fin_cases a <;> simp [ix3]
  rcases (by omega : y0.val = 5 ∨ y0.val = 4 ∨ y0.val = 3 ∨ y0.val = 2 ∨ y0.val = 1 ∨ y0.val = 0) with h | h | h | h | h | h
  · exact ⟨_, .head _, (Rect.mem_set_unit (inb := h5)).mpr (m 5 h)⟩
  · exact ⟨_, .tail _ (.head _), (Rect.mem_set_unit (inb := h4)).mpr (m 4 h)⟩
  · exact ⟨_, .tail _ (.tail _ (.head _)), (Rect.mem_set_unit (inb := h3)).mpr (m 3 h)⟩
  · exact ⟨_, .tail _ (.tail _ (.tail _ (.head _))), (Rect.mem_set_unit (inb := h2)).mpr (m 2 h)⟩
  · exact ⟨_, .tail _ (.tail _ (.tail _ (.tail _ (.head _)))), (Rect.mem_set_unit (inb := h1)).mpr (m 1 h)⟩
  · exact ⟨_, .tail _ (.tail _ (.tail _ (.tail _ (.tail _ (.head _))))), (Rect.mem_set_unit (inb := h0)).mpr (m 0 h)⟩

/-- A group's part of the window. -/
abbrev part (n : Fin 6) : Rect S6x128x128 :=
  Rect.unit (s := S6x128x128) ![n.val, 0, 0] ![1, 128, 128]
    (fun a => by fin_cases a <;> first | (have := n.isLt; simp; omega) | simp)

/-- The stores so far, and one more group's part: what it held before, read back, and the group's tile. -/
def next (v : View sig .tc .vmem S6x128x128 .f32) (d : Fin 6 → Tile F) (n : Fin 6)
    (L : List (View.Piece (Elt F) S6x128x128 .f32)) : List (View.Piece (Elt F) S6x128x128 .f32) :=
  ⟨part n, dwStep (v.readCov L (part n).toLoadRect) (d n)⟩ :: L

/-- An index is in the part of its own group alone. -/
theorem mem_part (n : Fin 6) (y : S6x128x128.Idx) : y ∈ (part n).set ↔ y 0 = n := by
  idx_vars y
  have b1 := y1.isLt
  have b2 := y2.isLt
  rw [Rect.mem_set_unit]
  constructor
  · intro h
    have h := h (0 : Fin 3)
    apply Fin.ext
    simp [ix3] at h ⊢
    omega
  · intro h a
    have h : y0 = n := h
    subst h
    fin_cases a <;> simp [ix3]

/-- A group's store leaves the other groups' parts. -/
theorem readCov_next (v : View sig .tc .vmem S6x128x128 .f32) (d : Fin 6 → Tile F) (n k : Fin 6) (h : n ≠ k)
    (L : List (View.Piece (Elt F) S6x128x128 .f32)) :
    v.readCov (next v d n L) (part k).toLoadRect = v.readCov L (part k).toLoadRect :=
  View.readCov_cons_of_disjoint v _ L _ (Finset.disjoint_left.mpr fun y hy hk => by
    rw [mem_part] at hy
    exact h (hy.symm.trans ((mem_part k y).mp hk)))

/-- A group's store over a part still holding `Z` there. -/
theorem canon_next_apply (v : View sig .tc .vmem S6x128x128 .f32) (Z : Vec F S6x128x128 .f32) (d : Fin 6 → Tile F) (n : Fin 6)
    (L : List (View.Piece (Elt F) S6x128x128 .f32)) (hL : v.readCov L (part n).toLoadRect = View.ld Z (part n)) (y : S6x128x128.Idx) :
    View.canon (next v d n L) y = if (y 0).val = n.val then dwAll Z d y else View.canon L y := by
  unfold next
  split
  next h =>
    have hy := (mem_part n y).mpr (Fin.ext h)
    obtain ⟨x, rfl⟩ := (part n).exists_idx_of_mem hy
    rw [show (part n).idx x = (part n).emb x from rfl, View.canon_cons_emb, hL]
    exact dwStep_apply Z d n _ rfl _ x
  next h =>
    exact View.canon_cons_of_not_mem _ L fun hy => h (congrArg Fin.val ((mem_part n y).mp hy))

/-- Six groups' stores over a filled window leave the filling and the groups' tiles. -/
theorem canon_next (v : View sig .tc .vmem S6x128x128 .f32) (Z : Vec F S6x128x128 .f32) (d : Fin 6 → Tile F)
    (inb : ∀ a, (![0, 0, 0] : Fin 3 → Nat) a + (![6, 128, 128] : Fin 3 → Nat) a ≤ S6x128x128.size a) :
    View.canon (next v d 5 (next v d 4 (next v d 3 (next v d 2 (next v d 1 (next v d 0
      [⟨Rect.unit (s := S6x128x128) ![0, 0, 0] ![6, 128, 128] inb, Z⟩])))))) = dwAll Z d := by
  have fill : ∀ k, v.readCov [⟨Rect.unit (s := S6x128x128) ![0, 0, 0] ![6, 128, 128] inb, Z⟩] (part k).toLoadRect = View.ld Z (part k) :=
    fun k => View.readCov_fill v inb Z [] (part k) (fun a => by fin_cases a <;> rfl)
  funext y
  rw [canon_next_apply v Z, canon_next_apply v Z, canon_next_apply v Z, canon_next_apply v Z, canon_next_apply v Z, canon_next_apply v Z]
  · have h : (y 0).val < 6 := (y 0).isLt
    split_ifs <;> first | rfl | (exfalso; simp at *; omega)
  · exact fill 0
  · rw [readCov_next v d 0 1 (by decide)]; exact fill 1
  · rw [readCov_next v d 1 2 (by decide), readCov_next v d 0 2 (by decide)]; exact fill 2
  · rw [readCov_next v d 2 3 (by decide), readCov_next v d 1 3 (by decide), readCov_next v d 0 3 (by decide)]; exact fill 3
  · rw [readCov_next v d 3 4 (by decide), readCov_next v d 2 4 (by decide), readCov_next v d 1 4 (by decide), readCov_next v d 0 4 (by decide)]; exact fill 4
  · rw [readCov_next v d 4 5 (by decide), readCov_next v d 3 5 (by decide), readCov_next v d 2 5 (by decide), readCov_next v d 1 5 (by decide), readCov_next v d 0 5 (by decide)]; exact fill 5
variable (c : Dev nD) (i : grid0.Coords)
  (arg1 : Memref sig .tc .vmem S128x1536 .bf16) (harg1 : arg1.IsWhole)
  (arg2 : Memref sig .tc .vmem S128x256 .bf16) (harg2 : arg2.IsWhole)
  (arg3 : Memref sig .tc .vmem S6x128x128 .f32) (harg3 : arg3.IsWhole)
  (arg4 : Memref sig .tc .vmem S128x128 .f32) (harg4 : arg4.IsWhole)
  (arg5 : Memref sig .tc .vmem S8x128 .f32) (harg5 : arg5.IsWhole)
  (arg6 : Memref sig .tc .vmem S8x128 .f32) (harg6 : arg6.IsWhole)
  (arg7 : Memref sig .tc .vmem S256x256 .bf16) (harg7 : arg7.IsWhole)
  (arg8 : Memref sig .tc .vmem S256x256 .bf16) (harg8 : arg8.IsWhole)
  (arg9 : Memref sig .tc .vmem S128x1024 .f32) (harg9 : arg9.IsWhole)
  (arg10 : Memref sig .tc .vmem S128x1792 .bf16) (harg10 : arg10.IsWhole)
  (arg11 : Memref sig .tc .vmem S6x128x128 .f32) (harg11 : arg11.IsWhole)
  (arg12 : Memref sig .tc .vmem S128x128 .f32) (harg12 : arg12.IsWhole)
  (arg13 : Memref sig .tc .vmem S8x128 .f32) (harg13 : arg13.IsWhole)
  (arg14 : Memref sig .tc .vmem S8x128 .f32) (harg14 : arg14.IsWhole)
  (arg15 : Memref sig .tc .vmem S256x512 .f32) (harg15 : arg15.IsWhole)
  (x0 : Vec F S128x1536 .bf16) (x1 : Vec F S128x256 .bf16) (x2 : Vec F S6x128x128 .f32) (x3 : Vec F S128x128 .f32)
  (x4 x5 : Vec F S8x128 .f32) (x6 x7 : Vec F S256x256 .bf16) (x8 : Vec F S128x1024 .f32)
  (xo10 : Vec F S6x128x128 .f32) (xo11 : Vec F S128x128 .f32) (xo12 xo13 : Vec F S8x128 .f32) (xo14 : Vec F S256x512 .f32)

/-- At a later point window 9's block holds the rows of the projection's cotangent. -/
theorem out_B_9 (hc0 : ¬cond0_0 i) :
    out0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xo12 xo13 xo14
      = dproj (group x0 x2 x3 x4 x5 x8) (pair x1 x6 x7 x8) := by
  unfold out0_B_9
  rw [View.read_writes_eq_canon _ _ _ (cover0_B_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xo12 xo13 xo14)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S128x1536) hz, View.ld_unit_zero (S := S128x256) hz, View.ld_unit_zero (S := S128x128) hz, View.ld_unit_zero (S := S8x128) hz, View.ld_unit_zero (S := S256x256) hz, View.ld_unit_zero (S := S128x1024) hz, View.ld_unit_zero (S := S128x1792) hz, View.ld_unit_zero (S := S256x512) hz, View.ld_unit_zero (S := S6x128x128) hz3]
  rfl

/-- At a later point window 11's block holds the bias columns' cotangent. -/
theorem out_B_11 (hc0 : ¬cond0_0 i) :
    out0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xo12 xo13 xo14
      = dbStep xo11 fun n => ((group x0 x2 x3 x4 x5 x8) n).db := by
  unfold out0_B_11
  rw [View.read_writes_eq_canon _ _ _ (cover0_B_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xo12 xo13 xo14)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S128x1536) hz, View.ld_unit_zero (S := S128x256) hz, View.ld_unit_zero (S := S128x128) hz, View.ld_unit_zero (S := S8x128) hz, View.ld_unit_zero (S := S256x256) hz, View.ld_unit_zero (S := S128x1024) hz, View.ld_unit_zero (S := S128x1792) hz, View.ld_unit_zero (S := S256x512) hz, View.ld_unit_zero (S := S6x128x128) hz3]
  rfl

/-- At a later point window 12's block holds the gains' cotangent. -/
theorem out_B_12 (hc0 : ¬cond0_0 i) :
    out0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xo12 xo13 xo14
      = dlStep xo12 fun n => ((group x0 x2 x3 x4 x5 x8) n).dlg := by
  unfold out0_B_12
  rw [View.read_writes_eq_canon _ _ _ (cover0_B_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xo12 xo13 xo14)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S128x1536) hz, View.ld_unit_zero (S := S128x256) hz, View.ld_unit_zero (S := S128x128) hz, View.ld_unit_zero (S := S8x128) hz, View.ld_unit_zero (S := S256x256) hz, View.ld_unit_zero (S := S128x1024) hz, View.ld_unit_zero (S := S128x1792) hz, View.ld_unit_zero (S := S256x512) hz, View.ld_unit_zero (S := S6x128x128) hz3]
  rfl

/-- At a later point window 13's block holds the norm's biases' cotangent. -/
theorem out_B_13 (hc0 : ¬cond0_0 i) :
    out0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xo12 xo13 xo14
      = dlStep xo13 fun n => ((group x0 x2 x3 x4 x5 x8) n).dlb := by
  unfold out0_B_13
  rw [View.read_writes_eq_canon _ _ _ (cover0_B_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xo12 xo13 xo14)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S128x1536) hz, View.ld_unit_zero (S := S128x256) hz, View.ld_unit_zero (S := S128x128) hz, View.ld_unit_zero (S := S8x128) hz, View.ld_unit_zero (S := S256x256) hz, View.ld_unit_zero (S := S128x1024) hz, View.ld_unit_zero (S := S128x1792) hz, View.ld_unit_zero (S := S256x512) hz, View.ld_unit_zero (S := S6x128x128) hz3]
  rfl

/-- At a later point window 14's block holds the keys' and values' cotangent. -/
theorem out_B_14 (hc0 : ¬cond0_0 i) :
    out0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xo12 xo13 xo14
      = dkvStep xo14 (pair x1 x6 x7 x8) := by
  unfold out0_B_14
  rw [View.read_writes_eq_canon _ _ _ (cover0_B_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xo12 xo13 xo14)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S128x1536) hz, View.ld_unit_zero (S := S128x256) hz, View.ld_unit_zero (S := S128x128) hz, View.ld_unit_zero (S := S8x128) hz, View.ld_unit_zero (S := S256x256) hz, View.ld_unit_zero (S := S128x1024) hz, View.ld_unit_zero (S := S128x1792) hz, View.ld_unit_zero (S := S256x512) hz, View.ld_unit_zero (S := S6x128x128) hz3]
  rfl

/-- At the first point window 9's block holds the rows of the projection's cotangent. -/
theorem out_A_9 (hc0 : cond0_0 i) :
    out0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8
      = dproj (group x0 x2 x3 x4 x5 x8) (pair x1 x6 x7 x8) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8)]
  unfold kernelRun0_A
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S128x1536) hz, View.ld_unit_zero (S := S128x256) hz, View.ld_unit_zero (S := S128x128) hz, View.ld_unit_zero (S := S8x128) hz, View.ld_unit_zero (S := S256x256) hz, View.ld_unit_zero (S := S128x1024) hz, View.ld_unit_zero (S := S128x1792) hz, View.ld_unit_zero (S := S256x512) hz, View.ld_unit_zero (S := S6x128x128) hz3]
  rfl

/-- At the first point window 11's block holds the bias columns' cotangent. -/
theorem out_A_11 (hc0 : cond0_0 i) :
    out0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8
      = dbStep k0_pay2 fun n => ((group x0 x2 x3 x4 x5 x8) n).db := by
  unfold out0_A_11
  rw [View.read_writes_eq_canon _ _ _ (cover0_A_11 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8)]
  unfold kernelRun0_A
  dsimp only
  sl_unfold_words
  rw [View.canon_cons_unit_zero (S := S128x128) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S128x1536) hz, View.ld_unit_zero (S := S128x256) hz, View.ld_unit_zero (S := S128x128) hz, View.ld_unit_zero (S := S8x128) hz, View.ld_unit_zero (S := S256x256) hz, View.ld_unit_zero (S := S128x1024) hz, View.ld_unit_zero (S := S128x1792) hz, View.ld_unit_zero (S := S256x512) hz, View.ld_unit_zero (S := S6x128x128) hz3, View.readCov_unit_zero (S := S128x128) _ hz]
  rfl

/-- At the first point window 12's block holds the gains' cotangent. -/
theorem out_A_12 (hc0 : cond0_0 i) :
    out0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8
      = dlStep k0_pay3 fun n => ((group x0 x2 x3 x4 x5 x8) n).dlg := by
  unfold out0_A_12
  rw [View.read_writes_eq_canon _ _ _ (cover0_A_12 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8)]
  unfold kernelRun0_A
  dsimp only
  sl_unfold_words
  rw [View.canon_cons_unit_zero (S := S8x128) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S128x1536) hz, View.ld_unit_zero (S := S128x256) hz, View.ld_unit_zero (S := S128x128) hz, View.ld_unit_zero (S := S8x128) hz, View.ld_unit_zero (S := S256x256) hz, View.ld_unit_zero (S := S128x1024) hz, View.ld_unit_zero (S := S128x1792) hz, View.ld_unit_zero (S := S256x512) hz, View.ld_unit_zero (S := S6x128x128) hz3, View.readCov_unit_zero (S := S8x128) _ hz]
  rfl

/-- At the first point window 13's block holds the norm's biases' cotangent. -/
theorem out_A_13 (hc0 : cond0_0 i) :
    out0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8
      = dlStep k0_pay4 fun n => ((group x0 x2 x3 x4 x5 x8) n).dlb := by
  unfold out0_A_13
  rw [View.read_writes_eq_canon _ _ _ (cover0_A_13 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8)]
  unfold kernelRun0_A
  dsimp only
  sl_unfold_words
  rw [View.canon_cons_unit_zero (S := S8x128) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S128x1536) hz, View.ld_unit_zero (S := S128x256) hz, View.ld_unit_zero (S := S128x128) hz, View.ld_unit_zero (S := S8x128) hz, View.ld_unit_zero (S := S256x256) hz, View.ld_unit_zero (S := S128x1024) hz, View.ld_unit_zero (S := S128x1792) hz, View.ld_unit_zero (S := S256x512) hz, View.ld_unit_zero (S := S6x128x128) hz3, View.readCov_unit_zero (S := S8x128) _ hz]
  rfl

/-- At the first point window 14's block holds the keys' and values' cotangent. -/
theorem out_A_14 (hc0 : cond0_0 i) :
    out0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8
      = dkvStep k0_pay5 (pair x1 x6 x7 x8) := by
  unfold out0_A_14
  rw [View.read_writes_eq_canon _ _ _ (cover0_A_14 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8)]
  unfold kernelRun0_A
  dsimp only
  sl_unfold_words
  rw [View.canon_cons_unit_zero (S := S256x512) hz]
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S128x1536) hz, View.ld_unit_zero (S := S128x256) hz, View.ld_unit_zero (S := S128x128) hz, View.ld_unit_zero (S := S8x128) hz, View.ld_unit_zero (S := S256x256) hz, View.ld_unit_zero (S := S128x1024) hz, View.ld_unit_zero (S := S128x1792) hz, View.ld_unit_zero (S := S256x512) hz, View.ld_unit_zero (S := S6x128x128) hz3, View.readCov_unit_zero (S := S256x512) _ hz]
  rfl

/-- At a later point window 10's block holds the spatial weights' cotangent. -/
theorem out_B_10 (hc0 : ¬cond0_0 i) :
    out0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xo12 xo13 xo14
      = dwAll xo10 fun n => ((group x0 x2 x3 x4 x5 x8) n).dw := by
  unfold out0_B_10
  rw [View.read_writes_eq_canon _ _ _ (cover0_B_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8 xo10 xo11 xo12 xo13 xo14)]
  unfold kernelRun0_B
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S128x1536) hz, View.ld_unit_zero (S := S128x256) hz, View.ld_unit_zero (S := S128x128) hz, View.ld_unit_zero (S := S8x128) hz, View.ld_unit_zero (S := S256x256) hz, View.ld_unit_zero (S := S128x1024) hz, View.ld_unit_zero (S := S128x1792) hz, View.ld_unit_zero (S := S256x512) hz, View.ld_unit_zero (S := S6x128x128) hz3]
  funext y
  exact View.canon_append_of_piecesOf (dwAll xo10 fun n => ((group x0 x2 x3 x4 x5 x8) n).dw) [] [_, _, _, _, _, _]
    ⟨dwStep_apply xo10 (fun n => ((group x0 x2 x3 x4 x5 x8) n).dw) 5 _ (by rfl) inb_S6x128x128_S1x128x128_5_0_0, dwStep_apply xo10 (fun n => ((group x0 x2 x3 x4 x5 x8) n).dw) 4 _ (by rfl) inb_S6x128x128_S1x128x128_4_0_0, dwStep_apply xo10 (fun n => ((group x0 x2 x3 x4 x5 x8) n).dw) 3 _ (by rfl) inb_S6x128x128_S1x128x128_3_0_0, dwStep_apply xo10 (fun n => ((group x0 x2 x3 x4 x5 x8) n).dw) 2 _ (by rfl) inb_S6x128x128_S1x128x128_2_0_0, dwStep_apply xo10 (fun n => ((group x0 x2 x3 x4 x5 x8) n).dw) 1 _ (by rfl) inb_S6x128x128_S1x128x128_1_0_0, dwStep_apply xo10 (fun n => ((group x0 x2 x3 x4 x5 x8) n).dw) 0 _ (by rfl) inb_S6x128x128_S1x128x128_0_0_0, trivial⟩ y (cover_groups _ _ _ _ _ _ _ _ _ _ _ _ y)

/-- At the first point window 10's block holds the spatial weights' cotangent. -/
theorem out_A_10 (hc0 : cond0_0 i) :
    out0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8
      = dwAll k0_pay1 fun n => ((group x0 x2 x3 x4 x5 x8) n).dw := by
  unfold out0_A_10
  rw [View.read_writes_eq_canon _ _ _ (cover0_A_10 c i arg1 harg1 arg2 harg2 arg3 harg3 arg4 harg4 arg5 harg5 arg6 harg6 arg7 harg7 arg8 harg8 arg9 harg9 arg10 harg10 arg11 harg11 arg12 harg12 arg13 harg13 arg14 harg14 arg15 harg15 hc0 x0 x1 x2 x3 x4 x5 x6 x7 x8)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread, harg10.read_unread, harg11.read_unread, harg12.read_unread, harg13.read_unread, harg14.read_unread, harg15.read_unread, View.ld_unit_zero (S := S128x1536) hz, View.ld_unit_zero (S := S128x256) hz, View.ld_unit_zero (S := S128x128) hz, View.ld_unit_zero (S := S8x128) hz, View.ld_unit_zero (S := S256x256) hz, View.ld_unit_zero (S := S128x1024) hz, View.ld_unit_zero (S := S128x1792) hz, View.ld_unit_zero (S := S256x512) hz, View.ld_unit_zero (S := S6x128x128) hz3]
  exact canon_next arg11.view k0_pay1 (fun n => ((group x0 x2 x3 x4 x5 x8) n).dw) inb_S6x128x128_S6x128x128_0_0_0

end Cert.KernelIdeal.Vocab
-- ==== Proof.RefGroup.lean ====
/- The reference's gated spatial mixing and its gradient, read at an index: block `n`'s group `g` of the
   reference computes what one group of one grid point computes (`Vocab.Group`). -/
module

public import proofs.«01_k».proof.Proof.Vocab
public import proofs.«01_k».proof.Proof.Gen.ReferenceIdeal.Read
public import Idealize.ShloMosaic.Lib.Pointwise

@[expose] public section

noncomputable section

namespace Cert.RefGroup

open Idealize.ShloMosaic Idealize.SL.Sem Cert.ReferenceIdeal Cert.ReferenceIdeal.Gen Cert.ReferenceIdeal.Read
open Cert.KernelIdeal.Vocab hiding group pair

variable (x0 : (⟨S8192x1792, .bf16⟩ : BufTy).Contents (Elt Ideal)) (x1 : (⟨S8192x1024, .f32⟩ : BufTy).Contents (Elt Ideal))
  (x2 : (⟨S6x128x128, .f32⟩ : BufTy).Contents (Elt Ideal)) (x3 x4 x5 : (⟨S6x128, .f32⟩ : BufTy).Contents (Elt Ideal))

/-- Group `g` of the reference's block of rows `n`. -/
def group (n : Fin 64) (g : Fin 6) : Group Ideal where
  zu := fun j => (x0 (ix2 ⟨n * 128 + (j 0).val, by have : (j 0).val < 128 := (j 0).isLt; omega⟩
    ⟨g * 128 + (j 1).val, by have : (j 1).val < 128 := (j 1).isLt; omega⟩) : EReal)
  zv := fun j => (x0 (ix2 ⟨n * 128 + (j 0).val, by have : (j 0).val < 128 := (j 0).isLt; omega⟩
    ⟨768 + (g * 128 + (j 1).val), by have : (j 1).val < 128 := (j 1).isLt; omega⟩) : EReal)
  w := fun j => x2 (ix3 g (j 0) (j 1))
  b := fun j => x3 (ix2 g (j 0))
  lg := fun j => x4 (ix2 g (j 1))
  lb := fun j => x5 (ix2 g (j 1))
  ct := fun j => x1 (ix2 ⟨n * 128 + (j 0).val, by have : (j 0).val < 128 := (j 0).isLt; omega⟩
    ⟨g * 128 + (j 1).val, by have : (j 1).val < 128 := (j 1).isLt; omega⟩)

/-- The reference's activation at an element is the kernel's at one that reads the same. -/
theorem gelu_eq (z : Tile Ideal) (j : Cert.KernelIdeal.S128x128.Idx) (r : Fin 8192) (c : Fin 1536)
    (h : z j = (x0 (ix2 r ⟨c.val, by omega⟩) : EReal)) : val_main_v24 x0 (ix2 r c) = gelu z j := by
  pointwise [val_main_v24, val_main_v23, val_main_v22, val_main_cst_5, val_main_v21, val_main_v20, val_main_cst_4,
    val_main_v14, val_main_v13, val_main_v12, val_main_cst_1, val_main_v11, val_main_v10, val_main_v9, val_main_cst_0,
    val_main_v5, val_main_v4, val_main_v2, val_main_v0, gelu, geluH, geluP, geluT, tile]
  simp only [h]
  ac_rfl

theorem v27 (n : Fin 64) (g : Fin 6) (t c : Fin 128) :
    val_main_v27 x0 (ix4 n t g c) = gelu (group x0 x1 x2 x3 x4 x5 n g).zv (ix2 t c) := by
  pointwise [val_main_v27, val_main_v26]
  exact gelu_eq x0 _ _ _ _ rfl

theorem mean (n : Fin 64) (g : Fin 6) (t : Fin 128) :
    val_main_v31 x0 (ix4 n t g 0) = (group x0 x1 x2 x3 x4 x5 n g).mean (ix2 t 0) := by
  pointwise [val_main_v31, val_main_v30, val_main_cst_7, val_main_v29, val_main_v28, val_main_cst_6, Group.mean, colOf, rowSum]
  simp only [v27 x0 x1 x2 x3 x4 x5]

theorem cen (n : Fin 64) (g : Fin 6) (t c : Fin 128) :
    val_main_v33 x0 (ix4 n t g c) = (group x0 x1 x2 x3 x4 x5 n g).cen (ix2 t c) := by
  pointwise [val_main_v33, val_main_v32, Group.cen, wide]
  simp only [v27 x0 x1 x2 x3 x4 x5, mean x0 x1 x2 x3 x4 x5]

theorem cen' (n : Fin 64) (g : Fin 6) (t c : Fin 128) :
    val_main_v42 x0 (ix4 n t g c) = (group x0 x1 x2 x3 x4 x5 n g).cen (ix2 t c) := cen x0 x1 x2 x3 x4 x5 n g t c

theorem var (n : Fin 64) (g : Fin 6) (t : Fin 128) :
    val_main_v44 x0 (ix4 n t g 0) = (group x0 x1 x2 x3 x4 x5 n g).var (ix2 t 0) := by
  pointwise [val_main_v44, val_main_v43, val_main_cst_11, val_main_v40, val_main_v39, val_main_cst_10, val_main_v38, val_main_v37,
    val_main_cst_9, val_main_v34, Group.var, colOf, rowSum]
  simp only [cen x0 x1 x2 x3 x4 x5]

theorem rs (n : Fin 64) (g : Fin 6) (t : Fin 128) :
    val_main_v45 x0 (ix4 n t g 0) = (group x0 x1 x2 x3 x4 x5 n g).rs (ix2 t 0) := by
  pointwise [val_main_v45, Group.rs]
  simp only [var x0 x1 x2 x3 x4 x5]

theorem hc (n : Fin 64) (g : Fin 6) (t : Fin 128) :
    val_main_v48 x0 (ix4 n t g 0) = (group x0 x1 x2 x3 x4 x5 n g).hc (ix2 t 0) := by
  pointwise [val_main_v48, val_main_v47, val_main_cst_12, val_main_v46, Group.hc, colOf]
  simp only [var x0 x1 x2 x3 x4 x5, rs x0 x1 x2 x3 x4 x5]

theorem xhat (n : Fin 64) (g : Fin 6) (t c : Fin 128) :
    val_main_v50 x0 (ix4 n t g c) = (group x0 x1 x2 x3 x4 x5 n g).xhat (ix2 t c) := by
  pointwise [val_main_v50, val_main_v49, Group.xhat, wide]
  simp only [cen' x0 x1 x2 x3 x4 x5, rs x0 x1 x2 x3 x4 x5]

theorem vn (n : Fin 64) (g : Fin 6) (t c : Fin 128) :
    val_main_v56 x0 x4 x5 (ix4 n t g c) = (group x0 x1 x2 x3 x4 x5 n g).vn (ix2 t c) := by
  pointwise [val_main_v56, val_main_v55, val_main_v54, val_main_v53, val_main_v52, val_main_v51, Group.vn, tall]
  simp only [xhat x0 x1 x2 x3 x4 x5]
  rfl

/-- The reference's lower-triangular condition is the kernel's. -/
theorem mask (g : Fin 6) (t c : Fin 128) : val_main_v61_1 (F := Ideal) (ix3 g t c) = Cert.KernelIdeal.Gen.k0_pay6 (ix2 t c) := by
  pointwise [val_main_v61_1, val_main_v59, val_main_v58, val_main_v57, val_main_c, val_main_call0_v5, val_main_call0_c_0,
    val_main_call0_v4, val_main_call0_v3, val_main_call0_v2, val_main_call0_v1, val_main_call0_v0, val_main_call0_c,
    Cert.KernelIdeal.Gen.k0_pay6]
  rw [show ∀ a : BitVec 32, IntOp.addi a 0#32 = a from fun a => BitVec.add_zero a]
  generalize IntOp.cmpi .sge _ _ = b
  revert b
  decide

theorem wm (n : Fin 64) (g : Fin 6) (t c : Fin 128) :
    val_main_v61_0 x2 (ix3 g t c) = (group x0 x1 x2 x3 x4 x5 n g).wm (ix2 t c) := by
  pointwise [val_main_v61_0, val_main_v60, val_main_cst_13, Group.wm, tile]
  simp only [mask]
  rfl

theorem sv (n : Fin 64) (g : Fin 6) (t c : Fin 128) :
    val_main_v67 x0 x2 x3 x4 x5 (ix4 n t g c) = (group x0 x1 x2 x3 x4 x5 n g).sv (ix2 t c) := by
  pointwise [val_main_v67, val_main_v66, val_main_v65, val_main_v64, val_main_v63, val_main_v62, Group.sv, wide, Group.vnb]
  simp only [vn x0 x1 x2 x3 x4 x5, wm x0 x1 x2 x3 x4 x5 n, mul_comm]
  rfl

theorem dsv (n : Fin 64) (g : Fin 6) (t c : Fin 128) :
    val_main_v141 x0 x1 (ix4 n t g c) = (group x0 x1 x2 x3 x4 x5 n g).dsv (ix2 t c) := by
  pointwise [val_main_v141, val_main_v139, val_main_v25, val_main_v110, Group.dsv]
  rw [gelu_eq x0 (group x0 x1 x2 x3 x4 x5 n g).zu (ix2 t c) _ _ rfl]
  rfl

theorem du (n : Fin 64) (g : Fin 6) (t c : Fin 128) :
    val_main_v140 x0 x1 x2 x3 x4 x5 (ix2 ⟨n * 128 + t, by omega⟩ ⟨g * 128 + c, by omega⟩) = (group x0 x1 x2 x3 x4 x5 n g).du (ix2 t c) := by
  pointwise [val_main_v140, val_main_v110, val_main_v68, Group.du]
  rw [← sv]
  rfl

theorem dvn (n : Fin 64) (g : Fin 6) (t c : Fin 128) :
    val_main_v149 x0 x1 x2 (ix4 n t g c) = (group x0 x1 x2 x3 x4 x5 n g).dvn (ix2 t c) := by
  pointwise [val_main_v149, val_main_v148, val_main_v146, Group.dvn]
  simp only [dsv x0 x1 x2 x3 x4 x5, wm x0 x1 x2 x3 x4 x5 n]

theorem dx (n : Fin 64) (g : Fin 6) (t c : Fin 128) :
    val_main_v158 x0 x1 x2 x4 (ix4 n t g c) = (group x0 x1 x2 x3 x4 x5 n g).dx (ix2 t c) := by
  pointwise [val_main_v158, val_main_v157, val_main_v51, Group.dx, tall]
  simp only [dvn x0 x1 x2 x3 x4 x5]
  rfl

theorem dcenA (n : Fin 64) (g : Fin 6) (t c : Fin 128) :
    val_main_v164 x0 x1 x2 x4 (ix4 n t g c) = (group x0 x1 x2 x3 x4 x5 n g).dcenA (ix2 t c) := by
  pointwise [val_main_v164, val_main_v163, Group.dcenA, wide]
  simp only [dx x0 x1 x2 x3 x4 x5, rs x0 x1 x2 x3 x4 x5]

theorem dvar (n : Fin 64) (g : Fin 6) (t : Fin 128) :
    val_main_v170 x0 x1 x2 x4 (ix4 n t g 0) = (group x0 x1 x2 x3 x4 x5 n g).dvar (ix2 t 0) := by
  pointwise [val_main_v170, val_main_v169, val_main_cst_36, val_main_v165, val_main_v162, val_main_v161, val_main_cst_34, val_main_v160,
    Group.dvar, colOf, rowSum]
  simp only [dx x0 x1 x2 x3 x4 x5, cen' x0 x1 x2 x3 x4 x5, hc x0 x1 x2 x3 x4 x5]

theorem dcenB (n : Fin 64) (g : Fin 6) (t c : Fin 128) :
    val_main_v173 x0 x1 x2 x4 (ix4 n t g c) = (group x0 x1 x2 x3 x4 x5 n g).dcenB (ix2 t c) := by
  pointwise [val_main_v173, val_main_v172, val_main_v171, val_main_cst_37, val_main_v36, val_main_v35, val_main_cst_8,
    Group.dcenB, colSame, wide, tile]
  simp only [Fin.sum_univ_one, Fin.isValue, dvar x0 x1 x2 x3 x4 x5, cen x0 x1 x2 x3 x4 x5]

theorem dmean (n : Fin 64) (g : Fin 6) (t : Fin 128) :
    val_main_v180 x0 x1 x2 x4 (ix4 n t g 0) = (group x0 x1 x2 x3 x4 x5 n g).dmean (ix2 t 0) := by
  pointwise [val_main_v180, val_main_v179, val_main_cst_39, val_main_v178, val_main_v176, val_main_v175, val_main_cst_38, val_main_v174,
    val_main_v168, val_main_v167, val_main_cst_35, val_main_v166, Group.dmean, colOf, rowSum, tile]
  simp only [dcenA x0 x1 x2 x3 x4 x5, dcenB x0 x1 x2 x3 x4 x5, zero_sub]

theorem dv (n : Fin 64) (g : Fin 6) (t c : Fin 128) :
    val_main_v183 x0 x1 x2 x4 (ix4 n t g c) = (group x0 x1 x2 x3 x4 x5 n g).dv (ix2 t c) := by
  pointwise [val_main_v183, val_main_v182, val_main_v181, val_main_cst_40, val_main_v177, Group.dv, colSame, wide]
  simp only [dcenA x0 x1 x2 x3 x4 x5, dcenB x0 x1 x2 x3 x4 x5, Fin.sum_univ_one, Fin.isValue,
    dmean x0 x1 x2 x3 x4 x5]

/-- Three times a number is its sum with itself and itself. -/
theorem three_mul_eq (y : EReal) : Ideal.ofBits .f32 0x40400000#32 * y = y + y + y := by
  have h : Ideal.ofBits .f32 0x40400000#32 = ((3 : ℝ) : EReal) := by
    simp [Ideal.ofBits, Ideal.ieee, -EReal.coe_mul]
    norm_num
  rw [h]
  induction y with
  | bot => rw [EReal.coe_mul_bot_of_pos (by norm_num)]; rfl
  | top => rw [EReal.coe_mul_top_of_pos (by norm_num)]; rfl
  | coe y => rw [← EReal.coe_mul, ← EReal.coe_add, ← EReal.coe_add]; congr 1; ring

/-- The two spellings of the activation's gradient: its terms in another order, and the cube's derivative as
    `3 * (x * x)` or as three summands. -/
theorem gelu_grad (a b h x ct D P : EReal) :
    ct * (h * P) + a * (h * (x * ct) * D) + b * (a * (h * (x * ct) * D)) * (Ideal.ofBits .f32 0x40400000#32 * (x * x)) =
      a * (h * x * ct * D) + x * x * (b * (a * (h * x * ct * D))) + x * (b * (a * (h * x * ct * D)) * x)
        + b * (a * (h * x * ct * D)) * x * x + h * (ct * P) := by
  rw [show h * (x * ct) = h * x * ct by ac_rfl]
  generalize a * (h * x * ct * D) = W
  rw [show b * W * (Ideal.ofBits .f32 0x40400000#32 * (x * x)) = Ideal.ofBits .f32 0x40400000#32 * (b * W * (x * x)) by ac_rfl,
    three_mul_eq, show x * x * (b * W) = b * W * (x * x) by ac_rfl, show x * (b * W * x) = b * W * (x * x) by ac_rfl,
    show b * W * x * x = b * W * (x * x) by ac_rfl, show ct * (h * P) = h * (ct * P) by ac_rfl]
  ac_rfl

/-- The reference's gradient of the activation at an element is the kernel's at one that reads the same. -/
theorem geluBack_eq (z ct : Tile Ideal) (j : Cert.KernelIdeal.S128x128.Idx) (r : Fin 8192) (c : Fin 1536)
    (h : z j = (x0 (ix2 r ⟨c.val, by omega⟩) : EReal)) (hc : val_main_v185 x0 x1 x2 x3 x4 x5 (ix2 r c) = ct j) :
    val_main_v197 x0 x1 x2 x3 x4 x5 (ix2 r c) = geluBack z ct j := by
  pointwise [val_main_v197, val_main_v196, val_main_v195, val_main_v194, val_main_cst_43, val_main_v193, val_main_v192, val_main_v191,
    val_main_cst_42, val_main_v190, val_main_v189, val_main_v188, val_main_cst_41, val_main_v187, val_main_v186,
    val_main_v23, val_main_v22, val_main_cst_5, val_main_v21, val_main_v20, val_main_cst_4,
    val_main_v19, val_main_v18, val_main_v17, val_main_cst_3, val_main_v16, val_main_v15, val_main_cst_2,
    val_main_v14, val_main_v13, val_main_v12, val_main_cst_1, val_main_v11, val_main_v10, val_main_v9, val_main_cst_0,
    val_main_v8, val_main_v7, val_main_cst, val_main_v6,
    val_main_v5, val_main_v4, val_main_v2, val_main_v0, geluBack, geluZ, geluW, geluD, gelu, geluH, geluP, geluT, tile]
  simp only [h, hc]
  exact gelu_grad _ _ _ _ _ _ _

/-- The gradient of the activation, of the gated half. -/
theorem dzu (n : Fin 64) (g : Fin 6) (t c : Fin 128) :
    val_main_v197 x0 x1 x2 x3 x4 x5 (ix2 ⟨n * 128 + t, by omega⟩ ⟨g * 128 + c, by omega⟩) =
      (group x0 x1 x2 x3 x4 x5 n g).dzu (ix2 t c) := by
  refine geluBack_eq x0 x1 x2 x3 x4 x5 _ _ _ _ _ rfl ?_
  rw [← du]
  pointwise [val_main_v185]
  rw [dif_pos (by omega)]

/-- The gradient of the activation, of the gating half. -/
theorem dzv (n : Fin 64) (g : Fin 6) (t c : Fin 128) :
    val_main_v197 x0 x1 x2 x3 x4 x5 (ix2 ⟨n * 128 + t, by omega⟩ ⟨768 + (g * 128 + c), by omega⟩) =
      (group x0 x1 x2 x3 x4 x5 n g).dzv (ix2 t c) := by
  refine geluBack_eq x0 x1 x2 x3 x4 x5 _ _ _ _ _ rfl ?_
  rw [← dv]
  pointwise [val_main_v185, val_main_v184]

/-- The spatial weights' gradient. -/
theorem dw (g : Fin 6) (t c : Fin 128) :
    val_main_v150 x0 x1 x4 x5 (ix3 g t c) = ∑ n, (group x0 x1 x2 x3 x4 x5 n g).dw (ix2 t c) := by
  pointwise [val_main_v150, val_main_v147, val_main_v146, val_main_call2_v0, val_main_call2_cst, Group.dw, Group.vnb, tile]
  simp only [mask, dsv x0 x1 x2 x3 x4 x5, vn x0 x1 x2 x3 x4 x5]
  unfold Scalar.select
  split
  · rfl
  · rw [Finset.sum_const_zero]

/-- A sum over the first and the last axis of four. -/
theorem sum_outer (h) (v : S64x128x6x128.Idx → EReal) (c : EReal) (t : Fin 128) (g : Fin 6) :
    Ideal.hostReduceAdd (t := S128x6) (axes := [0, 3]) h v c (ix2 t g) = c + ∑ n : Fin 64, ∑ k : Fin 128, v (ix4 n t g k) := by
  unfold Ideal.hostReduceAdd
  rw [Finset.sum_filter, sum_idx4]
  have e : ∀ a b d f, (h.drop (ix4 a b d f) = ix2 t g) ↔ (b = t ∧ d = g) := by
    intro a b d f
    have : h.drop (ix4 a b d f) = ix2 b d := funext fun x => Fin.ext (by match x with | ⟨0, _⟩ => rfl | ⟨1, _⟩ => rfl)
    rw [this, ix2_inj]
  simp [e, ite_and]

/-- A sum over the first two axes of four. -/
theorem sum_first (h) (v : S64x128x6x128.Idx → EReal) (c : EReal) (g : Fin 6) (t : Fin 128) :
    Ideal.hostReduceAdd (t := S6x128) (axes := [0, 1]) h v c (ix2 g t) = c + ∑ n : Fin 64, ∑ k : Fin 128, v (ix4 n k g t) := by
  unfold Ideal.hostReduceAdd
  rw [Finset.sum_filter, sum_idx4]
  have e : ∀ a b d f, (h.drop (ix4 a b d f) = ix2 g t) ↔ (d = g ∧ f = t) := by
    intro a b d f
    have : h.drop (ix4 a b d f) = ix2 d f := funext fun x => Fin.ext (by match x with | ⟨0, _⟩ => rfl | ⟨1, _⟩ => rfl)
    rw [this, ix2_inj]
  simp [e, ite_and]

/-- A sum over the first and the last axis of four, both of size one. -/
theorem sum_outer_one (h) (v : S1x128x6x1.Idx → EReal) (c : EReal) (t : Fin 128) (g : Fin 6) :
    Ideal.hostReduceAdd (t := S128x6) (axes := [0, 3]) h v c (ix2 t g) = c + v (ix4 0 t g 0) := by
  unfold Ideal.hostReduceAdd
  rw [Finset.sum_filter, sum_idx4]
  have e : ∀ a b d f, (h.drop (ix4 a b d f) = ix2 t g) ↔ (b = t ∧ d = g) := by
    intro a b d f
    have : h.drop (ix4 a b d f) = ix2 b d := funext fun x => Fin.ext (by match x with | ⟨0, _⟩ => rfl | ⟨1, _⟩ => rfl)
    rw [this, ix2_inj]
  simp [e, ite_and]

/-- A sum over the first two axes of four, both of size one. -/
theorem sum_first_one (h) (v : S1x1x6x128.Idx → EReal) (c : EReal) (g : Fin 6) (t : Fin 128) :
    Ideal.hostReduceAdd (t := S6x128) (axes := [0, 1]) h v c (ix2 g t) = c + v (ix4 0 0 g t) := by
  unfold Ideal.hostReduceAdd
  rw [Finset.sum_filter, sum_idx4]
  have e : ∀ a b d f, (h.drop (ix4 a b d f) = ix2 g t) ↔ (d = g ∧ f = t) := by
    intro a b d f
    have : h.drop (ix4 a b d f) = ix2 d f := funext fun x => Fin.ext (by match x with | ⟨0, _⟩ => rfl | ⟨1, _⟩ => rfl)
    rw [this, ix2_inj]
  simp [e, ite_and]

/-- The spatial biases' gradient. -/
theorem db (g : Fin 6) (t : Fin 128) :
    val_main_v145 x0 x1 (ix2 g t) = ∑ n, (group x0 x1 x2 x3 x4 x5 n g).db (ix2 t 0) := by
  pointwise [val_main_v145, val_main_v144, val_main_cst_29]
  rw [sum_outer_one]
  pointwise [val_main_v143, val_main_v142, val_main_cst_28]
  rw [sum_outer]
  pointwise [Group.db, rowSum]
  simp only [dsv x0 x1 x2 x3 x4 x5]

/-- The gradient of the norm's biases. -/
theorem dlb (g : Fin 6) (t : Fin 128) :
    val_main_v153 x0 x1 x2 (ix2 g t) = ∑ n, (group x0 x1 x2 x3 x4 x5 n g).dlb (ix2 0 t) := by
  pointwise [val_main_v153, val_main_cst_31]
  rw [sum_first_one]
  pointwise [val_main_v152, val_main_v151, val_main_cst_30]
  rw [sum_first]
  pointwise [Group.dlb, laneSum]
  simp only [dvn x0 x1 x2 x3 x4 x5]

/-- The gradient of the norm's gains. -/
theorem dlg (g : Fin 6) (t : Fin 128) :
    val_main_v159 x0 x1 x2 (ix2 g t) = ∑ n, (group x0 x1 x2 x3 x4 x5 n g).dlg (ix2 0 t) := by
  pointwise [val_main_v159, val_main_cst_33]
  rw [sum_first_one]
  pointwise [val_main_v156, val_main_v155, val_main_cst_32]
  rw [sum_first]
  pointwise [val_main_v154, Group.dlg, laneSum]
  simp only [dvn x0 x1 x2 x3 x4 x5, xhat x0 x1 x2 x3 x4 x5]

end Cert.RefGroup
-- ==== Proof.RefPair.lean ====
/- The reference's memory attention and its gradient, read at an index: block `n`'s heads `2 * j` and `2 * j + 1` of
   the reference compute what one pair of heads of one grid point computes (`Vocab.Pair`), a query of head `2 * j + s`
   at lane `s * 128 + t` and its feature `x` at lane `s * 64 + x`. -/
module

public import proofs.«01_k».proof.Proof.Vocab
public import proofs.«01_k».proof.Proof.Gen.ReferenceIdeal.Read
public import Idealize.ShloMosaic.Lib.Pointwise

@[expose] public section

noncomputable section

namespace Cert.RefPair

open Idealize.ShloMosaic Idealize.SL.Sem Cert.ReferenceIdeal Cert.ReferenceIdeal.Gen Cert.ReferenceIdeal.Read
open Cert.KernelIdeal.Vocab hiding group pair

/-! ## Scalars -/

/-- The word comparison that tells the first head's lanes from the second's. -/
theorem select_low (c : Fin 128) (a b : EReal) :
    Scalar.select (IntOp.cmpi .slt (BitVec.ofNat 32 c.val) 64#32) a b = if c.val < 64 then a else b := by
  have h : ∀ c : Fin 128, IntOp.cmpi .slt (BitVec.ofNat 32 c.val) 64#32 = if c.val < 64 then 1#1 else 0#1 := by decide
  rw [h]
  split
  · rfl
  · rfl

/-- A sum over 128 lanes, head by head. -/
theorem sum_lanes (f : Fin 128 → EReal) :
    ∑ c, f c = ∑ x : Fin 64, f ⟨x.val, by omega⟩ + ∑ x : Fin 64, f ⟨64 + x.val, by omega⟩ :=
  Fin.sum_univ_two_halves 64 64 rfl f

/-- The bits of minus infinity. -/
theorem ofBits_bot : Ideal.ofBits .f32 0xFF800000#32 = ⊥ := by simp [Ideal.ofBits, Ideal.ieee]

/-- A quotient by a nonzero number is a product with its reciprocal. -/
theorem div_eq_mul (x y : EReal) (h : y ≠ 0) : Ideal.div x y = x * Ideal.div 1 y := by
  unfold Ideal.div
  rw [if_neg h, if_neg h, one_mul]

/-- The reciprocal of a nonzero number's square. -/
theorem recip_sq (y : EReal) (h : y ≠ 0) : 0 ≤ Ideal.div 1 (y * y) ∧ Ideal.div 1 (y * y) ≠ ⊤ := by
  have h2 : y * y ≠ 0 := by
    intro e
    rcases mul_eq_zero.1 e with e | e <;> exact h e
  have hp : 0 ≤ y * y := by
    rcases le_total 0 y with h | h
    · exact mul_nonneg h h
    · exact EReal.mul_nonneg_iff.2 (.inr ⟨h, h⟩)
  unfold Ideal.div
  rw [if_neg h2, one_mul]
  refine ⟨EReal.inv_nonneg_of_nonneg hp, ?_⟩
  generalize y * y = z at h2
  induction z with
  | bot => rw [EReal.inv_bot]; exact EReal.zero_ne_top
  | top => rw [EReal.inv_top]; exact EReal.zero_ne_top
  | coe z => rw [← EReal.coe_inv]; exact EReal.coe_ne_top _

/-- A nonnegative number that is not infinite scales a sum term by term. -/
theorem sum_mul {ι : Type} (s : Finset ι) (f : ι → EReal) (r : EReal) (h0 : 0 ≤ r) (ht : r ≠ ⊤) :
    (∑ i ∈ s, f i) * r = ∑ i ∈ s, f i * r := by
  classical
  induction s using Finset.induction_on with
  | empty => simp
  | insert a s ha ih => rw [Finset.sum_insert ha, Finset.sum_insert ha, EReal.right_distrib_of_nonneg_of_ne_top h0 ht, ih]

/-- A product of real numbers is real. -/
theorem mul_real {a b : EReal} (ha : ∃ y : ℝ, a = y) (hb : ∃ y : ℝ, b = y) : ∃ y : ℝ, a * b = y := by
  obtain ⟨a, rfl⟩ := ha
  obtain ⟨b, rfl⟩ := hb
  exact ⟨a * b, (EReal.coe_mul a b).symm⟩

/-- A finite sum of real numbers is real. -/
theorem sum_real {n : Nat} {f : Fin n → EReal} (hf : ∀ i, ∃ y : ℝ, f i = y) : ∃ y : ℝ, ∑ i, f i = y := by
  refine Finset.sum_induction f (fun a => ∃ y : ℝ, a = y) ?_ ⟨0, rfl⟩ fun i _ => hf i
  rintro _ _ ⟨a, rfl⟩ ⟨b, rfl⟩
  exact ⟨a + b, (EReal.coe_add a b).symm⟩

/-- An exponential is nonnegative. -/
theorem exp_nonneg (y : EReal) : 0 ≤ Ideal.exp y := by
  induction y with
  | bot => exact le_refl _
  | top => exact le_top
  | coe y => exact EReal.coe_nonneg.2 (Real.exp_pos y).le

/-! ## The pair -/

variable (x0 : (⟨S8192x1792, .bf16⟩ : BufTy).Contents (Elt Ideal)) (x1 : (⟨S8192x1024, .f32⟩ : BufTy).Contents (Elt Ideal))
  (x6 : (⟨S256x512, .bf16⟩ : BufTy).Contents (Elt Ideal))

/-- Heads `2 * j` and `2 * j + 1` over the reference's block of rows `n`. -/
def pair (n : Fin 64) (j : Fin 2) : Pair Ideal where
  q := fun i => (x0 (ix2 ⟨n * 128 + (i 0).val, by have : (i 0).val < 128 := (i 0).isLt; omega⟩
    ⟨1536 + (j * 128 + (i 1).val), by have : (i 1).val < 128 := (i 1).isLt; omega⟩) : EReal)
  k := fun i => (x6 (ix2 (i 0) ⟨j * 128 + (i 1).val, by have : (i 1).val < 128 := (i 1).isLt; omega⟩) : EReal)
  v := fun i => (x6 (ix2 (i 0) ⟨256 + (j * 128 + (i 1).val), by have : (i 1).val < 128 := (i 1).isLt; omega⟩) : EReal)
  ct := fun i => x1 (ix2 ⟨n * 128 + (i 0).val, by have : (i 0).val < 128 := (i 0).isLt; omega⟩
    ⟨768 + (j * 128 + (i 1).val), by have : (i 1).val < 128 := (i 1).isLt; omega⟩)

/-- The lane of a query of the pair's head `s`. -/
def qi (s : Fin 2) (t : Fin 128) : Fin 256 := ⟨s * 128 + t, by omega⟩
/-- The pair's head `s`. -/
def hd (j s : Fin 2) : Fin 4 := ⟨2 * j + s, by omega⟩
/-- Row `t` of block `n`. -/
def rw' (n : Fin 64) (t : Fin 128) : Fin 8192 := ⟨n * 128 + t, by omega⟩

theorem half (s : Fin 2) : s = 0 ∨ s = 1 := by omega
theorem qi_low (t : Fin 128) : (qi 0 t).val = t.val := by simp [qi]
theorem qi_high (t : Fin 128) : (qi 1 t).val = 128 + t.val := by simp [qi]
theorem low_lt (x : Fin 64) : x.val < 64 := x.isLt
theorem high_ge (x : Fin 64) : ¬64 + x.val < 64 := by omega
theorem high_ge' (t : Fin 128) : ¬128 + t.val < 128 := by omega

theorem sc (n : Fin 64) (j s : Fin 2) (t : Fin 128) (k : Fin 256) :
    val_main_v77 x0 x6 (ix3 (hd j s) (rw' n t) k) = (pair x0 x1 x6 n j).sc (ix2 k (qi s t)) := by
  pointwise [val_main_v77, val_main_v76, val_main_cst_14, val_main_v75, val_main_v73, val_main_v70, val_main_v3, val_main_v71, val_main_v1,
    val_main_v0, Pair.sc, Pair.qs, Pair.kb, stack, low, tile, squareOf]
  congr 1
  simp only [select_low]
  rw [sum_lanes]
  rcases half s with rfl | rfl
  · simp only [qi_low, low_lt, high_ge, Fin.is_lt, ↓reduceDIte, ↓reduceIte, mul_zero, Finset.sum_const_zero, add_zero]
    exact Finset.sum_congr rfl fun x _ => (mul_comm _ _).trans (congrArg₂ (· * ·) (congrArg (fun c => (x6 (ix2 k c) : EReal)) (Fin.ext (by simp [hd]; omega)))
      (congrArg (fun c => (x0 (ix2 (rw' n t) c) : EReal)) (Fin.ext (by simp [hd]; omega))))
  · simp only [qi_high, Nat.add_sub_cancel_left, high_ge', low_lt, high_ge, ↓reduceDIte, ↓reduceIte, mul_zero, Finset.sum_const_zero, zero_add]
    exact Finset.sum_congr rfl fun x _ => (mul_comm _ _).trans (congrArg₂ (· * ·) (congrArg (fun c => (x6 (ix2 k c) : EReal)) (Fin.ext (by simp [hd]; omega)))
      (congrArg (fun c => (x0 (ix2 (rw' n t) c) : EReal)) (Fin.ext (by simp [hd]; omega))))

theorem mx (r : Fin 8192) (h : Fin 4) :
    val_main_v78 x0 x6 (ix2 h r) = Finset.univ.fold max (Ideal.ofBits .f32 0xFF800000#32) fun k => val_main_v77 x0 x6 (ix3 h r k) := by
  pointwise [val_main_v78, val_main_cst_15]

theorem v98 (r : Fin 8192) (h : Fin 4) (k : Fin 256) : val_main_v98 x0 x6 (ix3 h r k) =
    Ideal.exp (val_main_v77 x0 x6 (ix3 h r k) - val_main_v78 x0 x6 (ix2 h r)) := by
  rw [val_main_v98_apply, val_main_v97_apply, val_main_v96_apply, val_main_v95_apply, val_main_v85_apply, val_main_v84_apply,
    val_main_cst_17_apply]
  have e : idx_main_v95 (idx_main_v96 (ix3 h r k)) = ix2 h r := funext fun a => by match a with | ⟨0, _⟩ => rfl | ⟨1, _⟩ => rfl
  rw [e]
  generalize val_main_v78 x0 x6 (ix2 h r) = m
  generalize val_main_v77 x0 x6 (ix3 h r k) = y
  show Ideal.exp (y - max (Ideal.ofBits .f32 0xFF800000#32) m) = _
  rw [ofBits_bot, max_eq_right bot_le]

theorem ex (n : Fin 64) (j s : Fin 2) (t : Fin 128) (k : Fin 256) :
    val_main_v98 x0 x6 (ix3 (hd j s) (rw' n t) k) = (pair x0 x1 x6 n j).ex (ix2 k (qi s t)) := by
  rw [v98, mx]
  pointwise [Pair.ex, over, keyMax]
  simp only [sc x0 x1 x6]

theorem den (n : Fin 64) (j s : Fin 2) (t : Fin 128) :
    val_main_v100 x0 x6 (ix3 (hd j s) (rw' n t) 0) = (pair x0 x1 x6 n j).den (ix2 0 (qi s t)) := by
  pointwise [val_main_v100, val_main_v99, val_main_cst_23, Pair.den, keySum]
  simp only [ex x0 x1 x6]

theorem dp (n : Fin 64) (j s : Fin 2) (t : Fin 128) (k : Fin 256) :
    val_main_v114 x1 x6 (ix3 (hd j s) (rw' n t) k) = (pair x0 x1 x6 n j).dp (ix2 k (qi s t)) := by
  pointwise [val_main_v114, val_main_v113, val_main_v112, val_main_v111, val_main_v74, val_main_v72, val_main_v1,
    Pair.dp, Pair.vb, Pair.dos, stack, low, tile]
  simp only [select_low]
  rw [sum_lanes]
  rcases half s with rfl | rfl
  · simp only [qi_low, low_lt, high_ge, Fin.is_lt, ↓reduceDIte, ↓reduceIte, zero_mul, Finset.sum_const_zero, add_zero, zero_add]
    exact Finset.sum_congr rfl fun x _ => congrArg₂ (· * ·) (congrArg (fun c => (x1 (ix2 (rw' n t) c) : EReal)) (Fin.ext (by simp [hd]; omega)))
      (congrArg (fun c => (x6 (ix2 k c) : EReal)) (Fin.ext (by simp [hd]; omega)))
  · simp only [qi_high, Nat.add_sub_cancel_left, high_ge', low_lt, high_ge, ↓reduceDIte, ↓reduceIte, zero_mul, Finset.sum_const_zero,
      zero_add, add_zero]
    exact Finset.sum_congr rfl fun x _ => congrArg₂ (· * ·) (congrArg (fun c => (x1 (ix2 (rw' n t) c) : EReal)) (Fin.ext (by simp [hd]; omega)))
      (congrArg (fun c => (x6 (ix2 k c) : EReal)) (Fin.ext (by simp [hd]; omega)))

/-- Every query's sum of exponentials is another number than zero. -/
def DenNe : Prop := ∀ (h : Fin 4) (r : Fin 8192), val_main_v100 x0 x6 (ix3 h r 0) ≠ 0

variable {x0 x6}

theorem prob (D : DenNe x0 x6) (n : Fin 64) (j s : Fin 2) (t : Fin 128) (k : Fin 256) :
    val_main_v102 x0 x6 (ix3 (hd j s) (rw' n t) k) =
      (pair x0 x1 x6 n j).ex (ix2 k (qi s t)) * Ideal.div 1 ((pair x0 x1 x6 n j).den (ix2 0 (qi s t))) := by
  pointwise [val_main_v102, val_main_v101]
  rw [div_eq_mul _ _ (D _ _), ex x0 x1 x6, den x0 x1 x6]

theorem ds (D : DenNe x0 x6) (n : Fin 64) (j s : Fin 2) (t : Fin 128) (k : Fin 256) :
    val_main_v130 x0 x1 x6 (ix3 (hd j s) (rw' n t) k) = (pair x0 x1 x6 n j).ds (ix2 k (qi s t)) := by
  pointwise [val_main_v130, val_main_v129, val_main_cst_27, val_main_v128, val_main_v127, val_main_v126, val_main_v125, val_main_cst_26,
    val_main_v124, val_main_v123, val_main_v122, val_main_v121, val_main_v120, val_main_cst_25, val_main_v119, val_main_v118,
    val_main_v117, val_main_v105, val_main_cst_24, val_main_v104, val_main_v103,
    Pair.ds, Pair.back, Pair.rec1, Pair.rec2, over, lineOf, lineSame, keySum, squareOf]
  have hD := D (hd j s) (rw' n t)
  rw [div_eq_mul _ _ hD]
  simp only [Fin.sum_univ_one, Fin.isValue, ex x0 x1 x6, dp x0 x1 x6, den x0 x1 x6] at hD ⊢
  obtain ⟨h0, ht⟩ := recip_sq _ hD
  rw [sum_mul _ _ _ h0 ht, zero_sub]
  congr 5
  funext k
  ac_rfl

/-- A sum over all rows, block by block. -/
theorem sum_rows (f : Fin 8192 → EReal) : ∑ r, f r = ∑ n : Fin 64, ∑ t : Fin 128, f (rw' n t) := by
  rw [← Fintype.sum_prod_type' fun (n : Fin 64) (t : Fin 128) => f (rw' n t), ← Equiv.sum_comp (finProdFinEquiv (m := 64) (n := 128))]
  exact Finset.sum_congr rfl fun p _ => congrArg f (Fin.ext (by simp [rw', finProdFinEquiv]; omega))

theorem ds_at (D : DenNe x0 x6) (n : Fin 64) (j s : Fin 2) (t : Fin 128) (k : Fin 256) (a : Fin 4) (q : Fin 256)
    (ha : a.val = 2 * j.val + s.val) (hq : q.val = s.val * 128 + t.val) :
    val_main_v130 x0 x1 x6 (ix3 a (rw' n t) k) = (pair x0 x1 x6 n j).ds (ix2 k q) := by
  obtain rfl : a = hd j s := Fin.ext ha
  obtain rfl : q = qi s t := Fin.ext hq
  exact ds x1 D n j s t k

theorem prob_at (D : DenNe x0 x6) (n : Fin 64) (j s : Fin 2) (t : Fin 128) (k : Fin 256) (a : Fin 4) (q : Fin 256)
    (ha : a.val = 2 * j.val + s.val) (hq : q.val = s.val * 128 + t.val) :
    val_main_v102 x0 x6 (ix3 a (rw' n t) k) =
      (pair x0 x1 x6 n j).ex (ix2 k q) * Ideal.div 1 ((pair x0 x1 x6 n j).den (ix2 0 q)) := by
  obtain rfl : a = hd j s := Fin.ext ha
  obtain rfl : q = qi s t := Fin.ext hq
  exact prob x1 D n j s t k

/-- The queries' gradient. -/
theorem dq (D : DenNe x0 x6) (n : Fin 64) (j : Fin 2) (t c : Fin 128) :
    val_main_v138 x0 x1 x6 (ix2 (rw' n t) ⟨j * 128 + c, by omega⟩) = (pair x0 x1 x6 n j).dq (ix2 t c) := by
  pointwise [val_main_v138, val_main_v134, val_main_v133, val_main_v73, val_main_v71, val_main_v1,
    Pair.dq, Pair.dqs, Pair.kb, stack, low, tile]
  simp only [select_low]
  by_cases h : c.val < 64
  · simp only [h, ↓reduceIte, zero_add]
    exact Finset.sum_congr rfl fun k _ => congrArg₂ (· * ·) (ds_at x1 D n j 0 t k _ _ (by simp; omega) (by simp))
      (congrArg (fun c => (x6 (ix2 k c) : EReal)) (Fin.ext (by simp; omega)))
  · simp only [h, ↓reduceIte, add_zero]
    exact Finset.sum_congr rfl fun k _ => congrArg₂ (· * ·) (ds_at x1 D n j 1 t k _ _ (by simp; omega) (by simp))
      (congrArg (fun c => (x6 (ix2 k c) : EReal)) (Fin.ext (by simp; omega)))

/-- The keys' gradient. -/
theorem dk (D : DenNe x0 x6) (j : Fin 2) (k : Fin 256) (c : Fin 128) :
    val_main_v137 x0 x1 x6 (ix2 k ⟨j * 128 + c, by omega⟩) = ∑ n, (pair x0 x1 x6 n j).dk (ix2 k c) := by
  pointwise [val_main_v137, val_main_v136, val_main_v132, val_main_v131, val_main_v70, val_main_v3, val_main_v0,
    Pair.dk, Pair.qs, stack, low, tile]
  rw [dif_pos (by omega), sum_rows]
  refine Finset.sum_congr rfl fun n _ => ?_
  simp only [select_low]
  by_cases h : c.val < 64
  · simp only [h, ↓reduceIte, Finset.sum_const_zero, add_zero]
    exact Finset.sum_congr rfl fun t _ => congrArg₂ (· * ·) (ds_at x1 D n j 0 t k _ _ (by simp; omega) (by simp))
      (congrArg (fun c => (x0 (ix2 (rw' n t) c) : EReal)) (Fin.ext (by simp; omega)))
  · simp only [h, ↓reduceIte, Finset.sum_const_zero, zero_add]
    exact Finset.sum_congr rfl fun t _ => congrArg₂ (· * ·) (ds_at x1 D n j 1 t k _ _ (by simp; omega) (by simp))
      (congrArg (fun c => (x0 (ix2 (rw' n t) c) : EReal)) (Fin.ext (by simp; omega)))

/-- The values' gradient. -/
theorem dv (D : DenNe x0 x6) (j : Fin 2) (k : Fin 256) (c : Fin 128) :
    val_main_v137 x0 x1 x6 (ix2 k ⟨256 + (j * 128 + c), by omega⟩) = ∑ n, (pair x0 x1 x6 n j).dv (ix2 k c) := by
  pointwise [val_main_v137, val_main_v135, val_main_v116, val_main_v115, val_main_v113, val_main_v112, val_main_v111,
    Pair.dv, Pair.prob, Pair.dos, stack, low, tile, over, Pair.rec1, lineOf]
  rw [sum_rows]
  refine Finset.sum_congr rfl fun n _ => ?_
  simp only [select_low]
  by_cases h : c.val < 64
  · simp only [h, ↓reduceIte, Finset.sum_const_zero, add_zero]
    exact Finset.sum_congr rfl fun t _ => congrArg₂ (· * ·) (congrArg (fun c => (x1 (ix2 (rw' n t) c) : EReal)) (Fin.ext (by simp; omega)))
      (prob_at x1 D n j 0 t k _ _ (by simp; omega) (by simp))
  · simp only [h, ↓reduceIte, Finset.sum_const_zero, zero_add]
    exact Finset.sum_congr rfl fun t _ => congrArg₂ (· * ·) (congrArg (fun c => (x1 (ix2 (rw' n t) c) : EReal)) (Fin.ext (by simp; omega)))
      (prob_at x1 D n j 1 t k _ _ (by simp; omega) (by simp))

/-! ## The condition -/

/-- Where every query and every key is a real number, so is every score, and a query's largest score contributes one to
    its sum of exponentials. -/
theorem denNe (hq : ∀ (r : Fin 8192) (c : Fin 256), ∃ y : ℝ, (x0 (ix2 r ⟨1536 + c, by omega⟩) : EReal) = y)
    (hk : ∀ (k : Fin 256) (c : Fin 256), ∃ y : ℝ, (x6 (ix2 k ⟨c, by omega⟩) : EReal) = y) : DenNe x0 x6 := by
  intro h r
  have hs : ∀ k, ∃ y : ℝ, val_main_v77 x0 x6 (ix3 h r k) = y := by
    intro k
    pointwise [val_main_v77, val_main_v76, val_main_cst_14, val_main_v75, val_main_v73, val_main_v70, val_main_v3, val_main_v71,
      val_main_v1, val_main_v0]
    refine mul_real (sum_real fun x => mul_real (hq r ⟨h * 64 + x, by omega⟩) (hk k ⟨h * 64 + x, by omega⟩)) ⟨1 / 8, ?_⟩
    simp [Ideal.ofBits, Ideal.ieee, -EReal.coe_mul]
    norm_num
  pointwise [val_main_v100, val_main_v99, val_main_cst_23]
  simp only [v98, mx, ofBits_bot]
  obtain ⟨k0, -, hk0⟩ := Finset.exists_mem_eq_sup Finset.univ ⟨(0 : Fin 256), Finset.mem_univ _⟩ fun k => val_main_v77 x0 x6 (ix3 h r k)
  have hf : (Finset.univ.fold max (⊥ : EReal) fun k => val_main_v77 x0 x6 (ix3 h r k)) = val_main_v77 x0 x6 (ix3 h r k0) := hk0
  rw [hf]
  have h1 : Ideal.exp (val_main_v77 x0 x6 (ix3 h r k0) - val_main_v77 x0 x6 (ix3 h r k0)) = 1 := by
    obtain ⟨y, hy⟩ := hs k0
    rw [hy, ← EReal.coe_sub, sub_self, Ideal.exp_coe, Real.exp_zero, EReal.coe_one]
  have hle := Finset.single_le_sum (f := fun k => Ideal.exp (val_main_v77 x0 x6 (ix3 h r k) - val_main_v77 x0 x6 (ix3 h r k0)))
    (fun k _ => exp_nonneg _) (Finset.mem_univ k0)
  intro e
  rw [e] at hle
  simp only [h1] at hle
  exact absurd hle (by norm_num)

end Cert.RefPair
-- ==== Proof.Blocks.lean ====
/- What the kernel's blocks hold at a grid point, as the groups and the pairs of the arguments. -/
module

public import proofs.«01_k».proof.Proof.Outs
public import proofs.«01_k».proof.Proof.RefGroup
public import proofs.«01_k».proof.Proof.RefPair

@[expose] public section

noncomputable section

namespace Cert.KernelIdeal.Blocks

open Idealize.ShloMosaic Idealize.ShloMosaic.TcCoe Idealize.SL.Sem Cert.KernelIdeal Cert.KernelIdeal.Gen Cert.KernelIdeal.Vocab
open Idealize.ShloMosaic.Pipeline (Dat)

variable (m : (ℓ : Loc nD τ sig) → Buf (Elt Ideal) ℓ)

abbrev a0 (c : Dev nD) : FVec Ideal S8192x1792 .bf16 := m ((c : Thread nD τ).loc main_arg0)
abbrev a1 (c : Dev nD) : FVec Ideal S8192x1024 .f32 := m ((c : Thread nD τ).loc main_arg1)
abbrev a2 (c : Dev nD) : FVec Ideal S6x128x128 .f32 := m ((c : Thread nD τ).loc main_arg2)
abbrev a3 (c : Dev nD) : FVec Ideal S6x128 .f32 := m ((c : Thread nD τ).loc main_arg3)
abbrev a4 (c : Dev nD) : FVec Ideal S6x128 .f32 := m ((c : Thread nD τ).loc main_arg4)
abbrev a5 (c : Dev nD) : FVec Ideal S6x128 .f32 := m ((c : Thread nD τ).loc main_arg5)
abbrev a6 (c : Dev nD) : FVec Ideal S256x512 .bf16 := m ((c : Thread nD τ).loc main_arg6)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 6 :=
  (by decide +kernel : ∀ t : Fin grid0.N, win0_1.index t 0 = t.val ∧ win0_1.index t 1 = 6)
theorem index2 : ∀ t : Fin cfg0.N, win0_2.index t 0 = 0 ∧ win0_2.index t 1 = 0 ∧ win0_2.index t 2 = 0 :=
  (by decide +kernel : ∀ t : Fin grid0.N, win0_2.index t 0 = 0 ∧ win0_2.index t 1 = 0 ∧ win0_2.index t 2 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = 0 ∧ win0_5.index t 1 = 0 :=
  (by decide +kernel : ∀ t : Fin grid0.N, win0_5.index t 0 = 0 ∧ win0_5.index t 1 = 0)
theorem index6 : ∀ t : Fin cfg0.N, win0_6.index t 0 = 0 ∧ win0_6.index t 1 = 0 :=
  (by decide +kernel : ∀ t : Fin grid0.N, win0_6.index t 0 = 0 ∧ win0_6.index t 1 = 0)
theorem index7 : ∀ t : Fin cfg0.N, win0_7.index t 0 = 0 ∧ win0_7.index t 1 = 1 :=
  (by decide +kernel : ∀ t : Fin grid0.N, win0_7.index t 0 = 0 ∧ win0_7.index t 1 = 1)
theorem index8 : ∀ t : Fin cfg0.N, win0_8.index t 0 = t.val ∧ win0_8.index t 1 = 0 :=
  (by decide +kernel : ∀ t : Fin grid0.N, win0_8.index t 0 = t.val ∧ win0_8.index t 1 = 0)

theorem lt64 (t : Fin cfg0.N) : t.val < 64 := lt_of_lt_of_eq t.isLt (by decide +kernel)

theorem V1 (c : Dev nD) : (V m c main_v1 : FVec Ideal S128x128 .f32)
    = pad S128x128 ![0, 0] ![0, 122] ![0, 0] (transpose S128x6 [1, 0] (a3 m c) transposes_S6x128_S128x6_1_0)
        (sitofp .f32 (constantI S_ 32 0#32)) pads_S128x6_S128x128_000_01220 h_S_ := rfl

theorem V2 (c : Dev nD) : (V m c main_v2 : FVec Ideal S8x128 .f32)
    = pad S8x128 ![0, 0] ![2, 0] ![0, 0] (a4 m c) (sitofp .f32 (constantI S_ 32 0#32)) pads_S6x128_S8x128_020_000 h_S_ := rfl
theorem V3 (c : Dev nD) : (V m c main_v3 : FVec Ideal S8x128 .f32)
    = pad S8x128 ![0, 0] ![2, 0] ![0, 0] (a5 m c) (sitofp .f32 (constantI S_ 32 0#32)) pads_S6x128_S8x128_020_000 h_S_ := rfl

theorem blk0 (c : Dev nD) (t : Fin cfg0.N) (r : Fin 128) (k : Fin 1536) :
    (X0_0 m c t : FVec Ideal S128x1536 .bf16) (ix2 r k)
      = (a0 m c (ix2 ⟨t.val * 128 + r.val, by have := lt64 t; omega⟩ ⟨k.val, by omega⟩) : EReal) := by
  unfold X0_0 Pipeline.Window.fill
  rw [dif_pos (moved0_0 t _)]
  unfold iblk
  rw [View.read_apply]
  show V m c main_arg0 _ = _
  rw [V_main_arg0]
  congr 1
  funext a
  apply Fin.ext
  match a with
  | ⟨0, _⟩ => show win0_0.index t 0 * 128 + 1 * r.val = t.val * 128 + r.val; rw [(index0 t).1]; omega
  | ⟨1, _⟩ => show win0_0.index t 1 * 1536 + 1 * k.val = k.val; rw [(index0 t).2]; omega

theorem blk1 (c : Dev nD) (t : Fin cfg0.N) (r : Fin 128) (k : Fin 256) :
    (iblk m c 1 t : FVec Ideal S128x256 .bf16) (ix2 r k)
      = (a0 m c (ix2 ⟨t.val * 128 + r.val, by have := lt64 t; omega⟩ ⟨1536 + k.val, by omega⟩) : EReal) := by
  unfold iblk
  rw [View.read_apply]
  show V m c main_arg0 _ = _
  rw [V_main_arg0]
  congr 1
  funext a
  apply Fin.ext
  match a with
  | ⟨0, _⟩ => show win0_1.index t 0 * 128 + 1 * r.val = t.val * 128 + r.val; rw [(index1 t).1]; omega
  | ⟨1, _⟩ => show win0_1.index t 1 * 256 + 1 * k.val = 1536 + k.val; rw [(index1 t).2]; omega

theorem blk8 (c : Dev nD) (t : Fin cfg0.N) (r : Fin 128) (k : Fin 1024) :
    (iblk m c 8 t : FVec Ideal S128x1024 .f32) (ix2 r k)
      = a1 m c (ix2 ⟨t.val * 128 + r.val, by have := lt64 t; omega⟩ ⟨k.val, by omega⟩) := by
  unfold iblk
  rw [View.read_apply]
  show V m c main_arg1 _ = _
  rw [V_main_arg1]
  congr 1
  funext a
  apply Fin.ext
  match a with
  | ⟨0, _⟩ => show win0_8.index t 0 * 128 + 1 * r.val = t.val * 128 + r.val; rw [(index8 t).1]; omega
  | ⟨1, _⟩ => show win0_8.index t 1 * 1024 + 1 * k.val = k.val; rw [(index8 t).2]; omega

theorem blk6 (c : Dev nD) (t : Fin cfg0.N) (r : Fin 256) (k : Fin 256) :
    (iblk m c 6 t : FVec Ideal S256x256 .bf16) (ix2 r k) = (a6 m c (ix2 r ⟨k.val, by omega⟩) : EReal) := by
  unfold iblk
  rw [View.read_apply]
  show V m c main_arg6 _ = _
  rw [V_main_arg6]
  congr 1
  funext a
  apply Fin.ext
  match a with
  | ⟨0, _⟩ => show win0_6.index t 0 * 256 + 1 * r.val = r.val; rw [(index6 t).1]; omega
  | ⟨1, _⟩ => show win0_6.index t 1 * 256 + 1 * k.val = k.val; rw [(index6 t).2]; omega

theorem blk7 (c : Dev nD) (t : Fin cfg0.N) (r : Fin 256) (k : Fin 256) :
    (iblk m c 7 t : FVec Ideal S256x256 .bf16) (ix2 r k) = (a6 m c (ix2 r ⟨256 + k.val, by omega⟩) : EReal) := by
  unfold iblk
  rw [View.read_apply]
  show V m c main_arg6 _ = _
  rw [V_main_arg6]
  congr 1
  funext a
  apply Fin.ext
  match a with
  | ⟨0, _⟩ => show win0_7.index t 0 * 256 + 1 * r.val = r.val; rw [(index7 t).1]; omega
  | ⟨1, _⟩ => show win0_7.index t 1 * 256 + 1 * k.val = 256 + k.val; rw [(index7 t).2]; omega

theorem blk2 (c : Dev nD) (t : Fin cfg0.N) : (iblk m c 2 t : FVec Ideal S6x128x128 .f32) = a2 m c := by
  funext j
  unfold iblk
  rw [View.read_apply]
  show V m c main_arg2 _ = _
  rw [V_main_arg2]
  congr 1
  funext a
  apply Fin.ext
  match a with
  | ⟨0, _⟩ => show win0_2.index t 0 * 6 + 1 * (j 0).val = (j 0).val; rw [(index2 t).1]; omega
  | ⟨1, _⟩ => show win0_2.index t 1 * 128 + 1 * (j 1).val = (j 1).val; rw [(index2 t).2.1]; omega
  | ⟨2, _⟩ => show win0_2.index t 2 * 128 + 1 * (j 2).val = (j 2).val; rw [(index2 t).2.2]; omega

theorem blk3 (c : Dev nD) (t : Fin cfg0.N) (r : Fin 128) (g : Fin 6) :
    (iblk m c 3 t : FVec Ideal S128x128 .f32) (ix2 r ⟨g.val, by omega⟩) = a3 m c (ix2 g r) := by
  have e : (iblk m c 3 t : FVec Ideal S128x128 .f32) = V m c main_v1 := by
    funext j
    unfold iblk
    rw [View.read_apply]
    show V m c main_v1 _ = _
    congr 1
    funext a
    apply Fin.ext
    match a with
    | ⟨0, _⟩ => show win0_3.index t 0 * 128 + 1 * (j 0).val = (j 0).val; rw [(index3 t).1]; omega
    | ⟨1, _⟩ => show win0_3.index t 1 * 128 + 1 * (j 1).val = (j 1).val; rw [(index3 t).2]; omega
  rw [e, V1]
  fin_cases g <;> pointwise []

theorem blk4 (c : Dev nD) (t : Fin cfg0.N) (g : Fin 6) (k : Fin 128) :
    (iblk m c 4 t : FVec Ideal S8x128 .f32) (ix2 ⟨g.val, by omega⟩ k) = a4 m c (ix2 g k) := by
  have e : (iblk m c 4 t : FVec Ideal S8x128 .f32) = V m c main_v2 := by
    funext j
    unfold iblk
    rw [View.read_apply]
    show V m c main_v2 _ = _
    congr 1
    funext a
    apply Fin.ext
    match a with
    | ⟨0, _⟩ => show win0_4.index t 0 * 8 + 1 * (j 0).val = (j 0).val; rw [(index4 t).1]; omega
    | ⟨1, _⟩ => show win0_4.index t 1 * 128 + 1 * (j 1).val = (j 1).val; rw [(index4 t).2]; omega
  rw [e, V2]
  fin_cases g <;> pointwise []

theorem blk5 (c : Dev nD) (t : Fin cfg0.N) (g : Fin 6) (k : Fin 128) :
    (iblk m c 5 t : FVec Ideal S8x128 .f32) (ix2 ⟨g.val, by omega⟩ k) = a5 m c (ix2 g k) := by
  have e : (iblk m c 5 t : FVec Ideal S8x128 .f32) = V m c main_v3 := by
    funext j
    unfold iblk
    rw [View.read_apply]
    show V m c main_v3 _ = _
    congr 1
    funext a
    apply Fin.ext
    match a with
    | ⟨0, _⟩ => show win0_5.index t 0 * 8 + 1 * (j 0).val = (j 0).val; rw [(index5 t).1]; omega
    | ⟨1, _⟩ => show win0_5.index t 1 * 128 + 1 * (j 1).val = (j 1).val; rw [(index5 t).2]; omega
  rw [e, V3]
  fin_cases g <;> pointwise []

variable (x0 : Vec Ideal S128x1536 .bf16) (x1 : Vec Ideal S128x256 .bf16) (x2 : Vec Ideal S6x128x128 .f32) (x3 : Vec Ideal S128x128 .f32)
  (x4 x5 : Vec Ideal S8x128 .f32) (x6 x7 : Vec Ideal S256x256 .bf16) (x8 : Vec Ideal S128x1024 .f32)

theorem group_zu (g : Fin 6) (t c : Fin 128) : (group x0 x2 x3 x4 x5 x8 g).zu (ix2 t c) = (x0 (ix2 t ⟨g * 128 + c, by omega⟩) : EReal) := by
  fin_cases g <;> (unfold group; pointwise [k0_pay7, k0_pay14, k0_pay15, k0_pay16, k0_pay17, k0_pay18, k0_pay19])
theorem group_zv (g : Fin 6) (t c : Fin 128) : (group x0 x2 x3 x4 x5 x8 g).zv (ix2 t c) = (x0 (ix2 t ⟨768 + (g * 128 + c), by omega⟩) : EReal) := by
  fin_cases g <;> (unfold group; pointwise [k0_pay7, k0_pay20, k0_pay21, k0_pay22, k0_pay23, k0_pay24, k0_pay25]) <;>
    exact congrArg (fun k => (x0 (ix2 t k) : EReal)) (Fin.ext (by simp; omega))
theorem group_w (g : Fin 6) (t c : Fin 128) : (group x0 x2 x3 x4 x5 x8 g).w (ix2 t c) = x2 (ix3 g t c) := by
  fin_cases g <;> (unfold group; pointwise [k0_pay26, k0_pay27, k0_pay28, k0_pay29, k0_pay30, k0_pay31])
theorem group_b (g : Fin 6) (t : Fin 128) (c : Fin 1) : (group x0 x2 x3 x4 x5 x8 g).b (ix2 t c) = x3 (ix2 t ⟨g, by omega⟩) := by
  fin_cases g <;> (unfold group; pointwise [k0_pay9, k0_pay32, k0_pay33, k0_pay34, k0_pay35, k0_pay36, k0_pay37])
theorem group_lg (g : Fin 6) (t : Fin 1) (c : Fin 128) : (group x0 x2 x3 x4 x5 x8 g).lg (ix2 t c) = x4 (ix2 ⟨g, by omega⟩ c) := by
  fin_cases g <;> (unfold group; pointwise [k0_pay10, k0_pay38, k0_pay39, k0_pay40, k0_pay41, k0_pay42, k0_pay43])
theorem group_lb (g : Fin 6) (t : Fin 1) (c : Fin 128) : (group x0 x2 x3 x4 x5 x8 g).lb (ix2 t c) = x5 (ix2 ⟨g, by omega⟩ c) := by
  fin_cases g <;> (unfold group; pointwise [k0_pay11, k0_pay44, k0_pay45, k0_pay46, k0_pay47, k0_pay48, k0_pay49])
theorem group_ct (g : Fin 6) (t c : Fin 128) : (group x0 x2 x3 x4 x5 x8 g).ct (ix2 t c) = x8 (ix2 t ⟨g * 128 + c, by omega⟩) := by
  fin_cases g <;> (unfold group; pointwise [k0_pay56, k0_pay57, k0_pay58, k0_pay59, k0_pay60, k0_pay61])

theorem pair_q (j : Fin 2) (t c : Fin 128) : (pair x1 x6 x7 x8 j).q (ix2 t c) = (x1 (ix2 t ⟨j * 128 + c, by omega⟩) : EReal) := by
  fin_cases j <;> (unfold pair; pointwise [k0_pay8, k0_pay50, k0_pay51])
theorem pair_k (j : Fin 2) (t : Fin 256) (c : Fin 128) : (pair x1 x6 x7 x8 j).k (ix2 t c) = (x6 (ix2 t ⟨j * 128 + c, by omega⟩) : EReal) := by
  fin_cases j <;> (unfold pair; pointwise [k0_pay12, k0_pay52, k0_pay53])
theorem pair_v (j : Fin 2) (t : Fin 256) (c : Fin 128) : (pair x1 x6 x7 x8 j).v (ix2 t c) = (x7 (ix2 t ⟨j * 128 + c, by omega⟩) : EReal) := by
  fin_cases j <;> (unfold pair; pointwise [k0_pay13, k0_pay54, k0_pay55])
theorem pair_ct (j : Fin 2) (t c : Fin 128) : (pair x1 x6 x7 x8 j).ct (ix2 t c) = x8 (ix2 t ⟨768 + (j * 128 + c), by omega⟩) := by
  fin_cases j <;> (unfold pair; pointwise [k0_pay62, k0_pay63]) <;>
    exact congrArg (fun k => x8 (ix2 t k)) (Fin.ext (by simp; omega))

/-- Two groups that read the same are the same. -/
theorem group_ext (a b : Group Ideal) (hzu : ∀ t c : Fin 128, a.zu (ix2 t c) = b.zu (ix2 t c)) (hzv : ∀ t c : Fin 128, a.zv (ix2 t c) = b.zv (ix2 t c))
    (hw : ∀ t c : Fin 128, a.w (ix2 t c) = b.w (ix2 t c)) (hb : ∀ (t : Fin 128) (c : Fin 1), a.b (ix2 t c) = b.b (ix2 t c))
    (hlg : ∀ (t : Fin 1) (c : Fin 128), a.lg (ix2 t c) = b.lg (ix2 t c)) (hlb : ∀ (t : Fin 1) (c : Fin 128), a.lb (ix2 t c) = b.lb (ix2 t c))
    (hct : ∀ t c : Fin 128, a.ct (ix2 t c) = b.ct (ix2 t c)) : a = b := by
  obtain ⟨a1, a2, a3, a4, a5, a6, a7⟩ := a
  obtain ⟨b1, b2, b3, b4, b5, b6, b7⟩ := b
  have e {S0 S1 : Nat} {f g : (⟨2, ![S0, S1]⟩ : Shape).Idx → EReal} (h : ∀ (t : Fin S0) (c : Fin S1), f (ix2 t c) = g (ix2 t c)) : f = g :=
    funext fun j => (congrArg f (eq_ix2 j)).trans ((h _ _).trans (congrArg g (eq_ix2 j)).symm)
  obtain rfl := e hzu
  obtain rfl := e hzv
  obtain rfl := e hw
  obtain rfl := e hb
  obtain rfl := e hlg
  obtain rfl := e hlb
  obtain rfl := e hct
  rfl

/-- Two pairs that read the same are the same. -/
theorem pair_ext (a b : Pair Ideal) (hq : ∀ t c : Fin 128, a.q (ix2 t c) = b.q (ix2 t c)) (hk : ∀ (t : Fin 256) (c : Fin 128), a.k (ix2 t c) = b.k (ix2 t c))
    (hv : ∀ (t : Fin 256) (c : Fin 128), a.v (ix2 t c) = b.v (ix2 t c)) (hct : ∀ t c : Fin 128, a.ct (ix2 t c) = b.ct (ix2 t c)) : a = b := by
  obtain ⟨a1, a2, a3, a4⟩ := a
  obtain ⟨b1, b2, b3, b4⟩ := b
  have e {S0 S1 : Nat} {f g : (⟨2, ![S0, S1]⟩ : Shape).Idx → EReal} (h : ∀ (t : Fin S0) (c : Fin S1), f (ix2 t c) = g (ix2 t c)) : f = g :=
    funext fun j => (congrArg f (eq_ix2 j)).trans ((h _ _).trans (congrArg g (eq_ix2 j)).symm)
  obtain rfl := e hq
  obtain rfl := e hk
  obtain rfl := e hv
  obtain rfl := e hct
  rfl

/-- The groups of a point's blocks are the arguments' groups at its rows. -/
theorem group_eq (c : Dev nD) (t : Fin cfg0.N) (g : Fin 6) :
    group (X0_0 m c t) (iblk m c 2 t) (iblk m c 3 t) (iblk m c 4 t) (iblk m c 5 t) (iblk m c 8 t) g
      = Cert.RefGroup.group (a0 m c) (a1 m c) (a2 m c) (a3 m c) (a4 m c) (a5 m c) ⟨t.val, lt64 t⟩ g :=
  group_ext _ _ (fun r k => (group_zu _ _ _ _ _ _ g r k).trans (blk0 m c t r _)) (fun r k => (group_zv _ _ _ _ _ _ g r k).trans (blk0 m c t r ⟨768 + (g * 128 + k), by omega⟩))
    (fun r k => (group_w _ _ _ _ _ _ g r k).trans (congrFun (blk2 m c t) _)) (fun r k => (group_b _ _ _ _ _ _ g r k).trans (blk3 m c t r g))
    (fun r k => (group_lg _ _ _ _ _ _ g r k).trans (blk4 m c t g k)) (fun r k => (group_lb _ _ _ _ _ _ g r k).trans (blk5 m c t g k))
    (fun r k => (group_ct _ _ _ _ _ _ g r k).trans (blk8 m c t r _))

/-- The pairs of a point's blocks are the arguments' pairs at its rows. -/
theorem pair_eq (c : Dev nD) (t : Fin cfg0.N) (j : Fin 2) :
    pair (iblk m c 1 t) (iblk m c 6 t) (iblk m c 7 t) (iblk m c 8 t) j = Cert.RefPair.pair (a0 m c) (a1 m c) (a6 m c) ⟨t.val, lt64 t⟩ j :=
  pair_ext _ _ (fun r k => (pair_q _ _ _ _ j r k).trans (blk1 m c t r _)) (fun r k => (pair_k _ _ _ _ j r k).trans (blk6 m c t r _))
    (fun r k => (pair_v _ _ _ _ j r k).trans (blk7 m c t r _)) (fun r k => (pair_ct _ _ _ _ j r k).trans (blk8 m c t r ⟨768 + (j * 128 + k), by omega⟩))

end Cert.KernelIdeal.Blocks
-- ==== Proof.Steps.lean ====
/- What one grid point leaves: the block of rows of the projection's cotangent, tile by tile, and each accumulated cotangent
   as what the point found with the point's own part added. -/
module

public import proofs.«01_k».proof.Proof.Blocks

@[expose] public section

noncomputable section

namespace Cert.KernelIdeal.Blocks

open Idealize.ShloMosaic Idealize.ShloMosaic.TcCoe Idealize.SL.Sem Cert.KernelIdeal Cert.KernelIdeal.Gen Cert.KernelIdeal.Vocab
open Idealize.ShloMosaic.Pipeline (Dat)

variable (m : (ℓ : Loc nD τ sig) → Buf (Elt Ideal) ℓ)

/-- The arguments' groups at the rows of a point. -/
abbrev G (c : Dev nD) (n : Fin 64) (g : Fin 6) : Group Ideal :=
  Cert.RefGroup.group (a0 m c) (a1 m c) (a2 m c) (a3 m c) (a4 m c) (a5 m c) n g
/-- The arguments' pairs at the rows of a point. -/
abbrev Q (c : Dev nD) (n : Fin 64) (j : Fin 2) : Pair Ideal := Cert.RefPair.pair (a0 m c) (a1 m c) (a6 m c) n j

theorem groups (c : Dev nD) (t : Fin cfg0.N) :
    group (X0_0 m c t) (iblk m c 2 t) (iblk m c 3 t) (iblk m c 4 t) (iblk m c 5 t) (iblk m c 8 t) = G m c ⟨t.val, lt64 t⟩ :=
  funext fun g => group_eq m c t g
theorem pairs (c : Dev nD) (t : Fin cfg0.N) :
    pair (iblk m c 1 t) (iblk m c 6 t) (iblk m c 7 t) (iblk m c 8 t) = Q m c ⟨t.val, lt64 t⟩ :=
  funext fun j => pair_eq m c t j

theorem N64 : cfg0.N = 64 := by decide +kernel

theorem index9 : ∀ t : Fin cfg0.N, win0_9.index t 0 = t.val ∧ win0_9.index t 1 = 0 :=
  (by decide +kernel : ∀ t : Fin grid0.N, win0_9.index t 0 = t.val ∧ win0_9.index t 1 = 0)

theorem notFirst (n : ℕ) (h : n + 1 < cfg0.N) : ¬(⟨n + 1, h⟩ : Fin cfg0.N).val % 64 = 0 := by
  have := N64
  dsimp only
  omega

/-! ## The points' steps -/

/-- A point leaves its rows of the projection's cotangent. -/
theorem rows (c : Dev nD) (t : Fin cfg0.N) :
    (outsAt0 m c t.val t.isLt).1 = dproj (G m c ⟨t.val, lt64 t⟩) (Q m c ⟨t.val, lt64 t⟩) := by
  by_cases h0 : t.val % 64 = 0
  · rw [outsAt0_A m c t h0, out_A_9, groups, pairs]
  · rw [outsAt0_B m c t h0, out_B_9, groups, pairs]

/-- The first point's part of the spatial weights' cotangent, over zero. -/
theorem first10 (c : Dev nD) (h : 0 < cfg0.N) : (outsAt0 m c 0 h).2.1 = dwAll k0_pay1 (fun g => (G m c ⟨0, by omega⟩ g).dw) := by
  rw [outsAt0_A m c ⟨0, h⟩ rfl, out_A_10, groups]
/-- A later point's part of the spatial weights' cotangent, over what the point before left. -/
theorem next10 (c : Dev nD) (n : ℕ) (h : n + 1 < cfg0.N) :
    (outsAt0 m c (n + 1) h).2.1
      = dwAll (outsAt0 m c n (Nat.lt_of_succ_lt h)).2.1 (fun g => (G m c ⟨n + 1, lt64 ⟨n + 1, h⟩⟩ g).dw) := by
  rw [outsAt0_B m c ⟨n + 1, h⟩ (notFirst n h), out_B_10, groups]
  rfl

/-- The first point's part of the bias columns' cotangent, over zero. -/
theorem first11 (c : Dev nD) (h : 0 < cfg0.N) : (outsAt0 m c 0 h).2.2.1 = dbStep k0_pay2 (fun g => (G m c ⟨0, by omega⟩ g).db) := by
  rw [outsAt0_A m c ⟨0, h⟩ rfl, out_A_11, groups]
/-- A later point's part of the bias columns' cotangent, over what the point before left. -/
theorem next11 (c : Dev nD) (n : ℕ) (h : n + 1 < cfg0.N) :
    (outsAt0 m c (n + 1) h).2.2.1
      = dbStep (outsAt0 m c n (Nat.lt_of_succ_lt h)).2.2.1 (fun g => (G m c ⟨n + 1, lt64 ⟨n + 1, h⟩⟩ g).db) := by
  rw [outsAt0_B m c ⟨n + 1, h⟩ (notFirst n h), out_B_11, groups]
  rfl

/-- The first point's part of the norm's gains' cotangent, over zero. -/
theorem first12 (c : Dev nD) (h : 0 < cfg0.N) : (outsAt0 m c 0 h).2.2.2.1 = dlStep k0_pay3 (fun g => (G m c ⟨0, by omega⟩ g).dlg) := by
  rw [outsAt0_A m c ⟨0, h⟩ rfl, out_A_12, groups]
/-- A later point's part of the norm's gains' cotangent, over what the point before left. -/
theorem next12 (c : Dev nD) (n : ℕ) (h : n + 1 < cfg0.N) :
    (outsAt0 m c (n + 1) h).2.2.2.1
      = dlStep (outsAt0 m c n (Nat.lt_of_succ_lt h)).2.2.2.1 (fun g => (G m c ⟨n + 1, lt64 ⟨n + 1, h⟩⟩ g).dlg) := by
  rw [outsAt0_B m c ⟨n + 1, h⟩ (notFirst n h), out_B_12, groups]
  rfl

/-- The first point's part of the norm's biases' cotangent, over zero. -/
theorem first13 (c : Dev nD) (h : 0 < cfg0.N) : (outsAt0 m c 0 h).2.2.2.2.1 = dlStep k0_pay4 (fun g => (G m c ⟨0, by omega⟩ g).dlb) := by
  rw [outsAt0_A m c ⟨0, h⟩ rfl, out_A_13, groups]
/-- A later point's part of the norm's biases' cotangent, over what the point before left. -/
theorem next13 (c : Dev nD) (n : ℕ) (h : n + 1 < cfg0.N) :
    (outsAt0 m c (n + 1) h).2.2.2.2.1
      = dlStep (outsAt0 m c n (Nat.lt_of_succ_lt h)).2.2.2.2.1 (fun g => (G m c ⟨n + 1, lt64 ⟨n + 1, h⟩⟩ g).dlb) := by
  rw [outsAt0_B m c ⟨n + 1, h⟩ (notFirst n h), out_B_13, groups]
  rfl

/-- The first point's part of the keys' and values' cotangent, over zero. -/
theorem first14 (c : Dev nD) (h : 0 < cfg0.N) : (outsAt0 m c 0 h).2.2.2.2.2 = dkvStep k0_pay5 (Q m c ⟨0, by omega⟩) := by
  rw [outsAt0_A m c ⟨0, h⟩ rfl, out_A_14, pairs]
/-- A later point's part of the keys' and values' cotangent, over what the point before left. -/
theorem next14 (c : Dev nD) (n : ℕ) (h : n + 1 < cfg0.N) :
    (outsAt0 m c (n + 1) h).2.2.2.2.2
      = dkvStep (outsAt0 m c n (Nat.lt_of_succ_lt h)).2.2.2.2.2 (Q m c ⟨n + 1, lt64 ⟨n + 1, h⟩⟩) := by
  rw [outsAt0_B m c ⟨n + 1, h⟩ (notFirst n h), out_B_14, pairs]
  rfl

/-! ## The steps, read at an element -/

/-- Piece `k` of a concatenation of tiles along the columns. -/
theorem concat_tiles {n : Nat} (xs : List ((s : Shape) × (s.Idx → EReal))) (h : Shape.Concatenates (xs.map (·.1)) ⟨2, ![128, n]⟩ 1)
    (k : Nat) (hk : k < xs.length) (x : Tile Ideal) (hx : xs[k] = ⟨S128x128, x⟩) (pre : Nat)
    (hpre : (((xs.take k).map (·.1)).map fun s => if h : s.rank = 2 then s.size ((1 : Fin 2).cast h.symm) else 0).sum = pre)
    (t c : Fin 128) (l : Fin n) (hl : l.val = pre + c.val) :
    concatenate ⟨2, ![128, n]⟩ 1 xs h (ix2 t l) = x (ix2 t c) :=
  concatenate_apply_piece 1 xs h (ix2 t l) k hk S128x128 x hx rfl pre hpre (ix2 t c)
    (fun b hb => by
      match b with
      | ⟨0, _⟩ => rfl
      | ⟨1, _⟩ => exact absurd rfl hb) hl.symm

abbrev cats := concatenates_S128x128_S128x128_S128x128_S128x128_S128x128_S128x128_S128x128_S128x128_S128x128_S128x128_S128x128_S128x128_S128x128_S128x128_S128x1792_d1

set_option maxHeartbeats 2000000 in
theorem dproj_zu (g : Fin 6 → Group Ideal) (p : Fin 2 → Pair Ideal) (i : Fin 6) (t c : Fin 128) :
    dproj g p (ix2 t ⟨i * 128 + c, by omega⟩) = (g i).dzu (ix2 t c) := by
  match i with
  | 0 => exact concat_tiles _ (by exact cats) 0 (by simp) _ rfl 0 rfl t c _ (by simp <;> omega)
  | 1 => exact concat_tiles _ (by exact cats) 1 (by simp) _ rfl 128 rfl t c _ (by simp <;> omega)
  | 2 => exact concat_tiles _ (by exact cats) 2 (by simp) _ rfl 256 rfl t c _ (by simp <;> omega)
  | 3 => exact concat_tiles _ (by exact cats) 3 (by simp) _ rfl 384 rfl t c _ (by simp <;> omega)
  | 4 => exact concat_tiles _ (by exact cats) 4 (by simp) _ rfl 512 rfl t c _ (by simp <;> omega)
  | 5 => exact concat_tiles _ (by exact cats) 5 (by simp) _ rfl 640 rfl t c _ (by simp <;> omega)
set_option maxHeartbeats 2000000 in
theorem dproj_zv (g : Fin 6 → Group Ideal) (p : Fin 2 → Pair Ideal) (i : Fin 6) (t c : Fin 128) :
    dproj g p (ix2 t ⟨768 + (i * 128 + c), by omega⟩) = (g i).dzv (ix2 t c) := by
  match i with
  | 0 => exact concat_tiles _ (by exact cats) 6 (by simp) _ rfl 768 rfl t c _ (by simp <;> omega)
  | 1 => exact concat_tiles _ (by exact cats) 7 (by simp) _ rfl 896 rfl t c _ (by simp <;> omega)
  | 2 => exact concat_tiles _ (by exact cats) 8 (by simp) _ rfl 1024 rfl t c _ (by simp <;> omega)
  | 3 => exact concat_tiles _ (by exact cats) 9 (by simp) _ rfl 1152 rfl t c _ (by simp <;> omega)
  | 4 => exact concat_tiles _ (by exact cats) 10 (by simp) _ rfl 1280 rfl t c _ (by simp <;> omega)
  | 5 => exact concat_tiles _ (by exact cats) 11 (by simp) _ rfl 1408 rfl t c _ (by simp <;> omega)
set_option maxHeartbeats 2000000 in
theorem dproj_q (g : Fin 6 → Group Ideal) (p : Fin 2 → Pair Ideal) (i : Fin 2) (t c : Fin 128) :
    dproj g p (ix2 t ⟨1536 + (i * 128 + c), by omega⟩) = (p i).dq (ix2 t c) := by
  match i with
  | 0 => exact concat_tiles _ (by exact cats) 12 (by simp) _ rfl 1536 rfl t c _ (by simp <;> omega)
  | 1 => exact concat_tiles _ (by exact cats) 13 (by simp) _ rfl 1664 rfl t c _ (by simp <;> omega)

/-- A selection at one index of an axis. -/
theorem sel_at (l n : Nat) (hl : l < 128) (hn : n < 6) (a : EReal) :
    Scalar.select (IntOp.cmpi .eq (BitVec.ofNat 32 l) (BitVec.ofNat 32 n)) a 0 = if l = n then a else 0 := by
  rw [WordCmp.cmpi_eq_ofNat (by omega) (by omega)]
  split <;> simp_all [Scalar.select]

theorem dbStep_at (old : Vec Ideal S128x128 .f32) (g : Fin 6 → Col Ideal) (t l : Fin 128) :
    dbStep old g (ix2 t l) = old (ix2 t l) + if h : l.val < 6 then g ⟨l, h⟩ (ix2 t 0) else 0 := by
  pointwise [dbStep, atLane, wide, tile]
  rw [sel_at l 0 l.isLt (by omega), sel_at l 1 l.isLt (by omega), sel_at l 2 l.isLt (by omega), sel_at l 3 l.isLt (by omega),
    sel_at l 4 l.isLt (by omega), sel_at l 5 l.isLt (by omega)]
  congr 1
  by_cases h : l.val < 6
  · rw [dif_pos h]
    obtain ⟨l, hl⟩ := l
    dsimp only at h ⊢
    interval_cases l <;> simp <;> rfl
  · rw [dif_neg h]
    repeat rw [if_neg (by omega)]
    simp

theorem dlStep_at (old : Vec Ideal S8x128 .f32) (g : Fin 6 → Row Ideal) (r : Fin 8) (k : Fin 128) :
    dlStep old g (ix2 r k) = old (ix2 r k) + if h : r.val < 6 then g ⟨r, h⟩ (ix2 0 k) else 0 := by
  pointwise [dlStep, atRow]
  rw [sel_at r 0 (by omega) (by omega), sel_at r 1 (by omega) (by omega), sel_at r 2 (by omega) (by omega), sel_at r 3 (by omega) (by omega),
    sel_at r 4 (by omega) (by omega), sel_at r 5 (by omega) (by omega)]
  congr 1
  by_cases h : r.val < 6
  · rw [dif_pos h]
    obtain ⟨r, hr⟩ := r
    dsimp only at h ⊢
    interval_cases r <;> simp <;> rfl
  · rw [dif_neg h]
    repeat rw [if_neg (by omega)]
    simp

theorem dkvStep_k (old : Vec Ideal S256x512 .f32) (p : Fin 2 → Pair Ideal) (j : Fin 2) (t : Fin 256) (c : Fin 128) :
    dkvStep old p (ix2 t ⟨j * 128 + c, by omega⟩) = old (ix2 t ⟨j * 128 + c, by omega⟩) + (p j).dk (ix2 t c) := by
  fin_cases j <;> pointwise [dkvStep]
theorem dkvStep_v (old : Vec Ideal S256x512 .f32) (p : Fin 2 → Pair Ideal) (j : Fin 2) (t : Fin 256) (c : Fin 128) :
    dkvStep old p (ix2 t ⟨256 + (j * 128 + c), by omega⟩) = old (ix2 t ⟨256 + (j * 128 + c), by omega⟩) + (p j).dv (ix2 t c) := by
  fin_cases j <;> pointwise [dkvStep]
  all_goals
    congr 1
    rw [dif_neg (by omega), dif_neg (by omega)]
  · rw [dif_pos (by omega)]
    exact congrArg (fun k => (p 0).dv (ix2 t k)) (Fin.ext (by simp; omega))
  · rw [dif_neg (by omega)]
    exact congrArg (fun k => (p 1).dv (ix2 t k)) (Fin.ext (by simp; omega))

end Cert.KernelIdeal.Blocks

end
-- ==== Proof.Final.lean ====
/- What the kernel's result arrays hold at its end: each block of rows of the projection's cotangent as its grid point left it,
   and each accumulated cotangent as the sum of what the grid points added to it. -/
module

public import proofs.«01_k».proof.Proof.Steps

@[expose] public section

noncomputable section

namespace Cert.KernelIdeal.Blocks

open Idealize.ShloMosaic Idealize.ShloMosaic.TcCoe Idealize.SL.Sem Cert.KernelIdeal Cert.KernelIdeal.Gen Cert.KernelIdeal.Vocab
open Idealize.ShloMosaic.Pipeline (Dat)

variable (m : (ℓ : Loc nD τ sig) → Buf (Elt Ideal) ℓ)

/-! ## The sums over the points -/

/-- What starts at the first point's part and gains each later point's part ends as the sum over the points. -/
theorem sum_points (o : (n : ℕ) → n < cfg0.N → EReal) (f : Fin 64 → EReal) (h0 : ∀ h, o 0 h = f ⟨0, by omega⟩)
    (hs : ∀ n (h : n + 1 < cfg0.N), o (n + 1) h = o n (Nat.lt_of_succ_lt h) + f ⟨n + 1, lt64 ⟨n + 1, h⟩⟩)
    (t : Fin cfg0.N) (ht : t.val % 64 = 63) : o t.val t.isLt = ∑ n, f n := by
  have e : ∀ n (h : n < cfg0.N), o n h = ∑ i ∈ Finset.range (n + 1), (if h : i < 64 then f ⟨i, h⟩ else 0) := by
    intro n
    induction n with
    | zero => intro h; rw [h0]; simp
    | succ n ih =>
      intro h
      rw [hs, ih, Finset.sum_range_succ _ (n + 1), dif_pos (lt64 ⟨n + 1, h⟩)]
  have := lt64 t
  rw [e, show t.val + 1 = 64 by omega, Finset.sum_range]
  exact Finset.sum_congr rfl fun i _ => dif_pos i.isLt

/-! ## The arrays at the end -/

theorem eq_last (s t : Fin cfg0.N) (hs : s.val % 64 = 63) (ht : t.val % 64 = 63) : s = t := by
  have := lt64 t
  have := lt64 s
  exact Fin.ext (by omega)

/-- The last grid point. -/
theorem exists_last : ∃ t : Fin cfg0.N, t.val % 64 = 63 := ⟨⟨63, by rw [N64]; omega⟩, rfl⟩

/-- The projection's cotangent, row by row of a point's block. -/
theorem arr9 (c : Dev nD) (n : Fin 64) (r : Fin 128) (k : Fin 1792) :
    ((dats m 0 c).arrAt 9 cfg0.N : FVec Ideal S8192x1792 .bf16) (ix2 ⟨n * 128 + r, by omega⟩ k)
      = dproj (G m c n) (Q m c n) (ix2 r k) := by
  have h := congrFun (Value.blocks9 m c ⟨n, by rw [N64]; omega⟩ (flush0_9 _)) (ix2 r k)
  rw [View.read_apply, Value.flushed9] at h
  refine Eq.trans ?_ (h.trans (congrFun (rows m c ⟨n, by rw [N64]; omega⟩) (ix2 r k)))
  show _ = ((dats m 0 c).arrAt 9 cfg0.N : FVec Ideal S8192x1792 .bf16) _
  congr 1
  funext a
  apply Fin.ext
  have hi := index9 ⟨n, by rw [N64]; omega⟩
  match a with
  | ⟨0, _⟩ => show n.val * 128 + r.val = win0_9.index _ 0 * 128 + 1 * r.val; rw [hi.1]; dsimp only; omega
  | ⟨1, _⟩ => show k.val = win0_9.index _ 1 * 1792 + 1 * k.val; rw [hi.2]; omega

theorem index10 : ∀ (t : Fin cfg0.N) (a : Fin 3), win0_10.index t a = 0 := by decide +kernel
/-- The array of the spatial weights' cotangent ends as the last point left its block. -/
theorem arrAt10 (c : Dev nD) (t : Fin cfg0.N) (ht : t.val % 64 = 63) :
    (dats m 0 c).arrAt 10 cfg0.N = (outsAt0 m c t.val t.isLt).2.1 := by
  have hX : ∀ s : Fin cfg0.N, s.val % 64 = 63 → (outsAt0 m c s.val s.isLt).2.1 = (outsAt0 m c t.val t.isLt).2.1 :=
    fun s hs => by rw [eq_last s t hs ht]
  generalize (outsAt0 m c t.val t.isLt).2.1 = X at hX ⊢
  have hf : ∀ s, (cfg0.win 10).flush s = true →
      (dats m 0 c).flushed 10 s = ((cfg0.win 10).blk s).view.read (Elt Ideal) (X : Buf (Elt Ideal) ((c : Thread nD τ).loc main_v4_1)) := by
    intro s hs
    show (cfg0.win 10).cut (grid0.coords s) ((dats m 0 c).after 10 s) = _
    rw [after0_10, hX s ((flush0_10 s).mp hs)]
    have hz : (fun a => win0_10.index s a * main_v4_1.ty.shape.size a) = fun _ => 0 := funext fun a => by rw [index10 s a, Nat.zero_mul]
    exact (Memref.read_access_unit_zero (Elt Ideal) main_v4_1 hz (fun a => by rw [congrFun hz a]; simp) X).symm
  refine (dats m 0 c).arrAt_eq_of_cover 10 X hf fun i => ⟨t, (flush0_10 t).mpr ht, ?_⟩
  show i ∈ ((View.whole main_v4_1).slice (win0_10.rect t)).set
  rw [View.set_slice_whole, Rect.mem_set_unit]
  intro a
  have hx : ∀ a : Fin 3, win0_10.xsize (grid0.coords t) a = win0_10.size a := by revert t; decide +kernel
  show win0_10.index t a * win0_10.size a ≤ (i a : Nat) ∧ (i a : Nat) < win0_10.index t a * win0_10.size a + win0_10.xsize (grid0.coords t) a
  rw [index10, hx, Nat.zero_mul, Nat.zero_add]
  exact ⟨Nat.zero_le _, (i a).isLt⟩

theorem index11 : ∀ (t : Fin cfg0.N) (a : Fin 2), win0_11.index t a = 0 := by decide +kernel
/-- The array of the bias columns' cotangent ends as the last point left its block. -/
theorem arrAt11 (c : Dev nD) (t : Fin cfg0.N) (ht : t.val % 64 = 63) :
    (dats m 0 c).arrAt 11 cfg0.N = (outsAt0 m c t.val t.isLt).2.2.1 := by
  have hX : ∀ s : Fin cfg0.N, s.val % 64 = 63 → (outsAt0 m c s.val s.isLt).2.2.1 = (outsAt0 m c t.val t.isLt).2.2.1 :=
    fun s hs => by rw [eq_last s t hs ht]
  generalize (outsAt0 m c t.val t.isLt).2.2.1 = X at hX ⊢
  have hf : ∀ s, (cfg0.win 11).flush s = true →
      (dats m 0 c).flushed 11 s = ((cfg0.win 11).blk s).view.read (Elt Ideal) (X : Buf (Elt Ideal) ((c : Thread nD τ).loc main_v4_2)) := by
    intro s hs
    show (cfg0.win 11).cut (grid0.coords s) ((dats m 0 c).after 11 s) = _
    rw [after0_11, hX s ((flush0_11 s).mp hs)]
    have hz : (fun a => win0_11.index s a * main_v4_2.ty.shape.size a) = fun _ => 0 := funext fun a => by rw [index11 s a, Nat.zero_mul]
    exact (Memref.read_access_unit_zero (Elt Ideal) main_v4_2 hz (fun a => by rw [congrFun hz a]; simp) X).symm
  refine (dats m 0 c).arrAt_eq_of_cover 11 X hf fun i => ⟨t, (flush0_11 t).mpr ht, ?_⟩
  show i ∈ ((View.whole main_v4_2).slice (win0_11.rect t)).set
  rw [View.set_slice_whole, Rect.mem_set_unit]
  intro a
  have hx : ∀ a : Fin 2, win0_11.xsize (grid0.coords t) a = win0_11.size a := by revert t; decide +kernel
  show win0_11.index t a * win0_11.size a ≤ (i a : Nat) ∧ (i a : Nat) < win0_11.index t a * win0_11.size a + win0_11.xsize (grid0.coords t) a
  rw [index11, hx, Nat.zero_mul, Nat.zero_add]
  exact ⟨Nat.zero_le _, (i a).isLt⟩

theorem index12 : ∀ (t : Fin cfg0.N) (a : Fin 2), win0_12.index t a = 0 := by decide +kernel
/-- The array of the norm's gains' cotangent ends as the last point left its block. -/
theorem arrAt12 (c : Dev nD) (t : Fin cfg0.N) (ht : t.val % 64 = 63) :
    (dats m 0 c).arrAt 12 cfg0.N = (outsAt0 m c t.val t.isLt).2.2.2.1 := by
  have hX : ∀ s : Fin cfg0.N, s.val % 64 = 63 → (outsAt0 m c s.val s.isLt).2.2.2.1 = (outsAt0 m c t.val t.isLt).2.2.2.1 :=
    fun s hs => by rw [eq_last s t hs ht]
  generalize (outsAt0 m c t.val t.isLt).2.2.2.1 = X at hX ⊢
  have hf : ∀ s, (cfg0.win 12).flush s = true →
      (dats m 0 c).flushed 12 s = ((cfg0.win 12).blk s).view.read (Elt Ideal) (X : Buf (Elt Ideal) ((c : Thread nD τ).loc main_v4_3)) := by
    intro s hs
    show (cfg0.win 12).cut (grid0.coords s) ((dats m 0 c).after 12 s) = _
    rw [after0_12, hX s ((flush0_12 s).mp hs)]
    have hz : (fun a => win0_12.index s a * main_v4_3.ty.shape.size a) = fun _ => 0 := funext fun a => by rw [index12 s a, Nat.zero_mul]
    exact (Memref.read_access_unit_zero (Elt Ideal) main_v4_3 hz (fun a => by rw [congrFun hz a]; simp) X).symm
  refine (dats m 0 c).arrAt_eq_of_cover 12 X hf fun i => ⟨t, (flush0_12 t).mpr ht, ?_⟩
  show i ∈ ((View.whole main_v4_3).slice (win0_12.rect t)).set
  rw [View.set_slice_whole, Rect.mem_set_unit]
  intro a
  have hx : ∀ a : Fin 2, win0_12.xsize (grid0.coords t) a = win0_12.size a := by revert t; decide +kernel
  show win0_12.index t a * win0_12.size a ≤ (i a : Nat) ∧ (i a : Nat) < win0_12.index t a * win0_12.size a + win0_12.xsize (grid0.coords t) a
  rw [index12, hx, Nat.zero_mul, Nat.zero_add]
  exact ⟨Nat.zero_le _, (i a).isLt⟩

theorem index13 : ∀ (t : Fin cfg0.N) (a : Fin 2), win0_13.index t a = 0 := by decide +kernel
/-- The array of the norm's biases' cotangent ends as the last point left its block. -/
theorem arrAt13 (c : Dev nD) (t : Fin cfg0.N) (ht : t.val % 64 = 63) :
    (dats m 0 c).arrAt 13 cfg0.N = (outsAt0 m c t.val t.isLt).2.2.2.2.1 := by
  have hX : ∀ s : Fin cfg0.N, s.val % 64 = 63 → (outsAt0 m c s.val s.isLt).2.2.2.2.1 = (outsAt0 m c t.val t.isLt).2.2.2.2.1 :=
    fun s hs => by rw [eq_last s t hs ht]
  generalize (outsAt0 m c t.val t.isLt).2.2.2.2.1 = X at hX ⊢
  have hf : ∀ s, (cfg0.win 13).flush s = true →
      (dats m 0 c).flushed 13 s = ((cfg0.win 13).blk s).view.read (Elt Ideal) (X : Buf (Elt Ideal) ((c : Thread nD τ).loc main_v4_4)) := by
    intro s hs
    show (cfg0.win 13).cut (grid0.coords s) ((dats m 0 c).after 13 s) = _
    rw [after0_13, hX s ((flush0_13 s).mp hs)]
    have hz : (fun a => win0_13.index s a * main_v4_4.ty.shape.size a) = fun _ => 0 := funext fun a => by rw [index13 s a, Nat.zero_mul]
    exact (Memref.read_access_unit_zero (Elt Ideal) main_v4_4 hz (fun a => by rw [congrFun hz a]; simp) X).symm
  refine (dats m 0 c).arrAt_eq_of_cover 13 X hf fun i => ⟨t, (flush0_13 t).mpr ht, ?_⟩
  show i ∈ ((View.whole main_v4_4).slice (win0_13.rect t)).set
  rw [View.set_slice_whole, Rect.mem_set_unit]
  intro a
  have hx : ∀ a : Fin 2, win0_13.xsize (grid0.coords t) a = win0_13.size a := by revert t; decide +kernel
  show win0_13.index t a * win0_13.size a ≤ (i a : Nat) ∧ (i a : Nat) < win0_13.index t a * win0_13.size a + win0_13.xsize (grid0.coords t) a
  rw [index13, hx, Nat.zero_mul, Nat.zero_add]
  exact ⟨Nat.zero_le _, (i a).isLt⟩

theorem index14 : ∀ (t : Fin cfg0.N) (a : Fin 2), win0_14.index t a = 0 := by decide +kernel
/-- The array of the keys' and values' cotangent ends as the last point left its block. -/
theorem arrAt14 (c : Dev nD) (t : Fin cfg0.N) (ht : t.val % 64 = 63) :
    (dats m 0 c).arrAt 14 cfg0.N = (outsAt0 m c t.val t.isLt).2.2.2.2.2 := by
  have hX : ∀ s : Fin cfg0.N, s.val % 64 = 63 → (outsAt0 m c s.val s.isLt).2.2.2.2.2 = (outsAt0 m c t.val t.isLt).2.2.2.2.2 :=
    fun s hs => by rw [eq_last s t hs ht]
  generalize (outsAt0 m c t.val t.isLt).2.2.2.2.2 = X at hX ⊢
  have hf : ∀ s, (cfg0.win 14).flush s = true →
      (dats m 0 c).flushed 14 s = ((cfg0.win 14).blk s).view.read (Elt Ideal) (X : Buf (Elt Ideal) ((c : Thread nD τ).loc main_v4_5)) := by
    intro s hs
    show (cfg0.win 14).cut (grid0.coords s) ((dats m 0 c).after 14 s) = _
    rw [after0_14, hX s ((flush0_14 s).mp hs)]
    have hz : (fun a => win0_14.index s a * main_v4_5.ty.shape.size a) = fun _ => 0 := funext fun a => by rw [index14 s a, Nat.zero_mul]
    exact (Memref.read_access_unit_zero (Elt Ideal) main_v4_5 hz (fun a => by rw [congrFun hz a]; simp) X).symm
  refine (dats m 0 c).arrAt_eq_of_cover 14 X hf fun i => ⟨t, (flush0_14 t).mpr ht, ?_⟩
  show i ∈ ((View.whole main_v4_5).slice (win0_14.rect t)).set
  rw [View.set_slice_whole, Rect.mem_set_unit]
  intro a
  have hx : ∀ a : Fin 2, win0_14.xsize (grid0.coords t) a = win0_14.size a := by revert t; decide +kernel
  show win0_14.index t a * win0_14.size a ≤ (i a : Nat) ∧ (i a : Nat) < win0_14.index t a * win0_14.size a + win0_14.xsize (grid0.coords t) a
  rw [index14, hx, Nat.zero_mul, Nat.zero_add]
  exact ⟨Nat.zero_le _, (i a).isLt⟩

/-! ## The accumulated cotangents at the end -/

theorem sum10 (c : Dev nD) (g : Fin 6) (t k : Fin 128) :
    ((dats m 0 c).arrAt 10 cfg0.N : FVec Ideal S6x128x128 .f32) (ix3 g t k) = ∑ n, (G m c n g).dw (ix2 t k) := by
  obtain ⟨e, he⟩ := exists_last
  refine (congrFun (arrAt10 m c e he) (ix3 g t k)).trans ?_
  refine sum_points (fun n h => ((outsAt0 m c n h).2.1 : FVec Ideal S6x128x128 .f32) (ix3 g t k)) (fun n => (G m c n g).dw (ix2 t k)) (fun h => ?_) (fun n h => ?_) e he
  · rw [first10]
    show k0_pay1 (ix3 g t k) + (G m c ⟨0, _⟩ g).dw (ix2 t k) = _
    rw [show (k0_pay1 (F := Ideal) (ix3 g t k) : EReal) = 0 by pointwise [k0_pay1], zero_add]
  · rw [next10]
    rfl
theorem sum11 (c : Dev nD) (t l : Fin 128) :
    ((dats m 0 c).arrAt 11 cfg0.N : FVec Ideal S128x128 .f32) (ix2 t l) = ∑ n, (if h : l.val < 6 then (G m c n ⟨l, h⟩).db (ix2 t 0) else 0) := by
  obtain ⟨e, he⟩ := exists_last
  refine (congrFun (arrAt11 m c e he) (ix2 t l)).trans ?_
  refine sum_points (fun n h => ((outsAt0 m c n h).2.2.1 : FVec Ideal S128x128 .f32) (ix2 t l)) (fun n => (if h : l.val < 6 then (G m c n ⟨l, h⟩).db (ix2 t 0) else 0)) (fun h => ?_) (fun n h => ?_) e he
  · rw [first11, dbStep_at, show (k0_pay2 (F := Ideal) (ix2 t l) : EReal) = 0 by pointwise [k0_pay2], zero_add]
  · rw [next11, dbStep_at]
theorem sum12 (c : Dev nD) (r : Fin 8) (k : Fin 128) :
    ((dats m 0 c).arrAt 12 cfg0.N : FVec Ideal S8x128 .f32) (ix2 r k) = ∑ n, (if h : r.val < 6 then (G m c n ⟨r, h⟩).dlg (ix2 0 k) else 0) := by
  obtain ⟨e, he⟩ := exists_last
  refine (congrFun (arrAt12 m c e he) (ix2 r k)).trans ?_
  refine sum_points (fun n h => ((outsAt0 m c n h).2.2.2.1 : FVec Ideal S8x128 .f32) (ix2 r k)) (fun n => (if h : r.val < 6 then (G m c n ⟨r, h⟩).dlg (ix2 0 k) else 0)) (fun h => ?_) (fun n h => ?_) e he
  · rw [first12, dlStep_at, show (k0_pay3 (F := Ideal) (ix2 r k) : EReal) = 0 by pointwise [k0_pay3], zero_add]
  · rw [next12, dlStep_at]
theorem sum13 (c : Dev nD) (r : Fin 8) (k : Fin 128) :
    ((dats m 0 c).arrAt 13 cfg0.N : FVec Ideal S8x128 .f32) (ix2 r k) = ∑ n, (if h : r.val < 6 then (G m c n ⟨r, h⟩).dlb (ix2 0 k) else 0) := by
  obtain ⟨e, he⟩ := exists_last
  refine (congrFun (arrAt13 m c e he) (ix2 r k)).trans ?_
  refine sum_points (fun n h => ((outsAt0 m c n h).2.2.2.2.1 : FVec Ideal S8x128 .f32) (ix2 r k)) (fun n => (if h : r.val < 6 then (G m c n ⟨r, h⟩).dlb (ix2 0 k) else 0)) (fun h => ?_) (fun n h => ?_) e he
  · rw [first13, dlStep_at, show (k0_pay4 (F := Ideal) (ix2 r k) : EReal) = 0 by pointwise [k0_pay4], zero_add]
  · rw [next13, dlStep_at]
theorem sum14_k (c : Dev nD) (j : Fin 2) (t : Fin 256) (k : Fin 128) :
    ((dats m 0 c).arrAt 14 cfg0.N : FVec Ideal S256x512 .f32) (ix2 t ⟨j * 128 + k, by omega⟩) = ∑ n, (Q m c n j).dk (ix2 t k) := by
  obtain ⟨e, he⟩ := exists_last
  refine (congrFun (arrAt14 m c e he) (ix2 t ⟨j * 128 + k, by omega⟩)).trans ?_
  refine sum_points (fun n h => ((outsAt0 m c n h).2.2.2.2.2 : FVec Ideal S256x512 .f32) (ix2 t ⟨j * 128 + k, by omega⟩)) (fun n => (Q m c n j).dk (ix2 t k)) (fun h => ?_) (fun n h => ?_) e he
  · rw [first14, dkvStep_k, show (k0_pay5 (F := Ideal) (ix2 t ⟨j * 128 + k, by omega⟩) : EReal) = 0 by pointwise [k0_pay5], zero_add]
  · rw [next14, dkvStep_k]
theorem sum14_v (c : Dev nD) (j : Fin 2) (t : Fin 256) (k : Fin 128) :
    ((dats m 0 c).arrAt 14 cfg0.N : FVec Ideal S256x512 .f32) (ix2 t ⟨256 + (j * 128 + k), by omega⟩) = ∑ n, (Q m c n j).dv (ix2 t k) := by
  obtain ⟨e, he⟩ := exists_last
  refine (congrFun (arrAt14 m c e he) (ix2 t ⟨256 + (j * 128 + k), by omega⟩)).trans ?_
  refine sum_points (fun n h => ((outsAt0 m c n h).2.2.2.2.2 : FVec Ideal S256x512 .f32) (ix2 t ⟨256 + (j * 128 + k), by omega⟩)) (fun n => (Q m c n j).dv (ix2 t k)) (fun h => ?_) (fun n h => ?_) e he
  · rw [first14, dkvStep_v, show (k0_pay5 (F := Ideal) (ix2 t ⟨256 + (j * 128 + k), by omega⟩) : EReal) = 0 by pointwise [k0_pay5], zero_add]
  · rw [next14, dkvStep_v]

end Cert.KernelIdeal.Blocks

end
-- ==== Proof.Equal.lean ====
/- The kernel's result arrays at its end are the reference's results of the same arguments: the gating heads' parts always, the
   memory heads' parts where the queries and keys are finite. -/
module

public import proofs.«01_k».proof.Proof.Final
public import proofs.«01_k».proof.Pre_memory_finite
public import proofs.«01_k».proof.On_gating_part

@[expose] public section

noncomputable section

namespace Cert.KernelIdeal.Blocks

open Idealize.ShloMosaic Idealize.ShloMosaic.TcCoe Idealize.SL.Sem Cert.KernelIdeal Cert.KernelIdeal.Gen Cert.KernelIdeal.Vocab
open Cert.ReferenceIdeal.Read
open Cert.RefPair (DenNe)

variable (m : (ℓ : Loc nD τ sig) → Buf (Elt Ideal) ℓ)

/-- The reference's projection cotangent at a gating column. -/
theorem ref_gate (x0 x1 x2 x3 x4 x5 x6) (r : Fin 8192) (k : Fin 1792) (h : k.val < 1536) :
    (val_main_v199 (F := Ideal) x0 x1 x2 x3 x4 x5 x6 (ix2 r k) : EReal) = val_main_v197 (F := Ideal) x0 x1 x2 x3 x4 x5 (ix2 r ⟨k.val, h⟩) := by
  pointwise [val_main_v199, val_main_v198]
  rw [dif_pos h]
/-- The reference's projection cotangent at a memory column. -/
theorem ref_memory (x0 x1 x2 x3 x4 x5 x6) (r : Fin 8192) (k : Fin 256) :
    (val_main_v199 (F := Ideal) x0 x1 x2 x3 x4 x5 x6 (ix2 r ⟨1536 + k.val, by omega⟩) : EReal) = val_main_v138 (F := Ideal) x0 x1 x6 (ix2 r k) := by
  pointwise [val_main_v199, val_main_v198]

/-- The projection's cotangent at a gating column. -/
theorem eq9_gate (c : Dev nD) (r : Fin 8192) (k : Fin 1792) (h : k.val < 1536) :
    ((dats m 0 c).arrAt 9 cfg0.N : FVec Ideal S8192x1792 .bf16) (ix2 r k)
      = val_main_v199 (F := Ideal) (a0 m c) (a1 m c) (a2 m c) (a3 m c) (a4 m c) (a5 m c) (a6 m c) (ix2 r k) := by
  refine Eq.trans ?_ (ref_gate _ _ _ _ _ _ _ r k h).symm
  obtain ⟨n, t, hr⟩ : ∃ (n : Fin 64) (t : Fin 128), r = ⟨n * 128 + t, by omega⟩ :=
    ⟨⟨r.val / 128, by omega⟩, ⟨r.val % 128, by omega⟩, Fin.ext (by dsimp only; omega)⟩
  subst hr
  by_cases hk : k.val < 768
  · obtain ⟨k, hk⟩ := k
    dsimp only at *
    obtain ⟨g, l, rfl⟩ : ∃ (g : Fin 6) (l : Fin 128), k = g * 128 + l :=
      ⟨⟨k / 128, by omega⟩, ⟨k % 128, by omega⟩, by dsimp only; omega⟩
    rw [arr9, dproj_zu]
    exact (Cert.RefGroup.dzu _ _ _ _ _ _ n g t l).symm
  · obtain ⟨k, hk⟩ := k
    have hb : k < 1536 := h
    dsimp only at *
    obtain ⟨g, l, rfl⟩ : ∃ (g : Fin 6) (l : Fin 128), k = 768 + (g * 128 + l) :=
      ⟨⟨(k - 768) / 128, by omega⟩, ⟨(k - 768) % 128, by omega⟩, by dsimp only; omega⟩
    rw [arr9, dproj_zv]
    exact (Cert.RefGroup.dzv _ _ _ _ _ _ n g t l).symm

/-- The projection's cotangent at a memory column. -/
theorem eq9_memory (c : Dev nD) (D : DenNe (a0 m c) (a6 m c)) (r : Fin 8192) (k : Fin 256) :
    ((dats m 0 c).arrAt 9 cfg0.N : FVec Ideal S8192x1792 .bf16) (ix2 r ⟨1536 + k.val, by omega⟩)
      = val_main_v199 (F := Ideal) (a0 m c) (a1 m c) (a2 m c) (a3 m c) (a4 m c) (a5 m c) (a6 m c) (ix2 r ⟨1536 + k.val, by omega⟩) := by
  refine Eq.trans ?_ (ref_memory _ _ _ _ _ _ _ r k).symm
  obtain ⟨n, t, hr⟩ : ∃ (n : Fin 64) (t : Fin 128), r = ⟨n * 128 + t, by omega⟩ :=
    ⟨⟨r.val / 128, by omega⟩, ⟨r.val % 128, by omega⟩, Fin.ext (by dsimp only; omega)⟩
  subst hr
  obtain ⟨k, hk⟩ := k
  dsimp only at *
  obtain ⟨j, l, rfl⟩ : ∃ (j : Fin 2) (l : Fin 128), k = j * 128 + l :=
    ⟨⟨k / 128, by omega⟩, ⟨k % 128, by omega⟩, by dsimp only; omega⟩
  rw [arr9, dproj_q]
  exact (Cert.RefPair.dq _ D n j t l).symm

/-- The projection's cotangent. -/
theorem eq9 (c : Dev nD) (D : DenNe (a0 m c) (a6 m c)) :
    (dats m 0 c).arrAt 9 cfg0.N
      = val_main_v199 (F := Ideal) (a0 m c) (a1 m c) (a2 m c) (a3 m c) (a4 m c) (a5 m c) (a6 m c) := by
  funext i
  obtain ⟨r, k, hi⟩ : ∃ (r : Fin 8192) (k : Fin 1792), i = ix2 r k := ⟨i 0, i 1, eq_ix2 i⟩
  subst hi
  by_cases h : k.val < 1536
  · exact eq9_gate m c r k h
  · obtain ⟨k, hk⟩ := k
    dsimp only at h
    obtain ⟨l, rfl⟩ : ∃ l : Fin 256, k = 1536 + l.val := ⟨⟨k - 1536, by omega⟩, by dsimp only; omega⟩
    exact eq9_memory m c D r l

/-- The spatial weights' cotangent. -/
theorem eq10 (c : Dev nD) :
    (dats m 0 c).arrAt 10 cfg0.N = val_main_v150 (F := Ideal) (a0 m c) (a1 m c) (a4 m c) (a5 m c) := by
  funext i
  obtain ⟨g, t, k, hi⟩ : ∃ (g : Fin 6) (t k : Fin 128), i = ix3 g t k := ⟨i 0, i 1, i 2, eq_ix3 i⟩
  subst hi
  exact (sum10 m c g t k).trans (Cert.RefGroup.dw _ _ _ _ _ _ g t k).symm

/-- The word zero as a float. -/
theorem sitofp_zero : (FloatOps.sitofp (F := Ideal) .f32 0#32 : EReal) = 0 := by
  show (((0#32).toInt : ℝ) : EReal) = 0
  simp

/-- The bias columns' cotangent: a group's column, or zero past the last group. -/
theorem eq11 (c : Dev nD) :
    (dats m 0 c).arrAt 11 cfg0.N = val_main_v201 (F := Ideal) (a0 m c) (a1 m c) := by
  funext i
  obtain ⟨t, l, hi⟩ : ∃ t l : Fin 128, i = ix2 t l := ⟨i 0, i 1, eq_ix2 i⟩
  subst hi
  refine (sum11 m c t l).trans ?_
  by_cases h : l.val < 6
  · simp only [dif_pos h]
    refine (Cert.RefGroup.db _ _ _ _ _ _ ⟨l, h⟩ t).symm.trans ?_
    pointwise [val_main_v201, val_main_v200]
    rw [dif_pos h]
  · simp only [dif_neg h, Finset.sum_const_zero]
    pointwise [val_main_v201, val_main_v200, val_main_call3_v0, val_main_c_44]
    rw [dif_neg h]
    exact sitofp_zero.symm

/-- The norm's gains' cotangent: a group's row, or zero past the last group. -/
theorem eq12 (c : Dev nD) :
    (dats m 0 c).arrAt 12 cfg0.N = val_main_v202 (F := Ideal) (a0 m c) (a1 m c) (a2 m c) := by
  funext i
  obtain ⟨r, k, hi⟩ : ∃ (r : Fin 8) (k : Fin 128), i = ix2 r k := ⟨i 0, i 1, eq_ix2 i⟩
  subst hi
  refine (sum12 m c r k).trans ?_
  by_cases h : r.val < 6
  · simp only [dif_pos h]
    refine (Cert.RefGroup.dlg _ _ _ _ _ _ ⟨r, h⟩ k).symm.trans ?_
    pointwise [val_main_v202]
    rw [dif_pos h]
  · simp only [dif_neg h, Finset.sum_const_zero]
    pointwise [val_main_v202, val_main_call4_v0, val_main_c_45]
    rw [dif_neg h]
    exact sitofp_zero.symm

/-- The norm's biases' cotangent: a group's row, or zero past the last group. -/
theorem eq13 (c : Dev nD) :
    (dats m 0 c).arrAt 13 cfg0.N = val_main_v203 (F := Ideal) (a0 m c) (a1 m c) (a2 m c) := by
  funext i
  obtain ⟨r, k, hi⟩ : ∃ (r : Fin 8) (k : Fin 128), i = ix2 r k := ⟨i 0, i 1, eq_ix2 i⟩
  subst hi
  refine (sum13 m c r k).trans ?_
  by_cases h : r.val < 6
  · simp only [dif_pos h]
    refine (Cert.RefGroup.dlb _ _ _ _ _ _ ⟨r, h⟩ k).symm.trans ?_
    pointwise [val_main_v203]
    rw [dif_pos h]
  · simp only [dif_neg h, Finset.sum_const_zero]
    pointwise [val_main_v203, val_main_call5_v0, val_main_c_46]
    rw [dif_neg h]
    exact sitofp_zero.symm

/-- The keys' and values' cotangent. -/
theorem eq14 (c : Dev nD) (D : DenNe (a0 m c) (a6 m c)) :
    (dats m 0 c).arrAt 14 cfg0.N = val_main_v137 (F := Ideal) (a0 m c) (a1 m c) (a6 m c) := by
  funext i
  obtain ⟨t, k, hi⟩ : ∃ (t : Fin 256) (k : Fin 512), i = ix2 t k := ⟨i 0, i 1, eq_ix2 i⟩
  subst hi
  by_cases h : k.val < 256
  · obtain ⟨k, hk⟩ := k
    dsimp only at *
    obtain ⟨j, l, rfl⟩ : ∃ (j : Fin 2) (l : Fin 128), k = j * 128 + l :=
      ⟨⟨k / 128, by omega⟩, ⟨k % 128, by omega⟩, by dsimp only; omega⟩
    exact (sum14_k m c j t l).trans (Cert.RefPair.dk _ D j t l).symm
  · obtain ⟨k, hk⟩ := k
    dsimp only at *
    obtain ⟨j, l, rfl⟩ : ∃ (j : Fin 2) (l : Fin 128), k = 256 + (j * 128 + l) :=
      ⟨⟨(k - 256) / 128, by omega⟩, ⟨(k - 256) % 128, by omega⟩, by dsimp only; omega⟩
    exact (sum14_v m c j t l).trans (Cert.RefPair.dv _ D j t l).symm

/-! ## The precondition and the mask -/

theorem facts_memory_finite : Cert.Pre_memory_finite.Facts := ⟨by decide, by decide, by decide, by decide, by decide⟩
theorem facts_gating_part : Cert.On_gating_part.Facts := ⟨by decide, by decide, by decide, by decide, by decide, by decide⟩

/-- A magnitude below the bits of infinity is a real number's. -/
theorem real_of_lt (x : EReal)
    (h : BitVec.ofBool (decide (FloatOps.absf (F := Ideal) (φ := .f32) x < Ideal.ofBits .f32 0x7F800000#32)) = 1#1) :
    ∃ y : ℝ, x = y := by
  have h' : FloatOps.absf (F := Ideal) (φ := .f32) x < Ideal.ofBits .f32 0x7F800000#32 := by
    by_contra hn
    rw [decide_eq_false hn] at h
    exact absurd h (by decide)
  rw [show Ideal.ofBits .f32 0x7F800000#32 = ⊤ by simp [Ideal.ofBits, Ideal.ieee]] at h'
  induction x using EReal.rec with
  | bot => exact absurd h' (by simp [FloatOps.absf])
  | top => exact absurd h' (by simp [FloatOps.absf])
  | coe y => exact ⟨y, rfl⟩

/-- Where the queries and keys are finite, no row of exponentials sums to zero. -/
theorem den_ne (x0 x1 x2 x3 x4 x5 x6) (h : (@Cert.Pre_memory_finite.fn facts_memory_finite Ideal _ x0 x1 x2 x3 x4 x5 x6).1 = fun _ => 1#1)
    (h' : (@Cert.Pre_memory_finite.fn facts_memory_finite Ideal _ x0 x1 x2 x3 x4 x5 x6).2 = fun _ => 1#1) : DenNe x0 x6 := by
  refine Cert.RefPair.denNe (fun r k => real_of_lt _ ?_) (fun r k => real_of_lt _ ?_)
  · have := congrFun h (ix2 r k)
    revert this
    pointwise [Cert.Pre_memory_finite.fn]
    exact id
  · have := congrFun h' (ix2 r k)
    revert this
    pointwise [Cert.Pre_memory_finite.fn]
    exact id

/-- The mask selects gating columns only. -/
theorem mask_gate (x0 x1 x2 x3 x4 x5 x6) (r : Fin 8192) (k : Fin 1792)
    (h : (@Cert.On_gating_part.fn facts_gating_part Ideal _ x0 x1 x2 x3 x4 x5 x6).1 (ix2 r k) = 1#1) : k.val < 1536 := by
  have e : (@Cert.On_gating_part.fn facts_gating_part Ideal _ x0 x1 x2 x3 x4 x5 x6).1 (ix2 r k)
      = IntOp.cmpi .slt (BitVec.ofNat 32 k.val) 1536#32 := by pointwise [Cert.On_gating_part.fn]
  rw [e] at h
  exact (by decide +kernel : ∀ k : Fin 1792, IntOp.cmpi .slt (BitVec.ofNat 32 k.val) 1536#32 = 1#1 → k.val < 1536) k h

/-- The mask selects nothing of the keys' and values' cotangent. -/
theorem mask_kv (x0 x1 x2 x3 x4 x5 x6) (i : S256x512.Idx)
    (h : (@Cert.On_gating_part.fn facts_gating_part Ideal _ x0 x1 x2 x3 x4 x5 x6).2.2.2.2.2 i = 1#1) : False := by
  have e : (@Cert.On_gating_part.fn facts_gating_part Ideal _ x0 x1 x2 x3 x4 x5 x6).2.2.2.2.2 i = 0#1 := by
    pointwise [Cert.On_gating_part.fn]
  rw [e] at h
  exact absurd h (by decide)

end Cert.KernelIdeal.Blocks

end
-- ==== Proof.DownDx.lean ====
/- The gradient through the down weights and the activation: what each grid point leaves, and the result at the end. -/
module

public import proofs.«01_k».proof.Proof.Equal
public import proofs.«01_k».proof.Proof.Sums
public import Idealize.ShloMosaic.Lib.Pipeline.ReadBack
public import Idealize.ShloMosaic.Lib.Pipeline.ValueKit.Tiles
public import proofs.«01_k».proof.Proof.Gen.Kernel5Ideal.Value
public import proofs.«01_k».proof.Proof.Gen.Reference5Ideal.Read
public import proofs.«01_k».proof.Pre_gated_cotangent_finite
public import proofs.«01_k».proof.On_finite_or_up

@[expose] public section

noncomputable section

namespace Cert.Kernel5Ideal.Blocks

open Idealize.ShloMosaic Idealize.ShloMosaic.TcCoe Idealize.ShloMosaic.Tactic Idealize.SL.Sem Cert.Kernel5Ideal Cert.Kernel5Ideal.Gen
open Cert.Reference5Ideal.Read Cert.Sums

theorem hz : (![0, 0] : Fin 2 → Nat) = fun _ => 0 := funext fun a => by fin_cases a <;> rfl
theorem hz3 : (![0, 0, 0] : Fin 3 → Nat) = fun _ => 0 := funext fun a => by fin_cases a <;> rfl

/-- A real multiple of the logistic's derivative, as one product and as a sum of two. -/
theorem slope (p : ℝ) (x s : EReal) (hs : s = Ideal.div 1 (1 + Ideal.exp (-x))) :
    (p : EReal) * (s + x * s * (1 - s)) = p * s + x * p * (s * (1 - s)) := by
  induction x using EReal.rec with
  | bot =>
    have h : s = 0 := by
      rw [hs, EReal.neg_bot, show Ideal.exp ⊤ = ⊤ from rfl, show (1 : EReal) + ⊤ = ⊤ from rfl]
      simp [Ideal.div]
    simp [h]
  | top =>
    have h : s = 1 := by
      rw [hs, EReal.neg_top, show Ideal.exp ⊥ = 0 from rfl, add_zero]
      simp [Ideal.div]
    have h1 : (1 : EReal) - 1 = 0 := by rw [← EReal.coe_one, ← EReal.coe_sub, sub_self, EReal.coe_zero]
    simp [h, h1]
  | coe x =>
    have hn : (1 : ℝ) + Real.exp (-x) ≠ 0 := by positivity
    obtain ⟨y, rfl⟩ : ∃ y : ℝ, s = y := by
      refine ⟨(1 + Real.exp (-x))⁻¹, ?_⟩
      rw [hs, ← EReal.coe_neg, Ideal.exp_coe, ← EReal.coe_one, ← EReal.coe_add]
      unfold Ideal.div
      rw [if_neg (by exact_mod_cast hn), EReal.coe_one, one_mul, EReal.coe_inv]
    norm_cast
    ring

/-! ## What a point leaves -/

section Points

variable (x0 : Vec Ideal S512x1024 .bf16) (x1 : Vec Ideal S1x2816x1024 .bf16) (x2 : Vec Ideal S2x512x2816 .bf16)

/-- The activation's cotangent. -/
def dact (r : Fin 512) (k : Fin 2816) : EReal := ∑ d : Fin 1024, x0 (ix2 r d) * x1 (ix3 0 k d)

/-- The activation's cotangent, times each of the two factors. -/
def prod : FVec Ideal S2x512x2816 .bf16 := fun y => (dact x0 x1 (y 1) (y 2) * x2 y : EReal)

/-- The four stores leave the two products. -/
theorem out3_eq : out0_3 x0 x1 x2 = prod x0 x1 x2 := by
  unfold out0_3
  simp only [View.ld_unit_zero (S := S512x1024) hz]
  funext y
  refine View.canon_apply_of_pieces (Val := Elt Ideal) (e := .bf16) (prod x0 x1 x2) _ ?_ y ?_
  swap
  · exact View.cover_of_tiledL (s := S2x512x2816) _ S1x512x1408.size (by sl_kernel_rfl) y
  intro p hp z
  simp only [List.mem_cons, List.not_mem_nil, or_false] at hp
  rcases hp with rfl | rfl | rfl | rfl
  · obtain ⟨r, q, rfl⟩ : ∃ (r : Fin 512) (q : Fin 1408), z = ix3 0 r q := by
      refine ⟨z 1, z 2, (eq_ix3 z).trans (congrArg (fun x => ix3 x (z 1) (z 2)) (Fin.ext ?_))⟩
      have h : (z 0).val < 1 := (z 0).isLt
      show (z 0).val = 0
      omega
    refine Eq.trans ?_ (congrArg (prod x0 x1 x2) (show ix3 1 r ⟨1408 + q.val, by omega⟩ = _ from ?_))
    · unfold prod dact
      pointwise [k0_pay2, k0_pay6]
    · funext a
      apply Fin.ext
      match a with
      | ⟨0, _⟩ => show 1 = 1 + 1 * 0; omega
      | ⟨1, _⟩ => show r.val = 0 + 1 * r.val; omega
      | ⟨2, _⟩ => show 1408 + q.val = 1408 + 1 * q.val; omega
  · obtain ⟨r, q, rfl⟩ : ∃ (r : Fin 512) (q : Fin 1408), z = ix3 0 r q := by
      refine ⟨z 1, z 2, (eq_ix3 z).trans (congrArg (fun x => ix3 x (z 1) (z 2)) (Fin.ext ?_))⟩
      have h : (z 0).val < 1 := (z 0).isLt
      show (z 0).val = 0
      omega
    refine Eq.trans ?_ (congrArg (prod x0 x1 x2) (show ix3 0 r ⟨1408 + q.val, by omega⟩ = _ from ?_))
    · unfold prod dact
      pointwise [k0_pay1, k0_pay7, k0_pay6]
    · funext a
      apply Fin.ext
      match a with
      | ⟨0, _⟩ => show 0 = 0 + 1 * 0; omega
      | ⟨1, _⟩ => show r.val = 0 + 1 * r.val; omega
      | ⟨2, _⟩ => show 1408 + q.val = 1408 + 1 * q.val; omega
  · obtain ⟨r, q, rfl⟩ : ∃ (r : Fin 512) (q : Fin 1408), z = ix3 0 r q := by
      refine ⟨z 1, z 2, (eq_ix3 z).trans (congrArg (fun x => ix3 x (z 1) (z 2)) (Fin.ext ?_))⟩
      have h : (z 0).val < 1 := (z 0).isLt
      show (z 0).val = 0
      omega
    refine Eq.trans ?_ (congrArg (prod x0 x1 x2) (show ix3 1 r ⟨0 + q.val, by omega⟩ = _ from ?_))
    · unfold prod dact
      pointwise [k0_pay5, k0_pay3]
    · funext a
      apply Fin.ext
      match a with
      | ⟨0, _⟩ => show 1 = 1 + 1 * 0; omega
      | ⟨1, _⟩ => show r.val = 0 + 1 * r.val; omega
      | ⟨2, _⟩ => show 0 + q.val = 0 + 1 * q.val; omega
  · obtain ⟨r, q, rfl⟩ : ∃ (r : Fin 512) (q : Fin 1408), z = ix3 0 r q := by
      refine ⟨z 1, z 2, (eq_ix3 z).trans (congrArg (fun x => ix3 x (z 1) (z 2)) (Fin.ext ?_))⟩
      have h : (z 0).val < 1 := (z 0).isLt
      show (z 0).val = 0
      omega
    refine Eq.trans ?_ (congrArg (prod x0 x1 x2) (show ix3 0 r ⟨0 + q.val, by omega⟩ = _ from ?_))
    · unfold prod dact
      pointwise [k0_pay4, k0_pay3]
    · funext a
      apply Fin.ext
      match a with
      | ⟨0, _⟩ => show 0 = 0 + 1 * 0; omega
      | ⟨1, _⟩ => show r.val = 0 + 1 * r.val; omega
      | ⟨2, _⟩ => show 0 + q.val = 0 + 1 * q.val; omega

end Points

variable (m : (ℓ : Loc nD τ sig) → Buf (Elt Ideal) ℓ)

/-- The gate. -/
abbrev a0 (c : Dev nD) : FVec Ideal S8192x2816 .f32 := m ((c : Thread nD τ).loc main_arg0)
/-- The up projection. -/
abbrev a1 (c : Dev nD) : FVec Ideal S8192x2816 .f32 := m ((c : Thread nD τ).loc main_arg1)
/-- The down weights. -/
abbrev a2 (c : Dev nD) : FVec Ideal S1x2816x1024 .bf16 := m ((c : Thread nD τ).loc main_arg2)
/-- The output's cotangent. -/
abbrev a3 (c : Dev nD) : FVec Ideal S8192x1024 .bf16 := m ((c : Thread nD τ).loc main_arg3)

theorem N16 : cfg0.N = 16 := by decide +kernel
theorem lt16 (t : Fin cfg0.N) : t.val < 16 := lt_of_lt_of_eq t.isLt N16

theorem index0 : ∀ t : Fin cfg0.N, win0_0.index t 0 = t.val ∧ win0_0.index t 1 = 0 :=
  (by decide +kernel : ∀ t : Fin grid0.N, win0_0.index t 0 = t.val ∧ win0_0.index t 1 = 0)

/-- A point reads 512 rows of the output's cotangent. -/
theorem blk0 (c : Dev nD) (t : Fin cfg0.N) (r : Fin 512) (d : Fin 1024) :
    (iblk m c 0 t : FVec Ideal S512x1024 .bf16) (ix2 r d) = (a3 m c (ix2 ⟨t.val * 512 + r.val, by have := lt16 t; omega⟩ d) : EReal) := by
  unfold iblk
  rw [View.read_apply]
  show V m c main_arg3 _ = _
  rw [V_main_arg3]
  congr 1
  funext a
  apply Fin.ext
  match a with
  | ⟨0, _⟩ => show win0_0.index t 0 * 512 + 1 * r.val = t.val * 512 + r.val; rw [(index0 t).1]; omega
  | ⟨1, _⟩ => show win0_0.index t 1 * 1024 + 1 * d.val = d.val; rw [(index0 t).2]; omega

theorem index1 : ∀ (t : Fin cfg0.N) (a : Fin 3), win0_1.index t a = 0 :=
  (by decide +kernel : ∀ (t : Fin grid0.N) (a : Fin 3), win0_1.index t a = 0)

/-- Every point reads the whole weight. -/
theorem blk1 (c : Dev nD) (t : Fin cfg0.N) (r : Fin 2816) (d : Fin 1024) :
    (iblk m c 1 t : FVec Ideal S1x2816x1024 .bf16) (ix3 0 r d) = (a2 m c (ix3 0 r d) : EReal) := by
  unfold iblk
  rw [View.read_apply]
  show V m c main_arg2 _ = _
  rw [V_main_arg2]
  congr 1
  funext a
  apply Fin.ext
  match a with
  | ⟨0, _⟩ => show win0_1.index t 0 * 1 + 1 * 0 = 0; rw [index1 t 0]
  | ⟨1, _⟩ => show win0_1.index t 1 * 2816 + 1 * r.val = r.val; rw [index1 t 1]; omega
  | ⟨2, _⟩ => show win0_1.index t 2 * 1024 + 1 * d.val = d.val; rw [index1 t 2]; omega

/-- The activation's derivative in the gate. -/
abbrev first (c : Dev nD) : FVec Ideal S8192x2816 .f32 :=
  mulf (a1 m c) (addf (val_main_v2_2 (F := Ideal) (a0 m c))
    (mulf (val_main_v2_0 (F := Ideal) (a0 m c)) (val_main_call0_v7 (F := Ideal) (a0 m c))))

/-- The two factors, one in each plane. -/
def pair (c : Dev nD) : FVec Ideal S2x8192x2816 .f32 :=
  concatenate S2x8192x2816 0
    [⟨S1x8192x2816, broadcastInDim S1x8192x2816 ![1, 2] bcast_S8192x2816_S1x8192x2816_1_2 (first m c)⟩, ⟨S1x8192x2816, broadcastInDim S1x8192x2816 ![1, 2] bcast_S8192x2816_S1x8192x2816_1_2 (val_main_v2_0 (F := Ideal) (a0 m c))⟩]
    concatenates_S1x8192x2816_S1x8192x2816_S2x8192x2816_d0

/-- The kernel gets the two factors. -/
theorem V15 (c : Dev nD) : (V m c main_v15 : FVec Ideal S2x8192x2816 .bf16) = truncf .bf16 (pair m c) bitsLt_bf16_f32 := rfl

theorem index2 : ∀ t : Fin cfg0.N, win0_2.index t 0 = 0 ∧ win0_2.index t 1 = t.val ∧ win0_2.index t 2 = 0 :=
  (by decide +kernel : ∀ t : Fin grid0.N, win0_2.index t 0 = 0 ∧ win0_2.index t 1 = t.val ∧ win0_2.index t 2 = 0)

/-- The row of the arrays that row `r` of a point's block is. -/
abbrev row (t : Fin cfg0.N) (r : Fin 512) : Fin 8192 := ⟨t.val * 512 + r.val, by have := lt16 t; omega⟩

/-- A point reads 512 rows of both factors. -/
theorem blk2 (c : Dev nD) (t : Fin cfg0.N) (p : Fin 2) (r : Fin 512) (k : Fin 2816) :
    (iblk m c 2 t : FVec Ideal S2x512x2816 .bf16) (ix3 p r k) = ((V m c main_v15 : FVec Ideal S2x8192x2816 .bf16) (ix3 p (row t r) k) : EReal) := by
  unfold iblk
  rw [View.read_apply]
  show V m c main_v15 _ = _
  congr 1
  funext a
  apply Fin.ext
  match a with
  | ⟨0, _⟩ => show win0_2.index t 0 * 2 + 1 * p.val = p.val; rw [(index2 t).1]; omega
  | ⟨1, _⟩ => show win0_2.index t 1 * 512 + 1 * r.val = t.val * 512 + r.val; rw [(index2 t).2.1]; omega
  | ⟨2, _⟩ => show win0_2.index t 2 * 2816 + 1 * k.val = k.val; rw [(index2 t).2.2]; omega

/-- The first factor's plane. -/
theorem factor0 (c : Dev nD) (r : Fin 8192) (k : Fin 2816) :
    ((V m c main_v15 : FVec Ideal S2x8192x2816 .bf16) (ix3 0 r k) : EReal) = first m c (ix2 r k) := by
  rw [V15]
  show (pair m c (ix3 0 r k) : EReal) = _
  unfold pair
  refine Eq.trans (stack_apply _ _ 0 (by simp) (broadcastInDim S1x8192x2816 ![1, 2] bcast_S8192x2816_S1x8192x2816_1_2 (first m c)) rfl (by simp) _ rfl r k) ?_
  generalize first m c = y
  pointwise []

/-- The second factor's plane. -/
theorem factor1 (c : Dev nD) (r : Fin 8192) (k : Fin 2816) :
    ((V m c main_v15 : FVec Ideal S2x8192x2816 .bf16) (ix3 1 r k) : EReal) = val_main_v2_0 (F := Ideal) (a0 m c) (ix2 r k) := by
  rw [V15]
  show (pair m c (ix3 1 r k) : EReal) = _
  unfold pair
  refine Eq.trans (stack_apply _ _ 1 (by simp) (broadcastInDim S1x8192x2816 ![1, 2] bcast_S8192x2816_S1x8192x2816_1_2 (val_main_v2_0 (F := Ideal) (a0 m c))) rfl (by simp) _ rfl r k) ?_
  generalize val_main_v2_0 (F := Ideal) (a0 m c) = y
  pointwise []

/-- The activation's cotangent at a point is the reference's. -/
theorem dact_ref (c : Dev nD) (t : Fin cfg0.N) (r : Fin 512) (k : Fin 2816) :
    dact (iblk m c 0 t) (iblk m c 1 t) r k
      = val_main_v6 (F := Ideal) (a2 m c) (a3 m c) (ix2 (row t r) k) := by
  unfold dact
  pointwise [val_main_v6, val_main_v5, val_main_v1, val_main_v0]
  simp only [blk0, blk1]

theorem facts_gated_cotangent_finite : Cert.Pre_gated_cotangent_finite.Facts := ⟨by decide, by decide, by decide, by decide, by decide⟩

/-- The precondition makes the product of the activation's cotangent and the up projection a real number. -/
theorem real (x0 x1 x2 x3) (h : @Cert.Pre_gated_cotangent_finite.fn facts_gated_cotangent_finite Ideal _ x0 x1 x2 x3 = fun _ => 1#1)
    (r : Fin 8192) (k : Fin 2816) : ∃ p : ℝ, (val_main_v8 (F := Ideal) x1 x2 x3 (ix2 r k) : EReal) = p := by
  refine Cert.KernelIdeal.Blocks.real_of_lt _ ?_
  have := congrFun h (ix2 r k)
  revert this
  pointwise [Cert.Pre_gated_cotangent_finite.fn, val_main_v8, val_main_v6, val_main_v5, val_main_v1, val_main_v0]
  exact id

/-- The reference's cotangent of the gate. -/
theorem gate_ref (c : Dev nD) (r : Fin 8192) (k : Fin 2816) (p : ℝ) (hp : (val_main_v8 (F := Ideal) (a1 m c) (a2 m c) (a3 m c) (ix2 r k) : EReal) = p) :
    (val_main_v6 (F := Ideal) (a2 m c) (a3 m c) (ix2 r k) * first m c (ix2 r k) : EReal)
      = val_main_v9 (F := Ideal) (a0 m c) (a1 m c) (a2 m c) (a3 m c) (ix2 r k) := by
  have h := slope p (a0 m c (ix2 r k)) (val_main_v2_2 (F := Ideal) (a0 m c) (ix2 r k)) (by
    pointwise [val_main_v2_2, val_main_call0_v4, val_main_call0_cst_0, val_main_call0_v3, val_main_call0_v2, val_main_call0_cst, val_main_call0_v1,
      val_main_call0_v0])
  rw [← hp] at h
  unfold val_main_v8 at h
  unfold val_main_v9 val_main_call1_v2 val_main_call1_v1 val_main_call1_v0 val_main_v8 val_main_v2_1
  generalize val_main_v6 (F := Ideal) (a2 m c) (a3 m c) = d at h ⊢
  unfold first val_main_v2_0 val_main_call0_v7
  generalize val_main_v2_2 (F := Ideal) (a0 m c) = s at h ⊢
  revert h
  pointwise [val_main_call0_v6, val_main_call0_cst_1]
  intro h
  rw [← mul_assoc]
  exact h

theorem index3 : ∀ t : Fin cfg0.N, win0_3.index t 0 = 0 ∧ win0_3.index t 1 = t.val ∧ win0_3.index t 2 = 0 :=
  (by decide +kernel : ∀ t : Fin grid0.N, win0_3.index t 0 = 0 ∧ win0_3.index t 1 = t.val ∧ win0_3.index t 2 = 0)

/-- The kernel's result is the reference's: everywhere in the up projection's plane, and in the gate's where the activation's
cotangent times the up projection is a real number. -/
theorem entry (c : Dev nD) (i : S2x8192x2816.Idx)
    (hf : (i 0).val = 0 → ∃ y : ℝ, (val_main_v8 (F := Ideal) (a1 m c) (a2 m c) (a3 m c) (ix2 (i 1) (i 2)) : EReal) = y) :
    ((dats m 0 c).arrAt 3 cfg0.N : FVec Ideal S2x8192x2816 .bf16) i = (val_main_v13 (F := Ideal) (a0 m c) (a1 m c) (a2 m c) (a3 m c) i : EReal) := by
  obtain ⟨p, t, r, k, hi⟩ : ∃ (p : Fin 2) (t : Fin cfg0.N) (r : Fin 512) (k : Fin 2816), i = ix3 p (row t r) k := by
    have h1 : (i 1).val < 8192 := (i 1).isLt
    refine ⟨i 0, ⟨(i 1).val / 512, by rw [N16]; omega⟩, ⟨(i 1).val % 512, by omega⟩, i 2, ?_⟩
    refine (eq_ix3 i).trans (congrArg (fun x => ix3 (i 0) x (i 2)) (Fin.ext ?_))
    show (i 1).val = (i 1).val / 512 * 512 + (i 1).val % 512
    omega
  subst hi
  have h := congrFun (Value.blocks3 m c t (flush0_3 _)) (ix3 p r k)
  rw [View.read_apply, Value.flushed3, out3_eq] at h
  have hi := index3 t
  refine Eq.trans ?_ (h.trans ?_)
  · show _ = ((dats m 0 c).arrAt 3 cfg0.N : FVec Ideal S2x8192x2816 .bf16) _
    congr 1
    funext a
    apply Fin.ext
    match a with
    | ⟨0, _⟩ => show p.val = win0_3.index _ 0 * 2 + 1 * p.val; rw [hi.1]; omega
    | ⟨1, _⟩ => show t.val * 512 + r.val = win0_3.index _ 1 * 512 + 1 * r.val; rw [hi.2.1]; omega
    | ⟨2, _⟩ => show k.val = win0_3.index _ 2 * 2816 + 1 * k.val; rw [hi.2.2]; omega
  · show (prod (iblk m c 0 t) (iblk m c 1 t) (iblk m c 2 t) (ix3 p r k) : EReal) = (val_main_v12 (F := Ideal) (a0 m c) (a1 m c) (a2 m c) (a3 m c) _ : EReal)
    have e : (prod (iblk m c 0 t) (iblk m c 1 t) (iblk m c 2 t) (ix3 p r k) : EReal)
        = val_main_v6 (F := Ideal) (a2 m c) (a3 m c) (ix2 (row t r) k) * (V m c main_v15 : FVec Ideal S2x8192x2816 .bf16) (ix3 p (row t r) k) :=
      congrArg₂ (fun x y : EReal => x * y) (dact_ref m c t r k) (blk2 m c t p r k)
    rw [e]
    unfold val_main_v12
    have hp : p = 0 ∨ p = 1 := by fin_cases p <;> simp
    rcases hp with rfl | rfl
    · obtain ⟨y, hy⟩ := hf rfl
      rw [factor0, gate_ref m c (row t r) k y hy]
      refine Eq.trans ?_ (stack_apply _ _ 0 (by simp) (val_main_v10 (F := Ideal) (a0 m c) (a1 m c) (a2 m c) (a3 m c)) rfl (by simp) _ rfl _ _).symm
      unfold val_main_v10
      generalize val_main_v9 (F := Ideal) (a0 m c) (a1 m c) (a2 m c) (a3 m c) = z
      pointwise []
    · rw [factor1]
      refine Eq.trans ?_ (stack_apply _ _ 1 (by simp) (val_main_v11 (F := Ideal) (a0 m c) (a2 m c) (a3 m c)) rfl (by simp) _ rfl _ _).symm
      unfold val_main_v11 val_main_v7
      generalize val_main_v6 (F := Ideal) (a2 m c) (a3 m c) = z
      generalize val_main_v2_0 (F := Ideal) (a0 m c) = w
      pointwise []
      exact mul_comm _ _

/-- Under the precondition the kernel's result is the reference's. -/
theorem arr3 (c : Dev nD) (hf : @Cert.Pre_gated_cotangent_finite.fn facts_gated_cotangent_finite Ideal _ (a0 m c) (a1 m c) (a2 m c) (a3 m c) = fun _ => 1#1) :
    (dats m 0 c).arrAt 3 cfg0.N = val_main_v13 (F := Ideal) (a0 m c) (a1 m c) (a2 m c) (a3 m c) :=
  funext fun i => entry m c i fun _ => real _ _ _ _ hf (i 1) (i 2)

theorem facts_finite_or_up : Cert.On_finite_or_up.Facts := by constructor <;> decide

/-- Of the gate's plane the mask selects only entries where the activation's cotangent times the up projection is real. -/
theorem mask (x0 x1 x2 x3) (i : S2x8192x2816.Idx) (h : @Cert.On_finite_or_up.fn facts_finite_or_up Ideal _ x0 x1 x2 x3 i = 1#1) (h0 : (i 0).val = 0) :
    ∃ p : ℝ, (val_main_v8 (F := Ideal) x1 x2 x3 (ix2 (i 1) (i 2)) : EReal) = p := by
  obtain ⟨j, r, k, rfl⟩ : ∃ (j : Fin 2) (r : Fin 8192) (k : Fin 2816), i = ix3 j r k := ⟨i 0, i 1, i 2, eq_ix3 i⟩
  obtain rfl : j = 0 := Fin.ext h0
  refine Cert.KernelIdeal.Blocks.real_of_lt _ ?_
  show BitVec.ofBool (decide (FloatOps.absf (F := Ideal) (φ := .f32) (val_main_v8 (F := Ideal) x1 x2 x3 (ix2 r k)) < Ideal.ofBits .f32 0x7F800000#32)) = 1#1
  revert h
  pointwise [Cert.On_finite_or_up.fn, val_main_v8, val_main_v6, val_main_v5, val_main_v1, val_main_v0]
  exact (by decide : ∀ b : BitVec 1, IntOp.ori (IntOp.cmpi .eq 0#32 1#32) b = 1#1 → b = 1#1) _

end Cert.Kernel5Ideal.Blocks

end
-- ==== Proof.GateUp.lean ====
/- The norm, the gate-and-up product and the activation: what each grid point leaves, and the results at the end. -/
module

public import proofs.«01_k».proof.Proof.Sums
public import Idealize.ShloMosaic.Lib.Pipeline.ReadBack
public import Idealize.ShloMosaic.Lib.Pipeline.ValueKit.Tiles
public import proofs.«01_k».proof.Proof.Gen.Kernel6Ideal.Value
public import proofs.«01_k».proof.Proof.Gen.Reference6Ideal.Read

@[expose] public section

noncomputable section

namespace Cert.Kernel6Ideal.Blocks

open Idealize.ShloMosaic Idealize.ShloMosaic.TcCoe Idealize.ShloMosaic.Tactic Idealize.SL.Sem Cert.Kernel6Ideal Cert.Kernel6Ideal.Gen
open Cert.Reference6Ideal.Read Cert.Sums

theorem hz : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ)

/-- The input of the norm. -/
abbrev a0 (c : Dev nD) : FVec Ideal S8192x1024 .f32 := m ((c : Thread nD τ).loc main_arg0)
/-- The norm's gains. -/
abbrev a1 (c : Dev nD) : FVec Ideal S1024 .f32 := m ((c : Thread nD τ).loc main_arg1)
/-- The weights: two planes of the gate, two of the up projection. -/
abbrev a2 (c : Dev nD) : FVec Ideal S1x4x1024x1408 .bf16 := m ((c : Thread nD τ).loc main_arg2)

theorem N32 : cfg0.N = 32 := by decide +kernel
theorem lt32 (t : Fin cfg0.N) : t.val < 32 := lt_of_lt_of_eq t.isLt N32

/-- The row of the arrays that row `r` of a point's block is. -/
abbrev row (t : Fin cfg0.N) (r : Fin 512) : Fin 8192 := ⟨t.val % 16 * 512 + r.val, by omega⟩

/-- The column of a projection that column `q` of a point's block is. -/
abbrev col (t : Fin cfg0.N) (q : Fin 1408) : Fin 2816 := ⟨t.val / 16 * 1408 + q.val, by have := lt32 t; omega⟩

theorem index0 : ∀ t : Fin cfg0.N, win0_0.index t 0 = t.val % 16 ∧ win0_0.index t 1 = 0 :=
  (by decide +kernel : ∀ t : Fin grid0.N, win0_0.index t 0 = t.val % 16 ∧ win0_0.index t 1 = 0)

/-- A point reads 512 rows of the input. -/
theorem blk0 (c : Dev nD) (t : Fin cfg0.N) (r : Fin 512) (d : Fin 1024) :
    (iblk m c 0 t : FVec Ideal S512x1024 .f32) (ix2 r d) = (a0 m c (ix2 (row t r) d) : EReal) := by
  unfold iblk
  rw [View.read_apply]
  show V m c main_arg0 _ = _
  rw [V_main_arg0]
  congr 1
  funext a
  apply Fin.ext
  match a with
  | ⟨0, _⟩ => show win0_0.index t 0 * 512 + 1 * r.val = t.val % 16 * 512 + r.val; rw [(index0 t).1]; omega
  | ⟨1, _⟩ => show win0_0.index t 1 * 1024 + 1 * d.val = d.val; rw [(index0 t).2]; omega

theorem index1 : ∀ (t : Fin cfg0.N) (a : Fin 2), win0_1.index t a = 0 :=
  (by decide +kernel : ∀ (t : Fin grid0.N) (a : Fin 2), win0_1.index t a = 0)

/-- The gains, as a row. -/
theorem V0 (c : Dev nD) : (V m c main_v0 : FVec Ideal S1x1024 .f32) = shapeCast S1x1024 (a1 m c) shapeCasts_S1024_S1x1024 := rfl

/-- Every point reads all gains. -/
theorem blk1 (c : Dev nD) (t : Fin cfg0.N) (d : Fin 1024) :
    (iblk m c 1 t : FVec Ideal S1x1024 .f32) (ix2 0 d) = (a1 m c (ix1 d) : EReal) := by
  have e : (iblk m c 1 t : FVec Ideal S1x1024 .f32) = V m c main_v0 := by
    funext j
    unfold iblk
    rw [View.read_apply]
    show V m c main_v0 _ = _
    congr 1
    funext a
    apply Fin.ext
    match a with
    | ⟨0, _⟩ => show win0_1.index t 0 * 1 + 1 * (j 0).val = (j 0).val; rw [index1 t 0]; omega
    | ⟨1, _⟩ => show win0_1.index t 1 * 1024 + 1 * (j 1).val = (j 1).val; rw [index1 t 1]; omega
  rw [e, V0]
  pointwise []

theorem index2 : ∀ t : Fin cfg0.N, win0_2.index t 0 = 0 ∧ win0_2.index t 1 = t.val / 16 ∧ win0_2.index t 2 = 0 ∧ win0_2.index t 3 = 0 :=
  (by decide +kernel : ∀ t : Fin grid0.N, win0_2.index t 0 = 0 ∧ win0_2.index t 1 = t.val / 16 ∧ win0_2.index t 2 = 0 ∧ win0_2.index t 3 = 0)

/-- A point reads a plane of the gate's weights. -/
theorem blk2 (c : Dev nD) (t : Fin cfg0.N) (d : Fin 1024) (q : Fin 1408) :
    (iblk m c 2 t : FVec Ideal S1x1x1024x1408 .bf16) (ix4 0 0 d q) = (a2 m c (ix4 0 ⟨t.val / 16, by have := lt32 t; omega⟩ d q) : EReal) := by
  unfold iblk
  rw [View.read_apply]
  show V m c main_arg2 _ = _
  rw [V_main_arg2]
  congr 1
  funext a
  apply Fin.ext
  match a with
  | ⟨0, _⟩ => show win0_2.index t 0 * 1 + 1 * 0 = 0; rw [(index2 t).1]
  | ⟨1, _⟩ => show win0_2.index t 1 * 1 + 1 * 0 = t.val / 16; rw [(index2 t).2.1]; omega
  | ⟨2, _⟩ => show win0_2.index t 2 * 1024 + 1 * d.val = d.val; rw [(index2 t).2.2.1]; omega
  | ⟨3, _⟩ => show win0_2.index t 3 * 1408 + 1 * q.val = q.val; rw [(index2 t).2.2.2]; omega

theorem index3 : ∀ t : Fin cfg0.N, win0_3.index t 0 = 0 ∧ win0_3.index t 1 = 2 + t.val / 16 ∧ win0_3.index t 2 = 0 ∧ win0_3.index t 3 = 0 :=
  (by decide +kernel : ∀ t : Fin grid0.N, win0_3.index t 0 = 0 ∧ win0_3.index t 1 = 2 + t.val / 16 ∧ win0_3.index t 2 = 0 ∧ win0_3.index t 3 = 0)

/-- A point reads a plane of the up projection's weights. -/
theorem blk3 (c : Dev nD) (t : Fin cfg0.N) (d : Fin 1024) (q : Fin 1408) :
    (iblk m c 3 t : FVec Ideal S1x1x1024x1408 .bf16) (ix4 0 0 d q) = (a2 m c (ix4 0 ⟨2 + t.val / 16, by have := lt32 t; omega⟩ d q) : EReal) := by
  unfold iblk
  rw [View.read_apply]
  show V m c main_arg2 _ = _
  rw [V_main_arg2]
  congr 1
  funext a
  apply Fin.ext
  match a with
  | ⟨0, _⟩ => show win0_3.index t 0 * 1 + 1 * 0 = 0; rw [(index3 t).1]
  | ⟨1, _⟩ => show win0_3.index t 1 * 1 + 1 * 0 = 2 + t.val / 16; rw [(index3 t).2.1]; omega
  | ⟨2, _⟩ => show win0_3.index t 2 * 1024 + 1 * d.val = d.val; rw [(index3 t).2.2.1]; omega
  | ⟨3, _⟩ => show win0_3.index t 3 * 1408 + 1 * q.val = q.val; rw [(index3 t).2.2.2]; omega

/-- Plane 0 of the weights among the reference's columns. -/
theorem weights0 (x : FVec Ideal S1x4x1024x1408 .bf16) (d : Fin 1024) (q : Fin 1408) (k : Fin 5632) (hk : 0 + q.val = k.val) :
    (val_main_v23 (F := Ideal) x (ix2 d k) : EReal) = x (ix4 0 0 d q) := by
  unfold val_main_v23
  refine (cols_apply _ _ 0 (by simp) (val_main_v16 (F := Ideal) x) rfl 0 (by simp) d q k hk).trans ?_
  pointwise [val_main_v16, val_main_v15, val_main_v14, val_main_v13]

/-- Plane 1 of the weights among the reference's columns. -/
theorem weights1 (x : FVec Ideal S1x4x1024x1408 .bf16) (d : Fin 1024) (q : Fin 1408) (k : Fin 5632) (hk : 1408 + q.val = k.val) :
    (val_main_v23 (F := Ideal) x (ix2 d k) : EReal) = x (ix4 0 1 d q) := by
  unfold val_main_v23
  refine (cols_apply _ _ 1 (by simp) (val_main_v18 (F := Ideal) x) rfl 1408 (by simp) d q k hk).trans ?_
  pointwise [val_main_v18, val_main_v17, val_main_v14, val_main_v13]

/-- Plane 2 of the weights among the reference's columns. -/
theorem weights2 (x : FVec Ideal S1x4x1024x1408 .bf16) (d : Fin 1024) (q : Fin 1408) (k : Fin 5632) (hk : 2816 + q.val = k.val) :
    (val_main_v23 (F := Ideal) x (ix2 d k) : EReal) = x (ix4 0 2 d q) := by
  unfold val_main_v23
  refine (cols_apply _ _ 2 (by simp) (val_main_v20 (F := Ideal) x) rfl 2816 (by simp) d q k hk).trans ?_
  pointwise [val_main_v20, val_main_v19, val_main_v14, val_main_v13]

/-- Plane 3 of the weights among the reference's columns. -/
theorem weights3 (x : FVec Ideal S1x4x1024x1408 .bf16) (d : Fin 1024) (q : Fin 1408) (k : Fin 5632) (hk : 4224 + q.val = k.val) :
    (val_main_v23 (F := Ideal) x (ix2 d k) : EReal) = x (ix4 0 3 d q) := by
  unfold val_main_v23
  refine (cols_apply _ _ 3 (by simp) (val_main_v22 (F := Ideal) x) rfl 4224 (by simp) d q k hk).trans ?_
  pointwise [val_main_v22, val_main_v21, val_main_v14, val_main_v13]

/-- A plane of the weights among the reference's columns. -/
theorem plane (x : FVec Ideal S1x4x1024x1408 .bf16) (j : Fin 4) (d : Fin 1024) (q : Fin 1408) (k : Fin 5632) (hk : j.val * 1408 + q.val = k.val) :
    (val_main_v23 (F := Ideal) x (ix2 d k) : EReal) = x (ix4 0 j d q) := by
  fin_cases j
  · exact weights0 x d q k (by simpa using hk)
  · exact weights1 x d q k (by simpa using hk)
  · exact weights2 x d q k (by simpa using hk)
  · exact weights3 x d q k (by simpa using hk)

/-! ## A point's values -/

/-- A point's normed rows are the reference's. -/
theorem norm_ref (c : Dev nD) (t : Fin cfg0.N) (r : Fin 512) (d : Fin 1024) :
    (k0_pay4 (F := Ideal) (iblk m c 0 t) (iblk m c 1 t) (ix2 r d) : EReal) = val_main_v12 (F := Ideal) (a0 m c) (a1 m c) (ix2 (row t r) d) := by
  pointwise [k0_pay4, val_main_v12, val_main_v11, val_main_v10, val_main_v9, val_main_v8, val_main_v7, val_main_v6, val_main_v5, val_main_v4,
    val_main_v3, val_main_v2, val_main_v1, val_main_v0, val_main_cst, val_main_cst_0, val_main_cst_1]
  simp only [blk0, blk1]

/-- A point's gate is the reference's. -/
theorem gate_ref (c : Dev nD) (t : Fin cfg0.N) (r : Fin 512) (q : Fin 1408) :
    (k0_pay6 (F := Ideal) (iblk m c 0 t) (iblk m c 1 t) (iblk m c 2 t) (ix2 r q) : EReal)
      = val_main_v25 (F := Ideal) (a0 m c) (a1 m c) (a2 m c) (ix2 (row t r) (col t q)) := by
  unfold k0_pay6
  have e := norm_ref m c t
  generalize k0_pay4 (F := Ideal) (iblk m c 0 t) (iblk m c 1 t) = y at e ⊢
  pointwise [val_main_v25, val_main_v24]
  refine Finset.sum_congr rfl fun d _ => ?_
  rw [e, blk2]
  exact congrArg (_ * ·) (plane _ ⟨t.val / 16, by have := lt32 t; omega⟩ d q _ (by simp)).symm

/-- A point's up projection is the reference's. -/
theorem up_ref (c : Dev nD) (t : Fin cfg0.N) (r : Fin 512) (q : Fin 1408) :
    (k0_pay7 (F := Ideal) (iblk m c 0 t) (iblk m c 1 t) (iblk m c 3 t) (ix2 r q) : EReal)
      = val_main_v26 (F := Ideal) (a0 m c) (a1 m c) (a2 m c) (ix2 (row t r) (col t q)) := by
  unfold k0_pay7
  have e := norm_ref m c t
  generalize k0_pay4 (F := Ideal) (iblk m c 0 t) (iblk m c 1 t) = y at e ⊢
  pointwise [val_main_v26, val_main_v24]
  refine Finset.sum_congr rfl fun d _ => ?_
  rw [e, blk3]
  exact congrArg (_ * ·) (plane _ ⟨2 + t.val / 16, by have := lt32 t; omega⟩ d q _ (by simp; omega)).symm

theorem ofBits_one : Ideal.ofBits .f32 0x3F800000#32 = (1 : EReal) := by
  simp [Ideal.ofBits, Ideal.ieee, -EReal.coe_mul]
  norm_num
theorem ofBits_zero : Ideal.ofBits .f32 0x00000000#32 = (0 : EReal) := by
  simp [Ideal.ofBits, Ideal.ieee, -EReal.coe_mul]

/-- A point's logistic of the gate is the reference's. -/
theorem sig_ref (c : Dev nD) (t : Fin cfg0.N) (r : Fin 512) (q : Fin 1408) :
    (k0_pay8 (F := Ideal) (iblk m c 0 t) (iblk m c 1 t) (iblk m c 2 t) (ix2 r q) : EReal)
      = val_main_v27_2 (F := Ideal) (a0 m c) (a1 m c) (a2 m c) (ix2 (row t r) (col t q)) := by
  unfold k0_pay8
  have e := gate_ref m c t
  generalize k0_pay6 (F := Ideal) (iblk m c 0 t) (iblk m c 1 t) (iblk m c 2 t) = y at e ⊢
  pointwise [val_main_v27_2, val_main_call0_v4, val_main_call0_cst_0, val_main_call0_v3, val_main_call0_v2, val_main_call0_cst, val_main_call0_v1,
    val_main_call0_v0]
  simp only [e, ofBits_zero, zero_sub]

/-- A point's rows of the activation's first factor are the reference's. -/
theorem silu_ref (c : Dev nD) (t : Fin cfg0.N) (r : Fin 512) (q : Fin 1408) :
    (k0_pay9 (F := Ideal) (iblk m c 0 t) (iblk m c 1 t) (iblk m c 2 t) (ix2 r q) : EReal)
      = val_main_v27_0 (F := Ideal) (a0 m c) (a1 m c) (a2 m c) (ix2 (row t r) (col t q)) := by
  unfold k0_pay9 val_main_v27_0
  exact congrArg₂ (· * ·) (gate_ref m c t r q) (sig_ref m c t r q)

theorem hz4 : (![0, 0, 0, 0] : Fin 4 → Nat) = fun _ => 0 := funext fun a => by fin_cases a <;> rfl

/-! ## What a point leaves -/

section Points

variable (x0 : Vec Ideal S512x1024 .f32) (x1 : Vec Ideal S1x1024 .f32) (x2 x3 : Vec Ideal S1x1x1024x1408 .bf16)

theorem pay10_eq : k0_pay10 x0 x1 x2 x3 = k0_pay7 x0 x1 x3 := by
  unfold k0_pay10
  rw [View.ld_unit_zero (S := S512x1024) hz, View.ld_unit_zero (S := S1x1024) hz, View.ld_unit_zero (S := S1x1x1024x1408) hz4]

theorem pay11_eq : k0_pay11 x0 x1 x2 x3 = k0_pay9 x0 x1 x2 := by
  unfold k0_pay11
  rw [View.ld_unit_zero (S := S512x1024) hz, View.ld_unit_zero (S := S1x1024) hz, View.ld_unit_zero (S := S1x1x1024x1408) hz4]

/-- The normed rows. -/
theorem out4_eq : out0_4 x0 x1 x2 x3 = k0_pay5 x0 x1 := by
  unfold out0_4
  rw [View.canon_unit_zero (S := S1x512x1024) hz3]
  simp only [View.ld_unit_zero (S := S512x1024) hz, View.ld_unit_zero (S := S1x1024) hz]

/-- The activation. -/
theorem out6_eq : out0_6 x0 x1 x2 x3 = k0_pay3 (k0_pay7 x0 x1 x3) (k0_pay9 x0 x1 x2) := by
  unfold out0_6
  rw [View.canon_unit_zero (S := S512x1408) hz, pay10_eq, pay11_eq]

/-- The two factors, one in each plane. -/
def factors : FVec Ideal S2x512x1408 .bf16 := fun y =>
  if (y 0).val = 0 then k0_pay1 (k0_pay7 x0 x1 x3) (k0_pay8 x0 x1 x2) (k0_pay9 x0 x1 x2) (Scalar.ofBits .f32 0x3F800000#32) (ix3 0 (y 1) (y 2))
  else k0_pay2 (k0_pay9 x0 x1 x2) (ix3 0 (y 1) (y 2))

/-- The two stores leave the two factors. -/
theorem out5_eq : out0_5 x0 x1 x2 x3 = factors x0 x1 x2 x3 := by
  unfold out0_5
  rw [pay10_eq, pay11_eq]
  simp only [View.ld_unit_zero (S := S512x1024) hz, View.ld_unit_zero (S := S1x1024) hz, View.ld_unit_zero (S := S1x1x1024x1408) hz4]
  funext y
  refine View.canon_apply_of_pieces (Val := Elt Ideal) (e := .bf16) (factors x0 x1 x2 x3) _ ?_ y ?_
  swap
  · exact View.cover_of_tiledL (s := S2x512x1408) _ S1x512x1408.size (by sl_kernel_rfl) y
  intro p hp z
  simp only [List.mem_cons, List.not_mem_nil, or_false] at hp
  rcases hp with rfl | rfl
  · obtain ⟨r, q, rfl⟩ : ∃ (r : Fin 512) (q : Fin 1408), z = ix3 0 r q := by
      refine ⟨z 1, z 2, (eq_ix3 z).trans (congrArg (fun x => ix3 x (z 1) (z 2)) (Fin.ext ?_))⟩
      have h : (z 0).val < 1 := (z 0).isLt
      show (z 0).val = 0
      omega
    refine Eq.trans ?_ (congrArg (factors x0 x1 x2 x3) (show ix3 1 r q = _ from ?_))
    · exact (if_neg (show ¬(1 : Fin 2).val = 0 by decide)).symm
    · funext a
      apply Fin.ext
      match a with
      | ⟨0, _⟩ => show 1 = 1 + 1 * 0; omega
      | ⟨1, _⟩ => show r.val = 0 + 1 * r.val; omega
      | ⟨2, _⟩ => show q.val = 0 + 1 * q.val; omega
  · obtain ⟨r, q, rfl⟩ : ∃ (r : Fin 512) (q : Fin 1408), z = ix3 0 r q := by
      refine ⟨z 1, z 2, (eq_ix3 z).trans (congrArg (fun x => ix3 x (z 1) (z 2)) (Fin.ext ?_))⟩
      have h : (z 0).val < 1 := (z 0).isLt
      show (z 0).val = 0
      omega
    refine Eq.trans ?_ (congrArg (factors x0 x1 x2 x3) (show ix3 0 r q = _ from ?_))
    · exact (if_pos (show (0 : Fin 2).val = 0 from rfl)).symm
    · funext a
      apply Fin.ext
      match a with
      | ⟨0, _⟩ => show 0 = 0 + 1 * 0; omega
      | ⟨1, _⟩ => show r.val = 0 + 1 * r.val; omega
      | ⟨2, _⟩ => show q.val = 0 + 1 * q.val; omega

end Points

/-! ## The arrays at the end -/

theorem index4 : ∀ t : Fin cfg0.N, win0_4.index t 0 = t.val / 16 ∧ win0_4.index t 1 = t.val % 16 ∧ win0_4.index t 2 = 0 :=
  (by decide +kernel : ∀ t : Fin grid0.N, win0_4.index t 0 = t.val / 16 ∧ win0_4.index t 1 = t.val % 16 ∧ win0_4.index t 2 = 0)

/-- The two copies of the normed rows at the end. -/
theorem arr4 (c : Dev nD) : (dats m 0 c).arrAt 4 cfg0.N = val_main_v37 (F := Ideal) (a0 m c) (a1 m c) := by
  funext i
  obtain ⟨t, r, d, hi⟩ : ∃ (t : Fin cfg0.N) (r : Fin 512) (d : Fin 1024), i = ix3 ⟨t.val / 16, by have := lt32 t; omega⟩ (row t r) d := by
    have h0 : (i 0).val < 2 := (i 0).isLt
    have h1 : (i 1).val < 8192 := (i 1).isLt
    refine ⟨⟨(i 0).val * 16 + (i 1).val / 512, by rw [N32]; omega⟩, ⟨(i 1).val % 512, by omega⟩, i 2, ?_⟩
    refine (eq_ix3 i).trans (congrArg₂ (fun x y => ix3 x y (i 2)) (Fin.ext ?_) (Fin.ext ?_))
    · show (i 0).val = ((i 0).val * 16 + (i 1).val / 512) / 16
      omega
    · show (i 1).val = ((i 0).val * 16 + (i 1).val / 512) % 16 * 512 + (i 1).val % 512
      omega
  subst hi
  have h := congrFun (Value.blocks4 m c t (flush0_4 _)) (ix3 0 r d)
  rw [View.read_apply, Value.flushed4, out4_eq] at h
  have hi := index4 t
  refine Eq.trans ?_ (h.trans ?_)
  · show _ = ((dats m 0 c).arrAt 4 cfg0.N : FVec Ideal S2x8192x1024 .bf16) _
    congr 1
    funext a
    apply Fin.ext
    match a with
    | ⟨0, _⟩ => show t.val / 16 = win0_4.index _ 0 * 1 + 1 * 0; rw [hi.1]; omega
    | ⟨1, _⟩ => show t.val % 16 * 512 + r.val = win0_4.index _ 1 * 512 + 1 * r.val; rw [hi.2.1]; omega
    | ⟨2, _⟩ => show d.val = win0_4.index _ 2 * 1024 + 1 * d.val; rw [hi.2.2]; omega
  · have e := norm_ref m c t r d
    have ht : t.val / 16 = 0 ∨ t.val / 16 = 1 := by have := lt32 t; omega
    show (k0_pay5 (F := Ideal) (iblk m c 0 t) (iblk m c 1 t) (ix3 0 r d) : EReal) = _
    refine Eq.trans (b := (k0_pay4 (F := Ideal) (iblk m c 0 t) (iblk m c 1 t) (ix2 r d) : EReal)) ?_ (e.trans ?_)
    · unfold k0_pay5
      generalize k0_pay4 (F := Ideal) (iblk m c 0 t) (iblk m c 1 t) = y
      pointwise []
    · show _ = (val_main_v36 (F := Ideal) (a0 m c) (a1 m c) _ : EReal)
      unfold val_main_v36
      rcases ht with ht | ht
      · refine Eq.trans ?_ (stack_apply _ _ 0 (by simp) (val_main_v34 (F := Ideal) (a0 m c) (a1 m c)) rfl (by simp) _ ht _ _).symm
        unfold val_main_v34
        generalize val_main_v12 (F := Ideal) (a0 m c) (a1 m c) = y
        pointwise []
      · refine Eq.trans ?_ (stack_apply _ _ 1 (by simp) (val_main_v35 (F := Ideal) (a0 m c) (a1 m c)) rfl (by simp) _ ht _ _).symm
        unfold val_main_v35
        generalize val_main_v12 (F := Ideal) (a0 m c) (a1 m c) = y
        pointwise []

theorem index5 : ∀ t : Fin cfg0.N, win0_5.index t 0 = 0 ∧ win0_5.index t 1 = t.val % 16 ∧ win0_5.index t 2 = t.val / 16 :=
  (by decide +kernel : ∀ t : Fin grid0.N, win0_5.index t 0 = 0 ∧ win0_5.index t 1 = t.val % 16 ∧ win0_5.index t 2 = t.val / 16)

/-- A point's first factor is the reference's: the activation's derivative in the gate. -/
theorem slope_ref (c : Dev nD) (t : Fin cfg0.N) (r : Fin 512) (q : Fin 1408) :
    (k0_pay1 (F := Ideal) (k0_pay7 (iblk m c 0 t) (iblk m c 1 t) (iblk m c 3 t)) (k0_pay8 (iblk m c 0 t) (iblk m c 1 t) (iblk m c 2 t))
        (k0_pay9 (iblk m c 0 t) (iblk m c 1 t) (iblk m c 2 t)) (Scalar.ofBits .f32 0x3F800000#32) (ix3 0 r q) : EReal)
      = val_main_v30 (F := Ideal) (a0 m c) (a1 m c) (a2 m c) (ix2 (row t r) (col t q)) := by
  have e := up_ref m c t r q
  have es := sig_ref m c t r q
  have el := silu_ref m c t r q
  generalize k0_pay7 (F := Ideal) (iblk m c 0 t) (iblk m c 1 t) (iblk m c 3 t) = u at e ⊢
  generalize k0_pay8 (F := Ideal) (iblk m c 0 t) (iblk m c 1 t) (iblk m c 2 t) = s at es ⊢
  generalize k0_pay9 (F := Ideal) (iblk m c 0 t) (iblk m c 1 t) (iblk m c 2 t) = l at el ⊢
  unfold val_main_v30 val_main_v29 val_main_call1_v2 val_main_call1_v1 val_main_call1_v0 val_main_v27_1 val_main_call0_v7
  unfold val_main_v27_0 at el
  generalize val_main_v27_2 (F := Ideal) (a0 m c) (a1 m c) (a2 m c) = s' at es el ⊢
  generalize val_main_v26 (F := Ideal) (a0 m c) (a1 m c) (a2 m c) = u' at e ⊢
  generalize val_main_v25 (F := Ideal) (a0 m c) (a1 m c) (a2 m c) = g' at el ⊢
  revert el
  pointwise [k0_pay1, val_main_v28, val_main_cst_2, val_main_call0_v6, val_main_call0_cst_1]
  intro el
  simp only [e, es, el, ofBits_one, one_mul, mul_one]
  rw [mul_comm, mul_assoc]

/-- The two factors at the end. -/
theorem arr5 (c : Dev nD) : (dats m 0 c).arrAt 5 cfg0.N = val_main_v38 (F := Ideal) (a0 m c) (a1 m c) (a2 m c) := by
  funext i
  obtain ⟨p, t, r, q, hi⟩ : ∃ (p : Fin 2) (t : Fin cfg0.N) (r : Fin 512) (q : Fin 1408), i = ix3 p (row t r) (col t q) := by
    have h1 : (i 1).val < 8192 := (i 1).isLt
    have h2 : (i 2).val < 2816 := (i 2).isLt
    refine ⟨i 0, ⟨(i 2).val / 1408 * 16 + (i 1).val / 512, by rw [N32]; omega⟩, ⟨(i 1).val % 512, by omega⟩, ⟨(i 2).val % 1408, by omega⟩, ?_⟩
    refine (eq_ix3 i).trans (congrArg₂ (fun x y => ix3 (i 0) x y) (Fin.ext ?_) (Fin.ext ?_))
    · show (i 1).val = ((i 2).val / 1408 * 16 + (i 1).val / 512) % 16 * 512 + (i 1).val % 512
      omega
    · show (i 2).val = ((i 2).val / 1408 * 16 + (i 1).val / 512) / 16 * 1408 + (i 2).val % 1408
      omega
  subst hi
  have h := congrFun (Value.blocks5 m c t (flush0_5 _)) (ix3 p r q)
  rw [View.read_apply, Value.flushed5, out5_eq] at h
  have hi := index5 t
  refine Eq.trans ?_ (h.trans ?_)
  · show _ = ((dats m 0 c).arrAt 5 cfg0.N : FVec Ideal S2x8192x2816 .bf16) _
    congr 1
    funext a
    apply Fin.ext
    match a with
    | ⟨0, _⟩ => show p.val = win0_5.index _ 0 * 2 + 1 * p.val; rw [hi.1]; omega
    | ⟨1, _⟩ => show t.val % 16 * 512 + r.val = win0_5.index _ 1 * 512 + 1 * r.val; rw [hi.2.1]; omega
    | ⟨2, _⟩ => show t.val / 16 * 1408 + q.val = win0_5.index _ 2 * 1408 + 1 * q.val; rw [hi.2.2]; omega
  · show (factors (iblk m c 0 t) (iblk m c 1 t) (iblk m c 2 t) (iblk m c 3 t) (ix3 p r q) : EReal) = (val_main_v33 (F := Ideal) (a0 m c) (a1 m c) (a2 m c) _ : EReal)
    unfold factors val_main_v33
    have hp : p.val = 0 ∨ p.val = 1 := by omega
    rcases hp with hp | hp
    · refine ((if_pos hp).trans (slope_ref m c t r q)).trans
        (Eq.trans ?_ (stack_apply _ _ 0 (by simp) (val_main_v31 (F := Ideal) (a0 m c) (a1 m c) (a2 m c)) rfl (by simp) _ hp _ _).symm)
      unfold val_main_v31
      generalize val_main_v30 (F := Ideal) (a0 m c) (a1 m c) (a2 m c) = y
      pointwise []
    · refine ((if_neg (show ¬p.val = 0 by omega)).trans (Eq.trans ?_ (silu_ref m c t r q))).trans
        (Eq.trans ?_ (stack_apply _ _ 1 (by simp) (val_main_v32 (F := Ideal) (a0 m c) (a1 m c) (a2 m c)) rfl (by simp) _ hp _ _).symm)
      · generalize k0_pay9 (F := Ideal) (iblk m c 0 t) (iblk m c 1 t) (iblk m c 2 t) = y
        pointwise [k0_pay2]
      · unfold val_main_v32
        generalize val_main_v27_0 (F := Ideal) (a0 m c) (a1 m c) (a2 m c) = y
        pointwise []

theorem index6 : ∀ t : Fin cfg0.N, win0_6.index t 0 = t.val % 16 ∧ win0_6.index t 1 = t.val / 16 :=
  (by decide +kernel : ∀ t : Fin grid0.N, win0_6.index t 0 = t.val % 16 ∧ win0_6.index t 1 = t.val / 16)

/-- The activation at the end. -/
theorem arr6 (c : Dev nD) : (dats m 0 c).arrAt 6 cfg0.N = val_main_v41 (F := Ideal) (a0 m c) (a1 m c) (a2 m c) := by
  funext i
  obtain ⟨t, r, q, hi⟩ : ∃ (t : Fin cfg0.N) (r : Fin 512) (q : Fin 1408), i = ix2 (row t r) (col t q) := by
    have h1 : (i 0).val < 8192 := (i 0).isLt
    have h2 : (i 1).val < 2816 := (i 1).isLt
    refine ⟨⟨(i 1).val / 1408 * 16 + (i 0).val / 512, by rw [N32]; omega⟩, ⟨(i 0).val % 512, by omega⟩, ⟨(i 1).val % 1408, by omega⟩, ?_⟩
    refine (eq_ix2 i).trans (congrArg₂ (fun x y => ix2 x y) (Fin.ext ?_) (Fin.ext ?_))
    · show (i 0).val = ((i 1).val / 1408 * 16 + (i 0).val / 512) % 16 * 512 + (i 0).val % 512
      omega
    · show (i 1).val = ((i 1).val / 1408 * 16 + (i 0).val / 512) / 16 * 1408 + (i 1).val % 1408
      omega
  subst hi
  have h := congrFun (Value.blocks6 m c t (flush0_6 _)) (ix2 r q)
  rw [View.read_apply, Value.flushed6, out6_eq] at h
  have hi := index6 t
  refine Eq.trans ?_ (h.trans ?_)
  · show _ = ((dats m 0 c).arrAt 6 cfg0.N : FVec Ideal S8192x2816 .bf16) _
    congr 1
    funext a
    apply Fin.ext
    match a with
    | ⟨0, _⟩ => show t.val % 16 * 512 + r.val = win0_6.index _ 0 * 512 + 1 * r.val; rw [hi.1]; omega
    | ⟨1, _⟩ => show t.val / 16 * 1408 + q.val = win0_6.index _ 1 * 1408 + 1 * q.val; rw [hi.2]; omega
  · exact congrArg₂ (fun x y : EReal => x * y) (silu_ref m c t r q) (up_ref m c t r q)

end Cert.Kernel6Ideal.Blocks

end
-- ==== Proof.Down.lean ====
/- The product by the down weights, with the residual: what each grid point leaves, and the result at the end. -/
module

public import proofs.«01_k».proof.Proof.Sums
public import Idealize.ShloMosaic.Lib.Pipeline.ReadBack
public import proofs.«01_k».proof.Proof.Gen.Kernel7Ideal.Value
public import proofs.«01_k».proof.Proof.Gen.Reference7Ideal.Read

@[expose] public section

noncomputable section

namespace Cert.Kernel7Ideal.Blocks

open Idealize.ShloMosaic Idealize.ShloMosaic.TcCoe Idealize.SL.Sem Cert.Kernel7Ideal Cert.Kernel7Ideal.Gen
open Cert.Reference7Ideal.Read Cert.Sums

theorem hz : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ)

/-- The activations. -/
abbrev a0 (c : Dev nD) : FVec Ideal S8192x2816 .bf16 := m ((c : Thread nD τ).loc main_arg0)
/-- The down weights. -/
abbrev a1 (c : Dev nD) : FVec Ideal S1x2816x1024 .bf16 := m ((c : Thread nD τ).loc main_arg1)
/-- The residual. -/
abbrev a2 (c : Dev nD) : FVec Ideal S8192x1024 .f32 := m ((c : Thread nD τ).loc main_arg2)

theorem N16 : cfg0.N = 16 := by decide +kernel
theorem lt16 (t : Fin cfg0.N) : t.val < 16 := lt_of_lt_of_eq t.isLt N16

theorem index0 : ∀ t : Fin cfg0.N, win0_0.index t 0 = t.val ∧ win0_0.index t 1 = 0 :=
  (by decide +kernel : ∀ t : Fin grid0.N, win0_0.index t 0 = t.val ∧ win0_0.index t 1 = 0)

/-- A point reads 512 rows. -/
theorem blk0 (c : Dev nD) (t : Fin cfg0.N) (r : Fin 512) (d : Fin 2816) :
    (iblk m c 0 t : FVec Ideal S512x2816 .bf16) (ix2 r d) = (a0 m c (ix2 ⟨t.val * 512 + r.val, by have := lt16 t; omega⟩ d) : EReal) := by
  unfold iblk
  rw [View.read_apply]
  show V m c main_arg0 _ = _
  rw [V_main_arg0]
  congr 1
  funext a
  apply Fin.ext
  match a with
  | ⟨0, _⟩ => show win0_0.index t 0 * 512 + 1 * r.val = t.val * 512 + r.val; rw [(index0 t).1]; omega
  | ⟨1, _⟩ => show win0_0.index t 1 * 2816 + 1 * d.val = d.val; rw [(index0 t).2]; omega

theorem index1 : ∀ (t : Fin cfg0.N) (a : Fin 3), win0_1.index t a = 0 :=
  (by decide +kernel : ∀ (t : Fin grid0.N) (a : Fin 3), win0_1.index t a = 0)

/-- Every point reads the whole weight. -/
theorem blk1 (c : Dev nD) (t : Fin cfg0.N) (r : Fin 2816) (d : Fin 1024) :
    (iblk m c 1 t : FVec Ideal S1x2816x1024 .bf16) (ix3 0 r d) = (a1 m c (ix3 0 r d) : EReal) := by
  unfold iblk
  rw [View.read_apply]
  show V m c main_arg1 _ = _
  rw [V_main_arg1]
  congr 1
  funext a
  apply Fin.ext
  match a with
  | ⟨0, _⟩ => show win0_1.index t 0 * 1 + 1 * 0 = 0; rw [index1 t 0]
  | ⟨1, _⟩ => show win0_1.index t 1 * 2816 + 1 * r.val = r.val; rw [index1 t 1]; omega
  | ⟨2, _⟩ => show win0_1.index t 2 * 1024 + 1 * d.val = d.val; rw [index1 t 2]; omega

theorem index2 : ∀ t : Fin cfg0.N, win0_2.index t 0 = t.val ∧ win0_2.index t 1 = 0 :=
  (by decide +kernel : ∀ t : Fin grid0.N, win0_2.index t 0 = t.val ∧ win0_2.index t 1 = 0)

/-- A point reads 512 rows of the residual. -/
theorem blk2 (c : Dev nD) (t : Fin cfg0.N) (r : Fin 512) (d : Fin 1024) :
    (iblk m c 2 t : FVec Ideal S512x1024 .f32) (ix2 r d) = (a2 m c (ix2 ⟨t.val * 512 + r.val, by have := lt16 t; omega⟩ d) : EReal) := by
  unfold iblk
  rw [View.read_apply]
  show V m c main_arg2 _ = _
  rw [V_main_arg2]
  congr 1
  funext a
  apply Fin.ext
  match a with
  | ⟨0, _⟩ => show win0_2.index t 0 * 512 + 1 * r.val = t.val * 512 + r.val; rw [(index2 t).1]; omega
  | ⟨1, _⟩ => show win0_2.index t 1 * 1024 + 1 * d.val = d.val; rw [(index2 t).2]; omega

/-- A point leaves its product and the residual's rows. -/
theorem out_eq (x0 : Vec Ideal S512x2816 .bf16) (x1 : Vec Ideal S1x2816x1024 .bf16) (x2 : Vec Ideal S512x1024 .f32) : out0_3 x0 x1 x2 = k0_pay1 x0 x1 x2 := by
  unfold out0_3
  rw [View.canon_unit_zero (S := S512x1024) hz]
  simp only [View.ld_unit_zero (S := S512x2816) hz, View.ld_unit_zero (S := S1x2816x1024) hz3, View.ld_unit_zero (S := S512x1024) hz]

/-- A point's rows are the reference's. -/
theorem rows (c : Dev nD) (t : Fin cfg0.N) (r : Fin 512) (k : Fin 1024) :
    (out0_3 (iblk m c 0 t) (iblk m c 1 t) (iblk m c 2 t) (ix2 r k) : EReal)
      = val_main_v4 (F := Ideal) (a0 m c) (a1 m c) (a2 m c) (ix2 ⟨t.val * 512 + r.val, by have := lt16 t; omega⟩ k) := by
  rw [out_eq]
  pointwise [k0_pay1, val_main_v4, val_main_v3, val_main_v2, val_main_v1, val_main_v0]
  simp only [blk0, blk1, blk2]
  exact add_comm _ _

theorem index3 : ∀ t : Fin cfg0.N, win0_3.index t 0 = t.val ∧ win0_3.index t 1 = 0 :=
  (by decide +kernel : ∀ t : Fin grid0.N, win0_3.index t 0 = t.val ∧ win0_3.index t 1 = 0)

/-- The kernel's result is the reference's. -/
theorem arr3 (c : Dev nD) : (dats m 0 c).arrAt 3 cfg0.N = val_main_v4 (F := Ideal) (a0 m c) (a1 m c) (a2 m c) := by
  funext i
  obtain ⟨n, r, k, hi⟩ : ∃ (n : Fin 16) (r : Fin 512) (k : Fin 1024), i = ix2 ⟨n.val * 512 + r.val, by omega⟩ k := by
    refine ⟨⟨(i 0).val / 512, by have : (i 0).val < 8192 := (i 0).isLt; omega⟩, ⟨(i 0).val % 512, by omega⟩, i 1, ?_⟩
    refine (eq_ix2 i).trans (congrArg (fun x => ix2 x (i 1)) (Fin.ext ?_))
    show (i 0).val = (i 0).val / 512 * 512 + (i 0).val % 512
    omega
  subst hi
  have h := congrFun (Value.blocks3 m c ⟨n, by rw [N16]; omega⟩ (flush0_3 _)) (ix2 r k)
  rw [View.read_apply, Value.flushed3] at h
  refine Eq.trans ?_ (h.trans (rows m c ⟨n, by rw [N16]; omega⟩ r k))
  show _ = ((dats m 0 c).arrAt 3 cfg0.N : FVec Ideal S8192x1024 .f32) _
  congr 1
  funext a
  apply Fin.ext
  have hi := index3 ⟨n, by rw [N16]; omega⟩
  match a with
  | ⟨0, _⟩ => show n.val * 512 + r.val = win0_3.index _ 0 * 512 + 1 * r.val; rw [hi.1]; dsimp only; omega
  | ⟨1, _⟩ => show k.val = win0_3.index _ 1 * 1024 + 1 * k.val; rw [hi.2]; omega

end Cert.Kernel7Ideal.Blocks

end
-- ==== Proof.MixOutDx.lean ====
/- The product of the cotangent by the transposed output weights: what each grid point leaves, and the result at the end. -/
module

public import proofs.«01_k».proof.Proof.Sums
public import Idealize.ShloMosaic.Lib.Pipeline.ReadBack
public import proofs.«01_k».proof.Proof.Gen.Kernel8Ideal.Value
public import proofs.«01_k».proof.Proof.Gen.Reference8Ideal.Read

@[expose] public section

noncomputable section

namespace Cert.Kernel8Ideal.Blocks

open Idealize.ShloMosaic Idealize.ShloMosaic.TcCoe Idealize.SL.Sem Cert.Kernel8Ideal Cert.Kernel8Ideal.Gen
open Cert.Reference8Ideal.Read Cert.Sums

theorem hz : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ)

/-- The cotangent. -/
abbrev a0 (c : Dev nD) : FVec Ideal S8192x1024 .bf16 := m ((c : Thread nD τ).loc main_arg0)
/-- The output weights. -/
abbrev a1 (c : Dev nD) : FVec Ideal S1x1024x1024 .bf16 := m ((c : Thread nD τ).loc main_arg1)

theorem N16 : cfg0.N = 16 := by decide +kernel
theorem lt16 (t : Fin cfg0.N) : t.val < 16 := lt_of_lt_of_eq t.isLt N16

theorem index0 : ∀ t : Fin cfg0.N, win0_0.index t 0 = t.val ∧ win0_0.index t 1 = 0 :=
  (by decide +kernel : ∀ t : Fin grid0.N, win0_0.index t 0 = t.val ∧ win0_0.index t 1 = 0)

/-- A point reads 512 rows. -/
theorem blk0 (c : Dev nD) (t : Fin cfg0.N) (r : Fin 512) (d : Fin 1024) :
    (iblk m c 0 t : FVec Ideal S512x1024 .bf16) (ix2 r d) = (a0 m c (ix2 ⟨t.val * 512 + r.val, by have := lt16 t; omega⟩ d) : EReal) := by
  unfold iblk
  rw [View.read_apply]
  show V m c main_arg0 _ = _
  rw [V_main_arg0]
  congr 1
  funext a
  apply Fin.ext
  match a with
  | ⟨0, _⟩ => show win0_0.index t 0 * 512 + 1 * r.val = t.val * 512 + r.val; rw [(index0 t).1]; omega
  | ⟨1, _⟩ => show win0_0.index t 1 * 1024 + 1 * d.val = d.val; rw [(index0 t).2]; omega

theorem index1 : ∀ (t : Fin cfg0.N) (a : Fin 3), win0_1.index t a = 0 :=
  (by decide +kernel : ∀ (t : Fin grid0.N) (a : Fin 3), win0_1.index t a = 0)

/-- Every point reads the whole weight. -/
theorem blk1 (c : Dev nD) (t : Fin cfg0.N) (r : Fin 1024) (d : Fin 1024) :
    (iblk m c 1 t : FVec Ideal S1x1024x1024 .bf16) (ix3 0 r d) = (a1 m c (ix3 0 r d) : EReal) := by
  unfold iblk
  rw [View.read_apply]
  show V m c main_arg1 _ = _
  rw [V_main_arg1]
  congr 1
  funext a
  apply Fin.ext
  match a with
  | ⟨0, _⟩ => show win0_1.index t 0 * 1 + 1 * 0 = 0; rw [index1 t 0]
  | ⟨1, _⟩ => show win0_1.index t 1 * 1024 + 1 * r.val = r.val; rw [index1 t 1]; omega
  | ⟨2, _⟩ => show win0_1.index t 2 * 1024 + 1 * d.val = d.val; rw [index1 t 2]; omega

/-- A point leaves its product. -/
theorem out_eq (x0 : Vec Ideal S512x1024 .bf16) (x1 : Vec Ideal S1x1024x1024 .bf16) : out0_2 x0 x1 = k0_pay1 x0 x1 := by
  unfold out0_2
  rw [View.canon_unit_zero (S := S512x1024) hz]
  simp only [View.ld_unit_zero (S := S512x1024) hz, View.ld_unit_zero (S := S1x1024x1024) hz3]

/-- A point's rows are the reference's. -/
theorem rows (c : Dev nD) (t : Fin cfg0.N) (r : Fin 512) (k : Fin 1024) :
    (out0_2 (iblk m c 0 t) (iblk m c 1 t) (ix2 r k) : EReal)
      = val_main_v5 (F := Ideal) (a0 m c) (a1 m c) (ix2 ⟨t.val * 512 + r.val, by have := lt16 t; omega⟩ k) := by
  rw [out_eq]
  pointwise [k0_pay1, val_main_v5, val_main_v4, val_main_v1, val_main_v0]
  simp only [blk0, blk1]

theorem index2 : ∀ t : Fin cfg0.N, win0_2.index t 0 = t.val ∧ win0_2.index t 1 = 0 :=
  (by decide +kernel : ∀ t : Fin grid0.N, win0_2.index t 0 = t.val ∧ win0_2.index t 1 = 0)

/-- The kernel's result is the reference's. -/
theorem arr2 (c : Dev nD) : (dats m 0 c).arrAt 2 cfg0.N = val_main_v5 (F := Ideal) (a0 m c) (a1 m c) := by
  funext i
  obtain ⟨n, r, k, hi⟩ : ∃ (n : Fin 16) (r : Fin 512) (k : Fin 1024), i = ix2 ⟨n.val * 512 + r.val, by omega⟩ k := by
    refine ⟨⟨(i 0).val / 512, by have : (i 0).val < 8192 := (i 0).isLt; omega⟩, ⟨(i 0).val % 512, by omega⟩, i 1, ?_⟩
    refine (eq_ix2 i).trans (congrArg (fun x => ix2 x (i 1)) (Fin.ext ?_))
    show (i 0).val = (i 0).val / 512 * 512 + (i 0).val % 512
    omega
  subst hi
  have h := congrFun (Value.blocks2 m c ⟨n, by rw [N16]; omega⟩ (flush0_2 _)) (ix2 r k)
  rw [View.read_apply, Value.flushed2] at h
  refine Eq.trans ?_ (h.trans (rows m c ⟨n, by rw [N16]; omega⟩ r k))
  show _ = ((dats m 0 c).arrAt 2 cfg0.N : FVec Ideal S8192x1024 .f32) _
  congr 1
  funext a
  apply Fin.ext
  have hi := index2 ⟨n, by rw [N16]; omega⟩
  match a with
  | ⟨0, _⟩ => show n.val * 512 + r.val = win0_2.index _ 0 * 512 + 1 * r.val; rw [hi.1]; dsimp only; omega
  | ⟨1, _⟩ => show k.val = win0_2.index _ 1 * 1024 + 1 * k.val; rw [hi.2]; omega

end Cert.Kernel8Ideal.Blocks

end
-- ==== Proof.MixOutDw.lean ====
/- The gradient of the mixer's output weights: what each grid point adds to the carried sum, and what the kernel's
   result holds at its end. -/
module

public import proofs.«01_k».proof.Proof.Sums
public import Idealize.ShloMosaic.Lib.Pipeline.ReadBack
public import proofs.«01_k».proof.Proof.Gen.Kernel9Ideal.Value
public import proofs.«01_k».proof.Proof.Gen.Reference9Ideal.Read

@[expose] public section

noncomputable section

namespace Cert.Kernel9Ideal.Blocks

open Idealize.ShloMosaic Idealize.ShloMosaic.TcCoe Idealize.SL.Sem Cert.Kernel9Ideal Cert.Kernel9Ideal.Gen
open Cert.Reference9Ideal.Read Cert.Sums

theorem hz : (![0, 0] : Fin 2 → Nat) = fun _ => 0 := funext fun a => by fin_cases a <;> rfl
theorem hz3 : (![0, 0, 0] : Fin 3 → Nat) = fun _ => 0 := funext fun a => by fin_cases a <;> rfl

section Points

variable {F : FTy → Type} [FloatOps F] (c : Dev nD) (i : grid0.Coords)
  (arg3 : Memref sig .tc .vmem S2048x1024 .bf16) (harg3 : arg3.IsWhole) (arg4 : Memref sig .tc .vmem S2048x1024 .bf16) (harg4 : arg4.IsWhole)
  (arg5 : Memref sig .tc .vmem S4x256x1024 .f32) (harg5 : arg5.IsWhole) (arg6 : Memref sig .tc .vmem S1024x1024 .f32) (harg6 : arg6.IsWhole)
  (x0 : Vec F S2048x1024 .bf16) (x1 : Vec F S2048x1024 .bf16) (xs0 : Vec F S1024x1024 .f32)

/-- At the first point the carried sum starts as the point's product. -/
theorem first (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero hz]
  simp only [View.readAt_eq_ld, harg3.read_unread, harg4.read_unread, View.ld_unit_zero (S := S2048x1024) hz]

/-- At a point between the carried sum gains the point's product. -/
theorem between (hc0 : ¬cond0_0 i) (hc1 : cond0_1 i) (hc2 : ¬cond0_2 i) :
    sout0_B_0 c i arg3 harg3 arg4 harg4 arg5 harg5 arg6 harg6 hc0 hc1 hc2 x0 x1 xs0 = k0_pay3 x0 x1 xs0 := by
  unfold sout0_B_0
  rw [View.read_writes_eq_canon _ _ _ (scover0_B_0 c i arg3 harg3 arg4 harg4 arg5 harg5 arg6 harg6 hc0 hc1 hc2 x0 x1 xs0)]
  unfold kernelRun0_B
  dsimp only
  sl_unfold_words
  rw [View.canon_unit_zero hz]
  simp only [View.readAt_eq_ld, harg3.read_unread, harg4.read_unread, harg6.read_unread, View.ld_unit_zero (S := S2048x1024) hz, View.ld_unit_zero (S := S1024x1024) hz]

/-- At the last point the result is the carried sum with the point's product. -/
theorem last (hc0 : ¬cond0_0 i) (hc1 : cond0_1 i) (hc2 : cond0_2 i) :
    out0_C_2 c i arg3 harg3 arg4 harg4 arg5 harg5 arg6 harg6 hc0 hc1 hc2 x0 x1 xs0 = k0_pay4 (k0_pay3 x0 x1 xs0) := by
  unfold out0_C_2
  rw [View.read_writes_eq_canon _ _ _ (cover0_C_2 c i arg3 harg3 arg4 harg4 arg5 harg5 arg6 harg6 hc0 hc1 hc2 x0 x1 xs0)]
  unfold kernelRun0_C
  dsimp only
  sl_unfold_words
  rw [View.canon_unit_zero hz3]
  simp only [View.readAt_eq_ld, View.readCov_unit_zero (S := S1024x1024) _ hz, harg3.read_unread, harg4.read_unread, harg6.read_unread,
    View.ld_unit_zero (S := S2048x1024) hz, View.ld_unit_zero (S := S1024x1024) hz]

end Points

variable (m : (ℓ : Loc nD τ sig) → Buf (Elt Ideal) ℓ)

/-- The mixer's heads, side by side. -/
abbrev a0 (c : Dev nD) : FVec Ideal S8192x1024 .bf16 := m ((c : Thread nD τ).loc main_arg0)
/-- The cotangent. -/
abbrev a1 (c : Dev nD) : FVec Ideal S8192x1024 .bf16 := m ((c : Thread nD τ).loc main_arg1)

theorem N4 : cfg0.N = 4 := by decide +kernel
theorem lt4 (t : Fin cfg0.N) : t.val < 4 := lt_of_lt_of_eq t.isLt N4

theorem index0 : ∀ t : Fin cfg0.N, win0_0.index t 0 = t.val ∧ win0_0.index t 1 = 0 :=
  (by decide +kernel : ∀ t : Fin grid0.N, win0_0.index t 0 = t.val ∧ win0_0.index t 1 = 0)

/-- A point reads 2048 rows. -/
theorem blk0 (c : Dev nD) (t : Fin cfg0.N) (r : Fin 2048) (d : Fin 1024) :
    (iblk m c 0 t : FVec Ideal S2048x1024 .bf16) (ix2 r d) = (a0 m c (ix2 ⟨t.val * 2048 + r.val, by have := lt4 t; omega⟩ d) : EReal) := by
  unfold iblk
  rw [View.read_apply]
  show V m c main_arg0 _ = _
  rw [V_main_arg0]
  congr 1
  funext a
  apply Fin.ext
  match a with
  | ⟨0, _⟩ => show win0_0.index t 0 * 2048 + 1 * r.val = t.val * 2048 + r.val; rw [(index0 t).1]; omega
  | ⟨1, _⟩ => show win0_0.index t 1 * 1024 + 1 * d.val = d.val; rw [(index0 t).2]; omega

theorem index1 : ∀ t : Fin cfg0.N, win0_1.index t 0 = t.val ∧ win0_1.index t 1 = 0 :=
  (by decide +kernel : ∀ t : Fin grid0.N, win0_1.index t 0 = t.val ∧ win0_1.index t 1 = 0)

/-- A point reads 2048 rows. -/
theorem blk1 (c : Dev nD) (t : Fin cfg0.N) (r : Fin 2048) (d : Fin 1024) :
    (iblk m c 1 t : FVec Ideal S2048x1024 .bf16) (ix2 r d) = (a1 m c (ix2 ⟨t.val * 2048 + r.val, by have := lt4 t; omega⟩ d) : EReal) := by
  unfold iblk
  rw [View.read_apply]
  show V m c main_arg1 _ = _
  rw [V_main_arg1]
  congr 1
  funext a
  apply Fin.ext
  match a with
  | ⟨0, _⟩ => show win0_1.index t 0 * 2048 + 1 * r.val = t.val * 2048 + r.val; rw [(index1 t).1]; omega
  | ⟨1, _⟩ => show win0_1.index t 1 * 1024 + 1 * d.val = d.val; rw [(index1 t).2]; omega

/-- The product's terms, row by row. -/
abbrev term (c : Dev nD) (d : Fin 1024) (k : Fin 1024) (r : Fin 8192) : EReal :=
  a0 m c (ix2 r d) * a1 m c (ix2 r k)

/-- A point's part of the product. -/
abbrev part (c : Dev nD) (d : Fin 1024) (k : Fin 1024) (q : Fin 4) : EReal :=
  ∑ r : Fin 2048, term m c d k ⟨q.val * 2048 + r.val, by omega⟩

/-- A point's product is its part. -/
theorem prod (c : Dev nD) (t : Fin cfg0.N) (d : Fin 1024) (k : Fin 1024) :
    (k0_pay1 (F := Ideal) (iblk m c 0 t) (iblk m c 1 t) (ix2 d k) : EReal) = part m c d k ⟨t.val, lt4 t⟩ := by
  pointwise [k0_pay1]
  refine Finset.sum_congr rfl fun r _ => ?_
  rw [blk0, blk1]

/-- The block's four planes are its rows, cut in four. -/
theorem planes (x : FVec Ideal S1024x1024 .f32) (p : Fin 4) (d : Fin 256) (k : Fin 1024) :
    (k0_pay4 (F := Ideal) x (ix3 p d k) : EReal) = x (ix2 ⟨p.val * 256 + d.val, by omega⟩ k) := by
  pointwise [k0_pay4]

/-- Before the last point the carried sum is the sum of the parts so far. -/
theorem carried (c : Dev nD) (d : Fin 1024) (k : Fin 1024) : ∀ n (h : n < cfg0.N), n < 3 →
    ((outsAt0 m c n h).2 (ix2 d k) : EReal) = ∑ i ∈ Finset.range (n + 1), (if h : i < 4 then part m c d k ⟨i, h⟩ else 0) := by
  intro n
  induction n with
  | zero =>
    intro h _
    rw [outsAt0_A m c ⟨0, h⟩ rfl (Nat.not_succ_le_zero 0) (by show ¬0 % 4 = 3; omega)]
    dsimp only
    rw [first]
    pointwise [k0_pay2]
    refine (prod m c ⟨0, h⟩ d k).trans ?_
    simp
  | succ n ih =>
    intro h hn
    rw [outsAt0_B m c ⟨n + 1, h⟩ (by dsimp only; omega) (by dsimp only; omega) (by dsimp only; omega)]
    dsimp only
    rw [between]
    pointwise [k0_pay3]
    rw [prod m c ⟨n + 1, h⟩, Finset.sum_range_succ _ (n + 1), dif_pos (by omega)]
    exact congrArg (· + _) (ih (Nat.lt_of_succ_lt h) (by omega))

/-- The reference's stages at a quarter of the columns: the product's element. -/
theorem ref (x0 : FVec Ideal S8192x1024 .bf16) (x1 : FVec Ideal S8192x1024 .bf16) (j : Fin 4) (d : Fin 256) (k : Fin 1024) :
    (val_main_v14 (F := Ideal) x0 x1 (ix3 j d k) : EReal)
      = ∑ r : Fin 8192, x0 (ix2 r ⟨j.val * 256 + d.val, by omega⟩) * x1 (ix2 r k) := by
  unfold val_main_v14
  match j with
  | 0 =>
    refine (stack_apply _ _ 0 (by simp) (val_main_v10 (F := Ideal) x0 x1) rfl rfl 0 rfl d k).trans ?_
    pointwise [val_main_v10, val_main_v6, val_main_v5, val_main_v4, val_main_v3, val_main_v1]
    exact Finset.sum_congr rfl fun r _ => mul_comm _ _
  | 1 =>
    refine (stack_apply _ _ 1 (by simp) (val_main_v11 (F := Ideal) x0 x1) rfl rfl 1 rfl d k).trans ?_
    pointwise [val_main_v11, val_main_v7, val_main_v5, val_main_v4, val_main_v3, val_main_v1]
    exact Finset.sum_congr rfl fun r _ => mul_comm _ _
  | 2 =>
    refine (stack_apply _ _ 2 (by simp) (val_main_v12 (F := Ideal) x0 x1) rfl rfl 2 rfl d k).trans ?_
    pointwise [val_main_v12, val_main_v8, val_main_v5, val_main_v4, val_main_v3, val_main_v1]
    exact Finset.sum_congr rfl fun r _ => mul_comm _ _
  | 3 =>
    refine (stack_apply _ _ 3 (by simp) (val_main_v13 (F := Ideal) x0 x1) rfl rfl 3 rfl d k).trans ?_
    pointwise [val_main_v13, val_main_v9, val_main_v5, val_main_v4, val_main_v3, val_main_v1]
    exact Finset.sum_congr rfl fun r _ => mul_comm _ _

/-- What the last point leaves in the result's block. -/
theorem last_point (c : Dev nD) (t : Fin cfg0.N) (ht : t.val % 4 = 3) :
    ((outsAt0 m c t.val t.isLt).1 : FVec Ideal S4x256x1024 .f32) = val_main_v14 (F := Ideal) (a0 m c) (a1 m c) := by
  funext i
  obtain ⟨p, d, k, hi⟩ : ∃ (p : Fin 4) (d : Fin 256) (k : Fin 1024), i = ix3 p d k := ⟨i 0, i 1, i 2, eq_ix3 i⟩
  subst hi
  have hlt := lt4 t
  rw [ref, sum_blocks (n := 4) (b := 2048) (by rfl), outsAt0_C m c t (by omega) (by omega) ht]
  dsimp only
  rw [last, planes]
  pointwise [k0_pay3]
  rw [prod m c t, carried m c _ k (t.val - 1) _ (by omega), show t.val - 1 + 1 = 3 by omega]
  have e : ∀ f : Fin 4 → EReal, ∑ q, f q = ∑ i ∈ Finset.range (3 + 1), (if h : i < 4 then f ⟨i, h⟩ else 0) := fun f => by
    rw [Finset.sum_range]
    exact Finset.sum_congr rfl fun i _ => by rw [dif_pos i.isLt]
  rw [e (part m c _ k), Finset.sum_range_succ _ 3, dif_pos (by omega)]
  exact congrArg (fun q => _ + part m c _ k q) (Fin.ext (by show t.val = 3; omega))

theorem index2 : ∀ (t : Fin cfg0.N) (a : Fin 3), win0_2.index t a = 0 :=
  (by decide +kernel : ∀ (t : Fin grid0.N) (a : Fin 3), win0_2.index t a = 0)

/-- The last grid point. -/
theorem exists_last : ∃ t : Fin cfg0.N, t.val % 4 = 3 := ⟨⟨3, by rw [N4]; omega⟩, rfl⟩

/-- The kernel's result is the reference's. -/
theorem equal (c : Dev nD) : (dats m 0 c).arrAt 2 cfg0.N = val_main_v14 (F := Ideal) (a0 m c) (a1 m c) := by
  have hX : ∀ s : Fin cfg0.N, s.val % 4 = 3 → ((outsAt0 m c s.val s.isLt).1 : FVec Ideal S4x256x1024 .f32) = val_main_v14 (F := Ideal) (a0 m c) (a1 m c) :=
    fun s hs => last_point m c s hs
  generalize val_main_v14 (F := Ideal) (a0 m c) (a1 m c) = X at hX ⊢
  have hf : ∀ s, (cfg0.win 2).flush s = true →
      (dats m 0 c).flushed 2 s = ((cfg0.win 2).blk s).view.read (Elt Ideal) (X : Buf (Elt Ideal) ((c : Thread nD τ).loc main_v0)) := by
    intro s hs
    show (cfg0.win 2).cut (grid0.coords s) ((dats m 0 c).after 2 s) = _
    rw [after0_2, hX s ((flush0_2 s).mp hs)]
    have hz : (fun a => win0_2.index s a * main_v0.ty.shape.size a) = fun _ => 0 := funext fun a => by rw [index2 s a, Nat.zero_mul]
    exact (Memref.read_access_unit_zero (Elt Ideal) main_v0 hz (fun a => by rw [congrFun hz a]; simp) X).symm
  obtain ⟨t, ht⟩ := exists_last
  refine (dats m 0 c).arrAt_eq_of_cover 2 X hf fun i => ⟨t, (flush0_2 t).mpr ht, ?_⟩
  show i ∈ ((View.whole main_v0).slice (win0_2.rect t)).set
  rw [View.set_slice_whole, Rect.mem_set_unit]
  intro a
  have hx : ∀ a : Fin 3, win0_2.xsize (grid0.coords t) a = win0_2.size a := by revert t; decide +kernel
  show win0_2.index t a * win0_2.size a ≤ (i a : Nat) ∧ (i a : Nat) < win0_2.index t a * win0_2.size a + win0_2.xsize (grid0.coords t) a
  rw [index2, hx, Nat.zero_mul, Nat.zero_add]
  exact ⟨Nat.zero_le _, (i a).isLt⟩

end Cert.Kernel9Ideal.Blocks

end
-- ==== Proof.InDwB.lean ====
/- The gradient of the gating mixer's input weights: what each grid point adds to the carried sum, and what the kernel's
   result holds at its end. -/
module

public import proofs.«01_k».proof.Proof.Sums
public import Idealize.ShloMosaic.Lib.Pipeline.ReadBack
public import proofs.«01_k».proof.Proof.Gen.Kernel10Ideal.Value
public import proofs.«01_k».proof.Proof.Gen.Reference10Ideal.Read

@[expose] public section

noncomputable section

namespace Cert.Kernel10Ideal.Blocks

open Idealize.ShloMosaic Idealize.ShloMosaic.TcCoe Idealize.SL.Sem Cert.Kernel10Ideal Cert.Kernel10Ideal.Gen
open Cert.Reference10Ideal.Read Cert.Sums

theorem hz : (![0, 0] : Fin 2 → Nat) = fun _ => 0 := funext fun a => by fin_cases a <;> rfl
theorem hz3 : (![0, 0, 0] : Fin 3 → Nat) = fun _ => 0 := funext fun a => by fin_cases a <;> rfl

section Points

variable {F : FTy → Type} [FloatOps F] (c : Dev nD) (i : grid0.Coords)
  (arg3 : Memref sig .tc .vmem S1024x1792 .bf16) (harg3 : arg3.IsWhole) (arg4 : Memref sig .tc .vmem S1024x1024 .bf16) (harg4 : arg4.IsWhole)
  (arg5 : Memref sig .tc .vmem S4x448x1024 .f32) (harg5 : arg5.IsWhole) (arg6 : Memref sig .tc .vmem S1792x1024 .f32) (harg6 : arg6.IsWhole)
  (x0 : Vec F S1024x1792 .bf16) (x1 : Vec F S1024x1024 .bf16) (xs0 : Vec F S1792x1024 .f32)

/-- At the first point the carried sum starts as the point's product. -/
theorem first (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero hz]
  simp only [View.readAt_eq_ld, harg3.read_unread, harg4.read_unread, View.ld_unit_zero (S := S1024x1792) hz, View.ld_unit_zero (S := S1024x1024) hz]

/-- At a point between the carried sum gains the point's product. -/
theorem between (hc0 : ¬cond0_0 i) (hc1 : cond0_1 i) (hc2 : ¬cond0_2 i) :
    sout0_B_0 c i arg3 harg3 arg4 harg4 arg5 harg5 arg6 harg6 hc0 hc1 hc2 x0 x1 xs0 = k0_pay3 x0 x1 xs0 := by
  unfold sout0_B_0
  rw [View.read_writes_eq_canon _ _ _ (scover0_B_0 c i arg3 harg3 arg4 harg4 arg5 harg5 arg6 harg6 hc0 hc1 hc2 x0 x1 xs0)]
  unfold kernelRun0_B
  dsimp only
  sl_unfold_words
  rw [View.canon_unit_zero hz]
  simp only [View.readAt_eq_ld, harg3.read_unread, harg4.read_unread, harg6.read_unread, View.ld_unit_zero (S := S1024x1792) hz, View.ld_unit_zero (S := S1024x1024) hz, View.ld_unit_zero (S := S1792x1024) hz]

/-- At the last point the result is the carried sum with the point's product. -/
theorem last (hc0 : ¬cond0_0 i) (hc1 : cond0_1 i) (hc2 : cond0_2 i) :
    out0_C_2 c i arg3 harg3 arg4 harg4 arg5 harg5 arg6 harg6 hc0 hc1 hc2 x0 x1 xs0 = k0_pay4 (k0_pay3 x0 x1 xs0) := by
  unfold out0_C_2
  rw [View.read_writes_eq_canon _ _ _ (cover0_C_2 c i arg3 harg3 arg4 harg4 arg5 harg5 arg6 harg6 hc0 hc1 hc2 x0 x1 xs0)]
  unfold kernelRun0_C
  dsimp only
  sl_unfold_words
  rw [View.canon_unit_zero hz3]
  simp only [View.readAt_eq_ld, View.readCov_unit_zero (S := S1792x1024) _ hz, harg3.read_unread, harg4.read_unread, harg6.read_unread,
    View.ld_unit_zero (S := S1024x1792) hz, View.ld_unit_zero (S := S1024x1024) hz, View.ld_unit_zero (S := S1792x1024) hz]

end Points

variable (m : (ℓ : Loc nD τ sig) → Buf (Elt Ideal) ℓ)

/-- The cotangent of the projection. -/
abbrev a0 (c : Dev nD) : FVec Ideal S8192x1792 .bf16 := m ((c : Thread nD τ).loc main_arg0)
/-- The projection's input, normed. -/
abbrev a1 (c : Dev nD) : FVec Ideal S8192x1024 .bf16 := m ((c : Thread nD τ).loc main_arg1)

theorem N8 : cfg0.N = 8 := by decide +kernel
theorem lt8 (t : Fin cfg0.N) : t.val < 8 := lt_of_lt_of_eq t.isLt N8

theorem index0 : ∀ t : Fin cfg0.N, win0_0.index t 0 = t.val ∧ win0_0.index t 1 = 0 :=
  (by decide +kernel : ∀ t : Fin grid0.N, win0_0.index t 0 = t.val ∧ win0_0.index t 1 = 0)

/-- A point reads 1024 rows. -/
theorem blk0 (c : Dev nD) (t : Fin cfg0.N) (r : Fin 1024) (d : Fin 1792) :
    (iblk m c 0 t : FVec Ideal S1024x1792 .bf16) (ix2 r d) = (a0 m c (ix2 ⟨t.val * 1024 + r.val, by have := lt8 t; omega⟩ d) : EReal) := by
  unfold iblk
  rw [View.read_apply]
  show V m c main_arg0 _ = _
  rw [V_main_arg0]
  congr 1
  funext a
  apply Fin.ext
  match a with
  | ⟨0, _⟩ => show win0_0.index t 0 * 1024 + 1 * r.val = t.val * 1024 + r.val; rw [(index0 t).1]; omega
  | ⟨1, _⟩ => show win0_0.index t 1 * 1792 + 1 * d.val = d.val; rw [(index0 t).2]; omega

theorem index1 : ∀ t : Fin cfg0.N, win0_1.index t 0 = t.val ∧ win0_1.index t 1 = 0 :=
  (by decide +kernel : ∀ t : Fin grid0.N, win0_1.index t 0 = t.val ∧ win0_1.index t 1 = 0)

/-- A point reads 1024 rows. -/
theorem blk1 (c : Dev nD) (t : Fin cfg0.N) (r : Fin 1024) (d : Fin 1024) :
    (iblk m c 1 t : FVec Ideal S1024x1024 .bf16) (ix2 r d) = (a1 m c (ix2 ⟨t.val * 1024 + r.val, by have := lt8 t; omega⟩ d) : EReal) := by
  unfold iblk
  rw [View.read_apply]
  show V m c main_arg1 _ = _
  rw [V_main_arg1]
  congr 1
  funext a
  apply Fin.ext
  match a with
  | ⟨0, _⟩ => show win0_1.index t 0 * 1024 + 1 * r.val = t.val * 1024 + r.val; rw [(index1 t).1]; omega
  | ⟨1, _⟩ => show win0_1.index t 1 * 1024 + 1 * d.val = d.val; rw [(index1 t).2]; omega

/-- The product's terms, row by row. -/
abbrev term (c : Dev nD) (d : Fin 1792) (k : Fin 1024) (r : Fin 8192) : EReal :=
  a0 m c (ix2 r d) * a1 m c (ix2 r k)

/-- A point's part of the product. -/
abbrev part (c : Dev nD) (d : Fin 1792) (k : Fin 1024) (q : Fin 8) : EReal :=
  ∑ r : Fin 1024, term m c d k ⟨q.val * 1024 + r.val, by omega⟩

/-- A point's product is its part. -/
theorem prod (c : Dev nD) (t : Fin cfg0.N) (d : Fin 1792) (k : Fin 1024) :
    (k0_pay1 (F := Ideal) (iblk m c 0 t) (iblk m c 1 t) (ix2 d k) : EReal) = part m c d k ⟨t.val, lt8 t⟩ := by
  pointwise [k0_pay1]
  refine Finset.sum_congr rfl fun r _ => ?_
  rw [blk0, blk1]

/-- The block's four planes are its rows, cut in four. -/
theorem planes (x : FVec Ideal S1792x1024 .f32) (p : Fin 4) (d : Fin 448) (k : Fin 1024) :
    (k0_pay4 (F := Ideal) x (ix3 p d k) : EReal) = x (ix2 ⟨p.val * 448 + d.val, by omega⟩ k) := by
  pointwise [k0_pay4]

/-- Before the last point the carried sum is the sum of the parts so far. -/
theorem carried (c : Dev nD) (d : Fin 1792) (k : Fin 1024) : ∀ n (h : n < cfg0.N), n < 7 →
    ((outsAt0 m c n h).2 (ix2 d k) : EReal) = ∑ i ∈ Finset.range (n + 1), (if h : i < 8 then part m c d k ⟨i, h⟩ else 0) := by
  intro n
  induction n with
  | zero =>
    intro h _
    rw [outsAt0_A m c ⟨0, h⟩ rfl (Nat.not_succ_le_zero 0) (by show ¬0 % 8 = 7; omega)]
    dsimp only
    rw [first]
    pointwise [k0_pay2]
    refine (prod m c ⟨0, h⟩ d k).trans ?_
    simp
  | succ n ih =>
    intro h hn
    rw [outsAt0_B m c ⟨n + 1, h⟩ (by dsimp only; omega) (by dsimp only; omega) (by dsimp only; omega)]
    dsimp only
    rw [between]
    pointwise [k0_pay3]
    rw [prod m c ⟨n + 1, h⟩, Finset.sum_range_succ _ (n + 1), dif_pos (by omega)]
    exact congrArg (· + _) (ih (Nat.lt_of_succ_lt h) (by omega))

/-- The reference's stages at a quarter of the columns: the product's element. -/
theorem ref (x0 : FVec Ideal S8192x1792 .bf16) (x1 : FVec Ideal S8192x1024 .bf16) (j : Fin 4) (d : Fin 448) (k : Fin 1024) :
    (val_main_v15 (F := Ideal) x0 x1 (ix3 j d k) : EReal)
      = ∑ r : Fin 8192, x0 (ix2 r ⟨j.val * 448 + d.val, by omega⟩) * x1 (ix2 r k) := by
  unfold val_main_v15
  match j with
  | 0 =>
    refine (stack_apply _ _ 0 (by simp) (val_main_v11 (F := Ideal) x0 x1) rfl rfl 0 rfl d k).trans ?_
    pointwise [val_main_v11, val_main_v7, val_main_v6, val_main_v5, val_main_v4, val_main_v3, val_main_v1]
  | 1 =>
    refine (stack_apply _ _ 1 (by simp) (val_main_v12 (F := Ideal) x0 x1) rfl rfl 1 rfl d k).trans ?_
    pointwise [val_main_v12, val_main_v8, val_main_v6, val_main_v5, val_main_v4, val_main_v3, val_main_v1]
  | 2 =>
    refine (stack_apply _ _ 2 (by simp) (val_main_v13 (F := Ideal) x0 x1) rfl rfl 2 rfl d k).trans ?_
    pointwise [val_main_v13, val_main_v9, val_main_v6, val_main_v5, val_main_v4, val_main_v3, val_main_v1]
  | 3 =>
    refine (stack_apply _ _ 3 (by simp) (val_main_v14 (F := Ideal) x0 x1) rfl rfl 3 rfl d k).trans ?_
    pointwise [val_main_v14, val_main_v10, val_main_v6, val_main_v5, val_main_v4, val_main_v3, val_main_v1]

/-- What the last point leaves in the result's block. -/
theorem last_point (c : Dev nD) (t : Fin cfg0.N) (ht : t.val % 8 = 7) :
    ((outsAt0 m c t.val t.isLt).1 : FVec Ideal S4x448x1024 .f32) = val_main_v15 (F := Ideal) (a0 m c) (a1 m c) := by
  funext i
  obtain ⟨p, d, k, hi⟩ : ∃ (p : Fin 4) (d : Fin 448) (k : Fin 1024), i = ix3 p d k := ⟨i 0, i 1, i 2, eq_ix3 i⟩
  subst hi
  have hlt := lt8 t
  rw [ref, sum_blocks (n := 8) (b := 1024) (by rfl), outsAt0_C m c t (by omega) (by omega) ht]
  dsimp only
  rw [last, planes]
  pointwise [k0_pay3]
  rw [prod m c t, carried m c _ k (t.val - 1) _ (by omega), show t.val - 1 + 1 = 7 by omega]
  have e : ∀ f : Fin 8 → EReal, ∑ q, f q = ∑ i ∈ Finset.range (7 + 1), (if h : i < 8 then f ⟨i, h⟩ else 0) := fun f => by
    rw [Finset.sum_range]
    exact Finset.sum_congr rfl fun i _ => by rw [dif_pos i.isLt]
  rw [e (part m c _ k), Finset.sum_range_succ _ 7, dif_pos (by omega)]
  exact congrArg (fun q => _ + part m c _ k q) (Fin.ext (by show t.val = 7; omega))

theorem index2 : ∀ (t : Fin cfg0.N) (a : Fin 3), win0_2.index t a = 0 :=
  (by decide +kernel : ∀ (t : Fin grid0.N) (a : Fin 3), win0_2.index t a = 0)

/-- The last grid point. -/
theorem exists_last : ∃ t : Fin cfg0.N, t.val % 8 = 7 := ⟨⟨7, by rw [N8]; omega⟩, rfl⟩

/-- The kernel's result is the reference's. -/
theorem equal (c : Dev nD) : (dats m 0 c).arrAt 2 cfg0.N = val_main_v15 (F := Ideal) (a0 m c) (a1 m c) := by
  have hX : ∀ s : Fin cfg0.N, s.val % 8 = 7 → ((outsAt0 m c s.val s.isLt).1 : FVec Ideal S4x448x1024 .f32) = val_main_v15 (F := Ideal) (a0 m c) (a1 m c) :=
    fun s hs => last_point m c s hs
  generalize val_main_v15 (F := Ideal) (a0 m c) (a1 m c) = X at hX ⊢
  have hf : ∀ s, (cfg0.win 2).flush s = true →
      (dats m 0 c).flushed 2 s = ((cfg0.win 2).blk s).view.read (Elt Ideal) (X : Buf (Elt Ideal) ((c : Thread nD τ).loc main_v0)) := by
    intro s hs
    show (cfg0.win 2).cut (grid0.coords s) ((dats m 0 c).after 2 s) = _
    rw [after0_2, hX s ((flush0_2 s).mp hs)]
    have hz : (fun a => win0_2.index s a * main_v0.ty.shape.size a) = fun _ => 0 := funext fun a => by rw [index2 s a, Nat.zero_mul]
    exact (Memref.read_access_unit_zero (Elt Ideal) main_v0 hz (fun a => by rw [congrFun hz a]; simp) X).symm
  obtain ⟨t, ht⟩ := exists_last
  refine (dats m 0 c).arrAt_eq_of_cover 2 X hf fun i => ⟨t, (flush0_2 t).mpr ht, ?_⟩
  show i ∈ ((View.whole main_v0).slice (win0_2.rect t)).set
  rw [View.set_slice_whole, Rect.mem_set_unit]
  intro a
  have hx : ∀ a : Fin 3, win0_2.xsize (grid0.coords t) a = win0_2.size a := by revert t; decide +kernel
  show win0_2.index t a * win0_2.size a ≤ (i a : Nat) ∧ (i a : Nat) < win0_2.index t a * win0_2.size a + win0_2.xsize (grid0.coords t) a
  rw [index2, hx, Nat.zero_mul, Nat.zero_add]
  exact ⟨Nat.zero_le _, (i a).isLt⟩

end Cert.Kernel10Ideal.Blocks

end
-- ==== Proof.InDwA.lean ====
/- The gradient of the attention mixer's input weights: what each grid point adds to the carried sum, and what the kernel's
   result holds at its end. -/
module

public import proofs.«01_k».proof.Proof.Sums
public import Idealize.ShloMosaic.Lib.Pipeline.ReadBack
public import proofs.«01_k».proof.Proof.Gen.Kernel11Ideal.Value
public import proofs.«01_k».proof.Proof.Gen.Reference11Ideal.Read

@[expose] public section

noncomputable section

namespace Cert.Kernel11Ideal.Blocks

open Idealize.ShloMosaic Idealize.ShloMosaic.TcCoe Idealize.SL.Sem Cert.Kernel11Ideal Cert.Kernel11Ideal.Gen
open Cert.Reference11Ideal.Read Cert.Sums

theorem hz : (![0, 0] : Fin 2 → Nat) = fun _ => 0 := funext fun a => by fin_cases a <;> rfl
theorem hz3 : (![0, 0, 0] : Fin 3 → Nat) = fun _ => 0 := funext fun a => by fin_cases a <;> rfl

section Points

variable {F : FTy → Type} [FloatOps F] (c : Dev nD) (i : grid0.Coords)
  (arg3 : Memref sig .tc .vmem S1024x1280 .bf16) (harg3 : arg3.IsWhole) (arg4 : Memref sig .tc .vmem S1024x1024 .bf16) (harg4 : arg4.IsWhole)
  (arg5 : Memref sig .tc .vmem S4x320x1024 .f32) (harg5 : arg5.IsWhole) (arg6 : Memref sig .tc .vmem S1280x1024 .f32) (harg6 : arg6.IsWhole)
  (x0 : Vec F S1024x1280 .bf16) (x1 : Vec F S1024x1024 .bf16) (xs0 : Vec F S1280x1024 .f32)

/-- At the first point the carried sum starts as the point's product. -/
theorem first (hc0 : cond0_0 i) (hc1 : ¬cond0_1 i) (hc2 : ¬cond0_2 i) :
    sout0_A_0 c i arg3 harg3 arg4 harg4 arg5 harg5 arg6 harg6 hc0 hc1 hc2 x0 x1 = k0_pay2 x0 x1 := by
  unfold sout0_A_0
  rw [View.read_writes_eq_canon _ _ _ (scover0_A_0 c i arg3 harg3 arg4 harg4 arg5 harg5 arg6 harg6 hc0 hc1 hc2 x0 x1)]
  unfold kernelRun0_A
  dsimp only
  sl_unfold_words
  rw [View.canon_unit_zero hz]
  simp only [View.readAt_eq_ld, harg3.read_unread, harg4.read_unread, View.ld_unit_zero (S := S1024x1280) hz, View.ld_unit_zero (S := S1024x1024) hz]

/-- At a point between the carried sum gains the point's product. -/
theorem between (hc0 : ¬cond0_0 i) (hc1 : cond0_1 i) (hc2 : ¬cond0_2 i) :
    sout0_B_0 c i arg3 harg3 arg4 harg4 arg5 harg5 arg6 harg6 hc0 hc1 hc2 x0 x1 xs0 = k0_pay3 x0 x1 xs0 := by
  unfold sout0_B_0
  rw [View.read_writes_eq_canon _ _ _ (scover0_B_0 c i arg3 harg3 arg4 harg4 arg5 harg5 arg6 harg6 hc0 hc1 hc2 x0 x1 xs0)]
  unfold kernelRun0_B
  dsimp only
  sl_unfold_words
  rw [View.canon_unit_zero hz]
  simp only [View.readAt_eq_ld, harg3.read_unread, harg4.read_unread, harg6.read_unread, View.ld_unit_zero (S := S1024x1280) hz, View.ld_unit_zero (S := S1024x1024) hz, View.ld_unit_zero (S := S1280x1024) hz]

/-- At the last point the result is the carried sum with the point's product. -/
theorem last (hc0 : ¬cond0_0 i) (hc1 : cond0_1 i) (hc2 : cond0_2 i) :
    out0_C_2 c i arg3 harg3 arg4 harg4 arg5 harg5 arg6 harg6 hc0 hc1 hc2 x0 x1 xs0 = k0_pay4 (k0_pay3 x0 x1 xs0) := by
  unfold out0_C_2
  rw [View.read_writes_eq_canon _ _ _ (cover0_C_2 c i arg3 harg3 arg4 harg4 arg5 harg5 arg6 harg6 hc0 hc1 hc2 x0 x1 xs0)]
  unfold kernelRun0_C
  dsimp only
  sl_unfold_words
  rw [View.canon_unit_zero hz3]
  simp only [View.readAt_eq_ld, View.readCov_unit_zero (S := S1280x1024) _ hz, harg3.read_unread, harg4.read_unread, harg6.read_unread,
    View.ld_unit_zero (S := S1024x1280) hz, View.ld_unit_zero (S := S1024x1024) hz, View.ld_unit_zero (S := S1280x1024) hz]

end Points

variable (m : (ℓ : Loc nD τ sig) → Buf (Elt Ideal) ℓ)

/-- The cotangent of the projection. -/
abbrev a0 (c : Dev nD) : FVec Ideal S8192x1280 .bf16 := m ((c : Thread nD τ).loc main_arg0)
/-- The projection's input, normed. -/
abbrev a1 (c : Dev nD) : FVec Ideal S8192x1024 .bf16 := m ((c : Thread nD τ).loc main_arg1)

theorem N8 : cfg0.N = 8 := by decide +kernel
theorem lt8 (t : Fin cfg0.N) : t.val < 8 := lt_of_lt_of_eq t.isLt N8

theorem index0 : ∀ t : Fin cfg0.N, win0_0.index t 0 = t.val ∧ win0_0.index t 1 = 0 :=
  (by decide +kernel : ∀ t : Fin grid0.N, win0_0.index t 0 = t.val ∧ win0_0.index t 1 = 0)

/-- A point reads 1024 rows. -/
theorem blk0 (c : Dev nD) (t : Fin cfg0.N) (r : Fin 1024) (d : Fin 1280) :
    (iblk m c 0 t : FVec Ideal S1024x1280 .bf16) (ix2 r d) = (a0 m c (ix2 ⟨t.val * 1024 + r.val, by have := lt8 t; omega⟩ d) : EReal) := by
  unfold iblk
  rw [View.read_apply]
  show V m c main_arg0 _ = _
  rw [V_main_arg0]
  congr 1
  funext a
  apply Fin.ext
  match a with
  | ⟨0, _⟩ => show win0_0.index t 0 * 1024 + 1 * r.val = t.val * 1024 + r.val; rw [(index0 t).1]; omega
  | ⟨1, _⟩ => show win0_0.index t 1 * 1280 + 1 * d.val = d.val; rw [(index0 t).2]; omega

theorem index1 : ∀ t : Fin cfg0.N, win0_1.index t 0 = t.val ∧ win0_1.index t 1 = 0 :=
  (by decide +kernel : ∀ t : Fin grid0.N, win0_1.index t 0 = t.val ∧ win0_1.index t 1 = 0)

/-- A point reads 1024 rows. -/
theorem blk1 (c : Dev nD) (t : Fin cfg0.N) (r : Fin 1024) (d : Fin 1024) :
    (iblk m c 1 t : FVec Ideal S1024x1024 .bf16) (ix2 r d) = (a1 m c (ix2 ⟨t.val * 1024 + r.val, by have := lt8 t; omega⟩ d) : EReal) := by
  unfold iblk
  rw [View.read_apply]
  show V m c main_arg1 _ = _
  rw [V_main_arg1]
  congr 1
  funext a
  apply Fin.ext
  match a with
  | ⟨0, _⟩ => show win0_1.index t 0 * 1024 + 1 * r.val = t.val * 1024 + r.val; rw [(index1 t).1]; omega
  | ⟨1, _⟩ => show win0_1.index t 1 * 1024 + 1 * d.val = d.val; rw [(index1 t).2]; omega

/-- The product's terms, row by row. -/
abbrev term (c : Dev nD) (d : Fin 1280) (k : Fin 1024) (r : Fin 8192) : EReal :=
  a0 m c (ix2 r d) * a1 m c (ix2 r k)

/-- A point's part of the product. -/
abbrev part (c : Dev nD) (d : Fin 1280) (k : Fin 1024) (q : Fin 8) : EReal :=
  ∑ r : Fin 1024, term m c d k ⟨q.val * 1024 + r.val, by omega⟩

/-- A point's product is its part. -/
theorem prod (c : Dev nD) (t : Fin cfg0.N) (d : Fin 1280) (k : Fin 1024) :
    (k0_pay1 (F := Ideal) (iblk m c 0 t) (iblk m c 1 t) (ix2 d k) : EReal) = part m c d k ⟨t.val, lt8 t⟩ := by
  pointwise [k0_pay1]
  refine Finset.sum_congr rfl fun r _ => ?_
  rw [blk0, blk1]

/-- The block's four planes are its rows, cut in four. -/
theorem planes (x : FVec Ideal S1280x1024 .f32) (p : Fin 4) (d : Fin 320) (k : Fin 1024) :
    (k0_pay4 (F := Ideal) x (ix3 p d k) : EReal) = x (ix2 ⟨p.val * 320 + d.val, by omega⟩ k) := by
  pointwise [k0_pay4]

/-- Before the last point the carried sum is the sum of the parts so far. -/
theorem carried (c : Dev nD) (d : Fin 1280) (k : Fin 1024) : ∀ n (h : n < cfg0.N), n < 7 →
    ((outsAt0 m c n h).2 (ix2 d k) : EReal) = ∑ i ∈ Finset.range (n + 1), (if h : i < 8 then part m c d k ⟨i, h⟩ else 0) := by
  intro n
  induction n with
  | zero =>
    intro h _
    rw [outsAt0_A m c ⟨0, h⟩ rfl (Nat.not_succ_le_zero 0) (by show ¬0 % 8 = 7; omega)]
    dsimp only
    rw [first]
    pointwise [k0_pay2]
    refine (prod m c ⟨0, h⟩ d k).trans ?_
    simp
  | succ n ih =>
    intro h hn
    rw [outsAt0_B m c ⟨n + 1, h⟩ (by dsimp only; omega) (by dsimp only; omega) (by dsimp only; omega)]
    dsimp only
    rw [between]
    pointwise [k0_pay3]
    rw [prod m c ⟨n + 1, h⟩, Finset.sum_range_succ _ (n + 1), dif_pos (by omega)]
    exact congrArg (· + _) (ih (Nat.lt_of_succ_lt h) (by omega))

/-- The reference's stages at a quarter of the columns: the product's element. -/
theorem ref (x0 : FVec Ideal S8192x1280 .bf16) (x1 : FVec Ideal S8192x1024 .bf16) (j : Fin 4) (d : Fin 320) (k : Fin 1024) :
    (val_main_v15 (F := Ideal) x0 x1 (ix3 j d k) : EReal)
      = ∑ r : Fin 8192, x0 (ix2 r ⟨j.val * 320 + d.val, by omega⟩) * x1 (ix2 r k) := by
  unfold val_main_v15
  match j with
  | 0 =>
    refine (stack_apply _ _ 0 (by simp) (val_main_v11 (F := Ideal) x0 x1) rfl rfl 0 rfl d k).trans ?_
    pointwise [val_main_v11, val_main_v7, val_main_v6, val_main_v5, val_main_v4, val_main_v3, val_main_v1]
  | 1 =>
    refine (stack_apply _ _ 1 (by simp) (val_main_v12 (F := Ideal) x0 x1) rfl rfl 1 rfl d k).trans ?_
    pointwise [val_main_v12, val_main_v8, val_main_v6, val_main_v5, val_main_v4, val_main_v3, val_main_v1]
  | 2 =>
    refine (stack_apply _ _ 2 (by simp) (val_main_v13 (F := Ideal) x0 x1) rfl rfl 2 rfl d k).trans ?_
    pointwise [val_main_v13, val_main_v9, val_main_v6, val_main_v5, val_main_v4, val_main_v3, val_main_v1]
  | 3 =>
    refine (stack_apply _ _ 3 (by simp) (val_main_v14 (F := Ideal) x0 x1) rfl rfl 3 rfl d k).trans ?_
    pointwise [val_main_v14, val_main_v10, val_main_v6, val_main_v5, val_main_v4, val_main_v3, val_main_v1]

/-- What the last point leaves in the result's block. -/
theorem last_point (c : Dev nD) (t : Fin cfg0.N) (ht : t.val % 8 = 7) :
    ((outsAt0 m c t.val t.isLt).1 : FVec Ideal S4x320x1024 .f32) = val_main_v15 (F := Ideal) (a0 m c) (a1 m c) := by
  funext i
  obtain ⟨p, d, k, hi⟩ : ∃ (p : Fin 4) (d : Fin 320) (k : Fin 1024), i = ix3 p d k := ⟨i 0, i 1, i 2, eq_ix3 i⟩
  subst hi
  have hlt := lt8 t
  rw [ref, sum_blocks (n := 8) (b := 1024) (by rfl), outsAt0_C m c t (by omega) (by omega) ht]
  dsimp only
  rw [last, planes]
  pointwise [k0_pay3]
  rw [prod m c t, carried m c _ k (t.val - 1) _ (by omega), show t.val - 1 + 1 = 7 by omega]
  have e : ∀ f : Fin 8 → EReal, ∑ q, f q = ∑ i ∈ Finset.range (7 + 1), (if h : i < 8 then f ⟨i, h⟩ else 0) := fun f => by
    rw [Finset.sum_range]
    exact Finset.sum_congr rfl fun i _ => by rw [dif_pos i.isLt]
  rw [e (part m c _ k), Finset.sum_range_succ _ 7, dif_pos (by omega)]
  exact congrArg (fun q => _ + part m c _ k q) (Fin.ext (by show t.val = 7; omega))

theorem index2 : ∀ (t : Fin cfg0.N) (a : Fin 3), win0_2.index t a = 0 :=
  (by decide +kernel : ∀ (t : Fin grid0.N) (a : Fin 3), win0_2.index t a = 0)

/-- The last grid point. -/
theorem exists_last : ∃ t : Fin cfg0.N, t.val % 8 = 7 := ⟨⟨7, by rw [N8]; omega⟩, rfl⟩

/-- The kernel's result is the reference's. -/
theorem equal (c : Dev nD) : (dats m 0 c).arrAt 2 cfg0.N = val_main_v15 (F := Ideal) (a0 m c) (a1 m c) := by
  have hX : ∀ s : Fin cfg0.N, s.val % 8 = 7 → ((outsAt0 m c s.val s.isLt).1 : FVec Ideal S4x320x1024 .f32) = val_main_v15 (F := Ideal) (a0 m c) (a1 m c) :=
    fun s hs => last_point m c s hs
  generalize val_main_v15 (F := Ideal) (a0 m c) (a1 m c) = X at hX ⊢
  have hf : ∀ s, (cfg0.win 2).flush s = true →
      (dats m 0 c).flushed 2 s = ((cfg0.win 2).blk s).view.read (Elt Ideal) (X : Buf (Elt Ideal) ((c : Thread nD τ).loc main_v0)) := by
    intro s hs
    show (cfg0.win 2).cut (grid0.coords s) ((dats m 0 c).after 2 s) = _
    rw [after0_2, hX s ((flush0_2 s).mp hs)]
    have hz : (fun a => win0_2.index s a * main_v0.ty.shape.size a) = fun _ => 0 := funext fun a => by rw [index2 s a, Nat.zero_mul]
    exact (Memref.read_access_unit_zero (Elt Ideal) main_v0 hz (fun a => by rw [congrFun hz a]; simp) X).symm
  obtain ⟨t, ht⟩ := exists_last
  refine (dats m 0 c).arrAt_eq_of_cover 2 X hf fun i => ⟨t, (flush0_2 t).mpr ht, ?_⟩
  show i ∈ ((View.whole main_v0).slice (win0_2.rect t)).set
  rw [View.set_slice_whole, Rect.mem_set_unit]
  intro a
  have hx : ∀ a : Fin 3, win0_2.xsize (grid0.coords t) a = win0_2.size a := by revert t; decide +kernel
  show win0_2.index t a * win0_2.size a ≤ (i a : Nat) ∧ (i a : Nat) < win0_2.index t a * win0_2.size a + win0_2.xsize (grid0.coords t) a
  rw [index2, hx, Nat.zero_mul, Nat.zero_add]
  exact ⟨Nat.zero_le _, (i a).isLt⟩

end Cert.Kernel11Ideal.Blocks

end
-- ==== Proof.InDxB.lean ====
/- The gradient through mixer B's norm and projection: what each grid point leaves, and the results at the end. -/
module

public import proofs.«01_k».proof.Proof.Sums
public import Idealize.ShloMosaic.Lib.Pipeline.ReadBack
public import Idealize.ShloMosaic.Lib.Pipeline.ValueKit.Tiles
public import proofs.«01_k».proof.Proof.Gen.Kernel12Ideal.Value
public import proofs.«01_k».proof.Proof.Gen.Reference12Ideal.Read

@[expose] public section

noncomputable section

namespace Cert.Kernel12Ideal.Blocks

open Idealize.ShloMosaic Idealize.ShloMosaic.TcCoe Idealize.ShloMosaic.Tactic Idealize.SL.Sem Cert.Kernel12Ideal Cert.Kernel12Ideal.Gen
open Cert.Reference12Ideal.Read Cert.Sums

theorem hz : (![0, 0] : Fin 2 → Nat) = fun _ => 0 := funext fun a => by fin_cases a <;> rfl

/-- The weights' four planes, side by side. -/
def whole (x : FVec Ideal S1x4x1024x448 .bf16) : FVec Ideal S1024x1792 .bf16 := fun y =>
  x (ix4 0 ⟨(y 1).val / 448, by have : (y 1).val < 1792 := (y 1).isLt; omega⟩ (y 0) ⟨(y 1).val % 448, Nat.mod_lt _ (by omega)⟩)

/-- A plane among the columns. -/
theorem whole_plane (x : FVec Ideal S1x4x1024x448 .bf16) (j : Fin 4) (d : Fin 1024) (q : Fin 448) (k : Fin 1792) (hk : j.val * 448 + q.val = k.val) :
    (whole x (ix2 d k) : EReal) = x (ix4 0 j d q) := by
  show (x (ix4 0 _ d _) : EReal) = _
  refine congrArg₂ (fun a b => (x (ix4 0 a d b) : EReal)) (Fin.ext ?_) (Fin.ext ?_)
  · show k.val / 448 = j.val
    rw [← hk, Nat.mul_comm, Nat.mul_add_div (by omega), Nat.div_eq_of_lt q.isLt, Nat.add_zero]
  · show k.val % 448 = q.val
    rw [← hk, Nat.mul_comm, Nat.mul_add_mod, Nat.mod_eq_of_lt q.isLt]

/-- Four stores, each of a plane at its columns, leave the whole weight. -/
theorem planes (x : FVec Ideal S1x4x1024x448 .bf16) (v0 v1 v2 v3 : FVec Ideal S1024x448 .bf16)
    (h0 : ∀ d q, (v0 (ix2 d q) : EReal) = x (ix4 0 0 d q)) (h1 : ∀ d q, (v1 (ix2 d q) : EReal) = x (ix4 0 1 d q))
    (h2 : ∀ d q, (v2 (ix2 d q) : EReal) = x (ix4 0 2 d q)) (h3 : ∀ d q, (v3 (ix2 d q) : EReal) = x (ix4 0 3 d q)) :
    View.canon (Val := Elt Ideal) (s := S1024x1792) (e := .bf16)
      [⟨Rect.unit (s := S1024x1792) ![0, 1344] S1024x448.size inb_S1024x1792_S1024x448_0_1344, v3⟩,
       ⟨Rect.unit (s := S1024x1792) ![0, 896] S1024x448.size inb_S1024x1792_S1024x448_0_896, v2⟩,
       ⟨Rect.unit (s := S1024x1792) ![0, 448] S1024x448.size inb_S1024x1792_S1024x448_0_448, v1⟩,
       ⟨Rect.unit (s := S1024x1792) ![0, 0] S1024x448.size inb_S1024x1792_S1024x448_0_0, v0⟩] = whole x := by
  funext y
  refine View.canon_apply_of_pieces (Val := Elt Ideal) (e := .bf16) (whole x) _ ?_ y ?_
  swap
  · exact View.cover_of_tiledL (s := S1024x1792) _ S1024x448.size (by sl_kernel_rfl) y
  intro p hp z
  simp only [List.mem_cons, List.not_mem_nil, or_false] at hp
  rcases hp with rfl | rfl | rfl | rfl
  · obtain ⟨d, q, rfl⟩ : ∃ (d : Fin 1024) (q : Fin 448), z = ix2 d q := ⟨z 0, z 1, eq_ix2 z⟩
    refine (h3 d q).trans ((whole_plane x 3 d q ⟨1344 + q.val, by omega⟩ (by rfl)).symm.trans (congrArg (whole x) ?_))
    funext a
    apply Fin.ext
    match a with
    | ⟨0, _⟩ => show d.val = 0 + 1 * d.val; omega
    | ⟨1, _⟩ => show 1344 + q.val = 1344 + 1 * q.val; omega
  · obtain ⟨d, q, rfl⟩ : ∃ (d : Fin 1024) (q : Fin 448), z = ix2 d q := ⟨z 0, z 1, eq_ix2 z⟩
    refine (h2 d q).trans ((whole_plane x 2 d q ⟨896 + q.val, by omega⟩ (by rfl)).symm.trans (congrArg (whole x) ?_))
    funext a
    apply Fin.ext
    match a with
    | ⟨0, _⟩ => show d.val = 0 + 1 * d.val; omega
    | ⟨1, _⟩ => show 896 + q.val = 896 + 1 * q.val; omega
  · obtain ⟨d, q, rfl⟩ : ∃ (d : Fin 1024) (q : Fin 448), z = ix2 d q := ⟨z 0, z 1, eq_ix2 z⟩
    refine (h1 d q).trans ((whole_plane x 1 d q ⟨448 + q.val, by omega⟩ (by simp)).symm.trans (congrArg (whole x) ?_))
    funext a
    apply Fin.ext
    match a with
    | ⟨0, _⟩ => show d.val = 0 + 1 * d.val; omega
    | ⟨1, _⟩ => show 448 + q.val = 448 + 1 * q.val; omega
  · obtain ⟨d, q, rfl⟩ : ∃ (d : Fin 1024) (q : Fin 448), z = ix2 d q := ⟨z 0, z 1, eq_ix2 z⟩
    refine (h0 d q).trans ((whole_plane x 0 d q ⟨0 + q.val, by omega⟩ (by simp)).symm.trans (congrArg (whole x) ?_))
    funext a
    apply Fin.ext
    match a with
    | ⟨0, _⟩ => show d.val = 0 + 1 * d.val; omega
    | ⟨1, _⟩ => show 0 + q.val = 0 + 1 * q.val; omega

section Points

variable (c : Dev nD) (i : grid0.Coords)
  (arg1 : Memref sig .tc .vmem S512x1792 .bf16) (harg1 : arg1.IsWhole) (arg2 : Memref sig .tc .vmem S1x4x1024x448 .bf16) (harg2 : arg2.IsWhole)
  (arg3 : Memref sig .tc .vmem S512x1024 .f32) (harg3 : arg3.IsWhole) (arg4 : Memref sig .tc .vmem S1x1024 .f32) (harg4 : arg4.IsWhole)
  (arg5 : Memref sig .tc .vmem S512x1024 .f32) (harg5 : arg5.IsWhole) (arg6 : Memref sig .tc .vmem S512x1024 .f32) (harg6 : arg6.IsWhole)
  (arg7 : Memref sig .tc .vmem S1x1024 .f32) (harg7 : arg7.IsWhole) (arg8 : Memref sig .tc .vmem S512x1024 .bf16) (harg8 : arg8.IsWhole)
  (arg9 : Memref sig .tc .vmem S1024x1792 .bf16) (harg9 : arg9.IsWhole)
  (x0 : Vec Ideal S512x1792 .bf16) (x1 : Vec Ideal S1x4x1024x448 .bf16) (x2 : Vec Ideal S512x1024 .f32) (x3 : Vec Ideal S1x1024 .f32)
  (x4 : Vec Ideal S512x1024 .f32) (xo6 : Vec Ideal S1x1024 .f32) (xs0 : Vec Ideal S1024x1792 .bf16)

/-- The rows of the input's cotangent, from a point's blocks and the weight. -/
abbrev dh (w : FVec Ideal S1024x1792 .bf16) : FVec Ideal S512x1024 .f32 :=
  k0_pay1 x2 (k0_pay14 x0 w x2 x3) (k0_pay15 x0 w x2 x3) (k0_pay16 x0 w x2 x3) x4

/-- The same rows in the narrow format. -/
abbrev dh16 (w : FVec Ideal S1024x1792 .bf16) : FVec Ideal S512x1024 .bf16 :=
  k0_pay2 x2 (k0_pay14 x0 w x2 x3) (k0_pay15 x0 w x2 x3) (k0_pay16 x0 w x2 x3) x4

/-- At the first point the whole weight is stored for the later points. -/
theorem weights_first (hc0 : cond0_0 i) (hc1 : cond0_1 i) : sout0_A_0 c i arg1 harg1 arg2 harg2 arg3 harg3 arg4 harg4 arg5 harg5 arg6 harg6 arg7 harg7 arg8 harg8 arg9 harg9 hc0 hc1 x0 x1 x2 x3 x4 = whole x1 := by
  unfold sout0_A_0
  rw [View.read_writes_eq_canon _ _ _ (scover0_A_0 c i arg1 harg1 arg2 harg2 arg3 harg3 arg4 harg4 arg5 harg5 arg6 harg6 arg7 harg7 arg8 harg8 arg9 harg9 hc0 hc1 x0 x1 x2 x3 x4)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread]
  rw [planes x1]
  all_goals
    intro d q
    pointwise [k0_pay5, k0_pay6, k0_pay7, k0_pay8]

/-- Reading the whole of the weight. -/
theorem ld_whole (w : FVec Ideal S1024x1792 .bf16) :
    (fun j => w ((Rect.unit (s := S1024x1792) ![0, 0] S1024x1792.size inb_S1024x1792_S1024x1792_0_0).idx j)) = w :=
  funext fun j => congrArg w (funext fun a => Fin.ext (by fin_cases a <;> simp [Rect.unit]))

/-- At the first point the rows of the input's cotangent. -/
theorem rows_first (hc0 : cond0_0 i) (hc1 : cond0_1 i) : out0_A_5 c i arg1 harg1 arg2 harg2 arg3 harg3 arg4 harg4 arg5 harg5 arg6 harg6 arg7 harg7 arg8 harg8 arg9 harg9 hc0 hc1 x0 x1 x2 x3 x4 = dh x0 x2 x3 x4 (whole x1) := by
  unfold out0_A_5
  rw [View.read_writes_eq_canon _ _ _ (cover0_A_5 c i arg1 harg1 arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_unit_zero hz]
  simp only [View.readAt_eq_ld, View.readCov_unit_zero (S := S1x1024) _ hz, harg1.read_unread, harg2.read_unread, harg3.read_unread, harg4.read_unread, harg5.read_unread, harg6.read_unread, harg7.read_unread, harg8.read_unread, harg9.read_unread, View.ld_unit_zero (S := S512x1024) hz, View.ld_unit_zero (S := S1x1024) hz, View.ld_unit_zero (S := S512x1792) hz]
  simp only [View.readCov_eq_canon']
  rw [planes x1]
  · exact congrArg (fun w => dh x0 x2 x3 x4 w) (ld_whole (whole x1))
  all_goals
    intro d q
    pointwise [k0_pay5, k0_pay6, k0_pay7, k0_pay8]

/-- At the first point the rows of the input's cotangent, in the narrow format. -/
theorem narrow_first (hc0 : cond0_0 i) (hc1 : cond0_1 i) : out0_A_7 c i arg1 harg1 arg2 harg2 arg3 harg3 arg4 harg4 arg5 harg5 arg6 harg6 arg7 harg7 arg8 harg8 arg9 harg9 hc0 hc1 x0 x1 x2 x3 x4 = dh16 x0 x2 x3 x4 (whole x1) := by
  unfold out0_A_7
  rw [View.read_writes_eq_canon _ _ _ (cover0_A_7 c i arg1 harg1 arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_unit_zero hz]
  simp only [View.readAt_eq_ld, View.readCov_unit_zero (S := S1x1024) _ hz, harg1.read_unread, harg2.read_unread, harg3.read_unread, harg4.read_unread, harg5.read_unread, harg6.read_unread, harg7.read_unread, harg8.read_unread, harg9.read_unread, View.ld_unit_zero (S := S512x1024) hz, View.ld_unit_zero (S := S1x1024) hz, View.ld_unit_zero (S := S512x1792) hz]
  simp only [View.readCov_eq_canon']
  rw [planes x1]
  · exact congrArg (fun w => dh16 x0 x2 x3 x4 w) (ld_whole (whole x1))
  all_goals
    intro d q
    pointwise [k0_pay5, k0_pay6, k0_pay7, k0_pay8]

/-- At the first point the gains' cotangent, with the point's part. -/
theorem gains_first (hc0 : cond0_0 i) (hc1 : cond0_1 i) : out0_A_6 c i arg1 harg1 arg2 harg2 arg3 harg3 arg4 harg4 arg5 harg5 arg6 harg6 arg7 harg7 arg8 harg8 arg9 harg9 hc0 hc1 x0 x1 x2 x3 x4 = k0_pay4 (k0_pay12 x0 (whole x1) x2) (k0_pay3 (F := Ideal)) := by
  unfold out0_A_6
  rw [View.read_writes_eq_canon _ _ _ (cover0_A_6 c i arg1 harg1 arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1x1024) hz]
  simp only [View.readAt_eq_ld, View.readCov_unit_zero (S := S1x1024) _ hz, harg1.read_unread, harg2.read_unread, harg3.read_unread, harg4.read_unread, harg5.read_unread, harg6.read_unread, harg7.read_unread, harg8.read_unread, harg9.read_unread, View.ld_unit_zero (S := S512x1024) hz, View.ld_unit_zero (S := S1x1024) hz, View.ld_unit_zero (S := S512x1792) hz]
  simp only [View.readCov_eq_canon']
  rw [planes x1]
  · exact congrArg (fun w => k0_pay4 (k0_pay12 x0 w x2) (k0_pay3 (F := Ideal))) (ld_whole (whole x1))
  all_goals
    intro d q
    pointwise [k0_pay5, k0_pay6, k0_pay7, k0_pay8]

/-- A later point keeps the stored weight. -/
theorem weights_later (hc0 : ¬cond0_0 i) (hc1 : ¬cond0_1 i) : sout0_B_0 c i arg1 harg1 arg2 harg2 arg3 harg3 arg4 harg4 arg5 harg5 arg6 harg6 arg7 harg7 arg8 harg8 arg9 harg9 hc0 hc1 x0 x1 x2 x3 x4 xo6 xs0 = xs0 := rfl

/-- At a later point the rows of the input's cotangent. -/
theorem rows_later (hc0 : ¬cond0_0 i) (hc1 : ¬cond0_1 i) : out0_B_5 c i arg1 harg1 arg2 harg2 arg3 harg3 arg4 harg4 arg5 harg5 arg6 harg6 arg7 harg7 arg8 harg8 arg9 harg9 hc0 hc1 x0 x1 x2 x3 x4 xo6 xs0 = dh x0 x2 x3 x4 xs0 := by
  unfold out0_B_5
  rw [View.read_writes_eq_canon _ _ _ (cover0_B_5 c i arg1 harg1 arg2 harg2 arg3 harg3 arg4 harg4 arg5 harg5 arg6 harg6 arg7 harg7 arg8 harg8 arg9 harg9 hc0 hc1 x0 x1 x2 x3 x4 xo6 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, View.ld_unit_zero (S := S512x1024) hz, View.ld_unit_zero (S := S1x1024) hz, View.ld_unit_zero (S := S512x1792) hz, View.ld_unit_zero (S := S1024x1792) hz]

/-- At a later point the rows of the input's cotangent, in the narrow format. -/
theorem narrow_later (hc0 : ¬cond0_0 i) (hc1 : ¬cond0_1 i) : out0_B_7 c i arg1 harg1 arg2 harg2 arg3 harg3 arg4 harg4 arg5 harg5 arg6 harg6 arg7 harg7 arg8 harg8 arg9 harg9 hc0 hc1 x0 x1 x2 x3 x4 xo6 xs0 = dh16 x0 x2 x3 x4 xs0 := by
  unfold out0_B_7
  rw [View.read_writes_eq_canon _ _ _ (cover0_B_7 c i arg1 harg1 arg2 harg2 arg3 harg3 arg4 harg4 arg5 harg5 arg6 harg6 arg7 harg7 arg8 harg8 arg9 harg9 hc0 hc1 x0 x1 x2 x3 x4 xo6 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, View.ld_unit_zero (S := S512x1024) hz, View.ld_unit_zero (S := S1x1024) hz, View.ld_unit_zero (S := S512x1792) hz, View.ld_unit_zero (S := S1024x1792) hz]

/-- At a later point the gains' cotangent, with the point's part. -/
theorem gains_later (hc0 : ¬cond0_0 i) (hc1 : ¬cond0_1 i) : out0_B_6 c i arg1 harg1 arg2 harg2 arg3 harg3 arg4 harg4 arg5 harg5 arg6 harg6 arg7 harg7 arg8 harg8 arg9 harg9 hc0 hc1 x0 x1 x2 x3 x4 xo6 xs0 = k0_pay4 (k0_pay12 x0 xs0 x2) xo6 := by
  unfold out0_B_6
  rw [View.read_writes_eq_canon _ _ _ (cover0_B_6 c i arg1 harg1 arg2 harg2 arg3 harg3 arg4 harg4 arg5 harg5 arg6 harg6 arg7 harg7 arg8 harg8 arg9 harg9 hc0 hc1 x0 x1 x2 x3 x4 xo6 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, View.ld_unit_zero (S := S512x1024) hz, View.ld_unit_zero (S := S1x1024) hz, View.ld_unit_zero (S := S512x1792) hz, View.ld_unit_zero (S := S1024x1792) hz]

end Points

variable (m : (ℓ : Loc nD τ sig) → Buf (Elt Ideal) ℓ)

/-- The projection's cotangent. -/
abbrev a0 (c : Dev nD) : FVec Ideal S8192x1792 .bf16 := m ((c : Thread nD τ).loc main_arg0)
/-- The weights, in four planes of columns. -/
abbrev a1 (c : Dev nD) : FVec Ideal S1x4x1024x448 .bf16 := m ((c : Thread nD τ).loc main_arg1)
/-- The input of the norm. -/
abbrev a2 (c : Dev nD) : FVec Ideal S8192x1024 .f32 := m ((c : Thread nD τ).loc main_arg2)
/-- The norm's gains. -/
abbrev a3 (c : Dev nD) : FVec Ideal S1024 .f32 := m ((c : Thread nD τ).loc main_arg3)
/-- The cotangent that reaches the input past the layer. -/
abbrev a4 (c : Dev nD) : FVec Ideal S8192x1024 .f32 := m ((c : Thread nD τ).loc main_arg4)

theorem N16 : cfg0.N = 16 := by decide +kernel
theorem lt16 (t : Fin cfg0.N) : t.val < 16 := lt_of_lt_of_eq t.isLt N16

theorem index0 : ∀ t : Fin cfg0.N, win0_0.index t 0 = t.val ∧ win0_0.index t 1 = 0 :=
  (by decide +kernel : ∀ t : Fin grid0.N, win0_0.index t 0 = t.val ∧ win0_0.index t 1 = 0)

/-- A point reads 512 rows of the projection's cotangent. -/
theorem blk0 (c : Dev nD) (t : Fin cfg0.N) (r : Fin 512) (d : Fin 1792) :
    (iblk m c 0 t : FVec Ideal S512x1792 .bf16) (ix2 r d) = (a0 m c (ix2 ⟨t.val * 512 + r.val, by have := lt16 t; omega⟩ d) : EReal) := by
  unfold iblk
  rw [View.read_apply]
  show V m c main_arg0 _ = _
  rw [V_main_arg0]
  congr 1
  funext a
  apply Fin.ext
  match a with
  | ⟨0, _⟩ => show win0_0.index t 0 * 512 + 1 * r.val = t.val * 512 + r.val; rw [(index0 t).1]; omega
  | ⟨1, _⟩ => show win0_0.index t 1 * 1792 + 1 * d.val = d.val; rw [(index0 t).2]; omega

theorem index1 : ∀ (t : Fin cfg0.N) (a : Fin 4), win0_1.index t a = 0 :=
  (by decide +kernel : ∀ (t : Fin grid0.N) (a : Fin 4), win0_1.index t a = 0)

/-- Every point reads all planes of the weights. -/
theorem blk1 (c : Dev nD) (t : Fin cfg0.N) : (iblk m c 1 t : FVec Ideal S1x4x1024x448 .bf16) = a1 m c := by
  funext i
  unfold iblk
  rw [View.read_apply]
  show V m c main_arg1 _ = _
  rw [V_main_arg1]
  congr 1
  funext a
  apply Fin.ext
  match a with
  | ⟨0, _⟩ => show win0_1.index t 0 * 1 + 1 * (i 0).val = (i 0).val; rw [index1 t 0]; omega
  | ⟨1, _⟩ => show win0_1.index t 1 * 4 + 1 * (i 1).val = (i 1).val; rw [index1 t 1]; omega
  | ⟨2, _⟩ => show win0_1.index t 2 * 1024 + 1 * (i 2).val = (i 2).val; rw [index1 t 2]; omega
  | ⟨3, _⟩ => show win0_1.index t 3 * 448 + 1 * (i 3).val = (i 3).val; rw [index1 t 3]; omega

theorem index2 : ∀ t : Fin cfg0.N, win0_2.index t 0 = t.val ∧ win0_2.index t 1 = 0 :=
  (by decide +kernel : ∀ t : Fin grid0.N, win0_2.index t 0 = t.val ∧ win0_2.index t 1 = 0)

/-- A point reads 512 rows of the input. -/
theorem blk2 (c : Dev nD) (t : Fin cfg0.N) (r : Fin 512) (d : Fin 1024) :
    (iblk m c 2 t : FVec Ideal S512x1024 .f32) (ix2 r d) = (a2 m c (ix2 ⟨t.val * 512 + r.val, by have := lt16 t; omega⟩ d) : EReal) := by
  unfold iblk
  rw [View.read_apply]
  show V m c main_arg2 _ = _
  rw [V_main_arg2]
  congr 1
  funext a
  apply Fin.ext
  match a with
  | ⟨0, _⟩ => show win0_2.index t 0 * 512 + 1 * r.val = t.val * 512 + r.val; rw [(index2 t).1]; omega
  | ⟨1, _⟩ => show win0_2.index t 1 * 1024 + 1 * d.val = d.val; rw [(index2 t).2]; omega

theorem index3 : ∀ (t : Fin cfg0.N) (a : Fin 2), win0_3.index t a = 0 :=
  (by decide +kernel : ∀ (t : Fin grid0.N) (a : Fin 2), win0_3.index t a = 0)

/-- The gains, as a row. -/
theorem V0 (c : Dev nD) : (V m c main_v0 : FVec Ideal S1x1024 .f32) = shapeCast S1x1024 (a3 m c) shapeCasts_S1024_S1x1024 := rfl

/-- Every point reads all gains. -/
theorem blk3 (c : Dev nD) (t : Fin cfg0.N) (d : Fin 1024) :
    (iblk m c 3 t : FVec Ideal S1x1024 .f32) (ix2 0 d) = (a3 m c (ix1 d) : EReal) := by
  have e : (iblk m c 3 t : FVec Ideal S1x1024 .f32) = V m c main_v0 := by
    funext j
    unfold iblk
    rw [View.read_apply]
    show V m c main_v0 _ = _
    congr 1
    funext a
    apply Fin.ext
    match a with
    | ⟨0, _⟩ => show win0_3.index t 0 * 1 + 1 * (j 0).val = (j 0).val; rw [index3 t 0]; omega
    | ⟨1, _⟩ => show win0_3.index t 1 * 1024 + 1 * (j 1).val = (j 1).val; rw [index3 t 1]; omega
  rw [e, V0]
  pointwise []

theorem index4 : ∀ t : Fin cfg0.N, win0_4.index t 0 = t.val ∧ win0_4.index t 1 = 0 :=
  (by decide +kernel : ∀ t : Fin grid0.N, win0_4.index t 0 = t.val ∧ win0_4.index t 1 = 0)

/-- A point reads 512 rows of the cotangent past the layer. -/
theorem blk4 (c : Dev nD) (t : Fin cfg0.N) (r : Fin 512) (d : Fin 1024) :
    (iblk m c 4 t : FVec Ideal S512x1024 .f32) (ix2 r d) = (a4 m c (ix2 ⟨t.val * 512 + r.val, by have := lt16 t; omega⟩ d) : EReal) := by
  unfold iblk
  rw [View.read_apply]
  show V m c main_arg4 _ = _
  rw [V_main_arg4]
  congr 1
  funext a
  apply Fin.ext
  match a with
  | ⟨0, _⟩ => show win0_4.index t 0 * 512 + 1 * r.val = t.val * 512 + r.val; rw [(index4 t).1]; omega
  | ⟨1, _⟩ => show win0_4.index t 1 * 1024 + 1 * d.val = d.val; rw [(index4 t).2]; omega

/-- Plane 0 of the weights among the reference's columns. -/
theorem weights0 (x : FVec Ideal S1x4x1024x448 .bf16) (d : Fin 1024) (q : Fin 448) (k : Fin 1792) (hk : 0 + q.val = k.val) :
    (val_main_v10 (F := Ideal) x (ix2 d k) : EReal) = x (ix4 0 0 d q) := by
  unfold val_main_v10
  refine (cols_apply _ _ 0 (by simp) (val_main_v3 (F := Ideal) x) rfl 0 (by simp) d q k hk).trans ?_
  pointwise [val_main_v3, val_main_v2, val_main_v1, val_main_v0]

/-- Plane 1 of the weights among the reference's columns. -/
theorem weights1 (x : FVec Ideal S1x4x1024x448 .bf16) (d : Fin 1024) (q : Fin 448) (k : Fin 1792) (hk : 448 + q.val = k.val) :
    (val_main_v10 (F := Ideal) x (ix2 d k) : EReal) = x (ix4 0 1 d q) := by
  unfold val_main_v10
  refine (cols_apply _ _ 1 (by simp) (val_main_v5 (F := Ideal) x) rfl 448 (by simp) d q k hk).trans ?_
  pointwise [val_main_v5, val_main_v4, val_main_v1, val_main_v0]

/-- Plane 2 of the weights among the reference's columns. -/
theorem weights2 (x : FVec Ideal S1x4x1024x448 .bf16) (d : Fin 1024) (q : Fin 448) (k : Fin 1792) (hk : 896 + q.val = k.val) :
    (val_main_v10 (F := Ideal) x (ix2 d k) : EReal) = x (ix4 0 2 d q) := by
  unfold val_main_v10
  refine (cols_apply _ _ 2 (by simp) (val_main_v7 (F := Ideal) x) rfl 896 (by simp) d q k hk).trans ?_
  pointwise [val_main_v7, val_main_v6, val_main_v1, val_main_v0]

/-- Plane 3 of the weights among the reference's columns. -/
theorem weights3 (x : FVec Ideal S1x4x1024x448 .bf16) (d : Fin 1024) (q : Fin 448) (k : Fin 1792) (hk : 1344 + q.val = k.val) :
    (val_main_v10 (F := Ideal) x (ix2 d k) : EReal) = x (ix4 0 3 d q) := by
  unfold val_main_v10
  refine (cols_apply _ _ 3 (by simp) (val_main_v9 (F := Ideal) x) rfl 1344 (by simp) d q k hk).trans ?_
  pointwise [val_main_v9, val_main_v8, val_main_v1, val_main_v0]

/-- The planes side by side are the reference's weights. -/
theorem whole_ref (x : FVec Ideal S1x4x1024x448 .bf16) (d : Fin 1024) (k : Fin 1792) :
    (whole x (ix2 d k) : EReal) = val_main_v10 (F := Ideal) x (ix2 d k) := by
  obtain ⟨j, q, hk⟩ : ∃ (j : Fin 4) (q : Fin 448), j.val * 448 + q.val = k.val :=
    ⟨⟨k.val / 448, by omega⟩, ⟨k.val % 448, Nat.mod_lt _ (by omega)⟩, by dsimp only; omega⟩
  rw [whole_plane x j d q k hk]
  fin_cases j
  · exact (weights0 x d q k (by simpa using hk)).symm
  · exact (weights1 x d q k (by simpa using hk)).symm
  · exact (weights2 x d q k (by simpa using hk)).symm
  · exact (weights3 x d q k (by simpa using hk)).symm

/-- A point's product with the weights is the rows of the reference's. -/
theorem dxn_ref (c : Dev nD) (t : Fin cfg0.N) (r : Fin 512) (k : Fin 1024) :
    (k0_pay9 (F := Ideal) (iblk m c 0 t) (whole (a1 m c)) (ix2 r k) : EReal) = val_main_v29 (F := Ideal) (a0 m c) (a1 m c) (ix2 ⟨t.val * 512 + r.val, by have := lt16 t; omega⟩ k) := by
  pointwise [k0_pay9, val_main_v29, val_main_v28]
  simp only [blk0, whole_ref]

/-- A point's rows are the reference's. -/
theorem dh_ref (c : Dev nD) (t : Fin cfg0.N) (r : Fin 512) (k : Fin 1024) :
    (dh (iblk m c 0 t) (iblk m c 2 t) (iblk m c 3 t) (iblk m c 4 t) (whole (a1 m c)) (ix2 r k) : EReal)
      = val_main_v50 (F := Ideal) (a0 m c) (a1 m c) (a2 m c) (a3 m c) (a4 m c) (ix2 ⟨t.val * 512 + r.val, by have := lt16 t; omega⟩ k) := by
  unfold dh k0_pay16 k0_pay15 k0_pay14 k0_pay13
  have e := dxn_ref m c t
  generalize k0_pay9 (F := Ideal) (iblk m c 0 t) (whole (a1 m c)) = y at e ⊢
  pointwise [k0_pay1, k0_pay11, k0_pay10, val_main_v50, val_main_v49, val_main_v48, val_main_v47, val_main_v46, val_main_v45, val_main_v44, val_main_v43,
    val_main_v42, val_main_v41, val_main_v40, val_main_v39, val_main_v38, val_main_v37, val_main_v36, val_main_v34, val_main_v33, val_main_v24,
    val_main_v21, val_main_v20, val_main_v19, val_main_v18, val_main_v17, val_main_v16, val_main_v15, val_main_v14, val_main_v13, val_main_v12, val_main_v11,
    val_main_cst, val_main_cst_0, val_main_cst_1, val_main_cst_2, val_main_cst_5, val_main_cst_6, val_main_cst_7]
  simp only [e, blk2, blk3, blk4]
  simp only [add_assoc]

/-- A point's part of the gains' cotangent is the reference's, summed over the point's rows. -/
theorem gains_ref (c : Dev nD) (t : Fin cfg0.N) (k : Fin 1024) :
    (k0_pay12 (F := Ideal) (iblk m c 0 t) (whole (a1 m c)) (iblk m c 2 t) (ix2 0 k) : EReal)
      = ∑ r : Fin 512, val_main_v30 (F := Ideal) (a0 m c) (a1 m c) (a2 m c) (ix2 ⟨t.val * 512 + r.val, by have := lt16 t; omega⟩ k) := by
  unfold k0_pay12
  have e := dxn_ref m c t
  generalize k0_pay9 (F := Ideal) (iblk m c 0 t) (whole (a1 m c)) = y at e ⊢
  pointwise [k0_pay11, k0_pay10, val_main_v30, val_main_v23, val_main_v22, val_main_v18, val_main_v17, val_main_v16, val_main_v15, val_main_v14,
    val_main_v13, val_main_v12, val_main_v11, val_main_cst, val_main_cst_0, val_main_cst_1]
  simp only [e, blk2]

/-- The reference's gradient of the gains is a sum over all rows. -/
theorem ref_gains (x0 : FVec Ideal S8192x1792 .bf16) (x1 : FVec Ideal S1x4x1024x448 .bf16) (x2 : FVec Ideal S8192x1024 .f32) (k : Fin 1024) :
    (val_main_v51 (F := Ideal) x0 x1 x2 (ix2 0 k) : EReal) = ∑ r : Fin 8192, val_main_v30 (F := Ideal) x0 x1 x2 (ix2 r k) := by
  pointwise [val_main_v51, val_main_v35, val_main_v32, val_main_v31, val_main_cst_3, val_main_cst_4]
  exact Fin.sum_univ_one _

/-! ## The arrays at the end -/

/-- What starts at the first point's part and gains each later point's part ends as the sum over the points. -/
theorem sum_points (o : (n : ℕ) → n < cfg0.N → EReal) (f : Fin 16 → EReal) (h0 : ∀ h, o 0 h = f ⟨0, by omega⟩)
    (hs : ∀ n (h : n + 1 < cfg0.N), o (n + 1) h = o n (Nat.lt_of_succ_lt h) + f ⟨n + 1, lt16 ⟨n + 1, h⟩⟩)
    (t : Fin cfg0.N) (ht : t.val % 16 = 15) : o t.val t.isLt = ∑ n, f n := by
  have e : ∀ n (h : n < cfg0.N), o n h = ∑ i ∈ Finset.range (n + 1), (if h : i < 16 then f ⟨i, h⟩ else 0) := by
    intro n
    induction n with
    | zero => intro h; rw [h0]; simp
    | succ n ih =>
      intro h
      rw [hs, ih, Finset.sum_range_succ _ (n + 1), dif_pos (lt16 ⟨n + 1, h⟩)]
  have := lt16 t
  rw [e, show t.val + 1 = 16 by omega, Finset.sum_range]
  exact Finset.sum_congr rfl fun i _ => dif_pos i.isLt

/-- After every point the stored weight is the whole weight. -/
theorem stored (c : Dev nD) : ∀ (n : ℕ) (h : n < cfg0.N), ((outsAt0 m c n h).2.2.2 : FVec Ideal S1024x1792 .bf16) = whole (a1 m c) := by
  intro n
  induction n with
  | zero =>
    intro h
    rw [outsAt0_A m c ⟨0, h⟩ rfl rfl]
    dsimp only
    rw [weights_first, blk1]
  | succ n ih =>
    intro h
    rw [outsAt0_B m c ⟨n + 1, h⟩ (by have := lt16 ⟨n + 1, h⟩; dsimp only at this ⊢; omega)
      (by have := lt16 ⟨n + 1, h⟩; dsimp only at this ⊢; omega)]
    dsimp only
    rw [weights_later]
    simp only [Nat.add_one_sub_one]
    exact ih _

/-- What a point leaves in the rows' block. -/
theorem rows (c : Dev nD) (t : Fin cfg0.N) :
    (outsAt0 m c t.val t.isLt).1 = dh (iblk m c 0 t) (iblk m c 2 t) (iblk m c 3 t) (iblk m c 4 t) (whole (a1 m c)) := by
  by_cases h : t.val % 16 = 0
  · rw [outsAt0_A m c t h h, rows_first, blk1]
  · rw [outsAt0_B m c t h h, rows_later, stored]

/-- What a point leaves in the narrow rows' block. -/
theorem narrow (c : Dev nD) (t : Fin cfg0.N) :
    (outsAt0 m c t.val t.isLt).2.2.1 = dh16 (iblk m c 0 t) (iblk m c 2 t) (iblk m c 3 t) (iblk m c 4 t) (whole (a1 m c)) := by
  by_cases h : t.val % 16 = 0
  · rw [outsAt0_A m c t h h, narrow_first, blk1]
  · rw [outsAt0_B m c t h h, narrow_later, stored]

theorem index5 : ∀ t : Fin cfg0.N, win0_5.index t 0 = t.val ∧ win0_5.index t 1 = 0 :=
  (by decide +kernel : ∀ t : Fin grid0.N, win0_5.index t 0 = t.val ∧ win0_5.index t 1 = 0)

/-- The rows of the input's cotangent at the end. -/
theorem arr5 (c : Dev nD) : (dats m 0 c).arrAt 5 cfg0.N = val_main_v50 (F := Ideal) (a0 m c) (a1 m c) (a2 m c) (a3 m c) (a4 m c) := by
  funext i
  obtain ⟨n, r, k, hi⟩ : ∃ (n : Fin 16) (r : Fin 512) (k : Fin 1024), i = ix2 ⟨n.val * 512 + r.val, by omega⟩ k := by
    refine ⟨⟨(i 0).val / 512, by have : (i 0).val < 8192 := (i 0).isLt; omega⟩, ⟨(i 0).val % 512, by omega⟩, i 1, ?_⟩
    refine (eq_ix2 i).trans (congrArg (fun x => ix2 x (i 1)) (Fin.ext ?_))
    show (i 0).val = (i 0).val / 512 * 512 + (i 0).val % 512
    omega
  subst hi
  have h := congrFun (Value.blocks5 m c ⟨n, by rw [N16]; omega⟩ (flush0_5 _)) (ix2 r k)
  rw [View.read_apply, Value.flushed5] at h
  refine Eq.trans ?_ (h.trans ((congrFun (rows m c ⟨n, by rw [N16]; omega⟩) (ix2 r k)).trans (dh_ref m c ⟨n, by rw [N16]; omega⟩ r k)))
  show _ = ((dats m 0 c).arrAt 5 cfg0.N : FVec Ideal S8192x1024 .f32) _
  congr 1
  funext a
  apply Fin.ext
  have hi := index5 ⟨n, by rw [N16]; omega⟩
  match a with
  | ⟨0, _⟩ => show n.val * 512 + r.val = win0_5.index _ 0 * 512 + 1 * r.val; rw [hi.1]; dsimp only; omega
  | ⟨1, _⟩ => show k.val = win0_5.index _ 1 * 1024 + 1 * k.val; rw [hi.2]; omega

theorem index7 : ∀ t : Fin cfg0.N, win0_7.index t 0 = t.val ∧ win0_7.index t 1 = 0 :=
  (by decide +kernel : ∀ t : Fin grid0.N, win0_7.index t 0 = t.val ∧ win0_7.index t 1 = 0)

/-- The narrow rows at the end. -/
theorem arr7 (c : Dev nD) : (dats m 0 c).arrAt 7 cfg0.N = val_main_v52 (F := Ideal) (a0 m c) (a1 m c) (a2 m c) (a3 m c) (a4 m c) := by
  funext i
  obtain ⟨n, r, k, hi⟩ : ∃ (n : Fin 16) (r : Fin 512) (k : Fin 1024), i = ix2 ⟨n.val * 512 + r.val, by omega⟩ k := by
    refine ⟨⟨(i 0).val / 512, by have : (i 0).val < 8192 := (i 0).isLt; omega⟩, ⟨(i 0).val % 512, by omega⟩, i 1, ?_⟩
    refine (eq_ix2 i).trans (congrArg (fun x => ix2 x (i 1)) (Fin.ext ?_))
    show (i 0).val = (i 0).val / 512 * 512 + (i 0).val % 512
    omega
  subst hi
  have h := congrFun (Value.blocks7 m c ⟨n, by rw [N16]; omega⟩ (flush0_7 _)) (ix2 r k)
  rw [View.read_apply, Value.flushed7] at h
  refine Eq.trans ?_ (h.trans ((congrFun (narrow m c ⟨n, by rw [N16]; omega⟩) (ix2 r k)).trans (dh_ref m c ⟨n, by rw [N16]; omega⟩ r k)))
  show _ = ((dats m 0 c).arrAt 7 cfg0.N : FVec Ideal S8192x1024 .bf16) _
  congr 1
  funext a
  apply Fin.ext
  have hi := index7 ⟨n, by rw [N16]; omega⟩
  match a with
  | ⟨0, _⟩ => show n.val * 512 + r.val = win0_7.index _ 0 * 512 + 1 * r.val; rw [hi.1]; dsimp only; omega
  | ⟨1, _⟩ => show k.val = win0_7.index _ 1 * 1024 + 1 * k.val; rw [hi.2]; omega

/-- A point's part of the gains' cotangent. -/
abbrev part (c : Dev nD) (k : Fin 1024) (n : Fin 16) : EReal :=
  ∑ r : Fin 512, val_main_v30 (F := Ideal) (a0 m c) (a1 m c) (a2 m c) (ix2 ⟨n.val * 512 + r.val, by omega⟩ k)

/-- The gains' cotangent after the last point: the sum over all rows. -/
theorem gains (c : Dev nD) (t : Fin cfg0.N) (ht : t.val % 16 = 15) :
    ((outsAt0 m c t.val t.isLt).2.1 : FVec Ideal S1x1024 .f32) = val_main_v51 (F := Ideal) (a0 m c) (a1 m c) (a2 m c) := by
  funext i
  obtain ⟨z, k, hi⟩ : ∃ (z : Fin 1) (k : Fin 1024), i = ix2 z k := ⟨i 0, i 1, eq_ix2 i⟩
  subst hi
  obtain rfl : z = 0 := Subsingleton.elim _ _
  rw [ref_gains, sum_blocks (n := 16) (b := 512) (by rfl)]
  refine sum_points (fun n h => ((outsAt0 m c n h).2.1 (ix2 0 k) : EReal)) (part m c k) ?_ ?_ t ht
  · intro h
    rw [outsAt0_A m c ⟨0, h⟩ rfl rfl]
    dsimp only
    rw [gains_first, blk1]
    pointwise [k0_pay4, k0_pay3]
    exact gains_ref m c ⟨0, h⟩ k
  · intro n h
    rw [outsAt0_B m c ⟨n + 1, h⟩ (by have := lt16 ⟨n + 1, h⟩; dsimp only at this ⊢; omega)
      (by have := lt16 ⟨n + 1, h⟩; dsimp only at this ⊢; omega)]
    dsimp only
    rw [gains_later, stored]
    pointwise [k0_pay4]
    exact congrArg _ (gains_ref m c ⟨n + 1, h⟩ k)

theorem eq_last (s t : Fin cfg0.N) (hs : s.val % 16 = 15) (ht : t.val % 16 = 15) : s = t := by
  have := lt16 t
  have := lt16 s
  exact Fin.ext (by omega)

/-- The last grid point. -/
theorem exists_last : ∃ t : Fin cfg0.N, t.val % 16 = 15 := ⟨⟨15, by rw [N16]; omega⟩, rfl⟩

theorem index6 : ∀ (t : Fin cfg0.N) (a : Fin 2), win0_6.index t a = 0 :=
  (by decide +kernel : ∀ (t : Fin grid0.N) (a : Fin 2), win0_6.index t a = 0)

/-- The gains' cotangent at the end. -/
theorem arr6 (c : Dev nD) : (dats m 0 c).arrAt 6 cfg0.N = val_main_v51 (F := Ideal) (a0 m c) (a1 m c) (a2 m c) := by
  have hX : ∀ s : Fin cfg0.N, s.val % 16 = 15 → ((outsAt0 m c s.val s.isLt).2.1 : FVec Ideal S1x1024 .f32) = val_main_v51 (F := Ideal) (a0 m c) (a1 m c) (a2 m c) :=
    fun s hs => gains m c s hs
  generalize val_main_v51 (F := Ideal) (a0 m c) (a1 m c) (a2 m c) = X at hX ⊢
  have hf : ∀ s, (cfg0.win 6).flush s = true →
      (dats m 0 c).flushed 6 s = ((cfg0.win 6).blk s).view.read (Elt Ideal) (X : Buf (Elt Ideal) ((c : Thread nD τ).loc main_v1_1)) := by
    intro s hs
    show (cfg0.win 6).cut (grid0.coords s) ((dats m 0 c).after 6 s) = _
    rw [after0_6, hX s ((flush0_6 s).mp hs)]
    have hz : (fun a => win0_6.index s a * main_v1_1.ty.shape.size a) = fun _ => 0 := funext fun a => by rw [index6 s a, Nat.zero_mul]
    exact (Memref.read_access_unit_zero (Elt Ideal) main_v1_1 hz (fun a => by rw [congrFun hz a]; simp) X).symm
  obtain ⟨t, ht⟩ := exists_last
  refine (dats m 0 c).arrAt_eq_of_cover 6 X hf fun i => ⟨t, (flush0_6 t).mpr ht, ?_⟩
  show i ∈ ((View.whole main_v1_1).slice (win0_6.rect t)).set
  rw [View.set_slice_whole, Rect.mem_set_unit]
  intro a
  have hx : ∀ a : Fin 2, win0_6.xsize (grid0.coords t) a = win0_6.size a := by revert t; decide +kernel
  show win0_6.index t a * win0_6.size a ≤ (i a : Nat) ∧ (i a : Nat) < win0_6.index t a * win0_6.size a + win0_6.xsize (grid0.coords t) a
  rw [index6, hx, Nat.zero_mul, Nat.zero_add]
  exact ⟨Nat.zero_le _, (i a).isLt⟩

end Cert.Kernel12Ideal.Blocks

end
-- ==== Proof.InDxA.lean ====
/- The gradient through mixer A's norm and projection: what each grid point leaves, and the results at the end. -/
module

public import proofs.«01_k».proof.Proof.Sums
public import Idealize.ShloMosaic.Lib.Pipeline.ReadBack
public import Idealize.ShloMosaic.Lib.Pipeline.ValueKit.Tiles
public import proofs.«01_k».proof.Proof.Gen.Kernel13Ideal.Value
public import proofs.«01_k».proof.Proof.Gen.Reference13Ideal.Read

@[expose] public section

noncomputable section

namespace Cert.Kernel13Ideal.Blocks

open Idealize.ShloMosaic Idealize.ShloMosaic.TcCoe Idealize.ShloMosaic.Tactic Idealize.SL.Sem Cert.Kernel13Ideal Cert.Kernel13Ideal.Gen
open Cert.Reference13Ideal.Read Cert.Sums

theorem hz : (![0, 0] : Fin 2 → Nat) = fun _ => 0 := funext fun a => by fin_cases a <;> rfl

/-- The weights' four planes, side by side. -/
def whole (x : FVec Ideal S1x4x1024x320 .bf16) : FVec Ideal S1024x1280 .bf16 := fun y =>
  x (ix4 0 ⟨(y 1).val / 320, by have : (y 1).val < 1280 := (y 1).isLt; omega⟩ (y 0) ⟨(y 1).val % 320, Nat.mod_lt _ (by omega)⟩)

/-- A plane among the columns. -/
theorem whole_plane (x : FVec Ideal S1x4x1024x320 .bf16) (j : Fin 4) (d : Fin 1024) (q : Fin 320) (k : Fin 1280) (hk : j.val * 320 + q.val = k.val) :
    (whole x (ix2 d k) : EReal) = x (ix4 0 j d q) := by
  show (x (ix4 0 _ d _) : EReal) = _
  refine congrArg₂ (fun a b => (x (ix4 0 a d b) : EReal)) (Fin.ext ?_) (Fin.ext ?_)
  · show k.val / 320 = j.val
    rw [← hk, Nat.mul_comm, Nat.mul_add_div (by omega), Nat.div_eq_of_lt q.isLt, Nat.add_zero]
  · show k.val % 320 = q.val
    rw [← hk, Nat.mul_comm, Nat.mul_add_mod, Nat.mod_eq_of_lt q.isLt]

/-- Four stores, each of a plane at its columns, leave the whole weight. -/
theorem planes (x : FVec Ideal S1x4x1024x320 .bf16) (v0 v1 v2 v3 : FVec Ideal S1024x320 .bf16)
    (h0 : ∀ d q, (v0 (ix2 d q) : EReal) = x (ix4 0 0 d q)) (h1 : ∀ d q, (v1 (ix2 d q) : EReal) = x (ix4 0 1 d q))
    (h2 : ∀ d q, (v2 (ix2 d q) : EReal) = x (ix4 0 2 d q)) (h3 : ∀ d q, (v3 (ix2 d q) : EReal) = x (ix4 0 3 d q)) :
    View.canon (Val := Elt Ideal) (s := S1024x1280) (e := .bf16)
      [⟨Rect.unit (s := S1024x1280) ![0, 960] S1024x320.size inb_S1024x1280_S1024x320_0_960, v3⟩,
       ⟨Rect.unit (s := S1024x1280) ![0, 640] S1024x320.size inb_S1024x1280_S1024x320_0_640, v2⟩,
       ⟨Rect.unit (s := S1024x1280) ![0, 320] S1024x320.size inb_S1024x1280_S1024x320_0_320, v1⟩,
       ⟨Rect.unit (s := S1024x1280) ![0, 0] S1024x320.size inb_S1024x1280_S1024x320_0_0, v0⟩] = whole x := by
  funext y
  refine View.canon_apply_of_pieces (Val := Elt Ideal) (e := .bf16) (whole x) _ ?_ y ?_
  swap
  · exact View.cover_of_tiledL (s := S1024x1280) _ S1024x320.size (by sl_kernel_rfl) y
  intro p hp z
  simp only [List.mem_cons, List.not_mem_nil, or_false] at hp
  rcases hp with rfl | rfl | rfl | rfl
  · obtain ⟨d, q, rfl⟩ : ∃ (d : Fin 1024) (q : Fin 320), z = ix2 d q := ⟨z 0, z 1, eq_ix2 z⟩
    refine (h3 d q).trans ((whole_plane x 3 d q ⟨960 + q.val, by omega⟩ (by rfl)).symm.trans (congrArg (whole x) ?_))
    funext a
    apply Fin.ext
    match a with
    | ⟨0, _⟩ => show d.val = 0 + 1 * d.val; omega
    | ⟨1, _⟩ => show 960 + q.val = 960 + 1 * q.val; omega
  · obtain ⟨d, q, rfl⟩ : ∃ (d : Fin 1024) (q : Fin 320), z = ix2 d q := ⟨z 0, z 1, eq_ix2 z⟩
    refine (h2 d q).trans ((whole_plane x 2 d q ⟨640 + q.val, by omega⟩ (by rfl)).symm.trans (congrArg (whole x) ?_))
    funext a
    apply Fin.ext
    match a with
    | ⟨0, _⟩ => show d.val = 0 + 1 * d.val; omega
    | ⟨1, _⟩ => show 640 + q.val = 640 + 1 * q.val; omega
  · obtain ⟨d, q, rfl⟩ : ∃ (d : Fin 1024) (q : Fin 320), z = ix2 d q := ⟨z 0, z 1, eq_ix2 z⟩
    refine (h1 d q).trans ((whole_plane x 1 d q ⟨320 + q.val, by omega⟩ (by simp)).symm.trans (congrArg (whole x) ?_))
    funext a
    apply Fin.ext
    match a with
    | ⟨0, _⟩ => show d.val = 0 + 1 * d.val; omega
    | ⟨1, _⟩ => show 320 + q.val = 320 + 1 * q.val; omega
  · obtain ⟨d, q, rfl⟩ : ∃ (d : Fin 1024) (q : Fin 320), z = ix2 d q := ⟨z 0, z 1, eq_ix2 z⟩
    refine (h0 d q).trans ((whole_plane x 0 d q ⟨0 + q.val, by omega⟩ (by simp)).symm.trans (congrArg (whole x) ?_))
    funext a
    apply Fin.ext
    match a with
    | ⟨0, _⟩ => show d.val = 0 + 1 * d.val; omega
    | ⟨1, _⟩ => show 0 + q.val = 0 + 1 * q.val; omega

section Points

variable (c : Dev nD) (i : grid0.Coords)
  (arg1 : Memref sig .tc .vmem S512x1280 .bf16) (harg1 : arg1.IsWhole) (arg2 : Memref sig .tc .vmem S1x4x1024x320 .bf16) (harg2 : arg2.IsWhole)
  (arg3 : Memref sig .tc .vmem S512x1024 .f32) (harg3 : arg3.IsWhole) (arg4 : Memref sig .tc .vmem S1x1024 .f32) (harg4 : arg4.IsWhole)
  (arg5 : Memref sig .tc .vmem S512x1024 .f32) (harg5 : arg5.IsWhole) (arg6 : Memref sig .tc .vmem S512x1024 .f32) (harg6 : arg6.IsWhole)
  (arg7 : Memref sig .tc .vmem S1x1024 .f32) (harg7 : arg7.IsWhole) (arg8 : Memref sig .tc .vmem S512x1024 .bf16) (harg8 : arg8.IsWhole)
  (arg9 : Memref sig .tc .vmem S1024x1280 .bf16) (harg9 : arg9.IsWhole)
  (x0 : Vec Ideal S512x1280 .bf16) (x1 : Vec Ideal S1x4x1024x320 .bf16) (x2 : Vec Ideal S512x1024 .f32) (x3 : Vec Ideal S1x1024 .f32)
  (x4 : Vec Ideal S512x1024 .f32) (xo6 : Vec Ideal S1x1024 .f32) (xs0 : Vec Ideal S1024x1280 .bf16)

/-- The rows of the input's cotangent, from a point's blocks and the weight. -/
abbrev dh (w : FVec Ideal S1024x1280 .bf16) : FVec Ideal S512x1024 .f32 :=
  k0_pay1 x2 (k0_pay14 x0 w x2 x3) (k0_pay15 x0 w x2 x3) (k0_pay16 x0 w x2 x3) x4

/-- The same rows in the narrow format. -/
abbrev dh16 (w : FVec Ideal S1024x1280 .bf16) : FVec Ideal S512x1024 .bf16 :=
  k0_pay2 x2 (k0_pay14 x0 w x2 x3) (k0_pay15 x0 w x2 x3) (k0_pay16 x0 w x2 x3) x4

/-- At the first point the whole weight is stored for the later points. -/
theorem weights_first (hc0 : cond0_0 i) (hc1 : cond0_1 i) : sout0_A_0 c i arg1 harg1 arg2 harg2 arg3 harg3 arg4 harg4 arg5 harg5 arg6 harg6 arg7 harg7 arg8 harg8 arg9 harg9 hc0 hc1 x0 x1 x2 x3 x4 = whole x1 := by
  unfold sout0_A_0
  rw [View.read_writes_eq_canon _ _ _ (scover0_A_0 c i arg1 harg1 arg2 harg2 arg3 harg3 arg4 harg4 arg5 harg5 arg6 harg6 arg7 harg7 arg8 harg8 arg9 harg9 hc0 hc1 x0 x1 x2 x3 x4)]
  unfold kernelRun0_A
  dsimp only
  sl_unfold_words
  simp only [View.readAt_eq_ld, harg1.read_unread, harg2.read_unread, harg3.read_unread, harg4.read_unread, harg5.read_unread, harg6.read_unread, harg7.read_unread, harg8.read_unread, harg9.read_unread]
  rw [planes x1]
  all_goals
    intro d q
    pointwise [k0_pay5, k0_pay6, k0_pay7, k0_pay8]

/-- Reading the whole of the weight. -/
theorem ld_whole (w : FVec Ideal S1024x1280 .bf16) :
    (fun j => w ((Rect.unit (s := S1024x1280) ![0, 0] S1024x1280.size inb_S1024x1280_S1024x1280_0_0).idx j)) = w :=
  funext fun j => congrArg w (funext fun a => Fin.ext (by fin_cases a <;> simp [Rect.unit]))

/-- At the first point the rows of the input's cotangent. -/
theorem rows_first (hc0 : cond0_0 i) (hc1 : cond0_1 i) : out0_A_5 c i arg1 harg1 arg2 harg2 arg3 harg3 arg4 harg4 arg5 harg5 arg6 harg6 arg7 harg7 arg8 harg8 arg9 harg9 hc0 hc1 x0 x1 x2 x3 x4 = dh x0 x2 x3 x4 (whole x1) := by
  unfold out0_A_5
  rw [View.read_writes_eq_canon _ _ _ (cover0_A_5 c i arg1 harg1 arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_unit_zero hz]
  simp only [View.readAt_eq_ld, View.readCov_unit_zero (S := S1x1024) _ hz, harg1.read_unread, harg2.read_unread, harg3.read_unread, harg4.read_unread, harg5.read_unread, harg6.read_unread, harg7.read_unread, harg8.read_unread, harg9.read_unread, View.ld_unit_zero (S := S512x1024) hz, View.ld_unit_zero (S := S1x1024) hz, View.ld_unit_zero (S := S512x1280) hz]
  simp only [View.readCov_eq_canon']
  rw [planes x1]
  · exact congrArg (fun w => dh x0 x2 x3 x4 w) (ld_whole (whole x1))
  all_goals
    intro d q
    pointwise [k0_pay5, k0_pay6, k0_pay7, k0_pay8]

/-- At the first point the rows of the input's cotangent, in the narrow format. -/
theorem narrow_first (hc0 : cond0_0 i) (hc1 : cond0_1 i) : out0_A_7 c i arg1 harg1 arg2 harg2 arg3 harg3 arg4 harg4 arg5 harg5 arg6 harg6 arg7 harg7 arg8 harg8 arg9 harg9 hc0 hc1 x0 x1 x2 x3 x4 = dh16 x0 x2 x3 x4 (whole x1) := by
  unfold out0_A_7
  rw [View.read_writes_eq_canon _ _ _ (cover0_A_7 c i arg1 harg1 arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_unit_zero hz]
  simp only [View.readAt_eq_ld, View.readCov_unit_zero (S := S1x1024) _ hz, harg1.read_unread, harg2.read_unread, harg3.read_unread, harg4.read_unread, harg5.read_unread, harg6.read_unread, harg7.read_unread, harg8.read_unread, harg9.read_unread, View.ld_unit_zero (S := S512x1024) hz, View.ld_unit_zero (S := S1x1024) hz, View.ld_unit_zero (S := S512x1280) hz]
  simp only [View.readCov_eq_canon']
  rw [planes x1]
  · exact congrArg (fun w => dh16 x0 x2 x3 x4 w) (ld_whole (whole x1))
  all_goals
    intro d q
    pointwise [k0_pay5, k0_pay6, k0_pay7, k0_pay8]

/-- At the first point the gains' cotangent, with the point's part. -/
theorem gains_first (hc0 : cond0_0 i) (hc1 : cond0_1 i) : out0_A_6 c i arg1 harg1 arg2 harg2 arg3 harg3 arg4 harg4 arg5 harg5 arg6 harg6 arg7 harg7 arg8 harg8 arg9 harg9 hc0 hc1 x0 x1 x2 x3 x4 = k0_pay4 (k0_pay12 x0 (whole x1) x2) (k0_pay3 (F := Ideal)) := by
  unfold out0_A_6
  rw [View.read_writes_eq_canon _ _ _ (cover0_A_6 c i arg1 harg1 arg2 harg2 arg3 harg3 arg4 harg4 arg5 harg5 arg6 harg6 arg7 harg7 arg8 harg8 arg9 harg9 hc0 hc1 x0 x1 x2 x3 x4)]
  unfold kernelRun0_A
  dsimp only
  sl_unfold_words
  rw [View.canon_cons_unit_zero (S := S1x1024) hz]
  simp only [View.readAt_eq_ld, View.readCov_unit_zero (S := S1x1024) _ hz, harg1.read_unread, harg2.read_unread, harg3.read_unread, harg4.read_unread, harg5.read_unread, harg6.read_unread, harg7.read_unread, harg8.read_unread, harg9.read_unread, View.ld_unit_zero (S := S512x1024) hz, View.ld_unit_zero (S := S1x1024) hz, View.ld_unit_zero (S := S512x1280) hz]
  simp only [View.readCov_eq_canon']
  rw [planes x1]
  · exact congrArg (fun w => k0_pay4 (k0_pay12 x0 w x2) (k0_pay3 (F := Ideal))) (ld_whole (whole x1))
  all_goals
    intro d q
    pointwise [k0_pay5, k0_pay6, k0_pay7, k0_pay8]

/-- A later point keeps the stored weight. -/
theorem weights_later (hc0 : ¬cond0_0 i) (hc1 : ¬cond0_1 i) : sout0_B_0 c i arg1 harg1 arg2 harg2 arg3 harg3 arg4 harg4 arg5 harg5 arg6 harg6 arg7 harg7 arg8 harg8 arg9 harg9 hc0 hc1 x0 x1 x2 x3 x4 xo6 xs0 = xs0 := rfl

/-- At a later point the rows of the input's cotangent. -/
theorem rows_later (hc0 : ¬cond0_0 i) (hc1 : ¬cond0_1 i) : out0_B_5 c i arg1 harg1 arg2 harg2 arg3 harg3 arg4 harg4 arg5 harg5 arg6 harg6 arg7 harg7 arg8 harg8 arg9 harg9 hc0 hc1 x0 x1 x2 x3 x4 xo6 xs0 = dh x0 x2 x3 x4 xs0 := by
  unfold out0_B_5
  rw [View.read_writes_eq_canon _ _ _ (cover0_B_5 c i arg1 harg1 arg2 harg2 arg3 harg3 arg4 harg4 arg5 harg5 arg6 harg6 arg7 harg7 arg8 harg8 arg9 harg9 hc0 hc1 x0 x1 x2 x3 x4 xo6 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, View.ld_unit_zero (S := S512x1024) hz, View.ld_unit_zero (S := S1x1024) hz, View.ld_unit_zero (S := S512x1280) hz, View.ld_unit_zero (S := S1024x1280) hz]

/-- At a later point the rows of the input's cotangent, in the narrow format. -/
theorem narrow_later (hc0 : ¬cond0_0 i) (hc1 : ¬cond0_1 i) : out0_B_7 c i arg1 harg1 arg2 harg2 arg3 harg3 arg4 harg4 arg5 harg5 arg6 harg6 arg7 harg7 arg8 harg8 arg9 harg9 hc0 hc1 x0 x1 x2 x3 x4 xo6 xs0 = dh16 x0 x2 x3 x4 xs0 := by
  unfold out0_B_7
  rw [View.read_writes_eq_canon _ _ _ (cover0_B_7 c i arg1 harg1 arg2 harg2 arg3 harg3 arg4 harg4 arg5 harg5 arg6 harg6 arg7 harg7 arg8 harg8 arg9 harg9 hc0 hc1 x0 x1 x2 x3 x4 xo6 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, View.ld_unit_zero (S := S512x1024) hz, View.ld_unit_zero (S := S1x1024) hz, View.ld_unit_zero (S := S512x1280) hz, View.ld_unit_zero (S := S1024x1280) hz]

/-- At a later point the gains' cotangent, with the point's part. -/
theorem gains_later (hc0 : ¬cond0_0 i) (hc1 : ¬cond0_1 i) : out0_B_6 c i arg1 harg1 arg2 harg2 arg3 harg3 arg4 harg4 arg5 harg5 arg6 harg6 arg7 harg7 arg8 harg8 arg9 harg9 hc0 hc1 x0 x1 x2 x3 x4 xo6 xs0 = k0_pay4 (k0_pay12 x0 xs0 x2) xo6 := by
  unfold out0_B_6
  rw [View.read_writes_eq_canon _ _ _ (cover0_B_6 c i arg1 harg1 arg2 harg2 arg3 harg3 arg4 harg4 arg5 harg5 arg6 harg6 arg7 harg7 arg8 harg8 arg9 harg9 hc0 hc1 x0 x1 x2 x3 x4 xo6 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, harg7.read_unread, harg8.read_unread, harg9.read_unread, View.ld_unit_zero (S := S512x1024) hz, View.ld_unit_zero (S := S1x1024) hz, View.ld_unit_zero (S := S512x1280) hz, View.ld_unit_zero (S := S1024x1280) hz]

end Points

variable (m : (ℓ : Loc nD τ sig) → Buf (Elt Ideal) ℓ)

/-- The projection's cotangent. -/
abbrev a0 (c : Dev nD) : FVec Ideal S8192x1280 .bf16 := m ((c : Thread nD τ).loc main_arg0)
/-- The weights, in four planes of columns. -/
abbrev a1 (c : Dev nD) : FVec Ideal S1x4x1024x320 .bf16 := m ((c : Thread nD τ).loc main_arg1)
/-- The input of the norm. -/
abbrev a2 (c : Dev nD) : FVec Ideal S8192x1024 .f32 := m ((c : Thread nD τ).loc main_arg2)
/-- The norm's gains. -/
abbrev a3 (c : Dev nD) : FVec Ideal S1024 .f32 := m ((c : Thread nD τ).loc main_arg3)
/-- The cotangent that reaches the input past the layer. -/
abbrev a4 (c : Dev nD) : FVec Ideal S8192x1024 .f32 := m ((c : Thread nD τ).loc main_arg4)

theorem N16 : cfg0.N = 16 := by decide +kernel
theorem lt16 (t : Fin cfg0.N) : t.val < 16 := lt_of_lt_of_eq t.isLt N16

theorem index0 : ∀ t : Fin cfg0.N, win0_0.index t 0 = t.val ∧ win0_0.index t 1 = 0 :=
  (by decide +kernel : ∀ t : Fin grid0.N, win0_0.index t 0 = t.val ∧ win0_0.index t 1 = 0)

/-- A point reads 512 rows of the projection's cotangent. -/
theorem blk0 (c : Dev nD) (t : Fin cfg0.N) (r : Fin 512) (d : Fin 1280) :
    (iblk m c 0 t : FVec Ideal S512x1280 .bf16) (ix2 r d) = (a0 m c (ix2 ⟨t.val * 512 + r.val, by have := lt16 t; omega⟩ d) : EReal) := by
  unfold iblk
  rw [View.read_apply]
  show V m c main_arg0 _ = _
  rw [V_main_arg0]
  congr 1
  funext a
  apply Fin.ext
  match a with
  | ⟨0, _⟩ => show win0_0.index t 0 * 512 + 1 * r.val = t.val * 512 + r.val; rw [(index0 t).1]; omega
  | ⟨1, _⟩ => show win0_0.index t 1 * 1280 + 1 * d.val = d.val; rw [(index0 t).2]; omega

theorem index1 : ∀ (t : Fin cfg0.N) (a : Fin 4), win0_1.index t a = 0 :=
  (by decide +kernel : ∀ (t : Fin grid0.N) (a : Fin 4), win0_1.index t a = 0)

/-- Every point reads all planes of the weights. -/
theorem blk1 (c : Dev nD) (t : Fin cfg0.N) : (iblk m c 1 t : FVec Ideal S1x4x1024x320 .bf16) = a1 m c := by
  funext i
  unfold iblk
  rw [View.read_apply]
  show V m c main_arg1 _ = _
  rw [V_main_arg1]
  congr 1
  funext a
  apply Fin.ext
  match a with
  | ⟨0, _⟩ => show win0_1.index t 0 * 1 + 1 * (i 0).val = (i 0).val; rw [index1 t 0]; omega
  | ⟨1, _⟩ => show win0_1.index t 1 * 4 + 1 * (i 1).val = (i 1).val; rw [index1 t 1]; omega
  | ⟨2, _⟩ => show win0_1.index t 2 * 1024 + 1 * (i 2).val = (i 2).val; rw [index1 t 2]; omega
  | ⟨3, _⟩ => show win0_1.index t 3 * 320 + 1 * (i 3).val = (i 3).val; rw [index1 t 3]; omega

theorem index2 : ∀ t : Fin cfg0.N, win0_2.index t 0 = t.val ∧ win0_2.index t 1 = 0 :=
  (by decide +kernel : ∀ t : Fin grid0.N, win0_2.index t 0 = t.val ∧ win0_2.index t 1 = 0)

/-- A point reads 512 rows of the input. -/
theorem blk2 (c : Dev nD) (t : Fin cfg0.N) (r : Fin 512) (d : Fin 1024) :
    (iblk m c 2 t : FVec Ideal S512x1024 .f32) (ix2 r d) = (a2 m c (ix2 ⟨t.val * 512 + r.val, by have := lt16 t; omega⟩ d) : EReal) := by
  unfold iblk
  rw [View.read_apply]
  show V m c main_arg2 _ = _
  rw [V_main_arg2]
  congr 1
  funext a
  apply Fin.ext
  match a with
  | ⟨0, _⟩ => show win0_2.index t 0 * 512 + 1 * r.val = t.val * 512 + r.val; rw [(index2 t).1]; omega
  | ⟨1, _⟩ => show win0_2.index t 1 * 1024 + 1 * d.val = d.val; rw [(index2 t).2]; omega

theorem index3 : ∀ (t : Fin cfg0.N) (a : Fin 2), win0_3.index t a = 0 :=
  (by decide +kernel : ∀ (t : Fin grid0.N) (a : Fin 2), win0_3.index t a = 0)

/-- The gains, as a row. -/
theorem V0 (c : Dev nD) : (V m c main_v0 : FVec Ideal S1x1024 .f32) = shapeCast S1x1024 (a3 m c) shapeCasts_S1024_S1x1024 := rfl

/-- Every point reads all gains. -/
theorem blk3 (c : Dev nD) (t : Fin cfg0.N) (d : Fin 1024) :
    (iblk m c 3 t : FVec Ideal S1x1024 .f32) (ix2 0 d) = (a3 m c (ix1 d) : EReal) := by
  have e : (iblk m c 3 t : FVec Ideal S1x1024 .f32) = V m c main_v0 := by
    funext j
    unfold iblk
    rw [View.read_apply]
    show V m c main_v0 _ = _
    congr 1
    funext a
    apply Fin.ext
    match a with
    | ⟨0, _⟩ => show win0_3.index t 0 * 1 + 1 * (j 0).val = (j 0).val; rw [index3 t 0]; omega
    | ⟨1, _⟩ => show win0_3.index t 1 * 1024 + 1 * (j 1).val = (j 1).val; rw [index3 t 1]; omega
  rw [e, V0]
  pointwise []

theorem index4 : ∀ t : Fin cfg0.N, win0_4.index t 0 = t.val ∧ win0_4.index t 1 = 0 :=
  (by decide +kernel : ∀ t : Fin grid0.N, win0_4.index t 0 = t.val ∧ win0_4.index t 1 = 0)

/-- A point reads 512 rows of the cotangent past the layer. -/
theorem blk4 (c : Dev nD) (t : Fin cfg0.N) (r : Fin 512) (d : Fin 1024) :
    (iblk m c 4 t : FVec Ideal S512x1024 .f32) (ix2 r d) = (a4 m c (ix2 ⟨t.val * 512 + r.val, by have := lt16 t; omega⟩ d) : EReal) := by
  unfold iblk
  rw [View.read_apply]
  show V m c main_arg4 _ = _
  rw [V_main_arg4]
  congr 1
  funext a
  apply Fin.ext
  match a with
  | ⟨0, _⟩ => show win0_4.index t 0 * 512 + 1 * r.val = t.val * 512 + r.val; rw [(index4 t).1]; omega
  | ⟨1, _⟩ => show win0_4.index t 1 * 1024 + 1 * d.val = d.val; rw [(index4 t).2]; omega

/-- Plane 0 of the weights among the reference's columns. -/
theorem weights0 (x : FVec Ideal S1x4x1024x320 .bf16) (d : Fin 1024) (q : Fin 320) (k : Fin 1280) (hk : 0 + q.val = k.val) :
    (val_main_v10 (F := Ideal) x (ix2 d k) : EReal) = x (ix4 0 0 d q) := by
  unfold val_main_v10
  refine (cols_apply _ _ 0 (by simp) (val_main_v3 (F := Ideal) x) rfl 0 (by simp) d q k hk).trans ?_
  pointwise [val_main_v3, val_main_v2, val_main_v1, val_main_v0]

/-- Plane 1 of the weights among the reference's columns. -/
theorem weights1 (x : FVec Ideal S1x4x1024x320 .bf16) (d : Fin 1024) (q : Fin 320) (k : Fin 1280) (hk : 320 + q.val = k.val) :
    (val_main_v10 (F := Ideal) x (ix2 d k) : EReal) = x (ix4 0 1 d q) := by
  unfold val_main_v10
  refine (cols_apply _ _ 1 (by simp) (val_main_v5 (F := Ideal) x) rfl 320 (by simp) d q k hk).trans ?_
  pointwise [val_main_v5, val_main_v4, val_main_v1, val_main_v0]

/-- Plane 2 of the weights among the reference's columns. -/
theorem weights2 (x : FVec Ideal S1x4x1024x320 .bf16) (d : Fin 1024) (q : Fin 320) (k : Fin 1280) (hk : 640 + q.val = k.val) :
    (val_main_v10 (F := Ideal) x (ix2 d k) : EReal) = x (ix4 0 2 d q) := by
  unfold val_main_v10
  refine (cols_apply _ _ 2 (by simp) (val_main_v7 (F := Ideal) x) rfl 640 (by simp) d q k hk).trans ?_
  pointwise [val_main_v7, val_main_v6, val_main_v1, val_main_v0]

/-- Plane 3 of the weights among the reference's columns. -/
theorem weights3 (x : FVec Ideal S1x4x1024x320 .bf16) (d : Fin 1024) (q : Fin 320) (k : Fin 1280) (hk : 960 + q.val = k.val) :
    (val_main_v10 (F := Ideal) x (ix2 d k) : EReal) = x (ix4 0 3 d q) := by
  unfold val_main_v10
  refine (cols_apply _ _ 3 (by simp) (val_main_v9 (F := Ideal) x) rfl 960 (by simp) d q k hk).trans ?_
  pointwise [val_main_v9, val_main_v8, val_main_v1, val_main_v0]

/-- The planes side by side are the reference's weights. -/
theorem whole_ref (x : FVec Ideal S1x4x1024x320 .bf16) (d : Fin 1024) (k : Fin 1280) :
    (whole x (ix2 d k) : EReal) = val_main_v10 (F := Ideal) x (ix2 d k) := by
  obtain ⟨j, q, hk⟩ : ∃ (j : Fin 4) (q : Fin 320), j.val * 320 + q.val = k.val :=
    ⟨⟨k.val / 320, by omega⟩, ⟨k.val % 320, Nat.mod_lt _ (by omega)⟩, by dsimp only; omega⟩
  rw [whole_plane x j d q k hk]
  fin_cases j
  · exact (weights0 x d q k (by simpa using hk)).symm
  · exact (weights1 x d q k (by simpa using hk)).symm
  · exact (weights2 x d q k (by simpa using hk)).symm
  · exact (weights3 x d q k (by simpa using hk)).symm

/-- A point's product with the weights is the rows of the reference's. -/
theorem dxn_ref (c : Dev nD) (t : Fin cfg0.N) (r : Fin 512) (k : Fin 1024) :
    (k0_pay9 (F := Ideal) (iblk m c 0 t) (whole (a1 m c)) (ix2 r k) : EReal) = val_main_v29 (F := Ideal) (a0 m c) (a1 m c) (ix2 ⟨t.val * 512 + r.val, by have := lt16 t; omega⟩ k) := by
  pointwise [k0_pay9, val_main_v29, val_main_v28]
  simp only [blk0, whole_ref]

/-- A point's rows are the reference's. -/
theorem dh_ref (c : Dev nD) (t : Fin cfg0.N) (r : Fin 512) (k : Fin 1024) :
    (dh (iblk m c 0 t) (iblk m c 2 t) (iblk m c 3 t) (iblk m c 4 t) (whole (a1 m c)) (ix2 r k) : EReal)
      = val_main_v50 (F := Ideal) (a0 m c) (a1 m c) (a2 m c) (a3 m c) (a4 m c) (ix2 ⟨t.val * 512 + r.val, by have := lt16 t; omega⟩ k) := by
  unfold dh k0_pay16 k0_pay15 k0_pay14 k0_pay13
  have e := dxn_ref m c t
  generalize k0_pay9 (F := Ideal) (iblk m c 0 t) (whole (a1 m c)) = y at e ⊢
  pointwise [k0_pay1, k0_pay11, k0_pay10, val_main_v50, val_main_v49, val_main_v48, val_main_v47, val_main_v46, val_main_v45, val_main_v44, val_main_v43,
    val_main_v42, val_main_v41, val_main_v40, val_main_v39, val_main_v38, val_main_v37, val_main_v36, val_main_v34, val_main_v33, val_main_v24,
    val_main_v21, val_main_v20, val_main_v19, val_main_v18, val_main_v17, val_main_v16, val_main_v15, val_main_v14, val_main_v13, val_main_v12, val_main_v11,
    val_main_cst, val_main_cst_0, val_main_cst_1, val_main_cst_2, val_main_cst_5, val_main_cst_6, val_main_cst_7]
  simp only [e, blk2, blk3, blk4]
  simp only [add_assoc]

/-- A point's part of the gains' cotangent is the reference's, summed over the point's rows. -/
theorem gains_ref (c : Dev nD) (t : Fin cfg0.N) (k : Fin 1024) :
    (k0_pay12 (F := Ideal) (iblk m c 0 t) (whole (a1 m c)) (iblk m c 2 t) (ix2 0 k) : EReal)
      = ∑ r : Fin 512, val_main_v30 (F := Ideal) (a0 m c) (a1 m c) (a2 m c) (ix2 ⟨t.val * 512 + r.val, by have := lt16 t; omega⟩ k) := by
  unfold k0_pay12
  have e := dxn_ref m c t
  generalize k0_pay9 (F := Ideal) (iblk m c 0 t) (whole (a1 m c)) = y at e ⊢
  pointwise [k0_pay11, k0_pay10, val_main_v30, val_main_v23, val_main_v22, val_main_v18, val_main_v17, val_main_v16, val_main_v15, val_main_v14,
    val_main_v13, val_main_v12, val_main_v11, val_main_cst, val_main_cst_0, val_main_cst_1]
  simp only [e, blk2]

/-- The reference's gradient of the gains is a sum over all rows. -/
theorem ref_gains (x0 : FVec Ideal S8192x1280 .bf16) (x1 : FVec Ideal S1x4x1024x320 .bf16) (x2 : FVec Ideal S8192x1024 .f32) (k : Fin 1024) :
    (val_main_v51 (F := Ideal) x0 x1 x2 (ix2 0 k) : EReal) = ∑ r : Fin 8192, val_main_v30 (F := Ideal) x0 x1 x2 (ix2 r k) := by
  pointwise [val_main_v51, val_main_v35, val_main_v32, val_main_v31, val_main_cst_3, val_main_cst_4]
  exact Fin.sum_univ_one _

/-! ## The arrays at the end -/

/-- What starts at the first point's part and gains each later point's part ends as the sum over the points. -/
theorem sum_points (o : (n : ℕ) → n < cfg0.N → EReal) (f : Fin 16 → EReal) (h0 : ∀ h, o 0 h = f ⟨0, by omega⟩)
    (hs : ∀ n (h : n + 1 < cfg0.N), o (n + 1) h = o n (Nat.lt_of_succ_lt h) + f ⟨n + 1, lt16 ⟨n + 1, h⟩⟩)
    (t : Fin cfg0.N) (ht : t.val % 16 = 15) : o t.val t.isLt = ∑ n, f n := by
  have e : ∀ n (h : n < cfg0.N), o n h = ∑ i ∈ Finset.range (n + 1), (if h : i < 16 then f ⟨i, h⟩ else 0) := by
    intro n
    induction n with
    | zero => intro h; rw [h0]; simp
    | succ n ih =>
      intro h
      rw [hs, ih, Finset.sum_range_succ _ (n + 1), dif_pos (lt16 ⟨n + 1, h⟩)]
  have := lt16 t
  rw [e, show t.val + 1 = 16 by omega, Finset.sum_range]
  exact Finset.sum_congr rfl fun i _ => dif_pos i.isLt

/-- After every point the stored weight is the whole weight. -/
theorem stored (c : Dev nD) : ∀ (n : ℕ) (h : n < cfg0.N), ((outsAt0 m c n h).2.2.2 : FVec Ideal S1024x1280 .bf16) = whole (a1 m c) := by
  intro n
  induction n with
  | zero =>
    intro h
    rw [outsAt0_A m c ⟨0, h⟩ rfl rfl]
    dsimp only
    rw [weights_first, blk1]
  | succ n ih =>
    intro h
    rw [outsAt0_B m c ⟨n + 1, h⟩ (by have := lt16 ⟨n + 1, h⟩; dsimp only at this ⊢; omega)
      (by have := lt16 ⟨n + 1, h⟩; dsimp only at this ⊢; omega)]
    dsimp only
    rw [weights_later]
    simp only [Nat.add_one_sub_one]
    exact ih _

/-- What a point leaves in the rows' block. -/
theorem rows (c : Dev nD) (t : Fin cfg0.N) :
    (outsAt0 m c t.val t.isLt).1 = dh (iblk m c 0 t) (iblk m c 2 t) (iblk m c 3 t) (iblk m c 4 t) (whole (a1 m c)) := by
  by_cases h : t.val % 16 = 0
  · rw [outsAt0_A m c t h h, rows_first, blk1]
  · rw [outsAt0_B m c t h h, rows_later, stored]

/-- What a point leaves in the narrow rows' block. -/
theorem narrow (c : Dev nD) (t : Fin cfg0.N) :
    (outsAt0 m c t.val t.isLt).2.2.1 = dh16 (iblk m c 0 t) (iblk m c 2 t) (iblk m c 3 t) (iblk m c 4 t) (whole (a1 m c)) := by
  by_cases h : t.val % 16 = 0
  · rw [outsAt0_A m c t h h, narrow_first, blk1]
  · rw [outsAt0_B m c t h h, narrow_later, stored]

theorem index5 : ∀ t : Fin cfg0.N, win0_5.index t 0 = t.val ∧ win0_5.index t 1 = 0 :=
  (by decide +kernel : ∀ t : Fin grid0.N, win0_5.index t 0 = t.val ∧ win0_5.index t 1 = 0)

/-- The rows of the input's cotangent at the end. -/
theorem arr5 (c : Dev nD) : (dats m 0 c).arrAt 5 cfg0.N = val_main_v50 (F := Ideal) (a0 m c) (a1 m c) (a2 m c) (a3 m c) (a4 m c) := by
  funext i
  obtain ⟨n, r, k, hi⟩ : ∃ (n : Fin 16) (r : Fin 512) (k : Fin 1024), i = ix2 ⟨n.val * 512 + r.val, by omega⟩ k := by
    refine ⟨⟨(i 0).val / 512, by have : (i 0).val < 8192 := (i 0).isLt; omega⟩, ⟨(i 0).val % 512, by omega⟩, i 1, ?_⟩
    refine (eq_ix2 i).trans (congrArg (fun x => ix2 x (i 1)) (Fin.ext ?_))
    show (i 0).val = (i 0).val / 512 * 512 + (i 0).val % 512
    omega
  subst hi
  have h := congrFun (Value.blocks5 m c ⟨n, by rw [N16]; omega⟩ (flush0_5 _)) (ix2 r k)
  rw [View.read_apply, Value.flushed5] at h
  refine Eq.trans ?_ (h.trans ((congrFun (rows m c ⟨n, by rw [N16]; omega⟩) (ix2 r k)).trans (dh_ref m c ⟨n, by rw [N16]; omega⟩ r k)))
  show _ = ((dats m 0 c).arrAt 5 cfg0.N : FVec Ideal S8192x1024 .f32) _
  congr 1
  funext a
  apply Fin.ext
  have hi := index5 ⟨n, by rw [N16]; omega⟩
  match a with
  | ⟨0, _⟩ => show n.val * 512 + r.val = win0_5.index _ 0 * 512 + 1 * r.val; rw [hi.1]; dsimp only; omega
  | ⟨1, _⟩ => show k.val = win0_5.index _ 1 * 1024 + 1 * k.val; rw [hi.2]; omega

theorem index7 : ∀ t : Fin cfg0.N, win0_7.index t 0 = t.val ∧ win0_7.index t 1 = 0 :=
  (by decide +kernel : ∀ t : Fin grid0.N, win0_7.index t 0 = t.val ∧ win0_7.index t 1 = 0)

/-- The narrow rows at the end. -/
theorem arr7 (c : Dev nD) : (dats m 0 c).arrAt 7 cfg0.N = val_main_v52 (F := Ideal) (a0 m c) (a1 m c) (a2 m c) (a3 m c) (a4 m c) := by
  funext i
  obtain ⟨n, r, k, hi⟩ : ∃ (n : Fin 16) (r : Fin 512) (k : Fin 1024), i = ix2 ⟨n.val * 512 + r.val, by omega⟩ k := by
    refine ⟨⟨(i 0).val / 512, by have : (i 0).val < 8192 := (i 0).isLt; omega⟩, ⟨(i 0).val % 512, by omega⟩, i 1, ?_⟩
    refine (eq_ix2 i).trans (congrArg (fun x => ix2 x (i 1)) (Fin.ext ?_))
    show (i 0).val = (i 0).val / 512 * 512 + (i 0).val % 512
    omega
  subst hi
  have h := congrFun (Value.blocks7 m c ⟨n, by rw [N16]; omega⟩ (flush0_7 _)) (ix2 r k)
  rw [View.read_apply, Value.flushed7] at h
  refine Eq.trans ?_ (h.trans ((congrFun (narrow m c ⟨n, by rw [N16]; omega⟩) (ix2 r k)).trans (dh_ref m c ⟨n, by rw [N16]; omega⟩ r k)))
  show _ = ((dats m 0 c).arrAt 7 cfg0.N : FVec Ideal S8192x1024 .bf16) _
  congr 1
  funext a
  apply Fin.ext
  have hi := index7 ⟨n, by rw [N16]; omega⟩
  match a with
  | ⟨0, _⟩ => show n.val * 512 + r.val = win0_7.index _ 0 * 512 + 1 * r.val; rw [hi.1]; dsimp only; omega
  | ⟨1, _⟩ => show k.val = win0_7.index _ 1 * 1024 + 1 * k.val; rw [hi.2]; omega

/-- A point's part of the gains' cotangent. -/
abbrev part (c : Dev nD) (k : Fin 1024) (n : Fin 16) : EReal :=
  ∑ r : Fin 512, val_main_v30 (F := Ideal) (a0 m c) (a1 m c) (a2 m c) (ix2 ⟨n.val * 512 + r.val, by omega⟩ k)

/-- The gains' cotangent after the last point: the sum over all rows. -/
theorem gains (c : Dev nD) (t : Fin cfg0.N) (ht : t.val % 16 = 15) :
    ((outsAt0 m c t.val t.isLt).2.1 : FVec Ideal S1x1024 .f32) = val_main_v51 (F := Ideal) (a0 m c) (a1 m c) (a2 m c) := by
  funext i
  obtain ⟨z, k, hi⟩ : ∃ (z : Fin 1) (k : Fin 1024), i = ix2 z k := ⟨i 0, i 1, eq_ix2 i⟩
  subst hi
  obtain rfl : z = 0 := Subsingleton.elim _ _
  rw [ref_gains, sum_blocks (n := 16) (b := 512) (by rfl)]
  refine sum_points (fun n h => ((outsAt0 m c n h).2.1 (ix2 0 k) : EReal)) (part m c k) ?_ ?_ t ht
  · intro h
    rw [outsAt0_A m c ⟨0, h⟩ rfl rfl]
    dsimp only
    rw [gains_first, blk1]
    pointwise [k0_pay4, k0_pay3]
    exact gains_ref m c ⟨0, h⟩ k
  · intro n h
    rw [outsAt0_B m c ⟨n + 1, h⟩ (by have := lt16 ⟨n + 1, h⟩; dsimp only at this ⊢; omega)
      (by have := lt16 ⟨n + 1, h⟩; dsimp only at this ⊢; omega)]
    dsimp only
    rw [gains_later, stored]
    pointwise [k0_pay4]
    exact congrArg _ (gains_ref m c ⟨n + 1, h⟩ k)

theorem eq_last (s t : Fin cfg0.N) (hs : s.val % 16 = 15) (ht : t.val % 16 = 15) : s = t := by
  have := lt16 t
  have := lt16 s
  exact Fin.ext (by omega)

/-- The last grid point. -/
theorem exists_last : ∃ t : Fin cfg0.N, t.val % 16 = 15 := ⟨⟨15, by rw [N16]; omega⟩, rfl⟩

theorem index6 : ∀ (t : Fin cfg0.N) (a : Fin 2), win0_6.index t a = 0 :=
  (by decide +kernel : ∀ (t : Fin grid0.N) (a : Fin 2), win0_6.index t a = 0)

/-- The gains' cotangent at the end. -/
theorem arr6 (c : Dev nD) : (dats m 0 c).arrAt 6 cfg0.N = val_main_v51 (F := Ideal) (a0 m c) (a1 m c) (a2 m c) := by
  have hX : ∀ s : Fin cfg0.N, s.val % 16 = 15 → ((outsAt0 m c s.val s.isLt).2.1 : FVec Ideal S1x1024 .f32) = val_main_v51 (F := Ideal) (a0 m c) (a1 m c) (a2 m c) :=
    fun s hs => gains m c s hs
  generalize val_main_v51 (F := Ideal) (a0 m c) (a1 m c) (a2 m c) = X at hX ⊢
  have hf : ∀ s, (cfg0.win 6).flush s = true →
      (dats m 0 c).flushed 6 s = ((cfg0.win 6).blk s).view.read (Elt Ideal) (X : Buf (Elt Ideal) ((c : Thread nD τ).loc main_v1_1)) := by
    intro s hs
    show (cfg0.win 6).cut (grid0.coords s) ((dats m 0 c).after 6 s) = _
    rw [after0_6, hX s ((flush0_6 s).mp hs)]
    have hz : (fun a => win0_6.index s a * main_v1_1.ty.shape.size a) = fun _ => 0 := funext fun a => by rw [index6 s a, Nat.zero_mul]
    exact (Memref.read_access_unit_zero (Elt Ideal) main_v1_1 hz (fun a => by rw [congrFun hz a]; simp) X).symm
  obtain ⟨t, ht⟩ := exists_last
  refine (dats m 0 c).arrAt_eq_of_cover 6 X hf fun i => ⟨t, (flush0_6 t).mpr ht, ?_⟩
  show i ∈ ((View.whole main_v1_1).slice (win0_6.rect t)).set
  rw [View.set_slice_whole, Rect.mem_set_unit]
  intro a
  have hx : ∀ a : Fin 2, win0_6.xsize (grid0.coords t) a = win0_6.size a := by revert t; decide +kernel
  show win0_6.index t a * win0_6.size a ≤ (i a : Nat) ∧ (i a : Nat) < win0_6.index t a * win0_6.size a + win0_6.xsize (grid0.coords t) a
  rw [index6, hx, Nat.zero_mul, Nat.zero_add]
  exact ⟨Nat.zero_le _, (i a).isLt⟩

end Cert.Kernel13Ideal.Blocks

end
-- ==== Proof.MixOut.lean ====
/- The product by the mixer's output weights, with the residual: what each grid point leaves, and the result at the end. -/
module

public import proofs.«01_k».proof.Proof.Sums
public import Idealize.ShloMosaic.Lib.Pipeline.ReadBack
public import proofs.«01_k».proof.Proof.Gen.Kernel14Ideal.Value
public import proofs.«01_k».proof.Proof.Gen.Reference14Ideal.Read

@[expose] public section

noncomputable section

namespace Cert.Kernel14Ideal.Blocks

open Idealize.ShloMosaic Idealize.ShloMosaic.TcCoe Idealize.SL.Sem Cert.Kernel14Ideal Cert.Kernel14Ideal.Gen
open Cert.Reference14Ideal.Read Cert.Sums

theorem hz : (![0, 0] : Fin 2 → Nat) = fun _ => 0 := funext fun a => by fin_cases a <;> rfl
theorem hz3 : (![0, 0, 0] : Fin 3 → Nat) = fun _ => 0 := funext fun a => by fin_cases a <;> rfl

variable (m : (ℓ : Loc nD τ sig) → Buf (Elt Ideal) ℓ)

/-- The mixer's heads, side by side. -/
abbrev a0 (c : Dev nD) : FVec Ideal S8192x1024 .bf16 := m ((c : Thread nD τ).loc main_arg0)
/-- The output weights. -/
abbrev a1 (c : Dev nD) : FVec Ideal S1x1024x1024 .bf16 := m ((c : Thread nD τ).loc main_arg1)
/-- The residual. -/
abbrev a2 (c : Dev nD) : FVec Ideal S8192x1024 .f32 := m ((c : Thread nD τ).loc main_arg2)

theorem N16 : cfg0.N = 16 := by decide +kernel
theorem lt16 (t : Fin cfg0.N) : t.val < 16 := lt_of_lt_of_eq t.isLt N16

theorem index0 : ∀ t : Fin cfg0.N, win0_0.index t 0 = t.val ∧ win0_0.index t 1 = 0 :=
  (by decide +kernel : ∀ t : Fin grid0.N, win0_0.index t 0 = t.val ∧ win0_0.index t 1 = 0)

/-- A point reads 512 rows. -/
theorem blk0 (c : Dev nD) (t : Fin cfg0.N) (r : Fin 512) (d : Fin 1024) :
    (iblk m c 0 t : FVec Ideal S512x1024 .bf16) (ix2 r d) = (a0 m c (ix2 ⟨t.val * 512 + r.val, by have := lt16 t; omega⟩ d) : EReal) := by
  unfold iblk
  rw [View.read_apply]
  show V m c main_arg0 _ = _
  rw [V_main_arg0]
  congr 1
  funext a
  apply Fin.ext
  match a with
  | ⟨0, _⟩ => show win0_0.index t 0 * 512 + 1 * r.val = t.val * 512 + r.val; rw [(index0 t).1]; omega
  | ⟨1, _⟩ => show win0_0.index t 1 * 1024 + 1 * d.val = d.val; rw [(index0 t).2]; omega

theorem index1 : ∀ (t : Fin cfg0.N) (a : Fin 3), win0_1.index t a = 0 :=
  (by decide +kernel : ∀ (t : Fin grid0.N) (a : Fin 3), win0_1.index t a = 0)

/-- Every point reads the whole weight. -/
theorem blk1 (c : Dev nD) (t : Fin cfg0.N) (r : Fin 1024) (d : Fin 1024) :
    (iblk m c 1 t : FVec Ideal S1x1024x1024 .bf16) (ix3 0 r d) = (a1 m c (ix3 0 r d) : EReal) := by
  unfold iblk
  rw [View.read_apply]
  show V m c main_arg1 _ = _
  rw [V_main_arg1]
  congr 1
  funext a
  apply Fin.ext
  match a with
  | ⟨0, _⟩ => show win0_1.index t 0 * 1 + 1 * 0 = 0; rw [index1 t 0]
  | ⟨1, _⟩ => show win0_1.index t 1 * 1024 + 1 * r.val = r.val; rw [index1 t 1]; omega
  | ⟨2, _⟩ => show win0_1.index t 2 * 1024 + 1 * d.val = d.val; rw [index1 t 2]; omega

theorem index2 : ∀ t : Fin cfg0.N, win0_2.index t 0 = t.val ∧ win0_2.index t 1 = 0 :=
  (by decide +kernel : ∀ t : Fin grid0.N, win0_2.index t 0 = t.val ∧ win0_2.index t 1 = 0)

/-- A point reads 512 rows of the residual. -/
theorem blk2 (c : Dev nD) (t : Fin cfg0.N) (r : Fin 512) (d : Fin 1024) :
    (iblk m c 2 t : FVec Ideal S512x1024 .f32) (ix2 r d) = (a2 m c (ix2 ⟨t.val * 512 + r.val, by have := lt16 t; omega⟩ d) : EReal) := by
  unfold iblk
  rw [View.read_apply]
  show V m c main_arg2 _ = _
  rw [V_main_arg2]
  congr 1
  funext a
  apply Fin.ext
  match a with
  | ⟨0, _⟩ => show win0_2.index t 0 * 512 + 1 * r.val = t.val * 512 + r.val; rw [(index2 t).1]; omega
  | ⟨1, _⟩ => show win0_2.index t 1 * 1024 + 1 * d.val = d.val; rw [(index2 t).2]; omega

/-- A point leaves its product and the residual's rows. -/
theorem out_eq (x0 : Vec Ideal S512x1024 .bf16) (x1 : Vec Ideal S1x1024x1024 .bf16) (x2 : Vec Ideal S512x1024 .f32) : out0_3 x0 x1 x2 = k0_pay1 x0 x1 x2 := by
  unfold out0_3
  rw [View.canon_unit_zero (S := S512x1024) hz]
  simp only [View.ld_unit_zero (S := S512x1024) hz, View.ld_unit_zero (S := S1x1024x1024) hz3]

/-- A point's rows are the reference's. -/
theorem rows (c : Dev nD) (t : Fin cfg0.N) (r : Fin 512) (k : Fin 1024) :
    (out0_3 (iblk m c 0 t) (iblk m c 1 t) (iblk m c 2 t) (ix2 r k) : EReal)
      = val_main_v4 (F := Ideal) (a0 m c) (a1 m c) (a2 m c) (ix2 ⟨t.val * 512 + r.val, by have := lt16 t; omega⟩ k) := by
  rw [out_eq]
  pointwise [k0_pay1, val_main_v4, val_main_v3, val_main_v2, val_main_v1, val_main_v0]
  simp only [blk0, blk1, blk2]
  exact add_comm _ _

theorem index3 : ∀ t : Fin cfg0.N, win0_3.index t 0 = t.val ∧ win0_3.index t 1 = 0 :=
  (by decide +kernel : ∀ t : Fin grid0.N, win0_3.index t 0 = t.val ∧ win0_3.index t 1 = 0)

/-- The kernel's result is the reference's. -/
theorem arr3 (c : Dev nD) : (dats m 0 c).arrAt 3 cfg0.N = val_main_v4 (F := Ideal) (a0 m c) (a1 m c) (a2 m c) := by
  funext i
  obtain ⟨n, r, k, hi⟩ : ∃ (n : Fin 16) (r : Fin 512) (k : Fin 1024), i = ix2 ⟨n.val * 512 + r.val, by omega⟩ k := by
    refine ⟨⟨(i 0).val / 512, by have : (i 0).val < 8192 := (i 0).isLt; omega⟩, ⟨(i 0).val % 512, by omega⟩, i 1, ?_⟩
    refine (eq_ix2 i).trans (congrArg (fun x => ix2 x (i 1)) (Fin.ext ?_))
    show (i 0).val = (i 0).val / 512 * 512 + (i 0).val % 512
    omega
  subst hi
  have h := congrFun (Value.blocks3 m c ⟨n, by rw [N16]; omega⟩ (flush0_3 _)) (ix2 r k)
  rw [View.read_apply, Value.flushed3] at h
  refine Eq.trans ?_ (h.trans (rows m c ⟨n, by rw [N16]; omega⟩ r k))
  show _ = ((dats m 0 c).arrAt 3 cfg0.N : FVec Ideal S8192x1024 .f32) _
  congr 1
  funext a
  apply Fin.ext
  have hi := index3 ⟨n, by rw [N16]; omega⟩
  match a with
  | ⟨0, _⟩ => show n.val * 512 + r.val = win0_3.index _ 0 * 512 + 1 * r.val; rw [hi.1]; dsimp only; omega
  | ⟨1, _⟩ => show k.val = win0_3.index _ 1 * 1024 + 1 * k.val; rw [hi.2]; omega

end Cert.Kernel14Ideal.Blocks

end
-- ==== Proof.InB.lean ====
/- Mixer B's norm and projection: what each grid point leaves, and the results at the end. -/
module

public import proofs.«01_k».proof.Proof.Sums
public import Idealize.ShloMosaic.Lib.Pipeline.ReadBack
public import Idealize.ShloMosaic.Lib.Pipeline.ValueKit.Tiles
public import proofs.«01_k».proof.Proof.Gen.Kernel15Ideal.Value
public import proofs.«01_k».proof.Proof.Gen.Reference15Ideal.Read

@[expose] public section

noncomputable section

namespace Cert.Kernel15Ideal.Blocks

open Idealize.ShloMosaic Idealize.ShloMosaic.TcCoe Idealize.ShloMosaic.Tactic Idealize.SL.Sem Cert.Kernel15Ideal Cert.Kernel15Ideal.Gen
open Cert.Reference15Ideal.Read Cert.Sums

theorem hz : (![0, 0] : Fin 2 → Nat) = fun _ => 0 := funext fun a => by fin_cases a <;> rfl

/-- The weights' four planes, side by side. -/
def whole (x : FVec Ideal S1x4x1024x448 .bf16) : FVec Ideal S1024x1792 .bf16 := fun y =>
  x (ix4 0 ⟨(y 1).val / 448, by have : (y 1).val < 1792 := (y 1).isLt; omega⟩ (y 0) ⟨(y 1).val % 448, Nat.mod_lt _ (by omega)⟩)

/-- A plane among the columns. -/
theorem whole_plane (x : FVec Ideal S1x4x1024x448 .bf16) (j : Fin 4) (d : Fin 1024) (q : Fin 448) (k : Fin 1792) (hk : j.val * 448 + q.val = k.val) :
    (whole x (ix2 d k) : EReal) = x (ix4 0 j d q) := by
  show (x (ix4 0 _ d _) : EReal) = _
  refine congrArg₂ (fun a b => (x (ix4 0 a d b) : EReal)) (Fin.ext ?_) (Fin.ext ?_)
  · show k.val / 448 = j.val
    rw [← hk, Nat.mul_comm, Nat.mul_add_div (by omega), Nat.div_eq_of_lt q.isLt, Nat.add_zero]
  · show k.val % 448 = q.val
    rw [← hk, Nat.mul_comm, Nat.mul_add_mod, Nat.mod_eq_of_lt q.isLt]

/-- Four stores, each of a plane at its columns, leave the whole weight. -/
theorem planes (x : FVec Ideal S1x4x1024x448 .bf16) (v0 v1 v2 v3 : FVec Ideal S1024x448 .bf16)
    (h0 : ∀ d q, (v0 (ix2 d q) : EReal) = x (ix4 0 0 d q)) (h1 : ∀ d q, (v1 (ix2 d q) : EReal) = x (ix4 0 1 d q))
    (h2 : ∀ d q, (v2 (ix2 d q) : EReal) = x (ix4 0 2 d q)) (h3 : ∀ d q, (v3 (ix2 d q) : EReal) = x (ix4 0 3 d q)) :
    View.canon (Val := Elt Ideal) (s := S1024x1792) (e := .bf16)
      [⟨Rect.unit (s := S1024x1792) ![0, 1344] S1024x448.size inb_S1024x1792_S1024x448_0_1344, v3⟩,
       ⟨Rect.unit (s := S1024x1792) ![0, 896] S1024x448.size inb_S1024x1792_S1024x448_0_896, v2⟩,
       ⟨Rect.unit (s := S1024x1792) ![0, 448] S1024x448.size inb_S1024x1792_S1024x448_0_448, v1⟩,
       ⟨Rect.unit (s := S1024x1792) ![0, 0] S1024x448.size inb_S1024x1792_S1024x448_0_0, v0⟩] = whole x := by
  funext y
  refine View.canon_apply_of_pieces (Val := Elt Ideal) (e := .bf16) (whole x) _ ?_ y ?_
  swap
  · exact View.cover_of_tiledL (s := S1024x1792) _ S1024x448.size (by sl_kernel_rfl) y
  intro p hp z
  simp only [List.mem_cons, List.not_mem_nil, or_false] at hp
  rcases hp with rfl | rfl | rfl | rfl
  · obtain ⟨d, q, rfl⟩ : ∃ (d : Fin 1024) (q : Fin 448), z = ix2 d q := ⟨z 0, z 1, eq_ix2 z⟩
    refine (h3 d q).trans ((whole_plane x 3 d q ⟨1344 + q.val, by omega⟩ (by rfl)).symm.trans (congrArg (whole x) ?_))
    funext a
    apply Fin.ext
    match a with
    | ⟨0, _⟩ => show d.val = 0 + 1 * d.val; omega
    | ⟨1, _⟩ => show 1344 + q.val = 1344 + 1 * q.val; omega
  · obtain ⟨d, q, rfl⟩ : ∃ (d : Fin 1024) (q : Fin 448), z = ix2 d q := ⟨z 0, z 1, eq_ix2 z⟩
    refine (h2 d q).trans ((whole_plane x 2 d q ⟨896 + q.val, by omega⟩ (by rfl)).symm.trans (congrArg (whole x) ?_))
    funext a
    apply Fin.ext
    match a with
    | ⟨0, _⟩ => show d.val = 0 + 1 * d.val; omega
    | ⟨1, _⟩ => show 896 + q.val = 896 + 1 * q.val; omega
  · obtain ⟨d, q, rfl⟩ : ∃ (d : Fin 1024) (q : Fin 448), z = ix2 d q := ⟨z 0, z 1, eq_ix2 z⟩
    refine (h1 d q).trans ((whole_plane x 1 d q ⟨448 + q.val, by omega⟩ (by simp)).symm.trans (congrArg (whole x) ?_))
    funext a
    apply Fin.ext
    match a with
    | ⟨0, _⟩ => show d.val = 0 + 1 * d.val; omega
    | ⟨1, _⟩ => show 448 + q.val = 448 + 1 * q.val; omega
  · obtain ⟨d, q, rfl⟩ : ∃ (d : Fin 1024) (q : Fin 448), z = ix2 d q := ⟨z 0, z 1, eq_ix2 z⟩
    refine (h0 d q).trans ((whole_plane x 0 d q ⟨0 + q.val, by omega⟩ (by simp)).symm.trans (congrArg (whole x) ?_))
    funext a
    apply Fin.ext
    match a with
    | ⟨0, _⟩ => show d.val = 0 + 1 * d.val; omega
    | ⟨1, _⟩ => show 0 + q.val = 0 + 1 * q.val; omega

section Points

variable (c : Dev nD) (i : grid0.Coords)
  (arg1 : Memref sig .tc .vmem S512x1024 .f32) (harg1 : arg1.IsWhole) (arg2 : Memref sig .tc .vmem S1x1024 .f32) (harg2 : arg2.IsWhole)
  (arg3 : Memref sig .tc .vmem S1x4x1024x448 .bf16) (harg3 : arg3.IsWhole) (arg4 : Memref sig .tc .vmem S512x1024 .bf16) (harg4 : arg4.IsWhole)
  (arg5 : Memref sig .tc .vmem S512x1792 .bf16) (harg5 : arg5.IsWhole) (arg6 : Memref sig .tc .vmem S1024x1792 .bf16) (harg6 : arg6.IsWhole)
  (x0 : Vec Ideal S512x1024 .f32) (x1 : Vec Ideal S1x1024 .f32) (x2 : Vec Ideal S1x4x1024x448 .bf16) (xs0 : Vec Ideal S1024x1792 .bf16)

/-- At the first point the normed rows. -/
theorem rows_first (hc0 : cond0_0 i) : out0_A_3 c i arg1 harg1 arg2 harg2 arg3 harg3 arg4 harg4 arg5 harg5 arg6 harg6 hc0 x0 x1 x2 = k0_pay5 x0 x1 := by
  unfold out0_A_3
  rw [View.read_writes_eq_canon _ _ _ (cover0_A_3 c i arg1 harg1 arg2 harg2 arg3 harg3 arg4 harg4 arg5 harg5 arg6 harg6 hc0 x0 x1 x2)]
  unfold kernelRun0_A
  dsimp only
  sl_unfold_words
  rw [View.canon_unit_zero hz]
  simp only [View.readAt_eq_ld, harg1.read_unread, harg2.read_unread, harg3.read_unread, harg4.read_unread, harg5.read_unread, harg6.read_unread, View.ld_unit_zero (S := S512x1024) hz, View.ld_unit_zero (S := S1x1024) hz]

/-- At the first point the whole weight is stored for the later points. -/
theorem weights_first (hc0 : cond0_0 i) : sout0_A_0 c i arg1 harg1 arg2 harg2 arg3 harg3 arg4 harg4 arg5 harg5 arg6 harg6 hc0 x0 x1 x2 = whole x2 := by
  unfold sout0_A_0
  rw [View.read_writes_eq_canon _ _ _ (scover0_A_0 c i arg1 harg1 arg2 harg2 arg3 harg3 arg4 harg4 arg5 harg5 arg6 harg6 hc0 x0 x1 x2)]
  unfold kernelRun0_A
  dsimp only
  sl_unfold_words
  simp only [View.readAt_eq_ld, harg1.read_unread, harg2.read_unread, harg3.read_unread, harg4.read_unread, harg5.read_unread, harg6.read_unread]
  rw [planes x2]
  all_goals
    intro d q
    pointwise [k0_pay1, k0_pay2, k0_pay3, k0_pay4]

/-- At the first point the normed rows' product by the weight. -/
theorem product_first (hc0 : cond0_0 i) : out0_A_4 c i arg1 harg1 arg2 harg2 arg3 harg3 arg4 harg4 arg5 harg5 arg6 harg6 hc0 x0 x1 x2 = k0_pay6 x0 x1 (whole x2) := by
  unfold out0_A_4
  rw [View.read_writes_eq_canon _ _ _ (cover0_A_4 c i arg1 harg1 arg2 harg2 arg3 harg3 arg4 harg4 arg5 harg5 arg6 harg6 hc0 x0 x1 x2)]
  unfold kernelRun0_A
  dsimp only
  sl_unfold_words
  rw [View.canon_unit_zero hz]
  simp only [View.readAt_eq_ld, View.readCov_eq_canon', harg1.read_unread, harg2.read_unread, harg3.read_unread, harg4.read_unread, harg5.read_unread, harg6.read_unread, View.ld_unit_zero (S := S512x1024) hz, View.ld_unit_zero (S := S1x1024) hz]
  rw [planes x2]
  · refine congrArg (k0_pay6 x0 x1) (funext fun j => congrArg (whole x2) (funext fun a => Fin.ext ?_))
    fin_cases a <;> simp [Rect.unit]
  all_goals
    intro d q
    pointwise [k0_pay1, k0_pay2, k0_pay3, k0_pay4]

/-- At a later point the normed rows. -/
theorem rows_later (hc0 : ¬cond0_0 i) : out0_B_3 c i arg1 harg1 arg2 harg2 arg3 harg3 arg4 harg4 arg5 harg5 arg6 harg6 hc0 x0 x1 x2 xs0 = k0_pay5 x0 x1 := by
  unfold out0_B_3
  rw [View.read_writes_eq_canon _ _ _ (cover0_B_3 c i arg1 harg1 arg2 harg2 arg3 harg3 arg4 harg4 arg5 harg5 arg6 harg6 hc0 x0 x1 x2 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, View.ld_unit_zero (S := S512x1024) hz, View.ld_unit_zero (S := S1x1024) hz]

/-- A later point keeps the stored weight. -/
theorem weights_later (hc0 : ¬cond0_0 i) : sout0_B_0 c i arg1 harg1 arg2 harg2 arg3 harg3 arg4 harg4 arg5 harg5 arg6 harg6 hc0 x0 x1 x2 xs0 = xs0 := rfl

/-- At a later point the normed rows' product by the weight. -/
theorem product_later (hc0 : ¬cond0_0 i) : out0_B_4 c i arg1 harg1 arg2 harg2 arg3 harg3 arg4 harg4 arg5 harg5 arg6 harg6 hc0 x0 x1 x2 xs0 = k0_pay6 x0 x1 xs0 := by
  unfold out0_B_4
  rw [View.read_writes_eq_canon _ _ _ (cover0_B_4 c i arg1 harg1 arg2 harg2 arg3 harg3 arg4 harg4 arg5 harg5 arg6 harg6 hc0 x0 x1 x2 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, View.ld_unit_zero (S := S512x1024) hz, View.ld_unit_zero (S := S1x1024) hz, View.ld_unit_zero (S := S1024x1792) hz]

end Points

variable (m : (ℓ : Loc nD τ sig) → Buf (Elt Ideal) ℓ)

/-- The input. -/
abbrev a0 (c : Dev nD) : FVec Ideal S8192x1024 .f32 := m ((c : Thread nD τ).loc main_arg0)
/-- The norm's gains. -/
abbrev a1 (c : Dev nD) : FVec Ideal S1024 .f32 := m ((c : Thread nD τ).loc main_arg1)
/-- The weights, in four planes of columns. -/
abbrev a2 (c : Dev nD) : FVec Ideal S1x4x1024x448 .bf16 := m ((c : Thread nD τ).loc main_arg2)

theorem N16 : cfg0.N = 16 := by decide +kernel
theorem lt16 (t : Fin cfg0.N) : t.val < 16 := lt_of_lt_of_eq t.isLt N16

theorem index0 : ∀ t : Fin cfg0.N, win0_0.index t 0 = t.val ∧ win0_0.index t 1 = 0 :=
  (by decide +kernel : ∀ t : Fin grid0.N, win0_0.index t 0 = t.val ∧ win0_0.index t 1 = 0)

/-- A point reads 512 rows of the input. -/
theorem blk0 (c : Dev nD) (t : Fin cfg0.N) (r : Fin 512) (d : Fin 1024) :
    (iblk m c 0 t : FVec Ideal S512x1024 .f32) (ix2 r d) = (a0 m c (ix2 ⟨t.val * 512 + r.val, by have := lt16 t; omega⟩ d) : EReal) := by
  unfold iblk
  rw [View.read_apply]
  show V m c main_arg0 _ = _
  rw [V_main_arg0]
  congr 1
  funext a
  apply Fin.ext
  match a with
  | ⟨0, _⟩ => show win0_0.index t 0 * 512 + 1 * r.val = t.val * 512 + r.val; rw [(index0 t).1]; omega
  | ⟨1, _⟩ => show win0_0.index t 1 * 1024 + 1 * d.val = d.val; rw [(index0 t).2]; omega

theorem index1 : ∀ (t : Fin cfg0.N) (a : Fin 2), win0_1.index t a = 0 :=
  (by decide +kernel : ∀ (t : Fin grid0.N) (a : Fin 2), win0_1.index t a = 0)

/-- The gains, as a row. -/
theorem V0 (c : Dev nD) : (V m c main_v0 : FVec Ideal S1x1024 .f32) = shapeCast S1x1024 (a1 m c) shapeCasts_S1024_S1x1024 := rfl

/-- Every point reads all gains. -/
theorem blk1 (c : Dev nD) (t : Fin cfg0.N) (d : Fin 1024) :
    (iblk m c 1 t : FVec Ideal S1x1024 .f32) (ix2 0 d) = (a1 m c (ix1 d) : EReal) := by
  have e : (iblk m c 1 t : FVec Ideal S1x1024 .f32) = V m c main_v0 := by
    funext j
    unfold iblk
    rw [View.read_apply]
    show V m c main_v0 _ = _
    congr 1
    funext a
    apply Fin.ext
    match a with
    | ⟨0, _⟩ => show win0_1.index t 0 * 1 + 1 * (j 0).val = (j 0).val; rw [index1 t 0]; omega
    | ⟨1, _⟩ => show win0_1.index t 1 * 1024 + 1 * (j 1).val = (j 1).val; rw [index1 t 1]; omega
  rw [e, V0]
  pointwise []

theorem index2 : ∀ (t : Fin cfg0.N) (a : Fin 4), win0_2.index t a = 0 :=
  (by decide +kernel : ∀ (t : Fin grid0.N) (a : Fin 4), win0_2.index t a = 0)

/-- Every point reads all planes of the weights. -/
theorem blk2 (c : Dev nD) (t : Fin cfg0.N) : (iblk m c 2 t : FVec Ideal S1x4x1024x448 .bf16) = a2 m c := by
  funext i
  unfold iblk
  rw [View.read_apply]
  show V m c main_arg2 _ = _
  rw [V_main_arg2]
  congr 1
  funext a
  apply Fin.ext
  match a with
  | ⟨0, _⟩ => show win0_2.index t 0 * 1 + 1 * (i 0).val = (i 0).val; rw [index2 t 0]; omega
  | ⟨1, _⟩ => show win0_2.index t 1 * 4 + 1 * (i 1).val = (i 1).val; rw [index2 t 1]; omega
  | ⟨2, _⟩ => show win0_2.index t 2 * 1024 + 1 * (i 2).val = (i 2).val; rw [index2 t 2]; omega
  | ⟨3, _⟩ => show win0_2.index t 3 * 448 + 1 * (i 3).val = (i 3).val; rw [index2 t 3]; omega

/-- Plane 0 of the weights among the reference's columns. -/
theorem weights0 (x : FVec Ideal S1x4x1024x448 .bf16) (d : Fin 1024) (q : Fin 448) (k : Fin 1792) (hk : 0 + q.val = k.val) :
    (val_main_v24 (F := Ideal) x (ix2 d k) : EReal) = x (ix4 0 0 d q) := by
  unfold val_main_v24
  refine (cols_apply _ _ 0 (by simp) (val_main_v17 (F := Ideal) x) rfl 0 (by simp) d q k hk).trans ?_
  pointwise [val_main_v17, val_main_v16, val_main_v15, val_main_v14]

/-- Plane 1 of the weights among the reference's columns. -/
theorem weights1 (x : FVec Ideal S1x4x1024x448 .bf16) (d : Fin 1024) (q : Fin 448) (k : Fin 1792) (hk : 448 + q.val = k.val) :
    (val_main_v24 (F := Ideal) x (ix2 d k) : EReal) = x (ix4 0 1 d q) := by
  unfold val_main_v24
  refine (cols_apply _ _ 1 (by simp) (val_main_v19 (F := Ideal) x) rfl 448 (by simp) d q k hk).trans ?_
  pointwise [val_main_v19, val_main_v18, val_main_v15, val_main_v14]

/-- Plane 2 of the weights among the reference's columns. -/
theorem weights2 (x : FVec Ideal S1x4x1024x448 .bf16) (d : Fin 1024) (q : Fin 448) (k : Fin 1792) (hk : 896 + q.val = k.val) :
    (val_main_v24 (F := Ideal) x (ix2 d k) : EReal) = x (ix4 0 2 d q) := by
  unfold val_main_v24
  refine (cols_apply _ _ 2 (by simp) (val_main_v21 (F := Ideal) x) rfl 896 (by simp) d q k hk).trans ?_
  pointwise [val_main_v21, val_main_v20, val_main_v15, val_main_v14]

/-- Plane 3 of the weights among the reference's columns. -/
theorem weights3 (x : FVec Ideal S1x4x1024x448 .bf16) (d : Fin 1024) (q : Fin 448) (k : Fin 1792) (hk : 1344 + q.val = k.val) :
    (val_main_v24 (F := Ideal) x (ix2 d k) : EReal) = x (ix4 0 3 d q) := by
  unfold val_main_v24
  refine (cols_apply _ _ 3 (by simp) (val_main_v23 (F := Ideal) x) rfl 1344 (by simp) d q k hk).trans ?_
  pointwise [val_main_v23, val_main_v22, val_main_v15, val_main_v14]

/-- The planes side by side are the reference's weights. -/
theorem whole_ref (x : FVec Ideal S1x4x1024x448 .bf16) (d : Fin 1024) (k : Fin 1792) :
    (whole x (ix2 d k) : EReal) = val_main_v24 (F := Ideal) x (ix2 d k) := by
  obtain ⟨j, q, hk⟩ : ∃ (j : Fin 4) (q : Fin 448), j.val * 448 + q.val = k.val :=
    ⟨⟨k.val / 448, by omega⟩, ⟨k.val % 448, Nat.mod_lt _ (by omega)⟩, by dsimp only; omega⟩
  rw [whole_plane x j d q k hk]
  fin_cases j
  · exact (weights0 x d q k (by simpa using hk)).symm
  · exact (weights1 x d q k (by simpa using hk)).symm
  · exact (weights2 x d q k (by simpa using hk)).symm
  · exact (weights3 x d q k (by simpa using hk)).symm

/-- After every point the stored weight is the whole weight. -/
theorem stored (c : Dev nD) : ∀ (n : ℕ) (h : n < cfg0.N), ((outsAt0 m c n h).2.2 : FVec Ideal S1024x1792 .bf16) = whole (a2 m c) := by
  intro n
  induction n with
  | zero =>
    intro h
    rw [outsAt0_A m c ⟨0, h⟩ rfl]
    dsimp only
    rw [weights_first, blk2]
  | succ n ih =>
    intro h
    rw [outsAt0_B m c ⟨n + 1, h⟩ (by have := lt16 ⟨n + 1, h⟩; dsimp only at this ⊢; omega)]
    dsimp only
    rw [weights_later]
    simp only [Nat.add_one_sub_one]
    exact ih _

/-- What a point leaves in the normed rows' block. -/
theorem rows (c : Dev nD) (t : Fin cfg0.N) : (outsAt0 m c t.val t.isLt).1 = k0_pay5 (iblk m c 0 t) (iblk m c 1 t) := by
  by_cases h : t.val % 16 = 0
  · rw [outsAt0_A m c t h, rows_first]
  · rw [outsAt0_B m c t h, rows_later]

/-- What a point leaves in the product's block. -/
theorem product (c : Dev nD) (t : Fin cfg0.N) :
    (outsAt0 m c t.val t.isLt).2.1 = k0_pay6 (iblk m c 0 t) (iblk m c 1 t) (whole (a2 m c)) := by
  by_cases h : t.val % 16 = 0
  · rw [outsAt0_A m c t h, product_first, blk2]
  · rw [outsAt0_B m c t h, product_later, stored]

/-- A point's normed rows are the reference's. -/
theorem rows_ref (c : Dev nD) (t : Fin cfg0.N) (r : Fin 512) (k : Fin 1024) :
    (k0_pay5 (F := Ideal) (iblk m c 0 t) (iblk m c 1 t) (ix2 r k) : EReal)
      = val_main_v13 (F := Ideal) (a0 m c) (a1 m c) (ix2 ⟨t.val * 512 + r.val, by have := lt16 t; omega⟩ k) := by
  pointwise [k0_pay5, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  simp only [blk0, blk1]

/-- A point's product is the rows of the reference's. -/
theorem product_ref (c : Dev nD) (t : Fin cfg0.N) (r : Fin 512) (k : Fin 1792) :
    (k0_pay6 (F := Ideal) (iblk m c 0 t) (iblk m c 1 t) (whole (a2 m c)) (ix2 r k) : EReal)
      = val_main_v26 (F := Ideal) (a0 m c) (a1 m c) (a2 m c) (ix2 ⟨t.val * 512 + r.val, by have := lt16 t; omega⟩ k) := by
  have e : ∀ d, (k0_pay5 (F := Ideal) (iblk m c 0 t) (iblk m c 1 t) (ix2 r d) : EReal)
      = val_main_v12 (F := Ideal) (a0 m c) (a1 m c) (ix2 ⟨t.val * 512 + r.val, by have := lt16 t; omega⟩ d) :=
    fun d => (rows_ref m c t r d).trans (by pointwise [val_main_v13])
  pointwise [k0_pay6, val_main_v26, val_main_v25]
  simp only [e, whole_ref]

theorem index3 : ∀ t : Fin cfg0.N, win0_3.index t 0 = t.val ∧ win0_3.index t 1 = 0 :=
  (by decide +kernel : ∀ t : Fin grid0.N, win0_3.index t 0 = t.val ∧ win0_3.index t 1 = 0)

/-- The normed rows at the end. -/
theorem arr3 (c : Dev nD) : (dats m 0 c).arrAt 3 cfg0.N = val_main_v13 (F := Ideal) (a0 m c) (a1 m c) := by
  funext i
  obtain ⟨n, r, k, hi⟩ : ∃ (n : Fin 16) (r : Fin 512) (k : Fin 1024), i = ix2 ⟨n.val * 512 + r.val, by omega⟩ k := by
    refine ⟨⟨(i 0).val / 512, by have : (i 0).val < 8192 := (i 0).isLt; omega⟩, ⟨(i 0).val % 512, by omega⟩, i 1, ?_⟩
    refine (eq_ix2 i).trans (congrArg (fun x => ix2 x (i 1)) (Fin.ext ?_))
    show (i 0).val = (i 0).val / 512 * 512 + (i 0).val % 512
    omega
  subst hi
  have h := congrFun (Value.blocks3 m c ⟨n, by rw [N16]; omega⟩ (flush0_3 _)) (ix2 r k)
  rw [View.read_apply, Value.flushed3] at h
  refine Eq.trans ?_ (h.trans ((congrFun (rows m c ⟨n, by rw [N16]; omega⟩) (ix2 r k)).trans (rows_ref m c ⟨n, by rw [N16]; omega⟩ r k)))
  show _ = ((dats m 0 c).arrAt 3 cfg0.N : FVec Ideal S8192x1024 .bf16) _
  congr 1
  funext a
  apply Fin.ext
  have hi := index3 ⟨n, by rw [N16]; omega⟩
  match a with
  | ⟨0, _⟩ => show n.val * 512 + r.val = win0_3.index _ 0 * 512 + 1 * r.val; rw [hi.1]; dsimp only; omega
  | ⟨1, _⟩ => show k.val = win0_3.index _ 1 * 1024 + 1 * k.val; rw [hi.2]; omega

theorem index4 : ∀ t : Fin cfg0.N, win0_4.index t 0 = t.val ∧ win0_4.index t 1 = 0 :=
  (by decide +kernel : ∀ t : Fin grid0.N, win0_4.index t 0 = t.val ∧ win0_4.index t 1 = 0)

/-- The product at the end. -/
theorem arr4 (c : Dev nD) : (dats m 0 c).arrAt 4 cfg0.N = val_main_v26 (F := Ideal) (a0 m c) (a1 m c) (a2 m c) := by
  funext i
  obtain ⟨n, r, k, hi⟩ : ∃ (n : Fin 16) (r : Fin 512) (k : Fin 1792), i = ix2 ⟨n.val * 512 + r.val, by omega⟩ k := by
    refine ⟨⟨(i 0).val / 512, by have : (i 0).val < 8192 := (i 0).isLt; omega⟩, ⟨(i 0).val % 512, by omega⟩, i 1, ?_⟩
    refine (eq_ix2 i).trans (congrArg (fun x => ix2 x (i 1)) (Fin.ext ?_))
    show (i 0).val = (i 0).val / 512 * 512 + (i 0).val % 512
    omega
  subst hi
  have h := congrFun (Value.blocks4 m c ⟨n, by rw [N16]; omega⟩ (flush0_4 _)) (ix2 r k)
  rw [View.read_apply, Value.flushed4] at h
  refine Eq.trans ?_ (h.trans ((congrFun (product m c ⟨n, by rw [N16]; omega⟩) (ix2 r k)).trans (product_ref m c ⟨n, by rw [N16]; omega⟩ r k)))
  show _ = ((dats m 0 c).arrAt 4 cfg0.N : FVec Ideal S8192x1792 .bf16) _
  congr 1
  funext a
  apply Fin.ext
  have hi := index4 ⟨n, by rw [N16]; omega⟩
  match a with
  | ⟨0, _⟩ => show n.val * 512 + r.val = win0_4.index _ 0 * 512 + 1 * r.val; rw [hi.1]; dsimp only; omega
  | ⟨1, _⟩ => show k.val = win0_4.index _ 1 * 1792 + 1 * k.val; rw [hi.2]; omega

end Cert.Kernel15Ideal.Blocks

end
-- ==== Proof.InA.lean ====
/- Mixer A's norm and projection: what each grid point leaves, and the results at the end. -/
module

public import proofs.«01_k».proof.Proof.Sums
public import Idealize.ShloMosaic.Lib.Pipeline.ReadBack
public import Idealize.ShloMosaic.Lib.Pipeline.ValueKit.Tiles
public import proofs.«01_k».proof.Proof.Gen.Kernel16Ideal.Value
public import proofs.«01_k».proof.Proof.Gen.Reference16Ideal.Read

@[expose] public section

noncomputable section

namespace Cert.Kernel16Ideal.Blocks

open Idealize.ShloMosaic Idealize.ShloMosaic.TcCoe Idealize.ShloMosaic.Tactic Idealize.SL.Sem Cert.Kernel16Ideal Cert.Kernel16Ideal.Gen
open Cert.Reference16Ideal.Read Cert.Sums

theorem hz : (![0, 0] : Fin 2 → Nat) = fun _ => 0 := funext fun a => by fin_cases a <;> rfl

/-- The weights' four planes, side by side. -/
def whole (x : FVec Ideal S1x4x1024x320 .bf16) : FVec Ideal S1024x1280 .bf16 := fun y =>
  x (ix4 0 ⟨(y 1).val / 320, by have : (y 1).val < 1280 := (y 1).isLt; omega⟩ (y 0) ⟨(y 1).val % 320, Nat.mod_lt _ (by omega)⟩)

/-- A plane among the columns. -/
theorem whole_plane (x : FVec Ideal S1x4x1024x320 .bf16) (j : Fin 4) (d : Fin 1024) (q : Fin 320) (k : Fin 1280) (hk : j.val * 320 + q.val = k.val) :
    (whole x (ix2 d k) : EReal) = x (ix4 0 j d q) := by
  show (x (ix4 0 _ d _) : EReal) = _
  refine congrArg₂ (fun a b => (x (ix4 0 a d b) : EReal)) (Fin.ext ?_) (Fin.ext ?_)
  · show k.val / 320 = j.val
    rw [← hk, Nat.mul_comm, Nat.mul_add_div (by omega), Nat.div_eq_of_lt q.isLt, Nat.add_zero]
  · show k.val % 320 = q.val
    rw [← hk, Nat.mul_comm, Nat.mul_add_mod, Nat.mod_eq_of_lt q.isLt]

/-- Four stores, each of a plane at its columns, leave the whole weight. -/
theorem planes (x : FVec Ideal S1x4x1024x320 .bf16) (v0 v1 v2 v3 : FVec Ideal S1024x320 .bf16)
    (h0 : ∀ d q, (v0 (ix2 d q) : EReal) = x (ix4 0 0 d q)) (h1 : ∀ d q, (v1 (ix2 d q) : EReal) = x (ix4 0 1 d q))
    (h2 : ∀ d q, (v2 (ix2 d q) : EReal) = x (ix4 0 2 d q)) (h3 : ∀ d q, (v3 (ix2 d q) : EReal) = x (ix4 0 3 d q)) :
    View.canon (Val := Elt Ideal) (s := S1024x1280) (e := .bf16)
      [⟨Rect.unit (s := S1024x1280) ![0, 960] S1024x320.size inb_S1024x1280_S1024x320_0_960, v3⟩,
       ⟨Rect.unit (s := S1024x1280) ![0, 640] S1024x320.size inb_S1024x1280_S1024x320_0_640, v2⟩,
       ⟨Rect.unit (s := S1024x1280) ![0, 320] S1024x320.size inb_S1024x1280_S1024x320_0_320, v1⟩,
       ⟨Rect.unit (s := S1024x1280) ![0, 0] S1024x320.size inb_S1024x1280_S1024x320_0_0, v0⟩] = whole x := by
  funext y
  refine View.canon_apply_of_pieces (Val := Elt Ideal) (e := .bf16) (whole x) _ ?_ y ?_
  swap
  · exact View.cover_of_tiledL (s := S1024x1280) _ S1024x320.size (by sl_kernel_rfl) y
  intro p hp z
  simp only [List.mem_cons, List.not_mem_nil, or_false] at hp
  rcases hp with rfl | rfl | rfl | rfl
  · obtain ⟨d, q, rfl⟩ : ∃ (d : Fin 1024) (q : Fin 320), z = ix2 d q := ⟨z 0, z 1, eq_ix2 z⟩
    refine (h3 d q).trans ((whole_plane x 3 d q ⟨960 + q.val, by omega⟩ (by rfl)).symm.trans (congrArg (whole x) ?_))
    funext a
    apply Fin.ext
    match a with
    | ⟨0, _⟩ => show d.val = 0 + 1 * d.val; omega
    | ⟨1, _⟩ => show 960 + q.val = 960 + 1 * q.val; omega
  · obtain ⟨d, q, rfl⟩ : ∃ (d : Fin 1024) (q : Fin 320), z = ix2 d q := ⟨z 0, z 1, eq_ix2 z⟩
    refine (h2 d q).trans ((whole_plane x 2 d q ⟨640 + q.val, by omega⟩ (by rfl)).symm.trans (congrArg (whole x) ?_))
    funext a
    apply Fin.ext
    match a with
    | ⟨0, _⟩ => show d.val = 0 + 1 * d.val; omega
    | ⟨1, _⟩ => show 640 + q.val = 640 + 1 * q.val; omega
  · obtain ⟨d, q, rfl⟩ : ∃ (d : Fin 1024) (q : Fin 320), z = ix2 d q := ⟨z 0, z 1, eq_ix2 z⟩
    refine (h1 d q).trans ((whole_plane x 1 d q ⟨320 + q.val, by omega⟩ (by simp)).symm.trans (congrArg (whole x) ?_))
    funext a
    apply Fin.ext
    match a with
    | ⟨0, _⟩ => show d.val = 0 + 1 * d.val; omega
    | ⟨1, _⟩ => show 320 + q.val = 320 + 1 * q.val; omega
  · obtain ⟨d, q, rfl⟩ : ∃ (d : Fin 1024) (q : Fin 320), z = ix2 d q := ⟨z 0, z 1, eq_ix2 z⟩
    refine (h0 d q).trans ((whole_plane x 0 d q ⟨0 + q.val, by omega⟩ (by simp)).symm.trans (congrArg (whole x) ?_))
    funext a
    apply Fin.ext
    match a with
    | ⟨0, _⟩ => show d.val = 0 + 1 * d.val; omega
    | ⟨1, _⟩ => show 0 + q.val = 0 + 1 * q.val; omega

section Points

variable (c : Dev nD) (i : grid0.Coords)
  (arg1 : Memref sig .tc .vmem S512x1024 .f32) (harg1 : arg1.IsWhole) (arg2 : Memref sig .tc .vmem S1x1024 .f32) (harg2 : arg2.IsWhole)
  (arg3 : Memref sig .tc .vmem S1x4x1024x320 .bf16) (harg3 : arg3.IsWhole) (arg4 : Memref sig .tc .vmem S512x1024 .bf16) (harg4 : arg4.IsWhole)
  (arg5 : Memref sig .tc .vmem S512x1280 .bf16) (harg5 : arg5.IsWhole) (arg6 : Memref sig .tc .vmem S1024x1280 .bf16) (harg6 : arg6.IsWhole)
  (x0 : Vec Ideal S512x1024 .f32) (x1 : Vec Ideal S1x1024 .f32) (x2 : Vec Ideal S1x4x1024x320 .bf16) (xs0 : Vec Ideal S1024x1280 .bf16)

/-- At the first point the normed rows. -/
theorem rows_first (hc0 : cond0_0 i) : out0_A_3 c i arg1 harg1 arg2 harg2 arg3 harg3 arg4 harg4 arg5 harg5 arg6 harg6 hc0 x0 x1 x2 = k0_pay5 x0 x1 := by
  unfold out0_A_3
  rw [View.read_writes_eq_canon _ _ _ (cover0_A_3 c i arg1 harg1 arg2 harg2 arg3 harg3 arg4 harg4 arg5 harg5 arg6 harg6 hc0 x0 x1 x2)]
  unfold kernelRun0_A
  dsimp only
  sl_unfold_words
  rw [View.canon_unit_zero hz]
  simp only [View.readAt_eq_ld, harg1.read_unread, harg2.read_unread, harg3.read_unread, harg4.read_unread, harg5.read_unread, harg6.read_unread, View.ld_unit_zero (S := S512x1024) hz, View.ld_unit_zero (S := S1x1024) hz]

/-- At the first point the whole weight is stored for the later points. -/
theorem weights_first (hc0 : cond0_0 i) : sout0_A_0 c i arg1 harg1 arg2 harg2 arg3 harg3 arg4 harg4 arg5 harg5 arg6 harg6 hc0 x0 x1 x2 = whole x2 := by
  unfold sout0_A_0
  rw [View.read_writes_eq_canon _ _ _ (scover0_A_0 c i arg1 harg1 arg2 harg2 arg3 harg3 arg4 harg4 arg5 harg5 arg6 harg6 hc0 x0 x1 x2)]
  unfold kernelRun0_A
  dsimp only
  sl_unfold_words
  simp only [View.readAt_eq_ld, harg1.read_unread, harg2.read_unread, harg3.read_unread, harg4.read_unread, harg5.read_unread, harg6.read_unread]
  rw [planes x2]
  all_goals
    intro d q
    pointwise [k0_pay1, k0_pay2, k0_pay3, k0_pay4]

/-- At the first point the normed rows' product by the weight. -/
theorem product_first (hc0 : cond0_0 i) : out0_A_4 c i arg1 harg1 arg2 harg2 arg3 harg3 arg4 harg4 arg5 harg5 arg6 harg6 hc0 x0 x1 x2 = k0_pay6 x0 x1 (whole x2) := by
  unfold out0_A_4
  rw [View.read_writes_eq_canon _ _ _ (cover0_A_4 c i arg1 harg1 arg2 harg2 arg3 harg3 arg4 harg4 arg5 harg5 arg6 harg6 hc0 x0 x1 x2)]
  unfold kernelRun0_A
  dsimp only
  sl_unfold_words
  rw [View.canon_unit_zero hz]
  simp only [View.readAt_eq_ld, View.readCov_eq_canon', harg1.read_unread, harg2.read_unread, harg3.read_unread, harg4.read_unread, harg5.read_unread, harg6.read_unread, View.ld_unit_zero (S := S512x1024) hz, View.ld_unit_zero (S := S1x1024) hz]
  rw [planes x2]
  · refine congrArg (k0_pay6 x0 x1) (funext fun j => congrArg (whole x2) (funext fun a => Fin.ext ?_))
    fin_cases a <;> simp [Rect.unit]
  all_goals
    intro d q
    pointwise [k0_pay1, k0_pay2, k0_pay3, k0_pay4]

/-- At a later point the normed rows. -/
theorem rows_later (hc0 : ¬cond0_0 i) : out0_B_3 c i arg1 harg1 arg2 harg2 arg3 harg3 arg4 harg4 arg5 harg5 arg6 harg6 hc0 x0 x1 x2 xs0 = k0_pay5 x0 x1 := by
  unfold out0_B_3
  rw [View.read_writes_eq_canon _ _ _ (cover0_B_3 c i arg1 harg1 arg2 harg2 arg3 harg3 arg4 harg4 arg5 harg5 arg6 harg6 hc0 x0 x1 x2 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, View.ld_unit_zero (S := S512x1024) hz, View.ld_unit_zero (S := S1x1024) hz]

/-- A later point keeps the stored weight. -/
theorem weights_later (hc0 : ¬cond0_0 i) : sout0_B_0 c i arg1 harg1 arg2 harg2 arg3 harg3 arg4 harg4 arg5 harg5 arg6 harg6 hc0 x0 x1 x2 xs0 = xs0 := rfl

/-- At a later point the normed rows' product by the weight. -/
theorem product_later (hc0 : ¬cond0_0 i) : out0_B_4 c i arg1 harg1 arg2 harg2 arg3 harg3 arg4 harg4 arg5 harg5 arg6 harg6 hc0 x0 x1 x2 xs0 = k0_pay6 x0 x1 xs0 := by
  unfold out0_B_4
  rw [View.read_writes_eq_canon _ _ _ (cover0_B_4 c i arg1 harg1 arg2 harg2 arg3 harg3 arg4 harg4 arg5 harg5 arg6 harg6 hc0 x0 x1 x2 xs0)]
  unfold kernelRun0_B
  dsimp only
  sl_unfold_words
  rw [View.canon_unit_zero hz]
  simp only [View.readAt_eq_ld, harg1.read_unread, harg2.read_unread, harg3.read_unread, harg4.read_unread, harg5.read_unread, harg6.read_unread, View.ld_unit_zero (S := S512x1024) hz, View.ld_unit_zero (S := S1x1024) hz, View.ld_unit_zero (S := S1024x1280) hz]

end Points

variable (m : (ℓ : Loc nD τ sig) → Buf (Elt Ideal) ℓ)

/-- The input. -/
abbrev a0 (c : Dev nD) : FVec Ideal S8192x1024 .f32 := m ((c : Thread nD τ).loc main_arg0)
/-- The norm's gains. -/
abbrev a1 (c : Dev nD) : FVec Ideal S1024 .f32 := m ((c : Thread nD τ).loc main_arg1)
/-- The weights, in four planes of columns. -/
abbrev a2 (c : Dev nD) : FVec Ideal S1x4x1024x320 .bf16 := m ((c : Thread nD τ).loc main_arg2)

theorem N16 : cfg0.N = 16 := by decide +kernel
theorem lt16 (t : Fin cfg0.N) : t.val < 16 := lt_of_lt_of_eq t.isLt N16

theorem index0 : ∀ t : Fin cfg0.N, win0_0.index t 0 = t.val ∧ win0_0.index t 1 = 0 :=
  (by decide +kernel : ∀ t : Fin grid0.N, win0_0.index t 0 = t.val ∧ win0_0.index t 1 = 0)

/-- A point reads 512 rows of the input. -/
theorem blk0 (c : Dev nD) (t : Fin cfg0.N) (r : Fin 512) (d : Fin 1024) :
    (iblk m c 0 t : FVec Ideal S512x1024 .f32) (ix2 r d) = (a0 m c (ix2 ⟨t.val * 512 + r.val, by have := lt16 t; omega⟩ d) : EReal) := by
  unfold iblk
  rw [View.read_apply]
  show V m c main_arg0 _ = _
  rw [V_main_arg0]
  congr 1
  funext a
  apply Fin.ext
  match a with
  | ⟨0, _⟩ => show win0_0.index t 0 * 512 + 1 * r.val = t.val * 512 + r.val; rw [(index0 t).1]; omega
  | ⟨1, _⟩ => show win0_0.index t 1 * 1024 + 1 * d.val = d.val; rw [(index0 t).2]; omega

theorem index1 : ∀ (t : Fin cfg0.N) (a : Fin 2), win0_1.index t a = 0 :=
  (by decide +kernel : ∀ (t : Fin grid0.N) (a : Fin 2), win0_1.index t a = 0)

/-- The gains, as a row. -/
theorem V0 (c : Dev nD) : (V m c main_v0 : FVec Ideal S1x1024 .f32) = shapeCast S1x1024 (a1 m c) shapeCasts_S1024_S1x1024 := rfl

/-- Every point reads all gains. -/
theorem blk1 (c : Dev nD) (t : Fin cfg0.N) (d : Fin 1024) :
    (iblk m c 1 t : FVec Ideal S1x1024 .f32) (ix2 0 d) = (a1 m c (ix1 d) : EReal) := by
  have e : (iblk m c 1 t : FVec Ideal S1x1024 .f32) = V m c main_v0 := by
    funext j
    unfold iblk
    rw [View.read_apply]
    show V m c main_v0 _ = _
    congr 1
    funext a
    apply Fin.ext
    match a with
    | ⟨0, _⟩ => show win0_1.index t 0 * 1 + 1 * (j 0).val = (j 0).val; rw [index1 t 0]; omega
    | ⟨1, _⟩ => show win0_1.index t 1 * 1024 + 1 * (j 1).val = (j 1).val; rw [index1 t 1]; omega
  rw [e, V0]
  pointwise []

theorem index2 : ∀ (t : Fin cfg0.N) (a : Fin 4), win0_2.index t a = 0 :=
  (by decide +kernel : ∀ (t : Fin grid0.N) (a : Fin 4), win0_2.index t a = 0)

/-- Every point reads all planes of the weights. -/
theorem blk2 (c : Dev nD) (t : Fin cfg0.N) : (iblk m c 2 t : FVec Ideal S1x4x1024x320 .bf16) = a2 m c := by
  funext i
  unfold iblk
  rw [View.read_apply]
  show V m c main_arg2 _ = _
  rw [V_main_arg2]
  congr 1
  funext a
  apply Fin.ext
  match a with
  | ⟨0, _⟩ => show win0_2.index t 0 * 1 + 1 * (i 0).val = (i 0).val; rw [index2 t 0]; omega
  | ⟨1, _⟩ => show win0_2.index t 1 * 4 + 1 * (i 1).val = (i 1).val; rw [index2 t 1]; omega
  | ⟨2, _⟩ => show win0_2.index t 2 * 1024 + 1 * (i 2).val = (i 2).val; rw [index2 t 2]; omega
  | ⟨3, _⟩ => show win0_2.index t 3 * 320 + 1 * (i 3).val = (i 3).val; rw [index2 t 3]; omega

/-- Plane 0 of the weights among the reference's columns. -/
theorem weights0 (x : FVec Ideal S1x4x1024x320 .bf16) (d : Fin 1024) (q : Fin 320) (k : Fin 1280) (hk : 0 + q.val = k.val) :
    (val_main_v24 (F := Ideal) x (ix2 d k) : EReal) = x (ix4 0 0 d q) := by
  unfold val_main_v24
  refine (cols_apply _ _ 0 (by simp) (val_main_v17 (F := Ideal) x) rfl 0 (by simp) d q k hk).trans ?_
  pointwise [val_main_v17, val_main_v16, val_main_v15, val_main_v14]

/-- Plane 1 of the weights among the reference's columns. -/
theorem weights1 (x : FVec Ideal S1x4x1024x320 .bf16) (d : Fin 1024) (q : Fin 320) (k : Fin 1280) (hk : 320 + q.val = k.val) :
    (val_main_v24 (F := Ideal) x (ix2 d k) : EReal) = x (ix4 0 1 d q) := by
  unfold val_main_v24
  refine (cols_apply _ _ 1 (by simp) (val_main_v19 (F := Ideal) x) rfl 320 (by simp) d q k hk).trans ?_
  pointwise [val_main_v19, val_main_v18, val_main_v15, val_main_v14]

/-- Plane 2 of the weights among the reference's columns. -/
theorem weights2 (x : FVec Ideal S1x4x1024x320 .bf16) (d : Fin 1024) (q : Fin 320) (k : Fin 1280) (hk : 640 + q.val = k.val) :
    (val_main_v24 (F := Ideal) x (ix2 d k) : EReal) = x (ix4 0 2 d q) := by
  unfold val_main_v24
  refine (cols_apply _ _ 2 (by simp) (val_main_v21 (F := Ideal) x) rfl 640 (by simp) d q k hk).trans ?_
  pointwise [val_main_v21, val_main_v20, val_main_v15, val_main_v14]

/-- Plane 3 of the weights among the reference's columns. -/
theorem weights3 (x : FVec Ideal S1x4x1024x320 .bf16) (d : Fin 1024) (q : Fin 320) (k : Fin 1280) (hk : 960 + q.val = k.val) :
    (val_main_v24 (F := Ideal) x (ix2 d k) : EReal) = x (ix4 0 3 d q) := by
  unfold val_main_v24
  refine (cols_apply _ _ 3 (by simp) (val_main_v23 (F := Ideal) x) rfl 960 (by simp) d q k hk).trans ?_
  pointwise [val_main_v23, val_main_v22, val_main_v15, val_main_v14]

/-- The planes side by side are the reference's weights. -/
theorem whole_ref (x : FVec Ideal S1x4x1024x320 .bf16) (d : Fin 1024) (k : Fin 1280) :
    (whole x (ix2 d k) : EReal) = val_main_v24 (F := Ideal) x (ix2 d k) := by
  obtain ⟨j, q, hk⟩ : ∃ (j : Fin 4) (q : Fin 320), j.val * 320 + q.val = k.val :=
    ⟨⟨k.val / 320, by omega⟩, ⟨k.val % 320, Nat.mod_lt _ (by omega)⟩, by dsimp only; omega⟩
  rw [whole_plane x j d q k hk]
  fin_cases j
  · exact (weights0 x d q k (by simpa using hk)).symm
  · exact (weights1 x d q k (by simpa using hk)).symm
  · exact (weights2 x d q k (by simpa using hk)).symm
  · exact (weights3 x d q k (by simpa using hk)).symm

/-- After every point the stored weight is the whole weight. -/
theorem stored (c : Dev nD) : ∀ (n : ℕ) (h : n < cfg0.N), ((outsAt0 m c n h).2.2 : FVec Ideal S1024x1280 .bf16) = whole (a2 m c) := by
  intro n
  induction n with
  | zero =>
    intro h
    rw [outsAt0_A m c ⟨0, h⟩ rfl]
    dsimp only
    rw [weights_first, blk2]
  | succ n ih =>
    intro h
    rw [outsAt0_B m c ⟨n + 1, h⟩ (by have := lt16 ⟨n + 1, h⟩; dsimp only at this ⊢; omega)]
    dsimp only
    rw [weights_later]
    simp only [Nat.add_one_sub_one]
    exact ih _

/-- What a point leaves in the normed rows' block. -/
theorem rows (c : Dev nD) (t : Fin cfg0.N) : (outsAt0 m c t.val t.isLt).1 = k0_pay5 (iblk m c 0 t) (iblk m c 1 t) := by
  by_cases h : t.val % 16 = 0
  · rw [outsAt0_A m c t h, rows_first]
  · rw [outsAt0_B m c t h, rows_later]

/-- What a point leaves in the product's block. -/
theorem product (c : Dev nD) (t : Fin cfg0.N) :
    (outsAt0 m c t.val t.isLt).2.1 = k0_pay6 (iblk m c 0 t) (iblk m c 1 t) (whole (a2 m c)) := by
  by_cases h : t.val % 16 = 0
  · rw [outsAt0_A m c t h, product_first, blk2]
  · rw [outsAt0_B m c t h, product_later, stored]

/-- A point's normed rows are the reference's. -/
theorem rows_ref (c : Dev nD) (t : Fin cfg0.N) (r : Fin 512) (k : Fin 1024) :
    (k0_pay5 (F := Ideal) (iblk m c 0 t) (iblk m c 1 t) (ix2 r k) : EReal)
      = val_main_v13 (F := Ideal) (a0 m c) (a1 m c) (ix2 ⟨t.val * 512 + r.val, by have := lt16 t; omega⟩ k) := by
  pointwise [k0_pay5, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]
  simp only [blk0, blk1]

/-- A point's product is the rows of the reference's. -/
theorem product_ref (c : Dev nD) (t : Fin cfg0.N) (r : Fin 512) (k : Fin 1280) :
    (k0_pay6 (F := Ideal) (iblk m c 0 t) (iblk m c 1 t) (whole (a2 m c)) (ix2 r k) : EReal)
      = val_main_v26 (F := Ideal) (a0 m c) (a1 m c) (a2 m c) (ix2 ⟨t.val * 512 + r.val, by have := lt16 t; omega⟩ k) := by
  have e : ∀ d, (k0_pay5 (F := Ideal) (iblk m c 0 t) (iblk m c 1 t) (ix2 r d) : EReal)
      = val_main_v12 (F := Ideal) (a0 m c) (a1 m c) (ix2 ⟨t.val * 512 + r.val, by have := lt16 t; omega⟩ d) :=
    fun d => (rows_ref m c t r d).trans (by pointwise [val_main_v13])
  pointwise [k0_pay6, val_main_v26, val_main_v25]
  simp only [e, whole_ref]

theorem index3 : ∀ t : Fin cfg0.N, win0_3.index t 0 = t.val ∧ win0_3.index t 1 = 0 :=
  (by decide +kernel : ∀ t : Fin grid0.N, win0_3.index t 0 = t.val ∧ win0_3.index t 1 = 0)

/-- The normed rows at the end. -/
theorem arr3 (c : Dev nD) : (dats m 0 c).arrAt 3 cfg0.N = val_main_v13 (F := Ideal) (a0 m c) (a1 m c) := by
  funext i
  obtain ⟨n, r, k, hi⟩ : ∃ (n : Fin 16) (r : Fin 512) (k : Fin 1024), i = ix2 ⟨n.val * 512 + r.val, by omega⟩ k := by
    refine ⟨⟨(i 0).val / 512, by have : (i 0).val < 8192 := (i 0).isLt; omega⟩, ⟨(i 0).val % 512, by omega⟩, i 1, ?_⟩
    refine (eq_ix2 i).trans (congrArg (fun x => ix2 x (i 1)) (Fin.ext ?_))
    show (i 0).val = (i 0).val / 512 * 512 + (i 0).val % 512
    omega
  subst hi
  have h := congrFun (Value.blocks3 m c ⟨n, by rw [N16]; omega⟩ (flush0_3 _)) (ix2 r k)
  rw [View.read_apply, Value.flushed3] at h
  refine Eq.trans ?_ (h.trans ((congrFun (rows m c ⟨n, by rw [N16]; omega⟩) (ix2 r k)).trans (rows_ref m c ⟨n, by rw [N16]; omega⟩ r k)))
  show _ = ((dats m 0 c).arrAt 3 cfg0.N : FVec Ideal S8192x1024 .bf16) _
  congr 1
  funext a
  apply Fin.ext
  have hi := index3 ⟨n, by rw [N16]; omega⟩
  match a with
  | ⟨0, _⟩ => show n.val * 512 + r.val = win0_3.index _ 0 * 512 + 1 * r.val; rw [hi.1]; dsimp only; omega
  | ⟨1, _⟩ => show k.val = win0_3.index _ 1 * 1024 + 1 * k.val; rw [hi.2]; omega

theorem index4 : ∀ t : Fin cfg0.N, win0_4.index t 0 = t.val ∧ win0_4.index t 1 = 0 :=
  (by decide +kernel : ∀ t : Fin grid0.N, win0_4.index t 0 = t.val ∧ win0_4.index t 1 = 0)

/-- The product at the end. -/
theorem arr4 (c : Dev nD) : (dats m 0 c).arrAt 4 cfg0.N = val_main_v26 (F := Ideal) (a0 m c) (a1 m c) (a2 m c) := by
  funext i
  obtain ⟨n, r, k, hi⟩ : ∃ (n : Fin 16) (r : Fin 512) (k : Fin 1280), i = ix2 ⟨n.val * 512 + r.val, by omega⟩ k := by
    refine ⟨⟨(i 0).val / 512, by have : (i 0).val < 8192 := (i 0).isLt; omega⟩, ⟨(i 0).val % 512, by omega⟩, i 1, ?_⟩
    refine (eq_ix2 i).trans (congrArg (fun x => ix2 x (i 1)) (Fin.ext ?_))
    show (i 0).val = (i 0).val / 512 * 512 + (i 0).val % 512
    omega
  subst hi
  have h := congrFun (Value.blocks4 m c ⟨n, by rw [N16]; omega⟩ (flush0_4 _)) (ix2 r k)
  rw [View.read_apply, Value.flushed4] at h
  refine Eq.trans ?_ (h.trans ((congrFun (product m c ⟨n, by rw [N16]; omega⟩) (ix2 r k)).trans (product_ref m c ⟨n, by rw [N16]; omega⟩ r k)))
  show _ = ((dats m 0 c).arrAt 4 cfg0.N : FVec Ideal S8192x1280 .bf16) _
  congr 1
  funext a
  apply Fin.ext
  have hi := index4 ⟨n, by rw [N16]; omega⟩
  match a with
  | ⟨0, _⟩ => show n.val * 512 + r.val = win0_4.index _ 0 * 512 + 1 * r.val; rw [hi.1]; dsimp only; omega
  | ⟨1, _⟩ => show k.val = win0_4.index _ 1 * 1280 + 1 * k.val; rw [hi.2]; omega

end Cert.Kernel16Ideal.Blocks

end
-- ==== Proof.MixB.lean ====
/- The mixer's forward call: what its grid points leave in the result, and why that is the reference's mixer of the same
   arguments. A point computes of its six groups and its two pairs of memory heads what the backward call recomputes of them
   (`Vocab.Group`, `Vocab.Pair`). -/
module

public import proofs.«01_k».proof.Proof.Equal
public import proofs.«01_k».proof.Proof.Gen.Kernel17Ideal.Value
public import proofs.«01_k».proof.Proof.Gen.Reference17Ideal.Read
public import proofs.«01_k».proof.Pre_attended_finite
public import proofs.«01_k».proof.On_gated_columns

@[expose] public section

noncomputable section

namespace Cert.KernelIdeal.Vocab

open Idealize.ShloMosaic Idealize.ShloMosaic.TcCoe Idealize.SL.Sem Cert.KernelIdeal Cert.KernelIdeal.Gen

variable {F : FTy → Type} [FloatOps F]

/-- A group's columns of the mixer: the activated half times the mixed gate. -/
def Group.out (g : Group F) : Tile F := mulf (gelu g.zu) g.sv
/-- The values averaged by the probabilities, a query a row. -/
def Pair.av (p : Pair F) : Slab F :=
  matmul dot_S256x256_S256x128_S256x128_0_0_1_1_n_n none p.prob p.vb (constant S256x128 .f32 0x00000000#32)
/-- A pair's columns of the mixer: each head's queries on its own lanes. -/
def Pair.out (p : Pair F) : Tile F :=
  select low (extractStridedSlice S128x128 ![0, 0] p.av slices_S256x128_o0_0_S128x128)
    (extractStridedSlice S128x128 ![128, 0] p.av slices_S256x128_o128_0_S128x128)

abbrev mixedCats := Cert.Kernel17Ideal.Gen.concatenates_S128x128_S128x128_S128x128_S128x128_S128x128_S128x128_S128x128_S128x128_S128x1024_d1

/-- A point's rows of the mixer. -/
def mixed (g : Fin 6 → Group F) (p : Fin 2 → Pair F) : FVec F S128x1024 .bf16 :=
  truncf .bf16 (concatenate S128x1024 1
    [⟨S128x128, (g 0).out⟩, ⟨S128x128, (g 1).out⟩, ⟨S128x128, (g 2).out⟩, ⟨S128x128, (g 3).out⟩, ⟨S128x128, (g 4).out⟩, ⟨S128x128, (g 5).out⟩,
     ⟨S128x128, (p 0).out⟩, ⟨S128x128, (p 1).out⟩] mixedCats) bitsLt_bf16_f32

set_option maxHeartbeats 2000000 in
theorem mixed_group (g : Fin 6 → Group Ideal) (p : Fin 2 → Pair Ideal) (i : Fin 6) (t c : Fin 128) :
    mixed g p (ix2 t ⟨i * 128 + c, by omega⟩) = (g i).out (ix2 t c) := by
  match i with
  | 0 => exact Blocks.concat_tiles _ (by exact mixedCats) 0 (by simp) _ rfl 0 rfl t c _ (by simp <;> omega)
  | 1 => exact Blocks.concat_tiles _ (by exact mixedCats) 1 (by simp) _ rfl 128 rfl t c _ (by simp <;> omega)
  | 2 => exact Blocks.concat_tiles _ (by exact mixedCats) 2 (by simp) _ rfl 256 rfl t c _ (by simp <;> omega)
  | 3 => exact Blocks.concat_tiles _ (by exact mixedCats) 3 (by simp) _ rfl 384 rfl t c _ (by simp <;> omega)
  | 4 => exact Blocks.concat_tiles _ (by exact mixedCats) 4 (by simp) _ rfl 512 rfl t c _ (by simp <;> omega)
  | 5 => exact Blocks.concat_tiles _ (by exact mixedCats) 5 (by simp) _ rfl 640 rfl t c _ (by simp <;> omega)

set_option maxHeartbeats 2000000 in
theorem mixed_pair (g : Fin 6 → Group Ideal) (p : Fin 2 → Pair Ideal) (i : Fin 2) (t c : Fin 128) :
    mixed g p (ix2 t ⟨768 + (i * 128 + c), by omega⟩) = (p i).out (ix2 t c) := by
  match i with
  | 0 => exact Blocks.concat_tiles _ (by exact mixedCats) 6 (by simp) _ rfl 768 rfl t c _ (by simp <;> omega)
  | 1 => exact Blocks.concat_tiles _ (by exact mixedCats) 7 (by simp) _ rfl 896 rfl t c _ (by simp <;> omega)

end Cert.KernelIdeal.Vocab

namespace Cert.Kernel17Ideal.Blocks

open Idealize.ShloMosaic Idealize.ShloMosaic.TcCoe Idealize.SL.Sem Cert.Kernel17Ideal Cert.Kernel17Ideal.Gen
open Cert.KernelIdeal.Vocab Cert.KernelIdeal.Blocks
open Idealize.ShloMosaic.Pipeline (Dat)

set_option maxHeartbeats 4000000 in
/-- What a point leaves in its block of the result. -/
theorem out_A_8 {F : FTy → Type} [FloatOps F] (c : Dev nD) (i : grid0.Coords)
    (arg1 : Memref sig .tc .vmem S128x1536 .bf16) (harg1 : arg1.IsWhole) (arg2 : Memref sig .tc .vmem S128x256 .bf16) (harg2 : arg2.IsWhole)
    (arg3 : Memref sig .tc .vmem S6x128x128 .f32) (harg3 : arg3.IsWhole) (arg4 : Memref sig .tc .vmem S128x128 .f32) (harg4 : arg4.IsWhole)
    (arg5 : Memref sig .tc .vmem S8x128 .f32) (harg5 : arg5.IsWhole) (arg6 : Memref sig .tc .vmem S8x128 .f32) (harg6 : arg6.IsWhole)
    (arg7 : Memref sig .tc .vmem S256x256 .bf16) (harg7 : arg7.IsWhole) (arg8 : Memref sig .tc .vmem S256x256 .bf16) (harg8 : arg8.IsWhole)
    (arg9 : Memref sig .tc .vmem S128x1024 .bf16) (harg9 : arg9.IsWhole)
    (x0 : Vec F S128x1536 .bf16) (x1 : Vec F S128x256 .bf16) (x2 : Vec F S6x128x128 .f32) (x3 : Vec F S128x128 .f32) (x4 x5 : Vec F S8x128 .f32)
    (x6 x7 : Vec F S256x256 .bf16) (x8 : Vec F S128x1024 .f32) :
    out0_A_8 c i arg1 harg1 arg2 harg2 arg3 harg3 arg4 harg4 arg5 harg5 arg6 harg6 arg7 harg7 arg8 harg8 arg9 harg9 x0 x1 x2 x3 x4 x5 x6 x7
      = mixed (group x0 x2 x3 x4 x5 x8) (pair x1 x6 x7 x8) := by
  unfold out0_A_8
  rw [View.read_writes_eq_canon _ _ _ (cover0_A_8 c i arg1 harg1 arg2 harg2 arg3 harg3 arg4 harg4 arg5 harg5 arg6 harg6 arg7 harg7 arg8 harg8 arg9 harg9 x0 x1 x2 x3 x4 x5 x6 x7)]
  unfold kernelRun0_A
  dsimp only
  sl_unfold_words
  rw [View.canon_unit_zero hz]
  simp only [View.readAt_eq_ld, harg1.read_unread, harg2.read_unread, harg3.read_unread, harg4.read_unread, harg5.read_unread, harg6.read_unread,
    harg7.read_unread, harg8.read_unread, View.ld_unit_zero (S := S128x1536) hz, View.ld_unit_zero (S := S128x256) hz,
    View.ld_unit_zero (S := S6x128x128) hz3, View.ld_unit_zero (S := S128x128) hz, View.ld_unit_zero (S := S8x128) hz,
    View.ld_unit_zero (S := S256x256) hz]
  rfl

/-! ## The blocks -/

variable (m : (ℓ : Loc nD τ sig) → Buf (Elt Ideal) ℓ)

abbrev a0 (c : Dev nD) : FVec Ideal S8192x1792 .bf16 := m ((c : Thread nD τ).loc main_arg0)
abbrev a1 (c : Dev nD) : FVec Ideal S6x128x128 .f32 := m ((c : Thread nD τ).loc main_arg1)
abbrev a2 (c : Dev nD) : FVec Ideal S6x128 .f32 := m ((c : Thread nD τ).loc main_arg2)
abbrev a3 (c : Dev nD) : FVec Ideal S6x128 .f32 := m ((c : Thread nD τ).loc main_arg3)
abbrev a4 (c : Dev nD) : FVec Ideal S6x128 .f32 := m ((c : Thread nD τ).loc main_arg4)
abbrev a5 (c : Dev nD) : FVec Ideal S256x512 .bf16 := m ((c : Thread nD τ).loc main_arg5)

/-- The forward call has no cotangent: the groups and pairs are named with a zero one. -/
abbrev noCt : FVec Ideal S128x1024 .f32 := fun _ => (0 : EReal)
/-- The same, of all rows. -/
abbrev noCts : FVec Ideal S8192x1024 .f32 := fun _ => (0 : EReal)

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val ∧ win0_1.index t 1 = 6 :=
  (by decide +kernel : ∀ t : Fin grid0.N, win0_1.index t 0 = t.val ∧ win0_1.index t 1 = 6)
theorem index2 : ∀ t : Fin cfg0.N, win0_2.index t 0 = 0 ∧ win0_2.index t 1 = 0 ∧ win0_2.index t 2 = 0 :=
  (by decide +kernel : ∀ t : Fin grid0.N, win0_2.index t 0 = 0 ∧ win0_2.index t 1 = 0 ∧ win0_2.index t 2 = 0)
theorem index3 : ∀ t : Fin cfg0.N, win0_3.index t 0 = 0 ∧ win0_3.index t 1 = 0 :=
  (by decide +kernel : ∀ t : Fin grid0.N, win0_3.index t 0 = 0 ∧ win0_3.index t 1 = 0)
theorem index4 : ∀ t : Fin cfg0.N, win0_4.index t 0 = 0 ∧ win0_4.index t 1 = 0 :=
  (by decide +kernel : ∀ t : Fin grid0.N, win0_4.index t 0 = 0 ∧ win0_4.index t 1 = 0)
theorem index5 : ∀ t : Fin cfg0.N, win0_5.index t 0 = 0 ∧ win0_5.index t 1 = 0 :=
  (by decide +kernel : ∀ t : Fin grid0.N, win0_5.index t 0 = 0 ∧ win0_5.index t 1 = 0)
theorem index6 : ∀ t : Fin cfg0.N, win0_6.index t 0 = 0 ∧ win0_6.index t 1 = 0 :=
  (by decide +kernel : ∀ t : Fin grid0.N, win0_6.index t 0 = 0 ∧ win0_6.index t 1 = 0)
theorem index7 : ∀ t : Fin cfg0.N, win0_7.index t 0 = 0 ∧ win0_7.index t 1 = 1 :=
  (by decide +kernel : ∀ t : Fin grid0.N, win0_7.index t 0 = 0 ∧ win0_7.index t 1 = 1)
theorem index8 : ∀ t : Fin cfg0.N, win0_8.index t 0 = t.val ∧ win0_8.index t 1 = 0 :=
  (by decide +kernel : ∀ t : Fin grid0.N, win0_8.index t 0 = t.val ∧ win0_8.index t 1 = 0)
theorem flush0_8 : ∀ t : Fin cfg0.N, (cfg0.win 8).flush t = true :=
  (by decide +kernel : ∀ t : Fin grid0.N, win0_8.flush t = true)

theorem lt64 (t : Fin cfg0.N) : t.val < 64 := lt_of_lt_of_eq t.isLt (by decide +kernel)

theorem V1 (c : Dev nD) : (V m c main_v1 : FVec Ideal S128x128 .f32)
    = pad S128x128 ![0, 0] ![0, 122] ![0, 0] (transpose S128x6 [1, 0] (a2 m c) transposes_S6x128_S128x6_1_0)
        (sitofp .f32 (constantI S_ 32 0#32)) pads_S128x6_S128x128_000_01220 h_S_ := rfl

theorem V2 (c : Dev nD) : (V m c main_v2 : FVec Ideal S8x128 .f32)
    = pad S8x128 ![0, 0] ![2, 0] ![0, 0] (a3 m c) (sitofp .f32 (constantI S_ 32 0#32)) pads_S6x128_S8x128_020_000 h_S_ := rfl
theorem V3 (c : Dev nD) : (V m c main_v3 : FVec Ideal S8x128 .f32)
    = pad S8x128 ![0, 0] ![2, 0] ![0, 0] (a4 m c) (sitofp .f32 (constantI S_ 32 0#32)) pads_S6x128_S8x128_020_000 h_S_ := rfl

theorem blk0 (c : Dev nD) (t : Fin cfg0.N) (r : Fin 128) (k : Fin 1536) :
    (X0_0 m c t : FVec Ideal S128x1536 .bf16) (ix2 r k)
      = (a0 m c (ix2 ⟨t.val * 128 + r.val, by have := lt64 t; omega⟩ ⟨k.val, by omega⟩) : EReal) := by
  unfold X0_0 Pipeline.Window.fill
  rw [dif_pos (moved0_0 t _)]
  unfold iblk
  rw [View.read_apply]
  show V m c main_arg0 _ = _
  rw [V_main_arg0]
  congr 1
  funext a
  apply Fin.ext
  match a with
  | ⟨0, _⟩ => show win0_0.index t 0 * 128 + 1 * r.val = t.val * 128 + r.val; rw [(index0 t).1]; omega
  | ⟨1, _⟩ => show win0_0.index t 1 * 1536 + 1 * k.val = k.val; rw [(index0 t).2]; omega

theorem blk1 (c : Dev nD) (t : Fin cfg0.N) (r : Fin 128) (k : Fin 256) :
    (iblk m c 1 t : FVec Ideal S128x256 .bf16) (ix2 r k)
      = (a0 m c (ix2 ⟨t.val * 128 + r.val, by have := lt64 t; omega⟩ ⟨1536 + k.val, by omega⟩) : EReal) := by
  unfold iblk
  rw [View.read_apply]
  show V m c main_arg0 _ = _
  rw [V_main_arg0]
  congr 1
  funext a
  apply Fin.ext
  match a with
  | ⟨0, _⟩ => show win0_1.index t 0 * 128 + 1 * r.val = t.val * 128 + r.val; rw [(index1 t).1]; omega
  | ⟨1, _⟩ => show win0_1.index t 1 * 256 + 1 * k.val = 1536 + k.val; rw [(index1 t).2]; omega

theorem blk6 (c : Dev nD) (t : Fin cfg0.N) (r : Fin 256) (k : Fin 256) :
    (iblk m c 6 t : FVec Ideal S256x256 .bf16) (ix2 r k) = (a5 m c (ix2 r ⟨k.val, by omega⟩) : EReal) := by
  unfold iblk
  rw [View.read_apply]
  show V m c main_arg5 _ = _
  rw [V_main_arg5]
  congr 1
  funext a
  apply Fin.ext
  match a with
  | ⟨0, _⟩ => show win0_6.index t 0 * 256 + 1 * r.val = r.val; rw [(index6 t).1]; omega
  | ⟨1, _⟩ => show win0_6.index t 1 * 256 + 1 * k.val = k.val; rw [(index6 t).2]; omega

theorem blk7 (c : Dev nD) (t : Fin cfg0.N) (r : Fin 256) (k : Fin 256) :
    (iblk m c 7 t : FVec Ideal S256x256 .bf16) (ix2 r k) = (a5 m c (ix2 r ⟨256 + k.val, by omega⟩) : EReal) := by
  unfold iblk
  rw [View.read_apply]
  show V m c main_arg5 _ = _
  rw [V_main_arg5]
  congr 1
  funext a
  apply Fin.ext
  match a with
  | ⟨0, _⟩ => show win0_7.index t 0 * 256 + 1 * r.val = r.val; rw [(index7 t).1]; omega
  | ⟨1, _⟩ => show win0_7.index t 1 * 256 + 1 * k.val = 256 + k.val; rw [(index7 t).2]; omega

theorem blk2 (c : Dev nD) (t : Fin cfg0.N) : (iblk m c 2 t : FVec Ideal S6x128x128 .f32) = a1 m c := by
  funext j
  unfold iblk
  rw [View.read_apply]
  show V m c main_arg1 _ = _
  rw [V_main_arg1]
  congr 1
  funext a
  apply Fin.ext
  match a with
  | ⟨0, _⟩ => show win0_2.index t 0 * 6 + 1 * (j 0).val = (j 0).val; rw [(index2 t).1]; omega
  | ⟨1, _⟩ => show win0_2.index t 1 * 128 + 1 * (j 1).val = (j 1).val; rw [(index2 t).2.1]; omega
  | ⟨2, _⟩ => show win0_2.index t 2 * 128 + 1 * (j 2).val = (j 2).val; rw [(index2 t).2.2]; omega

theorem blk3 (c : Dev nD) (t : Fin cfg0.N) (r : Fin 128) (g : Fin 6) :
    (iblk m c 3 t : FVec Ideal S128x128 .f32) (ix2 r ⟨g.val, by omega⟩) = a2 m c (ix2 g r) := by
  have e : (iblk m c 3 t : FVec Ideal S128x128 .f32) = V m c main_v1 := by
    funext j
    unfold iblk
    rw [View.read_apply]
    show V m c main_v1 _ = _
    congr 1
    funext a
    apply Fin.ext
    match a with
    | ⟨0, _⟩ => show win0_3.index t 0 * 128 + 1 * (j 0).val = (j 0).val; rw [(index3 t).1]; omega
    | ⟨1, _⟩ => show win0_3.index t 1 * 128 + 1 * (j 1).val = (j 1).val; rw [(index3 t).2]; omega
  rw [e, V1]
  fin_cases g <;> pointwise []

theorem blk4 (c : Dev nD) (t : Fin cfg0.N) (g : Fin 6) (k : Fin 128) :
    (iblk m c 4 t : FVec Ideal S8x128 .f32) (ix2 ⟨g.val, by omega⟩ k) = a3 m c (ix2 g k) := by
  have e : (iblk m c 4 t : FVec Ideal S8x128 .f32) = V m c main_v2 := by
    funext j
    unfold iblk
    rw [View.read_apply]
    show V m c main_v2 _ = _
    congr 1
    funext a
    apply Fin.ext
    match a with
    | ⟨0, _⟩ => show win0_4.index t 0 * 8 + 1 * (j 0).val = (j 0).val; rw [(index4 t).1]; omega
    | ⟨1, _⟩ => show win0_4.index t 1 * 128 + 1 * (j 1).val = (j 1).val; rw [(index4 t).2]; omega
  rw [e, V2]
  fin_cases g <;> pointwise []

theorem blk5 (c : Dev nD) (t : Fin cfg0.N) (g : Fin 6) (k : Fin 128) :
    (iblk m c 5 t : FVec Ideal S8x128 .f32) (ix2 ⟨g.val, by omega⟩ k) = a4 m c (ix2 g k) := by
  have e : (iblk m c 5 t : FVec Ideal S8x128 .f32) = V m c main_v3 := by
    funext j
    unfold iblk
    rw [View.read_apply]
    show V m c main_v3 _ = _
    congr 1
    funext a
    apply Fin.ext
    match a with
    | ⟨0, _⟩ => show win0_5.index t 0 * 8 + 1 * (j 0).val = (j 0).val; rw [(index5 t).1]; omega
    | ⟨1, _⟩ => show win0_5.index t 1 * 128 + 1 * (j 1).val = (j 1).val; rw [(index5 t).2]; omega
  rw [e, V3]
  fin_cases g <;> pointwise []

/-- The groups of a point's blocks are the arguments' groups at its rows. -/
theorem group_eq (c : Dev nD) (t : Fin cfg0.N) (g : Fin 6) :
    group (X0_0 m c t) (iblk m c 2 t) (iblk m c 3 t) (iblk m c 4 t) (iblk m c 5 t) noCt g
      = Cert.RefGroup.group (a0 m c) noCts (a1 m c) (a2 m c) (a3 m c) (a4 m c) ⟨t.val, lt64 t⟩ g :=
  group_ext _ _ (fun r k => (group_zu _ _ _ _ _ _ g r k).trans (blk0 m c t r _)) (fun r k => (group_zv _ _ _ _ _ _ g r k).trans (blk0 m c t r ⟨768 + (g * 128 + k), by omega⟩))
    (fun r k => (group_w _ _ _ _ _ _ g r k).trans (congrFun (blk2 m c t) _)) (fun r k => (group_b _ _ _ _ _ _ g r k).trans (blk3 m c t r g))
    (fun r k => (group_lg _ _ _ _ _ _ g r k).trans (blk4 m c t g k)) (fun r k => (group_lb _ _ _ _ _ _ g r k).trans (blk5 m c t g k))
    (fun r k => group_ct _ _ _ _ _ _ g r k)

/-- The pairs of a point's blocks are the arguments' pairs at its rows. -/
theorem pair_eq (c : Dev nD) (t : Fin cfg0.N) (j : Fin 2) :
    pair (iblk m c 1 t) (iblk m c 6 t) (iblk m c 7 t) noCt j = Cert.RefPair.pair (a0 m c) noCts (a5 m c) ⟨t.val, lt64 t⟩ j :=
  pair_ext _ _ (fun r k => (pair_q _ _ _ _ j r k).trans (blk1 m c t r _)) (fun r k => (pair_k _ _ _ _ j r k).trans (blk6 m c t r _))
    (fun r k => (pair_v _ _ _ _ j r k).trans (blk7 m c t r _)) (fun r k => pair_ct _ _ _ _ j r k)

/-- What a point leaves in its block, of the arguments' groups and pairs at its rows. -/
theorem rows (c : Dev nD) (t : Fin cfg0.N) :
    (dats m 0 c).flushed 8 t = mixed (Cert.RefGroup.group (a0 m c) noCts (a1 m c) (a2 m c) (a3 m c) (a4 m c) ⟨t.val, lt64 t⟩)
      (Cert.RefPair.pair (a0 m c) noCts (a5 m c) ⟨t.val, lt64 t⟩) := by
  rw [Value.flushed8_A, out_A_8 (x8 := noCt)]
  exact congrArg₂ mixed (funext (group_eq m c t)) (funext (pair_eq m c t))

/-- The result, row by row of a point's block. -/
theorem arr8 (c : Dev nD) (n : Fin 64) (r : Fin 128) (k : Fin 1024) :
    ((dats m 0 c).arrAt 8 cfg0.N : FVec Ideal S8192x1024 .bf16) (ix2 ⟨n * 128 + r, by omega⟩ k)
      = mixed (Cert.RefGroup.group (a0 m c) noCts (a1 m c) (a2 m c) (a3 m c) (a4 m c) n) (Cert.RefPair.pair (a0 m c) noCts (a5 m c) n) (ix2 r k) := by
  have hn : n.val < cfg0.N := lt_of_lt_of_eq n.isLt (by decide +kernel)
  have h := congrFun (Value.blocks8 m c ⟨n, hn⟩ (flush0_8 _)) (ix2 r k)
  rw [View.read_apply, rows] at h
  refine Eq.trans ?_ h
  show _ = ((dats m 0 c).arrAt 8 cfg0.N : FVec Ideal S8192x1024 .bf16) _
  congr 1
  funext a
  apply Fin.ext
  have hi := index8 ⟨n, hn⟩
  match a with
  | ⟨0, _⟩ => show n.val * 128 + r.val = win0_8.index _ 0 * 128 + 1 * r.val; rw [hi.1]; dsimp only; omega
  | ⟨1, _⟩ => show k.val = win0_8.index _ 1 * 1024 + 1 * k.val; rw [hi.2]; omega

/-! ## The reference -/

section
open Cert.Reference17Ideal.Read
open Cert.RefPair (DenNe)
variable (x0 : FVec Ideal S8192x1792 .bf16) (x1 : FVec Ideal S6x128x128 .f32) (x2 x3 x4 : FVec Ideal S6x128 .f32) (x5 : FVec Ideal S256x512 .bf16)

theorem ref_gelu : val_main_v16 (F := Ideal) x0 = Cert.ReferenceIdeal.Read.val_main_v24 (F := Ideal) x0 := rfl
theorem ref_sv : val_main_v54 (F := Ideal) x0 x1 x2 x3 x4 = Cert.ReferenceIdeal.Read.val_main_v67 (F := Ideal) x0 x1 x2 x3 x4 := rfl
theorem ref_prob : val_main_v75 (F := Ideal) x0 x5 = Cert.ReferenceIdeal.Read.val_main_v102 (F := Ideal) x0 x5 := rfl

/-- The reference's gated columns. -/
theorem ref_group (n : Fin 64) (g : Fin 6) (t c : Fin 128) :
    (val_main_v80 (F := Ideal) x0 x1 x2 x3 x4 x5 (ix2 ⟨n * 128 + t, by omega⟩ ⟨g * 128 + c, by omega⟩) : EReal)
      = (Cert.RefGroup.group x0 noCts x1 x2 x3 x4 n g).out (ix2 t c) := by
  have e : (val_main_v80 (F := Ideal) x0 x1 x2 x3 x4 x5 (ix2 ⟨n * 128 + t, by omega⟩ ⟨g * 128 + c, by omega⟩) : EReal)
      = val_main_v56 (F := Ideal) x0 x1 x2 x3 x4 (ix2 ⟨n * 128 + t, by omega⟩ ⟨g * 128 + c, by omega⟩) := by
    pointwise [val_main_v80, val_main_v79]
    rw [dif_pos (by omega)]
  rw [e]
  pointwise [val_main_v56, val_main_v55, val_main_v17, Group.out]
  refine congrArg₂ (· * ·) ?_ ?_
  · rw [ref_gelu]
    exact Cert.RefGroup.gelu_eq _ _ _ _ _ rfl
  · rw [ref_sv, ← Cert.RefGroup.sv]

/-- The reference's memory columns. -/
theorem ref_pair (D : DenNe x0 x5) (n : Fin 64) (j : Fin 2) (t c : Fin 128) :
    (val_main_v80 (F := Ideal) x0 x1 x2 x3 x4 x5 (ix2 ⟨n * 128 + t, by omega⟩ ⟨768 + (j * 128 + c), by omega⟩) : EReal)
      = (Cert.RefPair.pair x0 noCts x5 n j).out (ix2 t c) := by
  have e : (val_main_v80 (F := Ideal) x0 x1 x2 x3 x4 x5 (ix2 ⟨n * 128 + t, by omega⟩ ⟨768 + (j * 128 + c), by omega⟩) : EReal)
      = val_main_v78 (F := Ideal) x0 x5 (ix2 ⟨n * 128 + t, by omega⟩ ⟨j * 128 + c, by omega⟩) := by
    pointwise [val_main_v80, val_main_v79]
  rw [e]
  pointwise [val_main_v78, val_main_v77, val_main_v76, val_main_v61, val_main_v59, val_main_v1, Pair.out, Pair.av, Pair.prob, Pair.vb, Pair.rec1,
    low, over, lineOf]
  rw [Cert.RefPair.select_low, ref_prob]
  by_cases h : c.val < 64
  · rw [if_pos h]
    exact Finset.sum_congr rfl fun k _ => (mul_comm _ _).trans (congrArg₂ (· * ·) (Cert.RefPair.prob_at noCts D n j 0 t k _ _ (by simp; omega) (by simp))
      (congrArg (fun c => (x5 (ix2 k c) : EReal)) (Fin.ext (by simp; omega))))
  · rw [if_neg h]
    exact Finset.sum_congr rfl fun k _ => (mul_comm _ _).trans (congrArg₂ (· * ·) (Cert.RefPair.prob_at noCts D n j 1 t k _ _ (by simp; omega) (by simp))
      (congrArg (fun c => (x5 (ix2 k c) : EReal)) (Fin.ext (by simp; omega))))

end

/-! ## The result -/

open Cert.Reference17Ideal.Read
open Cert.RefPair (DenNe)

/-- The result at a gated column. -/
theorem eq8_gate (c : Dev nD) (r : Fin 8192) (k : Fin 1024) (h : k.val < 768) :
    ((dats m 0 c).arrAt 8 cfg0.N : FVec Ideal S8192x1024 .bf16) (ix2 r k)
      = val_main_v80 (F := Ideal) (a0 m c) (a1 m c) (a2 m c) (a3 m c) (a4 m c) (a5 m c) (ix2 r k) := by
  obtain ⟨n, t, rfl⟩ : ∃ (n : Fin 64) (t : Fin 128), r = ⟨n * 128 + t, by omega⟩ :=
    ⟨⟨r.val / 128, by omega⟩, ⟨r.val % 128, by omega⟩, Fin.ext (by dsimp only; omega)⟩
  obtain ⟨k, hk⟩ := k
  dsimp only at h
  obtain ⟨g, l, rfl⟩ : ∃ (g : Fin 6) (l : Fin 128), k = g * 128 + l :=
    ⟨⟨k / 128, by omega⟩, ⟨k % 128, by omega⟩, by dsimp only; omega⟩
  rw [arr8, mixed_group]
  exact (ref_group _ _ _ _ _ _ n g t l).symm

/-- The result, where no row of exponentials sums to zero. -/
theorem eq8 (c : Dev nD) (D : DenNe (a0 m c) (a5 m c)) :
    (dats m 0 c).arrAt 8 cfg0.N = val_main_v80 (F := Ideal) (a0 m c) (a1 m c) (a2 m c) (a3 m c) (a4 m c) (a5 m c) := by
  funext i
  obtain ⟨r, k, hi⟩ : ∃ (r : Fin 8192) (k : Fin 1024), i = ix2 r k := ⟨i 0, i 1, eq_ix2 i⟩
  subst hi
  by_cases h : k.val < 768
  · exact eq8_gate m c r k h
  · obtain ⟨n, t, rfl⟩ : ∃ (n : Fin 64) (t : Fin 128), r = ⟨n * 128 + t, by omega⟩ :=
      ⟨⟨r.val / 128, by omega⟩, ⟨r.val % 128, by omega⟩, Fin.ext (by dsimp only; omega)⟩
    obtain ⟨k, hk⟩ := k
    dsimp only at h
    obtain ⟨j, l, rfl⟩ : ∃ (j : Fin 2) (l : Fin 128), k = 768 + (j * 128 + l) :=
      ⟨⟨(k - 768) / 128, by omega⟩, ⟨(k - 768) % 128, by omega⟩, by dsimp only; omega⟩
    rw [arr8, mixed_pair]
    exact (ref_pair _ _ _ _ _ _ D n j t l).symm

/-! ## The precondition and the mask -/

theorem facts_attended_finite : Cert.Pre_attended_finite.Facts := ⟨by decide, by decide, by decide, by decide, by decide⟩
theorem facts_gated_columns : Cert.On_gated_columns.Facts := ⟨by decide, by decide⟩

/-- Where the queries and keys are finite, no row of exponentials sums to zero. -/
theorem den_ne (x0 x1 x2 x3 x4 x5) (h : (@Cert.Pre_attended_finite.fn facts_attended_finite Ideal _ x0 x1 x2 x3 x4 x5).1 = fun _ => 1#1)
    (h' : (@Cert.Pre_attended_finite.fn facts_attended_finite Ideal _ x0 x1 x2 x3 x4 x5).2 = fun _ => 1#1) : DenNe x0 x5 := by
  refine Cert.RefPair.denNe (fun r k => real_of_lt _ ?_) (fun r k => real_of_lt _ ?_)
  · have := congrFun h (ix2 r k)
    revert this
    pointwise [Cert.Pre_attended_finite.fn]
    exact id
  · have := congrFun h' (ix2 r k)
    revert this
    pointwise [Cert.Pre_attended_finite.fn]
    exact id

/-- The mask selects gated columns only. -/
theorem mask (x0 x1 x2 x3 x4 x5) (r : Fin 8192) (k : Fin 1024)
    (h : @Cert.On_gated_columns.fn facts_gated_columns Ideal _ x0 x1 x2 x3 x4 x5 (ix2 r k) = 1#1) : k.val < 768 := by
  have e : @Cert.On_gated_columns.fn facts_gated_columns Ideal _ x0 x1 x2 x3 x4 x5 (ix2 r k)
      = IntOp.cmpi .slt (BitVec.ofNat 32 k.val) 768#32 := by pointwise [Cert.On_gated_columns.fn]
  rw [e] at h
  exact (by decide +kernel : ∀ k : Fin 1024, IntOp.cmpi .slt (BitVec.ofNat 32 k.val) 768#32 = 1#1 → k.val < 768) k h

end Cert.Kernel17Ideal.Blocks

end
-- ==== Proof.SwaOut.lean ====
/- The attention mixer's forward call: what its grid points leave in the result. A point computes of each of the two heads
   of keys and values the attention of its six heads of queries to 256 keys, the block before and its own (`Vocab.Swa`),
   and of the two pairs of memory heads what the other mixer computes of them (`Vocab.Pair`). -/
module

public import proofs.«01_k».proof.Proof.MixB
public import proofs.«01_k».proof.Proof.Gen.Kernel18Ideal.Value

@[expose] public section

noncomputable section

namespace Cert.KernelIdeal.Vocab

open Idealize.ShloMosaic Idealize.ShloMosaic.TcCoe Idealize.SL.Sem Cert.Kernel18Ideal Cert.Kernel18Ideal.Gen

variable {F : FTy → Type} [FloatOps F] [Named F]

/-- A [256, 768] square of f32: a key a row, a query of one of six heads a lane. -/
abbrev Wide (F : FTy → Type) : Type := FVec F S256x768 .f32
/-- A number for each query of six heads. -/
abbrev Long (F : FTy → Type) : Type := FVec F S1x768 .f32

/-- A row below each key. -/
def overW (r : Long F) : Wide F := broadcastTo S256x768 r broadcasts_S1x768_S256x768
def keySumW (x : Wide F) : Long F :=
  shapeCast S1x768 (multiReduction .add [0] S768 x 0x00000000#32 reduces_S256x768_S768 (.inl rfl) rfl) shapeCasts_S768_S1x768
def keyMaxW (x : Wide F) : Long F :=
  shapeCast S1x768 (multiReduction .maximumf [0] S768 x 0xFF800000#32 reduces_S256x768_S768 (.inl rfl) rfl) shapeCasts_S768_S1x768
/-- One number for all queries of a head. -/
def lanes (x : FVec F S1x1 .f32) : FVec F S1x128 .f32 := broadcastTo S1x128 (shapeCast S1x1 x shapeCasts_S1x1_S1x1) broadcasts_S1x1_S1x128

/-- What a point reads for a head of keys and values: its six heads of queries, two a tile; the head's 256 keys and values,
    the same on both halves of the lanes; the six sinks; and which keys a query sees. -/
structure Swa (F : FTy → Type) where
  q : Fin 3 → Tile F
  k : Slab F
  v : Slab F
  sink : Fin 6 → FVec F S1x1 .f32
  mask : IVec S256x768 1

namespace Swa

variable (p : Swa F)

def lo (i : Fin 3) : Tile F := select low (p.q i) (tile 0x00000000#32)
def hi (i : Fin 3) : Tile F := select low (tile 0x00000000#32) (p.q i)
/-- The queries of the six heads, one over the other, each on its own lanes. -/
def qs : FVec F S768x128 .bf16 :=
  truncf .bf16 (concatenate S768x128 0 [⟨S128x128, p.lo 0⟩, ⟨S128x128, p.hi 0⟩, ⟨S128x128, p.lo 1⟩, ⟨S128x128, p.hi 1⟩, ⟨S128x128, p.lo 2⟩,
    ⟨S128x128, p.hi 2⟩] concatenates_S128x128_S128x128_S128x128_S128x128_S128x128_S128x128_S768x128_d0) bitsLt_bf16_f32
def kb : FVec F S256x128 .bf16 := truncf .bf16 p.k bitsLt_bf16_f32
def vb : FVec F S256x128 .bf16 := truncf .bf16 p.v bitsLt_bf16_f32
/-- The scores, minus infinity where a query doesn't see a key. -/
def sc : Wide F :=
  select p.mask (mulf (matmul dot_S256x128_S768x128_S256x768_1_1_0_0_n_n none p.kb p.qs (constant S256x768 .f32 0x00000000#32))
    (broadcast S256x768 (Scalar.ofBits .f32 0x3E000000#32))) (broadcast S256x768 (Named.named κ "mask" 0xF149F2CA#32))
def sinks : Long F :=
  concatenate S1x768 1 [⟨S1x128, lanes (p.sink 0)⟩, ⟨S1x128, lanes (p.sink 1)⟩, ⟨S1x128, lanes (p.sink 2)⟩, ⟨S1x128, lanes (p.sink 3)⟩,
    ⟨S1x128, lanes (p.sink 4)⟩, ⟨S1x128, lanes (p.sink 5)⟩] concatenates_S1x128_S1x128_S1x128_S1x128_S1x128_S1x128_S1x768_d1
def mx : Long F := maximumf (keyMaxW p.sc) p.sinks
def ex : Wide F := exp (subf p.sc (overW p.mx))
def den : Long F := addf (keySumW p.ex) (exp (subf p.sinks p.mx))
def prob : FVec F S256x768 .bf16 :=
  truncf .bf16 (mulf p.ex (overW (divf (broadcast S1x768 (Scalar.ofBits .f32 0x3F800000#32)) p.den))) bitsLt_bf16_f32
/-- The values averaged by the probabilities, a query a row. -/
def av : FVec F S768x128 .f32 := matmul dot_S256x768_S256x128_S768x128_0_0_1_1_n_n none p.prob p.vb (constant S768x128 .f32 0x00000000#32)
/-- The columns of two heads, each head's queries on its own lanes. -/
def out : Fin 3 → Tile F
  | 0 => select low (extractStridedSlice S128x128 ![0, 0] p.av slices_S768x128_o0_0_S128x128)
      (extractStridedSlice S128x128 ![128, 0] p.av slices_S768x128_o128_0_S128x128)
  | 1 => select low (extractStridedSlice S128x128 ![256, 0] p.av slices_S768x128_o256_0_S128x128)
      (extractStridedSlice S128x128 ![384, 0] p.av slices_S768x128_o384_0_S128x128)
  | 2 => select low (extractStridedSlice S128x128 ![512, 0] p.av slices_S768x128_o512_0_S128x128)
      (extractStridedSlice S128x128 ![640, 0] p.av slices_S768x128_o640_0_S128x128)

end Swa

section
variable (x0 : Vec F S128x768 .bf16) (x1 x2 x3 x4 : Vec F S128x128 .bf16) (x5 : Vec F S128x256 .bf16) (x6 : Vec F S16x128 .f32)
  (x7 x8 : Vec F S256x256 .bf16)

/-- What a point reads for each of the two heads of keys and values, of its blocks. -/
def swa (a : BitVec 32) : Fin 2 → Swa F
  | 0 => ⟨![k0_pay7 x0, k0_pay8 x0, k0_pay9 x0], k0_pay16 x1 x2, k0_pay21 (k0_pay18 x3 x4) (k0_pay19 x3 x4) (iota .tc S1x128 32 [1] iota_S1x128_d1_w32),
      ![k0_pay23 (k0_pay4 x6), k0_pay24 (k0_pay4 x6), k0_pay25 (k0_pay4 x6), k0_pay26 (k0_pay4 x6), k0_pay27 (k0_pay4 x6), k0_pay28 (k0_pay4 x6)],
      k0_pay41 a⟩
  | 1 => ⟨![k0_pay10 x0, k0_pay11 x0, k0_pay12 x0], k0_pay17 x1 x2, k0_pay22 (k0_pay18 x3 x4) (k0_pay19 x3 x4) (iota .tc S1x128 32 [1] iota_S1x128_d1_w32),
      ![k0_pay29 (k0_pay4 x6), k0_pay30 (k0_pay4 x6), k0_pay31 (k0_pay4 x6), k0_pay32 (k0_pay4 x6), k0_pay33 (k0_pay4 x6), k0_pay34 (k0_pay4 x6)],
      k0_pay41 a⟩

/-- What a point reads for each of the two pairs of memory heads, of its blocks. -/
def memory (ct : Vec F S128x1024 .f32) : Fin 2 → Pair F
  | 0 => ⟨k0_pay35 (k0_pay3 x5), k0_pay37 (k0_pay5 x7), k0_pay39 (k0_pay6 x8), Cert.KernelIdeal.Gen.k0_pay62 ct⟩
  | 1 => ⟨k0_pay36 (k0_pay3 x5), k0_pay38 (k0_pay5 x7), k0_pay40 (k0_pay6 x8), Cert.KernelIdeal.Gen.k0_pay63 ct⟩
end

/-- A point's rows of the mixer. -/
def attended (s : Fin 2 → Swa F) (p : Fin 2 → Pair F) : FVec F S128x1024 .bf16 :=
  truncf .bf16 (concatenate S128x1024 1
    [⟨S128x128, (s 0).out 0⟩, ⟨S128x128, (s 0).out 1⟩, ⟨S128x128, (s 0).out 2⟩, ⟨S128x128, (s 1).out 0⟩, ⟨S128x128, (s 1).out 1⟩, ⟨S128x128, (s 1).out 2⟩,
     ⟨S128x128, (p 0).out⟩, ⟨S128x128, (p 1).out⟩] mixedCats) bitsLt_bf16_f32

set_option maxHeartbeats 2000000 in
theorem attended_swa (s : Fin 2 → Swa Ideal) (p : Fin 2 → Pair Ideal) (g : Fin 2) (i : Fin 3) (t c : Fin 128) :
    attended s p (ix2 t ⟨(3 * g + i) * 128 + c, by omega⟩) = (s g).out i (ix2 t c) := by
  match g, i with
  | 0, 0 => exact Blocks.concat_tiles _ (by exact mixedCats) 0 (by simp) _ rfl 0 rfl t c _ (by simp <;> omega)
  | 0, 1 => exact Blocks.concat_tiles _ (by exact mixedCats) 1 (by simp) _ rfl 128 rfl t c _ (by simp <;> omega)
  | 0, 2 => exact Blocks.concat_tiles _ (by exact mixedCats) 2 (by simp) _ rfl 256 rfl t c _ (by simp <;> omega)
  | 1, 0 => exact Blocks.concat_tiles _ (by exact mixedCats) 3 (by simp) _ rfl 384 rfl t c _ (by simp <;> omega)
  | 1, 1 => exact Blocks.concat_tiles _ (by exact mixedCats) 4 (by simp) _ rfl 512 rfl t c _ (by simp <;> omega)
  | 1, 2 => exact Blocks.concat_tiles _ (by exact mixedCats) 5 (by simp) _ rfl 640 rfl t c _ (by simp <;> omega)

set_option maxHeartbeats 2000000 in
theorem attended_pair (s : Fin 2 → Swa Ideal) (p : Fin 2 → Pair Ideal) (i : Fin 2) (t c : Fin 128) :
    attended s p (ix2 t ⟨768 + (i * 128 + c), by omega⟩) = (p i).out (ix2 t c) := by
  match i with
  | 0 => exact Blocks.concat_tiles _ (by exact mixedCats) 6 (by simp) _ rfl 768 rfl t c _ (by simp <;> omega)
  | 1 => exact Blocks.concat_tiles _ (by exact mixedCats) 7 (by simp) _ rfl 896 rfl t c _ (by simp <;> omega)

end Cert.KernelIdeal.Vocab

namespace Cert.Kernel18Ideal.Blocks

open Idealize.ShloMosaic Idealize.ShloMosaic.TcCoe Idealize.SL.Sem Cert.Kernel18Ideal Cert.Kernel18Ideal.Gen
open Cert.KernelIdeal.Vocab Cert.KernelIdeal.Blocks
open Idealize.ShloMosaic.Pipeline (Dat)

set_option maxHeartbeats 4000000 in
/-- What a point leaves in its block of the result. -/
theorem out_A_9 {F : FTy → Type} [FloatOps F] [Named F] (c : Dev nD) (i : grid0.Coords)
    (arg1 : Memref sig .tc .vmem S128x768 .bf16) (harg1 : arg1.IsWhole) (arg2 : Memref sig .tc .vmem S128x128 .bf16) (harg2 : arg2.IsWhole)
    (arg3 : Memref sig .tc .vmem S128x128 .bf16) (harg3 : arg3.IsWhole) (arg4 : Memref sig .tc .vmem S128x128 .bf16) (harg4 : arg4.IsWhole)
    (arg5 : Memref sig .tc .vmem S128x128 .bf16) (harg5 : arg5.IsWhole) (arg6 : Memref sig .tc .vmem S128x256 .bf16) (harg6 : arg6.IsWhole)
    (arg7 : Memref sig .tc .vmem S16x128 .f32) (harg7 : arg7.IsWhole) (arg8 : Memref sig .tc .vmem S256x256 .bf16) (harg8 : arg8.IsWhole)
    (arg9 : Memref sig .tc .vmem S256x256 .bf16) (harg9 : arg9.IsWhole) (arg10 : Memref sig .tc .vmem S128x1024 .bf16) (harg10 : arg10.IsWhole)
    (x0 : Vec F S128x768 .bf16) (x1 x2 x3 x4 : Vec F S128x128 .bf16) (x5 : Vec F S128x256 .bf16) (x6 : Vec F S16x128 .f32)
    (x7 x8 : Vec F S256x256 .bf16) (x9 : Vec F S128x1024 .f32) :
    out0_A_9 c i arg1 harg1 arg2 harg2 arg3 harg3 arg4 harg4 arg5 harg5 arg6 harg6 arg7 harg7 arg8 harg8 arg9 harg9 arg10 harg10 x0 x1 x2 x3 x4 x5 x6 x7 x8
      = attended (swa x0 x1 x2 x3 x4 x6 (BitVec.ofNat 32 (i 0).val)) (memory x5 x7 x8 x9) := by
  unfold out0_A_9
  rw [View.read_writes_eq_canon _ _ _ (cover0_A_9 c i arg1 harg1 arg2 harg2 arg3 harg3 arg4 harg4 arg5 harg5 arg6 harg6 arg7 harg7 arg8 harg8 arg9 harg9 arg10 harg10 x0 x1 x2 x3 x4 x5 x6 x7 x8)]
  unfold kernelRun0_A
  dsimp only
  sl_unfold_words
  rw [View.canon_unit_zero hz]
  simp only [View.readAt_eq_ld, harg1.read_unread, harg2.read_unread, harg3.read_unread, harg4.read_unread, harg5.read_unread, harg6.read_unread,
    harg7.read_unread, harg8.read_unread, harg9.read_unread, View.ld_unit_zero (S := S128x768) hz, View.ld_unit_zero (S := S128x128) hz,
    View.ld_unit_zero (S := S128x256) hz, View.ld_unit_zero (S := S16x128) hz, View.ld_unit_zero (S := S256x256) hz]
  rfl

end Cert.Kernel18Ideal.Blocks

end
-- ==== Proof.SwaBlocks.lean ====
/- The blocks of the attention mixer's forward call, read at an element: what a grid point reads of the arguments. -/
module

public import proofs.«01_k».proof.Proof.SwaOut

@[expose] public section

noncomputable section

namespace Cert.Kernel18Ideal.Blocks

open Idealize.ShloMosaic Idealize.ShloMosaic.TcCoe Idealize.SL.Sem Cert.Kernel18Ideal Cert.Kernel18Ideal.Gen
open Cert.KernelIdeal.Vocab Cert.KernelIdeal.Blocks
open Idealize.ShloMosaic.Pipeline (Dat)

/-! ## The arguments' attention -/

section
variable (x0 : FVec Ideal S8192x1280 .bf16) (x1 : FVec Ideal S12 .f32)

/-- Column `o + y` of key `k` of block `n`: the first 128 keys are the rows of the block before, or of the block itself at
    the first block; the others are the block's rows. -/
def window (o : ℕ) (ho : o ≤ 1152) (n : Fin 64) (k : Fin 256) (y : Fin 128) : EReal :=
  if k.val < 128 then x0 (ix2 ⟨(n - 1) * 128 + k % 128, by omega⟩ ⟨o + y, by omega⟩) else x0 (ix2 ⟨n * 128 + k % 128, by omega⟩ ⟨o + y, by omega⟩)

/-- Head `g` of keys and values over block `n` of the rows. -/
def attention (n : Fin 64) (g : Fin 2) : Swa Ideal where
  q := fun i j => (x0 (ix2 ⟨n * 128 + (j 0).val, by have : (j 0).val < 128 := (j 0).isLt; omega⟩
    ⟨(3 * g + i) * 128 + (j 1).val, by have : (j 1).val < 128 := (j 1).isLt; omega⟩) : EReal)
  k := fun j => window x0 768 (by omega) n (j 0) ⟨g * 64 + (j 1).val % 64, by omega⟩
  v := fun j => window x0 896 (by omega) n (j 0) ⟨g * 64 + (j 1).val % 64, by omega⟩
  sink := fun h _ => x1 (ix1 ⟨6 * g + h, by omega⟩)
  mask := k0_pay41 (BitVec.ofNat 32 n.val)

/-- The projection, its memory queries at the columns at which the other mixer has them. -/
def moved : FVec Ideal Cert.KernelIdeal.S8192x1792 .bf16 := fun j =>
  (x0 (ix2 (j 0) ⟨(j 1).val - 512, by have : (j 1).val < 1792 := (j 1).isLt; omega⟩) : EReal)
end

theorem swa_ext (a b : Swa Ideal) (hq : ∀ (i : Fin 3) (t c : Fin 128), a.q i (ix2 t c) = b.q i (ix2 t c))
    (hk : ∀ (t : Fin 256) (c : Fin 128), a.k (ix2 t c) = b.k (ix2 t c)) (hv : ∀ (t : Fin 256) (c : Fin 128), a.v (ix2 t c) = b.v (ix2 t c))
    (hs : ∀ (h : Fin 6) (t c : Fin 1), a.sink h (ix2 t c) = b.sink h (ix2 t c)) (hm : a.mask = b.mask) : a = b := by
  obtain ⟨a1, a2, a3, a4, a5⟩ := a
  obtain ⟨b1, b2, b3, b4, b5⟩ := b
  have e {S0 S1 : Nat} {f g : (⟨2, ![S0, S1]⟩ : Shape).Idx → EReal} (h : ∀ (t : Fin S0) (c : Fin S1), f (ix2 t c) = g (ix2 t c)) : f = g :=
    funext fun j => (congrArg f (eq_ix2 j)).trans ((h _ _).trans (congrArg g (eq_ix2 j)).symm)
  obtain rfl : a1 = b1 := funext fun i => e (hq i)
  obtain rfl := e hk
  obtain rfl := e hv
  obtain rfl : a4 = b4 := funext fun i => e (hs i)
  obtain rfl := hm
  rfl

/-! ## A point's attention, of its blocks -/

theorem at_eq (x : Vec Ideal S128x128 .bf16) (r r' l l' : Fin 128) (hr : r.val = r'.val) (hl : l.val = l'.val) :
    (x (ix2 r l) : EReal) = x (ix2 r' l') := by
  obtain rfl := Fin.ext hr
  obtain rfl := Fin.ext hl
  rfl

section
variable (x0 : Vec Ideal S128x768 .bf16) (x1 x2 x3 x4 : Vec Ideal S128x128 .bf16) (x5 : Vec Ideal S128x256 .bf16) (x6 : Vec Ideal S16x128 .f32)
  (x7 x8 : Vec Ideal S256x256 .bf16) (x9 : Vec Ideal S128x1024 .f32) (a : BitVec 32)

theorem swa_q (g : Fin 2) (i : Fin 3) (t c : Fin 128) :
    (swa x0 x1 x2 x3 x4 x6 a g).q i (ix2 t c) = (x0 (ix2 t ⟨(3 * g + i) * 128 + c, by omega⟩) : EReal) := by
  fin_cases g <;> fin_cases i <;> (unfold swa; pointwise [k0_pay7, k0_pay8, k0_pay9, k0_pay10, k0_pay11, k0_pay12, k0_pay2])

theorem swa_sink (g : Fin 2) (h : Fin 6) (t c : Fin 1) :
    (swa x0 x1 x2 x3 x4 x6 a g).sink h (ix2 t c) = x6 (ix2 ⟨6 * g + h, by omega⟩ ⟨0, by omega⟩) := by
  obtain rfl : t = 0 := Subsingleton.elim _ _
  obtain rfl : c = 0 := Subsingleton.elim _ _
  fin_cases g <;> fin_cases h <;> (unfold swa; pointwise [k0_pay23, k0_pay24, k0_pay25, k0_pay26, k0_pay27, k0_pay28, k0_pay29, k0_pay30, k0_pay31,
    k0_pay32, k0_pay33, k0_pay34, k0_pay4])

theorem swa_k (g : Fin 2) (t : Fin 256) (c : Fin 128) : (swa x0 x1 x2 x3 x4 x6 a g).k (ix2 t c)
    = if t.val < 128 then (x1 (ix2 ⟨t % 128, by omega⟩ ⟨g * 64 + c % 64, by omega⟩) : EReal) else x2 (ix2 ⟨t % 128, by omega⟩ ⟨g * 64 + c % 64, by omega⟩) := by
  have hc : c.val % 64 = if c.val < 64 then c.val else c.val - 64 := by split <;> omega
  fin_cases g <;> unfold swa <;> pointwise [k0_pay16, k0_pay17, k0_pay13, k0_pay14, k0_pay15] <;>
    rw [Cert.RefPair.select_low] <;> by_cases h : c.val < 64 <;> by_cases ht : t.val < 128 <;> simp only [h, ht, ↓reduceIte, ↓reduceDIte] <;>
    refine at_eq _ _ _ _ _ ?_ ?_ <;> simp only [hc, h, ↓reduceIte] <;> omega

theorem swa_v (g : Fin 2) (t : Fin 256) (c : Fin 128) : (swa x0 x1 x2 x3 x4 x6 a g).v (ix2 t c)
    = if t.val < 128 then (x3 (ix2 ⟨t % 128, by omega⟩ ⟨g * 64 + c % 64, by omega⟩) : EReal) else x4 (ix2 ⟨t % 128, by omega⟩ ⟨g * 64 + c % 64, by omega⟩) := by
  have hc : c.val % 64 = if c.val < 64 then c.val else c.val - 64 := by split <;> omega
  fin_cases g <;> unfold swa <;> pointwise [k0_pay21, k0_pay22, k0_pay18, k0_pay19, k0_pay20] <;>
    rw [Cert.RefPair.select_low] <;> by_cases h : c.val < 64 <;> by_cases ht : t.val < 128 <;> simp only [h, ht, ↓reduceIte, ↓reduceDIte] <;>
    refine at_eq _ _ _ _ _ ?_ ?_ <;> simp only [hc, h, ↓reduceIte] <;> omega

theorem memory_q (j : Fin 2) (t c : Fin 128) : (memory x5 x7 x8 x9 j).q (ix2 t c) = (x5 (ix2 t ⟨j * 128 + c, by omega⟩) : EReal) := by
  fin_cases j <;> (unfold memory; pointwise [k0_pay3, k0_pay35, k0_pay36])
theorem memory_k (j : Fin 2) (t : Fin 256) (c : Fin 128) : (memory x5 x7 x8 x9 j).k (ix2 t c) = (x7 (ix2 t ⟨j * 128 + c, by omega⟩) : EReal) := by
  fin_cases j <;> (unfold memory; pointwise [k0_pay5, k0_pay37, k0_pay38])
theorem memory_v (j : Fin 2) (t : Fin 256) (c : Fin 128) : (memory x5 x7 x8 x9 j).v (ix2 t c) = (x8 (ix2 t ⟨j * 128 + c, by omega⟩) : EReal) := by
  fin_cases j <;> (unfold memory; pointwise [k0_pay6, k0_pay39, k0_pay40])
theorem memory_ct (j : Fin 2) (t c : Fin 128) : (memory x5 x7 x8 x9 j).ct (ix2 t c) = x9 (ix2 t ⟨768 + (j * 128 + c), by omega⟩) := by
  fin_cases j <;> (unfold memory; pointwise [Cert.KernelIdeal.Gen.k0_pay62, Cert.KernelIdeal.Gen.k0_pay63])
  exact congrArg (fun l => x9 (ix2 t l)) (Fin.ext (by dsimp only; omega))
end

/-! ## The blocks -/

variable (m : (ℓ : Loc nD τ sig) → Buf (Elt Ideal) ℓ)

abbrev a0 (c : Dev nD) : FVec Ideal S8192x1280 .bf16 := m ((c : Thread nD τ).loc main_arg0)
abbrev a1 (c : Dev nD) : FVec Ideal S12 .f32 := m ((c : Thread nD τ).loc main_arg1)
abbrev a2 (c : Dev nD) : FVec Ideal S256x512 .bf16 := m ((c : Thread nD τ).loc main_arg2)

theorem coords0 : ∀ t : Fin cfg0.N, (grid0.coords t 0).val = t.val :=
  (by decide +kernel : ∀ t : Fin grid0.N, (grid0.coords t 0).val = t.val)
theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ t : Fin cfg0.N, win0_1.index t 0 = t.val - 1 ∧ win0_1.index t 1 = 6 :=
  (by decide +kernel : ∀ t : Fin grid0.N, win0_1.index t 0 = t.val - 1 ∧ win0_1.index t 1 = 6)
theorem index2 : ∀ t : Fin cfg0.N, win0_2.index t 0 = t.val ∧ win0_2.index t 1 = 6 :=
  (by decide +kernel : ∀ t : Fin grid0.N, win0_2.index t 0 = t.val ∧ win0_2.index t 1 = 6)
theorem index3 : ∀ t : Fin cfg0.N, win0_3.index t 0 = t.val - 1 ∧ win0_3.index t 1 = 7 :=
  (by decide +kernel : ∀ t : Fin grid0.N, win0_3.index t 0 = t.val - 1 ∧ win0_3.index t 1 = 7)
theorem index4 : ∀ t : Fin cfg0.N, win0_4.index t 0 = t.val ∧ win0_4.index t 1 = 7 :=
  (by decide +kernel : ∀ t : Fin grid0.N, win0_4.index t 0 = t.val ∧ win0_4.index t 1 = 7)
theorem index5 : ∀ t : Fin cfg0.N, win0_5.index t 0 = t.val ∧ win0_5.index t 1 = 4 :=
  (by decide +kernel : ∀ t : Fin grid0.N, win0_5.index t 0 = t.val ∧ win0_5.index t 1 = 4)
theorem index6 : ∀ t : Fin cfg0.N, win0_6.index t 0 = 0 ∧ win0_6.index t 1 = 0 :=
  (by decide +kernel : ∀ t : Fin grid0.N, win0_6.index t 0 = 0 ∧ win0_6.index t 1 = 0)
theorem index7 : ∀ t : Fin cfg0.N, win0_7.index t 0 = 0 ∧ win0_7.index t 1 = 0 :=
  (by decide +kernel : ∀ t : Fin grid0.N, win0_7.index t 0 = 0 ∧ win0_7.index t 1 = 0)
theorem index8 : ∀ t : Fin cfg0.N, win0_8.index t 0 = 0 ∧ win0_8.index t 1 = 1 :=
  (by decide +kernel : ∀ t : Fin grid0.N, win0_8.index t 0 = 0 ∧ win0_8.index t 1 = 1)
theorem index9 : ∀ t : Fin cfg0.N, win0_9.index t 0 = t.val ∧ win0_9.index t 1 = 0 :=
  (by decide +kernel : ∀ t : Fin grid0.N, win0_9.index t 0 = t.val ∧ win0_9.index t 1 = 0)
theorem flush0_9 : ∀ t : Fin cfg0.N, (cfg0.win 9).flush t = true :=
  (by decide +kernel : ∀ t : Fin grid0.N, win0_9.flush t = true)

theorem lt64 (t : Fin cfg0.N) : t.val < 64 := lt_of_lt_of_eq t.isLt (by decide +kernel)

theorem V2 (c : Dev nD) : (V m c main_v2 : FVec Ideal S16x128 .f32)
    = pad S16x128 ![0, 0] ![4, 0] ![0, 0] (broadcastInDim S12x128 ![0, 1] bcast_S12x1_S12x128_0_1 (broadcastInDim S12x1 ![0] bcast_S12_S12x1_0 (a1 m c)))
        (sitofp .f32 (constantI S_ 32 0#32)) pads_S12x128_S16x128_040_000 h_S_ := rfl

theorem blk0 (c : Dev nD) (t : Fin cfg0.N) (r : Fin 128) (k : Fin 768) :
    (X0_0 m c t : FVec Ideal S128x768 .bf16) (ix2 r k)
      = (a0 m c (ix2 ⟨t.val * 128 + r.val, by have := lt64 t; omega⟩ ⟨k.val, by omega⟩) : EReal) := by
  unfold X0_0 Pipeline.Window.fill
  rw [dif_pos (moved0_0 t _)]
  unfold iblk
  rw [View.read_apply]
  show V m c main_arg0 _ = _
  rw [V_main_arg0]
  congr 1
  funext a
  apply Fin.ext
  match a with
  | ⟨0, _⟩ => show win0_0.index t 0 * 128 + 1 * r.val = t.val * 128 + r.val; rw [(index0 t).1]; omega
  | ⟨1, _⟩ => show win0_0.index t 1 * 768 + 1 * k.val = k.val; rw [(index0 t).2]; omega

theorem blk1 (c : Dev nD) (t : Fin cfg0.N) (r : Fin 128) (k : Fin 128) :
    (iblk m c 1 t : FVec Ideal S128x128 .bf16) (ix2 r k) = (a0 m c (ix2 ⟨(t.val - 1) * 128 + r.val, by have := lt64 t; omega⟩ ⟨768 + k.val, by omega⟩) : EReal) := by
  unfold iblk
  rw [View.read_apply]
  show V m c main_arg0 _ = _
  rw [V_main_arg0]
  congr 1
  funext a
  apply Fin.ext
  match a with
  | ⟨0, _⟩ => show win0_1.index t 0 * 128 + 1 * r.val = (t.val - 1) * 128 + r.val; rw [(index1 t).1]; omega
  | ⟨1, _⟩ => show win0_1.index t 1 * 128 + 1 * k.val = 768 + k.val; rw [(index1 t).2]; omega

theorem blk2 (c : Dev nD) (t : Fin cfg0.N) (r : Fin 128) (k : Fin 128) :
    (iblk m c 2 t : FVec Ideal S128x128 .bf16) (ix2 r k) = (a0 m c (ix2 ⟨t.val * 128 + r.val, by have := lt64 t; omega⟩ ⟨768 + k.val, by omega⟩) : EReal) := by
  unfold iblk
  rw [View.read_apply]
  show V m c main_arg0 _ = _
  rw [V_main_arg0]
  congr 1
  funext a
  apply Fin.ext
  match a with
  | ⟨0, _⟩ => show win0_2.index t 0 * 128 + 1 * r.val = t.val * 128 + r.val; rw [(index2 t).1]; omega
  | ⟨1, _⟩ => show win0_2.index t 1 * 128 + 1 * k.val = 768 + k.val; rw [(index2 t).2]; omega

theorem blk3 (c : Dev nD) (t : Fin cfg0.N) (r : Fin 128) (k : Fin 128) :
    (iblk m c 3 t : FVec Ideal S128x128 .bf16) (ix2 r k) = (a0 m c (ix2 ⟨(t.val - 1) * 128 + r.val, by have := lt64 t; omega⟩ ⟨896 + k.val, by omega⟩) : EReal) := by
  unfold iblk
  rw [View.read_apply]
  show V m c main_arg0 _ = _
  rw [V_main_arg0]
  congr 1
  funext a
  apply Fin.ext
  match a with
  | ⟨0, _⟩ => show win0_3.index t 0 * 128 + 1 * r.val = (t.val - 1) * 128 + r.val; rw [(index3 t).1]; omega
  | ⟨1, _⟩ => show win0_3.index t 1 * 128 + 1 * k.val = 896 + k.val; rw [(index3 t).2]; omega

theorem blk4 (c : Dev nD) (t : Fin cfg0.N) (r : Fin 128) (k : Fin 128) :
    (iblk m c 4 t : FVec Ideal S128x128 .bf16) (ix2 r k) = (a0 m c (ix2 ⟨t.val * 128 + r.val, by have := lt64 t; omega⟩ ⟨896 + k.val, by omega⟩) : EReal) := by
  unfold iblk
  rw [View.read_apply]
  show V m c main_arg0 _ = _
  rw [V_main_arg0]
  congr 1
  funext a
  apply Fin.ext
  match a with
  | ⟨0, _⟩ => show win0_4.index t 0 * 128 + 1 * r.val = t.val * 128 + r.val; rw [(index4 t).1]; omega
  | ⟨1, _⟩ => show win0_4.index t 1 * 128 + 1 * k.val = 896 + k.val; rw [(index4 t).2]; omega

theorem blk5 (c : Dev nD) (t : Fin cfg0.N) (r : Fin 128) (k : Fin 256) :
    (iblk m c 5 t : FVec Ideal S128x256 .bf16) (ix2 r k) = (a0 m c (ix2 ⟨t.val * 128 + r.val, by have := lt64 t; omega⟩ ⟨1024 + k.val, by omega⟩) : EReal) := by
  unfold iblk
  rw [View.read_apply]
  show V m c main_arg0 _ = _
  rw [V_main_arg0]
  congr 1
  funext a
  apply Fin.ext
  match a with
  | ⟨0, _⟩ => show win0_5.index t 0 * 128 + 1 * r.val = t.val * 128 + r.val; rw [(index5 t).1]; omega
  | ⟨1, _⟩ => show win0_5.index t 1 * 256 + 1 * k.val = 1024 + k.val; rw [(index5 t).2]; omega

theorem blk7 (c : Dev nD) (t : Fin cfg0.N) (r : Fin 256) (k : Fin 256) :
    (iblk m c 7 t : FVec Ideal S256x256 .bf16) (ix2 r k) = (a2 m c (ix2 r ⟨k.val, by omega⟩) : EReal) := by
  unfold iblk
  rw [View.read_apply]
  show V m c main_arg2 _ = _
  rw [V_main_arg2]
  congr 1
  funext a
  apply Fin.ext
  match a with
  | ⟨0, _⟩ => show win0_7.index t 0 * 256 + 1 * r.val = r.val; rw [(index7 t).1]; omega
  | ⟨1, _⟩ => show win0_7.index t 1 * 256 + 1 * k.val = k.val; rw [(index7 t).2]; omega

theorem blk8 (c : Dev nD) (t : Fin cfg0.N) (r : Fin 256) (k : Fin 256) :
    (iblk m c 8 t : FVec Ideal S256x256 .bf16) (ix2 r k) = (a2 m c (ix2 r ⟨256 + k.val, by omega⟩) : EReal) := by
  unfold iblk
  rw [View.read_apply]
  show V m c main_arg2 _ = _
  rw [V_main_arg2]
  congr 1
  funext a
  apply Fin.ext
  match a with
  | ⟨0, _⟩ => show win0_8.index t 0 * 256 + 1 * r.val = r.val; rw [(index8 t).1]; omega
  | ⟨1, _⟩ => show win0_8.index t 1 * 256 + 1 * k.val = 256 + k.val; rw [(index8 t).2]; omega

theorem blk6 (c : Dev nD) (t : Fin cfg0.N) (h : Fin 12) (k : Fin 128) :
    (iblk m c 6 t : FVec Ideal S16x128 .f32) (ix2 ⟨h.val, by omega⟩ k) = a1 m c (ix1 h) := by
  have e : (iblk m c 6 t : FVec Ideal S16x128 .f32) = V m c main_v2 := by
    funext j
    unfold iblk
    rw [View.read_apply]
    show V m c main_v2 _ = _
    congr 1
    funext a
    apply Fin.ext
    match a with
    | ⟨0, _⟩ => show win0_6.index t 0 * 16 + 1 * (j 0).val = (j 0).val; rw [(index6 t).1]; omega
    | ⟨1, _⟩ => show win0_6.index t 1 * 128 + 1 * (j 1).val = (j 1).val; rw [(index6 t).2]; omega
  rw [e, V2]
  fin_cases h <;> pointwise []

/-- The attention of a point's blocks is the arguments' at its rows. -/
theorem swa_eq (c : Dev nD) (t : Fin cfg0.N) (g : Fin 2) :
    swa (X0_0 m c t) (iblk m c 1 t) (iblk m c 2 t) (iblk m c 3 t) (iblk m c 4 t) (iblk m c 6 t) (BitVec.ofNat 32 (grid0.coords t 0).val) g
      = attention (a0 m c) (a1 m c) ⟨t.val, lt64 t⟩ g := by
  refine swa_ext _ _ (fun i r k => (swa_q _ _ _ _ _ _ _ g i r k).trans (blk0 m c t r _)) (fun r k => (swa_k _ _ _ _ _ _ _ g r k).trans ?_)
    (fun r k => (swa_v _ _ _ _ _ _ _ g r k).trans ?_) (fun h _ _ => (swa_sink _ _ _ _ _ _ _ g h _ _).trans (blk6 m c t ⟨6 * g + h, by omega⟩ _)) ?_
  · rw [blk1, blk2]
    rfl
  · rw [blk3, blk4]
    rfl
  · rw [coords0 t]
    fin_cases g <;> rfl

/-- The pairs of memory heads of a point's blocks are the arguments' at its rows. -/
theorem memory_eq (c : Dev nD) (t : Fin cfg0.N) (j : Fin 2) :
    memory (iblk m c 5 t) (iblk m c 7 t) (iblk m c 8 t) Cert.Kernel17Ideal.Blocks.noCt j
      = Cert.RefPair.pair (moved (a0 m c)) Cert.Kernel17Ideal.Blocks.noCts (a2 m c) ⟨t.val, lt64 t⟩ j :=
  pair_ext _ _ (fun r k => (memory_q _ _ _ _ j r k).trans ((blk5 m c t r _).trans
      (congrArg (fun l => (a0 m c (ix2 ⟨t.val * 128 + r.val, by have := lt64 t; omega⟩ l) : EReal)) (Fin.ext (show 1024 + (j.val * 128 + k.val) = 1536 + (j.val * 128 + k.val) - 512 by omega)))))
    (fun r k => (memory_k _ _ _ _ j r k).trans (blk7 m c t r _))
    (fun r k => (memory_v _ _ _ _ j r k).trans (blk8 m c t r _)) (fun r k => memory_ct _ _ _ _ j r k)

/-- What a point leaves in its block, of the arguments' attention and memory at its rows. -/
theorem rows (c : Dev nD) (t : Fin cfg0.N) :
    (dats m 0 c).flushed 9 t = attended (attention (a0 m c) (a1 m c) ⟨t.val, lt64 t⟩)
      (Cert.RefPair.pair (moved (a0 m c)) Cert.Kernel17Ideal.Blocks.noCts (a2 m c) ⟨t.val, lt64 t⟩) := by
  rw [Value.flushed9_A, out_A_9 (x9 := Cert.Kernel17Ideal.Blocks.noCt)]
  exact congrArg₂ attended (funext (swa_eq m c t)) (funext (memory_eq m c t))

/-- The result, row by row of a point's block. -/
theorem arr9 (c : Dev nD) (n : Fin 64) (r : Fin 128) (k : Fin 1024) :
    ((dats m 0 c).arrAt 9 cfg0.N : FVec Ideal S8192x1024 .bf16) (ix2 ⟨n * 128 + r, by omega⟩ k)
      = attended (attention (a0 m c) (a1 m c) n) (Cert.RefPair.pair (moved (a0 m c)) Cert.Kernel17Ideal.Blocks.noCts (a2 m c) n) (ix2 r k) := by
  have hn : n.val < cfg0.N := lt_of_lt_of_eq n.isLt (by decide +kernel)
  have h := congrFun (Value.blocks9 m c ⟨n, hn⟩ (flush0_9 _)) (ix2 r k)
  rw [View.read_apply, rows] at h
  refine Eq.trans ?_ h
  show _ = ((dats m 0 c).arrAt 9 cfg0.N : FVec Ideal S8192x1024 .bf16) _
  congr 1
  funext a
  apply Fin.ext
  have hi := index9 ⟨n, hn⟩
  match a with
  | ⟨0, _⟩ => show n.val * 128 + r.val = win0_9.index _ 0 * 128 + 1 * r.val; rw [hi.1]; dsimp only; omega
  | ⟨1, _⟩ => show k.val = win0_9.index _ 1 * 1024 + 1 * k.val; rw [hi.2]; omega

end Cert.Kernel18Ideal.Blocks

end
-- ==== Proof.SwaMask.lean ====
/- Which of 256 keys a query of the attention mixer sees: the kernel's word for a lane and the reference's for a row are
   the same bit. -/
module

public import proofs.«01_k».proof.Proof.SwaBlocks
public import proofs.«01_k».proof.Proof.Gen.Reference18Ideal.Read

@[expose] public section

noncomputable section

namespace Cert.RefSwa

open Idealize.ShloMosaic Idealize.SL.Sem Cert.Reference18Ideal Cert.Reference18Ideal.Gen Cert.Reference18Ideal.Read
open Cert.KernelIdeal.Vocab hiding group pair
open Cert.Kernel18Ideal.Blocks (window attention moved)

/-- The lane of a query of head `2 * i + s`. -/
def lane (i : Fin 3) (s : Fin 2) (t : Fin 128) : Fin 768 := ⟨(2 * i + s) * 128 + t, by omega⟩
/-- The head of the six. -/
def hd (i : Fin 3) (s : Fin 2) : Fin 6 := ⟨2 * i + s, by omega⟩

/-! ## Which keys a query sees -/

/-- Whether query `t` of a block sees key `k`, where `b` says that there is a block before. -/
def sees (b : BitVec 1) (t : Fin 128) (k : Fin 256) : BitVec 1 :=
  IntOp.andi
    (IntOp.andi (IntOp.cmpi .sge (IntOp.subi (IntOp.addi (BitVec.ofNat 32 t.val) 128#32) (BitVec.ofNat 32 k.val)) 0#32)
      (IntOp.cmpi .slt (IntOp.subi (IntOp.addi (BitVec.ofNat 32 t.val) 128#32) (BitVec.ofNat 32 k.val)) 128#32))
    (IntOp.ori b (IntOp.cmpi .sge (BitVec.ofNat 32 k.val) 128#32))
/-- Whether there is a block before. -/
def later (n : Fin 64) : BitVec 1 := IntOp.cmpi .sgt (BitVec.ofNat 32 n.val) 0#32

theorem sees_first : ∀ (t : Fin 128) (k : Fin 256), k.val < 128 → sees 0#1 t k = 0#1 := by decide +kernel
theorem sees_own (b : BitVec 1) : ∀ t : Fin 128, sees b t ⟨128 + t, by omega⟩ = 1#1 := by
  revert b
  decide +kernel

theorem lane_word (i : Fin 3) (s : Fin 2) (t : Fin 128) : IntOp.andi (BitVec.ofNat 32 (lane i s t).val) 127#32 = BitVec.ofNat 32 t.val := by
  have h := (by decide +kernel : ∀ l : Fin 768, IntOp.andi (BitVec.ofNat 32 l.val) 127#32 = BitVec.ofNat 32 (l.val % 128)) (lane i s t)
  rw [h]
  congr 1
  show ((2 * i.val + s.val) * 128 + t.val) % 128 = t.val
  omega

theorem sees_eq : ∀ (b : BitVec 1) (t : Fin 128) (k : Fin 256),
    IntOp.ori
      (IntOp.andi (IntOp.andi (IntOp.cmpi .slt (BitVec.ofNat 32 k.val) 128#32) (IntOp.cmpi .sgt (BitVec.ofNat 32 k.val) (BitVec.ofNat 32 t.val))) b)
      (IntOp.andi (IntOp.cmpi .sge (BitVec.ofNat 32 k.val) 128#32) (IntOp.cmpi .sle (IntOp.subi (BitVec.ofNat 32 k.val) 128#32) (BitVec.ofNat 32 t.val)))
      = sees b t k := by decide +kernel

theorem mask_ker (n : Fin 64) (i : Fin 3) (s : Fin 2) (t : Fin 128) (k : Fin 256) :
    Cert.Kernel18Ideal.Gen.k0_pay41 (BitVec.ofNat 32 n.val) (ix2 k (lane i s t)) = sees (later n) t k := by
  pointwise [Cert.Kernel18Ideal.Gen.k0_pay41]
  rw [lane_word]
  exact sees_eq _ t k

theorem mask_ref (n : Fin 64) (t : Fin 128) (k : Fin 256) :
    val_main_v49 (F := Ideal) (ix3 n t k) = sees (later n) t k := by
  pointwise [val_main_v49, val_main_v48, val_main_v47, val_main_v46, val_main_v45, val_main_v44, val_main_v43, val_main_v42, val_main_v41, val_main_v40,
    val_main_v39, val_main_v38, val_main_v37, val_main_v36, val_main_v35, val_main_v34, val_main_v33, val_main_v32, val_main_v31, val_main_v30, val_main_v29,
    val_main_v28, val_main_v27, val_main_v26, val_main_v25, val_main_v24, val_main_v23, val_main_v22, val_main_c_1, val_main_c_2, val_main_c_3, val_main_c_4, val_main_c_5]
  rfl

end Cert.RefSwa

end
-- ==== Proof.SwaRef.lean ====
/- The reference's attention mixer, read at an index: block `n`'s heads `6 * g` to `6 * g + 5` of the reference compute
   what one head of keys and values of one grid point computes (`Vocab.Swa`), a query of head `6 * g + 2 * i + s` at lane
   `(2 * i + s) * 128 + t`. -/
module

public import proofs.«01_k».proof.Proof.SwaMask

@[expose] public section

noncomputable section

namespace Cert.RefSwa

open Idealize.ShloMosaic Idealize.SL.Sem Cert.Reference18Ideal Cert.Reference18Ideal.Gen Cert.Reference18Ideal.Read
open Cert.KernelIdeal.Vocab hiding group pair
open Cert.Kernel18Ideal.Blocks (window attention moved)

variable (x0 : (⟨S8192x1280, .bf16⟩ : BufTy).Contents (Elt Ideal)) (x1 : (⟨S12, .f32⟩ : BufTy).Contents (Elt Ideal))
  (x2 : (⟨S256x512, .bf16⟩ : BufTy).Contents (Elt Ideal))

/-- A key that can be seen: of the block itself, or of a block before. -/
def Real (n : Fin 64) (k : Fin 256) : Prop := 1 ≤ n.val ∨ 128 ≤ k.val

theorem unseen (n : Fin 64) (t : Fin 128) (k : Fin 256) (h : ¬Real n k) : sees (later n) t k = 0#1 := by
  unfold Real at h
  obtain rfl : n = 0 := by
    apply Fin.ext
    show n.val = 0
    omega
  exact sees_first t k (by omega)

/-! ## The scores -/

/-- Piece `k` of a concatenation of tiles along the rows. -/
theorem concat_rows (xs : List ((s : Shape) × (s.Idx → EReal))) (h : Shape.Concatenates (xs.map (·.1)) ⟨2, ![768, 128]⟩ 0)
    (k : Nat) (hk : k < xs.length) (x : Tile Ideal) (hx : xs[k] = ⟨Cert.KernelIdeal.S128x128, x⟩) (pre : Nat)
    (hpre : (((xs.take k).map (·.1)).map fun s => if h : s.rank = 2 then s.size ((0 : Fin 2).cast h.symm) else 0).sum = pre)
    (t c : Fin 128) (l : Fin 768) (hl : l.val = pre + t.val) :
    concatenate ⟨2, ![768, 128]⟩ 0 xs h (ix2 l c) = x (ix2 t c) :=
  concatenate_apply_piece 0 xs h (ix2 l c) k hk Cert.KernelIdeal.S128x128 x hx rfl pre hpre (ix2 t c)
    (fun b hb => by
      match b with
      | ⟨0, _⟩ => exact absurd rfl hb
      | ⟨1, _⟩ => rfl) hl.symm

/-- Piece `k` of a concatenation of rows of 128 lanes. -/
theorem concat_lines (xs : List ((s : Shape) × (s.Idx → EReal))) (h : Shape.Concatenates (xs.map (·.1)) ⟨2, ![1, 768]⟩ 1)
    (k : Nat) (hk : k < xs.length) (x : Row Ideal) (hx : xs[k] = ⟨Cert.KernelIdeal.S1x128, x⟩) (pre : Nat)
    (hpre : (((xs.take k).map (·.1)).map fun s => if h : s.rank = 2 then s.size ((1 : Fin 2).cast h.symm) else 0).sum = pre)
    (c : Fin 128) (l : Fin 768) (hl : l.val = pre + c.val) :
    concatenate ⟨2, ![1, 768]⟩ 1 xs h (ix2 0 l) = x (ix2 0 c) :=
  concatenate_apply_piece 1 xs h (ix2 0 l) k hk Cert.KernelIdeal.S1x128 x hx rfl pre hpre (ix2 0 c)
    (fun b hb => by
      match b with
      | ⟨0, _⟩ => rfl
      | ⟨1, _⟩ => exact absurd rfl hb) hl.symm

theorem lo_at (p : Swa Ideal) (i : Fin 3) (t c : Fin 128) : p.lo i (ix2 t c) = if c.val < 64 then p.q i (ix2 t c) else 0 := by
  pointwise [Swa.lo, low, tile]
  rw [Cert.RefPair.select_low]
theorem hi_at (p : Swa Ideal) (i : Fin 3) (t c : Fin 128) : p.hi i (ix2 t c) = if c.val < 64 then 0 else p.q i (ix2 t c) := by
  pointwise [Swa.hi, low, tile]
  rw [Cert.RefPair.select_low]

theorem lane_val (i : Fin 3) (s : Fin 2) (t : Fin 128) : (lane i s t).val = (2 * i.val + s.val) * 128 + t.val := rfl

set_option maxHeartbeats 2000000 in
theorem qs_low (p : Swa Ideal) (i : Fin 3) (t c : Fin 128) :
    (p.qs (ix2 (lane i 0 t) c) : EReal) = if c.val < 64 then p.q i (ix2 t c) else 0 := by
  rw [← lo_at]
  match i with
  | 0 => exact concat_rows _ (by exact Cert.Kernel18Ideal.Gen.concatenates_S128x128_S128x128_S128x128_S128x128_S128x128_S128x128_S768x128_d0) 0 (by simp) _ rfl 0 rfl t c _ (lane_val 0 0 t)
  | 1 => exact concat_rows _ (by exact Cert.Kernel18Ideal.Gen.concatenates_S128x128_S128x128_S128x128_S128x128_S128x128_S128x128_S768x128_d0) 2 (by simp) _ rfl 256 rfl t c _ (lane_val 1 0 t)
  | 2 => exact concat_rows _ (by exact Cert.Kernel18Ideal.Gen.concatenates_S128x128_S128x128_S128x128_S128x128_S128x128_S128x128_S768x128_d0) 4 (by simp) _ rfl 512 rfl t c _ (lane_val 2 0 t)

set_option maxHeartbeats 2000000 in
theorem qs_high (p : Swa Ideal) (i : Fin 3) (t c : Fin 128) :
    (p.qs (ix2 (lane i 1 t) c) : EReal) = if c.val < 64 then 0 else p.q i (ix2 t c) := by
  rw [← hi_at]
  match i with
  | 0 => exact concat_rows _ (by exact Cert.Kernel18Ideal.Gen.concatenates_S128x128_S128x128_S128x128_S128x128_S128x128_S128x128_S768x128_d0) 1 (by simp) _ rfl 128 rfl t c _ (lane_val 0 1 t)
  | 1 => exact concat_rows _ (by exact Cert.Kernel18Ideal.Gen.concatenates_S128x128_S128x128_S128x128_S128x128_S128x128_S128x128_S768x128_d0) 3 (by simp) _ rfl 384 rfl t c _ (lane_val 1 1 t)
  | 2 => exact concat_rows _ (by exact Cert.Kernel18Ideal.Gen.concatenates_S128x128_S128x128_S128x128_S128x128_S128x128_S128x128_S768x128_d0) 5 (by simp) _ rfl 640 rfl t c _ (lane_val 2 1 t)

theorem lanes_at (x : FVec Ideal Cert.Kernel18Ideal.S1x1 .f32) (c : Fin 128) : lanes x (ix2 0 c) = x (ix2 0 0) := by
  pointwise [lanes]

set_option maxHeartbeats 2000000 in
theorem sinks_at (p : Swa Ideal) (i : Fin 3) (s : Fin 2) (t : Fin 128) :
    p.sinks (ix2 0 (lane i s t)) = p.sink (hd i s) (ix2 0 0) := by
  refine Eq.trans ?_ (lanes_at (p.sink (hd i s)) t)
  match i, s with
  | 0, 0 => exact concat_lines _ (by exact Cert.Kernel18Ideal.Gen.concatenates_S1x128_S1x128_S1x128_S1x128_S1x128_S1x128_S1x768_d1) 0 (by simp) _ rfl 0 rfl t _ (lane_val 0 0 t)
  | 0, 1 => exact concat_lines _ (by exact Cert.Kernel18Ideal.Gen.concatenates_S1x128_S1x128_S1x128_S1x128_S1x128_S1x128_S1x768_d1) 1 (by simp) _ rfl 128 rfl t _ (lane_val 0 1 t)
  | 1, 0 => exact concat_lines _ (by exact Cert.Kernel18Ideal.Gen.concatenates_S1x128_S1x128_S1x128_S1x128_S1x128_S1x128_S1x768_d1) 2 (by simp) _ rfl 256 rfl t _ (lane_val 1 0 t)
  | 1, 1 => exact concat_lines _ (by exact Cert.Kernel18Ideal.Gen.concatenates_S1x128_S1x128_S1x128_S1x128_S1x128_S1x128_S1x768_d1) 3 (by simp) _ rfl 384 rfl t _ (lane_val 1 1 t)
  | 2, 0 => exact concat_lines _ (by exact Cert.Kernel18Ideal.Gen.concatenates_S1x128_S1x128_S1x128_S1x128_S1x128_S1x128_S1x768_d1) 4 (by simp) _ rfl 512 rfl t _ (lane_val 2 0 t)
  | 2, 1 => exact concat_lines _ (by exact Cert.Kernel18Ideal.Gen.concatenates_S1x128_S1x128_S1x128_S1x128_S1x128_S1x128_S1x768_d1) 5 (by simp) _ rfl 640 rfl t _ (lane_val 2 1 t)

theorem at_eq (r r' : Fin 8192) (l l' : Fin 1280) (hr : r.val = r'.val) (hl : l.val = l'.val) : (x0 (ix2 r l) : EReal) = x0 (ix2 r' l') := by
  obtain rfl := Fin.ext hr
  obtain rfl := Fin.ext hl
  rfl

theorem keys_at (n : Fin 64) (k : Fin 256) (g : Fin 2) (x : Fin 64) (h : Real n k) :
    val_main_v13 x0 (ix4 n k g x) = window x0 768 (by omega) n k ⟨g * 64 + x, by omega⟩ := by
  unfold Real at h
  pointwise [val_main_v13, val_main_v12, val_main_v11, val_main_v10, val_main_v7, val_main_v3, val_main_v0]
  unfold window
  by_cases hk : k.val < 128
  · refine (dif_pos hk).trans ((dif_pos ⟨by omega, hk⟩).trans (Eq.trans ?_ (if_pos hk).symm))
    exact at_eq x0 _ _ _ _ (by dsimp only; omega) (by dsimp only)
  · refine (dif_neg hk).trans (Eq.trans ?_ (if_neg hk).symm)
    exact at_eq x0 _ _ _ _ (by dsimp only; omega) (by dsimp only)

theorem values_at (n : Fin 64) (k : Fin 256) (g : Fin 2) (x : Fin 64) (h : Real n k) :
    val_main_v17 x0 (ix4 n k g x) = window x0 896 (by omega) n k ⟨g * 64 + x, by omega⟩ := by
  unfold Real at h
  pointwise [val_main_v17, val_main_v16, val_main_v15, val_main_v14, val_main_v8, val_main_v4, val_main_v0]
  unfold window
  by_cases hk : k.val < 128
  · refine (dif_pos hk).trans ((dif_pos ⟨by omega, hk⟩).trans (Eq.trans ?_ (if_pos hk).symm))
    exact at_eq x0 _ _ _ _ (by dsimp only; omega) (by dsimp only)
  · refine (dif_neg hk).trans (Eq.trans ?_ (if_neg hk).symm)
    exact at_eq x0 _ _ _ _ (by dsimp only; omega) (by dsimp only)

theorem select_zero (a b : EReal) : Scalar.select 0#1 a b = b := rfl

theorem sc_ref (n : Fin 64) (g : Fin 2) (h : Fin 6) (t : Fin 128) (k : Fin 256) :
    val_main_v51 x0 (ix5 n g h t k) = Scalar.select (sees (later n) t k)
      ((∑ x : Fin 64, val_main_v13 x0 (ix4 n k g x) * (x0 (ix2 ⟨n * 128 + t, by omega⟩ ⟨g * 384 + h * 64 + x, by omega⟩) : EReal))
        * Ideal.ofBits .f32 0x3E000000#32) ⊥ := by
  pointwise [val_main_v51, val_main_call2_v2, val_main_call2_v1, val_main_call2_v0, val_main_cst_6, val_main_v50, val_main_v21, val_main_v20, val_main_cst,
    val_main_v19, val_main_v18, val_main_v9, val_main_v6, val_main_v2, val_main_v0]
  rw [mask_ref]
  exact congrArg (Scalar.select _ _) Cert.RefPair.ofBits_bot

theorem sc_ker (n : Fin 64) (g : Fin 2) (i : Fin 3) (s : Fin 2) (t : Fin 128) (k : Fin 256) :
    (attention x0 x1 n g).sc (ix2 k (lane i s t)) = Scalar.select (sees (later n) t k)
      ((∑ x : Fin 64, window x0 768 (by omega) n k ⟨g * 64 + x, by omega⟩ * (x0 (ix2 ⟨n * 128 + t, by omega⟩ ⟨g * 384 + (hd i s).val * 64 + x, by have := (hd i s).isLt; omega⟩) : EReal))
        * Ideal.ofBits .f32 0x3E000000#32) ⊥ := by
  pointwise [Swa.sc, Swa.kb]
  rw [show (attention x0 x1 n g).mask (ix2 k (lane i s t)) = sees (later n) t k from mask_ker n i s t k]
  refine congrArg (fun y => Scalar.select (sees (later n) t k) (y * Ideal.ofBits .f32 0x3E000000#32) (⊥ : EReal)) ?_
  rw [Cert.RefPair.sum_lanes]
  rcases Cert.RefPair.half s with rfl | rfl
  · simp only [qs_low, Cert.RefPair.low_lt, Cert.RefPair.high_ge, ↓reduceIte, mul_zero, Finset.sum_const_zero, add_zero]
    refine Finset.sum_congr rfl fun x _ => congrArg₂ (· * ·) (congrArg (window x0 768 _ n k) (Fin.ext ?_)) (congrArg (fun c => (x0 (ix2 _ c) : EReal)) (Fin.ext ?_))
    · show g.val * 64 + x.val % 64 = g.val * 64 + x.val
      omega
    · show (3 * g.val + i.val) * 128 + x.val = g.val * 384 + (2 * i.val + 0) * 64 + x.val
      omega
  · simp only [qs_high, Cert.RefPair.low_lt, Cert.RefPair.high_ge, ↓reduceIte, mul_zero, Finset.sum_const_zero, zero_add]
    refine Finset.sum_congr rfl fun x _ => congrArg₂ (· * ·) (congrArg (window x0 768 _ n k) (Fin.ext ?_)) (congrArg (fun c => (x0 (ix2 _ c) : EReal)) (Fin.ext ?_))
    · show g.val * 64 + (64 + x.val) % 64 = g.val * 64 + x.val
      omega
    · show (3 * g.val + i.val) * 128 + (64 + x.val) = g.val * 384 + (2 * i.val + 1) * 64 + x.val
      omega

/-- The scores. -/
theorem sc (n : Fin 64) (g : Fin 2) (i : Fin 3) (s : Fin 2) (t : Fin 128) (k : Fin 256) :
    val_main_v51 x0 (ix5 n g (hd i s) t k) = (attention x0 x1 n g).sc (ix2 k (lane i s t)) := by
  rw [sc_ref, sc_ker]
  by_cases h : Real n k
  · simp only [keys_at x0 n k g _ h]
  · rw [unseen n t k h, select_zero, select_zero]

/-! ## The probabilities -/

theorem v54 (n : Fin 64) (g : Fin 2) (h : Fin 6) (t : Fin 128) : val_main_v54 x0 (ix4 n g h t) =
    Finset.univ.fold max (Ideal.ofBits .f32 0xFF800000#32) fun k => val_main_v51 x0 (ix5 n g h t k) := by
  pointwise [val_main_v54, val_main_cst_7]

theorem v55 (n : Fin 64) (g : Fin 2) (h : Fin 6) (t : Fin 128) : val_main_v55 x0 (ix5 n g h t 0) = val_main_v54 x0 (ix4 n g h t) := by
  rw [val_main_v55_apply]
  exact congrArg (val_main_v54 x0) (funext fun a => by match a with | ⟨0, _⟩ => rfl | ⟨1, _⟩ => rfl | ⟨2, _⟩ => rfl | ⟨3, _⟩ => rfl)

theorem v53 (i : S1x2x6x1x1.Idx) (g : Fin 2) (h : Fin 6) (hg : (i 1).val = g.val) (hh : (i 2).val = h.val) :
    val_main_v53 x1 i = x1 (ix1 ⟨g * 6 + h, by omega⟩) := by
  rw [val_main_v53_apply, val_main_v52_apply]
  refine congrArg x1 (funext fun a => ?_)
  match a with
  | ⟨0, _⟩ =>
    apply Fin.ext
    show (i 1).val * 6 + (i 2).val = g.val * 6 + h.val
    rw [hg, hh]

theorem v56 (n : Fin 64) (g : Fin 2) (h : Fin 6) (t : Fin 128) : val_main_v56 x1 (ix5 n g h t 0) = x1 (ix1 ⟨g * 6 + h, by omega⟩) := by
  rw [val_main_v56_apply]
  exact v53 x1 _ g h rfl rfl

theorem v63 (n : Fin 64) (g : Fin 2) (h : Fin 6) (t : Fin 128) : val_main_v63 x1 (ix5 n g h t 0) = x1 (ix1 ⟨g * 6 + h, by omega⟩) := by
  rw [val_main_v63_apply]
  exact v53 x1 _ g h rfl rfl

theorem mx_ref (n : Fin 64) (g : Fin 2) (h : Fin 6) (t : Fin 128) : val_main_v57 x0 x1 (ix5 n g h t 0) =
    max (Finset.univ.fold max (Ideal.ofBits .f32 0xFF800000#32) fun k => val_main_v51 x0 (ix5 n g h t k)) (x1 (ix1 ⟨g * 6 + h, by omega⟩)) := by
  rw [val_main_v57_apply, v55, v54, v56]
  rfl

theorem mx (n : Fin 64) (g : Fin 2) (i : Fin 3) (s : Fin 2) (t : Fin 128) :
    val_main_v57 x0 x1 (ix5 n g (hd i s) t 0) = (attention x0 x1 n g).mx (ix2 0 (lane i s t)) := by
  rw [mx_ref]
  pointwise [Swa.mx, keyMaxW]
  simp only [sc x0 x1, sinks_at]
  exact congrArg (max _) (congrArg (fun h => x1 (ix1 h)) (Fin.ext (by dsimp only; omega)))

theorem ex_ref (n : Fin 64) (g : Fin 2) (h : Fin 6) (t : Fin 128) (k : Fin 256) : val_main_v60 x0 x1 (ix5 n g h t k) =
    Ideal.exp (val_main_v51 x0 (ix5 n g h t k) - val_main_v57 x0 x1 (ix5 n g h t 0)) := by
  pointwise [val_main_v60, val_main_v59, val_main_v58]

theorem ex (n : Fin 64) (g : Fin 2) (i : Fin 3) (s : Fin 2) (t : Fin 128) (k : Fin 256) :
    val_main_v60 x0 x1 (ix5 n g (hd i s) t k) = (attention x0 x1 n g).ex (ix2 k (lane i s t)) := by
  rw [ex_ref, mx, sc x0 x1]
  pointwise [Swa.ex, overW]

theorem v61 (n : Fin 64) (g : Fin 2) (h : Fin 6) (t : Fin 128) : val_main_v61 x0 x1 (ix4 n g h t) =
    ∑ k, val_main_v60 x0 x1 (ix5 n g h t k) := by
  pointwise [val_main_v61, val_main_cst_8]

theorem v62 (n : Fin 64) (g : Fin 2) (h : Fin 6) (t : Fin 128) : val_main_v62 x0 x1 (ix5 n g h t 0) = val_main_v61 x0 x1 (ix4 n g h t) := by
  rw [val_main_v62_apply]
  exact congrArg (val_main_v61 x0 x1) (funext fun a => by match a with | ⟨0, _⟩ => rfl | ⟨1, _⟩ => rfl | ⟨2, _⟩ => rfl | ⟨3, _⟩ => rfl)

theorem den_ref (n : Fin 64) (g : Fin 2) (h : Fin 6) (t : Fin 128) : val_main_v66 x0 x1 (ix5 n g h t 0) =
    (∑ k, val_main_v60 x0 x1 (ix5 n g h t k)) + Ideal.exp (x1 (ix1 ⟨g * 6 + h, by omega⟩) - val_main_v57 x0 x1 (ix5 n g h t 0)) := by
  rw [val_main_v66_apply, v62, v61, val_main_v65_apply, val_main_v64_apply, v63]
  rfl

theorem den (n : Fin 64) (g : Fin 2) (i : Fin 3) (s : Fin 2) (t : Fin 128) :
    val_main_v66 x0 x1 (ix5 n g (hd i s) t 0) = (attention x0 x1 n g).den (ix2 0 (lane i s t)) := by
  rw [den_ref]
  pointwise [Swa.den, keySumW]
  simp only [ex, mx, sinks_at]
  exact congrArg (fun y => _ + Ideal.exp (y - _)) (congrArg (fun h => x1 (ix1 h)) (Fin.ext (by dsimp only; omega)))

/-- Every query's sum of exponentials is another number than zero. -/
def DenNe : Prop := ∀ (n : Fin 64) (g : Fin 2) (h : Fin 6) (t : Fin 128), val_main_v66 x0 x1 (ix5 n g h t 0) ≠ 0

end Cert.RefSwa

end
-- ==== Proof.MixA.lean ====
/- The attention mixer's forward call: its result is the reference's mixer of the same arguments, where no row of
   exponentials sums to zero; and that none does where the queries, the keys and the memory keys are finite and no sink is
   plus infinity. -/
module

public import proofs.«01_k».proof.Proof.SwaRef
public import proofs.«01_k».proof.Pre_swa_finite

@[expose] public section

noncomputable section

namespace Cert.RefSwa

open Idealize.ShloMosaic Idealize.SL.Sem Cert.Reference18Ideal Cert.Reference18Ideal.Gen Cert.Reference18Ideal.Read
open Cert.KernelIdeal.Vocab hiding group pair
open Cert.Kernel18Ideal.Blocks (window attention moved)
open Cert.Kernel17Ideal.Blocks (noCts)

variable (x0 : (⟨S8192x1280, .bf16⟩ : BufTy).Contents (Elt Ideal)) (x1 : (⟨S12, .f32⟩ : BufTy).Contents (Elt Ideal))
  (x2 : (⟨S256x512, .bf16⟩ : BufTy).Contents (Elt Ideal))

/-! ## The attention's columns -/

/-- A probability: an exponential over its query's sum. -/
theorem v68 (n : Fin 64) (g : Fin 2) (h : Fin 6) (t : Fin 128) (k : Fin 256) : val_main_v68 x0 x1 (ix5 n g h t k) =
    Ideal.div (val_main_v60 x0 x1 (ix5 n g h t k)) (val_main_v66 x0 x1 (ix5 n g h t 0)) := by
  rw [val_main_v68_apply, val_main_v67_apply]
  exact congrArg (fun i => Ideal.div (val_main_v60 x0 x1 (ix5 n g h t k)) (val_main_v66 x0 x1 i))
    (funext fun a => by match a with | ⟨0, _⟩ => rfl | ⟨1, _⟩ => rfl | ⟨2, _⟩ => rfl | ⟨3, _⟩ => rfl | ⟨4, _⟩ => rfl)

theorem v71 (n : Fin 64) (g : Fin 2) (h : Fin 6) (t : Fin 128) (x : Fin 64) :
    val_main_v71 x0 x1 (ix2 ⟨n * 128 + t, by omega⟩ ⟨g * 384 + h * 64 + x, by omega⟩) =
      ∑ k, val_main_v17 x0 (ix4 n k g x) * val_main_v68 x0 x1 (ix5 n g h t k) := by
  pointwise [val_main_v71, val_main_v70, val_main_v69]

variable {x0 x1}

/-- A probability's product with its value. -/
theorem term (D : DenNe x0 x1) (n : Fin 64) (g : Fin 2) (i : Fin 3) (s : Fin 2) (t : Fin 128) (x : Fin 64) (k : Fin 256) :
    (val_main_v17 x0 (ix4 n k g x) * val_main_v68 x0 x1 (ix5 n g (hd i s) t k) : EReal) =
      (attention x0 x1 n g).ex (ix2 k (lane i s t)) * Ideal.div 1 ((attention x0 x1 n g).den (ix2 0 (lane i s t)))
        * window x0 896 (by omega) n k ⟨g * 64 + x, by omega⟩ := by
  rw [mul_comm, v68, Cert.RefPair.div_eq_mul _ _ (D n g (hd i s) t), den]
  by_cases h : Real n k
  · rw [values_at x0 n k g x h, ex]
  · have e : val_main_v60 x0 x1 (ix5 n g (hd i s) t k) = 0 := by
      rw [ex_ref, sc_ref, unseen n t k h, select_zero, EReal.bot_sub]
      rfl
    rw [← ex, e, zero_mul, zero_mul, zero_mul]

theorem av_at (p : Swa Ideal) (l : Fin 768) (c : Fin 128) :
    p.av (ix2 l c) = ∑ k, p.ex (ix2 k l) * Ideal.div 1 (p.den (ix2 0 l)) * p.v (ix2 k c) := by
  pointwise [Swa.av, Swa.prob, Swa.vb, overW]

theorem out_at (p : Swa Ideal) (i : Fin 3) (t c : Fin 128) :
    p.out i (ix2 t c) = if c.val < 64 then p.av (ix2 (lane i 0 t) c) else p.av (ix2 (lane i 1 t) c) := by
  match i with
  | 0 =>
    unfold Swa.out
    pointwise [low]
    rw [Cert.RefPair.select_low]
    exact if_congr Iff.rfl (congrArg (fun l => p.av (ix2 l c)) (Fin.ext (by simp [lane_val]))) (congrArg (fun l => p.av (ix2 l c)) (Fin.ext (by simp [lane_val])))
  | 1 =>
    unfold Swa.out
    pointwise [low]
    rw [Cert.RefPair.select_low]
    exact if_congr Iff.rfl (congrArg (fun l => p.av (ix2 l c)) (Fin.ext (by simp [lane_val]))) (congrArg (fun l => p.av (ix2 l c)) (Fin.ext (by simp [lane_val])))
  | 2 =>
    unfold Swa.out
    pointwise [low]
    rw [Cert.RefPair.select_low]
    exact if_congr Iff.rfl (congrArg (fun l => p.av (ix2 l c)) (Fin.ext (by simp [lane_val]))) (congrArg (fun l => p.av (ix2 l c)) (Fin.ext (by simp [lane_val])))

/-- The reference's columns of one head. -/
theorem head_at (D : DenNe x0 x1) (n : Fin 64) (g : Fin 2) (i : Fin 3) (s : Fin 2) (t : Fin 128) (x : Fin 64) (c : Fin 128) (hc : c.val = s.val * 64 + x.val) :
    (val_main_v71 x0 x1 (ix2 ⟨n * 128 + t, by omega⟩ ⟨(3 * g + i) * 128 + c, by omega⟩) : EReal) = (attention x0 x1 n g).av (ix2 (lane i s t) c) := by
  have e : (⟨(3 * g.val + i.val) * 128 + c.val, by omega⟩ : Fin 768) = ⟨g.val * 384 + (hd i s).val * 64 + x.val, by have := (hd i s).isLt; omega⟩ := by
    apply Fin.ext
    show (3 * g.val + i.val) * 128 + c.val = g.val * 384 + (2 * i.val + s.val) * 64 + x.val
    omega
  rw [e, v71, av_at]
  refine Finset.sum_congr rfl fun k _ => (term D n g i s t x k).trans (congrArg (_ * ·) (congrArg (window x0 896 _ n k) (Fin.ext ?_)))
  show g.val * 64 + x.val = g.val * 64 + c.val % 64
  omega

/-- The reference's attention columns. -/
theorem ref_swa (D : DenNe x0 x1) (n : Fin 64) (g : Fin 2) (i : Fin 3) (t c : Fin 128) :
    (val_main_v95 x0 x1 x2 (ix2 ⟨n * 128 + t, by omega⟩ ⟨(3 * g + i) * 128 + c, by omega⟩) : EReal) = (attention x0 x1 n g).out i (ix2 t c) := by
  have e : (val_main_v95 x0 x1 x2 (ix2 ⟨n * 128 + t, by omega⟩ ⟨(3 * g + i) * 128 + c, by omega⟩) : EReal)
      = val_main_v71 x0 x1 (ix2 ⟨n * 128 + t, by omega⟩ ⟨(3 * g + i) * 128 + c, by omega⟩) := by
    pointwise [val_main_v95, val_main_v94]
    rw [dif_pos (by omega)]
  rw [e, out_at]
  by_cases h : c.val < 64
  · rw [if_pos h]
    exact head_at D n g i 0 t ⟨c, h⟩ c (by simp)
  · rw [if_neg h]
    exact head_at D n g i 1 t ⟨c - 64, by omega⟩ c (by simp; omega)

/-! ## The memory's columns -/

theorem memory_q : val_main_v5 (F := Ideal) x0 = Cert.ReferenceIdeal.Read.val_main_v3 (F := Ideal) (moved x0) := by
  funext i
  obtain ⟨r, k, hi⟩ : ∃ (r : Fin 8192) (k : Fin 256), i = ix2 r k := ⟨i 0, i 1, eq_ix2 i⟩
  subst hi
  pointwise [val_main_v5, val_main_v0, Cert.ReferenceIdeal.Read.val_main_v3, Cert.ReferenceIdeal.Read.val_main_v0]
  exact congrArg (fun c => (x0 (ix2 r c) : EReal)) (Fin.ext (show 1024 + k.val = 1536 + k.val - 512 by omega))

theorem ref_prob : val_main_v90 (F := Ideal) x0 x2 = Cert.ReferenceIdeal.Read.val_main_v102 (F := Ideal) (moved x0) x2 := by
  unfold val_main_v90 val_main_v89 val_main_v88 val_main_v87 val_main_v86 val_main_v85 val_main_v84 val_main_v83 val_main_v82 val_main_v80 val_main_v79 val_main_v77 val_main_v72
  rw [memory_q]
  rfl

/-- The reference's memory columns. -/
theorem ref_pair (D : Cert.RefPair.DenNe (moved x0) x2) (n : Fin 64) (j : Fin 2) (t c : Fin 128) :
    (val_main_v95 x0 x1 x2 (ix2 ⟨n * 128 + t, by omega⟩ ⟨768 + (j * 128 + c), by omega⟩) : EReal)
      = (Cert.RefPair.pair (moved x0) noCts x2 n j).out (ix2 t c) := by
  have e : (val_main_v95 x0 x1 x2 (ix2 ⟨n * 128 + t, by omega⟩ ⟨768 + (j * 128 + c), by omega⟩) : EReal)
      = val_main_v93 x0 x2 (ix2 ⟨n * 128 + t, by omega⟩ ⟨j * 128 + c, by omega⟩) := by
    pointwise [val_main_v95, val_main_v94]
  rw [e]
  pointwise [val_main_v93, val_main_v92, val_main_v91, val_main_v76, val_main_v74, val_main_v1, Pair.out, Pair.av, Pair.prob, Pair.vb, Pair.rec1,
    low, over, lineOf]
  rw [Cert.RefPair.select_low, ref_prob]
  by_cases h : c.val < 64
  · rw [if_pos h]
    exact Finset.sum_congr rfl fun k _ => (mul_comm _ _).trans (congrArg₂ (· * ·) (Cert.RefPair.prob_at noCts D n j 0 t k _ _ (by simp; omega) (by simp))
      (congrArg (fun c => (x2 (ix2 k c) : EReal)) (Fin.ext (by simp; omega))))
  · rw [if_neg h]
    exact Finset.sum_congr rfl fun k _ => (mul_comm _ _).trans (congrArg₂ (· * ·) (Cert.RefPair.prob_at noCts D n j 1 t k _ _ (by simp; omega) (by simp))
      (congrArg (fun c => (x2 (ix2 k c) : EReal)) (Fin.ext (by simp; omega))))

/-! ## The condition -/

/-- Where every query and every key is a real number, so is every score that counts, and where no sink is plus infinity
    a query's score with its own key is a real number below its largest: that key's exponential is above zero. -/
theorem denNe (hx : ∀ (r : Fin 8192) (c : Fin 896), ∃ y : ℝ, (x0 (ix2 r ⟨c, by omega⟩) : EReal) = y) (hs : ∀ h, x1 (ix1 h) < (⊤ : EReal)) : DenNe x0 x1 := by
  intro n g h t
  have hreal : ∀ k, Real n k → ∃ y : ℝ, (∑ x : Fin 64, val_main_v13 x0 (ix4 n k g x) * (x0 (ix2 ⟨n * 128 + t, by omega⟩ ⟨g * 384 + h * 64 + x, by omega⟩) : EReal))
      * Ideal.ofBits .f32 0x3E000000#32 = y := by
    intro k hk
    refine Cert.RefPair.mul_real (Cert.RefPair.sum_real fun x => Cert.RefPair.mul_real ?_ (hx _ ⟨g * 384 + h * 64 + x, by omega⟩)) ⟨1 / 8, ?_⟩
    · rw [keys_at x0 n k g x hk]
      unfold window
      split
      · exact hx _ ⟨768 + (g * 64 + x), by omega⟩
      · exact hx _ ⟨768 + (g * 64 + x), by omega⟩
    · simp [Ideal.ofBits, Ideal.ieee, -EReal.coe_mul]
      norm_num
  have hbit : ∀ b : BitVec 1, b = 0#1 ∨ b = 1#1 := by decide
  have hlt : ∀ k, val_main_v51 x0 (ix5 n g h t k) < ⊤ := by
    intro k
    rw [sc_ref]
    rcases hbit (sees (later n) t k) with e | e
    · rw [e]
      exact bot_lt_top
    · have hk : Real n k := by
        by_contra hk
        rw [unseen n t k hk] at e
        exact absurd e (by decide)
      obtain ⟨y, hy⟩ := hreal k hk
      rw [e, hy]
      exact EReal.coe_lt_top y
  obtain ⟨y, hy⟩ := hreal ⟨128 + t, by omega⟩ (.inr (by simp))
  have hown : val_main_v51 x0 (ix5 n g h t ⟨128 + t, by omega⟩) = y := by
    rw [sc_ref, sees_own, hy]
    rfl
  have hm : val_main_v57 x0 x1 (ix5 n g h t 0) < ⊤ := by
    rw [mx_ref, Cert.RefPair.ofBits_bot]
    exact max_lt ((Finset.fold_max_lt _).2 ⟨bot_lt_top, fun k _ => hlt k⟩) (hs _)
  have hm' : (y : EReal) ≤ val_main_v57 x0 x1 (ix5 n g h t 0) := by
    rw [mx_ref]
    exact le_max_of_le_left ((Finset.le_fold_max _).2 (.inr ⟨_, Finset.mem_univ _, hown.ge⟩))
  rw [den_ref]
  have hpos : 0 < val_main_v60 x0 x1 (ix5 n g h t ⟨128 + t, by omega⟩) := by
    rw [ex_ref, hown]
    generalize val_main_v57 x0 x1 (ix5 n g h t 0) = m at hm hm'
    induction m using EReal.rec with
    | bot => exact absurd hm' (by simp)
    | top => exact absurd hm (by simp)
    | coe z =>
      rw [← EReal.coe_sub, Ideal.exp_coe]
      exact EReal.coe_pos.2 (Real.exp_pos _)
  have hsum := Finset.single_le_sum (f := fun k => val_main_v60 x0 x1 (ix5 n g h t k))
    (fun k _ => by rw [ex_ref]; exact Cert.RefPair.exp_nonneg _) (Finset.mem_univ ⟨128 + t, by omega⟩)
  exact (lt_of_lt_of_le hpos (hsum.trans (le_add_of_nonneg_right (Cert.RefPair.exp_nonneg _)))).ne'

end Cert.RefSwa

namespace Cert.Kernel18Ideal.Blocks

open Idealize.ShloMosaic Idealize.ShloMosaic.TcCoe Idealize.SL.Sem Cert.Kernel18Ideal Cert.Kernel18Ideal.Gen
open Cert.Reference18Ideal.Read
open Cert.KernelIdeal.Vocab Cert.KernelIdeal.Blocks

variable (m : (ℓ : Loc nD τ sig) → Buf (Elt Ideal) ℓ)

/-- The result, where no row of exponentials sums to zero. -/
theorem eq9 (c : Dev nD) (D : Cert.RefSwa.DenNe (a0 m c) (a1 m c)) (D' : Cert.RefPair.DenNe (moved (a0 m c)) (a2 m c)) :
    (dats m 0 c).arrAt 9 cfg0.N = val_main_v95 (F := Ideal) (a0 m c) (a1 m c) (a2 m c) := by
  funext i
  obtain ⟨r, k, hi⟩ : ∃ (r : Fin 8192) (k : Fin 1024), i = ix2 r k := ⟨i 0, i 1, eq_ix2 i⟩
  subst hi
  obtain ⟨n, t, rfl⟩ : ∃ (n : Fin 64) (t : Fin 128), r = ⟨n * 128 + t, by omega⟩ :=
    ⟨⟨r.val / 128, by omega⟩, ⟨r.val % 128, by omega⟩, Fin.ext (by dsimp only; omega)⟩
  obtain ⟨k, hk⟩ := k
  by_cases h : k < 768
  · obtain ⟨g, j, l, rfl⟩ : ∃ (g : Fin 2) (j : Fin 3) (l : Fin 128), k = (3 * g + j) * 128 + l :=
      ⟨⟨k / 384, by omega⟩, ⟨k / 128 % 3, by omega⟩, ⟨k % 128, by omega⟩, by dsimp only; omega⟩
    rw [arr9, attended_swa]
    exact (Cert.RefSwa.ref_swa _ D n g j t l).symm
  · obtain ⟨j, l, rfl⟩ : ∃ (j : Fin 2) (l : Fin 128), k = 768 + (j * 128 + l) :=
      ⟨⟨(k - 768) / 128, by omega⟩, ⟨(k - 768) % 128, by omega⟩, by dsimp only; omega⟩
    rw [arr9, attended_pair]
    exact (Cert.RefSwa.ref_pair _ D' n j t l).symm

/-! ## The precondition -/

theorem facts_swa_finite : Cert.Pre_swa_finite.Facts :=
  ⟨by decide, by decide, by decide, by decide, by decide, by decide, by decide, by decide⟩

/-- A number below the bits of infinity is below infinity. -/
theorem lt_top_of_lt (x : EReal) (h : BitVec.ofBool (decide (x < Ideal.ofBits .f32 0x7F800000#32)) = 1#1) : x < ⊤ := by
  have h' : x < Ideal.ofBits .f32 0x7F800000#32 := by
    by_contra hn
    rw [decide_eq_false hn] at h
    exact absurd h (by decide)
  rwa [show Ideal.ofBits .f32 0x7F800000#32 = ⊤ by simp [Ideal.ofBits, Ideal.ieee]] at h'

section
variable (x0 : FVec Ideal S8192x1280 .bf16) (x1 : FVec Ideal S12 .f32) (x2 : FVec Ideal S256x512 .bf16)

/-- Where the queries and keys are finite and no sink is plus infinity, no row of exponentials of the attention sums to zero. -/
theorem den_swa (h : (@Cert.Pre_swa_finite.fn facts_swa_finite Ideal _ x0 x1 x2).1 = fun _ => 1#1)
    (h' : (@Cert.Pre_swa_finite.fn facts_swa_finite Ideal _ x0 x1 x2).2.2.2 = fun _ => 1#1) : Cert.RefSwa.DenNe x0 x1 := by
  refine Cert.RefSwa.denNe (fun r k => real_of_lt _ ?_) (fun k => lt_top_of_lt _ ?_)
  · have := congrFun h (ix2 r k)
    revert this
    pointwise [Cert.Pre_swa_finite.fn]
    exact id
  · have := congrFun h' (ix1 k)
    revert this
    pointwise [Cert.Pre_swa_finite.fn]
    exact id

/-- Where the memory's queries and keys are finite, no row of its exponentials sums to zero. -/
theorem den_memory (h : (@Cert.Pre_swa_finite.fn facts_swa_finite Ideal _ x0 x1 x2).2.1 = fun _ => 1#1)
    (h' : (@Cert.Pre_swa_finite.fn facts_swa_finite Ideal _ x0 x1 x2).2.2.1 = fun _ => 1#1) : Cert.RefPair.DenNe (moved x0) x2 := by
  refine Cert.RefPair.denNe (fun r k => real_of_lt _ ?_) (fun r k => real_of_lt _ ?_)
  · have := congrFun h (ix2 r k)
    revert this
    pointwise [Cert.Pre_swa_finite.fn]
    intro this
    rw [show (moved x0 (ix2 r ⟨1536 + k.val, by omega⟩) : EReal) = x0 (ix2 r ⟨1024 + k.val, by omega⟩) from
      congrArg (fun l => (x0 (ix2 r l) : EReal)) (Fin.ext (show 1536 + k.val - 512 = 1024 + k.val by omega))]
    exact this
  · have := congrFun h' (ix2 r k)
    revert this
    pointwise [Cert.Pre_swa_finite.fn]
    exact id
end

end Cert.Kernel18Ideal.Blocks

end
-- ==== Proof.Memory.lean ====
/- The calls on the memory's tokens: their norm, and the product that gives the keys and values, forward and backward. Each
   has a single grid point, so its result is what that point leaves. -/
module

public import proofs.«01_k».proof.Proof.Sums
public import Idealize.ShloMosaic.Lib.Pipeline.ReadBack
public import proofs.«01_k».proof.Proof.Gen.Kernel19Ideal.Value
public import proofs.«01_k».proof.Proof.Gen.Reference19Ideal.Read
public import proofs.«01_k».proof.Proof.Gen.Kernel20Ideal.Value
public import proofs.«01_k».proof.Proof.Gen.Reference20Ideal.Read
public import proofs.«01_k».proof.Proof.Gen.Kernel21Ideal.Value
public import proofs.«01_k».proof.Proof.Gen.Reference21Ideal.Read
public import proofs.«01_k».proof.Proof.Gen.Kernel22Ideal.Value
public import proofs.«01_k».proof.Proof.Gen.Reference22Ideal.Read
public import proofs.«01_k».proof.Proof.Gen.Kernel24Ideal.Value
public import proofs.«01_k».proof.Proof.Gen.Reference24Ideal.Read

@[expose] public section

noncomputable section

open Idealize.ShloMosaic Idealize.ShloMosaic.TcCoe Idealize.SL.Sem Cert.Sums

namespace Cert.Kernel19Ideal.Blocks

open Cert.Kernel19Ideal Cert.Kernel19Ideal.Gen Cert.Reference19Ideal.Read

/-- The gradient of the keys' and values' weights, in four planes, is the reference's. -/
theorem equal (x0 : FVec Ideal S256x1024 .bf16) (x1 : FVec Ideal S256x512 .f32) :
    Value.G2 (F := Ideal) x0 x1 = val_main_v13 (F := Ideal) x0 x1 := by
  funext i
  obtain ⟨j, d, k, rfl⟩ : ∃ (j : Fin 4) (d : Fin 256) (k : Fin 512), i = ix3 j d k := ⟨i 0, i 1, i 2, eq_ix3 i⟩
  unfold val_main_v13
  match j with
  | 0 =>
    refine Eq.trans ?_ (stack_apply _ _ 0 (by simp) (val_main_v9 (F := Ideal) x0 x1) rfl rfl 0 rfl d k).symm
    pointwise [k0_pay1, val_main_v9, val_main_v5, val_main_v4, val_main_v3, val_main_v1]
    exact Finset.sum_congr rfl fun r _ => mul_comm _ _
  | 1 =>
    refine Eq.trans ?_ (stack_apply _ _ 1 (by simp) (val_main_v10 (F := Ideal) x0 x1) rfl rfl 1 rfl d k).symm
    pointwise [k0_pay1, val_main_v10, val_main_v6, val_main_v4, val_main_v3, val_main_v1]
    exact Finset.sum_congr rfl fun r _ => mul_comm _ _
  | 2 =>
    refine Eq.trans ?_ (stack_apply _ _ 2 (by simp) (val_main_v11 (F := Ideal) x0 x1) rfl rfl 2 rfl d k).symm
    pointwise [k0_pay1, val_main_v11, val_main_v7, val_main_v4, val_main_v3, val_main_v1]
    exact Finset.sum_congr rfl fun r _ => mul_comm _ _
  | 3 =>
    refine Eq.trans ?_ (stack_apply _ _ 3 (by simp) (val_main_v12 (F := Ideal) x0 x1) rfl rfl 3 rfl d k).symm
    pointwise [k0_pay1, val_main_v12, val_main_v8, val_main_v4, val_main_v3, val_main_v1]
    exact Finset.sum_congr rfl fun r _ => mul_comm _ _

end Cert.Kernel19Ideal.Blocks

namespace Cert.Kernel20Ideal.Blocks

open Cert.Kernel20Ideal Cert.Kernel20Ideal.Gen Cert.Reference20Ideal.Read

/-- The gradient of the normed tokens is the reference's. -/
theorem equal (x0 : FVec Ideal S256x512 .f32) (x1 : FVec Ideal S1x1024x512 .bf16) (x2 : FVec Ideal S256x1024 .f32) :
    Value.G3 (F := Ideal) x0 x1 x2 = val_main_v5 (F := Ideal) x0 x1 x2 := by
  funext i
  obtain ⟨r, k, rfl⟩ : ∃ (r : Fin 256) (k : Fin 1024), i = ix2 r k := ⟨i 0, i 1, eq_ix2 i⟩
  pointwise [k0_pay1, val_main_v5, val_main_v4, val_main_v1, val_main_v0]
  rw [add_comm]

end Cert.Kernel20Ideal.Blocks

namespace Cert.Kernel21Ideal.Blocks

open Cert.Kernel21Ideal Cert.Kernel21Ideal.Gen Cert.Reference21Ideal.Read

/-- The keys and values are the reference's. -/
theorem equal (x0 : FVec Ideal S256x1024 .bf16) (x1 : FVec Ideal S1x1024x512 .bf16) :
    Value.G2 (F := Ideal) x0 x1 = val_main_v4 (F := Ideal) x0 x1 := by
  funext i
  obtain ⟨r, k, rfl⟩ : ∃ (r : Fin 256) (k : Fin 512), i = ix2 r k := ⟨i 0, i 1, eq_ix2 i⟩
  pointwise [k0_pay1, val_main_v4, val_main_v3, val_main_v2, val_main_v1, val_main_v0]

end Cert.Kernel21Ideal.Blocks

namespace Cert.Kernel22Ideal.Blocks

open Cert.Kernel22Ideal Cert.Kernel22Ideal.Gen Cert.Reference22Ideal.Read

theorem hz : (![0, 0] : Fin 2 → Nat) = fun _ => 0 := funext fun a => by fin_cases a <;> rfl

variable (m : (ℓ : Loc nD τ sig) → Buf (Elt Ideal) ℓ)

/-- The tokens. -/
abbrev a0 (c : Dev nD) : FVec Ideal S256x1024 .f32 := m ((c : Thread nD τ).loc main_arg0)
/-- The norm's gains. -/
abbrev a1 (c : Dev nD) : FVec Ideal S1024 .f32 := m ((c : Thread nD τ).loc main_arg1)

theorem N1 : cfg0.N = 1 := by decide +kernel

theorem index0 : ∀ (t : Fin cfg0.N) (a : Fin 2), win0_0.index t a = 0 :=
  (by decide +kernel : ∀ (t : Fin grid0.N) (a : Fin 2), win0_0.index t a = 0)

/-- The point reads all tokens. -/
theorem blk0 (c : Dev nD) (t : Fin cfg0.N) : (iblk m c 0 t : FVec Ideal S256x1024 .f32) = a0 m c := by
  funext j
  unfold iblk
  rw [View.read_apply]
  show V m c main_arg0 _ = _
  rw [V_main_arg0]
  congr 1
  funext a
  apply Fin.ext
  match a with
  | ⟨0, _⟩ => show win0_0.index t 0 * 256 + 1 * (j 0).val = (j 0).val; rw [index0 t 0]; omega
  | ⟨1, _⟩ => show win0_0.index t 1 * 1024 + 1 * (j 1).val = (j 1).val; rw [index0 t 1]; omega

theorem index1 : ∀ (t : Fin cfg0.N) (a : Fin 2), win0_1.index t a = 0 :=
  (by decide +kernel : ∀ (t : Fin grid0.N) (a : Fin 2), win0_1.index t a = 0)

/-- The gains, as a row. -/
theorem V0 (c : Dev nD) : (V m c main_v0 : FVec Ideal S1x1024 .f32) = shapeCast S1x1024 (a1 m c) shapeCasts_S1024_S1x1024 := rfl

/-- The point reads all gains. -/
theorem blk1 (c : Dev nD) (t : Fin cfg0.N) : (iblk m c 1 t : FVec Ideal S1x1024 .f32) = shapeCast S1x1024 (a1 m c) shapeCasts_S1024_S1x1024 := by
  rw [← V0]
  funext j
  unfold iblk
  rw [View.read_apply]
  show V m c main_v0 _ = _
  congr 1
  funext a
  apply Fin.ext
  match a with
  | ⟨0, _⟩ => show win0_1.index t 0 * 1 + 1 * (j 0).val = (j 0).val; rw [index1 t 0]; omega
  | ⟨1, _⟩ => show win0_1.index t 1 * 1024 + 1 * (j 1).val = (j 1).val; rw [index1 t 1]; omega

/-- The point leaves the normed tokens. -/
theorem out_eq (x0 : Vec Ideal S256x1024 .f32) (x1 : Vec Ideal S1x1024 .f32) : out0_2 x0 x1 = k0_pay1 x0 x1 := by
  unfold out0_2
  rw [View.canon_unit_zero (S := S256x1024) hz]
  simp only [View.ld_unit_zero (S := S256x1024) hz, View.ld_unit_zero (S := S1x1024) hz]

/-- The normed tokens are the reference's. -/
theorem rows (x0 : FVec Ideal S256x1024 .f32) (x1 : FVec Ideal S1024 .f32) (r : Fin 256) (k : Fin 1024) :
    (k0_pay1 (F := Ideal) x0 (shapeCast S1x1024 x1 shapeCasts_S1024_S1x1024) (ix2 r k) : EReal) = val_main_v13 (F := Ideal) x0 x1 (ix2 r k) := by
  pointwise [k0_pay1, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1]

theorem index2 : ∀ (t : Fin cfg0.N) (a : Fin 2), win0_2.index t a = 0 :=
  (by decide +kernel : ∀ (t : Fin grid0.N) (a : Fin 2), win0_2.index t a = 0)

/-- The kernel's result is the reference's. -/
theorem equal (c : Dev nD) : (dats m 0 c).arrAt 2 cfg0.N = val_main_v13 (F := Ideal) (a0 m c) (a1 m c) := by
  funext i
  obtain ⟨r, k, hi⟩ : ∃ (r : Fin 256) (k : Fin 1024), i = ix2 r k := ⟨i 0, i 1, eq_ix2 i⟩
  subst hi
  have h := congrFun (Value.blocks2 m c ⟨0, by rw [N1]; omega⟩ (flush0_2 _)) (ix2 r k)
  rw [View.read_apply, Value.flushed2] at h
  refine Eq.trans ?_ (h.trans ((congrFun (out_eq _ _) _).trans ((congrArg₂ (fun x y => k0_pay1 (F := Ideal) x y (ix2 r k)) (blk0 m c _) (blk1 m c _)).trans (rows (a0 m c) (a1 m c) r k))))
  show _ = ((dats m 0 c).arrAt 2 cfg0.N : FVec Ideal S256x1024 .bf16) _
  congr 1
  funext a
  apply Fin.ext
  match a with
  | ⟨0, _⟩ => show r.val = win0_2.index _ 0 * 256 + 1 * r.val; rw [index2]; omega
  | ⟨1, _⟩ => show k.val = win0_2.index _ 1 * 1024 + 1 * k.val; rw [index2]; omega

end Cert.Kernel22Ideal.Blocks

namespace Cert.Kernel24Ideal.Blocks

open Cert.Kernel24Ideal Cert.Kernel24Ideal.Gen Cert.Reference24Ideal.Read

theorem hz : (![0, 0] : Fin 2 → Nat) = fun _ => 0 := funext fun a => by fin_cases a <;> rfl

section Points

variable (c : Dev nD) (i : grid0.Coords)
  (arg1 : Memref sig .tc .vmem S256x1024 .f32) (harg1 : arg1.IsWhole) (arg2 : Memref sig .tc .vmem S1x1024 .f32) (harg2 : arg2.IsWhole)
  (arg3 : Memref sig .tc .vmem S256x1024 .f32) (harg3 : arg3.IsWhole) (arg4 : Memref sig .tc .vmem S256x1024 .f32) (harg4 : arg4.IsWhole)
  (arg5 : Memref sig .tc .vmem S256x1024 .f32) (harg5 : arg5.IsWhole) (arg6 : Memref sig .tc .vmem S1x1024 .f32) (harg6 : arg6.IsWhole)
  (x0 : Vec Ideal S256x1024 .f32) (x1 : Vec Ideal S1x1024 .f32) (x2 : Vec Ideal S256x1024 .f32) (x3 : Vec Ideal S256x1024 .f32)

/-- The point leaves the tokens' cotangent. -/
theorem rows (hc0 : cond0_0 i) : out0_A_4 c i arg1 harg1 arg2 harg2 arg3 harg3 arg4 harg4 arg5 harg5 arg6 harg6 hc0 x0 x1 x2 x3 = k0_pay6 x0 x1 x2 x3 := by
  unfold out0_A_4
  rw [View.read_writes_eq_canon _ _ _ (cover0_A_4 c i arg1 harg1 arg2 harg2 arg3 harg3 arg4 harg4 arg5 harg5 arg6 harg6 hc0 x0 x1 x2 x3)]
  unfold kernelRun0_A
  dsimp only
  sl_unfold_words
  rw [View.canon_unit_zero hz]
  simp only [View.readAt_eq_ld, View.readCov_unit_zero (S := S1x1024) _ hz, View.ld_unit_zero (S := S256x1024) hz, View.ld_unit_zero (S := S1x1024) hz,
    harg1.read_unread, harg2.read_unread, harg3.read_unread, harg4.read_unread, harg5.read_unread, harg6.read_unread]

/-- The point leaves the gains' cotangent. -/
theorem gains (hc0 : cond0_0 i) : out0_A_5 c i arg1 harg1 arg2 harg2 arg3 harg3 arg4 harg4 arg5 harg5 arg6 harg6 hc0 x0 x1 x2 x3 = k0_pay2 (k0_pay5 x0 x2) (k0_pay1 (F := Ideal)) := by
  unfold out0_A_5
  rw [View.read_writes_eq_canon _ _ _ (cover0_A_5 c i arg1 harg1 arg2 harg2 arg3 harg3 arg4 harg4 arg5 harg5 arg6 harg6 hc0 x0 x1 x2 x3)]
  unfold kernelRun0_A
  dsimp only
  sl_unfold_words
  rw [View.canon_cons_unit_zero (S := S1x1024) hz]
  simp only [View.readAt_eq_ld, View.readCov_unit_zero (S := S1x1024) _ hz, View.ld_unit_zero (S := S256x1024) hz, View.ld_unit_zero (S := S1x1024) hz,
    harg1.read_unread, harg2.read_unread, harg3.read_unread, harg4.read_unread, harg5.read_unread, harg6.read_unread]

end Points

variable (m : (ℓ : Loc nD τ sig) → Buf (Elt Ideal) ℓ)

/-- The tokens. -/
abbrev a0 (c : Dev nD) : FVec Ideal S256x1024 .f32 := m ((c : Thread nD τ).loc main_arg0)
/-- The norm's gains. -/
abbrev a1 (c : Dev nD) : FVec Ideal S1024 .f32 := m ((c : Thread nD τ).loc main_arg1)
/-- The normed tokens' cotangent. -/
abbrev a2 (c : Dev nD) : FVec Ideal S256x1024 .f32 := m ((c : Thread nD τ).loc main_arg2)

theorem N1 : cfg0.N = 1 := by decide +kernel

theorem index0 : ∀ (t : Fin cfg0.N) (a : Fin 2), win0_0.index t a = 0 :=
  (by decide +kernel : ∀ (t : Fin grid0.N) (a : Fin 2), win0_0.index t a = 0)
theorem index1 : ∀ (t : Fin cfg0.N) (a : Fin 2), win0_1.index t a = 0 :=
  (by decide +kernel : ∀ (t : Fin grid0.N) (a : Fin 2), win0_1.index t a = 0)
theorem index2 : ∀ (t : Fin cfg0.N) (a : Fin 2), win0_2.index t a = 0 :=
  (by decide +kernel : ∀ (t : Fin grid0.N) (a : Fin 2), win0_2.index t a = 0)
theorem index3 : ∀ (t : Fin cfg0.N) (a : Fin 2), win0_3.index t a = 0 :=
  (by decide +kernel : ∀ (t : Fin grid0.N) (a : Fin 2), win0_3.index t a = 0)
theorem index4 : ∀ (t : Fin cfg0.N) (a : Fin 2), win0_4.index t a = 0 :=
  (by decide +kernel : ∀ (t : Fin grid0.N) (a : Fin 2), win0_4.index t a = 0)
theorem index5 : ∀ (t : Fin cfg0.N) (a : Fin 2), win0_5.index t a = 0 :=
  (by decide +kernel : ∀ (t : Fin grid0.N) (a : Fin 2), win0_5.index t a = 0)

theorem blk0 (c : Dev nD) (t : Fin cfg0.N) : (iblk m c 0 t : FVec Ideal S256x1024 .f32) = a0 m c := by
  funext j
  unfold iblk
  rw [View.read_apply]
  show V m c main_arg0 _ = _
  rw [V_main_arg0]
  congr 1
  funext a
  apply Fin.ext
  match a with
  | ⟨0, _⟩ => show win0_0.index t 0 * 256 + 1 * (j 0).val = (j 0).val; rw [index0 t 0]; omega
  | ⟨1, _⟩ => show win0_0.index t 1 * 1024 + 1 * (j 1).val = (j 1).val; rw [index0 t 1]; omega

theorem blk2 (c : Dev nD) (t : Fin cfg0.N) : (iblk m c 2 t : FVec Ideal S256x1024 .f32) = a2 m c := by
  funext j
  unfold iblk
  rw [View.read_apply]
  show V m c main_arg2 _ = _
  rw [V_main_arg2]
  congr 1
  funext a
  apply Fin.ext
  match a with
  | ⟨0, _⟩ => show win0_2.index t 0 * 256 + 1 * (j 0).val = (j 0).val; rw [index2 t 0]; omega
  | ⟨1, _⟩ => show win0_2.index t 1 * 1024 + 1 * (j 1).val = (j 1).val; rw [index2 t 1]; omega

theorem V0 (c : Dev nD) : (V m c main_v0 : FVec Ideal S1x1024 .f32) = shapeCast S1x1024 (a1 m c) shapeCasts_S1024_S1x1024 := rfl

theorem blk1 (c : Dev nD) (t : Fin cfg0.N) : (iblk m c 1 t : FVec Ideal S1x1024 .f32) = shapeCast S1x1024 (a1 m c) shapeCasts_S1024_S1x1024 := by
  rw [← V0]
  funext j
  unfold iblk
  rw [View.read_apply]
  show V m c main_v0 _ = _
  congr 1
  funext a
  apply Fin.ext
  match a with
  | ⟨0, _⟩ => show win0_1.index t 0 * 1 + 1 * (j 0).val = (j 0).val; rw [index1 t 0]; omega
  | ⟨1, _⟩ => show win0_1.index t 1 * 1024 + 1 * (j 1).val = (j 1).val; rw [index1 t 1]; omega

/-- No cotangent reaches the tokens past the norm. -/
theorem blk3 (c : Dev nD) (t : Fin cfg0.N) (r : Fin 256) (k : Fin 1024) : ((iblk m c 3 t : FVec Ideal S256x1024 .f32) (ix2 r k) : EReal) = Ideal.ofBits .f32 0x00000000#32 := by
  unfold iblk
  rw [View.read_apply]
  rfl

theorem rows_ref (c : Dev nD) (t : Fin cfg0.N) (r : Fin 256) (k : Fin 1024) :
    (k0_pay6 (F := Ideal) (iblk m c 0 t) (iblk m c 1 t) (iblk m c 2 t) (iblk m c 3 t) (ix2 r k) : EReal)
      = val_main_v35 (F := Ideal) (a0 m c) (a1 m c) (a2 m c) (ix2 r k) := by
  rw [blk0, blk1, blk2]
  pointwise [k0_pay6, k0_pay4, k0_pay3, val_main_v35, val_main_v34, val_main_v33, val_main_v32, val_main_v31, val_main_v30, val_main_v29, val_main_v28,
    val_main_v27, val_main_v26, val_main_v25, val_main_v24, val_main_v23, val_main_v22, val_main_v20, val_main_v19, val_main_v13,
    val_main_v10, val_main_v9, val_main_v8, val_main_v7, val_main_v6, val_main_v5, val_main_v4, val_main_v3, val_main_v2, val_main_v1, val_main_v0,
    val_main_cst, val_main_cst_0, val_main_cst_1, val_main_cst_2, val_main_cst_5, val_main_cst_6, val_main_cst_7]
  rw [blk3, show Ideal.ofBits .f32 0x00000000#32 = (0 : EReal) by simp [Ideal.ofBits, Ideal.ieee, -EReal.coe_mul], zero_add]

theorem gains_ref (c : Dev nD) (t : Fin cfg0.N) (k : Fin 1024) :
    (k0_pay2 (F := Ideal) (k0_pay5 (iblk m c 0 t) (iblk m c 2 t)) (k0_pay1 (F := Ideal)) (ix2 0 k) : EReal)
      = val_main_v36 (F := Ideal) (a0 m c) (a2 m c) (ix2 0 k) := by
  rw [blk0, blk2]
  pointwise [k0_pay2, k0_pay1, k0_pay5, k0_pay4, k0_pay3, val_main_v36, val_main_v21, val_main_v18, val_main_v17, val_main_v16, val_main_v12, val_main_v11,
    val_main_v7, val_main_v6, val_main_v5, val_main_v4, val_main_v3, val_main_v2, val_main_v1, val_main_v0,
    val_main_cst, val_main_cst_0, val_main_cst_1, val_main_cst_3, val_main_cst_4]
  rw [Fin.sum_univ_one]

/-- The tokens' cotangent at the end is the reference's. -/
theorem arr4 (c : Dev nD) : (dats m 0 c).arrAt 4 cfg0.N = val_main_v35 (F := Ideal) (a0 m c) (a1 m c) (a2 m c) := by
  funext i
  obtain ⟨r, k, hi⟩ : ∃ (r : Fin 256) (k : Fin 1024), i = ix2 r k := ⟨i 0, i 1, eq_ix2 i⟩
  subst hi
  have h := congrFun (Value.blocks4 m c ⟨0, by rw [N1]; omega⟩ (flush0_4 _)) (ix2 r k)
  rw [View.read_apply, Value.flushed4_A] at h
  refine Eq.trans ?_ (h.trans ((congrFun (rows _ _ _ _ _ _ _ _ _ _ _ _ _ _ _ _ _ _ _) (ix2 r k)).trans (rows_ref m c _ r k)))
  show _ = ((dats m 0 c).arrAt 4 cfg0.N : FVec Ideal S256x1024 .f32) _
  congr 1
  funext a
  apply Fin.ext
  match a with
  | ⟨0, _⟩ => show r.val = win0_4.index _ 0 * 256 + 1 * r.val; rw [index4]; omega
  | ⟨1, _⟩ => show k.val = win0_4.index _ 1 * 1024 + 1 * k.val; rw [index4]; omega

/-- The gains' cotangent at the end is the reference's. -/
theorem arr5 (c : Dev nD) : (dats m 0 c).arrAt 5 cfg0.N = val_main_v36 (F := Ideal) (a0 m c) (a2 m c) := by
  funext i
  obtain ⟨r, k, hi⟩ : ∃ (r : Fin 1) (k : Fin 1024), i = ix2 r k := ⟨i 0, i 1, eq_ix2 i⟩
  subst hi
  obtain rfl : r = 0 := Subsingleton.elim _ _
  have h := congrFun (Value.blocks5 m c ⟨0, by rw [N1]; omega⟩ (flush0_5 _)) (ix2 0 k)
  rw [View.read_apply, Value.flushed5_A] at h
  refine Eq.trans ?_ (h.trans ((congrFun (gains _ _ _ _ _ _ _ _ _ _ _ _ _ _ _ _ _ _ _) (ix2 0 k)).trans (gains_ref m c _ k)))
  show _ = ((dats m 0 c).arrAt 5 cfg0.N : FVec Ideal S1x1024 .f32) _
  congr 1
  funext a
  apply Fin.ext
  match a with
  | ⟨0, _⟩ => show 0 = win0_5.index _ 0 * 1 + 1 * 0; rw [index5]
  | ⟨1, _⟩ => show k.val = win0_5.index _ 1 * 1024 + 1 * k.val; rw [index5]; omega

end Cert.Kernel24Ideal.Blocks

end
-- ==== Proof.LossHead.lean ====
/- The loss and its gradient: what each grid point leaves, and what the kernel's results hold at its end. -/
module

public import proofs.«01_k».proof.Proof.Sums
public import Idealize.ShloMosaic.Lib.Pipeline.ReadBack
public import Idealize.ShloMosaic.Lib.Pipeline.ValueKit.Tiles
public import proofs.«01_k».proof.Proof.Gen.Kernel23Ideal.Value
public import proofs.«01_k».proof.Proof.Gen.Reference23Ideal.Read

@[expose] public section

noncomputable section

namespace Cert.Kernel23Ideal.Blocks

open Idealize.ShloMosaic Idealize.ShloMosaic.TcCoe Idealize.SL.Sem Cert.Kernel23Ideal Cert.Kernel23Ideal.Gen
open Cert.Reference23Ideal.Read Cert.Sums

theorem hz : (![0, 0] : Fin 2 → Nat) = fun _ => 0 := funext fun a => by fin_cases a <;> rfl

section Points

variable (c : Dev nD) (i : grid0.Coords)
  (arg1 : Memref sig .tc .vmem S512x1024 .f32) (harg1 : arg1.IsWhole) (arg2 : Memref sig .tc .vmem S1x1024 .f32) (harg2 : arg2.IsWhole)
  (arg3 : Memref sig .tc .vmem S512x1024 .f32) (harg3 : arg3.IsWhole) (arg4 : Memref sig .tc .vmem S1x1 .f32) (harg4 : arg4.IsWhole)
  (arg5 : Memref sig .tc .vmem S512x1024 .f32) (harg5 : arg5.IsWhole) (arg6 : Memref sig .tc .vmem S1x1024 .f32) (harg6 : arg6.IsWhole)
  (arg7 : Memref sig .tc .vmem S512x1024 .bf16) (harg7 : arg7.IsWhole)
  (x0 : Vec Ideal S512x1024 .f32) (x1 : Vec Ideal S1x1024 .f32) (x2 : Vec Ideal S512x1024 .f32)
  (xo3 : Vec Ideal S1x1 .f32) (xo5 : Vec Ideal S1x1024 .f32)

/-- At the first point the loss, with the point's part. -/
theorem loss_first (hc0 : cond0_0 i) :
    out0_A_3 c i arg1 harg1 arg2 harg2 arg3 harg3 arg4 harg4 arg5 harg5 arg6 harg6 arg7 harg7 hc0 x0 x1 x2 = k0_pay5 (k0_pay10 x0 x1 x2) (k0_pay3 (F := Ideal)) := by
  unfold out0_A_3
  rw [View.read_writes_eq_canon _ _ _ (cover0_A_3 c i arg1 harg1 arg2 harg2 arg3 harg3 arg4 harg4 arg5 harg5 arg6 harg6 arg7 harg7 hc0 x0 x1 x2)]
  unfold kernelRun0_A
  dsimp only
  sl_unfold_words
  rw [View.canon_cons_unit_zero (S := S1x1) hz]
  simp only [View.readAt_eq_ld, View.readCov_unit_zero (S := S1x1024) _ hz, View.readCov_unit_zero (S := S1x1) _ hz, View.ld_unit_zero (S := S512x1024) hz, View.ld_unit_zero (S := S1x1024) hz, View.ld_unit_zero (S := S1x1) hz,
    harg1.read_unread, harg2.read_unread, harg3.read_unread, harg4.read_unread, harg5.read_unread, harg6.read_unread, harg7.read_unread]

/-- At the first point the rows of the input's cotangent. -/
theorem rows_first (hc0 : cond0_0 i) :
    out0_A_4 c i arg1 harg1 arg2 harg2 arg3 harg3 arg4 harg4 arg5 harg5 arg6 harg6 arg7 harg7 hc0 x0 x1 x2 = k0_pay13 x0 x1 x2 := by
  unfold out0_A_4
  rw [View.read_writes_eq_canon _ _ _ (cover0_A_4 c i arg1 harg1 arg2 harg2 arg3 harg3 arg4 harg4 arg5 harg5 arg6 harg6 arg7 harg7 hc0 x0 x1 x2)]
  unfold kernelRun0_A
  dsimp only
  sl_unfold_words
  rw [View.canon_unit_zero hz]
  simp only [View.readAt_eq_ld, View.readCov_unit_zero (S := S1x1024) _ hz, View.readCov_unit_zero (S := S1x1) _ hz, View.ld_unit_zero (S := S512x1024) hz, View.ld_unit_zero (S := S1x1024) hz, View.ld_unit_zero (S := S1x1) hz,
    harg1.read_unread, harg2.read_unread, harg3.read_unread, harg4.read_unread, harg5.read_unread, harg6.read_unread, harg7.read_unread]

/-- At the first point the gains' cotangent, with the point's part. -/
theorem gains_first (hc0 : cond0_0 i) :
    out0_A_5 c i arg1 harg1 arg2 harg2 arg3 harg3 arg4 harg4 arg5 harg5 arg6 harg6 arg7 harg7 hc0 x0 x1 x2 = k0_pay4 (k0_pay12 x0 x1 x2) (k0_pay2 (F := Ideal)) := by
  unfold out0_A_5
  rw [View.read_writes_eq_canon _ _ _ (cover0_A_5 c i arg1 harg1 arg2 harg2 arg3 harg3 arg4 harg4 arg5 harg5 arg6 harg6 arg7 harg7 hc0 x0 x1 x2)]
  unfold kernelRun0_A
  dsimp only
  sl_unfold_words
  rw [View.canon_cons_unit_zero (S := S1x1024) hz]
  simp only [View.readAt_eq_ld, View.readCov_unit_zero (S := S1x1024) _ hz, View.readCov_unit_zero (S := S1x1) _ hz, View.ld_unit_zero (S := S512x1024) hz, View.ld_unit_zero (S := S1x1024) hz, View.ld_unit_zero (S := S1x1) hz,
    harg1.read_unread, harg2.read_unread, harg3.read_unread, harg4.read_unread, harg5.read_unread, harg6.read_unread, harg7.read_unread]

/-- At the first point the rows of the input's cotangent, in the narrow format. -/
theorem narrow_first (hc0 : cond0_0 i) :
    out0_A_6 c i arg1 harg1 arg2 harg2 arg3 harg3 arg4 harg4 arg5 harg5 arg6 harg6 arg7 harg7 hc0 x0 x1 x2 = k0_pay1 (k0_pay13 x0 x1 x2) := by
  unfold out0_A_6
  rw [View.read_writes_eq_canon _ _ _ (cover0_A_6 c i arg1 harg1 arg2 harg2 arg3 harg3 arg4 harg4 arg5 harg5 arg6 harg6 arg7 harg7 hc0 x0 x1 x2)]
  unfold kernelRun0_A
  dsimp only
  sl_unfold_words
  rw [View.canon_unit_zero hz]
  simp only [View.readAt_eq_ld, View.readCov_unit_zero (S := S1x1024) _ hz, View.readCov_unit_zero (S := S1x1) _ hz, View.ld_unit_zero (S := S512x1024) hz, View.ld_unit_zero (S := S1x1024) hz, View.ld_unit_zero (S := S1x1) hz,
    harg1.read_unread, harg2.read_unread, harg3.read_unread, harg4.read_unread, harg5.read_unread, harg6.read_unread, harg7.read_unread]

/-- At a later point the loss, with the point's part. -/
theorem loss_later (hc0 : ¬cond0_0 i) :
    out0_B_3 c i arg1 harg1 arg2 harg2 arg3 harg3 arg4 harg4 arg5 harg5 arg6 harg6 arg7 harg7 hc0 x0 x1 x2 xo3 xo5 = k0_pay5 (k0_pay10 x0 x1 x2) xo3 := by
  unfold out0_B_3
  rw [View.read_writes_eq_canon _ _ _ (cover0_B_3 c i arg1 harg1 arg2 harg2 arg3 harg3 arg4 harg4 arg5 harg5 arg6 harg6 arg7 harg7 hc0 x0 x1 x2 xo3 xo5)]
  unfold kernelRun0_B
  dsimp only
  sl_unfold_words
  rw [View.canon_unit_zero hz]
  simp only [View.readAt_eq_ld, View.readCov_unit_zero (S := S1x1024) _ hz, View.readCov_unit_zero (S := S1x1) _ hz, View.ld_unit_zero (S := S512x1024) hz, View.ld_unit_zero (S := S1x1024) hz, View.ld_unit_zero (S := S1x1) hz,
    harg1.read_unread, harg2.read_unread, harg3.read_unread, harg4.read_unread, harg5.read_unread, harg6.read_unread, harg7.read_unread]

/-- At a later point the rows of the input's cotangent. -/
theorem rows_later (hc0 : ¬cond0_0 i) :
    out0_B_4 c i arg1 harg1 arg2 harg2 arg3 harg3 arg4 harg4 arg5 harg5 arg6 harg6 arg7 harg7 hc0 x0 x1 x2 xo3 xo5 = k0_pay13 x0 x1 x2 := by
  unfold out0_B_4
  rw [View.read_writes_eq_canon _ _ _ (cover0_B_4 c i arg1 harg1 arg2 harg2 arg3 harg3 arg4 harg4 arg5 harg5 arg6 harg6 arg7 harg7 hc0 x0 x1 x2 xo3 xo5)]
  unfold kernelRun0_B
  dsimp only
  sl_unfold_words
  rw [View.canon_unit_zero hz]
  simp only [View.readAt_eq_ld, View.readCov_unit_zero (S := S1x1024) _ hz, View.readCov_unit_zero (S := S1x1) _ hz, View.ld_unit_zero (S := S512x1024) hz, View.ld_unit_zero (S := S1x1024) hz, View.ld_unit_zero (S := S1x1) hz,
    harg1.read_unread, harg2.read_unread, harg3.read_unread, harg4.read_unread, harg5.read_unread, harg6.read_unread, harg7.read_unread]

/-- At a later point the gains' cotangent, with the point's part. -/
theorem gains_later (hc0 : ¬cond0_0 i) :
    out0_B_5 c i arg1 harg1 arg2 harg2 arg3 harg3 arg4 harg4 arg5 harg5 arg6 harg6 arg7 harg7 hc0 x0 x1 x2 xo3 xo5 = k0_pay4 (k0_pay12 x0 x1 x2) xo5 := by
  unfold out0_B_5
  rw [View.read_writes_eq_canon _ _ _ (cover0_B_5 c i arg1 harg1 arg2 harg2 arg3 harg3 arg4 harg4 arg5 harg5 arg6 harg6 arg7 harg7 hc0 x0 x1 x2 xo3 xo5)]
  unfold kernelRun0_B
  dsimp only
  sl_unfold_words
  rw [View.canon_unit_zero hz]
  simp only [View.readAt_eq_ld, View.readCov_unit_zero (S := S1x1024) _ hz, View.readCov_unit_zero (S := S1x1) _ hz, View.ld_unit_zero (S := S512x1024) hz, View.ld_unit_zero (S := S1x1024) hz, View.ld_unit_zero (S := S1x1) hz,
    harg1.read_unread, harg2.read_unread, harg3.read_unread, harg4.read_unread, harg5.read_unread, harg6.read_unread, harg7.read_unread]

/-- At a later point the rows of the input's cotangent, in the narrow format. -/
theorem narrow_later (hc0 : ¬cond0_0 i) :
    out0_B_6 c i arg1 harg1 arg2 harg2 arg3 harg3 arg4 harg4 arg5 harg5 arg6 harg6 arg7 harg7 hc0 x0 x1 x2 xo3 xo5 = k0_pay1 (k0_pay13 x0 x1 x2) := by
  unfold out0_B_6
  rw [View.read_writes_eq_canon _ _ _ (cover0_B_6 c i arg1 harg1 arg2 harg2 arg3 harg3 arg4 harg4 arg5 harg5 arg6 harg6 arg7 harg7 hc0 x0 x1 x2 xo3 xo5)]
  unfold kernelRun0_B
  dsimp only
  sl_unfold_words
  rw [View.canon_unit_zero hz]
  simp only [View.readAt_eq_ld, View.readCov_unit_zero (S := S1x1024) _ hz, View.readCov_unit_zero (S := S1x1) _ hz, View.ld_unit_zero (S := S512x1024) hz, View.ld_unit_zero (S := S1x1024) hz, View.ld_unit_zero (S := S1x1) hz,
    harg1.read_unread, harg2.read_unread, harg3.read_unread, harg4.read_unread, harg5.read_unread, harg6.read_unread, harg7.read_unread]

end Points

variable (m : (ℓ : Loc nD τ sig) → Buf (Elt Ideal) ℓ)

/-- The last layer's output. -/
abbrev a0 (c : Dev nD) : FVec Ideal S8192x1024 .f32 := m ((c : Thread nD τ).loc main_arg0)
/-- The norm's gains. -/
abbrev a1 (c : Dev nD) : FVec Ideal S1024 .f32 := m ((c : Thread nD τ).loc main_arg1)
/-- The targets. -/
abbrev a2 (c : Dev nD) : FVec Ideal S8192x1024 .f32 := m ((c : Thread nD τ).loc main_arg2)

theorem N16 : cfg0.N = 16 := by decide +kernel
theorem lt16 (t : Fin cfg0.N) : t.val < 16 := lt_of_lt_of_eq t.isLt N16

theorem index0 : ∀ t : Fin cfg0.N, win0_0.index t 0 = t.val ∧ win0_0.index t 1 = 0 :=
  (by decide +kernel : ∀ t : Fin grid0.N, win0_0.index t 0 = t.val ∧ win0_0.index t 1 = 0)
theorem index1 : ∀ (t : Fin cfg0.N) (a : Fin 2), win0_1.index t a = 0 :=
  (by decide +kernel : ∀ (t : Fin grid0.N) (a : Fin 2), win0_1.index t a = 0)
theorem index2 : ∀ t : Fin cfg0.N, win0_2.index t 0 = t.val ∧ win0_2.index t 1 = 0 :=
  (by decide +kernel : ∀ t : Fin grid0.N, win0_2.index t 0 = t.val ∧ win0_2.index t 1 = 0)
theorem index3 : ∀ (t : Fin cfg0.N) (a : Fin 2), win0_3.index t a = 0 :=
  (by decide +kernel : ∀ (t : Fin grid0.N) (a : Fin 2), win0_3.index t a = 0)
theorem index4 : ∀ t : Fin cfg0.N, win0_4.index t 0 = t.val ∧ win0_4.index t 1 = 0 :=
  (by decide +kernel : ∀ t : Fin grid0.N, win0_4.index t 0 = t.val ∧ win0_4.index t 1 = 0)
theorem index5 : ∀ (t : Fin cfg0.N) (a : Fin 2), win0_5.index t a = 0 :=
  (by decide +kernel : ∀ (t : Fin grid0.N) (a : Fin 2), win0_5.index t a = 0)
theorem index6 : ∀ t : Fin cfg0.N, win0_6.index t 0 = t.val ∧ win0_6.index t 1 = 0 :=
  (by decide +kernel : ∀ t : Fin grid0.N, win0_6.index t 0 = t.val ∧ win0_6.index t 1 = 0)

theorem blk0 (c : Dev nD) (t : Fin cfg0.N) (r : Fin 512) (d : Fin 1024) :
    (iblk m c 0 t : FVec Ideal S512x1024 .f32) (ix2 r d) = (a0 m c (ix2 ⟨t.val * 512 + r.val, by have := lt16 t; omega⟩ d) : EReal) := by
  unfold iblk
  rw [View.read_apply]
  show V m c main_arg0 _ = _
  rw [V_main_arg0]
  congr 1
  funext a
  apply Fin.ext
  match a with
  | ⟨0, _⟩ => show win0_0.index t 0 * 512 + 1 * r.val = t.val * 512 + r.val; rw [(index0 t).1]; omega
  | ⟨1, _⟩ => show win0_0.index t 1 * 1024 + 1 * d.val = d.val; rw [(index0 t).2]; omega

theorem blk2 (c : Dev nD) (t : Fin cfg0.N) (r : Fin 512) (d : Fin 1024) :
    (iblk m c 2 t : FVec Ideal S512x1024 .f32) (ix2 r d) = (a2 m c (ix2 ⟨t.val * 512 + r.val, by have := lt16 t; omega⟩ d) : EReal) := by
  unfold iblk
  rw [View.read_apply]
  show V m c main_arg2 _ = _
  rw [V_main_arg2]
  congr 1
  funext a
  apply Fin.ext
  match a with
  | ⟨0, _⟩ => show win0_2.index t 0 * 512 + 1 * r.val = t.val * 512 + r.val; rw [(index2 t).1]; omega
  | ⟨1, _⟩ => show win0_2.index t 1 * 1024 + 1 * d.val = d.val; rw [(index2 t).2]; omega

theorem V0 (c : Dev nD) : (V m c main_v0 : FVec Ideal S1x1024 .f32) = shapeCast S1x1024 (a1 m c) shapeCasts_S1024_S1x1024 := rfl

theorem blk1 (c : Dev nD) (t : Fin cfg0.N) (d : Fin 1024) :
    (iblk m c 1 t : FVec Ideal S1x1024 .f32) (ix2 0 d) = (a1 m c (ix1 d) : EReal) := by
  have e : (iblk m c 1 t : FVec Ideal S1x1024 .f32) = V m c main_v0 := by
    funext j
    unfold iblk
    rw [View.read_apply]
    show V m c main_v0 _ = _
    congr 1
    funext a
    apply Fin.ext
    match a with
    | ⟨0, _⟩ => show win0_1.index t 0 * 1 + 1 * (j 0).val = (j 0).val; rw [index1 t 0]; omega
    | ⟨1, _⟩ => show win0_1.index t 1 * 1024 + 1 * (j 1).val = (j 1).val; rw [index1 t 1]; omega
  rw [e, V0]
  pointwise []

/-- The block of rows of the difference to the target. -/
theorem err_ref (c : Dev nD) (t : Fin cfg0.N) (r : Fin 512) (k : Fin 1024) :
    (k0_pay10 (F := Ideal) (iblk m c 0 t) (iblk m c 1 t) (iblk m c 2 t) (ix2 r k) : EReal)
      = val_main_v16 (F := Ideal) (a0 m c) (a1 m c) (a2 m c) (ix2 ⟨t.val * 512 + r.val, by have := lt16 t; omega⟩ k) := by
  pointwise [k0_pay10, k0_pay9, k0_pay8, k0_pay7, k0_pay6, val_main_v16, val_main_v15, val_main_v14, val_main_v13, val_main_v12, val_main_v11,
    val_main_v7, val_main_v6, val_main_v5, val_main_v4, val_main_v3, val_main_v2, val_main_v1, val_main_v0,
    val_main_cst, val_main_cst_0, val_main_cst_1]
  simp only [blk0, blk1, blk2]

theorem half : Ideal.ofBits .f32 0x3F000000#32 = ((1 / 2 : ℝ) : EReal) := by
  simp [Ideal.ofBits, Ideal.ieee, -EReal.coe_mul]
  norm_num

/-- A difference over the number of columns is half of twice it, over that number. -/
theorem over_columns (e : EReal) :
    e * Ideal.ofBits .f32 0x3A800000#32
      = Ideal.div (Ideal.ofBits .f32 0x3F000000#32) (Ideal.ofBits .f32 0x44800000#32) * (Ideal.ofBits .f32 0x40000000#32 * e) := by
  have h1 : Ideal.ofBits .f32 0x3A800000#32 = ((1 / 1024 : ℝ) : EReal) := by
    simp [Ideal.ofBits, Ideal.ieee, -EReal.coe_mul]
    norm_num
  have h3 : Ideal.ofBits .f32 0x44800000#32 = ((1024 : ℝ) : EReal) := by
    simp [Ideal.ofBits, Ideal.ieee, -EReal.coe_mul]
    norm_num
  have h4 : Ideal.ofBits .f32 0x40000000#32 = ((2 : ℝ) : EReal) := by
    simp [Ideal.ofBits, Ideal.ieee, -EReal.coe_mul]
    norm_num
  rw [h1, half, h3, h4, Ideal.div, if_neg (by norm_num), ← EReal.coe_inv, ← EReal.coe_mul, ← mul_assoc, ← EReal.coe_mul, mul_comm]
  norm_num

/-- The block of rows of the difference's cotangent. -/
theorem ct_ref (c : Dev nD) (t : Fin cfg0.N) (r : Fin 512) (k : Fin 1024) :
    (k0_pay11 (F := Ideal) (iblk m c 0 t) (iblk m c 1 t) (iblk m c 2 t) (ix2 r k) : EReal)
      = val_main_v30 (F := Ideal) (a0 m c) (a1 m c) (a2 m c) (ix2 ⟨t.val * 512 + r.val, by have := lt16 t; omega⟩ k) := by
  pointwise [k0_pay11, val_main_v30, val_main_v29, val_main_v28, val_main_v27, val_main_v26, val_main_v25, val_main_v19, val_main_v18,
    val_main_cst_3, val_main_cst_8, val_main_cst_9, val_main_cst_10]
  rw [err_ref]
  exact over_columns _

theorem pay13_ref (c : Dev nD) (t : Fin cfg0.N) (r : Fin 512) (k : Fin 1024) :
    (k0_pay13 (F := Ideal) (iblk m c 0 t) (iblk m c 1 t) (iblk m c 2 t) (ix2 r k) : EReal)
      = val_main_v50 (F := Ideal) (a0 m c) (a1 m c) (a2 m c) (ix2 ⟨t.val * 512 + r.val, by have := lt16 t; omega⟩ k) := by
  pointwise [k0_pay13, k0_pay8, k0_pay7, k0_pay6, val_main_v50, val_main_v49, val_main_v48, val_main_v47, val_main_v46, val_main_v45, val_main_v44,
    val_main_v43, val_main_v42, val_main_v41, val_main_v40, val_main_v39, val_main_v38, val_main_v37, val_main_v35, val_main_v34, val_main_v13,
    val_main_v10, val_main_v9, val_main_v8, val_main_v7, val_main_v6, val_main_v5, val_main_v4, val_main_v3, val_main_v2, val_main_v1, val_main_v0,
    val_main_cst, val_main_cst_0, val_main_cst_1, val_main_cst_2, val_main_cst_13, val_main_cst_14, val_main_cst_15]
  simp only [ct_ref, blk0, blk1]

theorem pay12_ref (c : Dev nD) (t : Fin cfg0.N) (k : Fin 1024) :
    (k0_pay12 (F := Ideal) (iblk m c 0 t) (iblk m c 1 t) (iblk m c 2 t) (ix2 0 k) : EReal)
      = ∑ r : Fin 512, val_main_v31 (F := Ideal) (a0 m c) (a1 m c) (a2 m c) (ix2 ⟨t.val * 512 + r.val, by have := lt16 t; omega⟩ k) := by
  pointwise [k0_pay12, k0_pay9, k0_pay8, k0_pay7, val_main_v31, val_main_v12, val_main_v11, val_main_v7, val_main_v6, val_main_v5, val_main_v4,
    val_main_v3, val_main_v2, val_main_v1, val_main_v0, val_main_cst, val_main_cst_0, val_main_cst_1]
  simp only [ct_ref, blk0]

theorem ref_gains (x0 : FVec Ideal S8192x1024 .f32) (x1 : FVec Ideal S1024 .f32) (x2 : FVec Ideal S8192x1024 .f32) (k : Fin 1024) :
    (val_main_v52 (F := Ideal) x0 x1 x2 (ix2 0 k) : EReal) = ∑ r : Fin 8192, val_main_v31 (F := Ideal) x0 x1 x2 (ix2 r k) := by
  pointwise [val_main_v52, val_main_v36, val_main_v33, val_main_v32, val_main_cst_11, val_main_cst_12]
  exact Fin.sum_univ_one _

/-- A point's part of the loss, before its half is taken. -/
abbrev part3 (c : Dev nD) (n : Fin 16) : EReal :=
  ∑ r : Fin 512, val_main_v22 (F := Ideal) (a0 m c) (a1 m c) (a2 m c) (ix1 ⟨n.val * 512 + r.val, by omega⟩)

/-- A point adds the half of its part to the loss. -/
theorem pay5_ref (c : Dev nD) (t : Fin cfg0.N) (o : Vec Ideal S1x1 .f32) :
    (k0_pay5 (F := Ideal) (k0_pay10 (iblk m c 0 t) (iblk m c 1 t) (iblk m c 2 t)) o (ix2 0 0) : EReal)
      = o (ix2 0 0) + Ideal.ofBits .f32 0x3F000000#32 * part3 m c ⟨t.val, lt16 t⟩ := by
  pointwise [k0_pay5, part3, val_main_v22, val_main_v21, val_main_v20, val_main_v17, val_main_cst_4, val_main_cst_5]
  simp only [err_ref]

/-- The half of a sum is the sum of the halves. -/
theorem half_sum {ι : Type} (s : Finset ι) (f : ι → EReal) :
    ∑ n ∈ s, Ideal.ofBits .f32 0x3F000000#32 * f n = Ideal.ofBits .f32 0x3F000000#32 * ∑ n ∈ s, f n := by
  classical
  induction s using Finset.induction_on with
  | empty => simp
  | insert a s ha ih =>
    rw [Finset.sum_insert ha, Finset.sum_insert ha, ih, half,
      EReal.left_distrib_of_nonneg_of_ne_top (EReal.coe_nonneg.mpr (by norm_num)) (EReal.coe_ne_top _)]

theorem ref_loss (x0 : FVec Ideal S8192x1024 .f32) (x1 : FVec Ideal S1024 .f32) (x2 : FVec Ideal S8192x1024 .f32) :
    (val_main_v51 (F := Ideal) x0 x1 x2 (ix2 0 0) : EReal)
      = Ideal.ofBits .f32 0x3F000000#32 * ∑ r : Fin 8192, val_main_v22 (F := Ideal) x0 x1 x2 (ix1 r) := by
  pointwise [val_main_v51, val_main_v24, val_main_v23, val_main_cst_6, val_main_cst_7]

/-! ## The arrays at the end -/

/-- What starts at the first point's part and gains each later point's part ends as the sum over the points. -/
theorem sum_points (o : (n : ℕ) → n < cfg0.N → EReal) (f : Fin 16 → EReal) (h0 : ∀ h, o 0 h = f ⟨0, by omega⟩)
    (hs : ∀ n (h : n + 1 < cfg0.N), o (n + 1) h = o n (Nat.lt_of_succ_lt h) + f ⟨n + 1, lt16 ⟨n + 1, h⟩⟩)
    (t : Fin cfg0.N) (ht : t.val % 16 = 15) : o t.val t.isLt = ∑ n, f n := by
  have e : ∀ n (h : n < cfg0.N), o n h = ∑ i ∈ Finset.range (n + 1), (if h : i < 16 then f ⟨i, h⟩ else 0) := by
    intro n
    induction n with
    | zero => intro h; rw [h0]; simp
    | succ n ih =>
      intro h
      rw [hs, ih, Finset.sum_range_succ _ (n + 1), dif_pos (lt16 ⟨n + 1, h⟩)]
  have := lt16 t
  rw [e, show t.val + 1 = 16 by omega, Finset.sum_range]
  exact Finset.sum_congr rfl fun i _ => dif_pos i.isLt

/-- What a point leaves in the rows' block. -/
theorem rows (c : Dev nD) (t : Fin cfg0.N) :
    (outsAt0 m c t.val t.isLt).2.1 = k0_pay13 (iblk m c 0 t) (iblk m c 1 t) (iblk m c 2 t) := by
  by_cases h : t.val % 16 = 0
  · rw [outsAt0_A m c t h, rows_first]
  · rw [outsAt0_B m c t h, rows_later]

/-- What a point leaves in the narrow rows' block. -/
theorem narrow (c : Dev nD) (t : Fin cfg0.N) :
    (outsAt0 m c t.val t.isLt).2.2.2 = k0_pay1 (k0_pay13 (iblk m c 0 t) (iblk m c 1 t) (iblk m c 2 t)) := by
  by_cases h : t.val % 16 = 0
  · rw [outsAt0_A m c t h, narrow_first]
  · rw [outsAt0_B m c t h, narrow_later]

/-- The rows of the input's cotangent at the end. -/
theorem arr4 (c : Dev nD) : (dats m 0 c).arrAt 4 cfg0.N = val_main_v50 (F := Ideal) (a0 m c) (a1 m c) (a2 m c) := by
  funext i
  obtain ⟨n, r, k, hi⟩ : ∃ (n : Fin 16) (r : Fin 512) (k : Fin 1024), i = ix2 ⟨n.val * 512 + r.val, by omega⟩ k := by
    refine ⟨⟨(i 0).val / 512, by have : (i 0).val < 8192 := (i 0).isLt; omega⟩, ⟨(i 0).val % 512, by omega⟩, i 1, ?_⟩
    refine (eq_ix2 i).trans (congrArg (fun x => ix2 x (i 1)) (Fin.ext ?_))
    show (i 0).val = (i 0).val / 512 * 512 + (i 0).val % 512
    omega
  subst hi
  have h := congrFun (Value.blocks4 m c ⟨n, by rw [N16]; omega⟩ (flush0_4 _)) (ix2 r k)
  rw [View.read_apply, Value.flushed4] at h
  refine Eq.trans ?_ (h.trans ((congrFun (rows m c ⟨n, by rw [N16]; omega⟩) (ix2 r k)).trans (pay13_ref m c ⟨n, by rw [N16]; omega⟩ r k)))
  show _ = ((dats m 0 c).arrAt 4 cfg0.N : FVec Ideal S8192x1024 .f32) _
  congr 1
  funext a
  apply Fin.ext
  have hi := index4 ⟨n, by rw [N16]; omega⟩
  match a with
  | ⟨0, _⟩ => show n.val * 512 + r.val = win0_4.index _ 0 * 512 + 1 * r.val; rw [hi.1]; dsimp only; omega
  | ⟨1, _⟩ => show k.val = win0_4.index _ 1 * 1024 + 1 * k.val; rw [hi.2]; omega

/-- The narrow rows of the input's cotangent at the end. -/
theorem arr6 (c : Dev nD) : (dats m 0 c).arrAt 6 cfg0.N = val_main_v53 (F := Ideal) (a0 m c) (a1 m c) (a2 m c) := by
  funext i
  obtain ⟨n, r, k, hi⟩ : ∃ (n : Fin 16) (r : Fin 512) (k : Fin 1024), i = ix2 ⟨n.val * 512 + r.val, by omega⟩ k := by
    refine ⟨⟨(i 0).val / 512, by have : (i 0).val < 8192 := (i 0).isLt; omega⟩, ⟨(i 0).val % 512, by omega⟩, i 1, ?_⟩
    refine (eq_ix2 i).trans (congrArg (fun x => ix2 x (i 1)) (Fin.ext ?_))
    show (i 0).val = (i 0).val / 512 * 512 + (i 0).val % 512
    omega
  subst hi
  have h := congrFun (Value.blocks6 m c ⟨n, by rw [N16]; omega⟩ (flush0_6 _)) (ix2 r k)
  rw [View.read_apply, Value.flushed6] at h
  refine Eq.trans ?_ (h.trans ((congrFun (narrow m c ⟨n, by rw [N16]; omega⟩) (ix2 r k)).trans (pay13_ref m c ⟨n, by rw [N16]; omega⟩ r k)))
  show _ = ((dats m 0 c).arrAt 6 cfg0.N : FVec Ideal S8192x1024 .bf16) _
  congr 1
  funext a
  apply Fin.ext
  have hi := index6 ⟨n, by rw [N16]; omega⟩
  match a with
  | ⟨0, _⟩ => show n.val * 512 + r.val = win0_6.index _ 0 * 512 + 1 * r.val; rw [hi.1]; dsimp only; omega
  | ⟨1, _⟩ => show k.val = win0_6.index _ 1 * 1024 + 1 * k.val; rw [hi.2]; omega

/-- A point's part of the gains' cotangent. -/
abbrev part (c : Dev nD) (k : Fin 1024) (n : Fin 16) : EReal :=
  ∑ r : Fin 512, val_main_v31 (F := Ideal) (a0 m c) (a1 m c) (a2 m c) (ix2 ⟨n.val * 512 + r.val, by omega⟩ k)

/-- The gains' cotangent after the last point: the sum over all rows. -/
theorem gains (c : Dev nD) (t : Fin cfg0.N) (ht : t.val % 16 = 15) :
    ((outsAt0 m c t.val t.isLt).2.2.1 : FVec Ideal S1x1024 .f32) = val_main_v52 (F := Ideal) (a0 m c) (a1 m c) (a2 m c) := by
  funext i
  obtain ⟨z, k, hi⟩ : ∃ (z : Fin 1) (k : Fin 1024), i = ix2 z k := ⟨i 0, i 1, eq_ix2 i⟩
  subst hi
  obtain rfl : z = 0 := Subsingleton.elim _ _
  rw [ref_gains, sum_blocks (n := 16) (b := 512) (by rfl)]
  refine sum_points (fun n h => ((outsAt0 m c n h).2.2.1 (ix2 0 k) : EReal)) (part m c k) ?_ ?_ t ht
  · intro h
    rw [outsAt0_A m c ⟨0, h⟩ rfl]
    dsimp only
    rw [gains_first]
    pointwise [k0_pay4, k0_pay2]
    exact pay12_ref m c ⟨0, h⟩ k
  · intro n h
    rw [outsAt0_B m c ⟨n + 1, h⟩ (by have := lt16 ⟨n + 1, h⟩; dsimp only at this ⊢; omega)]
    dsimp only
    rw [gains_later]
    pointwise [k0_pay4]
    exact congrArg _ (pay12_ref m c ⟨n + 1, h⟩ k)

/-- The loss after the last point: half the sum over all rows. -/
theorem loss (c : Dev nD) (t : Fin cfg0.N) (ht : t.val % 16 = 15) :
    ((outsAt0 m c t.val t.isLt).1 : FVec Ideal S1x1 .f32) = val_main_v51 (F := Ideal) (a0 m c) (a1 m c) (a2 m c) := by
  funext i
  obtain ⟨z, k, hi⟩ : ∃ (z : Fin 1) (k : Fin 1), i = ix2 z k := ⟨i 0, i 1, eq_ix2 i⟩
  subst hi
  obtain rfl : z = 0 := Subsingleton.elim _ _
  obtain rfl : k = 0 := Subsingleton.elim _ _
  rw [ref_loss, sum_blocks (n := 16) (b := 512) (by rfl), ← half_sum]
  refine sum_points (fun n h => ((outsAt0 m c n h).1 (ix2 0 0) : EReal)) (fun n => Ideal.ofBits .f32 0x3F000000#32 * part3 m c n) ?_ ?_ t ht
  · intro h
    rw [outsAt0_A m c ⟨0, h⟩ rfl]
    dsimp only
    rw [loss_first]
    refine (pay5_ref m c ⟨0, h⟩ _).trans ?_
    pointwise [k0_pay3]
  · intro n h
    rw [outsAt0_B m c ⟨n + 1, h⟩ (by have := lt16 ⟨n + 1, h⟩; dsimp only at this ⊢; omega)]
    dsimp only
    rw [loss_later]
    exact pay5_ref m c ⟨n + 1, h⟩ _

theorem eq_last (s t : Fin cfg0.N) (hs : s.val % 16 = 15) (ht : t.val % 16 = 15) : s = t := by
  have := lt16 t
  have := lt16 s
  exact Fin.ext (by omega)

/-- The last grid point. -/
theorem exists_last : ∃ t : Fin cfg0.N, t.val % 16 = 15 := ⟨⟨15, by rw [N16]; omega⟩, rfl⟩

/-- The gains' cotangent at the end. -/
theorem arr5 (c : Dev nD) : (dats m 0 c).arrAt 5 cfg0.N = val_main_v52 (F := Ideal) (a0 m c) (a1 m c) (a2 m c) := by
  have hX : ∀ s : Fin cfg0.N, s.val % 16 = 15 → ((outsAt0 m c s.val s.isLt).2.2.1 : FVec Ideal S1x1024 .f32) = val_main_v52 (F := Ideal) (a0 m c) (a1 m c) (a2 m c) :=
    fun s hs => gains m c s hs
  generalize val_main_v52 (F := Ideal) (a0 m c) (a1 m c) (a2 m c) = X at hX ⊢
  have hf : ∀ s, (cfg0.win 5).flush s = true →
      (dats m 0 c).flushed 5 s = ((cfg0.win 5).blk s).view.read (Elt Ideal) (X : Buf (Elt Ideal) ((c : Thread nD τ).loc main_v1_2)) := by
    intro s hs
    show (cfg0.win 5).cut (grid0.coords s) ((dats m 0 c).after 5 s) = _
    rw [after0_5, hX s ((flush0_5 s).mp hs)]
    have hz : (fun a => win0_5.index s a * main_v1_2.ty.shape.size a) = fun _ => 0 := funext fun a => by rw [index5 s a, Nat.zero_mul]
    exact (Memref.read_access_unit_zero (Elt Ideal) main_v1_2 hz (fun a => by rw [congrFun hz a]; simp) X).symm
  obtain ⟨t, ht⟩ := exists_last
  refine (dats m 0 c).arrAt_eq_of_cover 5 X hf fun i => ⟨t, (flush0_5 t).mpr ht, ?_⟩
  show i ∈ ((View.whole main_v1_2).slice (win0_5.rect t)).set
  rw [View.set_slice_whole, Rect.mem_set_unit]
  intro a
  have hx : ∀ a : Fin 2, win0_5.xsize (grid0.coords t) a = win0_5.size a := by revert t; decide +kernel
  show win0_5.index t a * win0_5.size a ≤ (i a : Nat) ∧ (i a : Nat) < win0_5.index t a * win0_5.size a + win0_5.xsize (grid0.coords t) a
  rw [index5, hx, Nat.zero_mul, Nat.zero_add]
  exact ⟨Nat.zero_le _, (i a).isLt⟩

/-- The loss at the end. -/
theorem arr3 (c : Dev nD) : (dats m 0 c).arrAt 3 cfg0.N = val_main_v51 (F := Ideal) (a0 m c) (a1 m c) (a2 m c) := by
  have hX : ∀ s : Fin cfg0.N, s.val % 16 = 15 → ((outsAt0 m c s.val s.isLt).1 : FVec Ideal S1x1 .f32) = val_main_v51 (F := Ideal) (a0 m c) (a1 m c) (a2 m c) :=
    fun s hs => loss m c s hs
  generalize val_main_v51 (F := Ideal) (a0 m c) (a1 m c) (a2 m c) = X at hX ⊢
  have hf : ∀ s, (cfg0.win 3).flush s = true →
      (dats m 0 c).flushed 3 s = ((cfg0.win 3).blk s).view.read (Elt Ideal) (X : Buf (Elt Ideal) ((c : Thread nD τ).loc main_v1_0)) := by
    intro s hs
    show (cfg0.win 3).cut (grid0.coords s) ((dats m 0 c).after 3 s) = _
    rw [after0_3, hX s ((flush0_3 s).mp hs)]
    have hz : (fun a => win0_3.index s a * main_v1_0.ty.shape.size a) = fun _ => 0 := funext fun a => by rw [index3 s a, Nat.zero_mul]
    exact (Memref.read_access_unit_zero (Elt Ideal) main_v1_0 hz (fun a => by rw [congrFun hz a]; simp) X).symm
  obtain ⟨t, ht⟩ := exists_last
  refine (dats m 0 c).arrAt_eq_of_cover 3 X hf fun i => ⟨t, (flush0_3 t).mpr ht, ?_⟩
  show i ∈ ((View.whole main_v1_0).slice (win0_3.rect t)).set
  rw [View.set_slice_whole, Rect.mem_set_unit]
  intro a
  have hx : ∀ a : Fin 2, win0_3.xsize (grid0.coords t) a = win0_3.size a := by revert t; decide +kernel
  show win0_3.index t a * win0_3.size a ≤ (i a : Nat) ∧ (i a : Nat) < win0_3.index t a * win0_3.size a + win0_3.xsize (grid0.coords t) a
  rw [index3, hx, Nat.zero_mul, Nat.zero_add]
  exact ⟨Nat.zero_le _, (i a).isLt⟩

end Cert.Kernel23Ideal.Blocks

end
-- ==== Proof.Optimiser.lean ====
/- The small weights' update: the sum of their gradients over the devices, and the optimiser's step. -/
module

public import proofs.«01_k».proof.Proof.Sums
public import Idealize.ShloMosaic.Lib.Pipeline.ReadBack
public import Idealize.ShloMosaic.Lib.Pipeline.ValueKit.Tiles
public import proofs.«01_k».proof.Proof.Gen.Kernel25Ideal.Value
public import proofs.«01_k».proof.Proof.Gen.Reference25Ideal.Read
public import proofs.«01_k».proof.Proof.Gen.Kernel26Ideal.Value
public import proofs.«01_k».proof.Proof.Gen.Reference26Ideal.Read

@[expose] public section

noncomputable section

open Idealize.ShloMosaic Idealize.ShloMosaic.TcCoe Idealize.SL.Sem Cert.Sums

namespace Cert.Kernel25Ideal.Blocks

open Cert.Kernel25Ideal Cert.Kernel25Ideal.Gen Cert.Reference25Ideal.Read

variable (m : (ℓ : Loc nD τ sig) → Buf (Elt Ideal) ℓ)

/-- The gradients of all devices. -/
abbrev a0 (c : Dev nD) : FVec Ideal S8x1672x128 .f32 := m ((c : Thread nD τ).loc main_arg0)

theorem N19 : cfg0.N = 19 := by decide +kernel

/-- A point reads the rows of its number, of every device. -/
theorem index0 : ∀ t : Fin cfg0.N, win0_0.index t 0 = 0 ∧ win0_0.index t 1 = t.val ∧ win0_0.index t 2 = 0 :=
  (by decide +kernel : ∀ t : Fin grid0.N, win0_0.index t 0 = 0 ∧ win0_0.index t 1 = t.val ∧ win0_0.index t 2 = 0)
/-- A point writes the rows of its number. -/
theorem index1 : ∀ t : Fin cfg0.N, win0_1.index t 0 = t.val ∧ win0_1.index t 1 = 0 :=
  (by decide +kernel : ∀ t : Fin grid0.N, win0_1.index t 0 = t.val ∧ win0_1.index t 1 = 0)

/-- The row of the array under a row of a point's block. -/
def row (t : Fin cfg0.N) (p : Fin 88) : Fin 1672 := ⟨t.val * 88 + p.val, by have := t.isLt; have := N19; omega⟩

theorem blk0 (c : Dev nD) (t : Fin cfg0.N) (d : Fin 8) (p : Fin 88) (k : Fin 128) :
    (iblk m c 0 t : FVec Ideal S8x88x128 .f32) (ix3 d p k) = a0 m c (ix3 d (row t p) k) := by
  unfold iblk
  rw [View.read_apply]
  show V m c main_arg0 _ = _
  rw [V_main_arg0]
  congr 1
  funext a
  apply Fin.ext
  obtain ⟨i0, i1, i2⟩ := index0 t
  match a with
  | ⟨0, _⟩ => show win0_0.index t 0 * 8 + 1 * d.val = d.val; rw [i0]; omega
  | ⟨1, _⟩ => show win0_0.index t 1 * 88 + 1 * p.val = t.val * 88 + p.val; rw [i1]; omega
  | ⟨2, _⟩ => show win0_0.index t 2 * 128 + 1 * k.val = k.val; rw [i2]; omega

/-- A point leaves the sum of its blocks over the devices. -/
theorem out_eq (x0 : Vec Ideal S8x88x128 .f32) (p : Fin 88) (k : Fin 128) : (out0_1 x0 (ix2 p k) : EReal) = ∑ d : Fin 8, x0 (ix3 d p k) := by
  unfold out0_1
  rw [Value.canon1_eq, Fin.sum_univ_eight]
  simp only [Value.E1]
  show (_ + _ + _ + _ + _ + _ + _ + _ : EReal) = _
  congr 1; congr 1; congr 1; congr 1; congr 1; congr 1; congr 1
  all_goals rw [View.ld_apply]; congr 1; funext a; apply Fin.ext; fin_cases a <;> simp [Rect.unit]

/-- The kernel's result is the reference's. -/
theorem equal (c : Dev nD) : (dats m 0 c).arrAt 1 cfg0.N = val_main_v0 (F := Ideal) (a0 m c) := by
  funext i
  obtain ⟨r, k, hi⟩ : ∃ (r : Fin 1672) (k : Fin 128), i = ix2 r k := ⟨i 0, i 1, eq_ix2 i⟩
  subst hi
  have ht : r.val / 88 < cfg0.N := by have := r.isLt; rw [N19]; omega
  let t : Fin cfg0.N := ⟨r.val / 88, ht⟩
  let p : Fin 88 := ⟨r.val % 88, Nat.mod_lt _ (by omega)⟩
  have hr : row t p = r := Fin.ext (by show r.val / 88 * 88 + r.val % 88 = r.val; omega)
  have h := congrFun (Value.blocks1 m c t (flush0_1 _)) (ix2 p k)
  rw [View.read_apply, Value.flushed1] at h
  have e : (∑ d : Fin 8, (iblk m c 0 t : FVec Ideal S8x88x128 .f32) (ix3 d p k) : EReal) = val_main_v0 (F := Ideal) (a0 m c) (ix2 r k) := by
    simp only [blk0, hr]
    pointwise [val_main_v0, val_main_cst]
  refine Eq.trans ?_ (h.trans ((out_eq _ p k).trans e))
  show _ = ((dats m 0 c).arrAt 1 cfg0.N : FVec Ideal S1672x128 .f32) _
  congr 1
  funext a
  apply Fin.ext
  obtain ⟨i0, i1⟩ := index1 t
  match a with
  | ⟨0, _⟩ => show r.val = win0_1.index t 0 * 88 + 1 * (r.val % 88); rw [i0]; show r.val = r.val / 88 * 88 + 1 * (r.val % 88); omega
  | ⟨1, _⟩ => show k.val = win0_1.index t 1 * 128 + 1 * k.val; rw [i1]; omega

end Cert.Kernel25Ideal.Blocks

namespace Cert.Kernel26Ideal.Blocks

open Cert.Kernel26Ideal Cert.Kernel26Ideal.Gen Cert.Reference26Ideal.Read

/-- The mean of the gradients is the reference's. -/
theorem mean (x1 x2 : FVec Ideal S1672x128 .f32) : Value.G5 (F := Ideal) x1 x2 = val_main_v4 (F := Ideal) x1 x2 := by
  funext i
  obtain ⟨r, k, rfl⟩ : ∃ (r : Fin 1672) (k : Fin 128), i = ix2 r k := ⟨i 0, i 1, eq_ix2 i⟩
  pointwise [val_main_v4, val_main_v3, val_main_v2, val_main_v1, val_main_v0, val_main_cst, val_main_cst_0]

/-- The mean of the gradients' squares is the reference's. -/
theorem square (x1 x3 : FVec Ideal S1672x128 .f32) : Value.G6 (F := Ideal) x1 x3 = val_main_v10 (F := Ideal) x1 x3 := by
  funext i
  obtain ⟨r, k, rfl⟩ : ∃ (r : Fin 1672) (k : Fin 128), i = ix2 r k := ⟨i 0, i 1, eq_ix2 i⟩
  pointwise [val_main_v10, val_main_v9, val_main_v8, val_main_v7, val_main_v6, val_main_v5, val_main_cst_1, val_main_cst_2]

/-- The change of the weights is the reference's. -/
theorem change (x0 x1 x2 x3 : FVec Ideal S1672x128 .f32) : Value.G4 (F := Ideal) x0 x1 x2 x3 = val_main_v23 (F := Ideal) x0 x1 x2 x3 := by
  funext i
  obtain ⟨r, k, rfl⟩ : ∃ (r : Fin 1672) (k : Fin 128), i = ix2 r k := ⟨i 0, i 1, eq_ix2 i⟩
  pointwise [val_main_v23, val_main_v22, val_main_v21, val_main_v20, val_main_v19, val_main_v18, val_main_v17, val_main_v16, val_main_v15,
    val_main_v14, val_main_v13, val_main_v12, val_main_v11, val_main_v10, val_main_v9, val_main_v8, val_main_v7, val_main_v6, val_main_v5,
    val_main_v4, val_main_v3, val_main_v2, val_main_v1, val_main_v0, val_main_cst, val_main_cst_0, val_main_cst_1, val_main_cst_2,
    val_main_cst_3, val_main_cst_4, val_main_cst_5, val_main_cst_6, val_main_cst_7]

end Cert.Kernel26Ideal.Blocks
-- ==== Proof.Halves.lean ====
/- The optimiser's step of a large weight: the device's half of the gradient is its own, the other half its partner's. -/
module

public import proofs.«01_k».proof.Proof.Sums
public import Idealize.ShloMosaic.Lib.Pipeline.ReadBack
public import Idealize.ShloMosaic.Lib.Pipeline.ValueKit.Tiles
public import proofs.«01_k».proof.Proof.Gen.Kernel27Ideal.Frame
public import proofs.«01_k».proof.Proof.Gen.Reference27Ideal.Read

@[expose] public section

noncomputable section

open Idealize.ShloMosaic Idealize.ShloMosaic.TcCoe Idealize.SL.Sem Cert.Sums

namespace Cert.Kernel27Ideal.Blocks

open Cert.Kernel27Ideal Cert.Kernel27Ideal.Gen Cert.Reference27Ideal.Read

theorem hz : (![0, 0] : Fin 2 → Nat) = fun _ => 0 := funext fun a => by fin_cases a <;> rfl

section Points

variable (c : Dev nD) (i : grid0.Coords)
  (b2 : Memref sig .tc .vmem S256x1408 .f32) (h2 : b2.IsWhole) (b3 : Memref sig .tc .vmem S256x1408 .f32) (h3 : b3.IsWhole)
  (b4 : Memref sig .tc .vmem S256x1408 .f32) (h4 : b4.IsWhole) (b5 : Memref sig .tc .vmem S256x1408 .f32) (h5 : b5.IsWhole)
  (b6 : Memref sig .tc .vmem S256x1408 .f32) (h6 : b6.IsWhole) (b7 : Memref sig .tc .vmem S256x1408 .f32) (h7 : b7.IsWhole)
  (b8 : Memref sig .tc .vmem S256x1408 .f32) (h8 : b8.IsWhole) (b9 : Memref sig .tc .vmem S256x1408 .f32) (h9 : b9.IsWhole)
  (b10 : Memref sig .tc .vmem S256x1408 .f32) (h10 : b10.IsWhole)
  (x0 x1 x2 x3 x4 : Vec Ideal S256x1408 .f32) (xt0 : TbBuf0 (F := Ideal) c tbM0_0)

/-- The gradient a point chooses. -/
abbrev chosen : FVec Ideal S256x1408 .f32 := k0_pay4 (F := Ideal) i ((xt0 : IVec S1 32) (ix1 0)) x1 x2

/-- A point leaves the chosen gradient, the change of the weights and the two means. -/
theorem leaves : (out0_A_5 c i b2 h2 b3 h3 b4 h4 b5 h5 b6 h6 b7 h7 b8 h8 b9 h9 b10 h10 x0 x1 x2 x3 x4 xt0, out0_A_6 c i b2 h2 b3 h3 b4 h4 b5 h5 b6 h6 b7 h7 b8 h8 b9 h9 b10 h10 x0 x1 x2 x3 x4 xt0,
      out0_A_7 c i b2 h2 b3 h3 b4 h4 b5 h5 b6 h6 b7 h7 b8 h8 b9 h9 b10 h10 x0 x1 x2 x3 x4 xt0, out0_A_8 c i b2 h2 b3 h3 b4 h4 b5 h5 b6 h6 b7 h7 b8 h8 b9 h9 b10 h10 x0 x1 x2 x3 x4 xt0)
    = (chosen c i x1 x2 xt0, k0_pay3 (F := Ideal) (chosen c i x1 x2 xt0) x0 x3 x4, k0_pay1 (F := Ideal) (chosen c i x1 x2 xt0) x3,
      k0_pay2 (F := Ideal) (chosen c i x1 x2 xt0) x4) := by
  unfold out0_A_5 out0_A_6 out0_A_7 out0_A_8
  rw [View.read_writes_eq_canon _ _ _ (cover0_A_5 c i b2 h2 b3 h3 b4 h4 b5 h5 b6 h6 b7 h7 b8 h8 b9 h9 b10 h10 x0 x1 x2 x3 x4 xt0),
    View.read_writes_eq_canon _ _ _ (cover0_A_6 c i b2 h2 b3 h3 b4 h4 b5 h5 b6 h6 b7 h7 b8 h8 b9 h9 b10 h10 x0 x1 x2 x3 x4 xt0),
    View.read_writes_eq_canon _ _ _ (cover0_A_7 c i b2 h2 b3 h3 b4 h4 b5 h5 b6 h6 b7 h7 b8 h8 b9 h9 b10 h10 x0 x1 x2 x3 x4 xt0),
    View.read_writes_eq_canon _ _ _ (cover0_A_8 c i b2 h2 b3 h3 b4 h4 b5 h5 b6 h6 b7 h7 b8 h8 b9 h9 b10 h10 x0 x1 x2 x3 x4 xt0)]
  unfold kernelRun0_A
  dsimp only
  sl_unfold_words
  have e (hn : 0 < S1.numel) : View.ld (View.read (Elt Ideal) (View.whole main_arg5) xt0) (Rect.unit ![0] ![1] inb_S1_S1_0) (Shape.Idx.first hn) = (xt0 : IVec S1 32) (ix1 0) := by
    rw [View.ld_apply, View.read_apply]
    refine congrArg xt0 (funext fun a => Fin.ext ?_)
    fin_cases a
    rfl
  rw [View.canon_unit_zero hz, View.canon_unit_zero hz, View.canon_unit_zero hz, View.canon_unit_zero hz]
  simp only [View.readAt_eq_ld, View.ld_unit_zero (S := S256x1408) hz, h2.read_unread, h3.read_unread, h4.read_unread, h5.read_unread, h6.read_unread]
  rw [e]

/-- A point takes the device's own gradient where the point's half is the device's. -/
theorem pick (z : BitVec 32) : k0_pay4 (F := Ideal) i z x1 x2 = Scalar.select (IntOp.cmpi .eq (BitVec.ofNat 32 ((i 0).val / 2 % 2)) z) x1 x2 := by
  unfold k0_pay4
  generalize (i 0) = n
  change Fin 16 at n
  fin_cases n <;> rfl

/-- The same, an entry at a time. -/
theorem pick_apply (z : BitVec 32) (j : Nat) (hj : (i 0).val / 2 % 2 = j) (p : Fin 256) (k : Fin 1408) (y1 y2 : EReal)
    (h1 : (x1 (ix2 p k) : EReal) = y1) (h2 : (x2 (ix2 p k) : EReal) = y2) :
    (k0_pay4 (F := Ideal) i z x1 x2 (ix2 p k) : EReal) = Scalar.select (IntOp.cmpi .eq (BitVec.ofNat 32 j) z) y1 y2 := by
  rw [pick, hj]
  unfold Scalar.select
  split
  · exact h1
  · exact h2

end Points

/-- The reference's gradient at a row is the device's own where the row's half is the device's. -/
theorem pick_ref (x1 x2 : FVec Ideal S2048x1408 .f32) (x5 : IVec S1 32) (r : Fin 4096) (k : Fin 1408) (q : Fin 2048)
    (hq : q.val = r.val / 1024 * 512 + r.val % 512) :
    (val_main_v8 (F := Ideal) x1 x2 x5 (ix2 r k) : EReal)
      = Scalar.select (IntOp.cmpi .eq (BitVec.ofNat 32 (r.val / 512 % 2)) (x5 (ix1 0))) (x1 (ix2 q k)) (x2 (ix2 q k)) := by
  rw [val_main_v8_apply, val_main_v7_apply, val_main_call0_v0_apply, val_main_call0_v1_apply, val_main_call0_v2_apply, val_main_v4_apply,
    val_main_v5_apply, val_main_v6_apply, val_main_v1_apply, val_main_v3_apply, val_main_v0_apply]
  have hr := r.isLt
  have hk := k.isLt
  have e0 : ((r.val * 1408 + k.val) / 720896 % 2) = r.val / 512 % 2 := by omega
  have e1 : (((r.val * 1408 + k.val) / 1441792 * 1 + 0) * 512 + (r.val * 1408 + k.val) / 1408 % 512) * 1408 + (r.val * 1408 + k.val) % 1408
      = q.val * 1408 + k.val := by omega
  have e2 : val_main_v2 (F := Ideal) x5 (idx_main_v3 (idx_main_call0_v0 (idx_main_v8 (ix2 r k)))) = x5 (ix1 0) := by
    unfold val_main_v2
    unfold shapeCast
    refine congrArg x5 (funext fun a => Fin.ext ?_)
    match a with
    | ⟨0, _⟩ => exact Nat.lt_one_iff.mp (Fin.isLt _)
  have e3 : idx_main_v5 (idx_main_call0_v1 (idx_main_v8 (ix2 r k))) = ix2 q k := by
    funext a
    apply Fin.ext
    match a with
    | ⟨0, _⟩ =>
      show ((((r.val * 1408 + k.val) / 1441792 * 1 + 0) * 512 + (r.val * 1408 + k.val) / 1408 % 512) * 1408 + (r.val * 1408 + k.val) % 1408) / 1408 = q.val
      rw [e1]; omega
    | ⟨1, _⟩ =>
      show ((((r.val * 1408 + k.val) / 1441792 * 1 + 0) * 512 + (r.val * 1408 + k.val) / 1408 % 512) * 1408 + (r.val * 1408 + k.val) % 1408) % 1408 = k.val
      rw [e1]; omega
  have e4 : idx_main_v6 (idx_main_call0_v2 (idx_main_v8 (ix2 r k))) = ix2 q k := e3
  rw [e2, e3, e4]
  show Scalar.select (IntOp.cmpi .eq (BitVec.ofNat 32 ((r.val * 1408 + k.val) / 720896 % 2)) _) _ _ = _
  rw [e0]

section Step

variable (x0 x3 x4 : FVec Ideal S4096x1408 .f32) (x1 x2 : FVec Ideal S2048x1408 .f32) (x5 : IVec S1 32)
  (G X0 X3 X4 : FVec Ideal S256x1408 .f32) (p : Fin 256) (k : Fin 1408) (r : Fin 4096)

/-- The mean of the gradients, from equal gradients and means. -/
theorem mean (hG : (G (ix2 p k) : EReal) = val_main_v8 (F := Ideal) x1 x2 x5 (ix2 r k)) (h3 : (X3 (ix2 p k) : EReal) = x3 (ix2 r k)) :
    (k0_pay1 (F := Ideal) G X3 (ix2 p k) : EReal) = val_main_v13 (F := Ideal) x1 x2 x3 x5 (ix2 r k) := by
  pointwise [k0_pay1, val_main_v13, val_main_v12, val_main_v11, val_main_v10, val_main_v9, val_main_cst, val_main_cst_0]
  rw [hG, h3]

/-- The mean of the gradients' squares, from equal gradients and means. -/
theorem square (hG : (G (ix2 p k) : EReal) = val_main_v8 (F := Ideal) x1 x2 x5 (ix2 r k)) (h4 : (X4 (ix2 p k) : EReal) = x4 (ix2 r k)) :
    (k0_pay2 (F := Ideal) G X4 (ix2 p k) : EReal) = val_main_v19 (F := Ideal) x1 x2 x4 x5 (ix2 r k) := by
  pointwise [k0_pay2, val_main_v19, val_main_v18, val_main_v17, val_main_v16, val_main_v15, val_main_v14, val_main_cst_1, val_main_cst_2]
  rw [hG, h4]

/-- The change of the weights, from equal gradients, weights and means. -/
theorem change (hG : (G (ix2 p k) : EReal) = val_main_v8 (F := Ideal) x1 x2 x5 (ix2 r k)) (h0 : (X0 (ix2 p k) : EReal) = x0 (ix2 r k))
    (h3 : (X3 (ix2 p k) : EReal) = x3 (ix2 r k)) (h4 : (X4 (ix2 p k) : EReal) = x4 (ix2 r k)) :
    (k0_pay3 (F := Ideal) G X0 X3 X4 (ix2 p k) : EReal) = val_main_v32 (F := Ideal) x0 x1 x2 x3 x4 x5 (ix2 r k) := by
  pointwise [k0_pay3, val_main_v32, val_main_v31, val_main_v30, val_main_v29, val_main_v28, val_main_v27, val_main_v26, val_main_v25, val_main_v24,
    val_main_v23, val_main_v22, val_main_v21, val_main_v20, val_main_cst_3, val_main_cst_4, val_main_cst_5, val_main_cst_6, val_main_cst_7]
  rw [mean x3 x1 x2 x5 G X3 p k r hG h3, square x4 x1 x2 x5 G X4 p k r hG h4, h0]

end Step

variable (m : (ℓ : Loc nD τ sig) → Buf (Elt Ideal) ℓ)

/-- The weights. -/
abbrev a0 (c : Dev nD) : FVec Ideal S4096x1408 .f32 := m ((c : Thread nD τ).loc main_arg0)
/-- The device's half of the gradient. -/
abbrev a1 (c : Dev nD) : FVec Ideal S2048x1408 .f32 := m ((c : Thread nD τ).loc main_arg1)
/-- Its partner's half. -/
abbrev a2 (c : Dev nD) : FVec Ideal S2048x1408 .f32 := m ((c : Thread nD τ).loc main_arg2)
/-- The mean of the gradients so far. -/
abbrev a3 (c : Dev nD) : FVec Ideal S4096x1408 .f32 := m ((c : Thread nD τ).loc main_arg3)
/-- The mean of their squares so far. -/
abbrev a4 (c : Dev nD) : FVec Ideal S4096x1408 .f32 := m ((c : Thread nD τ).loc main_arg4)
/-- Which half is the device's. -/
abbrev a5 (c : Dev nD) : IVec S1 32 := m ((c : Thread nD τ).loc main_arg5)

/-- No block is placed by the table, so any table will do. -/
theorem ok : Ok m := trivial

/-- Row `p` of a point's block. -/
abbrev row (t : Fin grid0.N) (p : Fin 256) : Fin 4096 := ⟨t.val * 256 + p.val, by have := t.isLt; have := N_0; have := p.isLt; omega⟩
/-- Row `p` of a point's block of a half. -/
abbrev half (t : Fin grid0.N) (p : Fin 256) : Fin 2048 := ⟨(t.val / 4 * 2 + t.val % 2) * 256 + p.val, by have := t.isLt; have := N_0; have := p.isLt; omega⟩

theorem coord : ∀ t : Fin grid0.N, (grid0.coords t 0).val = t.val := by decide +kernel
theorem index : ∀ t : Fin grid0.N, (cc0_transform_0 (grid0.coords t) 0 = t.val ∧ cc0_transform_0 (grid0.coords t) 1 = 0)
    ∧ cc0_transform_1 (grid0.coords t) 0 = t.val / 4 * 2 + t.val % 2 ∧ cc0_transform_1 (grid0.coords t) 1 = 0 := by decide +kernel

/-- An entry of a whole array, by its point. -/
theorem placed (A : FVec Ideal S4096x1408 .f32) (t : Fin grid0.N) (p : Fin 256) (k : Fin 1408) (e : S4096x1408.Idx)
    (h0 : (e 0).val = cc0_transform_0 (grid0.coords t) 0 * 256 + 1 * p.val) (h1 : (e 1).val = cc0_transform_0 (grid0.coords t) 1 * 1408 + 1 * k.val) :
    A (ix2 (row t p) k) = A e := by
  obtain ⟨⟨i0, i1⟩, _⟩ := index t
  refine congrArg A (funext fun a => Fin.ext ?_)
  match a with
  | ⟨0, _⟩ => rw [i0] at h0; show t.val * 256 + p.val = (e 0).val; omega
  | ⟨1, _⟩ => rw [i1] at h1; show k.val = (e 1).val; omega

/-- An entry of a half, by its point. -/
theorem placed_half (A : FVec Ideal S2048x1408 .f32) (t : Fin grid0.N) (p : Fin 256) (k : Fin 1408) (e : S2048x1408.Idx)
    (h0 : (e 0).val = cc0_transform_1 (grid0.coords t) 0 * 256 + 1 * p.val) (h1 : (e 1).val = cc0_transform_1 (grid0.coords t) 1 * 1408 + 1 * k.val) :
    A (ix2 (half t p) k) = A e := by
  obtain ⟨_, i0, i1⟩ := index t
  refine congrArg A (funext fun a => Fin.ext ?_)
  match a with
  | ⟨0, _⟩ => rw [i0] at h0; show (t.val / 4 * 2 + t.val % 2) * 256 + p.val = (e 0).val; omega
  | ⟨1, _⟩ => rw [i1] at h1; show k.val = (e 1).val; omega

theorem blk0 (c : Dev nD) (t : Fin grid0.N) (p : Fin 256) (k : Fin 1408) : ((iblk m (ok m) c 0 t : FVec Ideal S256x1408 .f32) (ix2 p k) : EReal) = a0 m c (ix2 (row t p) k) := by
  unfold iblk
  exact (View.read_apply _ _).trans (placed (a0 m c) t p k _ rfl rfl).symm

theorem blk1 (c : Dev nD) (t : Fin grid0.N) (p : Fin 256) (k : Fin 1408) : ((iblk m (ok m) c 1 t : FVec Ideal S256x1408 .f32) (ix2 p k) : EReal) = a1 m c (ix2 (half t p) k) := by
  unfold iblk
  exact (View.read_apply _ _).trans (placed_half (a1 m c) t p k _ rfl rfl).symm

theorem blk2 (c : Dev nD) (t : Fin grid0.N) (p : Fin 256) (k : Fin 1408) : ((iblk m (ok m) c 2 t : FVec Ideal S256x1408 .f32) (ix2 p k) : EReal) = a2 m c (ix2 (half t p) k) := by
  unfold iblk
  exact (View.read_apply _ _).trans (placed_half (a2 m c) t p k _ rfl rfl).symm

theorem blk3 (c : Dev nD) (t : Fin grid0.N) (p : Fin 256) (k : Fin 1408) : ((iblk m (ok m) c 3 t : FVec Ideal S256x1408 .f32) (ix2 p k) : EReal) = a3 m c (ix2 (row t p) k) := by
  unfold iblk
  exact (View.read_apply _ _).trans (placed (a3 m c) t p k _ rfl rfl).symm

theorem blk4 (c : Dev nD) (t : Fin grid0.N) (p : Fin 256) (k : Fin 1408) : ((iblk m (ok m) c 4 t : FVec Ideal S256x1408 .f32) (ix2 p k) : EReal) = a4 m c (ix2 (row t p) k) := by
  unfold iblk
  exact (View.read_apply _ _).trans (placed (a4 m c) t p k _ rfl rfl).symm

/-- The table holds the device's half. -/
theorem table (c : Dev nD) : ((tbl m 0 : IVec S1 32) (ix1 0)) = a5 m c (ix1 0) := by
  obtain rfl : c = 0 := Subsingleton.elim _ _
  rfl

/-- The gradient a point takes. -/
abbrev grad (c : Dev nD) (t : Fin grid0.N) : FVec Ideal S256x1408 .f32 :=
  k0_pay4 (F := Ideal) (grid0.coords t) ((tbl m 0 : IVec S1 32) (ix1 0)) (iblk m (ok m) c 1 t) (iblk m (ok m) c 2 t)

theorem grad_eq (c : Dev nD) (t : Fin grid0.N) (p : Fin 256) (k : Fin 1408) :
    (grad m c t (ix2 p k) : EReal) = val_main_v8 (F := Ideal) (a1 m c) (a2 m c) (a5 m c) (ix2 (row t p) k) := by
  have hp := p.isLt
  rw [pick_ref (a1 m c) (a2 m c) (a5 m c) (row t p) k (half t p)
    (by show (t.val / 4 * 2 + t.val % 2) * 256 + p.val = (t.val * 256 + p.val) / 1024 * 512 + (t.val * 256 + p.val) % 512; omega)]
  refine (pick_apply (grid0.coords t) _ _ _ (t.val / 2 % 2) (by rw [coord]) p k _ _ (blk1 m c t p k) (blk2 m c t p k)).trans ?_
  rw [show (row t p).val / 512 % 2 = t.val / 2 % 2 by show (t.val * 256 + p.val) / 512 % 2 = _; omega]
  exact congrArg (fun z => Scalar.select (IntOp.cmpi .eq (BitVec.ofNat 32 (t.val / 2 % 2)) z) (a1 m c (ix2 (half t p) k)) (a2 m c (ix2 (half t p) k))) (table m c)

/-- Distinct points write distinct blocks. -/
theorem distinct : ∀ t t' : Fin grid0.N, cc0_transform_0 (grid0.coords t) = cc0_transform_0 (grid0.coords t') → t = t' := by decide +kernel

/-- Every entry is in the block of a point. -/
theorem at_row (i : S4096x1408.Idx) : ∃ (t : Fin grid0.N) (p : Fin 256) (k : Fin 1408), i = ix2 (row t p) k := by
  have h : (i 0).val < 4096 := (i 0).isLt
  refine ⟨⟨(i 0).val / 256, by rw [N_0]; omega⟩, ⟨(i 0).val % 256, Nat.mod_lt _ (by omega)⟩, i 1, (eq_ix2 i).trans (congrArg (fun r => ix2 r (i 1)) (Fin.ext ?_))⟩
  show (i 0).val = (i 0).val / 256 * 256 + (i 0).val % 256
  omega

/-- What a point leaves. -/
theorem left (c : Dev nD) (t : Fin grid0.N) : outsAt0 m (ok m) c t = (grad m c t, k0_pay3 (F := Ideal) (grad m c t) (iblk m (ok m) c 0 t) (iblk m (ok m) c 3 t) (iblk m (ok m) c 4 t),
    k0_pay1 (F := Ideal) (grad m c t) (iblk m (ok m) c 3 t), k0_pay2 (F := Ideal) (grad m c t) (iblk m (ok m) c 4 t)) := by
  unfold outsAt0
  exact leaves c (grid0.coords t) _ _ _ _ _ _ _ _ _ _ _ _ _ _ _ _ _ _ (iblk m (ok m) c 0 t) (iblk m (ok m) c 1 t) (iblk m (ok m) c 2 t) (iblk m (ok m) c 3 t) (iblk m (ok m) c 4 t) (tbl m 0)

/-- The gradient at the end is the reference's. -/
theorem arr5 (c : Dev nD) : (dats m (ok m) 0 c).arrAt 5 (cfgM m (ok m)).N = val_main_v8 (F := Ideal) (a1 m c) (a2 m c) (a5 m c) := by
  refine funext fun (i : S4096x1408.Idx) => ?_
  obtain ⟨t, p, k, rfl⟩ := at_row i
  have h := congrFun (((dats m (ok m) 0 c).read_blk_arrAt_eq_flushed 5 (fun t t' _ _ hne => ((cfgM m (ok m)).win 5).disjoint_blk fun h => hne (distinct t t' h))
    (cfgM m (ok m)).N t t.isLt (flush0_5 _ t)).trans ((after0_5 m (ok m) c t).trans (congrArg (·.1) (left m c t)))) (ix2 p k)
  generalize (dats m (ok m) 0 c).arrAt 5 (cfgM m (ok m)).N = A at h ⊢
  refine (placed A t p k _ rfl rfl).trans ((View.read_apply _ _).symm.trans (h.trans ?_))
  exact grad_eq m c t p k

/-- The change of the weights at the end is the reference's. -/
theorem arr6 (c : Dev nD) : (dats m (ok m) 0 c).arrAt 6 (cfgM m (ok m)).N = val_main_v32 (F := Ideal) (a0 m c) (a1 m c) (a2 m c) (a3 m c) (a4 m c) (a5 m c) := by
  refine funext fun (i : S4096x1408.Idx) => ?_
  obtain ⟨t, p, k, rfl⟩ := at_row i
  have h := congrFun (((dats m (ok m) 0 c).read_blk_arrAt_eq_flushed 6 (fun t t' _ _ hne => ((cfgM m (ok m)).win 6).disjoint_blk fun h => hne (distinct t t' h))
    (cfgM m (ok m)).N t t.isLt (flush0_6 _ t)).trans ((after0_6 m (ok m) c t).trans (congrArg (·.2.1) (left m c t)))) (ix2 p k)
  generalize (dats m (ok m) 0 c).arrAt 6 (cfgM m (ok m)).N = A at h ⊢
  refine (placed A t p k _ rfl rfl).trans ((View.read_apply _ _).symm.trans (h.trans ?_))
  exact change _ _ _ _ _ _ _ _ _ _ p k _ (grad_eq m c t p k) (blk0 m c t p k) (blk3 m c t p k) (blk4 m c t p k)

/-- The mean of the gradients at the end is the reference's. -/
theorem arr7 (c : Dev nD) : (dats m (ok m) 0 c).arrAt 7 (cfgM m (ok m)).N = val_main_v13 (F := Ideal) (a1 m c) (a2 m c) (a3 m c) (a5 m c) := by
  refine funext fun (i : S4096x1408.Idx) => ?_
  obtain ⟨t, p, k, rfl⟩ := at_row i
  have h := congrFun (((dats m (ok m) 0 c).read_blk_arrAt_eq_flushed 7 (fun t t' _ _ hne => ((cfgM m (ok m)).win 7).disjoint_blk fun h => hne (distinct t t' h))
    (cfgM m (ok m)).N t t.isLt (flush0_7 _ t)).trans ((after0_7 m (ok m) c t).trans (congrArg (·.2.2.1) (left m c t)))) (ix2 p k)
  generalize (dats m (ok m) 0 c).arrAt 7 (cfgM m (ok m)).N = A at h ⊢
  refine (placed A t p k _ rfl rfl).trans ((View.read_apply _ _).symm.trans (h.trans ?_))
  exact mean _ _ _ _ _ _ p k _ (grad_eq m c t p k) (blk3 m c t p k)

/-- The mean of the gradients' squares at the end is the reference's. -/
theorem arr8 (c : Dev nD) : (dats m (ok m) 0 c).arrAt 8 (cfgM m (ok m)).N = val_main_v19 (F := Ideal) (a1 m c) (a2 m c) (a4 m c) (a5 m c) := by
  refine funext fun (i : S4096x1408.Idx) => ?_
  obtain ⟨t, p, k, rfl⟩ := at_row i
  have h := congrFun (((dats m (ok m) 0 c).read_blk_arrAt_eq_flushed 8 (fun t t' _ _ hne => ((cfgM m (ok m)).win 8).disjoint_blk fun h => hne (distinct t t' h))
    (cfgM m (ok m)).N t t.isLt (flush0_8 _ t)).trans ((after0_8 m (ok m) c t).trans (congrArg (·.2.2.2) (left m c t)))) (ix2 p k)
  generalize (dats m (ok m) 0 c).arrAt 8 (cfgM m (ok m)).N = A at h ⊢
  refine (placed A t p k _ rfl rfl).trans ((View.read_apply _ _).symm.trans (h.trans ?_))
  exact square _ _ _ _ _ _ p k _ (grad_eq m c t p k) (blk4 m c t p k)

/-- The kernel ends with the reference's gradient, change and means, its arguments unchanged. -/
theorem run (g : Dev nD → PrngReg) : θ_run defs (onTc (τ := τ) (main (F := Ideal))) ⟨m, fun _ => 0, g⟩ fun r => ∀ c : Dev nD,
    r.2.mem ((c : Thread nD τ).loc main_v0_0) = val_main_v8 (F := Ideal) (a1 m c) (a2 m c) (a5 m c)
    ∧ r.2.mem ((c : Thread nD τ).loc main_v0_1) = val_main_v32 (F := Ideal) (a0 m c) (a1 m c) (a2 m c) (a3 m c) (a4 m c) (a5 m c)
    ∧ r.2.mem ((c : Thread nD τ).loc main_v0_2) = val_main_v13 (F := Ideal) (a1 m c) (a2 m c) (a3 m c) (a5 m c)
    ∧ r.2.mem ((c : Thread nD τ).loc main_v0_3) = val_main_v19 (F := Ideal) (a1 m c) (a2 m c) (a4 m c) (a5 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3)
    ∧ r.2.mem ((c : Thread nD τ).loc main_arg4) = m ((c : Thread nD τ).loc main_arg4)
    ∧ r.2.mem ((c : Thread nD τ).loc main_arg5) = m ((c : Thread nD τ).loc main_arg5) :=
  (θ_run defs _ _).mono (fun r h c => ⟨((h c).1 5).trans (arr5 m c), ((h c).1 6).trans (arr6 m c), ((h c).1 7).trans (arr7 m c), ((h c).1 8).trans (arr8 m c),
      ((h c).1 0).trans (((dats m (ok m) 0 c).arrAt_in 0 rfl _).trans ((A_eq m (ok m) c 0).trans (V_main_arg0 m c))),
      ((h c).1 1).trans (((dats m (ok m) 0 c).arrAt_in 1 rfl _).trans ((A_eq m (ok m) c 1).trans (V_main_arg1 m c))),
      ((h c).1 2).trans (((dats m (ok m) 0 c).arrAt_in 2 rfl _).trans ((A_eq m (ok m) c 2).trans (V_main_arg2 m c))),
      ((h c).1 3).trans (((dats m (ok m) 0 c).arrAt_in 3 rfl _).trans ((A_eq m (ok m) c 3).trans (V_main_arg3 m c))),
      ((h c).1 4).trans (((dats m (ok m) 0 c).arrAt_in 4 rfl _).trans ((A_eq m (ok m) c 4).trans (V_main_arg4 m c))),
      ((h c).2 main_arg5 (by decide : main_arg5 ∈ Pipeline.restRefs sig spec0)).trans (V_main_arg5 m c)⟩)
    (run_main m g (ok m))

end Cert.Kernel27Ideal.Blocks

end
-- ==== Proof.Partial.lean ====
/- The sum beside an exchange: the device's half of each shard's gradient and what its partner sent of it. -/
module

public import proofs.«01_k».proof.Proof.Sums
public import Idealize.ShloMosaic.Lib.Pipeline.ReadBack
public import Idealize.ShloMosaic.Lib.Pipeline.ValueKit.Tiles
public import proofs.«01_k».proof.Proof.Gen.Kernel28Ideal.Frame
public import proofs.«01_k».proof.Proof.Gen.Kernel28.Frame
public import proofs.«01_k».proof.Proof.Gen.Reference28Ideal.Read
public import proofs.«01_k».proof.Proof.Gen.Pre_core_is_zero_or_one
public import proofs.«01_k».proof.Defs

@[expose] public section

noncomputable section

open Idealize.ShloMosaic Idealize.ShloMosaic.TcCoe Idealize.SL.Sem Cert.Sums

namespace Cert.Kernel28Ideal.Blocks

open Cert.Kernel28Ideal Cert.Kernel28Ideal.Gen Cert.Reference28Ideal.Read

theorem hz : (![0, 0, 0, 0] : Fin 4 → Nat) = fun _ => 0 := funext fun a => by fin_cases a <;> rfl

/-- The word the table holds. -/
abbrev word {F : FTy → Type} [FloatOps F] (pf : pre0.Contents (Elt F)) : BitVec 32 := (pf 0 : IVec S1 32) (ix1 0)

/-- The index map of the gradient, where the device's half is `b`. -/
theorem index {F : FTy → Type} [FloatOps F] (pf : pre0.Contents (Elt F)) (b : Fin 2) (h : word pf = BitVec.ofNat 32 b.val) (i : grid0.Coords) :
    cc0_transform_0 Facts₀.inb_S1_S1_0 Facts₀.numel1_S1 pf i = ![0, (i 1).val, b.val * 2 + (i 2).val, 0] := by
  have e : pf.at 0 (Rect.unit (s := S1) ![0] S1.size Facts₀.inb_S1_S1_0) Facts₀.numel1_S1 = BitVec.ofNat 32 b.val := by
    rw [← h]
    refine congrArg (pf 0 : IVec S1 32) (funext fun a => Fin.ext ?_)
    fin_cases a
    rfl
  unfold cc0_transform_0
  rw [e]
  generalize i 0 = n0, i 1 = n1, i 2 = n2
  change Fin 1 at n0
  change Fin 4 at n1
  change Fin 2 at n2
  fin_cases b <;> fin_cases n0 <;> fin_cases n1 <;> fin_cases n2 <;> rfl

/-- Either half's blocks are inside the gradient. -/
theorem ok_of {F : FTy → Type} [FloatOps F] (pf : pre0.Contents (Elt F)) (b : Fin 2) (h : word pf = BitVec.ofNat 32 b.val) : ok0 pf := by
  intro i
  refine ⟨fun a => ?_, .inl rfl⟩
  rw [index pf b h i]
  have h1 : (i 1).val < 4 := (i 1).isLt
  have h2 : (i 2).val < 2 := (i 2).isLt
  have hb := b.isLt
  match a with
  | ⟨0, _⟩ => exact Nat.le_refl 1
  | ⟨1, _⟩ => show ((i 1).val + 1) * 1 ≤ 4; omega
  | ⟨2, _⟩ => show (b.val * 2 + (i 2).val + 1) * 256 ≤ 1024; omega
  | ⟨3, _⟩ => show (0 + 1) * 1408 ≤ 1408; omega

/-- The precondition, of a word. -/
theorem half_of (z : BitVec 32) (h : IntOp.ori (IntOp.cmpi .eq z 0#32) (IntOp.cmpi .eq z 1#32) = 1#1) : ∃ b : Fin 2, z = BitVec.ofNat 32 b.val := by
  rw [IntOp.ori_eq_one, IntOp.cmpi_eq, IntOp.cmpi_eq] at h
  exact h.elim (fun h => ⟨0, h⟩) fun h => ⟨1, h⟩

/-- A point leaves its sum. -/
theorem leaves (c : Dev nD) (i : grid0.Coords) (b4 : Memref sig .tc .vmem S1x1x256x1408 .f32) (h4 : b4.IsWhole) (b5 : Memref sig .tc .vmem S1x1x256x1408 .f32) (h5 : b5.IsWhole)
    (b6 : Memref sig .tc .vmem S1x1x256x1408 .bf16) (h6 : b6.IsWhole) (x0 x1 : Vec Ideal S1x1x256x1408 .f32) (xt0 : TbBuf0 (F := Ideal) c tbM0_0) :
    out0_A_2 c i b4 h4 b5 h5 b6 h6 x0 x1 xt0 = k0_pay1 (F := Ideal) x0 x1 := by
  unfold out0_A_2
  rw [View.read_writes_eq_canon _ _ _ (cover0_A_2 c i b4 h4 b5 h5 b6 h6 x0 x1 xt0)]
  unfold kernelRun0_A
  dsimp only
  sl_unfold_words
  rw [View.canon_unit_zero hz]
  simp only [View.readAt_eq_ld, View.ld_unit_zero (S := S1x1x256x1408) hz, h4.read_unread, h5.read_unread]

section Values

variable (x0 : FVec Ideal S1x4x1024x1408 .f32) (x1 : FVec Ideal S1x4x512x1408 .f32) (x2 : IVec S1 32)

/-- The reference, where the device's half is `b`. -/
theorem sum_ref (b : Fin 2) (h : x2 (ix1 0) = BitVec.ofNat 32 b.val) (s : Fin 4) (r : Fin 512) (k : Fin 1408) (q : Fin 1024) (hq : q.val = b.val * 512 + r.val) :
    (val_main_v9 (F := Ideal) x0 x1 x2 (ix4 0 s r k) : EReal) = x0 (ix4 0 s q k) + x1 (ix4 0 s r k) := by
  have hs := s.isLt
  have hr := r.isLt
  have hk := k.isLt
  have e1 (j) : val_main_v1 (F := Ideal) x2 j = BitVec.ofNat 32 b.val := by
    rw [← h]
    unfold val_main_v1 shapeCast
    refine congrArg x2 (funext fun a => Fin.ext ?_)
    match a with
    | ⟨0, _⟩ => exact Nat.lt_one_iff.mp (Fin.isLt _)
  have i4 : idx_main_v4 (ix4 0 s r k) = ix5 0 s 0 r k := by
    funext a
    apply Fin.ext
    match a with
    | ⟨0, _⟩ => rfl
    | ⟨1, _⟩ => show (((0 * 4 + s.val) * 512 + r.val) * 1408 + k.val) / 720896 % 4 = s.val; omega
    | ⟨2, _⟩ => rfl
    | ⟨3, _⟩ => show (((0 * 4 + s.val) * 512 + r.val) * 1408 + k.val) / 1408 % 512 = r.val; omega
    | ⟨4, _⟩ => show (((0 * 4 + s.val) * 512 + r.val) * 1408 + k.val) % 1408 = k.val; omega
  have i0 (f : Cert.Reference28Ideal.S1x4x2x512x1408.Idx) (h1 : (f 1).val = s.val) (h2 : (f 2).val = b.val) (h3 : (f 3).val = r.val) (h4 : (f 4).val = k.val) :
      idx_main_v0 f = ix4 0 s q k := by
    have h0 : (f 0).val = 0 := Nat.lt_one_iff.mp (f 0).isLt
    funext a
    apply Fin.ext
    match a with
    | ⟨0, _⟩ => rfl
    | ⟨1, _⟩ => show (((((f 0).val * 4 + (f 1).val) * 2 + (f 2).val) * 512 + (f 3).val) * 1408 + (f 4).val) / 1441792 % 4 = s.val; omega
    | ⟨2, _⟩ => show (((((f 0).val * 4 + (f 1).val) * 2 + (f 2).val) * 512 + (f 3).val) * 1408 + (f 4).val) / 1408 % 1024 = q.val; omega
    | ⟨3, _⟩ => show (((((f 0).val * 4 + (f 1).val) * 2 + (f 2).val) * 512 + (f 3).val) * 1408 + (f 4).val) % 1408 = k.val; omega
  have e7 : val_main_v7 (F := Ideal) x0 x2 (ix4 0 s r k) = x0 (ix4 0 s q k) := by
    unfold val_main_v7
    show Scalar.select (val_main_v2 (F := Ideal) x2 _) (val_main_v4 (F := Ideal) x0 _) (val_main_v6 (F := Ideal) x0 _) = _
    rw [val_main_v2_apply, e1, val_main_c_apply, val_main_v4_apply, val_main_v3_apply, val_main_v0_apply, val_main_v6_apply, val_main_v5_apply, val_main_v0_apply]
    rw [show idx_main_v6 (ix4 0 s r k) = ix5 0 s 0 r k from i4, i4]
    fin_cases b
    · exact congrArg x0 (i0 _ rfl rfl rfl rfl)
    · exact congrArg x0 (i0 _ rfl rfl rfl rfl)
  rw [val_main_v9_apply, val_main_v8_apply, e7]
  rfl

/-- A point's sum. -/
theorem sum_at (X0 X1 : FVec Ideal S1x1x256x1408 .f32) (p : Fin 256) (k : Fin 1408) (y0 y1 : EReal)
    (h0 : (X0 (ix4 0 0 p k) : EReal) = y0) (h1 : (X1 (ix4 0 0 p k) : EReal) = y1) : (k0_pay1 (F := Ideal) X0 X1 (ix4 0 0 p k) : EReal) = y0 + y1 := by
  pointwise [k0_pay1]
  rw [← h0, ← h1]

end Values

variable (m : (ℓ : Loc nD τ sig) → Buf (Elt Ideal) ℓ)

/-- The gradient's shards. -/
abbrev a0 (c : Dev nD) : FVec Ideal S1x4x1024x1408 .f32 := m ((c : Thread nD τ).loc main_arg0)
/-- What the partner sent. -/
abbrev a1 (c : Dev nD) : FVec Ideal S1x4x512x1408 .f32 := m ((c : Thread nD τ).loc main_arg1)
/-- Which half is the device's. -/
abbrev a2 (c : Dev nD) : IVec S1 32 := m ((c : Thread nD τ).loc main_arg2)

theorem table (c : Dev nD) : word (tbl m) = a2 m c (ix1 0) := by
  obtain rfl : c = 0 := Subsingleton.elim _ _
  rfl

/-- The precondition says which half is the device's. -/
theorem half_pre (h : Cert.Pre_Kernel28Ideal (hPre_core_is_zero_or_one := Cert.Pre_core_is_zero_or_one.Gen.facts) m) : ∃ b : Fin 2, word (tbl m) = BitVec.ofNat 32 b.val :=
  half_of _ (congrFun (h 0) (ix1 0))

/-- Its row `p` of a point's block. -/
abbrev row (t : Fin grid0.N) (p : Fin 256) : Fin 512 := ⟨t.val % 2 * 256 + p.val, by have := p.isLt; omega⟩
/-- The shard of a point. -/
abbrev shard (t : Fin grid0.N) : Fin 4 := ⟨t.val / 2, by have := t.isLt; have := N_0; omega⟩

theorem coord : ∀ t : Fin grid0.N, (grid0.coords t 1).val = t.val / 2 ∧ (grid0.coords t 2).val = t.val % 2 := by decide +kernel
theorem place : ∀ t : Fin grid0.N, cc0_transform_1 (grid0.coords t) = ![0, t.val / 2, t.val % 2, 0] := by decide +kernel

/-- An entry of a point's block, by its indices. -/
theorem placed {n0 n1 n : Nat} (A : (⟨4, ![n0, n1, n, 1408]⟩ : Shape).Idx → EReal) (d : Fin n0) (s : Fin n1) (q : Fin n) (p : Fin 256) (k : Fin 1408) (T : Fin 4 → Nat) (j : Nat)
    (hT : T = ![d.val, s.val, j, 0]) (hq : q.val = j * 256 + p.val) (e : (⟨4, ![n0, n1, n, 1408]⟩ : Shape).Idx)
    (he : ∀ a, (e a).val = T a * (![1, 1, 256, 1408] : Fin 4 → Nat) a + 1 * (![0, 0, p.val, k.val] : Fin 4 → Nat) a) : A e = A (ix4 d s q k) := by
  subst hT
  refine congrArg A (funext fun a => Fin.ext ((he a).trans ?_))
  match a with
  | ⟨0, _⟩ => show d.val * 1 + 1 * 0 = d.val; omega
  | ⟨1, _⟩ => show s.val * 1 + 1 * 0 = s.val; omega
  | ⟨2, _⟩ => show j * 256 + 1 * p.val = q.val; omega
  | ⟨3, _⟩ => show 0 * 1408 + 1 * k.val = k.val; omega

variable (b : Fin 2) (hb : word (tbl m) = BitVec.ofNat 32 b.val)

/-- Row `p` of a point's block of the gradient. -/
abbrev own (t : Fin grid0.N) (p : Fin 256) : Fin 1024 := ⟨(b.val * 2 + t.val % 2) * 256 + p.val, by have := p.isLt; have := b.isLt; omega⟩

theorem blk0 (c : Dev nD) (t : Fin grid0.N) (p : Fin 256) (k : Fin 1408) :
    ((iblk m (ok_of _ b hb) c 0 t : FVec Ideal S1x1x256x1408 .f32) (ix4 0 0 p k) : EReal) = a0 m c (ix4 0 (shard t) (own b t p) k) := by
  unfold iblk
  exact (View.read_apply _ _).trans (placed (a0 m c) 0 (shard t) (own b t p) p k _ _ ((index _ b hb _).trans (by rw [(coord t).1, (coord t).2]; rfl)) rfl _ fun a => by
    fin_cases a <;> rfl)

theorem blk1 (c : Dev nD) (t : Fin grid0.N) (p : Fin 256) (k : Fin 1408) :
    ((iblk m (ok_of _ b hb) c 1 t : FVec Ideal S1x1x256x1408 .f32) (ix4 0 0 p k) : EReal) = a1 m c (ix4 0 (shard t) (row t p) k) := by
  unfold iblk
  exact (View.read_apply _ _).trans (placed (a1 m c) 0 (shard t) (row t p) p k _ _ (place t) rfl _ fun a => by fin_cases a <;> rfl)

/-- What a point leaves. -/
theorem left (hO : Ok m) (c : Dev nD) (t : Fin grid0.N) : outsAt0 m hO c t = k0_pay1 (F := Ideal) (iblk m hO c 0 t) (iblk m hO c 1 t) := by
  unfold outsAt0
  exact leaves c (grid0.coords t) _ _ _ _ _ _ (iblk m hO c 0 t) (iblk m hO c 1 t) (tbl m 0)

/-- Distinct points write distinct blocks. -/
theorem distinct : ∀ t t' : Fin grid0.N, cc0_transform_2 (grid0.coords t) = cc0_transform_2 (grid0.coords t') → t = t' := by decide +kernel

/-- The sums at the end are the reference's. -/
theorem arr2 (c : Dev nD) : (dats m (ok_of _ b hb) 0 c).arrAt 2 (cfgM m (ok_of _ b hb)).N = val_main_v9 (F := Ideal) (a0 m c) (a1 m c) (a2 m c) := by
  refine funext fun (i : S1x4x512x1408.Idx) => ?_
  obtain ⟨s, r, k, rfl⟩ : ∃ (s : Fin 4) (r : Fin 512) (k : Fin 1408), i = ix4 0 s r k := ⟨i 1, i 2, i 3, (eq_ix4 i).trans (congrArg (ix4 · _ _ _) (Subsingleton.elim (α := Fin 1) _ _))⟩
  have hs := s.isLt
  have hr := r.isLt
  let t : Fin grid0.N := ⟨s.val * 2 + r.val / 256, by rw [N_0]; omega⟩
  let p : Fin 256 := ⟨r.val % 256, Nat.mod_lt _ (by omega)⟩
  have hs' : shard t = s := Fin.ext (show (s.val * 2 + r.val / 256) / 2 = s.val by omega)
  have hr' : row t p = r := Fin.ext (show (s.val * 2 + r.val / 256) % 2 * 256 + r.val % 256 = r.val by omega)
  rw [← hs', ← hr']
  generalize t = t, p = p
  have h := congrFun (((dats m (ok_of _ b hb) 0 c).read_blk_arrAt_eq_flushed 2 (fun t t' _ _ hne => ((cfgM m (ok_of _ b hb)).win 2).disjoint_blk fun h => hne (distinct t t' h))
    (cfgM m (ok_of _ b hb)).N t t.isLt (flush0_2 _ t)).trans ((after0_2 m (ok_of _ b hb) c t).trans (left m (ok_of _ b hb) c t))) (ix4 0 0 p k)
  generalize (dats m (ok_of _ b hb) 0 c).arrAt 2 (cfgM m (ok_of _ b hb)).N = A at h ⊢
  refine (placed A 0 (shard t) (row t p) p k _ _ (place t) rfl _ fun a => by fin_cases a <;> rfl).symm.trans ((View.read_apply _ _).symm.trans (h.trans ?_))
  refine (sum_at _ _ p k _ _ (blk0 m b hb c t p k) (blk1 m b hb c t p k)).trans (sum_ref _ _ _ b ((table m c).symm.trans hb) _ _ k _ ?_).symm
  show (b.val * 2 + t.val % 2) * 256 + p.val = b.val * 512 + (t.val % 2 * 256 + p.val)
  omega

include hb in
/-- The kernel ends with the reference's sums, its arguments unchanged. -/
theorem run (g : Dev nD → PrngReg) : θ_run defs (onTc (τ := τ) (main (F := Ideal))) ⟨m, fun _ => 0, g⟩ fun r => ∀ c : Dev nD,
    r.2.mem ((c : Thread nD τ).loc main_v0) = val_main_v9 (F := Ideal) (a0 m c) (a1 m c) (a2 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2) :=
  (θ_run defs _ _).mono (fun r h c => ⟨((h.1 c).1 2).trans (arr2 m b hb c), h.2 c⟩)
    (θ_run_and (run_main m g (ok_of _ b hb)) (unchanged m g (ok_of _ b hb)))

end Cert.Kernel28Ideal.Blocks

/-- The precondition admits the prefetched word, in the arithmetic of the device. -/
theorem Cert.Kernel28.Gen.ok_pre (m : (ℓ : Loc Cert.Kernel28.nD Cert.Kernel28.τ Cert.Kernel28.sig) → Buf (Elt Bits) ℓ)
    (h : Cert.Pre_Kernel28 (hPre_core_is_zero_or_one := Cert.Pre_core_is_zero_or_one.Gen.facts) m) : Cert.Kernel28.Gen.Ok m :=
  (Cert.Kernel28Ideal.Blocks.half_of _ (congrFun (h 0) (ix1 0))).elim fun b hb => Cert.Kernel28Ideal.Blocks.ok_of (F := Bits) (Cert.Kernel28.Gen.tbl m) b hb

end
-- ==== Proof.Total.lean ====
/- The sum beside the last exchange: the device's half of its own shard of the gradient, and what its partner and the other chips sent of it. -/
module

public import proofs.«01_k».proof.Proof.Partial
public import proofs.«01_k».proof.Proof.Gen.Kernel29Ideal.Frame
public import proofs.«01_k».proof.Proof.Gen.Kernel29.Frame
public import proofs.«01_k».proof.Proof.Gen.Reference29Ideal.Read
public import proofs.«01_k».proof.Proof.Gen.Pre_core_and_shard_in_range

@[expose] public section

noncomputable section

open Idealize.ShloMosaic Idealize.ShloMosaic.TcCoe Idealize.SL.Sem Cert.Sums

namespace Cert.Kernel29Ideal.Blocks

open Cert.Kernel29Ideal Cert.Kernel29Ideal.Gen Cert.Reference29Ideal.Read
open Cert.Kernel28Ideal.Blocks (placed hz sum_ref)

theorem hz3 : (![0, 0, 0] : Fin 3 → Nat) = fun _ => 0 := funext fun a => by fin_cases a <;> rfl

/-- A word the table holds. -/
abbrev word {F : FTy → Type} [FloatOps F] (pf : pre0.Contents (Elt F)) (j : Fin 2) : BitVec 32 := (pf 0 : IVec S2 32) (ix1 j)

/-- The device's half and shard are `b` and `s`. -/
abbrev At {F : FTy → Type} [FloatOps F] (pf : pre0.Contents (Elt F)) (b : Fin 2) (s : Fin 4) : Prop := word pf 0 = BitVec.ofNat 32 b.val ∧ word pf 1 = BitVec.ofNat 32 s.val

section Tables

variable {F : FTy → Type} [FloatOps F] (pf : pre0.Contents (Elt F)) (b : Fin 2) (s : Fin 4) (h : At pf b s) (i : grid0.Coords)
include h

theorem at0 : pf.at 0 (Rect.unit (s := S2) ![0] S1.size Facts₀.inb_S2_S1_0) Facts₀.numel1_S1 = BitVec.ofNat 32 b.val := by
  rw [← h.1]
  refine congrArg (pf 0 : IVec S2 32) (funext fun a => Fin.ext ?_)
  fin_cases a
  rfl

theorem at1 : pf.at 0 (Rect.unit (s := S2) ![1] S1.size Facts₀.inb_S2_S1_1) Facts₀.numel1_S1 = BitVec.ofNat 32 s.val := by
  rw [← h.2]
  refine congrArg (pf 0 : IVec S2 32) (funext fun a => Fin.ext ?_)
  fin_cases a
  rfl

/-- The index maps of the gradient and of what the partner sent. -/
theorem index : cc0_transform_0 Facts₀.inb_S2_S1_1 Facts₀.numel1_S1 Facts₀.inb_S2_S1_0 pf i = ![0, s.val, b.val * 2 + (i 1).val, 0]
    ∧ cc0_transform_1 Facts₀.inb_S2_S1_1 Facts₀.numel1_S1 pf i = ![0, s.val, (i 1).val, 0] := by
  unfold cc0_transform_0 cc0_transform_1
  rw [at0 pf b s h, at1 pf b s h]
  generalize i 0 = n0, i 1 = n1
  change Fin 1 at n0
  change Fin 2 at n1
  constructor <;> fin_cases b <;> fin_cases s <;> fin_cases n0 <;> fin_cases n1 <;> rfl

/-- Their blocks are inside the arrays. -/
theorem ok_of : ok0 pf := by
  have hb := b.isLt
  have hs := s.isLt
  constructor <;> intro i <;> have h1 : (i 1).val < 2 := (i 1).isLt <;> refine ⟨fun a => ?_, .inl rfl⟩
  · rw [(index pf b s h i).1]
    match a with
    | ⟨0, _⟩ => exact Nat.le_refl 1
    | ⟨1, _⟩ => show (s.val + 1) * 1 ≤ 4; omega
    | ⟨2, _⟩ => show (b.val * 2 + (i 1).val + 1) * 256 ≤ 1024; omega
    | ⟨3, _⟩ => show (0 + 1) * 1408 ≤ 1408; omega
  · rw [(index pf b s h i).2]
    match a with
    | ⟨0, _⟩ => exact Nat.le_refl 1
    | ⟨1, _⟩ => show (s.val + 1) * 1 ≤ 4; omega
    | ⟨2, _⟩ => show ((i 1).val + 1) * 256 ≤ 512; omega
    | ⟨3, _⟩ => show (0 + 1) * 1408 ≤ 1408; omega

end Tables

/-- The precondition, of a word. -/
theorem in_range (n : Nat) (hn : (BitVec.ofNat 32 n).toInt = n) (z : BitVec 32) (h : IntOp.andi (IntOp.cmpi .sge z 0#32) (IntOp.cmpi .slt z (BitVec.ofNat 32 n)) = 1#1) :
    ∃ b : Fin n, z = BitVec.ofNat 32 b.val := by
  rw [IntOp.andi_eq_one, WordCmp.cmpi_sge_eq, WordCmp.cmpi_slt_eq, hn] at h
  have of (p : Bool) : BitVec.ofBool p = 1#1 → p = true := by revert p; decide
  have h0 : 0 ≤ z.toInt := of_decide_eq_true (of _ h.1)
  have h1 : z.toInt < n := of_decide_eq_true (of _ h.2)
  have hz := BitVec.toInt_eq_toNat_cond z
  have := z.isLt
  refine ⟨⟨z.toNat, ?_⟩, by simp⟩
  split at hz <;> omega

/-- The precondition, of a table. -/
theorem at_of (w : IVec S2 32) (h : ∀ j : Fin 2, IntOp.andi (IntOp.cmpi .sge (w (ix1 j)) 0#32) (IntOp.cmpi .slt (w (ix1 j)) (Cert.Pre_core_and_shard_in_range.lit0 (S2.rowMajor (ix1 j)))) = 1#1) :
    ∃ (b : Fin 2) (s : Fin 4), w (ix1 0) = BitVec.ofNat 32 b.val ∧ w (ix1 1) = BitVec.ofNat 32 s.val := by
  obtain ⟨b, hb⟩ := in_range 2 rfl _ (h 0)
  obtain ⟨s, hs⟩ := in_range 4 rfl _ (h 1)
  exact ⟨b, s, hb, hs⟩

/-- A point leaves its sum. -/
theorem leaves (c : Dev nD) (i : grid0.Coords) (b3 : Memref sig .tc .vmem S1x1x256x1408 .f32) (h3 : b3.IsWhole) (b4 : Memref sig .tc .vmem S1x1x256x1408 .f32) (h4 : b4.IsWhole)
    (b5 : Memref sig .tc .vmem S1x1x256x1408 .bf16) (h5 : b5.IsWhole) (b6 : Memref sig .tc .vmem S1x1x256x1408 .bf16) (h6 : b6.IsWhole) (b7 : Memref sig .tc .vmem S1x1x256x1408 .bf16) (h7 : b7.IsWhole)
    (b8 : Memref sig .tc .vmem S1x256x1408 .f32) (h8 : b8.IsWhole) (x0 x1 : Vec Ideal S1x1x256x1408 .f32) (x2 x3 x4 : Vec Ideal S1x1x256x1408 .bf16) (xt0 : TbBuf0 (F := Ideal) c tbM0_0) :
    out0_A_5 c i b3 h3 b4 h4 b5 h5 b6 h6 b7 h7 b8 h8 x0 x1 x2 x3 x4 xt0 = k0_pay1 (F := Ideal) x0 x1 x2 x3 x4 := by
  unfold out0_A_5
  rw [View.read_writes_eq_canon _ _ _ (cover0_A_5 c i b3 h3 b4 h4 b5 h5 b6 h6 b7 h7 b8 h8 x0 x1 x2 x3 x4 xt0)]
  unfold kernelRun0_A
  dsimp only
  sl_unfold_words
  rw [View.canon_unit_zero hz3]
  simp only [View.readAt_eq_ld, View.ld_unit_zero (S := S1x1x256x1408) hz, h3.read_unread, h4.read_unread, h5.read_unread, h6.read_unread, h7.read_unread]

section Values

variable (x0 : FVec Ideal S1x4x1024x1408 .f32) (x1 : FVec Ideal S1x4x512x1408 .f32) (x2 : FVec Ideal S3x1x512x1408 .bf16) (x3 : IVec S2 32)

/-- The reference, where the device's half and shard are `b` and `s`. -/
theorem total_ref (b : Fin 2) (s : Fin 4) (hb : x3 (ix1 0) = BitVec.ofNat 32 b.val) (hs : x3 (ix1 1) = BitVec.ofNat 32 s.val) (r : Fin 512) (k : Fin 1408) (q : Fin 1024)
    (hq : q.val = b.val * 512 + r.val) :
    (val_main_v28 (F := Ideal) x0 x1 x2 x3 (ix3 0 r k) : EReal) = x0 (ix4 0 s q k) + x1 (ix4 0 s r k) + (x2 (ix4 0 0 r k) + x2 (ix4 1 0 r k) + x2 (ix4 2 0 r k)) := by
  have hr := r.isLt
  have hk := k.isLt
  have e1 (j) : val_main_v1 (F := Ideal) x3 j = BitVec.ofNat 32 b.val := by
    rw [← hb]
    unfold val_main_v1 shapeCast
    rw [val_main_v0_apply]
    refine congrArg x3 (funext fun a => Fin.ext ?_)
    match a with
    | ⟨0, _⟩ => exact Nat.lt_one_iff.mp (Fin.isLt (n := 1) _)
  have e3 (j) : val_main_v3 (F := Ideal) x3 j = BitVec.ofNat 32 s.val := by
    rw [← hs]
    unfold val_main_v3 shapeCast
    rw [val_main_v2_apply]
    refine congrArg x3 (funext fun a => Fin.ext ?_)
    match a with
    | ⟨0, _⟩ => exact congrArg (1 + ·) (Nat.lt_one_iff.mp (Fin.isLt (n := 1) _))
  have e11 : (val_main_v11 (F := Ideal) x0 x1 x3 (ix4 0 s r k) : EReal) = x0 (ix4 0 s q k) + x1 (ix4 0 s r k) := by
    rw [← sum_ref x0 x1 (fun _ => BitVec.ofNat 32 b.val) b rfl s r k q hq]
    have e5 : val_main_v5 (F := Ideal) x3 = Cert.Reference28Ideal.Read.val_main_v2 (F := Ideal) (fun _ => BitVec.ofNat 32 b.val) := by
      funext j
      rw [val_main_v5_apply, e1]
      rfl
    unfold val_main_v11 val_main_v10
    rw [e5]
    rfl
  have i25 (f : S1x4x512x1408.Idx) (h1 : (f 1).val = s.val) (h2 : (f 2).val = r.val) (h3 : (f 3).val = k.val) : f = ix4 0 s r k := by
    have h0 : (f 0).val = 0 := Nat.lt_one_iff.mp (f 0).isLt
    funext a
    apply Fin.ext
    match a with
    | ⟨0, _⟩ => exact h0
    | ⟨1, _⟩ => exact h1
    | ⟨2, _⟩ => exact h2
    | ⟨3, _⟩ => exact h3
  have hr' : ((0 * 512 + r.val) * 1408 + k.val) / 1408 % 512 = r.val := by omega
  have hk' : ((0 * 512 + r.val) * 1408 + k.val) % 1408 = k.val := by omega
  have e25 : (val_main_v25 (F := Ideal) x0 x1 x3 (ix3 0 r k) : EReal) = x0 (ix4 0 s q k) + x1 (ix4 0 s r k) := by
    rw [← e11]
    unfold val_main_v25 val_main_v24 val_main_v23
    show Scalar.select (val_main_v12 (F := Ideal) x3 _) (val_main_v14 (F := Ideal) x0 x1 x3 _) (Scalar.select (val_main_v15 (F := Ideal) x3 _) (val_main_v17 (F := Ideal) x0 x1 x3 _)
      (Scalar.select (val_main_v18 (F := Ideal) x3 _) (val_main_v20 (F := Ideal) x0 x1 x3 _) (val_main_v22 (F := Ideal) x0 x1 x3 _))) = _
    rw [val_main_v12_apply, val_main_v15_apply, val_main_v18_apply, e3, val_main_c_0_apply, val_main_c_1_apply, val_main_c_2_apply, val_main_v14_apply, val_main_v13_apply,
      val_main_v17_apply, val_main_v16_apply, val_main_v20_apply, val_main_v19_apply, val_main_v22_apply, val_main_v21_apply]
    generalize val_main_v11 (F := Ideal) x0 x1 x3 = A
    fin_cases s
    · exact congrArg A (i25 _ rfl hr' hk')
    · exact congrArg A (i25 _ rfl hr' hk')
    · exact congrArg A (i25 _ rfl hr' hk')
    · exact congrArg A (i25 _ rfl hr' hk')
  have e27 : (val_main_v27 (F := Ideal) x2 (ix3 0 r k) : EReal) = x2 (ix4 0 0 r k) + x2 (ix4 1 0 r k) + x2 (ix4 2 0 r k) := by
    pointwise [val_main_v27, val_main_v26, val_main_cst]
    rw [Fin.sum_univ_three]
  rw [val_main_v28_apply, e25, e27]
  rfl

/-- A point's sum. -/
theorem total_at (X0 X1 : FVec Ideal S1x1x256x1408 .f32) (X2 X3 X4 : FVec Ideal S1x1x256x1408 .bf16) (p : Fin 256) (k : Fin 1408) (y0 y1 y2 y3 y4 : EReal)
    (h0 : (X0 (ix4 0 0 p k) : EReal) = y0) (h1 : (X1 (ix4 0 0 p k) : EReal) = y1) (h2 : (X2 (ix4 0 0 p k) : EReal) = y2) (h3 : (X3 (ix4 0 0 p k) : EReal) = y3)
    (h4 : (X4 (ix4 0 0 p k) : EReal) = y4) : (k0_pay1 (F := Ideal) X0 X1 X2 X3 X4 (ix3 0 p k) : EReal) = y0 + y1 + (y2 + y3 + y4) := by
  pointwise [k0_pay1]
  rw [← h0, ← h1, ← h2, ← h3, ← h4, ← add_assoc, ← add_assoc]

end Values

variable (m : (ℓ : Loc nD τ sig) → Buf (Elt Ideal) ℓ)

/-- The gradient's shards. -/
abbrev a0 (c : Dev nD) : FVec Ideal S1x4x1024x1408 .f32 := m ((c : Thread nD τ).loc main_arg0)
/-- What the partner sent. -/
abbrev a1 (c : Dev nD) : FVec Ideal S1x4x512x1408 .f32 := m ((c : Thread nD τ).loc main_arg1)
/-- What the other chips sent. -/
abbrev a2 (c : Dev nD) : FVec Ideal S3x1x512x1408 .bf16 := m ((c : Thread nD τ).loc main_arg2)
/-- Which half and shard are the device's. -/
abbrev a3 (c : Dev nD) : IVec S2 32 := m ((c : Thread nD τ).loc main_arg3)

theorem table (c : Dev nD) (j : Fin 2) : word (tbl m) j = a3 m c (ix1 j) := by
  obtain rfl : c = 0 := Subsingleton.elim _ _
  rfl

/-- The precondition says which half and shard are the device's. -/
theorem at_pre (h : Cert.Pre_Kernel29Ideal (hPre_core_and_shard_in_range := Cert.Pre_core_and_shard_in_range.Gen.facts) m) : ∃ b s, At (tbl m) b s :=
  at_of (tbl m 0) fun j => congrFun (h 0) (ix1 j)

/-- Row `p` of a point's block. -/
abbrev row (t : Fin grid0.N) (p : Fin 256) : Fin 512 := ⟨t.val * 256 + p.val, by have := t.isLt; have := N_0; have := p.isLt; omega⟩

theorem place : ∀ t : Fin grid0.N, (grid0.coords t 1).val = t.val ∧ cc0_transform_2 (grid0.coords t) = ![0, 0, t.val, 0] ∧ cc0_transform_3 (grid0.coords t) = ![1, 0, t.val, 0]
    ∧ cc0_transform_4 (grid0.coords t) = ![2, 0, t.val, 0] ∧ cc0_transform_5 (grid0.coords t) = ![0, t.val, 0] := by decide +kernel

variable (b : Fin 2) (s : Fin 4) (hb : At (tbl m) b s)

/-- Row `p` of a point's block of the gradient. -/
abbrev own (t : Fin grid0.N) (p : Fin 256) : Fin 1024 := ⟨(b.val * 2 + t.val) * 256 + p.val, by have := t.isLt; have := N_0; have := p.isLt; have := b.isLt; omega⟩

section Blocks

variable (c : Dev nD) (t : Fin grid0.N) (p : Fin 256) (k : Fin 1408)

theorem blk0 : ((iblk m (ok_of _ b s hb) c 0 t : FVec Ideal S1x1x256x1408 .f32) (ix4 0 0 p k) : EReal) = a0 m c (ix4 0 s (own b t p) k) := by
  unfold iblk
  exact (View.read_apply _ _).trans (placed (a0 m c) 0 s (own b t p) p k _ _ ((index _ b s hb _).1.trans (by rw [(place t).1]; rfl)) rfl _ fun a => by fin_cases a <;> rfl)

theorem blk1 : ((iblk m (ok_of _ b s hb) c 1 t : FVec Ideal S1x1x256x1408 .f32) (ix4 0 0 p k) : EReal) = a1 m c (ix4 0 s (row t p) k) := by
  unfold iblk
  exact (View.read_apply _ _).trans (placed (a1 m c) 0 s (row t p) p k _ _ ((index _ b s hb _).2.trans (by rw [(place t).1]; rfl)) rfl _ fun a => by fin_cases a <;> rfl)

theorem blk2 : ((iblk m (ok_of _ b s hb) c 2 t : FVec Ideal S1x1x256x1408 .bf16) (ix4 0 0 p k) : EReal) = a2 m c (ix4 0 0 (row t p) k) := by
  unfold iblk
  exact (View.read_apply _ _).trans (placed (a2 m c) 0 0 (row t p) p k _ _ (place t).2.1 rfl _ fun a => by fin_cases a <;> rfl)

theorem blk3 : ((iblk m (ok_of _ b s hb) c 3 t : FVec Ideal S1x1x256x1408 .bf16) (ix4 0 0 p k) : EReal) = a2 m c (ix4 1 0 (row t p) k) := by
  unfold iblk
  exact (View.read_apply _ _).trans (placed (a2 m c) 1 0 (row t p) p k _ _ (place t).2.2.1 rfl _ fun a => by fin_cases a <;> rfl)

theorem blk4 : ((iblk m (ok_of _ b s hb) c 4 t : FVec Ideal S1x1x256x1408 .bf16) (ix4 0 0 p k) : EReal) = a2 m c (ix4 2 0 (row t p) k) := by
  unfold iblk
  exact (View.read_apply _ _).trans (placed (a2 m c) 2 0 (row t p) p k _ _ (place t).2.2.2.1 rfl _ fun a => by fin_cases a <;> rfl)

end Blocks

/-- What a point leaves. -/
theorem left (hO : Ok m) (c : Dev nD) (t : Fin grid0.N) :
    outsAt0 m hO c t = k0_pay1 (F := Ideal) (iblk m hO c 0 t) (iblk m hO c 1 t) (iblk m hO c 2 t) (iblk m hO c 3 t) (iblk m hO c 4 t) := by
  unfold outsAt0
  exact leaves c (grid0.coords t) _ _ _ _ _ _ _ _ _ _ _ _ (iblk m hO c 0 t) (iblk m hO c 1 t) (iblk m hO c 2 t) (iblk m hO c 3 t) (iblk m hO c 4 t) (tbl m 0)

/-- Distinct points write distinct blocks. -/
theorem distinct : ∀ t t' : Fin grid0.N, cc0_transform_5 (grid0.coords t) = cc0_transform_5 (grid0.coords t') → t = t' := by decide +kernel

/-- An entry of a point's block of the result, by its indices. -/
theorem placed3 (A : S1x512x1408.Idx → EReal) (t : Fin grid0.N) (p : Fin 256) (k : Fin 1408) (e : S1x512x1408.Idx)
    (he : ∀ a, (e a).val = cc0_transform_5 (grid0.coords t) a * (![1, 256, 1408] : Fin 3 → Nat) a + 1 * (![0, p.val, k.val] : Fin 3 → Nat) a) : A e = A (ix3 0 (row t p) k) := by
  rw [(place t).2.2.2.2] at he
  refine congrArg A (funext fun a => Fin.ext ((he a).trans ?_))
  match a with
  | ⟨0, _⟩ => rfl
  | ⟨1, _⟩ => show t.val * 256 + 1 * p.val = t.val * 256 + p.val; omega
  | ⟨2, _⟩ => show 0 * 1408 + 1 * k.val = k.val; omega

/-- The sums at the end are the reference's. -/
theorem arr5 (c : Dev nD) : (dats m (ok_of _ b s hb) 0 c).arrAt 5 (cfgM m (ok_of _ b s hb)).N = val_main_v28 (F := Ideal) (a0 m c) (a1 m c) (a2 m c) (a3 m c) := by
  refine funext fun (i : S1x512x1408.Idx) => ?_
  obtain ⟨r, k, rfl⟩ : ∃ (r : Fin 512) (k : Fin 1408), i = ix3 0 r k := ⟨i 1, i 2, (eq_ix3 i).trans (congrArg (ix3 · _ _) (Subsingleton.elim (α := Fin 1) _ _))⟩
  have hr := r.isLt
  let t : Fin grid0.N := ⟨r.val / 256, by rw [N_0]; omega⟩
  let p : Fin 256 := ⟨r.val % 256, Nat.mod_lt _ (by omega)⟩
  have hr' : row t p = r := Fin.ext (show r.val / 256 * 256 + r.val % 256 = r.val by omega)
  rw [← hr']
  generalize t = t, p = p
  have h := congrFun (((dats m (ok_of _ b s hb) 0 c).read_blk_arrAt_eq_flushed 5 (fun t t' _ _ hne => ((cfgM m (ok_of _ b s hb)).win 5).disjoint_blk fun h => hne (distinct t t' h))
    (cfgM m (ok_of _ b s hb)).N t t.isLt (flush0_5 _ t)).trans ((after0_5 m (ok_of _ b s hb) c t).trans (left m (ok_of _ b s hb) c t))) (ix3 0 p k)
  generalize (dats m (ok_of _ b s hb) 0 c).arrAt 5 (cfgM m (ok_of _ b s hb)).N = A at h ⊢
  refine (placed3 A t p k _ fun a => by fin_cases a <;> rfl).symm.trans ((View.read_apply _ _).symm.trans (h.trans ?_))
  refine (total_at _ _ _ _ _ p k _ _ _ _ _ (blk0 m b s hb c t p k) (blk1 m b s hb c t p k) (blk2 m b s hb c t p k) (blk3 m b s hb c t p k) (blk4 m b s hb c t p k)).trans
    (total_ref _ _ _ _ b s ((table m c 0).symm.trans hb.1) ((table m c 1).symm.trans hb.2) _ k _ ?_).symm
  show (b.val * 2 + t.val) * 256 + p.val = b.val * 512 + (t.val * 256 + p.val)
  omega

include hb in
/-- The kernel ends with the reference's sums, its arguments unchanged. -/
theorem run (g : Dev nD → PrngReg) : θ_run defs (onTc (τ := τ) (main (F := Ideal))) ⟨m, fun _ => 0, g⟩ fun r => ∀ c : Dev nD,
    r.2.mem ((c : Thread nD τ).loc main_v0) = val_main_v28 (F := Ideal) (a0 m c) (a1 m c) (a2 m c) (a3 m c)
    ∧ r.2.mem ((c : Thread nD τ).loc main_arg0) = m ((c : Thread nD τ).loc main_arg0)
    ∧ r.2.mem ((c : Thread nD τ).loc main_arg1) = m ((c : Thread nD τ).loc main_arg1)
    ∧ r.2.mem ((c : Thread nD τ).loc main_arg2) = m ((c : Thread nD τ).loc main_arg2)
    ∧ r.2.mem ((c : Thread nD τ).loc main_arg3) = m ((c : Thread nD τ).loc main_arg3) :=
  (θ_run defs _ _).mono (fun r h c => ⟨((h.1 c).1 5).trans (arr5 m b s hb c), h.2 c⟩)
    (θ_run_and (run_main m g (ok_of _ b s hb)) (unchanged m g (ok_of _ b s hb)))

end Cert.Kernel29Ideal.Blocks

/-- The precondition admits the prefetched words, in the arithmetic of the device. -/
theorem Cert.Kernel29.Gen.ok_pre (m : (ℓ : Loc Cert.Kernel29.nD Cert.Kernel29.τ Cert.Kernel29.sig) → Buf (Elt Bits) ℓ)
    (h : Cert.Pre_Kernel29 (hPre_core_and_shard_in_range := Cert.Pre_core_and_shard_in_range.Gen.facts) m) : Cert.Kernel29.Gen.Ok m :=
  (Cert.Kernel29Ideal.Blocks.at_of (Cert.Kernel29.Gen.tbl m 0) fun j => congrFun (h 0) (ix1 j)).elim fun b h => h.elim fun s h =>
    Cert.Kernel29Ideal.Blocks.ok_of (F := Bits) (Cert.Kernel29.Gen.tbl m) b s h

end
-- ==== Proof.lean ====
module

public import proofs.«01_k».proof.Defs
public import proofs.«01_k».proof.Proof.Gen.Kernel.Frame
public import proofs.«01_k».proof.Proof.Gen.KernelIdeal.Frame
public import proofs.«01_k».proof.Proof.Gen.KernelIdeal.Value
public import proofs.«01_k».proof.Proof.Gen.ReferenceIdeal.Read
public import proofs.«01_k».proof.Proof.Gen.Kernel2.Frame
public import proofs.«01_k».proof.Proof.Gen.Kernel2Ideal.Frame
public import proofs.«01_k».proof.Proof.Gen.Kernel2Ideal.Value
public import proofs.«01_k».proof.Proof.Gen.Reference2Ideal.Read
public import proofs.«01_k».proof.Proof.GateUpDx
public import proofs.«01_k».proof.Proof.Gen.Kernel3.Frame
public import proofs.«01_k».proof.Proof.Gen.Kernel3Ideal.Frame
public import proofs.«01_k».proof.Proof.Gen.Kernel3Ideal.Value
public import proofs.«01_k».proof.Proof.Gen.Reference3Ideal.Read
public import proofs.«01_k».proof.Proof.GateUpDw
public import proofs.«01_k».proof.Proof.Gen.Kernel4.Frame
public import proofs.«01_k».proof.Proof.Gen.Kernel4Ideal.Frame
public import proofs.«01_k».proof.Proof.Gen.Kernel4Ideal.Value
public import proofs.«01_k».proof.Proof.Gen.Reference4Ideal.Read
public import proofs.«01_k».proof.Proof.DownDw
public import proofs.«01_k».proof.Proof.Gen.Kernel5.Frame
public import proofs.«01_k».proof.Proof.Gen.Kernel5Ideal.Frame
public import proofs.«01_k».proof.Proof.Gen.Kernel5Ideal.Value
public import proofs.«01_k».proof.Proof.Gen.Reference5Ideal.Read
public import proofs.«01_k».proof.Proof.DownDx
public import proofs.«01_k».proof.Proof.Gen.Kernel6.Frame
public import proofs.«01_k».proof.Proof.Gen.Kernel6Ideal.Frame
public import proofs.«01_k».proof.Proof.Gen.Kernel6Ideal.Value
public import proofs.«01_k».proof.Proof.Gen.Reference6Ideal.Read
public import proofs.«01_k».proof.Proof.GateUp
public import proofs.«01_k».proof.Proof.Gen.Kernel7.Frame
public import proofs.«01_k».proof.Proof.Gen.Kernel7Ideal.Frame
public import proofs.«01_k».proof.Proof.Gen.Kernel7Ideal.Value
public import proofs.«01_k».proof.Proof.Gen.Reference7Ideal.Read
public import proofs.«01_k».proof.Proof.Down
public import proofs.«01_k».proof.Proof.Gen.Kernel8.Frame
public import proofs.«01_k».proof.Proof.Gen.Kernel8Ideal.Frame
public import proofs.«01_k».proof.Proof.Gen.Kernel8Ideal.Value
public import proofs.«01_k».proof.Proof.Gen.Reference8Ideal.Read
public import proofs.«01_k».proof.Proof.MixOutDx
public import proofs.«01_k».proof.Proof.Gen.Kernel9.Frame
public import proofs.«01_k».proof.Proof.Gen.Kernel9Ideal.Frame
public import proofs.«01_k».proof.Proof.Gen.Kernel9Ideal.Value
public import proofs.«01_k».proof.Proof.Gen.Reference9Ideal.Read
public import proofs.«01_k».proof.Proof.MixOutDw
public import proofs.«01_k».proof.Proof.Gen.Kernel10.Frame
public import proofs.«01_k».proof.Proof.Gen.Kernel10Ideal.Frame
public import proofs.«01_k».proof.Proof.Gen.Kernel10Ideal.Value
public import proofs.«01_k».proof.Proof.Gen.Reference10Ideal.Read
public import proofs.«01_k».proof.Proof.InDwB
public import proofs.«01_k».proof.Proof.Gen.Kernel11.Frame
public import proofs.«01_k».proof.Proof.Gen.Kernel11Ideal.Frame
public import proofs.«01_k».proof.Proof.Gen.Kernel11Ideal.Value
public import proofs.«01_k».proof.Proof.Gen.Reference11Ideal.Read
public import proofs.«01_k».proof.Proof.InDwA
public import proofs.«01_k».proof.Proof.Gen.Kernel12.Frame
public import proofs.«01_k».proof.Proof.Gen.Kernel12Ideal.Frame
public import proofs.«01_k».proof.Proof.Gen.Kernel12Ideal.Value
public import proofs.«01_k».proof.Proof.Gen.Reference12Ideal.Read
public import proofs.«01_k».proof.Proof.InDxB
public import proofs.«01_k».proof.Proof.Gen.Kernel13.Frame
public import proofs.«01_k».proof.Proof.Gen.Kernel13Ideal.Frame
public import proofs.«01_k».proof.Proof.Gen.Kernel13Ideal.Value
public import proofs.«01_k».proof.Proof.Gen.Reference13Ideal.Read
public import proofs.«01_k».proof.Proof.InDxA
public import proofs.«01_k».proof.Proof.Gen.Kernel14.Frame
public import proofs.«01_k».proof.Proof.Gen.Kernel14Ideal.Frame
public import proofs.«01_k».proof.Proof.Gen.Kernel14Ideal.Value
public import proofs.«01_k».proof.Proof.Gen.Reference14Ideal.Read
public import proofs.«01_k».proof.Proof.MixOut
public import proofs.«01_k».proof.Proof.Gen.Kernel15.Frame
public import proofs.«01_k».proof.Proof.Gen.Kernel15Ideal.Frame
public import proofs.«01_k».proof.Proof.Gen.Kernel15Ideal.Value
public import proofs.«01_k».proof.Proof.Gen.Reference15Ideal.Read
public import proofs.«01_k».proof.Proof.InB
public import proofs.«01_k».proof.Proof.Gen.Kernel16.Frame
public import proofs.«01_k».proof.Proof.Gen.Kernel16Ideal.Frame
public import proofs.«01_k».proof.Proof.Gen.Kernel16Ideal.Value
public import proofs.«01_k».proof.Proof.Gen.Reference16Ideal.Read
public import proofs.«01_k».proof.Proof.InA
public import proofs.«01_k».proof.Proof.Equal
public import Idealize.ShloMosaic.Adequacy
public import Idealize.ShloMosaic.Init
public import proofs.«01_k».proof.Proof.Gen.Kernel17.Frame
public import proofs.«01_k».proof.Proof.Gen.Kernel17Ideal.Frame
public import proofs.«01_k».proof.Proof.Gen.Kernel17Ideal.Value
public import proofs.«01_k».proof.Proof.Gen.Reference17Ideal.Read
public import proofs.«01_k».proof.Proof.MixB
public import proofs.«01_k».proof.Proof.Gen.Kernel19.Frame
public import proofs.«01_k».proof.Proof.Gen.Kernel19Ideal.Frame
public import proofs.«01_k».proof.Proof.Gen.Kernel19Ideal.Value
public import proofs.«01_k».proof.Proof.Gen.Reference19Ideal.Read
public import proofs.«01_k».proof.Proof.Gen.Kernel20.Frame
public import proofs.«01_k».proof.Proof.Gen.Kernel20Ideal.Frame
public import proofs.«01_k».proof.Proof.Gen.Kernel20Ideal.Value
public import proofs.«01_k».proof.Proof.Gen.Reference20Ideal.Read
public import proofs.«01_k».proof.Proof.Gen.Kernel21.Frame
public import proofs.«01_k».proof.Proof.Gen.Kernel21Ideal.Frame
public import proofs.«01_k».proof.Proof.Gen.Kernel21Ideal.Value
public import proofs.«01_k».proof.Proof.Gen.Reference21Ideal.Read
public import proofs.«01_k».proof.Proof.Gen.Kernel22.Frame
public import proofs.«01_k».proof.Proof.Gen.Kernel22Ideal.Frame
public import proofs.«01_k».proof.Proof.Gen.Kernel22Ideal.Value
public import proofs.«01_k».proof.Proof.Gen.Reference22Ideal.Read
public import proofs.«01_k».proof.Proof.Gen.Kernel23.Frame
public import proofs.«01_k».proof.Proof.Gen.Kernel23Ideal.Frame
public import proofs.«01_k».proof.Proof.Gen.Kernel23Ideal.Value
public import proofs.«01_k».proof.Proof.Gen.Reference23Ideal.Read
public import proofs.«01_k».proof.Proof.Gen.Kernel24.Frame
public import proofs.«01_k».proof.Proof.Gen.Kernel24Ideal.Frame
public import proofs.«01_k».proof.Proof.Gen.Kernel24Ideal.Value
public import proofs.«01_k».proof.Proof.Gen.Reference24Ideal.Read
public import proofs.«01_k».proof.Proof.Gen.Kernel25.Frame
public import proofs.«01_k».proof.Proof.Gen.Kernel25Ideal.Frame
public import proofs.«01_k».proof.Proof.Gen.Kernel25Ideal.Value
public import proofs.«01_k».proof.Proof.Gen.Reference25Ideal.Read
public import proofs.«01_k».proof.Proof.Gen.Kernel26.Frame
public import proofs.«01_k».proof.Proof.Gen.Kernel26Ideal.Frame
public import proofs.«01_k».proof.Proof.Gen.Kernel26Ideal.Value
public import proofs.«01_k».proof.Proof.Gen.Reference26Ideal.Read
public import proofs.«01_k».proof.Proof.Gen.Kernel27.Frame
public import proofs.«01_k».proof.Proof.Gen.Kernel27Ideal.Frame
public import proofs.«01_k».proof.Proof.Gen.Reference27Ideal.Read
public import proofs.«01_k».proof.Proof.Gen.Kernel28.Frame
public import proofs.«01_k».proof.Proof.Gen.Kernel28Ideal.Frame
public import proofs.«01_k».proof.Proof.Gen.Reference28Ideal.Read
public import proofs.«01_k».proof.Proof.Gen.Pre_core_is_zero_or_one
public import proofs.«01_k».proof.Proof.Gen.Kernel29.Frame
public import proofs.«01_k».proof.Proof.Gen.Kernel29Ideal.Frame
public import proofs.«01_k».proof.Proof.Gen.Reference29Ideal.Read
public import proofs.«01_k».proof.Proof.Gen.Pre_core_and_shard_in_range
public import proofs.«01_k».proof.Proof.MixA
public import proofs.«01_k».proof.Proof.Memory
public import proofs.«01_k».proof.Proof.LossHead
public import proofs.«01_k».proof.Proof.Optimiser
public import proofs.«01_k».proof.Proof.Halves
public import proofs.«01_k».proof.Proof.Partial
public import proofs.«01_k».proof.Proof.Total
public import proofs.«01_k».proof.Proof.Gen.Kernel18.Frame
public import proofs.«01_k».proof.Proof.Gen.Kernel18Ideal.Frame
public import proofs.«01_k».proof.Proof.Gen.Kernel18Ideal.Value
public import proofs.«01_k».proof.Proof.Gen.Reference18Ideal.Read

@[expose] public section

noncomputable section

namespace Cert.Proof

open Idealize.ShloMosaic Idealize.SL.Sem Cert.Kernel

/-- The reference ends with its arguments unchanged and, having no semaphore, with every counter at zero. -/
theorem frame_reference : Cert.quiescent_ReferenceIdeal := fun m ρ _ =>
  (θ_run Cert.ReferenceIdeal.defs _ _).mono
    (fun r h => ⟨fun c => (h c).2.2.2.2.2.2, Idealize.ShloMosaic.sem_eq_zero_of_no_sems (by decide) r.2⟩)
    (Cert.ReferenceIdeal.Value.run m ρ)

open Cert.ReferenceIdeal.Read in
/-- The reference ends with its results at the stages of its arguments and with its arguments unchanged. -/
theorem run_reference (m' : (ℓ : Loc Cert.ReferenceIdeal.nD Cert.ReferenceIdeal.τ Cert.ReferenceIdeal.sig) → Buf (Elt Ideal) ℓ)
    (g' : Dev Cert.ReferenceIdeal.nD → PrngReg) :
    θ_run (Cert.ReferenceIdeal.defs (F := Ideal)) (onTc (τ := Cert.ReferenceIdeal.τ) (Cert.ReferenceIdeal.main (F := Ideal))) ⟨m', fun _ => 0, g'⟩
      fun r => ∀ c : Dev Cert.ReferenceIdeal.nD,
        r.2.mem ((c.tc : Thread Cert.ReferenceIdeal.nD Cert.ReferenceIdeal.τ).loc Cert.ReferenceIdeal.main_v199) = val_main_v199 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2)) (m' ((c.tc : Thread Cert.ReferenceIdeal.nD Cert.ReferenceIdeal.τ).loc Cert.ReferenceIdeal.main_arg3)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5)) (m' ((c.tc : Thread Cert.ReferenceIdeal.nD Cert.ReferenceIdeal.τ).loc Cert.ReferenceIdeal.main_arg6))
        ∧ r.2.mem ((c.tc : Thread Cert.ReferenceIdeal.nD Cert.ReferenceIdeal.τ).loc Cert.ReferenceIdeal.main_v150) = val_main_v150 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg4)) (m' ((c.tc : Thread Cert.ReferenceIdeal.nD Cert.ReferenceIdeal.τ).loc Cert.ReferenceIdeal.main_arg5))
        ∧ r.2.mem ((c.tc : Thread Cert.ReferenceIdeal.nD Cert.ReferenceIdeal.τ).loc Cert.ReferenceIdeal.main_v201) = val_main_v201 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1))
        ∧ r.2.mem ((c.tc : Thread Cert.ReferenceIdeal.nD Cert.ReferenceIdeal.τ).loc Cert.ReferenceIdeal.main_v202) = val_main_v202 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_v203) = val_main_v203 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg2))
        ∧ r.2.mem ((c.tc : Thread Cert.ReferenceIdeal.nD Cert.ReferenceIdeal.τ).loc Cert.ReferenceIdeal.main_v137) = val_main_v137 (F := Ideal) (m' ((c.tc : Thread Cert.ReferenceIdeal.nD Cert.ReferenceIdeal.τ).loc Cert.ReferenceIdeal.main_arg0)) (m' ((c.tc : Thread Cert.ReferenceIdeal.nD Cert.ReferenceIdeal.τ).loc Cert.ReferenceIdeal.main_arg1)) (m' ((c.tc : Thread Cert.ReferenceIdeal.nD Cert.ReferenceIdeal.τ).loc Cert.ReferenceIdeal.main_arg6))
        ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6) :=
  (θ_run Cert.ReferenceIdeal.defs _ _).mono
    (fun r h c => ⟨(h c).1.trans (val_main_v199_eq _), (h c).2.1.trans (val_main_v150_eq _), (h c).2.2.1.trans (val_main_v201_eq _),
      (h c).2.2.2.1.trans (val_main_v202_eq _), (h c).2.2.2.2.1.trans (val_main_v203_eq _),
      (h c).2.2.2.2.2.1.trans (val_main_v137_eq _), (h c).2.2.2.2.2.2⟩)
    (Cert.ReferenceIdeal.Value.run m' g')

open Cert.KernelIdeal.Blocks in
/-- Where the queries and keys are finite, the kernel's results are the reference's. -/
theorem algebraic_pre : @Cert.algebraic_KernelIdeal_ReferenceIdeal_pre_memory_finite Cert.KernelIdeal.Gen.facts Cert.ReferenceIdeal.Gen.facts
    facts_memory_finite := by
  intro m g m' g' hp he
  have D : ∀ c, Cert.RefPair.DenNe (a0 m c) (a6 m c) := fun c => den_ne _ _ _ _ _ _ _ (hp c).1 (hp c).2
  refine ⟨fun c => (Cert.KernelIdeal.Gen.dats m 0 c).arrAt 9 Cert.KernelIdeal.cfg0.N, fun c => (Cert.KernelIdeal.Gen.dats m 0 c).arrAt 10 Cert.KernelIdeal.cfg0.N,
    fun c => (Cert.KernelIdeal.Gen.dats m 0 c).arrAt 11 Cert.KernelIdeal.cfg0.N, fun c => (Cert.KernelIdeal.Gen.dats m 0 c).arrAt 12 Cert.KernelIdeal.cfg0.N,
    fun c => (Cert.KernelIdeal.Gen.dats m 0 c).arrAt 13 Cert.KernelIdeal.cfg0.N, fun c => (Cert.KernelIdeal.Gen.dats m 0 c).arrAt 14 Cert.KernelIdeal.cfg0.N,
    Cert.KernelIdeal.Value.run_blocks m g, (θ_run Cert.ReferenceIdeal.defs _ _).mono (fun r h c => ?_) (run_reference m' g')⟩
  obtain ⟨e0, e1, e2, e3, e4, e5, e6⟩ := he c
  obtain ⟨h0, h1, h2, h3, h4, h5, h⟩ := h c
  rw [e0, e1, e2, e3, e4, e5, e6] at h0
  rw [e0, e1, e4, e5] at h1
  rw [e0, e1] at h2
  rw [e0, e1, e2] at h3 h4
  rw [e0, e1, e6] at h5
  exact ⟨h0.trans (eq9 m c (D c)).symm, h1.trans (eq10 m c).symm, h2.trans (eq11 m c).symm, h3.trans (eq12 m c).symm,
    h4.trans (eq13 m c).symm, h5.trans (eq14 m c (D c)).symm, h⟩

open Cert.KernelIdeal.Blocks in
/-- The gating heads' parts of the kernel's results are the reference's, whatever the arguments hold. -/
theorem algebraic_on : @Cert.algebraic_KernelIdeal_ReferenceIdeal_on_gating_part Cert.KernelIdeal.Gen.facts Cert.ReferenceIdeal.Gen.facts
    facts_gating_part := by
  intro m g m' g' _ he
  refine ⟨fun c => (Cert.KernelIdeal.Gen.dats m 0 c).arrAt 9 Cert.KernelIdeal.cfg0.N, fun c => (Cert.KernelIdeal.Gen.dats m 0 c).arrAt 10 Cert.KernelIdeal.cfg0.N,
    fun c => (Cert.KernelIdeal.Gen.dats m 0 c).arrAt 11 Cert.KernelIdeal.cfg0.N, fun c => (Cert.KernelIdeal.Gen.dats m 0 c).arrAt 12 Cert.KernelIdeal.cfg0.N,
    fun c => (Cert.KernelIdeal.Gen.dats m 0 c).arrAt 13 Cert.KernelIdeal.cfg0.N, fun c => (Cert.KernelIdeal.Gen.dats m 0 c).arrAt 14 Cert.KernelIdeal.cfg0.N,
    (θ_run Cert.KernelIdeal.defs _ _).mono (fun r h c => ?_) (Cert.KernelIdeal.Value.run_blocks m g),
    (θ_run Cert.ReferenceIdeal.defs _ _).mono (fun r h c => ?_) (run_reference m' g')⟩
  · obtain ⟨h0, h1, h2, h3, h4, h5, h⟩ := h c
    exact ⟨fun i _ => congrFun h0 i, fun i _ => congrFun h1 i, fun i _ => congrFun h2 i, fun i _ => congrFun h3 i,
      fun i _ => congrFun h4 i, fun i _ => congrFun h5 i, h⟩
  · obtain ⟨e0, e1, e2, e3, e4, e5, e6⟩ := he c
    obtain ⟨h0, h1, h2, h3, h4, _, h⟩ := h c
    rw [e0, e1, e2, e3, e4, e5, e6] at h0
    rw [e0, e1, e4, e5] at h1
    rw [e0, e1] at h2
    rw [e0, e1, e2] at h3 h4
    refine ⟨fun i hi => (congrFun h0 i).trans ?_, fun i _ => congrFun (h1.trans (eq10 m c).symm) i,
      fun i _ => congrFun (h2.trans (eq11 m c).symm) i, fun i _ => congrFun (h3.trans (eq12 m c).symm) i,
      fun i _ => congrFun (h4.trans (eq13 m c).symm) i, fun i hi => absurd (mask_kv _ _ _ _ _ _ _ i hi) not_false, h⟩
    rw [eq_ix2 i] at hi ⊢
    exact (eq9_gate m c (i 0) (i 1) (mask_gate _ _ _ _ _ _ _ _ _ hi)).symm

/-- The reference of the step through the gate-and-up product and the norm before it ends with its arguments unchanged and every counter at zero. -/
theorem frame_reference2 : Cert.quiescent_Reference2Ideal := fun m ρ _ =>
  (θ_run Cert.Reference2Ideal.defs _ _).mono
    (fun r h => ⟨fun c => (h c).2.2.2, Idealize.ShloMosaic.sem_eq_zero_of_no_sems (by decide) r.2⟩)
    (Cert.Reference2Ideal.Value.run m ρ)

open Cert.Kernel2Ideal.Blocks Cert.Reference2Ideal.Read in
/-- For the step through the gate-and-up product and the norm before it: the kernel's results are the reference's. -/
theorem algebraic2 : @Cert.algebraic_Kernel2Ideal_Reference2Ideal Cert.Kernel2Ideal.Gen.facts Cert.Reference2Ideal.Gen.facts := by
  intro m g m' g' _ he
  refine ⟨fun c => (Cert.Kernel2Ideal.Gen.dats m 0 c).arrAt 5 Cert.Kernel2Ideal.cfg0.N, fun c => (Cert.Kernel2Ideal.Gen.dats m 0 c).arrAt 6 Cert.Kernel2Ideal.cfg0.N, fun c => (Cert.Kernel2Ideal.Gen.dats m 0 c).arrAt 7 Cert.Kernel2Ideal.cfg0.N,
    Cert.Kernel2Ideal.Value.run_blocks m g, (θ_run Cert.Reference2Ideal.defs _ _).mono (fun r h c => ?_) (Cert.Reference2Ideal.Value.run m' g')⟩
  obtain ⟨e0, e1, e2, e3, e4⟩ := he c
  obtain ⟨h0, h1, h2, h⟩ := h c
  exact ⟨(h0.trans (val_main_v55_eq m' c)).trans (by rw [e0, e1, e2, e3, e4]; exact (arr5 m c).symm),
    (h1.trans (val_main_v56_eq _ _ _)).trans (by rw [e0, e1, e2]; exact (arr6 m c).symm),
    (h2.trans (val_main_v57_eq m' c)).trans (by rw [e0, e1, e2, e3, e4]; exact (arr7 m c).symm), h⟩

/-- The reference of the gradient of the gate-and-up weights ends with its arguments unchanged and every counter at zero. -/
theorem frame_reference3 : Cert.quiescent_Reference3Ideal := fun m ρ _ =>
  (θ_run Cert.Reference3Ideal.defs _ _).mono
    (fun r h => ⟨fun c => (h c).2, Idealize.ShloMosaic.sem_eq_zero_of_no_sems (by decide) r.2⟩)
    (Cert.Reference3Ideal.Value.run m ρ)

open Cert.Kernel3Ideal.Blocks Cert.Reference3Ideal.Read in
/-- For the gradient of the gate-and-up weights: the kernel's results are the reference's. -/
theorem algebraic3 : @Cert.algebraic_Kernel3Ideal_Reference3Ideal Cert.Kernel3Ideal.Gen.facts Cert.Reference3Ideal.Gen.facts := by
  intro m g m' g' _ he
  refine ⟨fun c => Cert.Kernel3Ideal.Value.G2 m c,
    Cert.Kernel3Ideal.Value.run m g, (θ_run Cert.Reference3Ideal.defs _ _).mono (fun r h c => ?_) (Cert.Reference3Ideal.Value.run m' g')⟩
  obtain ⟨e0, e1⟩ := he c
  obtain ⟨h0, h⟩ := h c
  exact ⟨(h0.trans (val_main_v21_eq m' c)).trans (by rw [e0, e1]; exact (equal m c).symm), h⟩

/-- The reference of the gradient of the down weights ends with its arguments unchanged and every counter at zero. -/
theorem frame_reference4 : Cert.quiescent_Reference4Ideal := fun m ρ _ =>
  (θ_run Cert.Reference4Ideal.defs _ _).mono
    (fun r h => ⟨fun c => (h c).2, Idealize.ShloMosaic.sem_eq_zero_of_no_sems (by decide) r.2⟩)
    (Cert.Reference4Ideal.Value.run m ρ)

open Cert.Kernel4Ideal.Blocks Cert.Reference4Ideal.Read in
/-- For the gradient of the down weights: the kernel's results are the reference's. -/
theorem algebraic4 : @Cert.algebraic_Kernel4Ideal_Reference4Ideal Cert.Kernel4Ideal.Gen.facts Cert.Reference4Ideal.Gen.facts := by
  intro m g m' g' _ he
  refine ⟨fun c => Cert.Kernel4Ideal.Value.G2 m c,
    Cert.Kernel4Ideal.Value.run m g, (θ_run Cert.Reference4Ideal.defs _ _).mono (fun r h c => ?_) (Cert.Reference4Ideal.Value.run m' g')⟩
  obtain ⟨e0, e1⟩ := he c
  obtain ⟨h0, h⟩ := h c
  exact ⟨(h0.trans (val_main_v14_eq _ _)).trans (by rw [e0, e1]; exact (equal m c).symm), h⟩

/-- The reference of the step through the down product and the activation ends with its arguments unchanged and every counter at zero. -/
theorem frame_reference5 : Cert.quiescent_Reference5Ideal := fun m ρ _ =>
  (θ_run Cert.Reference5Ideal.defs _ _).mono
    (fun r h => ⟨fun c => (h c).2, Idealize.ShloMosaic.sem_eq_zero_of_no_sems (by decide) r.2⟩)
    (Cert.Reference5Ideal.Value.run m ρ)

open Cert.Kernel5Ideal.Blocks Cert.Reference5Ideal.Read in
/-- For the step through the down product and the activation: where the activation's cotangent times the up projection is finite,
the kernel's result is the reference's. -/
theorem algebraic5_pre : @Cert.algebraic_Kernel5Ideal_Reference5Ideal_pre_gated_cotangent_finite Cert.Kernel5Ideal.Gen.facts
    Cert.Reference5Ideal.Gen.facts facts_gated_cotangent_finite := by
  intro m g m' g' hp he
  refine ⟨fun c => (Cert.Kernel5Ideal.Gen.dats m 0 c).arrAt 3 Cert.Kernel5Ideal.cfg0.N,
    Cert.Kernel5Ideal.Value.run_blocks m g, (θ_run Cert.Reference5Ideal.defs _ _).mono (fun r h c => ?_) (Cert.Reference5Ideal.Value.run m' g')⟩
  obtain ⟨e0, e1, e2, e3⟩ := he c
  obtain ⟨h0, h⟩ := h c
  exact ⟨(h0.trans (val_main_v13_eq _ _ _ _)).trans (by rw [e0, e1, e2, e3]; exact (arr3 m c (hp c)).symm), h⟩

open Cert.Kernel5Ideal.Blocks Cert.Reference5Ideal.Read in
/-- Whatever the arguments hold, the up projection's gradient is the reference's, and so is the gate's at the entries where the
activation's cotangent times the up projection is finite. -/
theorem algebraic5_on : @Cert.algebraic_Kernel5Ideal_Reference5Ideal_on_finite_or_up Cert.Kernel5Ideal.Gen.facts
    Cert.Reference5Ideal.Gen.facts facts_finite_or_up := by
  intro m g m' g' _ he
  refine ⟨fun c => (Cert.Kernel5Ideal.Gen.dats m 0 c).arrAt 3 Cert.Kernel5Ideal.cfg0.N,
    (θ_run Cert.Kernel5Ideal.defs _ _).mono (fun r h c => ?_) (Cert.Kernel5Ideal.Value.run_blocks m g),
    (θ_run Cert.Reference5Ideal.defs _ _).mono (fun r h c => ?_) (Cert.Reference5Ideal.Value.run m' g')⟩
  · obtain ⟨h0, h⟩ := h c
    exact ⟨fun i _ => congrFun h0 i, h⟩
  · obtain ⟨e0, e1, e2, e3⟩ := he c
    obtain ⟨h0, h⟩ := h c
    have h1 := h0.trans (val_main_v13_eq _ _ _ _)
    rw [e0, e1, e2, e3] at h1
    exact ⟨fun i hi => (congrFun h1 i).trans (entry m c i fun h2 => mask _ _ _ _ i hi h2).symm, h⟩

/-- The reference of the norm, the gate-and-up product and the activation ends with its arguments unchanged and every counter at zero. -/
theorem frame_reference6 : Cert.quiescent_Reference6Ideal := fun m ρ _ =>
  (θ_run Cert.Reference6Ideal.defs _ _).mono
    (fun r h => ⟨fun c => (h c).2.2.2, Idealize.ShloMosaic.sem_eq_zero_of_no_sems (by decide) r.2⟩)
    (Cert.Reference6Ideal.Value.run m ρ)

open Cert.Kernel6Ideal.Blocks Cert.Reference6Ideal.Read in
/-- For the norm, the gate-and-up product and the activation: the kernel's results are the reference's. -/
theorem algebraic6 : @Cert.algebraic_Kernel6Ideal_Reference6Ideal Cert.Kernel6Ideal.Gen.facts Cert.Reference6Ideal.Gen.facts := by
  intro m g m' g' _ he
  refine ⟨fun c => (Cert.Kernel6Ideal.Gen.dats m 0 c).arrAt 4 Cert.Kernel6Ideal.cfg0.N, fun c => (Cert.Kernel6Ideal.Gen.dats m 0 c).arrAt 5 Cert.Kernel6Ideal.cfg0.N, fun c => (Cert.Kernel6Ideal.Gen.dats m 0 c).arrAt 6 Cert.Kernel6Ideal.cfg0.N,
    Cert.Kernel6Ideal.Value.run_blocks m g, (θ_run Cert.Reference6Ideal.defs _ _).mono (fun r h c => ?_) (Cert.Reference6Ideal.Value.run m' g')⟩
  obtain ⟨e0, e1, e2⟩ := he c
  obtain ⟨h0, h1, h2, h⟩ := h c
  exact ⟨(h0.trans (val_main_v37_eq _ _)).trans (by rw [e0, e1]; exact (arr4 m c).symm),
    (h1.trans (val_main_v38_eq m' c)).trans (by rw [e0, e1, e2]; exact (arr5 m c).symm),
    (h2.trans (val_main_v41_eq m' c)).trans (by rw [e0, e1, e2]; exact (arr6 m c).symm), h⟩

/-- The reference of the product by the down weights ends with its arguments unchanged and every counter at zero. -/
theorem frame_reference7 : Cert.quiescent_Reference7Ideal := fun m ρ _ =>
  (θ_run Cert.Reference7Ideal.defs _ _).mono
    (fun r h => ⟨fun c => (h c).2, Idealize.ShloMosaic.sem_eq_zero_of_no_sems (by decide) r.2⟩)
    (Cert.Reference7Ideal.Value.run m ρ)

open Cert.Kernel7Ideal.Blocks Cert.Reference7Ideal.Read in
/-- For the product by the down weights: the kernel's results are the reference's. -/
theorem algebraic7 : @Cert.algebraic_Kernel7Ideal_Reference7Ideal Cert.Kernel7Ideal.Gen.facts Cert.Reference7Ideal.Gen.facts := by
  intro m g m' g' _ he
  refine ⟨fun c => (Cert.Kernel7Ideal.Gen.dats m 0 c).arrAt 3 Cert.Kernel7Ideal.cfg0.N,
    Cert.Kernel7Ideal.Value.run_blocks m g, (θ_run Cert.Reference7Ideal.defs _ _).mono (fun r h c => ?_) (Cert.Reference7Ideal.Value.run m' g')⟩
  obtain ⟨e0, e1, e2⟩ := he c
  obtain ⟨h0, h⟩ := h c
  exact ⟨(h0.trans (val_main_v4_eq _ _ _)).trans (by rw [e0, e1, e2]; exact (arr3 m c).symm), h⟩

/-- The reference of the step through the mixer's output product ends with its arguments unchanged and every counter at zero. -/
theorem frame_reference8 : Cert.quiescent_Reference8Ideal := fun m ρ _ =>
  (θ_run Cert.Reference8Ideal.defs _ _).mono
    (fun r h => ⟨fun c => (h c).2, Idealize.ShloMosaic.sem_eq_zero_of_no_sems (by decide) r.2⟩)
    (Cert.Reference8Ideal.Value.run m ρ)

open Cert.Kernel8Ideal.Blocks Cert.Reference8Ideal.Read in
/-- For the step through the mixer's output product: the kernel's results are the reference's. -/
theorem algebraic8 : @Cert.algebraic_Kernel8Ideal_Reference8Ideal Cert.Kernel8Ideal.Gen.facts Cert.Reference8Ideal.Gen.facts := by
  intro m g m' g' _ he
  refine ⟨fun c => (Cert.Kernel8Ideal.Gen.dats m 0 c).arrAt 2 Cert.Kernel8Ideal.cfg0.N,
    Cert.Kernel8Ideal.Value.run_blocks m g, (θ_run Cert.Reference8Ideal.defs _ _).mono (fun r h c => ?_) (Cert.Reference8Ideal.Value.run m' g')⟩
  obtain ⟨e0, e1⟩ := he c
  obtain ⟨h0, h⟩ := h c
  exact ⟨(h0.trans (val_main_v5_eq _ _)).trans (by rw [e0, e1]; exact (arr2 m c).symm), h⟩

/-- The reference of the gradient of the mixer's output weights ends with its arguments unchanged and every counter at zero. -/
theorem frame_reference9 : Cert.quiescent_Reference9Ideal := fun m ρ _ =>
  (θ_run Cert.Reference9Ideal.defs _ _).mono
    (fun r h => ⟨fun c => (h c).2, Idealize.ShloMosaic.sem_eq_zero_of_no_sems (by decide) r.2⟩)
    (Cert.Reference9Ideal.Value.run m ρ)

open Cert.Kernel9Ideal.Blocks Cert.Reference9Ideal.Read in
/-- For the gradient of the mixer's output weights: the kernel's results are the reference's. -/
theorem algebraic9 : @Cert.algebraic_Kernel9Ideal_Reference9Ideal Cert.Kernel9Ideal.Gen.facts Cert.Reference9Ideal.Gen.facts := by
  intro m g m' g' _ he
  refine ⟨fun c => (Cert.Kernel9Ideal.Gen.dats m 0 c).arrAt 2 Cert.Kernel9Ideal.cfg0.N,
    Cert.Kernel9Ideal.Value.run_blocks m g, (θ_run Cert.Reference9Ideal.defs _ _).mono (fun r h c => ?_) (Cert.Reference9Ideal.Value.run m' g')⟩
  obtain ⟨e0, e1⟩ := he c
  obtain ⟨h0, h⟩ := h c
  exact ⟨(h0.trans (val_main_v14_eq _ _)).trans (by rw [e0, e1]; exact (equal m c).symm), h⟩

/-- The reference of the gradient of mixer B's input weights ends with its arguments unchanged and every counter at zero. -/
theorem frame_reference10 : Cert.quiescent_Reference10Ideal := fun m ρ _ =>
  (θ_run Cert.Reference10Ideal.defs _ _).mono
    (fun r h => ⟨fun c => (h c).2, Idealize.ShloMosaic.sem_eq_zero_of_no_sems (by decide) r.2⟩)
    (Cert.Reference10Ideal.Value.run m ρ)

open Cert.Kernel10Ideal.Blocks Cert.Reference10Ideal.Read in
/-- For the gradient of mixer B's input weights: the kernel's results are the reference's. -/
theorem algebraic10 : @Cert.algebraic_Kernel10Ideal_Reference10Ideal Cert.Kernel10Ideal.Gen.facts Cert.Reference10Ideal.Gen.facts := by
  intro m g m' g' _ he
  refine ⟨fun c => (Cert.Kernel10Ideal.Gen.dats m 0 c).arrAt 2 Cert.Kernel10Ideal.cfg0.N,
    Cert.Kernel10Ideal.Value.run_blocks m g, (θ_run Cert.Reference10Ideal.defs _ _).mono (fun r h c => ?_) (Cert.Reference10Ideal.Value.run m' g')⟩
  obtain ⟨e0, e1⟩ := he c
  obtain ⟨h0, h⟩ := h c
  exact ⟨(h0.trans (val_main_v15_eq _ _)).trans (by rw [e0, e1]; exact (equal m c).symm), h⟩

/-- The reference of the gradient of mixer A's input weights ends with its arguments unchanged and every counter at zero. -/
theorem frame_reference11 : Cert.quiescent_Reference11Ideal := fun m ρ _ =>
  (θ_run Cert.Reference11Ideal.defs _ _).mono
    (fun r h => ⟨fun c => (h c).2, Idealize.ShloMosaic.sem_eq_zero_of_no_sems (by decide) r.2⟩)
    (Cert.Reference11Ideal.Value.run m ρ)

open Cert.Kernel11Ideal.Blocks Cert.Reference11Ideal.Read in
/-- For the gradient of mixer A's input weights: the kernel's results are the reference's. -/
theorem algebraic11 : @Cert.algebraic_Kernel11Ideal_Reference11Ideal Cert.Kernel11Ideal.Gen.facts Cert.Reference11Ideal.Gen.facts := by
  intro m g m' g' _ he
  refine ⟨fun c => (Cert.Kernel11Ideal.Gen.dats m 0 c).arrAt 2 Cert.Kernel11Ideal.cfg0.N,
    Cert.Kernel11Ideal.Value.run_blocks m g, (θ_run Cert.Reference11Ideal.defs _ _).mono (fun r h c => ?_) (Cert.Reference11Ideal.Value.run m' g')⟩
  obtain ⟨e0, e1⟩ := he c
  obtain ⟨h0, h⟩ := h c
  exact ⟨(h0.trans (val_main_v15_eq _ _)).trans (by rw [e0, e1]; exact (equal m c).symm), h⟩

/-- The reference of the step through mixer B's projection and the norm before it ends with its arguments unchanged and every counter at zero. -/
theorem frame_reference12 : Cert.quiescent_Reference12Ideal := fun m ρ _ =>
  (θ_run Cert.Reference12Ideal.defs _ _).mono
    (fun r h => ⟨fun c => (h c).2.2.2, Idealize.ShloMosaic.sem_eq_zero_of_no_sems (by decide) r.2⟩)
    (Cert.Reference12Ideal.Value.run m ρ)

open Cert.Kernel12Ideal.Blocks Cert.Reference12Ideal.Read in
/-- For the step through mixer B's projection and the norm before it: the kernel's results are the reference's. -/
theorem algebraic12 : @Cert.algebraic_Kernel12Ideal_Reference12Ideal Cert.Kernel12Ideal.Gen.facts Cert.Reference12Ideal.Gen.facts := by
  intro m g m' g' _ he
  refine ⟨fun c => (Cert.Kernel12Ideal.Gen.dats m 0 c).arrAt 5 Cert.Kernel12Ideal.cfg0.N, fun c => (Cert.Kernel12Ideal.Gen.dats m 0 c).arrAt 6 Cert.Kernel12Ideal.cfg0.N, fun c => (Cert.Kernel12Ideal.Gen.dats m 0 c).arrAt 7 Cert.Kernel12Ideal.cfg0.N,
    Cert.Kernel12Ideal.Value.run_blocks m g, (θ_run Cert.Reference12Ideal.defs _ _).mono (fun r h c => ?_) (Cert.Reference12Ideal.Value.run m' g')⟩
  obtain ⟨e0, e1, e2, e3, e4⟩ := he c
  obtain ⟨h0, h1, h2, h⟩ := h c
  exact ⟨(h0.trans (val_main_v50_eq m' c)).trans (by rw [e0, e1, e2, e3, e4]; exact (arr5 m c).symm),
    (h1.trans (val_main_v51_eq _ _ _)).trans (by rw [e0, e1, e2]; exact (arr6 m c).symm),
    (h2.trans (val_main_v52_eq m' c)).trans (by rw [e0, e1, e2, e3, e4]; exact (arr7 m c).symm), h⟩

/-- The reference of the step through mixer A's projection and the norm before it ends with its arguments unchanged and every counter at zero. -/
theorem frame_reference13 : Cert.quiescent_Reference13Ideal := fun m ρ _ =>
  (θ_run Cert.Reference13Ideal.defs _ _).mono
    (fun r h => ⟨fun c => (h c).2.2.2, Idealize.ShloMosaic.sem_eq_zero_of_no_sems (by decide) r.2⟩)
    (Cert.Reference13Ideal.Value.run m ρ)

open Cert.Kernel13Ideal.Blocks Cert.Reference13Ideal.Read in
/-- For the step through mixer A's projection and the norm before it: the kernel's results are the reference's. -/
theorem algebraic13 : @Cert.algebraic_Kernel13Ideal_Reference13Ideal Cert.Kernel13Ideal.Gen.facts Cert.Reference13Ideal.Gen.facts := by
  intro m g m' g' _ he
  refine ⟨fun c => (Cert.Kernel13Ideal.Gen.dats m 0 c).arrAt 5 Cert.Kernel13Ideal.cfg0.N, fun c => (Cert.Kernel13Ideal.Gen.dats m 0 c).arrAt 6 Cert.Kernel13Ideal.cfg0.N, fun c => (Cert.Kernel13Ideal.Gen.dats m 0 c).arrAt 7 Cert.Kernel13Ideal.cfg0.N,
    Cert.Kernel13Ideal.Value.run_blocks m g, (θ_run Cert.Reference13Ideal.defs _ _).mono (fun r h c => ?_) (Cert.Reference13Ideal.Value.run m' g')⟩
  obtain ⟨e0, e1, e2, e3, e4⟩ := he c
  obtain ⟨h0, h1, h2, h⟩ := h c
  exact ⟨(h0.trans (val_main_v50_eq m' c)).trans (by rw [e0, e1, e2, e3, e4]; exact (arr5 m c).symm),
    (h1.trans (val_main_v51_eq _ _ _)).trans (by rw [e0, e1, e2]; exact (arr6 m c).symm),
    (h2.trans (val_main_v52_eq m' c)).trans (by rw [e0, e1, e2, e3, e4]; exact (arr7 m c).symm), h⟩

/-- The reference of the mixer's output product ends with its arguments unchanged and every counter at zero. -/
theorem frame_reference14 : Cert.quiescent_Reference14Ideal := fun m ρ _ =>
  (θ_run Cert.Reference14Ideal.defs _ _).mono
    (fun r h => ⟨fun c => (h c).2, Idealize.ShloMosaic.sem_eq_zero_of_no_sems (by decide) r.2⟩)
    (Cert.Reference14Ideal.Value.run m ρ)

open Cert.Kernel14Ideal.Blocks Cert.Reference14Ideal.Read in
/-- For the mixer's output product: the kernel's results are the reference's. -/
theorem algebraic14 : @Cert.algebraic_Kernel14Ideal_Reference14Ideal Cert.Kernel14Ideal.Gen.facts Cert.Reference14Ideal.Gen.facts := by
  intro m g m' g' _ he
  refine ⟨fun c => (Cert.Kernel14Ideal.Gen.dats m 0 c).arrAt 3 Cert.Kernel14Ideal.cfg0.N,
    Cert.Kernel14Ideal.Value.run_blocks m g, (θ_run Cert.Reference14Ideal.defs _ _).mono (fun r h c => ?_) (Cert.Reference14Ideal.Value.run m' g')⟩
  obtain ⟨e0, e1, e2⟩ := he c
  obtain ⟨h0, h⟩ := h c
  exact ⟨(h0.trans (val_main_v4_eq _ _ _)).trans (by rw [e0, e1, e2]; exact (arr3 m c).symm), h⟩

/-- The reference of mixer B's norm and projection ends with its arguments unchanged and every counter at zero. -/
theorem frame_reference15 : Cert.quiescent_Reference15Ideal := fun m ρ _ =>
  (θ_run Cert.Reference15Ideal.defs _ _).mono
    (fun r h => ⟨fun c => (h c).2.2, Idealize.ShloMosaic.sem_eq_zero_of_no_sems (by decide) r.2⟩)
    (Cert.Reference15Ideal.Value.run m ρ)

open Cert.Kernel15Ideal.Blocks Cert.Reference15Ideal.Read in
/-- For mixer B's norm and projection: the kernel's results are the reference's. -/
theorem algebraic15 : @Cert.algebraic_Kernel15Ideal_Reference15Ideal Cert.Kernel15Ideal.Gen.facts Cert.Reference15Ideal.Gen.facts := by
  intro m g m' g' _ he
  refine ⟨fun c => (Cert.Kernel15Ideal.Gen.dats m 0 c).arrAt 3 Cert.Kernel15Ideal.cfg0.N, fun c => (Cert.Kernel15Ideal.Gen.dats m 0 c).arrAt 4 Cert.Kernel15Ideal.cfg0.N,
    Cert.Kernel15Ideal.Value.run_blocks m g, (θ_run Cert.Reference15Ideal.defs _ _).mono (fun r h c => ?_) (Cert.Reference15Ideal.Value.run m' g')⟩
  obtain ⟨e0, e1, e2⟩ := he c
  obtain ⟨h0, h1, h⟩ := h c
  exact ⟨(h0.trans (val_main_v13_eq _ _)).trans (by rw [e0, e1]; exact (arr3 m c).symm),
    (h1.trans (val_main_v26_eq _ _ _)).trans (by rw [e0, e1, e2]; exact (arr4 m c).symm), h⟩

/-- The reference of mixer A's norm and projection ends with its arguments unchanged and every counter at zero. -/
theorem frame_reference16 : Cert.quiescent_Reference16Ideal := fun m ρ _ =>
  (θ_run Cert.Reference16Ideal.defs _ _).mono
    (fun r h => ⟨fun c => (h c).2.2, Idealize.ShloMosaic.sem_eq_zero_of_no_sems (by decide) r.2⟩)
    (Cert.Reference16Ideal.Value.run m ρ)

open Cert.Kernel16Ideal.Blocks Cert.Reference16Ideal.Read in
/-- For mixer A's norm and projection: the kernel's results are the reference's. -/
theorem algebraic16 : @Cert.algebraic_Kernel16Ideal_Reference16Ideal Cert.Kernel16Ideal.Gen.facts Cert.Reference16Ideal.Gen.facts := by
  intro m g m' g' _ he
  refine ⟨fun c => (Cert.Kernel16Ideal.Gen.dats m 0 c).arrAt 3 Cert.Kernel16Ideal.cfg0.N, fun c => (Cert.Kernel16Ideal.Gen.dats m 0 c).arrAt 4 Cert.Kernel16Ideal.cfg0.N,
    Cert.Kernel16Ideal.Value.run_blocks m g, (θ_run Cert.Reference16Ideal.defs _ _).mono (fun r h c => ?_) (Cert.Reference16Ideal.Value.run m' g')⟩
  obtain ⟨e0, e1, e2⟩ := he c
  obtain ⟨h0, h1, h⟩ := h c
  exact ⟨(h0.trans (val_main_v13_eq _ _)).trans (by rw [e0, e1]; exact (arr3 m c).symm),
    (h1.trans (val_main_v26_eq _ _ _)).trans (by rw [e0, e1, e2]; exact (arr4 m c).symm), h⟩

/-- The reference of mixer A ends with its arguments unchanged and every counter at zero. -/
theorem frame_reference18 : Cert.quiescent_Reference18Ideal := fun m ρ _ =>
  (θ_run Cert.Reference18Ideal.defs _ _).mono
    (fun r h => ⟨fun c => (h c).2, Idealize.ShloMosaic.sem_eq_zero_of_no_sems (by decide) r.2⟩)
    (Cert.Reference18Ideal.Value.run m ρ)

/-- The literal of mixer A's mask stands for minus infinity. -/
theorem preserves18 : Cert.preserves_Kernel18_Kernel18Ideal := IdealRules.named_const.statement _ _ _ _ _ rfl

open Cert.Kernel18Ideal.Blocks Cert.Reference18Ideal.Read in
/-- For mixer A: where the queries and keys of both attentions are finite and no sink is infinite, the kernel's result is
the reference's. -/
theorem algebraic18_pre : @Cert.algebraic_Kernel18Ideal_Reference18Ideal_pre_swa_finite Cert.Kernel18Ideal.Gen.facts
    Cert.Reference18Ideal.Gen.facts facts_swa_finite := by
  intro m g m' g' hp he
  refine ⟨fun c => (Cert.Kernel18Ideal.Gen.dats m 0 c).arrAt 9 Cert.Kernel18Ideal.cfg0.N,
    Cert.Kernel18Ideal.Value.run_blocks m g, (θ_run Cert.Reference18Ideal.defs _ _).mono (fun r h c => ?_) (Cert.Reference18Ideal.Value.run m' g')⟩
  obtain ⟨e0, e1, e2⟩ := he c
  obtain ⟨h0, h⟩ := h c
  obtain ⟨p0, p1, p2, p3⟩ := hp c
  exact ⟨(h0.trans (val_main_v95_eq _ _)).trans
    (by rw [e0, e1, e2]; exact (eq9 m c (den_swa _ _ _ p0 p3) (den_memory _ _ _ p1 p2)).symm), h⟩

/-- The reference of mixer B ends with its arguments unchanged and every counter at zero. -/
theorem frame_reference17 : Cert.quiescent_Reference17Ideal := fun m ρ _ =>
  (θ_run Cert.Reference17Ideal.defs _ _).mono
    (fun r h => ⟨fun c => (h c).2, Idealize.ShloMosaic.sem_eq_zero_of_no_sems (by decide) r.2⟩)
    (Cert.Reference17Ideal.Value.run m ρ)

open Cert.Kernel17Ideal.Blocks Cert.Reference17Ideal.Read in
/-- For mixer B: where the memory's queries and keys are finite, the kernel's result is the reference's. -/
theorem algebraic17_pre : @Cert.algebraic_Kernel17Ideal_Reference17Ideal_pre_attended_finite Cert.Kernel17Ideal.Gen.facts
    Cert.Reference17Ideal.Gen.facts facts_attended_finite := by
  intro m g m' g' hp he
  refine ⟨fun c => (Cert.Kernel17Ideal.Gen.dats m 0 c).arrAt 8 Cert.Kernel17Ideal.cfg0.N,
    Cert.Kernel17Ideal.Value.run_blocks m g, (θ_run Cert.Reference17Ideal.defs _ _).mono (fun r h c => ?_) (Cert.Reference17Ideal.Value.run m' g')⟩
  obtain ⟨e0, e1, e2, e3, e4, e5⟩ := he c
  obtain ⟨h0, h⟩ := h c
  exact ⟨(h0.trans (val_main_v80_eq _ _)).trans
    (by rw [e0, e1, e2, e3, e4, e5]; exact (eq8 m c (den_ne _ _ _ _ _ _ (hp c).1 (hp c).2)).symm), h⟩

open Cert.Kernel17Ideal.Blocks Cert.Reference17Ideal.Read in
/-- Whatever the arguments hold, the gated columns of mixer B are the reference's. -/
theorem algebraic17_on : @Cert.algebraic_Kernel17Ideal_Reference17Ideal_on_gated_columns Cert.Kernel17Ideal.Gen.facts
    Cert.Reference17Ideal.Gen.facts facts_gated_columns := by
  intro m g m' g' _ he
  refine ⟨fun c => (Cert.Kernel17Ideal.Gen.dats m 0 c).arrAt 8 Cert.Kernel17Ideal.cfg0.N,
    (θ_run Cert.Kernel17Ideal.defs _ _).mono (fun r h c => ?_) (Cert.Kernel17Ideal.Value.run_blocks m g),
    (θ_run Cert.Reference17Ideal.defs _ _).mono (fun r h c => ?_) (Cert.Reference17Ideal.Value.run m' g')⟩
  · obtain ⟨h0, h⟩ := h c
    exact ⟨fun i _ => congrFun h0 i, h⟩
  · obtain ⟨e0, e1, e2, e3, e4, e5⟩ := he c
    obtain ⟨h0, h⟩ := h c
    have h1 := h0.trans (val_main_v80_eq _ _)
    rw [e0, e1, e2, e3, e4, e5] at h1
    refine ⟨fun i hi => ?_, h⟩
    obtain ⟨r, k, hj⟩ : ∃ (r : Fin 8192) (k : Fin 1024), i = ix2 r k := ⟨i 0, i 1, eq_ix2 i⟩
    subst hj
    exact (congrFun h1 _).trans (eq8_gate m c r k (mask _ _ _ _ _ _ r k hi)).symm

/-- The reference of the gradient of the memory's weights ends with its arguments unchanged and every counter at zero. -/
theorem frame_reference19 : Cert.quiescent_Reference19Ideal := fun m ρ _ =>
  (θ_run Cert.Reference19Ideal.defs _ _).mono
    (fun r h => ⟨fun c => (h c).2, Idealize.ShloMosaic.sem_eq_zero_of_no_sems (by decide) r.2⟩)
    (Cert.Reference19Ideal.Value.run m ρ)

open Cert.Kernel19Ideal.Blocks Cert.Reference19Ideal.Read in
/-- For the gradient of the memory's weights: the kernel's result is the reference's. -/
theorem algebraic19 : @Cert.algebraic_Kernel19Ideal_Reference19Ideal Cert.Kernel19Ideal.Gen.facts Cert.Reference19Ideal.Gen.facts := by
  intro m g m' g' _ he
  refine ⟨fun c => Cert.Kernel19Ideal.Value.G2 (F := Ideal) (m ((c.tc : Thread Cert.Kernel19Ideal.nD Cert.Kernel19Ideal.τ).loc Cert.Kernel19Ideal.main_arg0)) (m ((c.tc : Thread Cert.Kernel19Ideal.nD Cert.Kernel19Ideal.τ).loc Cert.Kernel19Ideal.main_arg1)),
    Cert.Kernel19Ideal.Value.run m g, (θ_run Cert.Reference19Ideal.defs _ _).mono (fun r h c => ?_) (Cert.Reference19Ideal.Value.run m' g')⟩
  obtain ⟨e0, e1⟩ := he c
  obtain ⟨h0, h⟩ := h c
  exact ⟨(h0.trans (val_main_v13_eq _ _)).trans (by rw [e0, e1]; exact (equal _ _).symm), h⟩

/-- The reference of the gradient of the memory's normed tokens ends with its arguments unchanged and every counter at zero. -/
theorem frame_reference20 : Cert.quiescent_Reference20Ideal := fun m ρ _ =>
  (θ_run Cert.Reference20Ideal.defs _ _).mono
    (fun r h => ⟨fun c => (h c).2, Idealize.ShloMosaic.sem_eq_zero_of_no_sems (by decide) r.2⟩)
    (Cert.Reference20Ideal.Value.run m ρ)

open Cert.Kernel20Ideal.Blocks Cert.Reference20Ideal.Read in
/-- For the gradient of the memory's normed tokens: the kernel's result is the reference's. -/
theorem algebraic20 : @Cert.algebraic_Kernel20Ideal_Reference20Ideal Cert.Kernel20Ideal.Gen.facts Cert.Reference20Ideal.Gen.facts := by
  intro m g m' g' _ he
  refine ⟨fun c => Cert.Kernel20Ideal.Value.G3 (F := Ideal) (m ((c.tc : Thread Cert.Kernel20Ideal.nD Cert.Kernel20Ideal.τ).loc Cert.Kernel20Ideal.main_arg0)) (m ((c.tc : Thread Cert.Kernel20Ideal.nD Cert.Kernel20Ideal.τ).loc Cert.Kernel20Ideal.main_arg1)) (m ((c.tc : Thread Cert.Kernel20Ideal.nD Cert.Kernel20Ideal.τ).loc Cert.Kernel20Ideal.main_arg2)),
    Cert.Kernel20Ideal.Value.run m g, (θ_run Cert.Reference20Ideal.defs _ _).mono (fun r h c => ?_) (Cert.Reference20Ideal.Value.run m' g')⟩
  obtain ⟨e0, e1, e2⟩ := he c
  obtain ⟨h0, h⟩ := h c
  exact ⟨(h0.trans (val_main_v5_eq _ _ _)).trans (by rw [e0, e1, e2]; exact (equal _ _ _).symm), h⟩

/-- The reference of the memory's keys and values ends with its arguments unchanged and every counter at zero. -/
theorem frame_reference21 : Cert.quiescent_Reference21Ideal := fun m ρ _ =>
  (θ_run Cert.Reference21Ideal.defs _ _).mono
    (fun r h => ⟨fun c => (h c).2, Idealize.ShloMosaic.sem_eq_zero_of_no_sems (by decide) r.2⟩)
    (Cert.Reference21Ideal.Value.run m ρ)

open Cert.Kernel21Ideal.Blocks Cert.Reference21Ideal.Read in
/-- For the memory's keys and values: the kernel's result is the reference's. -/
theorem algebraic21 : @Cert.algebraic_Kernel21Ideal_Reference21Ideal Cert.Kernel21Ideal.Gen.facts Cert.Reference21Ideal.Gen.facts := by
  intro m g m' g' _ he
  refine ⟨fun c => Cert.Kernel21Ideal.Value.G2 (F := Ideal) (m ((c.tc : Thread Cert.Kernel21Ideal.nD Cert.Kernel21Ideal.τ).loc Cert.Kernel21Ideal.main_arg0)) (m ((c.tc : Thread Cert.Kernel21Ideal.nD Cert.Kernel21Ideal.τ).loc Cert.Kernel21Ideal.main_arg1)),
    Cert.Kernel21Ideal.Value.run m g, (θ_run Cert.Reference21Ideal.defs _ _).mono (fun r h c => ?_) (Cert.Reference21Ideal.Value.run m' g')⟩
  obtain ⟨e0, e1⟩ := he c
  obtain ⟨h0, h⟩ := h c
  exact ⟨(h0.trans (val_main_v4_eq _ _)).trans (by rw [e0, e1]; exact (equal _ _).symm), h⟩

/-- The reference of the norm of the memory's tokens ends with its arguments unchanged and every counter at zero. -/
theorem frame_reference22 : Cert.quiescent_Reference22Ideal := fun m ρ _ =>
  (θ_run Cert.Reference22Ideal.defs _ _).mono
    (fun r h => ⟨fun c => (h c).2, Idealize.ShloMosaic.sem_eq_zero_of_no_sems (by decide) r.2⟩)
    (Cert.Reference22Ideal.Value.run m ρ)

open Cert.Kernel22Ideal.Blocks Cert.Reference22Ideal.Read in
/-- For the norm of the memory's tokens: the kernel's result is the reference's. -/
theorem algebraic22 : @Cert.algebraic_Kernel22Ideal_Reference22Ideal Cert.Kernel22Ideal.Gen.facts Cert.Reference22Ideal.Gen.facts := by
  intro m g m' g' _ he
  refine ⟨fun c => (Cert.Kernel22Ideal.Gen.dats m 0 c).arrAt 2 Cert.Kernel22Ideal.cfg0.N,
    Cert.Kernel22Ideal.Value.run_blocks m g, (θ_run Cert.Reference22Ideal.defs _ _).mono (fun r h c => ?_) (Cert.Reference22Ideal.Value.run m' g')⟩
  obtain ⟨e0, e1⟩ := he c
  obtain ⟨h0, h⟩ := h c
  exact ⟨(h0.trans (val_main_v13_eq _ _)).trans (by rw [e0, e1]; exact (equal m c).symm), h⟩

/-- The reference of the loss and its gradient ends with its arguments unchanged and every counter at zero. -/
theorem frame_reference23 : Cert.quiescent_Reference23Ideal := fun m ρ _ =>
  (θ_run Cert.Reference23Ideal.defs _ _).mono
    (fun r h => ⟨fun c => (h c).2.2.2.2, Idealize.ShloMosaic.sem_eq_zero_of_no_sems (by decide) r.2⟩)
    (Cert.Reference23Ideal.Value.run m ρ)

open Cert.Kernel23Ideal.Blocks Cert.Reference23Ideal.Read in
/-- For the loss and its gradient: the kernel's results are the reference's. -/
theorem algebraic23 : @Cert.algebraic_Kernel23Ideal_Reference23Ideal Cert.Kernel23Ideal.Gen.facts Cert.Reference23Ideal.Gen.facts := by
  intro m g m' g' _ he
  refine ⟨fun c => (Cert.Kernel23Ideal.Gen.dats m 0 c).arrAt 3 Cert.Kernel23Ideal.cfg0.N, fun c => (Cert.Kernel23Ideal.Gen.dats m 0 c).arrAt 4 Cert.Kernel23Ideal.cfg0.N, fun c => (Cert.Kernel23Ideal.Gen.dats m 0 c).arrAt 5 Cert.Kernel23Ideal.cfg0.N, fun c => (Cert.Kernel23Ideal.Gen.dats m 0 c).arrAt 6 Cert.Kernel23Ideal.cfg0.N,
    Cert.Kernel23Ideal.Value.run_blocks m g, (θ_run Cert.Reference23Ideal.defs _ _).mono (fun r h c => ?_) (Cert.Reference23Ideal.Value.run m' g')⟩
  obtain ⟨e0, e1, e2⟩ := he c
  obtain ⟨h0, h1, h2, h3, h⟩ := h c
  exact ⟨(h0.trans (val_main_v51_eq _ _ _)).trans (by rw [e0, e1, e2]; exact (arr3 m c).symm),
    (h1.trans (val_main_v50_eq m' c)).trans (by rw [e0, e1, e2]; exact (arr4 m c).symm),
    (h2.trans (val_main_v52_eq _ _ _)).trans (by rw [e0, e1, e2]; exact (arr5 m c).symm),
    (h3.trans (val_main_v53_eq m' c)).trans (by rw [e0, e1, e2]; exact (arr6 m c).symm), h⟩

/-- The reference of the step through the norm of the memory's tokens ends with its arguments unchanged and every counter at zero. -/
theorem frame_reference24 : Cert.quiescent_Reference24Ideal := fun m ρ _ =>
  (θ_run Cert.Reference24Ideal.defs _ _).mono
    (fun r h => ⟨fun c => (h c).2.2, Idealize.ShloMosaic.sem_eq_zero_of_no_sems (by decide) r.2⟩)
    (Cert.Reference24Ideal.Value.run m ρ)

open Cert.Kernel24Ideal.Blocks Cert.Reference24Ideal.Read in
/-- For the step through the norm of the memory's tokens: the kernel's results are the reference's. -/
theorem algebraic24 : @Cert.algebraic_Kernel24Ideal_Reference24Ideal Cert.Kernel24Ideal.Gen.facts Cert.Reference24Ideal.Gen.facts := by
  intro m g m' g' _ he
  refine ⟨fun c => (Cert.Kernel24Ideal.Gen.dats m 0 c).arrAt 4 Cert.Kernel24Ideal.cfg0.N, fun c => (Cert.Kernel24Ideal.Gen.dats m 0 c).arrAt 5 Cert.Kernel24Ideal.cfg0.N,
    Cert.Kernel24Ideal.Value.run_blocks m g, (θ_run Cert.Reference24Ideal.defs _ _).mono (fun r h c => ?_) (Cert.Reference24Ideal.Value.run m' g')⟩
  obtain ⟨e0, e1, e2⟩ := he c
  obtain ⟨h0, h1, h⟩ := h c
  exact ⟨(h0.trans (val_main_v35_eq _ _ _)).trans (by rw [e0, e1, e2]; exact (arr4 m c).symm),
    (h1.trans (val_main_v36_eq _ _)).trans (by rw [e0, e2]; exact (arr5 m c).symm), h⟩

/-- The reference of the sum over the devices ends with its argument unchanged and every counter at zero. -/
theorem frame_reference25 : Cert.quiescent_Reference25Ideal := fun m ρ _ =>
  (θ_run Cert.Reference25Ideal.defs _ _).mono
    (fun r h => ⟨fun c => (h c).2, Idealize.ShloMosaic.sem_eq_zero_of_no_sems (by decide) r.2⟩)
    (Cert.Reference25Ideal.Value.run m ρ)

open Cert.Kernel25Ideal.Blocks Cert.Reference25Ideal.Read in
/-- For the sum over the devices: the kernel's result is the reference's. -/
theorem algebraic25 : @Cert.algebraic_Kernel25Ideal_Reference25Ideal Cert.Kernel25Ideal.Gen.facts Cert.Reference25Ideal.Gen.facts := by
  intro m g m' g' _ he
  refine ⟨fun c => (Cert.Kernel25Ideal.Gen.dats m 0 c).arrAt 1 Cert.Kernel25Ideal.cfg0.N,
    Cert.Kernel25Ideal.Value.run_blocks m g, (θ_run Cert.Reference25Ideal.defs _ _).mono (fun r h c => ?_) (Cert.Reference25Ideal.Value.run m' g')⟩
  have e0 := he c
  obtain ⟨h0, h⟩ := h c
  exact ⟨(h0.trans (val_main_v0_eq _)).trans (by rw [e0]; exact (equal m c).symm), h⟩

/-- The reference of the optimiser's step ends with its arguments unchanged and every counter at zero. -/
theorem frame_reference26 : Cert.quiescent_Reference26Ideal := fun m ρ _ =>
  (θ_run Cert.Reference26Ideal.defs _ _).mono
    (fun r h => ⟨fun c => (h c).2.2.2, Idealize.ShloMosaic.sem_eq_zero_of_no_sems (by decide) r.2⟩)
    (Cert.Reference26Ideal.Value.run m ρ)

open Cert.Kernel26Ideal.Blocks Cert.Reference26Ideal.Read in
/-- For the optimiser's step: the kernel's results are the reference's. -/
theorem algebraic26 : @Cert.algebraic_Kernel26Ideal_Reference26Ideal Cert.Kernel26Ideal.Gen.facts Cert.Reference26Ideal.Gen.facts := by
  intro m g m' g' _ he
  refine ⟨_, _, _, Cert.Kernel26Ideal.Value.run m g,
    (θ_run Cert.Reference26Ideal.defs _ _).mono (fun r h c => ?_) (Cert.Reference26Ideal.Value.run m' g')⟩
  obtain ⟨e0, e1, e2, e3⟩ := he c
  obtain ⟨h0, h1, h2, h⟩ := h c
  exact ⟨(h0.trans (val_main_v23_eq _ _ _ _)).trans (by rw [e0, e1, e2, e3]; exact (change _ _ _ _).symm),
    (h1.trans (val_main_v4_eq _ _)).trans (by rw [e1, e2]; exact (mean _ _).symm),
    (h2.trans (val_main_v10_eq _ _)).trans (by rw [e1, e3]; exact (square _ _).symm), h⟩

theorem frame_reference27 : Cert.quiescent_Reference27Ideal := fun m ρ _ =>
  (θ_run Cert.Reference27Ideal.defs _ _).mono
    (fun r h => ⟨fun c => (h c).2.2.2.2, Idealize.ShloMosaic.sem_eq_zero_of_no_sems (by decide) r.2⟩)
    (Cert.Reference27Ideal.Value.run m ρ)

open Cert.Kernel27Ideal.Blocks Cert.Reference27Ideal.Read in
/-- For the optimiser's step of a large weight: the kernel's results are the reference's. -/
theorem algebraic27 : @Cert.algebraic_Kernel27Ideal_Reference27Ideal Cert.Kernel27Ideal.Gen.facts Cert.Reference27Ideal.Gen.facts := by
  intro m g m' g' _ he
  refine ⟨_, _, _, _, Cert.Kernel27Ideal.Blocks.run m g,
    (θ_run Cert.Reference27Ideal.defs _ _).mono (fun r h c => ?_) (Cert.Reference27Ideal.Value.run m' g')⟩
  obtain ⟨e0, e1, e2, e3, e4, e5⟩ := he c
  obtain ⟨h0, h1, h2, h3, h⟩ := h c
  exact ⟨(h0.trans (val_main_v8_eq _ _ _)).trans (by rw [e1, e2, e5]),
    (h1.trans (val_main_v32_eq _ _ _ _ _ _)).trans (by rw [e0, e1, e2, e3, e4, e5]),
    (h2.trans (val_main_v13_eq _ _ _ _)).trans (by rw [e1, e2, e3, e5]),
    (h3.trans (val_main_v19_eq _ _ _ _)).trans (by rw [e1, e2, e4, e5]), h⟩

theorem frame_reference28 : Cert.quiescent_Reference28Ideal := fun m ρ _ =>
  (θ_run Cert.Reference28Ideal.defs _ _).mono
    (fun r h => ⟨fun c => (h c).2, Idealize.ShloMosaic.sem_eq_zero_of_no_sems (by decide) r.2⟩)
    (Cert.Reference28Ideal.Value.run m ρ)

open Cert.Kernel28Ideal.Blocks Cert.Reference28Ideal.Read in
/-- For the sum beside an exchange: the kernel's result is the reference's. -/
theorem algebraic28 : @Cert.algebraic_Kernel28Ideal_Reference28Ideal Cert.Kernel28Ideal.Gen.facts Cert.Reference28Ideal.Gen.facts Cert.Pre_core_is_zero_or_one.Gen.facts := by
  intro m g m' g' hp he
  obtain ⟨b, hb⟩ := half_pre m hp
  refine ⟨_, Cert.Kernel28Ideal.Blocks.run m b hb g,
    (θ_run Cert.Reference28Ideal.defs _ _).mono (fun r h c => ?_) (Cert.Reference28Ideal.Value.run m' g')⟩
  obtain ⟨e0, e1, e2⟩ := he c
  exact ⟨((h c).1.trans (val_main_v9_eq _ _ _)).trans (by rw [e0, e1, e2]), (h c).2⟩

theorem frame_reference29 : Cert.quiescent_Reference29Ideal := fun m ρ _ =>
  (θ_run Cert.Reference29Ideal.defs _ _).mono
    (fun r h => ⟨fun c => (h c).2, Idealize.ShloMosaic.sem_eq_zero_of_no_sems (by decide) r.2⟩)
    (Cert.Reference29Ideal.Value.run m ρ)

open Cert.Kernel29Ideal.Blocks Cert.Reference29Ideal.Read in
/-- For the total beside an exchange: the kernel's result is the reference's. -/
theorem algebraic29 : @Cert.algebraic_Kernel29Ideal_Reference29Ideal Cert.Kernel29Ideal.Gen.facts Cert.Reference29Ideal.Gen.facts Cert.Pre_core_and_shard_in_range.Gen.facts := by
  intro m g m' g' hp he
  obtain ⟨b, s, hb⟩ := at_pre m hp
  refine ⟨_, Cert.Kernel29Ideal.Blocks.run m b s hb g,
    (θ_run Cert.Reference29Ideal.defs _ _).mono (fun r h c => ?_) (Cert.Reference29Ideal.Value.run m' g')⟩
  obtain ⟨e0, e1, e2, e3⟩ := he c
  exact ⟨((h c).1.trans (val_main_v28_eq _ _)).trans (by rw [e0, e1, e2, e3]), (h c).2⟩

/-- The claim: every program keeps its arguments and ends with its counters at zero, and the results agree. -/
theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  Cert.Kernel15.Gen.facts, Cert.Kernel15Ideal.Gen.facts, Cert.Reference15Ideal.Gen.facts,
  Cert.Kernel16.Gen.facts, Cert.Kernel16Ideal.Gen.facts, Cert.Reference16Ideal.Gen.facts,
  Cert.Kernel18.Gen.facts, Cert.Kernel18Ideal.Gen.facts, Cert.Reference18Ideal.Gen.facts,
  Cert.Kernel17.Gen.facts, Cert.Kernel17Ideal.Gen.facts, Cert.Reference17Ideal.Gen.facts,
  Cert.Kernel19.Gen.facts, Cert.Kernel19Ideal.Gen.facts, Cert.Reference19Ideal.Gen.facts,
  Cert.Kernel20.Gen.facts, Cert.Kernel20Ideal.Gen.facts, Cert.Reference20Ideal.Gen.facts,
  Cert.Kernel21.Gen.facts, Cert.Kernel21Ideal.Gen.facts, Cert.Reference21Ideal.Gen.facts,
  Cert.Kernel22.Gen.facts, Cert.Kernel22Ideal.Gen.facts, Cert.Reference22Ideal.Gen.facts,
  Cert.Kernel23.Gen.facts, Cert.Kernel23Ideal.Gen.facts, Cert.Reference23Ideal.Gen.facts,
  Cert.Kernel24.Gen.facts, Cert.Kernel24Ideal.Gen.facts, Cert.Reference24Ideal.Gen.facts,
  Cert.Kernel25.Gen.facts, Cert.Kernel25Ideal.Gen.facts, Cert.Reference25Ideal.Gen.facts,
  Cert.Kernel26.Gen.facts, Cert.Kernel26Ideal.Gen.facts, Cert.Reference26Ideal.Gen.facts,
  Cert.Kernel27.Gen.facts, Cert.Kernel27Ideal.Gen.facts, Cert.Reference27Ideal.Gen.facts,
  Cert.Kernel28.Gen.facts, Cert.Kernel28Ideal.Gen.facts, Cert.Reference28Ideal.Gen.facts,
  Cert.Kernel29.Gen.facts, Cert.Kernel29Ideal.Gen.facts, Cert.Reference29Ideal.Gen.facts,
  Cert.KernelIdeal.Blocks.facts_memory_finite, Cert.Kernel5Ideal.Blocks.facts_gated_cotangent_finite, Cert.Kernel18Ideal.Blocks.facts_swa_finite, Cert.Kernel17Ideal.Blocks.facts_attended_finite, Cert.Pre_core_is_zero_or_one.Gen.facts, Cert.Pre_core_and_shard_in_range.Gen.facts,
  Cert.KernelIdeal.Blocks.facts_gating_part, Cert.Kernel5Ideal.Blocks.facts_finite_or_up, Cert.Kernel17Ideal.Blocks.facts_gated_columns,
  fun m ρ _ => Cert.Kernel.Gen.frame m ρ, fun m ρ _ => Cert.KernelIdeal.Gen.frame m ρ, fun m ρ _ => Cert.KernelIdeal.Gen.frame m ρ,
  frame_reference, fun m ρ _ => frame_reference m ρ trivial,
  fun m ρ _ => Cert.Kernel2.Gen.frame m ρ, fun m ρ _ => Cert.Kernel2Ideal.Gen.frame m ρ, frame_reference2,
  fun m ρ _ => Cert.Kernel3.Gen.frame m ρ, fun m ρ _ => Cert.Kernel3Ideal.Gen.frame m ρ, frame_reference3,
  fun m ρ _ => Cert.Kernel4.Gen.frame m ρ, fun m ρ _ => Cert.Kernel4Ideal.Gen.frame m ρ, frame_reference4,
  fun m ρ _ => Cert.Kernel5.Gen.frame m ρ, fun m ρ _ => Cert.Kernel5Ideal.Gen.frame m ρ, fun m ρ _ => Cert.Kernel5Ideal.Gen.frame m ρ, frame_reference5, fun m ρ _ => frame_reference5 m ρ trivial,
  fun m ρ _ => Cert.Kernel6.Gen.frame m ρ, fun m ρ _ => Cert.Kernel6Ideal.Gen.frame m ρ, frame_reference6,
  fun m ρ _ => Cert.Kernel7.Gen.frame m ρ, fun m ρ _ => Cert.Kernel7Ideal.Gen.frame m ρ, frame_reference7,
  fun m ρ _ => Cert.Kernel8.Gen.frame m ρ, fun m ρ _ => Cert.Kernel8Ideal.Gen.frame m ρ, frame_reference8,
  fun m ρ _ => Cert.Kernel9.Gen.frame m ρ, fun m ρ _ => Cert.Kernel9Ideal.Gen.frame m ρ, frame_reference9,
  fun m ρ _ => Cert.Kernel10.Gen.frame m ρ, fun m ρ _ => Cert.Kernel10Ideal.Gen.frame m ρ, frame_reference10,
  fun m ρ _ => Cert.Kernel11.Gen.frame m ρ, fun m ρ _ => Cert.Kernel11Ideal.Gen.frame m ρ, frame_reference11,
  fun m ρ _ => Cert.Kernel12.Gen.frame m ρ, fun m ρ _ => Cert.Kernel12Ideal.Gen.frame m ρ, frame_reference12,
  fun m ρ _ => Cert.Kernel13.Gen.frame m ρ, fun m ρ _ => Cert.Kernel13Ideal.Gen.frame m ρ, frame_reference13,
  fun m ρ _ => Cert.Kernel14.Gen.frame m ρ, fun m ρ _ => Cert.Kernel14Ideal.Gen.frame m ρ, frame_reference14,
  fun m ρ _ => Cert.Kernel15.Gen.frame m ρ, fun m ρ _ => Cert.Kernel15Ideal.Gen.frame m ρ, frame_reference15,
  fun m ρ _ => Cert.Kernel16.Gen.frame m ρ, fun m ρ _ => Cert.Kernel16Ideal.Gen.frame m ρ, frame_reference16,
  fun m ρ _ => Cert.Kernel18.Gen.frame m ρ, fun m ρ _ => Cert.Kernel18Ideal.Gen.frame m ρ, fun m ρ _ => Cert.Kernel18Ideal.Gen.frame m ρ, frame_reference18, fun m ρ _ => frame_reference18 m ρ trivial,
  fun m ρ _ => Cert.Kernel17.Gen.frame m ρ, fun m ρ _ => Cert.Kernel17Ideal.Gen.frame m ρ, fun m ρ _ => Cert.Kernel17Ideal.Gen.frame m ρ, frame_reference17, fun m ρ _ => frame_reference17 m ρ trivial,
  fun m ρ _ => Cert.Kernel19.Gen.frame m ρ, fun m ρ _ => Cert.Kernel19Ideal.Gen.frame m ρ, frame_reference19,
  fun m ρ _ => Cert.Kernel20.Gen.frame m ρ, fun m ρ _ => Cert.Kernel20Ideal.Gen.frame m ρ, frame_reference20,
  fun m ρ _ => Cert.Kernel21.Gen.frame m ρ, fun m ρ _ => Cert.Kernel21Ideal.Gen.frame m ρ, frame_reference21,
  fun m ρ _ => Cert.Kernel22.Gen.frame m ρ, fun m ρ _ => Cert.Kernel22Ideal.Gen.frame m ρ, frame_reference22,
  fun m ρ _ => Cert.Kernel23.Gen.frame m ρ, fun m ρ _ => Cert.Kernel23Ideal.Gen.frame m ρ, frame_reference23,
  fun m ρ _ => Cert.Kernel24.Gen.frame m ρ, fun m ρ _ => Cert.Kernel24Ideal.Gen.frame m ρ, frame_reference24,
  fun m ρ _ => Cert.Kernel25.Gen.frame m ρ, fun m ρ _ => Cert.Kernel25Ideal.Gen.frame m ρ, frame_reference25,
  fun m ρ _ => Cert.Kernel26.Gen.frame m ρ, fun m ρ _ => Cert.Kernel26Ideal.Gen.frame m ρ, frame_reference26,
  fun m ρ _ => Cert.Kernel27.Gen.frame m ρ trivial, fun m ρ _ => Cert.Kernel27Ideal.Gen.frame m ρ trivial, frame_reference27,
  fun m ρ h => Cert.Kernel28.Gen.frame m ρ (Cert.Kernel28.Gen.ok_pre m h), fun m ρ h => (Cert.Kernel28Ideal.Blocks.half_pre m h).elim fun b hb => Cert.Kernel28Ideal.Gen.frame m ρ (Cert.Kernel28Ideal.Blocks.ok_of _ b hb), frame_reference28, fun m ρ _ => frame_reference28 m ρ trivial,
  fun m ρ h => Cert.Kernel29.Gen.frame m ρ (Cert.Kernel29.Gen.ok_pre m h), fun m ρ h => (Cert.Kernel29Ideal.Blocks.at_pre m h).elim fun b h => h.elim fun s hb => Cert.Kernel29Ideal.Gen.frame m ρ (Cert.Kernel29Ideal.Blocks.ok_of _ b s hb), frame_reference29, fun m ρ _ => frame_reference29 m ρ trivial,
  trivial, algebraic_on, algebraic_pre, trivial, algebraic2, trivial, algebraic3, trivial, algebraic4, trivial, algebraic5_on, algebraic5_pre, trivial, algebraic6, trivial, algebraic7, trivial, algebraic8, trivial, algebraic9, trivial, algebraic10, trivial, algebraic11, trivial, algebraic12, trivial, algebraic13, trivial, algebraic14, trivial, algebraic15, trivial, algebraic16, preserves18, algebraic18_pre, trivial, algebraic17_on, algebraic17_pre, trivial, algebraic19, trivial, algebraic20, trivial, algebraic21, trivial, algebraic22, trivial, algebraic23, trivial, algebraic24, trivial, algebraic25, trivial, algebraic26, trivial, algebraic27, trivial, algebraic28, trivial, algebraic29⟩

end Cert.Proof

end
